-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvGradIdeal (m : (ℓ : Loc Cert.ConvGradIdeal.nD Cert.ConvGradIdeal.τ Cert.ConvGradIdeal.sig) → Buf (Elt Ideal) ℓ) : Prop :=
  True

def Pre_FgateBwd (m : (ℓ : Loc Cert.FgateBwd.nD Cert.FgateBwd.τ Cert.FgateBwd.sig) → Buf (Elt Bits) ℓ) : Prop :=
  True

def Pre_FgateBwdIdeal (m : (ℓ : Loc Cert.FgateBwdIdeal.nD Cert.FgateBwdIdeal.τ Cert.FgateBwdIdeal.sig) → Buf (Elt Ideal) ℓ) : Prop :=
  True

def Pre_FgateBwdIdeal_finite_gate [hPre_finite_gate : Cert.Pre_finite_gate.Facts] (m : (ℓ : Loc Cert.FgateBwdIdeal.nD Cert.FgateBwdIdeal.τ Cert.FgateBwdIdeal.sig) → Buf (Elt Ideal) ℓ) : Prop :=
  ∀ c : Dev Cert.FgateBwdIdeal.nD,
    (Cert.Pre_finite_gate.fn (F := Ideal) (m ((c.tc : Thread Cert.FgateBwdIdeal.nD Cert.FgateBwdIdeal.τ).loc Cert.FgateBwdIdeal.main_arg0)) (m ((c.tc : Thread Cert.FgateBwdIdeal.nD Cert.FgateBwdIdeal.τ).loc Cert.FgateBwdIdeal.main_arg1)) (m ((c.tc : Thread Cert.FgateBwdIdeal.nD Cert.FgateBwdIdeal.τ).loc Cert.FgateBwdIdeal.main_arg2))).1 = (fun _ => 1#1)
    ∧ (Cert.Pre_finite_gate.fn (F := Ideal) (m ((c.tc : Thread Cert.FgateBwdIdeal.nD Cert.FgateBwdIdeal.τ).loc Cert.FgateBwdIdeal.main_arg0)) (m ((c.tc : Thread Cert.FgateBwdIdeal.nD Cert.FgateBwdIdeal.τ).loc Cert.FgateBwdIdeal.main_arg1)) (m ((c.tc : Thread Cert.FgateBwdIdeal.nD Cert.FgateBwdIdeal.τ).loc Cert.FgateBwdIdeal.main_arg2))).2 = (fun _ => 1#1)

def Pre_FgateGradIdeal (m : (ℓ : Loc Cert.FgateGradIdeal.nD Cert.FgateGradIdeal.τ Cert.FgateGradIdeal.sig) → Buf (Elt Ideal) ℓ) : Prop :=
  True

def Pre_FgateGradIdeal_finite_gate [hPre_finite_gate : Cert.Pre_finite_gate.Facts] (m : (ℓ : Loc Cert.FgateGradIdeal.nD Cert.FgateGradIdeal.τ Cert.FgateGradIdeal.sig) → Buf (Elt Ideal) ℓ) : Prop :=
  ∀ c : Dev Cert.FgateGradIdeal.nD,
    (Cert.Pre_finite_gate.fn (F := Ideal) (m ((c.tc : Thread Cert.FgateGradIdeal.nD Cert.FgateGradIdeal.τ).loc Cert.FgateGradIdeal.main_arg0)) (m ((c.tc : Thread Cert.FgateGradIdeal.nD Cert.FgateGradIdeal.τ).loc Cert.FgateGradIdeal.main_arg1)) (m ((c.tc : Thread Cert.FgateGradIdeal.nD Cert.FgateGradIdeal.τ).loc Cert.FgateGradIdeal.main_arg2))).1 = (fun _ => 1#1)
    ∧ (Cert.Pre_finite_gate.fn (F := Ideal) (m ((c.tc : Thread Cert.FgateGradIdeal.nD Cert.FgateGradIdeal.τ).loc Cert.FgateGradIdeal.main_arg0)) (m ((c.tc : Thread Cert.FgateGradIdeal.nD Cert.FgateGradIdeal.τ).loc Cert.FgateGradIdeal.main_arg1)) (m ((c.tc : Thread Cert.FgateGradIdeal.nD Cert.FgateGradIdeal.τ).loc Cert.FgateGradIdeal.main_arg2))).2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.2 = (fun _ => 1#1)

def Pre_AttnGradIdeal (m : (ℓ : Loc Cert.AttnGradIdeal.nD Cert.AttnGradIdeal.τ Cert.AttnGradIdeal.sig) → Buf (Elt Ideal) ℓ) : Prop :=
  True

def Pre_AttnGradIdeal_finite_attn [hPre_finite_attn : Cert.Pre_finite_attn.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_finite_attn.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2))).1 = (fun _ => 1#1)
    ∧ (Cert.Pre_finite_attn.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2))).2.1 = (fun _ => 1#1)
    ∧ (Cert.Pre_finite_attn.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2))).2.2 = (fun _ => 1#1)

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutGradIdeal (m : (ℓ : Loc Cert.MixOutGradIdeal.nD Cert.MixOutGradIdeal.τ Cert.MixOutGradIdeal.sig) → Buf (Elt Ideal) ℓ) : Prop :=
  True

def Pre_MixProjBwd (m : (ℓ : Loc Cert.MixProjBwd.nD Cert.MixProjBwd.τ Cert.MixProjBwd.sig) → Buf (Elt Bits) ℓ) : Prop :=
  True

def Pre_MixProjBwdIdeal (m : (ℓ : Loc Cert.MixProjBwdIdeal.nD Cert.MixProjBwdIdeal.τ Cert.MixProjBwdIdeal.sig) → Buf (Elt Ideal) ℓ) : Prop :=
  True

def Pre_MixProjBwdIdeal_finite_norm [hPre_finite_norm : Cert.Pre_finite_norm.Facts] (m : (ℓ : Loc Cert.MixProjBwdIdeal.nD Cert.MixProjBwdIdeal.τ Cert.MixProjBwdIdeal.sig) → Buf (Elt Ideal) ℓ) : Prop :=
  ∀ c : Dev Cert.MixProjBwdIdeal.nD,
    (Cert.Pre_finite_norm.fn (F := Ideal) (m ((c.tc : Thread Cert.MixProjBwdIdeal.nD Cert.MixProjBwdIdeal.τ).loc Cert.MixProjBwdIdeal.main_arg0)) (m ((c.tc : Thread Cert.MixProjBwdIdeal.nD Cert.MixProjBwdIdeal.τ).loc Cert.MixProjBwdIdeal.main_arg1)) (m ((c.tc : Thread Cert.MixProjBwdIdeal.nD Cert.MixProjBwdIdeal.τ).loc Cert.MixProjBwdIdeal.main_arg2)) (m ((c.tc : Thread Cert.MixProjBwdIdeal.nD Cert.MixProjBwdIdeal.τ).loc Cert.MixProjBwdIdeal.main_arg3)) (m ((c.tc : Thread Cert.MixProjBwdIdeal.nD Cert.MixProjBwdIdeal.τ).loc Cert.MixProjBwdIdeal.main_arg4))).1 = (fun _ => 1#1)
    ∧ (Cert.Pre_finite_norm.fn (F := Ideal) (m ((c.tc : Thread Cert.MixProjBwdIdeal.nD Cert.MixProjBwdIdeal.τ).loc Cert.MixProjBwdIdeal.main_arg0)) (m ((c.tc : Thread Cert.MixProjBwdIdeal.nD Cert.MixProjBwdIdeal.τ).loc Cert.MixProjBwdIdeal.main_arg1)) (m ((c.tc : Thread Cert.MixProjBwdIdeal.nD Cert.MixProjBwdIdeal.τ).loc Cert.MixProjBwdIdeal.main_arg2)) (m ((c.tc : Thread Cert.MixProjBwdIdeal.nD Cert.MixProjBwdIdeal.τ).loc Cert.MixProjBwdIdeal.main_arg3)) (m ((c.tc : Thread Cert.MixProjBwdIdeal.nD Cert.MixProjBwdIdeal.τ).loc Cert.MixProjBwdIdeal.main_arg4))).2.1 = (fun _ => 1#1)
    ∧ (Cert.Pre_finite_norm.fn (F := Ideal) (m ((c.tc : Thread Cert.MixProjBwdIdeal.nD Cert.MixProjBwdIdeal.τ).loc Cert.MixProjBwdIdeal.main_arg0)) (m ((c.tc : Thread Cert.MixProjBwdIdeal.nD Cert.MixProjBwdIdeal.τ).loc Cert.MixProjBwdIdeal.main_arg1)) (m ((c.tc : Thread Cert.MixProjBwdIdeal.nD Cert.MixProjBwdIdeal.τ).loc Cert.MixProjBwdIdeal.main_arg2)) (m ((c.tc : Thread Cert.MixProjBwdIdeal.nD Cert.MixProjBwdIdeal.τ).loc Cert.MixProjBwdIdeal.main_arg3)) (m ((c.tc : Thread Cert.MixProjBwdIdeal.nD Cert.MixProjBwdIdeal.τ).loc Cert.MixProjBwdIdeal.main_arg4))).2.2.1 = (fun _ => 1#1)
    ∧ (Cert.Pre_finite_norm.fn (F := Ideal) (m ((c.tc : Thread Cert.MixProjBwdIdeal.nD Cert.MixProjBwdIdeal.τ).loc Cert.MixProjBwdIdeal.main_arg0)) (m ((c.tc : Thread Cert.MixProjBwdIdeal.nD Cert.MixProjBwdIdeal.τ).loc Cert.MixProjBwdIdeal.main_arg1)) (m ((c.tc : Thread Cert.MixProjBwdIdeal.nD Cert.MixProjBwdIdeal.τ).loc Cert.MixProjBwdIdeal.main_arg2)) (m ((c.tc : Thread Cert.MixProjBwdIdeal.nD Cert.MixProjBwdIdeal.τ).loc Cert.MixProjBwdIdeal.main_arg3)) (m ((c.tc : Thread Cert.MixProjBwdIdeal.nD Cert.MixProjBwdIdeal.τ).loc Cert.MixProjBwdIdeal.main_arg4))).2.2.2 = (fun _ => 1#1)

def Pre_MixProjGradIdeal (m : (ℓ : Loc Cert.MixProjGradIdeal.nD Cert.MixProjGradIdeal.τ Cert.MixProjGradIdeal.sig) → Buf (Elt Ideal) ℓ) : Prop :=
  True

def Pre_MixProjGradIdeal_finite_norm [hPre_finite_norm : Cert.Pre_finite_norm.Facts] (m : (ℓ : Loc Cert.MixProjGradIdeal.nD Cert.MixProjGradIdeal.τ Cert.MixProjGradIdeal.sig) → Buf (Elt Ideal) ℓ) : Prop :=
  ∀ c : Dev Cert.MixProjGradIdeal.nD,
    (Cert.Pre_finite_norm.fn (F := Ideal) (m ((c.tc : Thread Cert.MixProjGradIdeal.nD Cert.MixProjGradIdeal.τ).loc Cert.MixProjGradIdeal.main_arg0)) (m ((c.tc : Thread Cert.MixProjGradIdeal.nD Cert.MixProjGradIdeal.τ).loc Cert.MixProjGradIdeal.main_arg1)) (m ((c.tc : Thread Cert.MixProjGradIdeal.nD Cert.MixProjGradIdeal.τ).loc Cert.MixProjGradIdeal.main_arg2)) (m ((c.tc : Thread Cert.MixProjGradIdeal.nD Cert.MixProjGradIdeal.τ).loc Cert.MixProjGradIdeal.main_arg3)) (m ((c.tc : Thread Cert.MixProjGradIdeal.nD Cert.MixProjGradIdeal.τ).loc Cert.MixProjGradIdeal.main_arg4))).1 = (fun _ => 1#1)
    ∧ (Cert.Pre_finite_norm.fn (F := Ideal) (m ((c.tc : Thread Cert.MixProjGradIdeal.nD Cert.MixProjGradIdeal.τ).loc Cert.MixProjGradIdeal.main_arg0)) (m ((c.tc : Thread Cert.MixProjGradIdeal.nD Cert.MixProjGradIdeal.τ).loc Cert.MixProjGradIdeal.main_arg1)) (m ((c.tc : Thread Cert.MixProjGradIdeal.nD Cert.MixProjGradIdeal.τ).loc Cert.MixProjGradIdeal.main_arg2)) (m ((c.tc : Thread Cert.MixProjGradIdeal.nD Cert.MixProjGradIdeal.τ).loc Cert.MixProjGradIdeal.main_arg3)) (m ((c.tc : Thread Cert.MixProjGradIdeal.nD Cert.MixProjGradIdeal.τ).loc Cert.MixProjGradIdeal.main_arg4))).2.1 = (fun _ => 1#1)
    ∧ (Cert.Pre_finite_norm.fn (F := Ideal) (m ((c.tc : Thread Cert.MixProjGradIdeal.nD Cert.MixProjGradIdeal.τ).loc Cert.MixProjGradIdeal.main_arg0)) (m ((c.tc : Thread Cert.MixProjGradIdeal.nD Cert.MixProjGradIdeal.τ).loc Cert.MixProjGradIdeal.main_arg1)) (m ((c.tc : Thread Cert.MixProjGradIdeal.nD Cert.MixProjGradIdeal.τ).loc Cert.MixProjGradIdeal.main_arg2)) (m ((c.tc : Thread Cert.MixProjGradIdeal.nD Cert.MixProjGradIdeal.τ).loc Cert.MixProjGradIdeal.main_arg3)) (m ((c.tc : Thread Cert.MixProjGradIdeal.nD Cert.MixProjGradIdeal.τ).loc Cert.MixProjGradIdeal.main_arg4))).2.2.1 = (fun _ => 1#1)
    ∧ (Cert.Pre_finite_norm.fn (F := Ideal) (m ((c.tc : Thread Cert.MixProjGradIdeal.nD Cert.MixProjGradIdeal.τ).loc Cert.MixProjGradIdeal.main_arg0)) (m ((c.tc : Thread Cert.MixProjGradIdeal.nD Cert.MixProjGradIdeal.τ).loc Cert.MixProjGradIdeal.main_arg1)) (m ((c.tc : Thread Cert.MixProjGradIdeal.nD Cert.MixProjGradIdeal.τ).loc Cert.MixProjGradIdeal.main_arg2)) (m ((c.tc : Thread Cert.MixProjGradIdeal.nD Cert.MixProjGradIdeal.τ).loc Cert.MixProjGradIdeal.main_arg3)) (m ((c.tc : Thread Cert.MixProjGradIdeal.nD Cert.MixProjGradIdeal.τ).loc Cert.MixProjGradIdeal.main_arg4))).2.2.2 = (fun _ => 1#1)

def Pre_FfnBwdDw (m : (ℓ : Loc Cert.FfnBwdDw.nD Cert.FfnBwdDw.τ Cert.FfnBwdDw.sig) → Buf (Elt Bits) ℓ) : Prop :=
  True

def Pre_FfnBwdDwIdeal (m : (ℓ : Loc Cert.FfnBwdDwIdeal.nD Cert.FfnBwdDwIdeal.τ Cert.FfnBwdDwIdeal.sig) → Buf (Elt Ideal) ℓ) : Prop :=
  True

def Pre_FfnDwGradIdeal (m : (ℓ : Loc Cert.FfnDwGradIdeal.nD Cert.FfnDwGradIdeal.τ Cert.FfnDwGradIdeal.sig) → Buf (Elt Ideal) ℓ) : Prop :=
  True

def Pre_FfnBwdDx (m : (ℓ : Loc Cert.FfnBwdDx.nD Cert.FfnBwdDx.τ Cert.FfnBwdDx.sig) → Buf (Elt Bits) ℓ) : Prop :=
  True

def Pre_FfnBwdDxIdeal (m : (ℓ : Loc Cert.FfnBwdDxIdeal.nD Cert.FfnBwdDxIdeal.τ Cert.FfnBwdDxIdeal.sig) → Buf (Elt Ideal) ℓ) : Prop :=
  True

def Pre_FfnBwdDxIdeal_finite_ffn [hPre_finite_ffn : Cert.Pre_finite_ffn.Facts] (m : (ℓ : Loc Cert.FfnBwdDxIdeal.nD Cert.FfnBwdDxIdeal.τ Cert.FfnBwdDxIdeal.sig) → Buf (Elt Ideal) ℓ) : Prop :=
  ∀ c : Dev Cert.FfnBwdDxIdeal.nD,
    (Cert.Pre_finite_ffn.fn (F := Ideal) (m ((c.tc : Thread Cert.FfnBwdDxIdeal.nD Cert.FfnBwdDxIdeal.τ).loc Cert.FfnBwdDxIdeal.main_arg0)) (m ((c.tc : Thread Cert.FfnBwdDxIdeal.nD Cert.FfnBwdDxIdeal.τ).loc Cert.FfnBwdDxIdeal.main_arg1)) (m ((c.tc : Thread Cert.FfnBwdDxIdeal.nD Cert.FfnBwdDxIdeal.τ).loc Cert.FfnBwdDxIdeal.main_arg2)) (m ((c.tc : Thread Cert.FfnBwdDxIdeal.nD Cert.FfnBwdDxIdeal.τ).loc Cert.FfnBwdDxIdeal.main_arg3)) (m ((c.tc : Thread Cert.FfnBwdDxIdeal.nD Cert.FfnBwdDxIdeal.τ).loc Cert.FfnBwdDxIdeal.main_arg4)) (m ((c.tc : Thread Cert.FfnBwdDxIdeal.nD Cert.FfnBwdDxIdeal.τ).loc Cert.FfnBwdDxIdeal.main_arg5))).1 = (fun _ => 1#1)
    ∧ (Cert.Pre_finite_ffn.fn (F := Ideal) (m ((c.tc : Thread Cert.FfnBwdDxIdeal.nD Cert.FfnBwdDxIdeal.τ).loc Cert.FfnBwdDxIdeal.main_arg0)) (m ((c.tc : Thread Cert.FfnBwdDxIdeal.nD Cert.FfnBwdDxIdeal.τ).loc Cert.FfnBwdDxIdeal.main_arg1)) (m ((c.tc : Thread Cert.FfnBwdDxIdeal.nD Cert.FfnBwdDxIdeal.τ).loc Cert.FfnBwdDxIdeal.main_arg2)) (m ((c.tc : Thread Cert.FfnBwdDxIdeal.nD Cert.FfnBwdDxIdeal.τ).loc Cert.FfnBwdDxIdeal.main_arg3)) (m ((c.tc : Thread Cert.FfnBwdDxIdeal.nD Cert.FfnBwdDxIdeal.τ).loc Cert.FfnBwdDxIdeal.main_arg4)) (m ((c.tc : Thread Cert.FfnBwdDxIdeal.nD Cert.FfnBwdDxIdeal.τ).loc Cert.FfnBwdDxIdeal.main_arg5))).2.1 = (fun _ => 1#1)
    ∧ (Cert.Pre_finite_ffn.fn (F := Ideal) (m ((c.tc : Thread Cert.FfnBwdDxIdeal.nD Cert.FfnBwdDxIdeal.τ).loc Cert.FfnBwdDxIdeal.main_arg0)) (m ((c.tc : Thread Cert.FfnBwdDxIdeal.nD Cert.FfnBwdDxIdeal.τ).loc Cert.FfnBwdDxIdeal.main_arg1)) (m ((c.tc : Thread Cert.FfnBwdDxIdeal.nD Cert.FfnBwdDxIdeal.τ).loc Cert.FfnBwdDxIdeal.main_arg2)) (m ((c.tc : Thread Cert.FfnBwdDxIdeal.nD Cert.FfnBwdDxIdeal.τ).loc Cert.FfnBwdDxIdeal.main_arg3)) (m ((c.tc : Thread Cert.FfnBwdDxIdeal.nD Cert.FfnBwdDxIdeal.τ).loc Cert.FfnBwdDxIdeal.main_arg4)) (m ((c.tc : Thread Cert.FfnBwdDxIdeal.nD Cert.FfnBwdDxIdeal.τ).loc Cert.FfnBwdDxIdeal.main_arg5))).2.2.1 = (fun _ => 1#1)
    ∧ (Cert.Pre_finite_ffn.fn (F := Ideal) (m ((c.tc : Thread Cert.FfnBwdDxIdeal.nD Cert.FfnBwdDxIdeal.τ).loc Cert.FfnBwdDxIdeal.main_arg0)) (m ((c.tc : Thread Cert.FfnBwdDxIdeal.nD Cert.FfnBwdDxIdeal.τ).loc Cert.FfnBwdDxIdeal.main_arg1)) (m ((c.tc : Thread Cert.FfnBwdDxIdeal.nD Cert.FfnBwdDxIdeal.τ).loc Cert.FfnBwdDxIdeal.main_arg2)) (m ((c.tc : Thread Cert.FfnBwdDxIdeal.nD Cert.FfnBwdDxIdeal.τ).loc Cert.FfnBwdDxIdeal.main_arg3)) (m ((c.tc : Thread Cert.FfnBwdDxIdeal.nD Cert.FfnBwdDxIdeal.τ).loc Cert.FfnBwdDxIdeal.main_arg4)) (m ((c.tc : Thread Cert.FfnBwdDxIdeal.nD Cert.FfnBwdDxIdeal.τ).loc Cert.FfnBwdDxIdeal.main_arg5))).2.2.2.1 = (fun _ => 1#1)
    ∧ (Cert.Pre_finite_ffn.fn (F := Ideal) (m ((c.tc : Thread Cert.FfnBwdDxIdeal.nD Cert.FfnBwdDxIdeal.τ).loc Cert.FfnBwdDxIdeal.main_arg0)) (m ((c.tc : Thread Cert.FfnBwdDxIdeal.nD Cert.FfnBwdDxIdeal.τ).loc Cert.FfnBwdDxIdeal.main_arg1)) (m ((c.tc : Thread Cert.FfnBwdDxIdeal.nD Cert.FfnBwdDxIdeal.τ).loc Cert.FfnBwdDxIdeal.main_arg2)) (m ((c.tc : Thread Cert.FfnBwdDxIdeal.nD Cert.FfnBwdDxIdeal.τ).loc Cert.FfnBwdDxIdeal.main_arg3)) (m ((c.tc : Thread Cert.FfnBwdDxIdeal.nD Cert.FfnBwdDxIdeal.τ).loc Cert.FfnBwdDxIdeal.main_arg4)) (m ((c.tc : Thread Cert.FfnBwdDxIdeal.nD Cert.FfnBwdDxIdeal.τ).loc Cert.FfnBwdDxIdeal.main_arg5))).2.2.2.2.1 = (fun _ => 1#1)
    ∧ (Cert.Pre_finite_ffn.fn (F := Ideal) (m ((c.tc : Thread Cert.FfnBwdDxIdeal.nD Cert.FfnBwdDxIdeal.τ).loc Cert.FfnBwdDxIdeal.main_arg0)) (m ((c.tc : Thread Cert.FfnBwdDxIdeal.nD Cert.FfnBwdDxIdeal.τ).loc Cert.FfnBwdDxIdeal.main_arg1)) (m ((c.tc : Thread Cert.FfnBwdDxIdeal.nD Cert.FfnBwdDxIdeal.τ).loc Cert.FfnBwdDxIdeal.main_arg2)) (m ((c.tc : Thread Cert.FfnBwdDxIdeal.nD Cert.FfnBwdDxIdeal.τ).loc Cert.FfnBwdDxIdeal.main_arg3)) (m ((c.tc : Thread Cert.FfnBwdDxIdeal.nD Cert.FfnBwdDxIdeal.τ).loc Cert.FfnBwdDxIdeal.main_arg4)) (m ((c.tc : Thread Cert.FfnBwdDxIdeal.nD Cert.FfnBwdDxIdeal.τ).loc Cert.FfnBwdDxIdeal.main_arg5))).2.2.2.2.2 = (fun _ => 1#1)

def Pre_FfnGradIdeal (m : (ℓ : Loc Cert.FfnGradIdeal.nD Cert.FfnGradIdeal.τ Cert.FfnGradIdeal.sig) → Buf (Elt Ideal) ℓ) : Prop :=
  True

def Pre_FfnGradIdeal_finite_ffn [hPre_finite_ffn : Cert.Pre_finite_ffn.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.2.1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.2.2 = (fun _ => 1#1)

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossIdeal_finite_loss [hPre_finite_loss : Cert.Pre_finite_loss.Facts] (m : (ℓ : Loc Cert.FfnLossIdeal.nD Cert.FfnLossIdeal.τ Cert.FfnLossIdeal.sig) → Buf (Elt Ideal) ℓ) : Prop :=
  ∀ c : Dev Cert.FfnLossIdeal.nD,
    (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).2.1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).2.2.1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).2.2.2.1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).2.2.2.2.1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).2.2.2.2.2.1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).2.2.2.2.2.2 = (fun _ => 1#1)

def Pre_FfnLossGradIdeal (m : (ℓ : Loc Cert.FfnLossGradIdeal.nD Cert.FfnLossGradIdeal.τ Cert.FfnLossGradIdeal.sig) → Buf (Elt Ideal) ℓ) : Prop :=
  True

def Pre_FfnLossGradIdeal_finite_loss [hPre_finite_loss : Cert.Pre_finite_loss.Facts] (m : (ℓ : Loc Cert.FfnLossGradIdeal.nD Cert.FfnLossGradIdeal.τ Cert.FfnLossGradIdeal.sig) → Buf (Elt Ideal) ℓ) : Prop :=
  ∀ c : Dev Cert.FfnLossGradIdeal.nD,
    (Cert.Pre_finite_loss.fn (F := Ideal) (m ((c.tc : Thread Cert.FfnLossGradIdeal.nD Cert.FfnLossGradIdeal.τ).loc Cert.FfnLossGradIdeal.main_arg0)) (m ((c.tc : Thread Cert.FfnLossGradIdeal.nD Cert.FfnLossGradIdeal.τ).loc Cert.FfnLossGradIdeal.main_arg1)) (m ((c.tc : Thread Cert.FfnLossGradIdeal.nD Cert.FfnLossGradIdeal.τ).loc Cert.FfnLossGradIdeal.main_arg2)) (m ((c.tc : Thread Cert.FfnLossGradIdeal.nD Cert.FfnLossGradIdeal.τ).loc Cert.FfnLossGradIdeal.main_arg3)) (m ((c.tc : Thread Cert.FfnLossGradIdeal.nD Cert.FfnLossGradIdeal.τ).loc Cert.FfnLossGradIdeal.main_arg4)) (m ((c.tc : Thread Cert.FfnLossGradIdeal.nD Cert.FfnLossGradIdeal.τ).loc Cert.FfnLossGradIdeal.main_arg5)) (m ((c.tc : Thread Cert.FfnLossGradIdeal.nD Cert.FfnLossGradIdeal.τ).loc Cert.FfnLossGradIdeal.main_arg6))).1 = (fun _ => 1#1)
    ∧ (Cert.Pre_finite_loss.fn (F := Ideal) (m ((c.tc : Thread Cert.FfnLossGradIdeal.nD Cert.FfnLossGradIdeal.τ).loc Cert.FfnLossGradIdeal.main_arg0)) (m ((c.tc : Thread Cert.FfnLossGradIdeal.nD Cert.FfnLossGradIdeal.τ).loc Cert.FfnLossGradIdeal.main_arg1)) (m ((c.tc : Thread Cert.FfnLossGradIdeal.nD Cert.FfnLossGradIdeal.τ).loc Cert.FfnLossGradIdeal.main_arg2)) (m ((c.tc : Thread Cert.FfnLossGradIdeal.nD Cert.FfnLossGradIdeal.τ).loc Cert.FfnLossGradIdeal.main_arg3)) (m ((c.tc : Thread Cert.FfnLossGradIdeal.nD Cert.FfnLossGradIdeal.τ).loc Cert.FfnLossGradIdeal.main_arg4)) (m ((c.tc : Thread Cert.FfnLossGradIdeal.nD Cert.FfnLossGradIdeal.τ).loc Cert.FfnLossGradIdeal.main_arg5)) (m ((c.tc : Thread Cert.FfnLossGradIdeal.nD Cert.FfnLossGradIdeal.τ).loc Cert.FfnLossGradIdeal.main_arg6))).2.1 = (fun _ => 1#1)
    ∧ (Cert.Pre_finite_loss.fn (F := Ideal) (m ((c.tc : Thread Cert.FfnLossGradIdeal.nD Cert.FfnLossGradIdeal.τ).loc Cert.FfnLossGradIdeal.main_arg0)) (m ((c.tc : Thread Cert.FfnLossGradIdeal.nD Cert.FfnLossGradIdeal.τ).loc Cert.FfnLossGradIdeal.main_arg1)) (m ((c.tc : Thread Cert.FfnLossGradIdeal.nD Cert.FfnLossGradIdeal.τ).loc Cert.FfnLossGradIdeal.main_arg2)) (m ((c.tc : Thread Cert.FfnLossGradIdeal.nD Cert.FfnLossGradIdeal.τ).loc Cert.FfnLossGradIdeal.main_arg3)) (m ((c.tc : Thread Cert.FfnLossGradIdeal.nD Cert.FfnLossGradIdeal.τ).loc Cert.FfnLossGradIdeal.main_arg4)) (m ((c.tc : Thread Cert.FfnLossGradIdeal.nD Cert.FfnLossGradIdeal.τ).loc Cert.FfnLossGradIdeal.main_arg5)) (m ((c.tc : Thread Cert.FfnLossGradIdeal.nD Cert.FfnLossGradIdeal.τ).loc Cert.FfnLossGradIdeal.main_arg6))).2.2.1 = (fun _ => 1#1)
    ∧ (Cert.Pre_finite_loss.fn (F := Ideal) (m ((c.tc : Thread Cert.FfnLossGradIdeal.nD Cert.FfnLossGradIdeal.τ).loc Cert.FfnLossGradIdeal.main_arg0)) (m ((c.tc : Thread Cert.FfnLossGradIdeal.nD Cert.FfnLossGradIdeal.τ).loc Cert.FfnLossGradIdeal.main_arg1)) (m ((c.tc : Thread Cert.FfnLossGradIdeal.nD Cert.FfnLossGradIdeal.τ).loc Cert.FfnLossGradIdeal.main_arg2)) (m ((c.tc : Thread Cert.FfnLossGradIdeal.nD Cert.FfnLossGradIdeal.τ).loc Cert.FfnLossGradIdeal.main_arg3)) (m ((c.tc : Thread Cert.FfnLossGradIdeal.nD Cert.FfnLossGradIdeal.τ).loc Cert.FfnLossGradIdeal.main_arg4)) (m ((c.tc : Thread Cert.FfnLossGradIdeal.nD Cert.FfnLossGradIdeal.τ).loc Cert.FfnLossGradIdeal.main_arg5)) (m ((c.tc : Thread Cert.FfnLossGradIdeal.nD Cert.FfnLossGradIdeal.τ).loc Cert.FfnLossGradIdeal.main_arg6))).2.2.2.1 = (fun _ => 1#1)
    ∧ (Cert.Pre_finite_loss.fn (F := Ideal) (m ((c.tc : Thread Cert.FfnLossGradIdeal.nD Cert.FfnLossGradIdeal.τ).loc Cert.FfnLossGradIdeal.main_arg0)) (m ((c.tc : Thread Cert.FfnLossGradIdeal.nD Cert.FfnLossGradIdeal.τ).loc Cert.FfnLossGradIdeal.main_arg1)) (m ((c.tc : Thread Cert.FfnLossGradIdeal.nD Cert.FfnLossGradIdeal.τ).loc Cert.FfnLossGradIdeal.main_arg2)) (m ((c.tc : Thread Cert.FfnLossGradIdeal.nD Cert.FfnLossGradIdeal.τ).loc Cert.FfnLossGradIdeal.main_arg3)) (m ((c.tc : Thread Cert.FfnLossGradIdeal.nD Cert.FfnLossGradIdeal.τ).loc Cert.FfnLossGradIdeal.main_arg4)) (m ((c.tc : Thread Cert.FfnLossGradIdeal.nD Cert.FfnLossGradIdeal.τ).loc Cert.FfnLossGradIdeal.main_arg5)) (m ((c.tc : Thread Cert.FfnLossGradIdeal.nD Cert.FfnLossGradIdeal.τ).loc Cert.FfnLossGradIdeal.main_arg6))).2.2.2.2.1 = (fun _ => 1#1)
    ∧ (Cert.Pre_finite_loss.fn (F := Ideal) (m ((c.tc : Thread Cert.FfnLossGradIdeal.nD Cert.FfnLossGradIdeal.τ).loc Cert.FfnLossGradIdeal.main_arg0)) (m ((c.tc : Thread Cert.FfnLossGradIdeal.nD Cert.FfnLossGradIdeal.τ).loc Cert.FfnLossGradIdeal.main_arg1)) (m ((c.tc : Thread Cert.FfnLossGradIdeal.nD Cert.FfnLossGradIdeal.τ).loc Cert.FfnLossGradIdeal.main_arg2)) (m ((c.tc : Thread Cert.FfnLossGradIdeal.nD Cert.FfnLossGradIdeal.τ).loc Cert.FfnLossGradIdeal.main_arg3)) (m ((c.tc : Thread Cert.FfnLossGradIdeal.nD Cert.FfnLossGradIdeal.τ).loc Cert.FfnLossGradIdeal.main_arg4)) (m ((c.tc : Thread Cert.FfnLossGradIdeal.nD Cert.FfnLossGradIdeal.τ).loc Cert.FfnLossGradIdeal.main_arg5)) (m ((c.tc : Thread Cert.FfnLossGradIdeal.nD Cert.FfnLossGradIdeal.τ).loc Cert.FfnLossGradIdeal.main_arg6))).2.2.2.2.2.1 = (fun _ => 1#1)
    ∧ (Cert.Pre_finite_loss.fn (F := Ideal) (m ((c.tc : Thread Cert.FfnLossGradIdeal.nD Cert.FfnLossGradIdeal.τ).loc Cert.FfnLossGradIdeal.main_arg0)) (m ((c.tc : Thread Cert.FfnLossGradIdeal.nD Cert.FfnLossGradIdeal.τ).loc Cert.FfnLossGradIdeal.main_arg1)) (m ((c.tc : Thread Cert.FfnLossGradIdeal.nD Cert.FfnLossGradIdeal.τ).loc Cert.FfnLossGradIdeal.main_arg2)) (m ((c.tc : Thread Cert.FfnLossGradIdeal.nD Cert.FfnLossGradIdeal.τ).loc Cert.FfnLossGradIdeal.main_arg3)) (m ((c.tc : Thread Cert.FfnLossGradIdeal.nD Cert.FfnLossGradIdeal.τ).loc Cert.FfnLossGradIdeal.main_arg4)) (m ((c.tc : Thread Cert.FfnLossGradIdeal.nD Cert.FfnLossGradIdeal.τ).loc Cert.FfnLossGradIdeal.main_arg5)) (m ((c.tc : Thread Cert.FfnLossGradIdeal.nD Cert.FfnLossGradIdeal.τ).loc Cert.FfnLossGradIdeal.main_arg6))).2.2.2.2.2.2 = (fun _ => 1#1)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvGradIdeal [hConvGradIdeal : Cert.ConvGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2))
      ∧ r.2.sem = fun _ => 0)

def quiescent_FgateBwd [hFgateBwd : Cert.FgateBwd.Facts] : Prop :=
  ∀ (m : (ℓ : Loc Cert.FgateBwd.nD Cert.FgateBwd.τ Cert.FgateBwd.sig) → Buf (Elt Bits) ℓ) (g : Dev Cert.FgateBwd.nD → PrngReg), Pre_FgateBwd m →
    θ_run (Cert.FgateBwd.defs (F := Bits)) (onTc (τ := Cert.FgateBwd.τ) (Cert.FgateBwd.main (F := Bits))) ⟨m, fun _ => 0, g⟩ (fun r => (∀ c : Dev Cert.FgateBwd.nD,
      r.2.mem ((c.tc : Thread Cert.FgateBwd.nD Cert.FgateBwd.τ).loc Cert.FgateBwd.main_arg0) = m ((c.tc : Thread Cert.FgateBwd.nD Cert.FgateBwd.τ).loc Cert.FgateBwd.main_arg0)
      ∧ r.2.mem ((c.tc : Thread Cert.FgateBwd.nD Cert.FgateBwd.τ).loc Cert.FgateBwd.main_arg1) = m ((c.tc : Thread Cert.FgateBwd.nD Cert.FgateBwd.τ).loc Cert.FgateBwd.main_arg1)
      ∧ r.2.mem ((c.tc : Thread Cert.FgateBwd.nD Cert.FgateBwd.τ).loc Cert.FgateBwd.main_arg2) = m ((c.tc : Thread Cert.FgateBwd.nD Cert.FgateBwd.τ).loc Cert.FgateBwd.main_arg2))
      ∧ r.2.sem = fun _ => 0)

def quiescent_FgateBwdIdeal [hFgateBwdIdeal : Cert.FgateBwdIdeal.Facts] : Prop :=
  ∀ (m : (ℓ : Loc Cert.FgateBwdIdeal.nD Cert.FgateBwdIdeal.τ Cert.FgateBwdIdeal.sig) → Buf (Elt Ideal) ℓ) (g : Dev Cert.FgateBwdIdeal.nD → PrngReg), Pre_FgateBwdIdeal m →
    θ_run (Cert.FgateBwdIdeal.defs (F := Ideal)) (onTc (τ := Cert.FgateBwdIdeal.τ) (Cert.FgateBwdIdeal.main (F := Ideal))) ⟨m, fun _ => 0, g⟩ (fun r => (∀ c : Dev Cert.FgateBwdIdeal.nD,
      r.2.mem ((c.tc : Thread Cert.FgateBwdIdeal.nD Cert.FgateBwdIdeal.τ).loc Cert.FgateBwdIdeal.main_arg0) = m ((c.tc : Thread Cert.FgateBwdIdeal.nD Cert.FgateBwdIdeal.τ).loc Cert.FgateBwdIdeal.main_arg0)
      ∧ r.2.mem ((c.tc : Thread Cert.FgateBwdIdeal.nD Cert.FgateBwdIdeal.τ).loc Cert.FgateBwdIdeal.main_arg1) = m ((c.tc : Thread Cert.FgateBwdIdeal.nD Cert.FgateBwdIdeal.τ).loc Cert.FgateBwdIdeal.main_arg1)
      ∧ r.2.mem ((c.tc : Thread Cert.FgateBwdIdeal.nD Cert.FgateBwdIdeal.τ).loc Cert.FgateBwdIdeal.main_arg2) = m ((c.tc : Thread Cert.FgateBwdIdeal.nD Cert.FgateBwdIdeal.τ).loc Cert.FgateBwdIdeal.main_arg2))
      ∧ r.2.sem = fun _ => 0)

def quiescent_FgateBwdIdeal_pre_finite_gate [hFgateBwdIdeal : Cert.FgateBwdIdeal.Facts] [hPre_finite_gate : Cert.Pre_finite_gate.Facts] : Prop :=
  ∀ (m : (ℓ : Loc Cert.FgateBwdIdeal.nD Cert.FgateBwdIdeal.τ Cert.FgateBwdIdeal.sig) → Buf (Elt Ideal) ℓ) (g : Dev Cert.FgateBwdIdeal.nD → PrngReg), Pre_FgateBwdIdeal_finite_gate m →
    θ_run (Cert.FgateBwdIdeal.defs (F := Ideal)) (onTc (τ := Cert.FgateBwdIdeal.τ) (Cert.FgateBwdIdeal.main (F := Ideal))) ⟨m, fun _ => 0, g⟩ (fun r => (∀ c : Dev Cert.FgateBwdIdeal.nD,
      r.2.mem ((c.tc : Thread Cert.FgateBwdIdeal.nD Cert.FgateBwdIdeal.τ).loc Cert.FgateBwdIdeal.main_arg0) = m ((c.tc : Thread Cert.FgateBwdIdeal.nD Cert.FgateBwdIdeal.τ).loc Cert.FgateBwdIdeal.main_arg0)
      ∧ r.2.mem ((c.tc : Thread Cert.FgateBwdIdeal.nD Cert.FgateBwdIdeal.τ).loc Cert.FgateBwdIdeal.main_arg1) = m ((c.tc : Thread Cert.FgateBwdIdeal.nD Cert.FgateBwdIdeal.τ).loc Cert.FgateBwdIdeal.main_arg1)
      ∧ r.2.mem ((c.tc : Thread Cert.FgateBwdIdeal.nD Cert.FgateBwdIdeal.τ).loc Cert.FgateBwdIdeal.main_arg2) = m ((c.tc : Thread Cert.FgateBwdIdeal.nD Cert.FgateBwdIdeal.τ).loc Cert.FgateBwdIdeal.main_arg2))
      ∧ r.2.sem = fun _ => 0)

def quiescent_FgateGradIdeal [hFgateGradIdeal : Cert.FgateGradIdeal.Facts] : Prop :=
  ∀ (m : (ℓ : Loc Cert.FgateGradIdeal.nD Cert.FgateGradIdeal.τ Cert.FgateGradIdeal.sig) → Buf (Elt Ideal) ℓ) (g : Dev Cert.FgateGradIdeal.nD → PrngReg), Pre_FgateGradIdeal m →
    θ_run (Cert.FgateGradIdeal.defs (F := Ideal)) (onTc (τ := Cert.FgateGradIdeal.τ) (Cert.FgateGradIdeal.main (F := Ideal))) ⟨m, fun _ => 0, g⟩ (fun r => (∀ c : Dev Cert.FgateGradIdeal.nD,
      r.2.mem ((c.tc : Thread Cert.FgateGradIdeal.nD Cert.FgateGradIdeal.τ).loc Cert.FgateGradIdeal.main_arg0) = m ((c.tc : Thread Cert.FgateGradIdeal.nD Cert.FgateGradIdeal.τ).loc Cert.FgateGradIdeal.main_arg0)
      ∧ r.2.mem ((c.tc : Thread Cert.FgateGradIdeal.nD Cert.FgateGradIdeal.τ).loc Cert.FgateGradIdeal.main_arg1) = m ((c.tc : Thread Cert.FgateGradIdeal.nD Cert.FgateGradIdeal.τ).loc Cert.FgateGradIdeal.main_arg1)
      ∧ r.2.mem ((c.tc : Thread Cert.FgateGradIdeal.nD Cert.FgateGradIdeal.τ).loc Cert.FgateGradIdeal.main_arg2) = m ((c.tc : Thread Cert.FgateGradIdeal.nD Cert.FgateGradIdeal.τ).loc Cert.FgateGradIdeal.main_arg2))
      ∧ r.2.sem = fun _ => 0)

def quiescent_FgateGradIdeal_pre_finite_gate [hFgateGradIdeal : Cert.FgateGradIdeal.Facts] [hPre_finite_gate : Cert.Pre_finite_gate.Facts] : Prop :=
  ∀ (m : (ℓ : Loc Cert.FgateGradIdeal.nD Cert.FgateGradIdeal.τ Cert.FgateGradIdeal.sig) → Buf (Elt Ideal) ℓ) (g : Dev Cert.FgateGradIdeal.nD → PrngReg), Pre_FgateGradIdeal_finite_gate m →
    θ_run (Cert.FgateGradIdeal.defs (F := Ideal)) (onTc (τ := Cert.FgateGradIdeal.τ) (Cert.FgateGradIdeal.main (F := Ideal))) ⟨m, fun _ => 0, g⟩ (fun r => (∀ c : Dev Cert.FgateGradIdeal.nD,
      r.2.mem ((c.tc : Thread Cert.FgateGradIdeal.nD Cert.FgateGradIdeal.τ).loc Cert.FgateGradIdeal.main_arg0) = m ((c.tc : Thread Cert.FgateGradIdeal.nD Cert.FgateGradIdeal.τ).loc Cert.FgateGradIdeal.main_arg0)
      ∧ r.2.mem ((c.tc : Thread Cert.FgateGradIdeal.nD Cert.FgateGradIdeal.τ).loc Cert.FgateGradIdeal.main_arg1) = m ((c.tc : Thread Cert.FgateGradIdeal.nD Cert.FgateGradIdeal.τ).loc Cert.FgateGradIdeal.main_arg1)
      ∧ r.2.mem ((c.tc : Thread Cert.FgateGradIdeal.nD Cert.FgateGradIdeal.τ).loc Cert.FgateGradIdeal.main_arg2) = m ((c.tc : Thread Cert.FgateGradIdeal.nD Cert.FgateGradIdeal.τ).loc Cert.FgateGradIdeal.main_arg2))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2))
      ∧ r.2.sem = fun _ => 0)

def quiescent_AttnGradIdeal_pre_finite_attn [hAttnGradIdeal : Cert.AttnGradIdeal.Facts] [hPre_finite_attn : Cert.Pre_finite_attn.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_finite_attn m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1)
      ∧ r.2.mem ((c.tc : Thread Cert.MixOutBwd.nD Cert.MixOutBwd.τ).loc Cert.MixOutBwd.main_arg2) = m ((c.tc : Thread Cert.MixOutBwd.nD Cert.MixOutBwd.τ).loc Cert.MixOutBwd.main_arg2)
      ∧ r.2.mem ((c.tc : Thread Cert.MixOutBwd.nD Cert.MixOutBwd.τ).loc Cert.MixOutBwd.main_arg3) = m ((c.tc : Thread Cert.MixOutBwd.nD Cert.MixOutBwd.τ).loc Cert.MixOutBwd.main_arg3)
      ∧ r.2.mem ((c.tc : Thread Cert.MixOutBwd.nD Cert.MixOutBwd.τ).loc Cert.MixOutBwd.main_arg4) = m ((c.tc : Thread Cert.MixOutBwd.nD Cert.MixOutBwd.τ).loc Cert.MixOutBwd.main_arg4)
      ∧ r.2.mem ((c.tc : Thread Cert.MixOutBwd.nD Cert.MixOutBwd.τ).loc Cert.MixOutBwd.main_arg5) = m ((c.tc : Thread Cert.MixOutBwd.nD Cert.MixOutBwd.τ).loc Cert.MixOutBwd.main_arg5)
      ∧ r.2.mem ((c.tc : Thread Cert.MixOutBwd.nD Cert.MixOutBwd.τ).loc Cert.MixOutBwd.main_arg6) = m ((c.tc : Thread Cert.MixOutBwd.nD Cert.MixOutBwd.τ).loc Cert.MixOutBwd.main_arg6))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
      ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
      ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
      ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6))
      ∧ r.2.sem = fun _ => 0)

def quiescent_MixOutGradIdeal [hMixOutGradIdeal : Cert.MixOutGradIdeal.Facts] : Prop :=
  ∀ (m : (ℓ : Loc Cert.MixOutGradIdeal.nD Cert.MixOutGradIdeal.τ Cert.MixOutGradIdeal.sig) → Buf (Elt Ideal) ℓ) (g : Dev Cert.MixOutGradIdeal.nD → PrngReg), Pre_MixOutGradIdeal m →
    θ_run (Cert.MixOutGradIdeal.defs (F := Ideal)) (onTc (τ := Cert.MixOutGradIdeal.τ) (Cert.MixOutGradIdeal.main (F := Ideal))) ⟨m, fun _ => 0, g⟩ (fun r => (∀ c : Dev Cert.MixOutGradIdeal.nD,
      r.2.mem ((c.tc : Thread Cert.MixOutGradIdeal.nD Cert.MixOutGradIdeal.τ).loc Cert.MixOutGradIdeal.main_arg0) = m ((c.tc : Thread Cert.MixOutGradIdeal.nD Cert.MixOutGradIdeal.τ).loc Cert.MixOutGradIdeal.main_arg0)
      ∧ r.2.mem ((c.tc : Thread Cert.MixOutGradIdeal.nD Cert.MixOutGradIdeal.τ).loc Cert.MixOutGradIdeal.main_arg1) = m ((c.tc : Thread Cert.MixOutGradIdeal.nD Cert.MixOutGradIdeal.τ).loc Cert.MixOutGradIdeal.main_arg1)
      ∧ r.2.mem ((c.tc : Thread Cert.MixOutGradIdeal.nD Cert.MixOutGradIdeal.τ).loc Cert.MixOutGradIdeal.main_arg2) = m ((c.tc : Thread Cert.MixOutGradIdeal.nD Cert.MixOutGradIdeal.τ).loc Cert.MixOutGradIdeal.main_arg2)
      ∧ r.2.mem ((c.tc : Thread Cert.MixOutGradIdeal.nD Cert.MixOutGradIdeal.τ).loc Cert.MixOutGradIdeal.main_arg3) = m ((c.tc : Thread Cert.MixOutGradIdeal.nD Cert.MixOutGradIdeal.τ).loc Cert.MixOutGradIdeal.main_arg3)
      ∧ r.2.mem ((c.tc : Thread Cert.MixOutGradIdeal.nD Cert.MixOutGradIdeal.τ).loc Cert.MixOutGradIdeal.main_arg4) = m ((c.tc : Thread Cert.MixOutGradIdeal.nD Cert.MixOutGradIdeal.τ).loc Cert.MixOutGradIdeal.main_arg4)
      ∧ r.2.mem ((c.tc : Thread Cert.MixOutGradIdeal.nD Cert.MixOutGradIdeal.τ).loc Cert.MixOutGradIdeal.main_arg5) = m ((c.tc : Thread Cert.MixOutGradIdeal.nD Cert.MixOutGradIdeal.τ).loc Cert.MixOutGradIdeal.main_arg5)
      ∧ r.2.mem ((c.tc : Thread Cert.MixOutGradIdeal.nD Cert.MixOutGradIdeal.τ).loc Cert.MixOutGradIdeal.main_arg6) = m ((c.tc : Thread Cert.MixOutGradIdeal.nD Cert.MixOutGradIdeal.τ).loc Cert.MixOutGradIdeal.main_arg6))
      ∧ r.2.sem = fun _ => 0)

def quiescent_MixProjBwd [hMixProjBwd : Cert.MixProjBwd.Facts] : Prop :=
  ∀ (m : (ℓ : Loc Cert.MixProjBwd.nD Cert.MixProjBwd.τ Cert.MixProjBwd.sig) → Buf (Elt Bits) ℓ) (g : Dev Cert.MixProjBwd.nD → PrngReg), Pre_MixProjBwd m →
    θ_run (Cert.MixProjBwd.defs (F := Bits)) (onTc (τ := Cert.MixProjBwd.τ) (Cert.MixProjBwd.main (F := Bits))) ⟨m, fun _ => 0, g⟩ (fun r => (∀ c : Dev Cert.MixProjBwd.nD,
      r.2.mem ((c.tc : Thread Cert.MixProjBwd.nD Cert.MixProjBwd.τ).loc Cert.MixProjBwd.main_arg0) = m ((c.tc : Thread Cert.MixProjBwd.nD Cert.MixProjBwd.τ).loc Cert.MixProjBwd.main_arg0)
      ∧ r.2.mem ((c.tc : Thread Cert.MixProjBwd.nD Cert.MixProjBwd.τ).loc Cert.MixProjBwd.main_arg1) = m ((c.tc : Thread Cert.MixProjBwd.nD Cert.MixProjBwd.τ).loc Cert.MixProjBwd.main_arg1)
      ∧ r.2.mem ((c.tc : Thread Cert.MixProjBwd.nD Cert.MixProjBwd.τ).loc Cert.MixProjBwd.main_arg2) = m ((c.tc : Thread Cert.MixProjBwd.nD Cert.MixProjBwd.τ).loc Cert.MixProjBwd.main_arg2)
      ∧ r.2.mem ((c.tc : Thread Cert.MixProjBwd.nD Cert.MixProjBwd.τ).loc Cert.MixProjBwd.main_arg3) = m ((c.tc : Thread Cert.MixProjBwd.nD Cert.MixProjBwd.τ).loc Cert.MixProjBwd.main_arg3)
      ∧ r.2.mem ((c.tc : Thread Cert.MixProjBwd.nD Cert.MixProjBwd.τ).loc Cert.MixProjBwd.main_arg4) = m ((c.tc : Thread Cert.MixProjBwd.nD Cert.MixProjBwd.τ).loc Cert.MixProjBwd.main_arg4))
      ∧ r.2.sem = fun _ => 0)

def quiescent_MixProjBwdIdeal [hMixProjBwdIdeal : Cert.MixProjBwdIdeal.Facts] : Prop :=
  ∀ (m : (ℓ : Loc Cert.MixProjBwdIdeal.nD Cert.MixProjBwdIdeal.τ Cert.MixProjBwdIdeal.sig) → Buf (Elt Ideal) ℓ) (g : Dev Cert.MixProjBwdIdeal.nD → PrngReg), Pre_MixProjBwdIdeal m →
    θ_run (Cert.MixProjBwdIdeal.defs (F := Ideal)) (onTc (τ := Cert.MixProjBwdIdeal.τ) (Cert.MixProjBwdIdeal.main (F := Ideal))) ⟨m, fun _ => 0, g⟩ (fun r => (∀ c : Dev Cert.MixProjBwdIdeal.nD,
      r.2.mem ((c.tc : Thread Cert.MixProjBwdIdeal.nD Cert.MixProjBwdIdeal.τ).loc Cert.MixProjBwdIdeal.main_arg0) = m ((c.tc : Thread Cert.MixProjBwdIdeal.nD Cert.MixProjBwdIdeal.τ).loc Cert.MixProjBwdIdeal.main_arg0)
      ∧ r.2.mem ((c.tc : Thread Cert.MixProjBwdIdeal.nD Cert.MixProjBwdIdeal.τ).loc Cert.MixProjBwdIdeal.main_arg1) = m ((c.tc : Thread Cert.MixProjBwdIdeal.nD Cert.MixProjBwdIdeal.τ).loc Cert.MixProjBwdIdeal.main_arg1)
      ∧ r.2.mem ((c.tc : Thread Cert.MixProjBwdIdeal.nD Cert.MixProjBwdIdeal.τ).loc Cert.MixProjBwdIdeal.main_arg2) = m ((c.tc : Thread Cert.MixProjBwdIdeal.nD Cert.MixProjBwdIdeal.τ).loc Cert.MixProjBwdIdeal.main_arg2)
      ∧ r.2.mem ((c.tc : Thread Cert.MixProjBwdIdeal.nD Cert.MixProjBwdIdeal.τ).loc Cert.MixProjBwdIdeal.main_arg3) = m ((c.tc : Thread Cert.MixProjBwdIdeal.nD Cert.MixProjBwdIdeal.τ).loc Cert.MixProjBwdIdeal.main_arg3)
      ∧ r.2.mem ((c.tc : Thread Cert.MixProjBwdIdeal.nD Cert.MixProjBwdIdeal.τ).loc Cert.MixProjBwdIdeal.main_arg4) = m ((c.tc : Thread Cert.MixProjBwdIdeal.nD Cert.MixProjBwdIdeal.τ).loc Cert.MixProjBwdIdeal.main_arg4))
      ∧ r.2.sem = fun _ => 0)

def quiescent_MixProjBwdIdeal_pre_finite_norm [hMixProjBwdIdeal : Cert.MixProjBwdIdeal.Facts] [hPre_finite_norm : Cert.Pre_finite_norm.Facts] : Prop :=
  ∀ (m : (ℓ : Loc Cert.MixProjBwdIdeal.nD Cert.MixProjBwdIdeal.τ Cert.MixProjBwdIdeal.sig) → Buf (Elt Ideal) ℓ) (g : Dev Cert.MixProjBwdIdeal.nD → PrngReg), Pre_MixProjBwdIdeal_finite_norm m →
    θ_run (Cert.MixProjBwdIdeal.defs (F := Ideal)) (onTc (τ := Cert.MixProjBwdIdeal.τ) (Cert.MixProjBwdIdeal.main (F := Ideal))) ⟨m, fun _ => 0, g⟩ (fun r => (∀ c : Dev Cert.MixProjBwdIdeal.nD,
      r.2.mem ((c.tc : Thread Cert.MixProjBwdIdeal.nD Cert.MixProjBwdIdeal.τ).loc Cert.MixProjBwdIdeal.main_arg0) = m ((c.tc : Thread Cert.MixProjBwdIdeal.nD Cert.MixProjBwdIdeal.τ).loc Cert.MixProjBwdIdeal.main_arg0)
      ∧ r.2.mem ((c.tc : Thread Cert.MixProjBwdIdeal.nD Cert.MixProjBwdIdeal.τ).loc Cert.MixProjBwdIdeal.main_arg1) = m ((c.tc : Thread Cert.MixProjBwdIdeal.nD Cert.MixProjBwdIdeal.τ).loc Cert.MixProjBwdIdeal.main_arg1)
      ∧ r.2.mem ((c.tc : Thread Cert.MixProjBwdIdeal.nD Cert.MixProjBwdIdeal.τ).loc Cert.MixProjBwdIdeal.main_arg2) = m ((c.tc : Thread Cert.MixProjBwdIdeal.nD Cert.MixProjBwdIdeal.τ).loc Cert.MixProjBwdIdeal.main_arg2)
      ∧ r.2.mem ((c.tc : Thread Cert.MixProjBwdIdeal.nD Cert.MixProjBwdIdeal.τ).loc Cert.MixProjBwdIdeal.main_arg3) = m ((c.tc : Thread Cert.MixProjBwdIdeal.nD Cert.MixProjBwdIdeal.τ).loc Cert.MixProjBwdIdeal.main_arg3)
      ∧ r.2.mem ((c.tc : Thread Cert.MixProjBwdIdeal.nD Cert.MixProjBwdIdeal.τ).loc Cert.MixProjBwdIdeal.main_arg4) = m ((c.tc : Thread Cert.MixProjBwdIdeal.nD Cert.MixProjBwdIdeal.τ).loc Cert.MixProjBwdIdeal.main_arg4))
      ∧ r.2.sem = fun _ => 0)

def quiescent_MixProjGradIdeal [hMixProjGradIdeal : Cert.MixProjGradIdeal.Facts] : Prop :=
  ∀ (m : (ℓ : Loc Cert.MixProjGradIdeal.nD Cert.MixProjGradIdeal.τ Cert.MixProjGradIdeal.sig) → Buf (Elt Ideal) ℓ) (g : Dev Cert.MixProjGradIdeal.nD → PrngReg), Pre_MixProjGradIdeal m →
    θ_run (Cert.MixProjGradIdeal.defs (F := Ideal)) (onTc (τ := Cert.MixProjGradIdeal.τ) (Cert.MixProjGradIdeal.main (F := Ideal))) ⟨m, fun _ => 0, g⟩ (fun r => (∀ c : Dev Cert.MixProjGradIdeal.nD,
      r.2.mem ((c.tc : Thread Cert.MixProjGradIdeal.nD Cert.MixProjGradIdeal.τ).loc Cert.MixProjGradIdeal.main_arg0) = m ((c.tc : Thread Cert.MixProjGradIdeal.nD Cert.MixProjGradIdeal.τ).loc Cert.MixProjGradIdeal.main_arg0)
      ∧ r.2.mem ((c.tc : Thread Cert.MixProjGradIdeal.nD Cert.MixProjGradIdeal.τ).loc Cert.MixProjGradIdeal.main_arg1) = m ((c.tc : Thread Cert.MixProjGradIdeal.nD Cert.MixProjGradIdeal.τ).loc Cert.MixProjGradIdeal.main_arg1)
      ∧ r.2.mem ((c.tc : Thread Cert.MixProjGradIdeal.nD Cert.MixProjGradIdeal.τ).loc Cert.MixProjGradIdeal.main_arg2) = m ((c.tc : Thread Cert.MixProjGradIdeal.nD Cert.MixProjGradIdeal.τ).loc Cert.MixProjGradIdeal.main_arg2)
      ∧ r.2.mem ((c.tc : Thread Cert.MixProjGradIdeal.nD Cert.MixProjGradIdeal.τ).loc Cert.MixProjGradIdeal.main_arg3) = m ((c.tc : Thread Cert.MixProjGradIdeal.nD Cert.MixProjGradIdeal.τ).loc Cert.MixProjGradIdeal.main_arg3)
      ∧ r.2.mem ((c.tc : Thread Cert.MixProjGradIdeal.nD Cert.MixProjGradIdeal.τ).loc Cert.MixProjGradIdeal.main_arg4) = m ((c.tc : Thread Cert.MixProjGradIdeal.nD Cert.MixProjGradIdeal.τ).loc Cert.MixProjGradIdeal.main_arg4))
      ∧ r.2.sem = fun _ => 0)

def quiescent_MixProjGradIdeal_pre_finite_norm [hMixProjGradIdeal : Cert.MixProjGradIdeal.Facts] [hPre_finite_norm : Cert.Pre_finite_norm.Facts] : Prop :=
  ∀ (m : (ℓ : Loc Cert.MixProjGradIdeal.nD Cert.MixProjGradIdeal.τ Cert.MixProjGradIdeal.sig) → Buf (Elt Ideal) ℓ) (g : Dev Cert.MixProjGradIdeal.nD → PrngReg), Pre_MixProjGradIdeal_finite_norm m →
    θ_run (Cert.MixProjGradIdeal.defs (F := Ideal)) (onTc (τ := Cert.MixProjGradIdeal.τ) (Cert.MixProjGradIdeal.main (F := Ideal))) ⟨m, fun _ => 0, g⟩ (fun r => (∀ c : Dev Cert.MixProjGradIdeal.nD,
      r.2.mem ((c.tc : Thread Cert.MixProjGradIdeal.nD Cert.MixProjGradIdeal.τ).loc Cert.MixProjGradIdeal.main_arg0) = m ((c.tc : Thread Cert.MixProjGradIdeal.nD Cert.MixProjGradIdeal.τ).loc Cert.MixProjGradIdeal.main_arg0)
      ∧ r.2.mem ((c.tc : Thread Cert.MixProjGradIdeal.nD Cert.MixProjGradIdeal.τ).loc Cert.MixProjGradIdeal.main_arg1) = m ((c.tc : Thread Cert.MixProjGradIdeal.nD Cert.MixProjGradIdeal.τ).loc Cert.MixProjGradIdeal.main_arg1)
      ∧ r.2.mem ((c.tc : Thread Cert.MixProjGradIdeal.nD Cert.MixProjGradIdeal.τ).loc Cert.MixProjGradIdeal.main_arg2) = m ((c.tc : Thread Cert.MixProjGradIdeal.nD Cert.MixProjGradIdeal.τ).loc Cert.MixProjGradIdeal.main_arg2)
      ∧ r.2.mem ((c.tc : Thread Cert.MixProjGradIdeal.nD Cert.MixProjGradIdeal.τ).loc Cert.MixProjGradIdeal.main_arg3) = m ((c.tc : Thread Cert.MixProjGradIdeal.nD Cert.MixProjGradIdeal.τ).loc Cert.MixProjGradIdeal.main_arg3)
      ∧ r.2.mem ((c.tc : Thread Cert.MixProjGradIdeal.nD Cert.MixProjGradIdeal.τ).loc Cert.MixProjGradIdeal.main_arg4) = m ((c.tc : Thread Cert.MixProjGradIdeal.nD Cert.MixProjGradIdeal.τ).loc Cert.MixProjGradIdeal.main_arg4))
      ∧ r.2.sem = fun _ => 0)

def quiescent_FfnBwdDw [hFfnBwdDw : Cert.FfnBwdDw.Facts] : Prop :=
  ∀ (m : (ℓ : Loc Cert.FfnBwdDw.nD Cert.FfnBwdDw.τ Cert.FfnBwdDw.sig) → Buf (Elt Bits) ℓ) (g : Dev Cert.FfnBwdDw.nD → PrngReg), Pre_FfnBwdDw m →
    θ_run (Cert.FfnBwdDw.defs (F := Bits)) (onTc (τ := Cert.FfnBwdDw.τ) (Cert.FfnBwdDw.main (F := Bits))) ⟨m, fun _ => 0, g⟩ (fun r => (∀ c : Dev Cert.FfnBwdDw.nD,
      r.2.mem ((c.tc : Thread Cert.FfnBwdDw.nD Cert.FfnBwdDw.τ).loc Cert.FfnBwdDw.main_arg0) = m ((c.tc : Thread Cert.FfnBwdDw.nD Cert.FfnBwdDw.τ).loc Cert.FfnBwdDw.main_arg0)
      ∧ r.2.mem ((c.tc : Thread Cert.FfnBwdDw.nD Cert.FfnBwdDw.τ).loc Cert.FfnBwdDw.main_arg1) = m ((c.tc : Thread Cert.FfnBwdDw.nD Cert.FfnBwdDw.τ).loc Cert.FfnBwdDw.main_arg1)
      ∧ r.2.mem ((c.tc : Thread Cert.FfnBwdDw.nD Cert.FfnBwdDw.τ).loc Cert.FfnBwdDw.main_arg2) = m ((c.tc : Thread Cert.FfnBwdDw.nD Cert.FfnBwdDw.τ).loc Cert.FfnBwdDw.main_arg2)
      ∧ r.2.mem ((c.tc : Thread Cert.FfnBwdDw.nD Cert.FfnBwdDw.τ).loc Cert.FfnBwdDw.main_arg3) = m ((c.tc : Thread Cert.FfnBwdDw.nD Cert.FfnBwdDw.τ).loc Cert.FfnBwdDw.main_arg3)
      ∧ r.2.mem ((c.tc : Thread Cert.FfnBwdDw.nD Cert.FfnBwdDw.τ).loc Cert.FfnBwdDw.main_arg4) = m ((c.tc : Thread Cert.FfnBwdDw.nD Cert.FfnBwdDw.τ).loc Cert.FfnBwdDw.main_arg4)
      ∧ r.2.mem ((c.tc : Thread Cert.FfnBwdDw.nD Cert.FfnBwdDw.τ).loc Cert.FfnBwdDw.main_arg5) = m ((c.tc : Thread Cert.FfnBwdDw.nD Cert.FfnBwdDw.τ).loc Cert.FfnBwdDw.main_arg5))
      ∧ r.2.sem = fun _ => 0)

def quiescent_FfnBwdDwIdeal [hFfnBwdDwIdeal : Cert.FfnBwdDwIdeal.Facts] : Prop :=
  ∀ (m : (ℓ : Loc Cert.FfnBwdDwIdeal.nD Cert.FfnBwdDwIdeal.τ Cert.FfnBwdDwIdeal.sig) → Buf (Elt Ideal) ℓ) (g : Dev Cert.FfnBwdDwIdeal.nD → PrngReg), Pre_FfnBwdDwIdeal m →
    θ_run (Cert.FfnBwdDwIdeal.defs (F := Ideal)) (onTc (τ := Cert.FfnBwdDwIdeal.τ) (Cert.FfnBwdDwIdeal.main (F := Ideal))) ⟨m, fun _ => 0, g⟩ (fun r => (∀ c : Dev Cert.FfnBwdDwIdeal.nD,
      r.2.mem ((c.tc : Thread Cert.FfnBwdDwIdeal.nD Cert.FfnBwdDwIdeal.τ).loc Cert.FfnBwdDwIdeal.main_arg0) = m ((c.tc : Thread Cert.FfnBwdDwIdeal.nD Cert.FfnBwdDwIdeal.τ).loc Cert.FfnBwdDwIdeal.main_arg0)
      ∧ r.2.mem ((c.tc : Thread Cert.FfnBwdDwIdeal.nD Cert.FfnBwdDwIdeal.τ).loc Cert.FfnBwdDwIdeal.main_arg1) = m ((c.tc : Thread Cert.FfnBwdDwIdeal.nD Cert.FfnBwdDwIdeal.τ).loc Cert.FfnBwdDwIdeal.main_arg1)
      ∧ r.2.mem ((c.tc : Thread Cert.FfnBwdDwIdeal.nD Cert.FfnBwdDwIdeal.τ).loc Cert.FfnBwdDwIdeal.main_arg2) = m ((c.tc : Thread Cert.FfnBwdDwIdeal.nD Cert.FfnBwdDwIdeal.τ).loc Cert.FfnBwdDwIdeal.main_arg2)
      ∧ r.2.mem ((c.tc : Thread Cert.FfnBwdDwIdeal.nD Cert.FfnBwdDwIdeal.τ).loc Cert.FfnBwdDwIdeal.main_arg3) = m ((c.tc : Thread Cert.FfnBwdDwIdeal.nD Cert.FfnBwdDwIdeal.τ).loc Cert.FfnBwdDwIdeal.main_arg3)
      ∧ r.2.mem ((c.tc : Thread Cert.FfnBwdDwIdeal.nD Cert.FfnBwdDwIdeal.τ).loc Cert.FfnBwdDwIdeal.main_arg4) = m ((c.tc : Thread Cert.FfnBwdDwIdeal.nD Cert.FfnBwdDwIdeal.τ).loc Cert.FfnBwdDwIdeal.main_arg4)
      ∧ r.2.mem ((c.tc : Thread Cert.FfnBwdDwIdeal.nD Cert.FfnBwdDwIdeal.τ).loc Cert.FfnBwdDwIdeal.main_arg5) = m ((c.tc : Thread Cert.FfnBwdDwIdeal.nD Cert.FfnBwdDwIdeal.τ).loc Cert.FfnBwdDwIdeal.main_arg5))
      ∧ r.2.sem = fun _ => 0)

def quiescent_FfnDwGradIdeal [hFfnDwGradIdeal : Cert.FfnDwGradIdeal.Facts] : Prop :=
  ∀ (m : (ℓ : Loc Cert.FfnDwGradIdeal.nD Cert.FfnDwGradIdeal.τ Cert.FfnDwGradIdeal.sig) → Buf (Elt Ideal) ℓ) (g : Dev Cert.FfnDwGradIdeal.nD → PrngReg), Pre_FfnDwGradIdeal m →
    θ_run (Cert.FfnDwGradIdeal.defs (F := Ideal)) (onTc (τ := Cert.FfnDwGradIdeal.τ) (Cert.FfnDwGradIdeal.main (F := Ideal))) ⟨m, fun _ => 0, g⟩ (fun r => (∀ c : Dev Cert.FfnDwGradIdeal.nD,
      r.2.mem ((c.tc : Thread Cert.FfnDwGradIdeal.nD Cert.FfnDwGradIdeal.τ).loc Cert.FfnDwGradIdeal.main_arg0) = m ((c.tc : Thread Cert.FfnDwGradIdeal.nD Cert.FfnDwGradIdeal.τ).loc Cert.FfnDwGradIdeal.main_arg0)
      ∧ r.2.mem ((c.tc : Thread Cert.FfnDwGradIdeal.nD Cert.FfnDwGradIdeal.τ).loc Cert.FfnDwGradIdeal.main_arg1) = m ((c.tc : Thread Cert.FfnDwGradIdeal.nD Cert.FfnDwGradIdeal.τ).loc Cert.FfnDwGradIdeal.main_arg1)
      ∧ r.2.mem ((c.tc : Thread Cert.FfnDwGradIdeal.nD Cert.FfnDwGradIdeal.τ).loc Cert.FfnDwGradIdeal.main_arg2) = m ((c.tc : Thread Cert.FfnDwGradIdeal.nD Cert.FfnDwGradIdeal.τ).loc Cert.FfnDwGradIdeal.main_arg2)
      ∧ r.2.mem ((c.tc : Thread Cert.FfnDwGradIdeal.nD Cert.FfnDwGradIdeal.τ).loc Cert.FfnDwGradIdeal.main_arg3) = m ((c.tc : Thread Cert.FfnDwGradIdeal.nD Cert.FfnDwGradIdeal.τ).loc Cert.FfnDwGradIdeal.main_arg3)
      ∧ r.2.mem ((c.tc : Thread Cert.FfnDwGradIdeal.nD Cert.FfnDwGradIdeal.τ).loc Cert.FfnDwGradIdeal.main_arg4) = m ((c.tc : Thread Cert.FfnDwGradIdeal.nD Cert.FfnDwGradIdeal.τ).loc Cert.FfnDwGradIdeal.main_arg4)
      ∧ r.2.mem ((c.tc : Thread Cert.FfnDwGradIdeal.nD Cert.FfnDwGradIdeal.τ).loc Cert.FfnDwGradIdeal.main_arg5) = m ((c.tc : Thread Cert.FfnDwGradIdeal.nD Cert.FfnDwGradIdeal.τ).loc Cert.FfnDwGradIdeal.main_arg5))
      ∧ r.2.sem = fun _ => 0)

def quiescent_FfnBwdDx [hFfnBwdDx : Cert.FfnBwdDx.Facts] : Prop :=
  ∀ (m : (ℓ : Loc Cert.FfnBwdDx.nD Cert.FfnBwdDx.τ Cert.FfnBwdDx.sig) → Buf (Elt Bits) ℓ) (g : Dev Cert.FfnBwdDx.nD → PrngReg), Pre_FfnBwdDx m →
    θ_run (Cert.FfnBwdDx.defs (F := Bits)) (onTc (τ := Cert.FfnBwdDx.τ) (Cert.FfnBwdDx.main (F := Bits))) ⟨m, fun _ => 0, g⟩ (fun r => (∀ c : Dev Cert.FfnBwdDx.nD,
      r.2.mem ((c.tc : Thread Cert.FfnBwdDx.nD Cert.FfnBwdDx.τ).loc Cert.FfnBwdDx.main_arg0) = m ((c.tc : Thread Cert.FfnBwdDx.nD Cert.FfnBwdDx.τ).loc Cert.FfnBwdDx.main_arg0)
      ∧ r.2.mem ((c.tc : Thread Cert.FfnBwdDx.nD Cert.FfnBwdDx.τ).loc Cert.FfnBwdDx.main_arg1) = m ((c.tc : Thread Cert.FfnBwdDx.nD Cert.FfnBwdDx.τ).loc Cert.FfnBwdDx.main_arg1)
      ∧ r.2.mem ((c.tc : Thread Cert.FfnBwdDx.nD Cert.FfnBwdDx.τ).loc Cert.FfnBwdDx.main_arg2) = m ((c.tc : Thread Cert.FfnBwdDx.nD Cert.FfnBwdDx.τ).loc Cert.FfnBwdDx.main_arg2)
      ∧ r.2.mem ((c.tc : Thread Cert.FfnBwdDx.nD Cert.FfnBwdDx.τ).loc Cert.FfnBwdDx.main_arg3) = m ((c.tc : Thread Cert.FfnBwdDx.nD Cert.FfnBwdDx.τ).loc Cert.FfnBwdDx.main_arg3)
      ∧ r.2.mem ((c.tc : Thread Cert.FfnBwdDx.nD Cert.FfnBwdDx.τ).loc Cert.FfnBwdDx.main_arg4) = m ((c.tc : Thread Cert.FfnBwdDx.nD Cert.FfnBwdDx.τ).loc Cert.FfnBwdDx.main_arg4)
      ∧ r.2.mem ((c.tc : Thread Cert.FfnBwdDx.nD Cert.FfnBwdDx.τ).loc Cert.FfnBwdDx.main_arg5) = m ((c.tc : Thread Cert.FfnBwdDx.nD Cert.FfnBwdDx.τ).loc Cert.FfnBwdDx.main_arg5))
      ∧ r.2.sem = fun _ => 0)

def quiescent_FfnBwdDxIdeal [hFfnBwdDxIdeal : Cert.FfnBwdDxIdeal.Facts] : Prop :=
  ∀ (m : (ℓ : Loc Cert.FfnBwdDxIdeal.nD Cert.FfnBwdDxIdeal.τ Cert.FfnBwdDxIdeal.sig) → Buf (Elt Ideal) ℓ) (g : Dev Cert.FfnBwdDxIdeal.nD → PrngReg), Pre_FfnBwdDxIdeal m →
    θ_run (Cert.FfnBwdDxIdeal.defs (F := Ideal)) (onTc (τ := Cert.FfnBwdDxIdeal.τ) (Cert.FfnBwdDxIdeal.main (F := Ideal))) ⟨m, fun _ => 0, g⟩ (fun r => (∀ c : Dev Cert.FfnBwdDxIdeal.nD,
      r.2.mem ((c.tc : Thread Cert.FfnBwdDxIdeal.nD Cert.FfnBwdDxIdeal.τ).loc Cert.FfnBwdDxIdeal.main_arg0) = m ((c.tc : Thread Cert.FfnBwdDxIdeal.nD Cert.FfnBwdDxIdeal.τ).loc Cert.FfnBwdDxIdeal.main_arg0)
      ∧ r.2.mem ((c.tc : Thread Cert.FfnBwdDxIdeal.nD Cert.FfnBwdDxIdeal.τ).loc Cert.FfnBwdDxIdeal.main_arg1) = m ((c.tc : Thread Cert.FfnBwdDxIdeal.nD Cert.FfnBwdDxIdeal.τ).loc Cert.FfnBwdDxIdeal.main_arg1)
      ∧ r.2.mem ((c.tc : Thread Cert.FfnBwdDxIdeal.nD Cert.FfnBwdDxIdeal.τ).loc Cert.FfnBwdDxIdeal.main_arg2) = m ((c.tc : Thread Cert.FfnBwdDxIdeal.nD Cert.FfnBwdDxIdeal.τ).loc Cert.FfnBwdDxIdeal.main_arg2)
      ∧ r.2.mem ((c.tc : Thread Cert.FfnBwdDxIdeal.nD Cert.FfnBwdDxIdeal.τ).loc Cert.FfnBwdDxIdeal.main_arg3) = m ((c.tc : Thread Cert.FfnBwdDxIdeal.nD Cert.FfnBwdDxIdeal.τ).loc Cert.FfnBwdDxIdeal.main_arg3)
      ∧ r.2.mem ((c.tc : Thread Cert.FfnBwdDxIdeal.nD Cert.FfnBwdDxIdeal.τ).loc Cert.FfnBwdDxIdeal.main_arg4) = m ((c.tc : Thread Cert.FfnBwdDxIdeal.nD Cert.FfnBwdDxIdeal.τ).loc Cert.FfnBwdDxIdeal.main_arg4)
      ∧ r.2.mem ((c.tc : Thread Cert.FfnBwdDxIdeal.nD Cert.FfnBwdDxIdeal.τ).loc Cert.FfnBwdDxIdeal.main_arg5) = m ((c.tc : Thread Cert.FfnBwdDxIdeal.nD Cert.FfnBwdDxIdeal.τ).loc Cert.FfnBwdDxIdeal.main_arg5))
      ∧ r.2.sem = fun _ => 0)

def quiescent_FfnBwdDxIdeal_pre_finite_ffn [hFfnBwdDxIdeal : Cert.FfnBwdDxIdeal.Facts] [hPre_finite_ffn : Cert.Pre_finite_ffn.Facts] : Prop :=
  ∀ (m : (ℓ : Loc Cert.FfnBwdDxIdeal.nD Cert.FfnBwdDxIdeal.τ Cert.FfnBwdDxIdeal.sig) → Buf (Elt Ideal) ℓ) (g : Dev Cert.FfnBwdDxIdeal.nD → PrngReg), Pre_FfnBwdDxIdeal_finite_ffn m →
    θ_run (Cert.FfnBwdDxIdeal.defs (F := Ideal)) (onTc (τ := Cert.FfnBwdDxIdeal.τ) (Cert.FfnBwdDxIdeal.main (F := Ideal))) ⟨m, fun _ => 0, g⟩ (fun r => (∀ c : Dev Cert.FfnBwdDxIdeal.nD,
      r.2.mem ((c.tc : Thread Cert.FfnBwdDxIdeal.nD Cert.FfnBwdDxIdeal.τ).loc Cert.FfnBwdDxIdeal.main_arg0) = m ((c.tc : Thread Cert.FfnBwdDxIdeal.nD Cert.FfnBwdDxIdeal.τ).loc Cert.FfnBwdDxIdeal.main_arg0)
      ∧ r.2.mem ((c.tc : Thread Cert.FfnBwdDxIdeal.nD Cert.FfnBwdDxIdeal.τ).loc Cert.FfnBwdDxIdeal.main_arg1) = m ((c.tc : Thread Cert.FfnBwdDxIdeal.nD Cert.FfnBwdDxIdeal.τ).loc Cert.FfnBwdDxIdeal.main_arg1)
      ∧ r.2.mem ((c.tc : Thread Cert.FfnBwdDxIdeal.nD Cert.FfnBwdDxIdeal.τ).loc Cert.FfnBwdDxIdeal.main_arg2) = m ((c.tc : Thread Cert.FfnBwdDxIdeal.nD Cert.FfnBwdDxIdeal.τ).loc Cert.FfnBwdDxIdeal.main_arg2)
      ∧ r.2.mem ((c.tc : Thread Cert.FfnBwdDxIdeal.nD Cert.FfnBwdDxIdeal.τ).loc Cert.FfnBwdDxIdeal.main_arg3) = m ((c.tc : Thread Cert.FfnBwdDxIdeal.nD Cert.FfnBwdDxIdeal.τ).loc Cert.FfnBwdDxIdeal.main_arg3)
      ∧ r.2.mem ((c.tc : Thread Cert.FfnBwdDxIdeal.nD Cert.FfnBwdDxIdeal.τ).loc Cert.FfnBwdDxIdeal.main_arg4) = m ((c.tc : Thread Cert.FfnBwdDxIdeal.nD Cert.FfnBwdDxIdeal.τ).loc Cert.FfnBwdDxIdeal.main_arg4)
      ∧ r.2.mem ((c.tc : Thread Cert.FfnBwdDxIdeal.nD Cert.FfnBwdDxIdeal.τ).loc Cert.FfnBwdDxIdeal.main_arg5) = m ((c.tc : Thread Cert.FfnBwdDxIdeal.nD Cert.FfnBwdDxIdeal.τ).loc Cert.FfnBwdDxIdeal.main_arg5))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_FfnGradIdeal_pre_finite_ffn [hFfnGradIdeal : Cert.FfnGradIdeal.Facts] [hPre_finite_ffn : Cert.Pre_finite_ffn.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_finite_ffn m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4)
      ∧ r.2.mem ((c.tc : Thread Cert.FfnLoss.nD Cert.FfnLoss.τ).loc Cert.FfnLoss.main_arg5) = m ((c.tc : Thread Cert.FfnLoss.nD Cert.FfnLoss.τ).loc Cert.FfnLoss.main_arg5)
      ∧ r.2.mem ((c.tc : Thread Cert.FfnLoss.nD Cert.FfnLoss.τ).loc Cert.FfnLoss.main_arg6) = m ((c.tc : Thread Cert.FfnLoss.nD Cert.FfnLoss.τ).loc Cert.FfnLoss.main_arg6))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
      ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ r.2.sem = fun _ => 0)

def quiescent_FfnLossIdeal_pre_finite_loss [hFfnLossIdeal : Cert.FfnLossIdeal.Facts] [hPre_finite_loss : Cert.Pre_finite_loss.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal_finite_loss m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
      ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ r.2.sem = fun _ => 0)

def quiescent_FfnLossGradIdeal [hFfnLossGradIdeal : Cert.FfnLossGradIdeal.Facts] : Prop :=
  ∀ (m : (ℓ : Loc Cert.FfnLossGradIdeal.nD Cert.FfnLossGradIdeal.τ Cert.FfnLossGradIdeal.sig) → Buf (Elt Ideal) ℓ) (g : Dev Cert.FfnLossGradIdeal.nD → PrngReg), Pre_FfnLossGradIdeal m →
    θ_run (Cert.FfnLossGradIdeal.defs (F := Ideal)) (onTc (τ := Cert.FfnLossGradIdeal.τ) (Cert.FfnLossGradIdeal.main (F := Ideal))) ⟨m, fun _ => 0, g⟩ (fun r => (∀ c : Dev Cert.FfnLossGradIdeal.nD,
      r.2.mem ((c.tc : Thread Cert.FfnLossGradIdeal.nD Cert.FfnLossGradIdeal.τ).loc Cert.FfnLossGradIdeal.main_arg0) = m ((c.tc : Thread Cert.FfnLossGradIdeal.nD Cert.FfnLossGradIdeal.τ).loc Cert.FfnLossGradIdeal.main_arg0)
      ∧ r.2.mem ((c.tc : Thread Cert.FfnLossGradIdeal.nD Cert.FfnLossGradIdeal.τ).loc Cert.FfnLossGradIdeal.main_arg1) = m ((c.tc : Thread Cert.FfnLossGradIdeal.nD Cert.FfnLossGradIdeal.τ).loc Cert.FfnLossGradIdeal.main_arg1)
      ∧ r.2.mem ((c.tc : Thread Cert.FfnLossGradIdeal.nD Cert.FfnLossGradIdeal.τ).loc Cert.FfnLossGradIdeal.main_arg2) = m ((c.tc : Thread Cert.FfnLossGradIdeal.nD Cert.FfnLossGradIdeal.τ).loc Cert.FfnLossGradIdeal.main_arg2)
      ∧ r.2.mem ((c.tc : Thread Cert.FfnLossGradIdeal.nD Cert.FfnLossGradIdeal.τ).loc Cert.FfnLossGradIdeal.main_arg3) = m ((c.tc : Thread Cert.FfnLossGradIdeal.nD Cert.FfnLossGradIdeal.τ).loc Cert.FfnLossGradIdeal.main_arg3)
      ∧ r.2.mem ((c.tc : Thread Cert.FfnLossGradIdeal.nD Cert.FfnLossGradIdeal.τ).loc Cert.FfnLossGradIdeal.main_arg4) = m ((c.tc : Thread Cert.FfnLossGradIdeal.nD Cert.FfnLossGradIdeal.τ).loc Cert.FfnLossGradIdeal.main_arg4)
      ∧ r.2.mem ((c.tc : Thread Cert.FfnLossGradIdeal.nD Cert.FfnLossGradIdeal.τ).loc Cert.FfnLossGradIdeal.main_arg5) = m ((c.tc : Thread Cert.FfnLossGradIdeal.nD Cert.FfnLossGradIdeal.τ).loc Cert.FfnLossGradIdeal.main_arg5)
      ∧ r.2.mem ((c.tc : Thread Cert.FfnLossGradIdeal.nD Cert.FfnLossGradIdeal.τ).loc Cert.FfnLossGradIdeal.main_arg6) = m ((c.tc : Thread Cert.FfnLossGradIdeal.nD Cert.FfnLossGradIdeal.τ).loc Cert.FfnLossGradIdeal.main_arg6))
      ∧ r.2.sem = fun _ => 0)

def quiescent_FfnLossGradIdeal_pre_finite_loss [hFfnLossGradIdeal : Cert.FfnLossGradIdeal.Facts] [hPre_finite_loss : Cert.Pre_finite_loss.Facts] : Prop :=
  ∀ (m : (ℓ : Loc Cert.FfnLossGradIdeal.nD Cert.FfnLossGradIdeal.τ Cert.FfnLossGradIdeal.sig) → Buf (Elt Ideal) ℓ) (g : Dev Cert.FfnLossGradIdeal.nD → PrngReg), Pre_FfnLossGradIdeal_finite_loss m →
    θ_run (Cert.FfnLossGradIdeal.defs (F := Ideal)) (onTc (τ := Cert.FfnLossGradIdeal.τ) (Cert.FfnLossGradIdeal.main (F := Ideal))) ⟨m, fun _ => 0, g⟩ (fun r => (∀ c : Dev Cert.FfnLossGradIdeal.nD,
      r.2.mem ((c.tc : Thread Cert.FfnLossGradIdeal.nD Cert.FfnLossGradIdeal.τ).loc Cert.FfnLossGradIdeal.main_arg0) = m ((c.tc : Thread Cert.FfnLossGradIdeal.nD Cert.FfnLossGradIdeal.τ).loc Cert.FfnLossGradIdeal.main_arg0)
      ∧ r.2.mem ((c.tc : Thread Cert.FfnLossGradIdeal.nD Cert.FfnLossGradIdeal.τ).loc Cert.FfnLossGradIdeal.main_arg1) = m ((c.tc : Thread Cert.FfnLossGradIdeal.nD Cert.FfnLossGradIdeal.τ).loc Cert.FfnLossGradIdeal.main_arg1)
      ∧ r.2.mem ((c.tc : Thread Cert.FfnLossGradIdeal.nD Cert.FfnLossGradIdeal.τ).loc Cert.FfnLossGradIdeal.main_arg2) = m ((c.tc : Thread Cert.FfnLossGradIdeal.nD Cert.FfnLossGradIdeal.τ).loc Cert.FfnLossGradIdeal.main_arg2)
      ∧ r.2.mem ((c.tc : Thread Cert.FfnLossGradIdeal.nD Cert.FfnLossGradIdeal.τ).loc Cert.FfnLossGradIdeal.main_arg3) = m ((c.tc : Thread Cert.FfnLossGradIdeal.nD Cert.FfnLossGradIdeal.τ).loc Cert.FfnLossGradIdeal.main_arg3)
      ∧ r.2.mem ((c.tc : Thread Cert.FfnLossGradIdeal.nD Cert.FfnLossGradIdeal.τ).loc Cert.FfnLossGradIdeal.main_arg4) = m ((c.tc : Thread Cert.FfnLossGradIdeal.nD Cert.FfnLossGradIdeal.τ).loc Cert.FfnLossGradIdeal.main_arg4)
      ∧ r.2.mem ((c.tc : Thread Cert.FfnLossGradIdeal.nD Cert.FfnLossGradIdeal.τ).loc Cert.FfnLossGradIdeal.main_arg5) = m ((c.tc : Thread Cert.FfnLossGradIdeal.nD Cert.FfnLossGradIdeal.τ).loc Cert.FfnLossGradIdeal.main_arg5)
      ∧ r.2.mem ((c.tc : Thread Cert.FfnLossGradIdeal.nD Cert.FfnLossGradIdeal.τ).loc Cert.FfnLossGradIdeal.main_arg6) = m ((c.tc : Thread Cert.FfnLossGradIdeal.nD Cert.FfnLossGradIdeal.τ).loc Cert.FfnLossGradIdeal.main_arg6))
      ∧ r.2.sem = fun _ => 0)

def preserves_ConvBwd_ConvBwdIdeal : Prop :=
  True

def algebraic_ConvBwdIdeal_ConvGradIdeal [hConvBwdIdeal : Cert.ConvBwdIdeal.Facts] [hConvGradIdeal : Cert.ConvGradIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvGradIdeal.nD Cert.ConvGradIdeal.τ Cert.ConvGradIdeal.sig) → Buf (Elt Ideal) ℓ) (g' : Dev Cert.ConvGradIdeal.nD → PrngReg), Pre_ConvBwdIdeal m →
    (∀ c : Dev Cert.ConvBwdIdeal.nD,
      m' ((c.tc : Thread Cert.ConvGradIdeal.nD Cert.ConvGradIdeal.τ).loc Cert.ConvGradIdeal.main_arg0) = m ((c.tc : Thread Cert.ConvBwdIdeal.nD Cert.ConvBwdIdeal.τ).loc Cert.ConvBwdIdeal.main_arg0)
      ∧ m' ((c.tc : Thread Cert.ConvGradIdeal.nD Cert.ConvGradIdeal.τ).loc Cert.ConvGradIdeal.main_arg1) = m ((c.tc : Thread Cert.ConvBwdIdeal.nD Cert.ConvBwdIdeal.τ).loc Cert.ConvBwdIdeal.main_arg1)
      ∧ m' ((c.tc : Thread Cert.ConvGradIdeal.nD Cert.ConvGradIdeal.τ).loc Cert.ConvGradIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v8_0)) (v1 : (c : Dev Cert.ConvBwdIdeal.nD) → Buf (Elt Ideal) ((c.tc : Thread Cert.ConvBwdIdeal.nD Cert.ConvBwdIdeal.τ).loc Cert.ConvBwdIdeal.main_v8_1)) (v2 : (c : Dev Cert.ConvBwdIdeal.nD) → Buf (Elt Ideal) ((c.tc : Thread Cert.ConvBwdIdeal.nD Cert.ConvBwdIdeal.τ).loc Cert.ConvBwdIdeal.main_v8_2)) (v3 : (c : Dev Cert.ConvBwdIdeal.nD) → Buf (Elt Ideal) ((c.tc : Thread Cert.ConvBwdIdeal.nD Cert.ConvBwdIdeal.τ).loc Cert.ConvBwdIdeal.main_v8_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v8_0) = v0 c
          ∧ r.2.mem ((c.tc : Thread Cert.ConvBwdIdeal.nD Cert.ConvBwdIdeal.τ).loc Cert.ConvBwdIdeal.main_v8_1) = v1 c
          ∧ r.2.mem ((c.tc : Thread Cert.ConvBwdIdeal.nD Cert.ConvBwdIdeal.τ).loc Cert.ConvBwdIdeal.main_v8_2) = v2 c
          ∧ r.2.mem ((c.tc : Thread Cert.ConvBwdIdeal.nD Cert.ConvBwdIdeal.τ).loc Cert.ConvBwdIdeal.main_v8_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvGradIdeal.defs (F := Ideal)) (onTc (τ := Cert.ConvGradIdeal.τ) (Cert.ConvGradIdeal.main (F := Ideal))) ⟨m', fun _ => 0, g'⟩ (fun r => ∀ c : Dev Cert.ConvGradIdeal.nD,
          r.2.mem ((c.tc : Thread Cert.ConvGradIdeal.nD Cert.ConvGradIdeal.τ).loc Cert.ConvGradIdeal.main_v66) = v0 c
          ∧ r.2.mem ((c.tc : Thread Cert.ConvGradIdeal.nD Cert.ConvGradIdeal.τ).loc Cert.ConvGradIdeal.main_v68) = v1 c
          ∧ r.2.mem ((c.tc : Thread Cert.ConvGradIdeal.nD Cert.ConvGradIdeal.τ).loc Cert.ConvGradIdeal.main_v70) = v2 c
          ∧ r.2.mem ((c.tc : Thread Cert.ConvGradIdeal.nD Cert.ConvGradIdeal.τ).loc Cert.ConvGradIdeal.main_v71) = v3 c
          ∧ r.2.mem ((c.tc : Thread Cert.ConvGradIdeal.nD Cert.ConvGradIdeal.τ).loc Cert.ConvGradIdeal.main_arg0) = m' ((c.tc : Thread Cert.ConvGradIdeal.nD Cert.ConvGradIdeal.τ).loc Cert.ConvGradIdeal.main_arg0)
          ∧ r.2.mem ((c.tc : Thread Cert.ConvGradIdeal.nD Cert.ConvGradIdeal.τ).loc Cert.ConvGradIdeal.main_arg1) = m' ((c.tc : Thread Cert.ConvGradIdeal.nD Cert.ConvGradIdeal.τ).loc Cert.ConvGradIdeal.main_arg1)
          ∧ r.2.mem ((c.tc : Thread Cert.ConvGradIdeal.nD Cert.ConvGradIdeal.τ).loc Cert.ConvGradIdeal.main_arg2) = m' ((c.tc : Thread Cert.ConvGradIdeal.nD Cert.ConvGradIdeal.τ).loc Cert.ConvGradIdeal.main_arg2))

def preserves_FgateBwd_FgateBwdIdeal : Prop :=
  True

def algebraic_FgateBwdIdeal_FgateGradIdeal_pre_finite_gate [hFgateBwdIdeal : Cert.FgateBwdIdeal.Facts] [hFgateGradIdeal : Cert.FgateGradIdeal.Facts] [hPre_finite_gate : Cert.Pre_finite_gate.Facts] : Prop :=
  ∀ (m : (ℓ : Loc Cert.FgateBwdIdeal.nD Cert.FgateBwdIdeal.τ Cert.FgateBwdIdeal.sig) → Buf (Elt Ideal) ℓ) (g : Dev Cert.FgateBwdIdeal.nD → PrngReg)
    (m' : (ℓ : Loc Cert.FgateGradIdeal.nD Cert.FgateGradIdeal.τ Cert.FgateGradIdeal.sig) → Buf (Elt Ideal) ℓ) (g' : Dev Cert.FgateGradIdeal.nD → PrngReg), Pre_FgateBwdIdeal_finite_gate m →
    (∀ c : Dev Cert.FgateBwdIdeal.nD,
      m' ((c.tc : Thread Cert.FgateGradIdeal.nD Cert.FgateGradIdeal.τ).loc Cert.FgateGradIdeal.main_arg0) = m ((c.tc : Thread Cert.FgateBwdIdeal.nD Cert.FgateBwdIdeal.τ).loc Cert.FgateBwdIdeal.main_arg0)
      ∧ m' ((c.tc : Thread Cert.FgateGradIdeal.nD Cert.FgateGradIdeal.τ).loc Cert.FgateGradIdeal.main_arg1) = m ((c.tc : Thread Cert.FgateBwdIdeal.nD Cert.FgateBwdIdeal.τ).loc Cert.FgateBwdIdeal.main_arg1)
      ∧ m' ((c.tc : Thread Cert.FgateGradIdeal.nD Cert.FgateGradIdeal.τ).loc Cert.FgateGradIdeal.main_arg2) = m ((c.tc : Thread Cert.FgateBwdIdeal.nD Cert.FgateBwdIdeal.τ).loc Cert.FgateBwdIdeal.main_arg2)) →
    ∃ (v0 : (c : Dev Cert.FgateBwdIdeal.nD) → Buf (Elt Ideal) ((c.tc : Thread Cert.FgateBwdIdeal.nD Cert.FgateBwdIdeal.τ).loc Cert.FgateBwdIdeal.main_v7_0)) (v1 : (c : Dev Cert.FgateBwdIdeal.nD) → Buf (Elt Ideal) ((c.tc : Thread Cert.FgateBwdIdeal.nD Cert.FgateBwdIdeal.τ).loc Cert.FgateBwdIdeal.main_v7_1)),
      θ_run (Cert.FgateBwdIdeal.defs (F := Ideal)) (onTc (τ := Cert.FgateBwdIdeal.τ) (Cert.FgateBwdIdeal.main (F := Ideal))) ⟨m, fun _ => 0, g⟩ (fun r => ∀ c : Dev Cert.FgateBwdIdeal.nD,
          r.2.mem ((c.tc : Thread Cert.FgateBwdIdeal.nD Cert.FgateBwdIdeal.τ).loc Cert.FgateBwdIdeal.main_v7_0) = v0 c
          ∧ r.2.mem ((c.tc : Thread Cert.FgateBwdIdeal.nD Cert.FgateBwdIdeal.τ).loc Cert.FgateBwdIdeal.main_v7_1) = v1 c
          ∧ r.2.mem ((c.tc : Thread Cert.FgateBwdIdeal.nD Cert.FgateBwdIdeal.τ).loc Cert.FgateBwdIdeal.main_arg0) = m ((c.tc : Thread Cert.FgateBwdIdeal.nD Cert.FgateBwdIdeal.τ).loc Cert.FgateBwdIdeal.main_arg0)
          ∧ r.2.mem ((c.tc : Thread Cert.FgateBwdIdeal.nD Cert.FgateBwdIdeal.τ).loc Cert.FgateBwdIdeal.main_arg1) = m ((c.tc : Thread Cert.FgateBwdIdeal.nD Cert.FgateBwdIdeal.τ).loc Cert.FgateBwdIdeal.main_arg1)
          ∧ r.2.mem ((c.tc : Thread Cert.FgateBwdIdeal.nD Cert.FgateBwdIdeal.τ).loc Cert.FgateBwdIdeal.main_arg2) = m ((c.tc : Thread Cert.FgateBwdIdeal.nD Cert.FgateBwdIdeal.τ).loc Cert.FgateBwdIdeal.main_arg2))
      ∧ θ_run (Cert.FgateGradIdeal.defs (F := Ideal)) (onTc (τ := Cert.FgateGradIdeal.τ) (Cert.FgateGradIdeal.main (F := Ideal))) ⟨m', fun _ => 0, g'⟩ (fun r => ∀ c : Dev Cert.FgateGradIdeal.nD,
          r.2.mem ((c.tc : Thread Cert.FgateGradIdeal.nD Cert.FgateGradIdeal.τ).loc Cert.FgateGradIdeal.main_v13) = v0 c
          ∧ r.2.mem ((c.tc : Thread Cert.FgateGradIdeal.nD Cert.FgateGradIdeal.τ).loc Cert.FgateGradIdeal.main_v15) = v1 c
          ∧ r.2.mem ((c.tc : Thread Cert.FgateGradIdeal.nD Cert.FgateGradIdeal.τ).loc Cert.FgateGradIdeal.main_arg0) = m' ((c.tc : Thread Cert.FgateGradIdeal.nD Cert.FgateGradIdeal.τ).loc Cert.FgateGradIdeal.main_arg0)
          ∧ r.2.mem ((c.tc : Thread Cert.FgateGradIdeal.nD Cert.FgateGradIdeal.τ).loc Cert.FgateGradIdeal.main_arg1) = m' ((c.tc : Thread Cert.FgateGradIdeal.nD Cert.FgateGradIdeal.τ).loc Cert.FgateGradIdeal.main_arg1)
          ∧ r.2.mem ((c.tc : Thread Cert.FgateGradIdeal.nD Cert.FgateGradIdeal.τ).loc Cert.FgateGradIdeal.main_arg2) = m' ((c.tc : Thread Cert.FgateGradIdeal.nD Cert.FgateGradIdeal.τ).loc Cert.FgateGradIdeal.main_arg2))

def preserves_AttnBwd_AttnBwdIdeal : Prop :=
  True

def algebraic_AttnBwdIdeal_AttnGradIdeal_pre_finite_attn [hAttnBwdIdeal : Cert.AttnBwdIdeal.Facts] [hAttnGradIdeal : Cert.AttnGradIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnGradIdeal.nD Cert.AttnGradIdeal.τ Cert.AttnGradIdeal.sig) → Buf (Elt Ideal) ℓ) (g' : Dev Cert.AttnGradIdeal.nD → PrngReg), Pre_AttnBwdIdeal_finite_attn m →
    (∀ c : Dev Cert.AttnBwdIdeal.nD,
      m' ((c.tc : Thread Cert.AttnGradIdeal.nD Cert.AttnGradIdeal.τ).loc Cert.AttnGradIdeal.main_arg0) = m ((c.tc : Thread Cert.AttnBwdIdeal.nD Cert.AttnBwdIdeal.τ).loc Cert.AttnBwdIdeal.main_arg0)
      ∧ m' ((c.tc : Thread Cert.AttnGradIdeal.nD Cert.AttnGradIdeal.τ).loc Cert.AttnGradIdeal.main_arg1) = m ((c.tc : Thread Cert.AttnBwdIdeal.nD Cert.AttnBwdIdeal.τ).loc Cert.AttnBwdIdeal.main_arg1)
      ∧ m' ((c.tc : Thread Cert.AttnGradIdeal.nD Cert.AttnGradIdeal.τ).loc Cert.AttnGradIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v74_0)) (v1 : (c : Dev Cert.AttnBwdIdeal.nD) → Buf (Elt Ideal) ((c.tc : Thread Cert.AttnBwdIdeal.nD Cert.AttnBwdIdeal.τ).loc Cert.AttnBwdIdeal.main_v74_1)) (v2 : (c : Dev Cert.AttnBwdIdeal.nD) → Buf (Elt Ideal) ((c.tc : Thread Cert.AttnBwdIdeal.nD Cert.AttnBwdIdeal.τ).loc Cert.AttnBwdIdeal.main_v74_2)) (v3 : (c : Dev Cert.AttnBwdIdeal.nD) → Buf (Elt Ideal) ((c.tc : Thread Cert.AttnBwdIdeal.nD Cert.AttnBwdIdeal.τ).loc Cert.AttnBwdIdeal.main_v78)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v74_0) = v0 c
          ∧ r.2.mem ((c.tc : Thread Cert.AttnBwdIdeal.nD Cert.AttnBwdIdeal.τ).loc Cert.AttnBwdIdeal.main_v74_1) = v1 c
          ∧ r.2.mem ((c.tc : Thread Cert.AttnBwdIdeal.nD Cert.AttnBwdIdeal.τ).loc Cert.AttnBwdIdeal.main_v74_2) = v2 c
          ∧ r.2.mem ((c.tc : Thread Cert.AttnBwdIdeal.nD Cert.AttnBwdIdeal.τ).loc Cert.AttnBwdIdeal.main_v78) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnGradIdeal.defs (F := Ideal)) (onTc (τ := Cert.AttnGradIdeal.τ) (Cert.AttnGradIdeal.main (F := Ideal))) ⟨m', fun _ => 0, g'⟩ (fun r => ∀ c : Dev Cert.AttnGradIdeal.nD,
          r.2.mem ((c.tc : Thread Cert.AttnGradIdeal.nD Cert.AttnGradIdeal.τ).loc Cert.AttnGradIdeal.main_v84) = v0 c
          ∧ r.2.mem ((c.tc : Thread Cert.AttnGradIdeal.nD Cert.AttnGradIdeal.τ).loc Cert.AttnGradIdeal.main_v86) = v1 c
          ∧ r.2.mem ((c.tc : Thread Cert.AttnGradIdeal.nD Cert.AttnGradIdeal.τ).loc Cert.AttnGradIdeal.main_v88) = v2 c
          ∧ r.2.mem ((c.tc : Thread Cert.AttnGradIdeal.nD Cert.AttnGradIdeal.τ).loc Cert.AttnGradIdeal.main_v91) = v3 c
          ∧ r.2.mem ((c.tc : Thread Cert.AttnGradIdeal.nD Cert.AttnGradIdeal.τ).loc Cert.AttnGradIdeal.main_arg0) = m' ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m' ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m' ((c.tc : Thread Cert.AttnGradIdeal.nD Cert.AttnGradIdeal.τ).loc Cert.AttnGradIdeal.main_arg2))

def preserves_MixOutBwd_MixOutBwdIdeal : Prop :=
  True

def algebraic_MixOutBwdIdeal_MixOutGradIdeal [hMixOutBwdIdeal : Cert.MixOutBwdIdeal.Facts] [hMixOutGradIdeal : Cert.MixOutGradIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutGradIdeal.nD Cert.MixOutGradIdeal.τ Cert.MixOutGradIdeal.sig) → Buf (Elt Ideal) ℓ) (g' : Dev Cert.MixOutGradIdeal.nD → PrngReg), Pre_MixOutBwdIdeal m →
    (∀ c : Dev Cert.MixOutBwdIdeal.nD,
      m' ((c.tc : Thread Cert.MixOutGradIdeal.nD Cert.MixOutGradIdeal.τ).loc Cert.MixOutGradIdeal.main_arg0) = m ((c.tc : Thread Cert.MixOutBwdIdeal.nD Cert.MixOutBwdIdeal.τ).loc Cert.MixOutBwdIdeal.main_arg0)
      ∧ m' ((c.tc : Thread Cert.MixOutGradIdeal.nD Cert.MixOutGradIdeal.τ).loc Cert.MixOutGradIdeal.main_arg1) = m ((c.tc : Thread Cert.MixOutBwdIdeal.nD Cert.MixOutBwdIdeal.τ).loc Cert.MixOutBwdIdeal.main_arg1)
      ∧ m' ((c.tc : Thread Cert.MixOutGradIdeal.nD Cert.MixOutGradIdeal.τ).loc Cert.MixOutGradIdeal.main_arg2) = m ((c.tc : Thread Cert.MixOutBwdIdeal.nD Cert.MixOutBwdIdeal.τ).loc Cert.MixOutBwdIdeal.main_arg2)
      ∧ m' ((c.tc : Thread Cert.MixOutGradIdeal.nD Cert.MixOutGradIdeal.τ).loc Cert.MixOutGradIdeal.main_arg3) = m ((c.tc : Thread Cert.MixOutBwdIdeal.nD Cert.MixOutBwdIdeal.τ).loc Cert.MixOutBwdIdeal.main_arg3)
      ∧ m' ((c.tc : Thread Cert.MixOutGradIdeal.nD Cert.MixOutGradIdeal.τ).loc Cert.MixOutGradIdeal.main_arg4) = m ((c.tc : Thread Cert.MixOutBwdIdeal.nD Cert.MixOutBwdIdeal.τ).loc Cert.MixOutBwdIdeal.main_arg4)
      ∧ m' ((c.tc : Thread Cert.MixOutGradIdeal.nD Cert.MixOutGradIdeal.τ).loc Cert.MixOutGradIdeal.main_arg5) = m ((c.tc : Thread Cert.MixOutBwdIdeal.nD Cert.MixOutBwdIdeal.τ).loc Cert.MixOutBwdIdeal.main_arg5)
      ∧ m' ((c.tc : Thread Cert.MixOutGradIdeal.nD Cert.MixOutGradIdeal.τ).loc Cert.MixOutGradIdeal.main_arg6) = m ((c.tc : Thread Cert.MixOutBwdIdeal.nD Cert.MixOutBwdIdeal.τ).loc Cert.MixOutBwdIdeal.main_arg6)) →
    ∃ (v0 : (c : Dev Cert.MixOutBwdIdeal.nD) → Buf (Elt Ideal) ((c.tc : Thread Cert.MixOutBwdIdeal.nD Cert.MixOutBwdIdeal.τ).loc Cert.MixOutBwdIdeal.main_v12_0)) (v1 : (c : Dev Cert.MixOutBwdIdeal.nD) → Buf (Elt Ideal) ((c.tc : Thread Cert.MixOutBwdIdeal.nD Cert.MixOutBwdIdeal.τ).loc Cert.MixOutBwdIdeal.main_v12_1)) (v2 : (c : Dev Cert.MixOutBwdIdeal.nD) → Buf (Elt Ideal) ((c.tc : Thread Cert.MixOutBwdIdeal.nD Cert.MixOutBwdIdeal.τ).loc Cert.MixOutBwdIdeal.main_v12_2)) (v3 : (c : Dev Cert.MixOutBwdIdeal.nD) → Buf (Elt Ideal) ((c.tc : Thread Cert.MixOutBwdIdeal.nD Cert.MixOutBwdIdeal.τ).loc Cert.MixOutBwdIdeal.main_v12_3)) (v4 : (c : Dev Cert.MixOutBwdIdeal.nD) → Buf (Elt Ideal) ((c.tc : Thread Cert.MixOutBwdIdeal.nD Cert.MixOutBwdIdeal.τ).loc Cert.MixOutBwdIdeal.main_v12_4)) (v5 : (c : Dev Cert.MixOutBwdIdeal.nD) → Buf (Elt Ideal) ((c.tc : Thread Cert.MixOutBwdIdeal.nD Cert.MixOutBwdIdeal.τ).loc Cert.MixOutBwdIdeal.main_v12_5)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v12_0) = v0 c
          ∧ r.2.mem ((c.tc : Thread Cert.MixOutBwdIdeal.nD Cert.MixOutBwdIdeal.τ).loc Cert.MixOutBwdIdeal.main_v12_1) = v1 c
          ∧ r.2.mem ((c.tc : Thread Cert.MixOutBwdIdeal.nD Cert.MixOutBwdIdeal.τ).loc Cert.MixOutBwdIdeal.main_v12_2) = v2 c
          ∧ r.2.mem ((c.tc : Thread Cert.MixOutBwdIdeal.nD Cert.MixOutBwdIdeal.τ).loc Cert.MixOutBwdIdeal.main_v12_3) = v3 c
          ∧ r.2.mem ((c.tc : Thread Cert.MixOutBwdIdeal.nD Cert.MixOutBwdIdeal.τ).loc Cert.MixOutBwdIdeal.main_v12_4) = v4 c
          ∧ r.2.mem ((c.tc : Thread Cert.MixOutBwdIdeal.nD Cert.MixOutBwdIdeal.τ).loc Cert.MixOutBwdIdeal.main_v12_5) = v5 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
          ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
          ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
          ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
          ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
          ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6))
      ∧ θ_run (Cert.MixOutGradIdeal.defs (F := Ideal)) (onTc (τ := Cert.MixOutGradIdeal.τ) (Cert.MixOutGradIdeal.main (F := Ideal))) ⟨m', fun _ => 0, g'⟩ (fun r => ∀ c : Dev Cert.MixOutGradIdeal.nD,
          r.2.mem ((c.tc : Thread Cert.MixOutGradIdeal.nD Cert.MixOutGradIdeal.τ).loc Cert.MixOutGradIdeal.main_v45) = v0 c
          ∧ r.2.mem ((c.tc : Thread Cert.MixOutGradIdeal.nD Cert.MixOutGradIdeal.τ).loc Cert.MixOutGradIdeal.main_v46) = v1 c
          ∧ r.2.mem ((c.tc : Thread Cert.MixOutGradIdeal.nD Cert.MixOutGradIdeal.τ).loc Cert.MixOutGradIdeal.main_v47) = v2 c
          ∧ r.2.mem ((c.tc : Thread Cert.MixOutGradIdeal.nD Cert.MixOutGradIdeal.τ).loc Cert.MixOutGradIdeal.main_v48) = v3 c
          ∧ r.2.mem ((c.tc : Thread Cert.MixOutGradIdeal.nD Cert.MixOutGradIdeal.τ).loc Cert.MixOutGradIdeal.main_v49) = v4 c
          ∧ r.2.mem ((c.tc : Thread Cert.MixOutGradIdeal.nD Cert.MixOutGradIdeal.τ).loc Cert.MixOutGradIdeal.main_v50) = v5 c
          ∧ r.2.mem ((c.tc : Thread Cert.MixOutGradIdeal.nD Cert.MixOutGradIdeal.τ).loc Cert.MixOutGradIdeal.main_arg0) = m' ((c.tc : Thread Cert.MixOutGradIdeal.nD Cert.MixOutGradIdeal.τ).loc Cert.MixOutGradIdeal.main_arg0)
          ∧ r.2.mem ((c.tc : Thread Cert.MixOutGradIdeal.nD Cert.MixOutGradIdeal.τ).loc Cert.MixOutGradIdeal.main_arg1) = m' ((c.tc : Thread Cert.MixOutGradIdeal.nD Cert.MixOutGradIdeal.τ).loc Cert.MixOutGradIdeal.main_arg1)
          ∧ r.2.mem ((c.tc : Thread Cert.MixOutGradIdeal.nD Cert.MixOutGradIdeal.τ).loc Cert.MixOutGradIdeal.main_arg2) = m' ((c.tc : Thread Cert.MixOutGradIdeal.nD Cert.MixOutGradIdeal.τ).loc Cert.MixOutGradIdeal.main_arg2)
          ∧ r.2.mem ((c.tc : Thread Cert.MixOutGradIdeal.nD Cert.MixOutGradIdeal.τ).loc Cert.MixOutGradIdeal.main_arg3) = m' ((c.tc : Thread Cert.MixOutGradIdeal.nD Cert.MixOutGradIdeal.τ).loc Cert.MixOutGradIdeal.main_arg3)
          ∧ r.2.mem ((c.tc : Thread Cert.MixOutGradIdeal.nD Cert.MixOutGradIdeal.τ).loc Cert.MixOutGradIdeal.main_arg4) = m' ((c.tc : Thread Cert.MixOutGradIdeal.nD Cert.MixOutGradIdeal.τ).loc Cert.MixOutGradIdeal.main_arg4)
          ∧ r.2.mem ((c.tc : Thread Cert.MixOutGradIdeal.nD Cert.MixOutGradIdeal.τ).loc Cert.MixOutGradIdeal.main_arg5) = m' ((c.tc : Thread Cert.MixOutGradIdeal.nD Cert.MixOutGradIdeal.τ).loc Cert.MixOutGradIdeal.main_arg5)
          ∧ r.2.mem ((c.tc : Thread Cert.MixOutGradIdeal.nD Cert.MixOutGradIdeal.τ).loc Cert.MixOutGradIdeal.main_arg6) = m' ((c.tc : Thread Cert.MixOutGradIdeal.nD Cert.MixOutGradIdeal.τ).loc Cert.MixOutGradIdeal.main_arg6))

def preserves_MixProjBwd_MixProjBwdIdeal : Prop :=
  True

def algebraic_MixProjBwdIdeal_MixProjGradIdeal_pre_finite_norm [hMixProjBwdIdeal : Cert.MixProjBwdIdeal.Facts] [hMixProjGradIdeal : Cert.MixProjGradIdeal.Facts] [hPre_finite_norm : Cert.Pre_finite_norm.Facts] : Prop :=
  ∀ (m : (ℓ : Loc Cert.MixProjBwdIdeal.nD Cert.MixProjBwdIdeal.τ Cert.MixProjBwdIdeal.sig) → Buf (Elt Ideal) ℓ) (g : Dev Cert.MixProjBwdIdeal.nD → PrngReg)
    (m' : (ℓ : Loc Cert.MixProjGradIdeal.nD Cert.MixProjGradIdeal.τ Cert.MixProjGradIdeal.sig) → Buf (Elt Ideal) ℓ) (g' : Dev Cert.MixProjGradIdeal.nD → PrngReg), Pre_MixProjBwdIdeal_finite_norm m →
    (∀ c : Dev Cert.MixProjBwdIdeal.nD,
      m' ((c.tc : Thread Cert.MixProjGradIdeal.nD Cert.MixProjGradIdeal.τ).loc Cert.MixProjGradIdeal.main_arg0) = m ((c.tc : Thread Cert.MixProjBwdIdeal.nD Cert.MixProjBwdIdeal.τ).loc Cert.MixProjBwdIdeal.main_arg0)
      ∧ m' ((c.tc : Thread Cert.MixProjGradIdeal.nD Cert.MixProjGradIdeal.τ).loc Cert.MixProjGradIdeal.main_arg1) = m ((c.tc : Thread Cert.MixProjBwdIdeal.nD Cert.MixProjBwdIdeal.τ).loc Cert.MixProjBwdIdeal.main_arg1)
      ∧ m' ((c.tc : Thread Cert.MixProjGradIdeal.nD Cert.MixProjGradIdeal.τ).loc Cert.MixProjGradIdeal.main_arg2) = m ((c.tc : Thread Cert.MixProjBwdIdeal.nD Cert.MixProjBwdIdeal.τ).loc Cert.MixProjBwdIdeal.main_arg2)
      ∧ m' ((c.tc : Thread Cert.MixProjGradIdeal.nD Cert.MixProjGradIdeal.τ).loc Cert.MixProjGradIdeal.main_arg3) = m ((c.tc : Thread Cert.MixProjBwdIdeal.nD Cert.MixProjBwdIdeal.τ).loc Cert.MixProjBwdIdeal.main_arg3)
      ∧ m' ((c.tc : Thread Cert.MixProjGradIdeal.nD Cert.MixProjGradIdeal.τ).loc Cert.MixProjGradIdeal.main_arg4) = m ((c.tc : Thread Cert.MixProjBwdIdeal.nD Cert.MixProjBwdIdeal.τ).loc Cert.MixProjBwdIdeal.main_arg4)) →
    ∃ (v0 : (c : Dev Cert.MixProjBwdIdeal.nD) → Buf (Elt Ideal) ((c.tc : Thread Cert.MixProjBwdIdeal.nD Cert.MixProjBwdIdeal.τ).loc Cert.MixProjBwdIdeal.main_v28_0)) (v1 : (c : Dev Cert.MixProjBwdIdeal.nD) → Buf (Elt Ideal) ((c.tc : Thread Cert.MixProjBwdIdeal.nD Cert.MixProjBwdIdeal.τ).loc Cert.MixProjBwdIdeal.main_v28_1)),
      θ_run (Cert.MixProjBwdIdeal.defs (F := Ideal)) (onTc (τ := Cert.MixProjBwdIdeal.τ) (Cert.MixProjBwdIdeal.main (F := Ideal))) ⟨m, fun _ => 0, g⟩ (fun r => ∀ c : Dev Cert.MixProjBwdIdeal.nD,
          r.2.mem ((c.tc : Thread Cert.MixProjBwdIdeal.nD Cert.MixProjBwdIdeal.τ).loc Cert.MixProjBwdIdeal.main_v28_0) = v0 c
          ∧ r.2.mem ((c.tc : Thread Cert.MixProjBwdIdeal.nD Cert.MixProjBwdIdeal.τ).loc Cert.MixProjBwdIdeal.main_v28_1) = v1 c
          ∧ r.2.mem ((c.tc : Thread Cert.MixProjBwdIdeal.nD Cert.MixProjBwdIdeal.τ).loc Cert.MixProjBwdIdeal.main_arg0) = m ((c.tc : Thread Cert.MixProjBwdIdeal.nD Cert.MixProjBwdIdeal.τ).loc Cert.MixProjBwdIdeal.main_arg0)
          ∧ r.2.mem ((c.tc : Thread Cert.MixProjBwdIdeal.nD Cert.MixProjBwdIdeal.τ).loc Cert.MixProjBwdIdeal.main_arg1) = m ((c.tc : Thread Cert.MixProjBwdIdeal.nD Cert.MixProjBwdIdeal.τ).loc Cert.MixProjBwdIdeal.main_arg1)
          ∧ r.2.mem ((c.tc : Thread Cert.MixProjBwdIdeal.nD Cert.MixProjBwdIdeal.τ).loc Cert.MixProjBwdIdeal.main_arg2) = m ((c.tc : Thread Cert.MixProjBwdIdeal.nD Cert.MixProjBwdIdeal.τ).loc Cert.MixProjBwdIdeal.main_arg2)
          ∧ r.2.mem ((c.tc : Thread Cert.MixProjBwdIdeal.nD Cert.MixProjBwdIdeal.τ).loc Cert.MixProjBwdIdeal.main_arg3) = m ((c.tc : Thread Cert.MixProjBwdIdeal.nD Cert.MixProjBwdIdeal.τ).loc Cert.MixProjBwdIdeal.main_arg3)
          ∧ r.2.mem ((c.tc : Thread Cert.MixProjBwdIdeal.nD Cert.MixProjBwdIdeal.τ).loc Cert.MixProjBwdIdeal.main_arg4) = m ((c.tc : Thread Cert.MixProjBwdIdeal.nD Cert.MixProjBwdIdeal.τ).loc Cert.MixProjBwdIdeal.main_arg4))
      ∧ θ_run (Cert.MixProjGradIdeal.defs (F := Ideal)) (onTc (τ := Cert.MixProjGradIdeal.τ) (Cert.MixProjGradIdeal.main (F := Ideal))) ⟨m', fun _ => 0, g'⟩ (fun r => ∀ c : Dev Cert.MixProjGradIdeal.nD,
          r.2.mem ((c.tc : Thread Cert.MixProjGradIdeal.nD Cert.MixProjGradIdeal.τ).loc Cert.MixProjGradIdeal.main_v39) = v0 c
          ∧ r.2.mem ((c.tc : Thread Cert.MixProjGradIdeal.nD Cert.MixProjGradIdeal.τ).loc Cert.MixProjGradIdeal.main_v40) = v1 c
          ∧ r.2.mem ((c.tc : Thread Cert.MixProjGradIdeal.nD Cert.MixProjGradIdeal.τ).loc Cert.MixProjGradIdeal.main_arg0) = m' ((c.tc : Thread Cert.MixProjGradIdeal.nD Cert.MixProjGradIdeal.τ).loc Cert.MixProjGradIdeal.main_arg0)
          ∧ r.2.mem ((c.tc : Thread Cert.MixProjGradIdeal.nD Cert.MixProjGradIdeal.τ).loc Cert.MixProjGradIdeal.main_arg1) = m' ((c.tc : Thread Cert.MixProjGradIdeal.nD Cert.MixProjGradIdeal.τ).loc Cert.MixProjGradIdeal.main_arg1)
          ∧ r.2.mem ((c.tc : Thread Cert.MixProjGradIdeal.nD Cert.MixProjGradIdeal.τ).loc Cert.MixProjGradIdeal.main_arg2) = m' ((c.tc : Thread Cert.MixProjGradIdeal.nD Cert.MixProjGradIdeal.τ).loc Cert.MixProjGradIdeal.main_arg2)
          ∧ r.2.mem ((c.tc : Thread Cert.MixProjGradIdeal.nD Cert.MixProjGradIdeal.τ).loc Cert.MixProjGradIdeal.main_arg3) = m' ((c.tc : Thread Cert.MixProjGradIdeal.nD Cert.MixProjGradIdeal.τ).loc Cert.MixProjGradIdeal.main_arg3)
          ∧ r.2.mem ((c.tc : Thread Cert.MixProjGradIdeal.nD Cert.MixProjGradIdeal.τ).loc Cert.MixProjGradIdeal.main_arg4) = m' ((c.tc : Thread Cert.MixProjGradIdeal.nD Cert.MixProjGradIdeal.τ).loc Cert.MixProjGradIdeal.main_arg4))

def preserves_FfnBwdDw_FfnBwdDwIdeal : Prop :=
  True

def algebraic_FfnBwdDwIdeal_FfnDwGradIdeal [hFfnBwdDwIdeal : Cert.FfnBwdDwIdeal.Facts] [hFfnDwGradIdeal : Cert.FfnDwGradIdeal.Facts] : Prop :=
  ∀ (m : (ℓ : Loc Cert.FfnBwdDwIdeal.nD Cert.FfnBwdDwIdeal.τ Cert.FfnBwdDwIdeal.sig) → Buf (Elt Ideal) ℓ) (g : Dev Cert.FfnBwdDwIdeal.nD → PrngReg)
    (m' : (ℓ : Loc Cert.FfnDwGradIdeal.nD Cert.FfnDwGradIdeal.τ Cert.FfnDwGradIdeal.sig) → Buf (Elt Ideal) ℓ) (g' : Dev Cert.FfnDwGradIdeal.nD → PrngReg), Pre_FfnBwdDwIdeal m →
    (∀ c : Dev Cert.FfnBwdDwIdeal.nD,
      m' ((c.tc : Thread Cert.FfnDwGradIdeal.nD Cert.FfnDwGradIdeal.τ).loc Cert.FfnDwGradIdeal.main_arg0) = m ((c.tc : Thread Cert.FfnBwdDwIdeal.nD Cert.FfnBwdDwIdeal.τ).loc Cert.FfnBwdDwIdeal.main_arg0)
      ∧ m' ((c.tc : Thread Cert.FfnDwGradIdeal.nD Cert.FfnDwGradIdeal.τ).loc Cert.FfnDwGradIdeal.main_arg1) = m ((c.tc : Thread Cert.FfnBwdDwIdeal.nD Cert.FfnBwdDwIdeal.τ).loc Cert.FfnBwdDwIdeal.main_arg1)
      ∧ m' ((c.tc : Thread Cert.FfnDwGradIdeal.nD Cert.FfnDwGradIdeal.τ).loc Cert.FfnDwGradIdeal.main_arg2) = m ((c.tc : Thread Cert.FfnBwdDwIdeal.nD Cert.FfnBwdDwIdeal.τ).loc Cert.FfnBwdDwIdeal.main_arg2)
      ∧ m' ((c.tc : Thread Cert.FfnDwGradIdeal.nD Cert.FfnDwGradIdeal.τ).loc Cert.FfnDwGradIdeal.main_arg3) = m ((c.tc : Thread Cert.FfnBwdDwIdeal.nD Cert.FfnBwdDwIdeal.τ).loc Cert.FfnBwdDwIdeal.main_arg3)
      ∧ m' ((c.tc : Thread Cert.FfnDwGradIdeal.nD Cert.FfnDwGradIdeal.τ).loc Cert.FfnDwGradIdeal.main_arg4) = m ((c.tc : Thread Cert.FfnBwdDwIdeal.nD Cert.FfnBwdDwIdeal.τ).loc Cert.FfnBwdDwIdeal.main_arg4)
      ∧ m' ((c.tc : Thread Cert.FfnDwGradIdeal.nD Cert.FfnDwGradIdeal.τ).loc Cert.FfnDwGradIdeal.main_arg5) = m ((c.tc : Thread Cert.FfnBwdDwIdeal.nD Cert.FfnBwdDwIdeal.τ).loc Cert.FfnBwdDwIdeal.main_arg5)) →
    ∃ (v0 : (c : Dev Cert.FfnBwdDwIdeal.nD) → Buf (Elt Ideal) ((c.tc : Thread Cert.FfnBwdDwIdeal.nD Cert.FfnBwdDwIdeal.τ).loc Cert.FfnBwdDwIdeal.main_v18_0)) (v1 : (c : Dev Cert.FfnBwdDwIdeal.nD) → Buf (Elt Ideal) ((c.tc : Thread Cert.FfnBwdDwIdeal.nD Cert.FfnBwdDwIdeal.τ).loc Cert.FfnBwdDwIdeal.main_v18_1)) (v2 : (c : Dev Cert.FfnBwdDwIdeal.nD) → Buf (Elt Ideal) ((c.tc : Thread Cert.FfnBwdDwIdeal.nD Cert.FfnBwdDwIdeal.τ).loc Cert.FfnBwdDwIdeal.main_v18_2)),
      θ_run (Cert.FfnBwdDwIdeal.defs (F := Ideal)) (onTc (τ := Cert.FfnBwdDwIdeal.τ) (Cert.FfnBwdDwIdeal.main (F := Ideal))) ⟨m, fun _ => 0, g⟩ (fun r => ∀ c : Dev Cert.FfnBwdDwIdeal.nD,
          r.2.mem ((c.tc : Thread Cert.FfnBwdDwIdeal.nD Cert.FfnBwdDwIdeal.τ).loc Cert.FfnBwdDwIdeal.main_v18_0) = v0 c
          ∧ r.2.mem ((c.tc : Thread Cert.FfnBwdDwIdeal.nD Cert.FfnBwdDwIdeal.τ).loc Cert.FfnBwdDwIdeal.main_v18_1) = v1 c
          ∧ r.2.mem ((c.tc : Thread Cert.FfnBwdDwIdeal.nD Cert.FfnBwdDwIdeal.τ).loc Cert.FfnBwdDwIdeal.main_v18_2) = v2 c
          ∧ r.2.mem ((c.tc : Thread Cert.FfnBwdDwIdeal.nD Cert.FfnBwdDwIdeal.τ).loc Cert.FfnBwdDwIdeal.main_arg0) = m ((c.tc : Thread Cert.FfnBwdDwIdeal.nD Cert.FfnBwdDwIdeal.τ).loc Cert.FfnBwdDwIdeal.main_arg0)
          ∧ r.2.mem ((c.tc : Thread Cert.FfnBwdDwIdeal.nD Cert.FfnBwdDwIdeal.τ).loc Cert.FfnBwdDwIdeal.main_arg1) = m ((c.tc : Thread Cert.FfnBwdDwIdeal.nD Cert.FfnBwdDwIdeal.τ).loc Cert.FfnBwdDwIdeal.main_arg1)
          ∧ r.2.mem ((c.tc : Thread Cert.FfnBwdDwIdeal.nD Cert.FfnBwdDwIdeal.τ).loc Cert.FfnBwdDwIdeal.main_arg2) = m ((c.tc : Thread Cert.FfnBwdDwIdeal.nD Cert.FfnBwdDwIdeal.τ).loc Cert.FfnBwdDwIdeal.main_arg2)
          ∧ r.2.mem ((c.tc : Thread Cert.FfnBwdDwIdeal.nD Cert.FfnBwdDwIdeal.τ).loc Cert.FfnBwdDwIdeal.main_arg3) = m ((c.tc : Thread Cert.FfnBwdDwIdeal.nD Cert.FfnBwdDwIdeal.τ).loc Cert.FfnBwdDwIdeal.main_arg3)
          ∧ r.2.mem ((c.tc : Thread Cert.FfnBwdDwIdeal.nD Cert.FfnBwdDwIdeal.τ).loc Cert.FfnBwdDwIdeal.main_arg4) = m ((c.tc : Thread Cert.FfnBwdDwIdeal.nD Cert.FfnBwdDwIdeal.τ).loc Cert.FfnBwdDwIdeal.main_arg4)
          ∧ r.2.mem ((c.tc : Thread Cert.FfnBwdDwIdeal.nD Cert.FfnBwdDwIdeal.τ).loc Cert.FfnBwdDwIdeal.main_arg5) = m ((c.tc : Thread Cert.FfnBwdDwIdeal.nD Cert.FfnBwdDwIdeal.τ).loc Cert.FfnBwdDwIdeal.main_arg5))
      ∧ θ_run (Cert.FfnDwGradIdeal.defs (F := Ideal)) (onTc (τ := Cert.FfnDwGradIdeal.τ) (Cert.FfnDwGradIdeal.main (F := Ideal))) ⟨m', fun _ => 0, g'⟩ (fun r => ∀ c : Dev Cert.FfnDwGradIdeal.nD,
          r.2.mem ((c.tc : Thread Cert.FfnDwGradIdeal.nD Cert.FfnDwGradIdeal.τ).loc Cert.FfnDwGradIdeal.main_v17) = v0 c
          ∧ r.2.mem ((c.tc : Thread Cert.FfnDwGradIdeal.nD Cert.FfnDwGradIdeal.τ).loc Cert.FfnDwGradIdeal.main_v19) = v1 c
          ∧ r.2.mem ((c.tc : Thread Cert.FfnDwGradIdeal.nD Cert.FfnDwGradIdeal.τ).loc Cert.FfnDwGradIdeal.main_v21) = v2 c
          ∧ r.2.mem ((c.tc : Thread Cert.FfnDwGradIdeal.nD Cert.FfnDwGradIdeal.τ).loc Cert.FfnDwGradIdeal.main_arg0) = m' ((c.tc : Thread Cert.FfnDwGradIdeal.nD Cert.FfnDwGradIdeal.τ).loc Cert.FfnDwGradIdeal.main_arg0)
          ∧ r.2.mem ((c.tc : Thread Cert.FfnDwGradIdeal.nD Cert.FfnDwGradIdeal.τ).loc Cert.FfnDwGradIdeal.main_arg1) = m' ((c.tc : Thread Cert.FfnDwGradIdeal.nD Cert.FfnDwGradIdeal.τ).loc Cert.FfnDwGradIdeal.main_arg1)
          ∧ r.2.mem ((c.tc : Thread Cert.FfnDwGradIdeal.nD Cert.FfnDwGradIdeal.τ).loc Cert.FfnDwGradIdeal.main_arg2) = m' ((c.tc : Thread Cert.FfnDwGradIdeal.nD Cert.FfnDwGradIdeal.τ).loc Cert.FfnDwGradIdeal.main_arg2)
          ∧ r.2.mem ((c.tc : Thread Cert.FfnDwGradIdeal.nD Cert.FfnDwGradIdeal.τ).loc Cert.FfnDwGradIdeal.main_arg3) = m' ((c.tc : Thread Cert.FfnDwGradIdeal.nD Cert.FfnDwGradIdeal.τ).loc Cert.FfnDwGradIdeal.main_arg3)
          ∧ r.2.mem ((c.tc : Thread Cert.FfnDwGradIdeal.nD Cert.FfnDwGradIdeal.τ).loc Cert.FfnDwGradIdeal.main_arg4) = m' ((c.tc : Thread Cert.FfnDwGradIdeal.nD Cert.FfnDwGradIdeal.τ).loc Cert.FfnDwGradIdeal.main_arg4)
          ∧ r.2.mem ((c.tc : Thread Cert.FfnDwGradIdeal.nD Cert.FfnDwGradIdeal.τ).loc Cert.FfnDwGradIdeal.main_arg5) = m' ((c.tc : Thread Cert.FfnDwGradIdeal.nD Cert.FfnDwGradIdeal.τ).loc Cert.FfnDwGradIdeal.main_arg5))

def preserves_FfnBwdDx_FfnBwdDxIdeal : Prop :=
  True

def algebraic_FfnBwdDxIdeal_FfnGradIdeal_pre_finite_ffn [hFfnBwdDxIdeal : Cert.FfnBwdDxIdeal.Facts] [hFfnGradIdeal : Cert.FfnGradIdeal.Facts] [hPre_finite_ffn : Cert.Pre_finite_ffn.Facts] : Prop :=
  ∀ (m : (ℓ : Loc Cert.FfnBwdDxIdeal.nD Cert.FfnBwdDxIdeal.τ Cert.FfnBwdDxIdeal.sig) → Buf (Elt Ideal) ℓ) (g : Dev Cert.FfnBwdDxIdeal.nD → PrngReg)
    (m' : (ℓ : Loc Cert.FfnGradIdeal.nD Cert.FfnGradIdeal.τ Cert.FfnGradIdeal.sig) → Buf (Elt Ideal) ℓ) (g' : Dev Cert.FfnGradIdeal.nD → PrngReg), Pre_FfnBwdDxIdeal_finite_ffn m →
    (∀ c : Dev Cert.FfnBwdDxIdeal.nD,
      m' ((c.tc : Thread Cert.FfnGradIdeal.nD Cert.FfnGradIdeal.τ).loc Cert.FfnGradIdeal.main_arg0) = m ((c.tc : Thread Cert.FfnBwdDxIdeal.nD Cert.FfnBwdDxIdeal.τ).loc Cert.FfnBwdDxIdeal.main_arg0)
      ∧ m' ((c.tc : Thread Cert.FfnGradIdeal.nD Cert.FfnGradIdeal.τ).loc Cert.FfnGradIdeal.main_arg1) = m ((c.tc : Thread Cert.FfnBwdDxIdeal.nD Cert.FfnBwdDxIdeal.τ).loc Cert.FfnBwdDxIdeal.main_arg1)
      ∧ m' ((c.tc : Thread Cert.FfnGradIdeal.nD Cert.FfnGradIdeal.τ).loc Cert.FfnGradIdeal.main_arg2) = m ((c.tc : Thread Cert.FfnBwdDxIdeal.nD Cert.FfnBwdDxIdeal.τ).loc Cert.FfnBwdDxIdeal.main_arg2)
      ∧ m' ((c.tc : Thread Cert.FfnGradIdeal.nD Cert.FfnGradIdeal.τ).loc Cert.FfnGradIdeal.main_arg3) = m ((c.tc : Thread Cert.FfnBwdDxIdeal.nD Cert.FfnBwdDxIdeal.τ).loc Cert.FfnBwdDxIdeal.main_arg3)
      ∧ m' ((c.tc : Thread Cert.FfnGradIdeal.nD Cert.FfnGradIdeal.τ).loc Cert.FfnGradIdeal.main_arg4) = m ((c.tc : Thread Cert.FfnBwdDxIdeal.nD Cert.FfnBwdDxIdeal.τ).loc Cert.FfnBwdDxIdeal.main_arg4)
      ∧ m' ((c.tc : Thread Cert.FfnGradIdeal.nD Cert.FfnGradIdeal.τ).loc Cert.FfnGradIdeal.main_arg5) = m ((c.tc : Thread Cert.FfnBwdDxIdeal.nD Cert.FfnBwdDxIdeal.τ).loc Cert.FfnBwdDxIdeal.main_arg5)) →
    ∃ (v0 : (c : Dev Cert.FfnBwdDxIdeal.nD) → Buf (Elt Ideal) ((c.tc : Thread Cert.FfnBwdDxIdeal.nD Cert.FfnBwdDxIdeal.τ).loc Cert.FfnBwdDxIdeal.main_v32_0)) (v1 : (c : Dev Cert.FfnBwdDxIdeal.nD) → Buf (Elt Ideal) ((c.tc : Thread Cert.FfnBwdDxIdeal.nD Cert.FfnBwdDxIdeal.τ).loc Cert.FfnBwdDxIdeal.main_v32_1)) (v2 : (c : Dev Cert.FfnBwdDxIdeal.nD) → Buf (Elt Ideal) ((c.tc : Thread Cert.FfnBwdDxIdeal.nD Cert.FfnBwdDxIdeal.τ).loc Cert.FfnBwdDxIdeal.main_v32_2)) (v3 : (c : Dev Cert.FfnBwdDxIdeal.nD) → Buf (Elt Ideal) ((c.tc : Thread Cert.FfnBwdDxIdeal.nD Cert.FfnBwdDxIdeal.τ).loc Cert.FfnBwdDxIdeal.main_v32_3)) (v4 : (c : Dev Cert.FfnBwdDxIdeal.nD) → Buf (Elt Ideal) ((c.tc : Thread Cert.FfnBwdDxIdeal.nD Cert.FfnBwdDxIdeal.τ).loc Cert.FfnBwdDxIdeal.main_v32_4)),
      θ_run (Cert.FfnBwdDxIdeal.defs (F := Ideal)) (onTc (τ := Cert.FfnBwdDxIdeal.τ) (Cert.FfnBwdDxIdeal.main (F := Ideal))) ⟨m, fun _ => 0, g⟩ (fun r => ∀ c : Dev Cert.FfnBwdDxIdeal.nD,
          r.2.mem ((c.tc : Thread Cert.FfnBwdDxIdeal.nD Cert.FfnBwdDxIdeal.τ).loc Cert.FfnBwdDxIdeal.main_v32_0) = v0 c
          ∧ r.2.mem ((c.tc : Thread Cert.FfnBwdDxIdeal.nD Cert.FfnBwdDxIdeal.τ).loc Cert.FfnBwdDxIdeal.main_v32_1) = v1 c
          ∧ r.2.mem ((c.tc : Thread Cert.FfnBwdDxIdeal.nD Cert.FfnBwdDxIdeal.τ).loc Cert.FfnBwdDxIdeal.main_v32_2) = v2 c
          ∧ r.2.mem ((c.tc : Thread Cert.FfnBwdDxIdeal.nD Cert.FfnBwdDxIdeal.τ).loc Cert.FfnBwdDxIdeal.main_v32_3) = v3 c
          ∧ r.2.mem ((c.tc : Thread Cert.FfnBwdDxIdeal.nD Cert.FfnBwdDxIdeal.τ).loc Cert.FfnBwdDxIdeal.main_v32_4) = v4 c
          ∧ r.2.mem ((c.tc : Thread Cert.FfnBwdDxIdeal.nD Cert.FfnBwdDxIdeal.τ).loc Cert.FfnBwdDxIdeal.main_arg0) = m ((c.tc : Thread Cert.FfnBwdDxIdeal.nD Cert.FfnBwdDxIdeal.τ).loc Cert.FfnBwdDxIdeal.main_arg0)
          ∧ r.2.mem ((c.tc : Thread Cert.FfnBwdDxIdeal.nD Cert.FfnBwdDxIdeal.τ).loc Cert.FfnBwdDxIdeal.main_arg1) = m ((c.tc : Thread Cert.FfnBwdDxIdeal.nD Cert.FfnBwdDxIdeal.τ).loc Cert.FfnBwdDxIdeal.main_arg1)
          ∧ r.2.mem ((c.tc : Thread Cert.FfnBwdDxIdeal.nD Cert.FfnBwdDxIdeal.τ).loc Cert.FfnBwdDxIdeal.main_arg2) = m ((c.tc : Thread Cert.FfnBwdDxIdeal.nD Cert.FfnBwdDxIdeal.τ).loc Cert.FfnBwdDxIdeal.main_arg2)
          ∧ r.2.mem ((c.tc : Thread Cert.FfnBwdDxIdeal.nD Cert.FfnBwdDxIdeal.τ).loc Cert.FfnBwdDxIdeal.main_arg3) = m ((c.tc : Thread Cert.FfnBwdDxIdeal.nD Cert.FfnBwdDxIdeal.τ).loc Cert.FfnBwdDxIdeal.main_arg3)
          ∧ r.2.mem ((c.tc : Thread Cert.FfnBwdDxIdeal.nD Cert.FfnBwdDxIdeal.τ).loc Cert.FfnBwdDxIdeal.main_arg4) = m ((c.tc : Thread Cert.FfnBwdDxIdeal.nD Cert.FfnBwdDxIdeal.τ).loc Cert.FfnBwdDxIdeal.main_arg4)
          ∧ r.2.mem ((c.tc : Thread Cert.FfnBwdDxIdeal.nD Cert.FfnBwdDxIdeal.τ).loc Cert.FfnBwdDxIdeal.main_arg5) = m ((c.tc : Thread Cert.FfnBwdDxIdeal.nD Cert.FfnBwdDxIdeal.τ).loc Cert.FfnBwdDxIdeal.main_arg5))
      ∧ θ_run (Cert.FfnGradIdeal.defs (F := Ideal)) (onTc (τ := Cert.FfnGradIdeal.τ) (Cert.FfnGradIdeal.main (F := Ideal))) ⟨m', fun _ => 0, g'⟩ (fun r => ∀ c : Dev Cert.FfnGradIdeal.nD,
          r.2.mem ((c.tc : Thread Cert.FfnGradIdeal.nD Cert.FfnGradIdeal.τ).loc Cert.FfnGradIdeal.main_v55) = v0 c
          ∧ r.2.mem ((c.tc : Thread Cert.FfnGradIdeal.nD Cert.FfnGradIdeal.τ).loc Cert.FfnGradIdeal.main_v58) = v1 c
          ∧ r.2.mem ((c.tc : Thread Cert.FfnGradIdeal.nD Cert.FfnGradIdeal.τ).loc Cert.FfnGradIdeal.main_v61) = v2 c
          ∧ r.2.mem ((c.tc : Thread Cert.FfnGradIdeal.nD Cert.FfnGradIdeal.τ).loc Cert.FfnGradIdeal.main_v62) = v3 c
          ∧ r.2.mem ((c.tc : Thread Cert.FfnGradIdeal.nD Cert.FfnGradIdeal.τ).loc Cert.FfnGradIdeal.main_v64) = v4 c
          ∧ r.2.mem ((c.tc : Thread Cert.FfnGradIdeal.nD Cert.FfnGradIdeal.τ).loc Cert.FfnGradIdeal.main_arg0) = m' ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m' ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m' ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m' ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m' ((c.tc : Thread Cert.FfnGradIdeal.nD Cert.FfnGradIdeal.τ).loc Cert.FfnGradIdeal.main_arg4)
          ∧ r.2.mem ((c.tc : Thread Cert.FfnGradIdeal.nD Cert.FfnGradIdeal.τ).loc Cert.FfnGradIdeal.main_arg5) = m' ((c.tc : Thread Cert.FfnGradIdeal.nD Cert.FfnGradIdeal.τ).loc Cert.FfnGradIdeal.main_arg5))

def preserves_FfnLoss_FfnLossIdeal : Prop :=
  True

def algebraic_FfnLossIdeal_FfnLossGradIdeal_pre_finite_loss [hFfnLossIdeal : Cert.FfnLossIdeal.Facts] [hFfnLossGradIdeal : Cert.FfnLossGradIdeal.Facts] [hPre_finite_loss : Cert.Pre_finite_loss.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossGradIdeal.nD Cert.FfnLossGradIdeal.τ Cert.FfnLossGradIdeal.sig) → Buf (Elt Ideal) ℓ) (g' : Dev Cert.FfnLossGradIdeal.nD → PrngReg), Pre_FfnLossIdeal_finite_loss m →
    (∀ c : Dev Cert.FfnLossIdeal.nD,
      m' ((c.tc : Thread Cert.FfnLossGradIdeal.nD Cert.FfnLossGradIdeal.τ).loc Cert.FfnLossGradIdeal.main_arg0) = m ((c.tc : Thread Cert.FfnLossIdeal.nD Cert.FfnLossIdeal.τ).loc Cert.FfnLossIdeal.main_arg0)
      ∧ m' ((c.tc : Thread Cert.FfnLossGradIdeal.nD Cert.FfnLossGradIdeal.τ).loc Cert.FfnLossGradIdeal.main_arg1) = m ((c.tc : Thread Cert.FfnLossIdeal.nD Cert.FfnLossIdeal.τ).loc Cert.FfnLossIdeal.main_arg1)
      ∧ m' ((c.tc : Thread Cert.FfnLossGradIdeal.nD Cert.FfnLossGradIdeal.τ).loc Cert.FfnLossGradIdeal.main_arg2) = m ((c.tc : Thread Cert.FfnLossIdeal.nD Cert.FfnLossIdeal.τ).loc Cert.FfnLossIdeal.main_arg2)
      ∧ m' ((c.tc : Thread Cert.FfnLossGradIdeal.nD Cert.FfnLossGradIdeal.τ).loc Cert.FfnLossGradIdeal.main_arg3) = m ((c.tc : Thread Cert.FfnLossIdeal.nD Cert.FfnLossIdeal.τ).loc Cert.FfnLossIdeal.main_arg3)
      ∧ m' ((c.tc : Thread Cert.FfnLossGradIdeal.nD Cert.FfnLossGradIdeal.τ).loc Cert.FfnLossGradIdeal.main_arg4) = m ((c.tc : Thread Cert.FfnLossIdeal.nD Cert.FfnLossIdeal.τ).loc Cert.FfnLossIdeal.main_arg4)
      ∧ m' ((c.tc : Thread Cert.FfnLossGradIdeal.nD Cert.FfnLossGradIdeal.τ).loc Cert.FfnLossGradIdeal.main_arg5) = m ((c.tc : Thread Cert.FfnLossIdeal.nD Cert.FfnLossIdeal.τ).loc Cert.FfnLossIdeal.main_arg5)
      ∧ m' ((c.tc : Thread Cert.FfnLossGradIdeal.nD Cert.FfnLossGradIdeal.τ).loc Cert.FfnLossGradIdeal.main_arg6) = m ((c.tc : Thread Cert.FfnLossIdeal.nD Cert.FfnLossIdeal.τ).loc Cert.FfnLossIdeal.main_arg6)) →
    ∃ (v0 : (c : Dev Cert.FfnLossIdeal.nD) → Buf (Elt Ideal) ((c.tc : Thread Cert.FfnLossIdeal.nD Cert.FfnLossIdeal.τ).loc Cert.FfnLossIdeal.main_v12_0)) (v1 : (c : Dev Cert.FfnLossIdeal.nD) → Buf (Elt Ideal) ((c.tc : Thread Cert.FfnLossIdeal.nD Cert.FfnLossIdeal.τ).loc Cert.FfnLossIdeal.main_v12_1)) (v2 : (c : Dev Cert.FfnLossIdeal.nD) → Buf (Elt Ideal) ((c.tc : Thread Cert.FfnLossIdeal.nD Cert.FfnLossIdeal.τ).loc Cert.FfnLossIdeal.main_v12_2)) (v3 : (c : Dev Cert.FfnLossIdeal.nD) → Buf (Elt Ideal) ((c.tc : Thread Cert.FfnLossIdeal.nD Cert.FfnLossIdeal.τ).loc Cert.FfnLossIdeal.main_v12_3)) (v4 : (c : Dev Cert.FfnLossIdeal.nD) → Buf (Elt Ideal) ((c.tc : Thread Cert.FfnLossIdeal.nD Cert.FfnLossIdeal.τ).loc Cert.FfnLossIdeal.main_v12_4)) (v5 : (c : Dev Cert.FfnLossIdeal.nD) → Buf (Elt Ideal) ((c.tc : Thread Cert.FfnLossIdeal.nD Cert.FfnLossIdeal.τ).loc Cert.FfnLossIdeal.main_v12_5)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v12_0) = v0 c
          ∧ r.2.mem ((c.tc : Thread Cert.FfnLossIdeal.nD Cert.FfnLossIdeal.τ).loc Cert.FfnLossIdeal.main_v12_1) = v1 c
          ∧ r.2.mem ((c.tc : Thread Cert.FfnLossIdeal.nD Cert.FfnLossIdeal.τ).loc Cert.FfnLossIdeal.main_v12_2) = v2 c
          ∧ r.2.mem ((c.tc : Thread Cert.FfnLossIdeal.nD Cert.FfnLossIdeal.τ).loc Cert.FfnLossIdeal.main_v12_3) = v3 c
          ∧ r.2.mem ((c.tc : Thread Cert.FfnLossIdeal.nD Cert.FfnLossIdeal.τ).loc Cert.FfnLossIdeal.main_v12_4) = v4 c
          ∧ r.2.mem ((c.tc : Thread Cert.FfnLossIdeal.nD Cert.FfnLossIdeal.τ).loc Cert.FfnLossIdeal.main_v12_5) = v5 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
          ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
          ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ θ_run (Cert.FfnLossGradIdeal.defs (F := Ideal)) (onTc (τ := Cert.FfnLossGradIdeal.τ) (Cert.FfnLossGradIdeal.main (F := Ideal))) ⟨m', fun _ => 0, g'⟩ (fun r => ∀ c : Dev Cert.FfnLossGradIdeal.nD,
          r.2.mem ((c.tc : Thread Cert.FfnLossGradIdeal.nD Cert.FfnLossGradIdeal.τ).loc Cert.FfnLossGradIdeal.main_v72) = v0 c
          ∧ r.2.mem ((c.tc : Thread Cert.FfnLossGradIdeal.nD Cert.FfnLossGradIdeal.τ).loc Cert.FfnLossGradIdeal.main_v75) = v1 c
          ∧ r.2.mem ((c.tc : Thread Cert.FfnLossGradIdeal.nD Cert.FfnLossGradIdeal.τ).loc Cert.FfnLossGradIdeal.main_v78) = v2 c
          ∧ r.2.mem ((c.tc : Thread Cert.FfnLossGradIdeal.nD Cert.FfnLossGradIdeal.τ).loc Cert.FfnLossGradIdeal.main_v80) = v3 c
          ∧ r.2.mem ((c.tc : Thread Cert.FfnLossGradIdeal.nD Cert.FfnLossGradIdeal.τ).loc Cert.FfnLossGradIdeal.main_v81) = v4 c
          ∧ r.2.mem ((c.tc : Thread Cert.FfnLossGradIdeal.nD Cert.FfnLossGradIdeal.τ).loc Cert.FfnLossGradIdeal.main_v82) = v5 c
          ∧ r.2.mem ((c.tc : Thread Cert.FfnLossGradIdeal.nD Cert.FfnLossGradIdeal.τ).loc Cert.FfnLossGradIdeal.main_arg0) = m' ((c.tc : Thread Cert.FfnLossGradIdeal.nD Cert.FfnLossGradIdeal.τ).loc Cert.FfnLossGradIdeal.main_arg0)
          ∧ r.2.mem ((c.tc : Thread Cert.FfnLossGradIdeal.nD Cert.FfnLossGradIdeal.τ).loc Cert.FfnLossGradIdeal.main_arg1) = m' ((c.tc : Thread Cert.FfnLossGradIdeal.nD Cert.FfnLossGradIdeal.τ).loc Cert.FfnLossGradIdeal.main_arg1)
          ∧ r.2.mem ((c.tc : Thread Cert.FfnLossGradIdeal.nD Cert.FfnLossGradIdeal.τ).loc Cert.FfnLossGradIdeal.main_arg2) = m' ((c.tc : Thread Cert.FfnLossGradIdeal.nD Cert.FfnLossGradIdeal.τ).loc Cert.FfnLossGradIdeal.main_arg2)
          ∧ r.2.mem ((c.tc : Thread Cert.FfnLossGradIdeal.nD Cert.FfnLossGradIdeal.τ).loc Cert.FfnLossGradIdeal.main_arg3) = m' ((c.tc : Thread Cert.FfnLossGradIdeal.nD Cert.FfnLossGradIdeal.τ).loc Cert.FfnLossGradIdeal.main_arg3)
          ∧ r.2.mem ((c.tc : Thread Cert.FfnLossGradIdeal.nD Cert.FfnLossGradIdeal.τ).loc Cert.FfnLossGradIdeal.main_arg4) = m' ((c.tc : Thread Cert.FfnLossGradIdeal.nD Cert.FfnLossGradIdeal.τ).loc Cert.FfnLossGradIdeal.main_arg4)
          ∧ r.2.mem ((c.tc : Thread Cert.FfnLossGradIdeal.nD Cert.FfnLossGradIdeal.τ).loc Cert.FfnLossGradIdeal.main_arg5) = m' ((c.tc : Thread Cert.FfnLossGradIdeal.nD Cert.FfnLossGradIdeal.τ).loc Cert.FfnLossGradIdeal.main_arg5)
          ∧ r.2.mem ((c.tc : Thread Cert.FfnLossGradIdeal.nD Cert.FfnLossGradIdeal.τ).loc Cert.FfnLossGradIdeal.main_arg6) = m' ((c.tc : Thread Cert.FfnLossGradIdeal.nD Cert.FfnLossGradIdeal.τ).loc Cert.FfnLossGradIdeal.main_arg6))

def Claim : Prop :=
  ∃ (hConvBwd : Cert.ConvBwd.Facts) (hConvBwdIdeal : Cert.ConvBwdIdeal.Facts) (hConvGradIdeal : Cert.ConvGradIdeal.Facts) (hFgateBwd : Cert.FgateBwd.Facts) (hFgateBwdIdeal : Cert.FgateBwdIdeal.Facts) (hFgateGradIdeal : Cert.FgateGradIdeal.Facts) (hAttnBwd : Cert.AttnBwd.Facts) (hAttnBwdIdeal : Cert.AttnBwdIdeal.Facts) (hAttnGradIdeal : Cert.AttnGradIdeal.Facts) (hMixOutBwd : Cert.MixOutBwd.Facts) (hMixOutBwdIdeal : Cert.MixOutBwdIdeal.Facts) (hMixOutGradIdeal : Cert.MixOutGradIdeal.Facts) (hMixProjBwd : Cert.MixProjBwd.Facts) (hMixProjBwdIdeal : Cert.MixProjBwdIdeal.Facts) (hMixProjGradIdeal : Cert.MixProjGradIdeal.Facts) (hFfnBwdDw : Cert.FfnBwdDw.Facts) (hFfnBwdDwIdeal : Cert.FfnBwdDwIdeal.Facts) (hFfnDwGradIdeal : Cert.FfnDwGradIdeal.Facts) (hFfnBwdDx : Cert.FfnBwdDx.Facts) (hFfnBwdDxIdeal : Cert.FfnBwdDxIdeal.Facts) (hFfnGradIdeal : Cert.FfnGradIdeal.Facts) (hFfnLoss : Cert.FfnLoss.Facts) (hFfnLossIdeal : Cert.FfnLossIdeal.Facts) (hFfnLossGradIdeal : Cert.FfnLossGradIdeal.Facts) (hPre_finite_gate : Cert.Pre_finite_gate.Facts) (hPre_finite_attn : Cert.Pre_finite_attn.Facts) (hPre_finite_norm : Cert.Pre_finite_norm.Facts) (hPre_finite_ffn : Cert.Pre_finite_ffn.Facts) (hPre_finite_loss : Cert.Pre_finite_loss.Facts),
    quiescent_ConvBwd (hConvBwd := hConvBwd)
    ∧ quiescent_ConvBwdIdeal (hConvBwdIdeal := hConvBwdIdeal)
    ∧ quiescent_ConvGradIdeal (hConvGradIdeal := hConvGradIdeal)
    ∧ quiescent_FgateBwd (hFgateBwd := hFgateBwd)
    ∧ quiescent_FgateBwdIdeal (hFgateBwdIdeal := hFgateBwdIdeal)
    ∧ quiescent_FgateBwdIdeal_pre_finite_gate (hFgateBwdIdeal := hFgateBwdIdeal) (hPre_finite_gate := hPre_finite_gate)
    ∧ quiescent_FgateGradIdeal (hFgateGradIdeal := hFgateGradIdeal)
    ∧ quiescent_FgateGradIdeal_pre_finite_gate (hFgateGradIdeal := hFgateGradIdeal) (hPre_finite_gate := hPre_finite_gate)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnGradIdeal (hAttnGradIdeal := hAttnGradIdeal)
    ∧ quiescent_AttnGradIdeal_pre_finite_attn (hAttnGradIdeal := hAttnGradIdeal) (hPre_finite_attn := hPre_finite_attn)
    ∧ quiescent_MixOutBwd (hMixOutBwd := hMixOutBwd)
    ∧ quiescent_MixOutBwdIdeal (hMixOutBwdIdeal := hMixOutBwdIdeal)
    ∧ quiescent_MixOutGradIdeal (hMixOutGradIdeal := hMixOutGradIdeal)
    ∧ quiescent_MixProjBwd (hMixProjBwd := hMixProjBwd)
    ∧ quiescent_MixProjBwdIdeal (hMixProjBwdIdeal := hMixProjBwdIdeal)
    ∧ quiescent_MixProjBwdIdeal_pre_finite_norm (hMixProjBwdIdeal := hMixProjBwdIdeal) (hPre_finite_norm := hPre_finite_norm)
    ∧ quiescent_MixProjGradIdeal (hMixProjGradIdeal := hMixProjGradIdeal)
    ∧ quiescent_MixProjGradIdeal_pre_finite_norm (hMixProjGradIdeal := hMixProjGradIdeal) (hPre_finite_norm := hPre_finite_norm)
    ∧ quiescent_FfnBwdDw (hFfnBwdDw := hFfnBwdDw)
    ∧ quiescent_FfnBwdDwIdeal (hFfnBwdDwIdeal := hFfnBwdDwIdeal)
    ∧ quiescent_FfnDwGradIdeal (hFfnDwGradIdeal := hFfnDwGradIdeal)
    ∧ quiescent_FfnBwdDx (hFfnBwdDx := hFfnBwdDx)
    ∧ quiescent_FfnBwdDxIdeal (hFfnBwdDxIdeal := hFfnBwdDxIdeal)
    ∧ quiescent_FfnBwdDxIdeal_pre_finite_ffn (hFfnBwdDxIdeal := hFfnBwdDxIdeal) (hPre_finite_ffn := hPre_finite_ffn)
    ∧ quiescent_FfnGradIdeal (hFfnGradIdeal := hFfnGradIdeal)
    ∧ quiescent_FfnGradIdeal_pre_finite_ffn (hFfnGradIdeal := hFfnGradIdeal) (hPre_finite_ffn := hPre_finite_ffn)
    ∧ quiescent_FfnLoss (hFfnLoss := hFfnLoss)
    ∧ quiescent_FfnLossIdeal (hFfnLossIdeal := hFfnLossIdeal)
    ∧ quiescent_FfnLossIdeal_pre_finite_loss (hFfnLossIdeal := hFfnLossIdeal) (hPre_finite_loss := hPre_finite_loss)
    ∧ quiescent_FfnLossGradIdeal (hFfnLossGradIdeal := hFfnLossGradIdeal)
    ∧ quiescent_FfnLossGradIdeal_pre_finite_loss (hFfnLossGradIdeal := hFfnLossGradIdeal) (hPre_finite_loss := hPre_finite_loss)
    ∧ preserves_ConvBwd_ConvBwdIdeal
    ∧ algebraic_ConvBwdIdeal_ConvGradIdeal (hConvBwdIdeal := hConvBwdIdeal) (hConvGradIdeal := hConvGradIdeal)
    ∧ preserves_FgateBwd_FgateBwdIdeal
    ∧ algebraic_FgateBwdIdeal_FgateGradIdeal_pre_finite_gate (hFgateBwdIdeal := hFgateBwdIdeal) (hFgateGradIdeal := hFgateGradIdeal) (hPre_finite_gate := hPre_finite_gate)
    ∧ preserves_AttnBwd_AttnBwdIdeal
    ∧ algebraic_AttnBwdIdeal_AttnGradIdeal_pre_finite_attn (hAttnBwdIdeal := hAttnBwdIdeal) (hAttnGradIdeal := hAttnGradIdeal) (hPre_finite_attn := hPre_finite_attn)
    ∧ preserves_MixOutBwd_MixOutBwdIdeal
    ∧ algebraic_MixOutBwdIdeal_MixOutGradIdeal (hMixOutBwdIdeal := hMixOutBwdIdeal) (hMixOutGradIdeal := hMixOutGradIdeal)
    ∧ preserves_MixProjBwd_MixProjBwdIdeal
    ∧ algebraic_MixProjBwdIdeal_MixProjGradIdeal_pre_finite_norm (hMixProjBwdIdeal := hMixProjBwdIdeal) (hMixProjGradIdeal := hMixProjGradIdeal) (hPre_finite_norm := hPre_finite_norm)
    ∧ preserves_FfnBwdDw_FfnBwdDwIdeal
    ∧ algebraic_FfnBwdDwIdeal_FfnDwGradIdeal (hFfnBwdDwIdeal := hFfnBwdDwIdeal) (hFfnDwGradIdeal := hFfnDwGradIdeal)
    ∧ preserves_FfnBwdDx_FfnBwdDxIdeal
    ∧ algebraic_FfnBwdDxIdeal_FfnGradIdeal_pre_finite_ffn (hFfnBwdDxIdeal := hFfnBwdDxIdeal) (hFfnGradIdeal := hFfnGradIdeal) (hPre_finite_ffn := hPre_finite_ffn)
    ∧ preserves_FfnLoss_FfnLossIdeal
    ∧ algebraic_FfnLossIdeal_FfnLossGradIdeal_pre_finite_loss (hFfnLossIdeal := hFfnLossIdeal) (hFfnLossGradIdeal := hFfnLossGradIdeal) (hPre_finite_loss := hPre_finite_loss)
-- ==== Pre_finite_attn.lean ====
abbrev S2x2048x1536 : Shape := ⟨3, ![2, 2048, 1536]⟩
abbrev S2x8x2048 : Shape := ⟨3, ![2, 8, 2048]⟩
abbrev S2x2048x8x64 : Shape := ⟨4, ![2, 2048, 8, 64]⟩
abbrev S_ : Shape := ⟨0, ![]⟩

class Facts : Prop where
  bcast_S_S2x2048x1536 : S_.BroadcastsInDim S2x2048x1536 (![] : Fin 0 → Fin S2x2048x1536.rank)
  bcast_S_S2x8x2048 : S_.BroadcastsInDim S2x8x2048 (![] : Fin 0 → Fin S2x8x2048.rank)
  bcast_S_S2x2048x8x64 : S_.BroadcastsInDim S2x2048x8x64 (![] : Fin 0 → Fin S2x2048x8x64.rank)

variable [Facts]

def fn {F : FTy → Type} [FloatOps F] (main_arg0 : FVec F S2x2048x1536 .f32) (main_arg1 : FVec F S2x8x2048 .f32) (main_arg2 : FVec F S2x2048x8x64 .f32) : IVec S2x2048x1536 1 × IVec S2x8x2048 1 × IVec S2x2048x8x64 1 :=
  let main_v0 : FVec F S2x2048x1536 .f32 := Host.absf main_arg0
  let main_cst : FVec F S_ .f32 := constant S_ .f32 0x7F800000#32
  let main_v1 : FVec F S2x2048x1536 .f32 := broadcastInDim S2x2048x1536 ![] bcast_S_S2x2048x1536 main_cst
  let main_v2 : IVec S2x2048x1536 1 := cmpf .olt main_v0 main_v1
  let main_v3 : FVec F S2x8x2048 .f32 := Host.absf main_arg1
  let main_cst_0 : FVec F S_ .f32 := constant S_ .f32 0x7F800000#32
  let main_v4 : FVec F S2x8x2048 .f32 := broadcastInDim S2x8x2048 ![] bcast_S_S2x8x2048 main_cst_0
  let main_v5 : IVec S2x8x2048 1 := cmpf .olt main_v3 main_v4
  let main_v6 : FVec F S2x2048x8x64 .f32 := Host.absf main_arg2
  let main_cst_1 : FVec F S_ .f32 := constant S_ .f32 0x7F800000#32
  let main_v7 : FVec F S2x2048x8x64 .f32 := broadcastInDim S2x2048x8x64 ![] bcast_S_S2x2048x8x64 main_cst_1
  let main_v8 : IVec S2x2048x8x64 1 := cmpf .olt main_v6 main_v7
  (main_v2, main_v5, main_v8)
-- ==== Pre_finite_ffn.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S2x2048x1024 .f32) (main_arg1 : FVec F S1024 .f32) (main_arg2 : FVec F S1024x2816 .f32) (main_arg3 : FVec F S1024x2816 .f32) (main_arg4 : FVec F S2816x1024 .f32) (main_arg5 : FVec F S2x2048x1024 .f32) : IVec S2x2048x1024 1 × IVec S1024 1 × IVec S1024x2816 1 × IVec S1024x2816 1 × IVec S2816x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S2x2048x1024 .f32 := Host.absf main_arg5
  let main_cst_4 : FVec F S_ .f32 := constant S_ .f32 0x7F800000#32
  let main_v16 : FVec F S2x2048x1024 .f32 := broadcastInDim S2x2048x1024 ![] bcast_S_S2x2048x1024 main_cst_4
  let main_v17 : IVec S2x2048x1024 1 := cmpf .olt main_v15 main_v16
  (main_v2, main_v5, main_v8, main_v11, main_v14, main_v17)
-- ==== Pre_finite_gate.lean ====
abbrev S2x2048x8 : Shape := ⟨3, ![2, 2048, 8]⟩
abbrev S8 : Shape := ⟨1, ![8]⟩
abbrev S2x8x2048 : Shape := ⟨3, ![2, 8, 2048]⟩
abbrev S_ : Shape := ⟨0, ![]⟩

class Facts : Prop where
  bcast_S_S2x2048x8 : S_.BroadcastsInDim S2x2048x8 (![] : Fin 0 → Fin S2x2048x8.rank)
  bcast_S_S8 : S_.BroadcastsInDim S8 (![] : Fin 0 → Fin S8.rank)

variable [Facts]

def fn {F : FTy → Type} [FloatOps F] (main_arg0 : FVec F S2x2048x8 .f32) (main_arg1 : FVec F S8 .f32) (main_arg2 : FVec F S2x8x2048 .f32) : IVec S2x2048x8 1 × IVec S8 1 :=
  let main_v0 : FVec F S2x2048x8 .f32 := Host.absf main_arg0
  let main_cst : FVec F S_ .f32 := constant S_ .f32 0x7F800000#32
  let main_v1 : FVec F S2x2048x8 .f32 := broadcastInDim S2x2048x8 ![] bcast_S_S2x2048x8 main_cst
  let main_v2 : IVec S2x2048x8 1 := cmpf .olt main_v0 main_v1
  let main_v3 : FVec F S8 .f32 := Host.absf main_arg1
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  (main_v2, main_v5)
-- ==== Pre_finite_loss.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S1024 .f32) (main_v2 : IVec S2x2048x1024 1) (main_v5 : IVec S1024 1) (main_v8 : IVec S1024x2816 1) (main_v11 : IVec S1024x2816 1) (main_v14 : IVec S2816x1024 1) (main_v17 : IVec S2x2048x1024 1) : IVec S2x2048x1024 1 × IVec S1024 1 × IVec S1024x2816 1 × IVec S1024x2816 1 × IVec S2816x1024 1 × IVec S2x2048x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S2x2048x1024 .f32) (main_arg1 : FVec F S1024 .f32) (main_arg2 : FVec F S1024x2816 .f32) (main_arg3 : FVec F S1024x2816 .f32) (main_arg4 : FVec F S2816x1024 .f32) (main_arg5 : FVec F S2x2048x1024 .f32) (main_arg6 : FVec F S1024 .f32) : IVec S2x2048x1024 1 × IVec S1024 1 × IVec S1024x2816 1 × IVec S1024x2816 1 × IVec S2816x1024 1 × IVec S2x2048x1024 1 × IVec S1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S2x2048x1024 .f32 := Host.absf main_arg5
  let main_cst_4 : FVec F S_ .f32 := constant S_ .f32 0x7F800000#32
  let main_v16 : FVec F S2x2048x1024 .f32 := broadcastInDim S2x2048x1024 ![] bcast_S_S2x2048x1024 main_cst_4
  let main_v17 : IVec S2x2048x1024 1 := cmpf .olt main_v15 main_v16
  fn_part1 (F := F) main_arg6 main_v2 main_v5 main_v8 main_v11 main_v14 main_v17
-- ==== Pre_finite_norm.lean ====
abbrev S2x2048x1024 : Shape := ⟨3, ![2, 2048, 1024]⟩
abbrev S1024 : Shape := ⟨1, ![1024]⟩
abbrev S1024x5128 : Shape := ⟨2, ![1024, 5128]⟩
abbrev S2x2048x5128 : Shape := ⟨3, ![2, 2048, 5128]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bcast_S_S1024x5128 : S_.BroadcastsInDim S1024x5128 (![] : Fin 0 → Fin S1024x5128.rank)
  bcast_S_S2x2048x5128 : S_.BroadcastsInDim S2x2048x5128 (![] : Fin 0 → Fin S2x2048x5128.rank)

variable [Facts]

def fn {F : FTy → Type} [FloatOps F] (main_arg0 : FVec F S2x2048x1024 .f32) (main_arg1 : FVec F S1024 .f32) (main_arg2 : FVec F S1024x5128 .f32) (main_arg3 : FVec F S2x2048x1024 .f32) (main_arg4 : FVec F S2x2048x5128 .f32) : IVec S2x2048x1024 1 × IVec S1024 1 × IVec S1024x5128 1 × IVec S2x2048x5128 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5128 .f32 := Host.absf main_arg2
  let main_cst_1 : FVec F S_ .f32 := constant S_ .f32 0x7F800000#32
  let main_v7 : FVec F S1024x5128 .f32 := broadcastInDim S1024x5128 ![] bcast_S_S1024x5128 main_cst_1
  let main_v8 : IVec S1024x5128 1 := cmpf .olt main_v6 main_v7
  let main_v9 : FVec F S2x2048x5128 .f32 := Host.absf main_arg4
  let main_cst_2 : FVec F S_ .f32 := constant S_ .f32 0x7F800000#32
  let main_v10 : FVec F S2x2048x5128 .f32 := broadcastInDim S2x2048x5128 ![] bcast_S_S2x2048x5128 main_cst_2
  let main_v11 : IVec S2x2048x5128 1 := cmpf .olt main_v9 main_v10
  (main_v2, main_v5, main_v8, main_v11)
-- ==== ConvBwd.lean ====
abbrev S2x2048x5128 : Shape := ⟨3, ![2, 2048, 5128]⟩
abbrev S3x512 : Shape := ⟨2, ![3, 512]⟩
abbrev S2x2048x512 : Shape := ⟨3, ![2, 2048, 512]⟩
abbrev S4096x512 : Shape := ⟨2, ![4096, 512]⟩
abbrev S4096x5128 : Shape := ⟨2, ![4096, 5128]⟩
abbrev S4096x1536 : Shape := ⟨2, ![4096, 1536]⟩
abbrev S4096x3584 : Shape := ⟨2, ![4096, 3584]⟩
abbrev S4096x5120 : Shape := ⟨2, ![4096, 5120]⟩
abbrev S_ : Shape := ⟨0, ![]⟩
abbrev S8x512 : Shape := ⟨2, ![8, 512]⟩
abbrev S2048x128 : Shape := ⟨2, ![2048, 128]⟩
abbrev S8x128 : Shape := ⟨2, ![8, 128]⟩
abbrev S1x128 : Shape := ⟨2, ![1, 128]⟩
abbrev S128 : Shape := ⟨1, ![128]⟩

abbrev nBuf : Space → Nat
  | .hbm => 17
  | .vmem => 18
  | .smem => 0
  | _ => 0

abbrev bufTy : (tb : Table) → Fin (tcTables nBuf tb) → BufTy
  | .hbm, ⟨0, _⟩ => ⟨S2x2048x5128, .f32⟩
  | .hbm, ⟨1, _⟩ => ⟨S3x512, .f32⟩
  | .hbm, ⟨2, _⟩ => ⟨S2x2048x512, .f32⟩
  | .hbm, ⟨3, _⟩ => ⟨S4096x512, .f32⟩
  | .hbm, ⟨4, _⟩ => ⟨S4096x512, .bf16⟩
  | .hbm, ⟨5, _⟩ => ⟨S4096x5128, .f32⟩
  | .hbm, ⟨6, _⟩ => ⟨S4096x1536, .f32⟩
  | .hbm, ⟨7, _⟩ => ⟨S4096x3584, .f32⟩
  | .hbm, ⟨8, _⟩ => ⟨S4096x5120, .f32⟩
  | .hbm, ⟨9, _⟩ => ⟨S4096x5120, .bf16⟩
  | .hbm, ⟨10, _⟩ => ⟨S_, .i32⟩
  | .hbm, ⟨11, _⟩ => ⟨S_, .f32⟩
  | .hbm, ⟨12, _⟩ => ⟨S8x512, .f32⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S8x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S8x128, .f32⟩
  | .local _ .vmem, ⟨9, _⟩ => ⟨S8x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S8x128, .f32⟩
  | .local _ .vmem, ⟨17, _⟩ => ⟨S8x128, .f32⟩
  | _, _ => ⟨S2x2048x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvGradIdeal.lean ====
abbrev S2x2048x5128 : Shape := ⟨3, ![2, 2048, 5128]⟩
abbrev S3x512 : Shape := ⟨2, ![3, 512]⟩
abbrev S2x2048x512 : Shape := ⟨3, ![2, 2048, 512]⟩
abbrev S_ : Shape := ⟨0, ![]⟩
abbrev S2x2x512 : Shape := ⟨3, ![2, 2, 512]⟩
abbrev S2x2050x512 : Shape := ⟨3, ![2, 2050, 512]⟩
abbrev S1x512 : Shape := ⟨2, ![1, 512]⟩
abbrev S512 : Shape := ⟨1, ![512]⟩
abbrev S1x1x512 : Shape := ⟨3, ![1, 1, 512]⟩
abbrev S4096x512 : Shape := ⟨2, ![4096, 512]⟩
abbrev S8x512 : Shape := ⟨2, ![8, 512]⟩

abbrev nBuf : Space → Nat
  | .hbm => 91
  | .vmem => 0
  | .smem => 0
  | _ => 0

abbrev bufTy : (tb : Table) → Fin (tcTables nBuf tb) → BufTy
  | .hbm, ⟨0, _⟩ => ⟨S2x2048x5128, .f32⟩
  | .hbm, ⟨1, _⟩ => ⟨S3x512, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S_, .f32⟩
  | .hbm, ⟨8, _⟩ => ⟨S2x2x512, .f32⟩
  | .hbm, ⟨9, _⟩ => ⟨S2x2050x512, .f32⟩
  | .hbm, ⟨10, _⟩ => ⟨S_, .f32⟩
  | .hbm, ⟨11, _⟩ => ⟨S2x2x512, .f32⟩
  | .hbm, ⟨12, _⟩ => ⟨S1x512, .f32⟩
  | .hbm, ⟨13, _⟩ => ⟨S512, .f32⟩
  | .hbm, ⟨14, _⟩ => ⟨S2x2048x512, .f32⟩
  | .hbm, ⟨15, _⟩ => ⟨S1x1x512, .f32⟩
  | .hbm, ⟨16, _⟩ => ⟨S2x2048x512, .f32⟩
  | .hbm, ⟨17, _⟩ => ⟨S2x2048x512, .f32⟩
  | .hbm, ⟨18, _⟩ => ⟨S1x512, .f32⟩
  | .hbm, ⟨19, _⟩ => ⟨S512, .f32⟩
  | .hbm, ⟨20, _⟩ => ⟨S2x2048x512, .f32⟩
  | .hbm, ⟨21, _⟩ => ⟨S1x1x512, .f32⟩
  | .hbm, ⟨22, _⟩ => ⟨S2x2048x512, .f32⟩
  | .hbm, ⟨23, _⟩ => ⟨S2x2048x512, .f32⟩
  | .hbm, ⟨24, _⟩ => ⟨S2x2048x512, .f32⟩
  | .hbm, ⟨25, _⟩ => ⟨S1x512, .f32⟩
  | .hbm, ⟨26, _⟩ => ⟨S512, .f32⟩
  | .hbm, ⟨27, _⟩ => ⟨S2x2048x512, .f32⟩
  | .hbm, ⟨28, _⟩ => ⟨S1x1x512, .f32⟩
  | .hbm, ⟨29, _⟩ => ⟨S2x2048x512, .f32⟩
  | .hbm, ⟨30, _⟩ => ⟨S2x2048x512, .f32⟩
  | .hbm, ⟨31, _⟩ => ⟨S2x2048x512, .f32⟩
  | .hbm, ⟨32, _⟩ => ⟨S2x2048x512, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S2x2048x512, .f32⟩
  | .hbm, ⟨37, _⟩ => ⟨S2x2048x512, .f32⟩
  | .hbm, ⟨38, _⟩ => ⟨S_, .f32⟩
  | .hbm, ⟨39, _⟩ => ⟨S512, .f32⟩
  | .hbm, ⟨40, _⟩ => ⟨S1x1x512, .f32⟩
  | .hbm, ⟨41, _⟩ => ⟨S_, .f32⟩
  | .hbm, ⟨42, _⟩ => ⟨S512, .f32⟩
  | .hbm, ⟨43, _⟩ => ⟨S_, .f32⟩
  | .hbm, ⟨44, _⟩ => ⟨S2x2050x512, .f32⟩
  | .hbm, ⟨45, _⟩ => ⟨S1x512, .f32⟩
  | .hbm, ⟨46, _⟩ => ⟨S_, .f32⟩
  | .hbm, ⟨47, _⟩ => ⟨S3x512, .f32⟩
  | .hbm, ⟨48, _⟩ => ⟨S2x2048x512, .f32⟩
  | .hbm, ⟨49, _⟩ => ⟨S2x2048x512, .f32⟩
  | .hbm, ⟨50, _⟩ => ⟨S2x2048x512, .f32⟩
  | .hbm, ⟨51, _⟩ => ⟨S_, .f32⟩
  | .hbm, ⟨52, _⟩ => ⟨S512, .f32⟩
  | .hbm, ⟨53, _⟩ => ⟨S1x1x512, .f32⟩
  | .hbm, ⟨54, _⟩ => ⟨S_, .f32⟩
  | .hbm, ⟨55, _⟩ => ⟨S512, .f32⟩
  | .hbm, ⟨56, _⟩ => ⟨S_, .f32⟩
  | .hbm, ⟨57, _⟩ => ⟨S2x2050x512, .f32⟩
  | .hbm, ⟨58, _⟩ => ⟨S2x2050x512, .f32⟩
  | .hbm, ⟨59, _⟩ => ⟨S1x512, .f32⟩
  | .hbm, ⟨60, _⟩ => ⟨S_, .f32⟩
  | .hbm, ⟨61, _⟩ => ⟨S3x512, .f32⟩
  | .hbm, ⟨62, _⟩ => ⟨S3x512, .f32⟩
  | .hbm, ⟨63, _⟩ => ⟨S2x2048x512, .f32⟩
  | .hbm, ⟨64, _⟩ => ⟨S2x2048x512, .f32⟩
  | .hbm, ⟨65, _⟩ => ⟨S2x2048x512, .f32⟩
  | .hbm, ⟨66, _⟩ => ⟨S_, .f32⟩
  | .hbm, ⟨67, _⟩ => ⟨S512, .f32⟩
  | .hbm, ⟨68, _⟩ => ⟨S1x1x512, .f32⟩
  | .hbm, ⟨69, _⟩ => ⟨S_, .f32⟩
  | .hbm, ⟨70, _⟩ => ⟨S512, .f32⟩
  | .hbm, ⟨71, _⟩ => ⟨S_, .f32⟩
  | .hbm, ⟨72, _⟩ => ⟨S2x2050x512, .f32⟩
  | .hbm, ⟨73, _⟩ => ⟨S2x2050x512, .f32⟩
  | .hbm, ⟨74, _⟩ => ⟨S1x512, .f32⟩
  | .hbm, ⟨75, _⟩ => ⟨S_, .f32⟩
  | .hbm, ⟨76, _⟩ => ⟨S3x512, .f32⟩
  | .hbm, ⟨77, _⟩ => ⟨S3x512, .f32⟩
  | .hbm, ⟨78, _⟩ => ⟨S2x2x512, .f32⟩
  | .hbm, ⟨79, _⟩ => ⟨S2x2048x512, .f32⟩
  | .hbm, ⟨80, _⟩ => ⟨S2x2048x512, .f32⟩
  | .hbm, ⟨81, _⟩ => ⟨S2x2048x512, .f32⟩
  | .hbm, ⟨82, _⟩ => ⟨S4096x512, .f32⟩
  | .hbm, ⟨83, _⟩ => ⟨S4096x512, .bf16⟩
  | .hbm, ⟨84, _⟩ => ⟨S4096x512, .f32⟩
  | .hbm, ⟨85, _⟩ => ⟨S4096x512, .bf16⟩
  | .hbm, ⟨86, _⟩ => ⟨S4096x512, .f32⟩
  | .hbm, ⟨87, _⟩ => ⟨S4096x512, .bf16⟩
  | .hbm, ⟨88, _⟩ => ⟨S_, .i32⟩
  | .hbm, ⟨89, _⟩ => ⟨S_, .f32⟩
  | .hbm, ⟨90, _⟩ => ⟨S8x512, .f32⟩
  | _, _ => ⟨S2x2048x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_c : Ref sig .tc := ⟨.hbm, 88, rfl⟩
abbrev main_call0_v0 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== FgateBwd.lean ====
abbrev S2x2048x8 : Shape := ⟨3, ![2, 2048, 8]⟩
abbrev S8 : Shape := ⟨1, ![8]⟩
abbrev S2x8x2048 : Shape := ⟨3, ![2, 8, 2048]⟩
abbrev S4096x8 : Shape := ⟨2, ![4096, 8]⟩
abbrev S_ : Shape := ⟨0, ![]⟩
abbrev S4096x128 : Shape := ⟨2, ![4096, 128]⟩
abbrev S1x8 : Shape := ⟨2, ![1, 8]⟩
abbrev S1x128 : Shape := ⟨2, ![1, 128]⟩
abbrev S2048x128 : Shape := ⟨2, ![2048, 128]⟩
abbrev S256x256 : Shape := ⟨2, ![256, 256]⟩
abbrev S256x128 : Shape := ⟨2, ![256, 128]⟩
abbrev S128 : Shape := ⟨1, ![128]⟩

abbrev nBuf : Space → Nat
  | .hbm => 18
  | .vmem => 8
  | .smem => 0
  | _ => 0

abbrev bufTy : (tb : Table) → Fin (tcTables nBuf tb) → BufTy
  | .hbm, ⟨0, _⟩ => ⟨S2x2048x8, .f32⟩
  | .hbm, ⟨1, _⟩ => ⟨S8, .f32⟩
  | .hbm, ⟨2, _⟩ => ⟨S2x8x2048, .f32⟩
  | .hbm, ⟨3, _⟩ => ⟨S2x2048x8, .f32⟩
  | .hbm, ⟨4, _⟩ => ⟨S4096x8, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S4096x8, .f32⟩
  | .hbm, ⟨9, _⟩ => ⟨S_, .i32⟩
  | .hbm, ⟨10, _⟩ => ⟨S_, .f32⟩
  | .hbm, ⟨11, _⟩ => ⟨S4096x128, .f32⟩
  | .hbm, ⟨12, _⟩ => ⟨S1x8, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S4096x128, .f32⟩
  | .hbm, ⟨17, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S1x128, .f32⟩
  | _, _ => ⟨S2x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FgateGradIdeal.lean ====
abbrev S2x2048x8 : Shape := ⟨3, ![2, 2048, 8]⟩
abbrev S8 : Shape := ⟨1, ![8]⟩
abbrev S2x8x2048 : Shape := ⟨3, ![2, 8, 2048]⟩
abbrev S1x1x8 : Shape := ⟨3, ![1, 1, 8]⟩
abbrev S_ : Shape := ⟨0, ![]⟩
abbrev S4096x8 : Shape := ⟨2, ![4096, 8]⟩
abbrev S4096x128 : Shape := ⟨2, ![4096, 128]⟩
abbrev S1x8 : Shape := ⟨2, ![1, 8]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S2x2048x8, .f32⟩
  | .hbm, ⟨1, _⟩ => ⟨S8, .f32⟩
  | .hbm, ⟨2, _⟩ => ⟨S2x8x2048, .f32⟩
  | .hbm, ⟨3, _⟩ => ⟨S1x1x8, .f32⟩
  | .hbm, ⟨4, _⟩ => ⟨S2x2048x8, .f32⟩
  | .hbm, ⟨5, _⟩ => ⟨S2x2048x8, .f32⟩
  | .hbm, ⟨6, _⟩ => ⟨S2x2048x8, .f32⟩
  | .hbm, ⟨7, _⟩ => ⟨S_, .f32⟩
  | .hbm, ⟨8, _⟩ => ⟨S2x2048x8, .f32⟩
  | .hbm, ⟨9, _⟩ => ⟨S2x2048x8, .f32⟩
  | .hbm, ⟨10, _⟩ => ⟨S2x2048x8, .f32⟩
  | .hbm, ⟨11, _⟩ => ⟨S2x2048x8, .f32⟩
  | .hbm, ⟨12, _⟩ => ⟨S2x2048x8, .i1⟩
  | .hbm, ⟨13, _⟩ => ⟨S2x2048x8, .f32⟩
  | .hbm, ⟨14, _⟩ => ⟨S2x2048x8, .f32⟩
  | .hbm, ⟨15, _⟩ => ⟨S2x2048x8, .f32⟩
  | .hbm, ⟨16, _⟩ => ⟨S2x2048x8, .f32⟩
  | .hbm, ⟨17, _⟩ => ⟨S2x2048x8, .f32⟩
  | .hbm, ⟨18, _⟩ => ⟨S2x2048x8, .f32⟩
  | .hbm, ⟨19, _⟩ => ⟨S2x2048x8, .f32⟩
  | .hbm, ⟨20, _⟩ => ⟨S2x2048x8, .f32⟩
  | .hbm, ⟨21, _⟩ => ⟨S_, .f32⟩
  | .hbm, ⟨22, _⟩ => ⟨S2x2048x8, .f32⟩
  | .hbm, ⟨23, _⟩ => ⟨S2x2048x8, .i1⟩
  | .hbm, ⟨24, _⟩ => ⟨S_, .f32⟩
  | .hbm, ⟨25, _⟩ => ⟨S2x2048x8, .f32⟩
  | .hbm, ⟨26, _⟩ => ⟨S2x2048x8, .f32⟩
  | .hbm, ⟨27, _⟩ => ⟨S_, .f32⟩
  | .hbm, ⟨28, _⟩ => ⟨S2x2048x8, .f32⟩
  | .hbm, ⟨29, _⟩ => ⟨S2x2048x8, .i1⟩
  | .hbm, ⟨30, _⟩ => ⟨S_, .f32⟩
  | .hbm, ⟨31, _⟩ => ⟨S2x2048x8, .f32⟩
  | .hbm, ⟨32, _⟩ => ⟨S2x2048x8, .f32⟩
  | .hbm, ⟨33, _⟩ => ⟨S2x2048x8, .f32⟩
  | .hbm, ⟨34, _⟩ => ⟨S2x2048x8, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2x2048x8, .f32⟩
  | .hbm, ⟨43, _⟩ => ⟨S2x2048x8, .i1⟩
  | .hbm, ⟨44, _⟩ => ⟨S_, .f32⟩
  | .hbm, ⟨45, _⟩ => ⟨S2x2048x8, .f32⟩
  | .hbm, ⟨46, _⟩ => ⟨S2x2048x8, .f32⟩
  | .hbm, ⟨47, _⟩ => ⟨S2x2048x8, .f32⟩
  | .hbm, ⟨48, _⟩ => ⟨S2x2048x8, .f32⟩
  | .hbm, ⟨49, _⟩ => ⟨S2x2048x8, .f32⟩
  | .hbm, ⟨50, _⟩ => ⟨S_, .f32⟩
  | .hbm, ⟨51, _⟩ => ⟨S2x2048x8, .f32⟩
  | .hbm, ⟨52, _⟩ => ⟨S2x2048x8, .f32⟩
  | .hbm, ⟨53, _⟩ => ⟨S2x2048x8, .f32⟩
  | .hbm, ⟨54, _⟩ => ⟨S_, .f32⟩
  | .hbm, ⟨55, _⟩ => ⟨S_, .f32⟩
  | .hbm, ⟨56, _⟩ => ⟨S2x2048x8, .f32⟩
  | .hbm, ⟨57, _⟩ => ⟨S2x8x2048, .f32⟩
  | .hbm, ⟨58, _⟩ => ⟨S2x2048x8, .f32⟩
  | .hbm, ⟨59, _⟩ => ⟨S_, .f32⟩
  | .hbm, ⟨60, _⟩ => ⟨S_, .f32⟩
  | .hbm, ⟨61, _⟩ => ⟨S2x2048x8, .f32⟩
  | .hbm, ⟨62, _⟩ => ⟨S2x2048x8, .f32⟩
  | .hbm, ⟨63, _⟩ => ⟨S2x2048x8, .f32⟩
  | .hbm, ⟨64, _⟩ => ⟨S2x2048x8, .f32⟩
  | .hbm, ⟨65, _⟩ => ⟨S_, .f32⟩
  | .hbm, ⟨66, _⟩ => ⟨S8, .f32⟩
  | .hbm, ⟨67, _⟩ => ⟨S1x1x8, .f32⟩
  | .hbm, ⟨68, _⟩ => ⟨S_, .f32⟩
  | .hbm, ⟨69, _⟩ => ⟨S8, .f32⟩
  | .hbm, ⟨70, _⟩ => ⟨S4096x8, .f32⟩
  | .hbm, ⟨71, _⟩ => ⟨S_, .i32⟩
  | .hbm, ⟨72, _⟩ => ⟨S_, .f32⟩
  | .hbm, ⟨73, _⟩ => ⟨S4096x128, .f32⟩
  | .hbm, ⟨74, _⟩ => ⟨S1x8, .f32⟩
  | .hbm, ⟨75, _⟩ => ⟨S_, .i32⟩
  | .hbm, ⟨76, _⟩ => ⟨S_, .f32⟩
  | .hbm, ⟨77, _⟩ => ⟨S1x128, .f32⟩
  | _, _ => ⟨S2x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_call2_call0_cst : Ref sig .tc := ⟨.hbm, 59, rfl⟩
abbrev main_call2_call0_v0 : Ref sig .tc := ⟨.hbm, 60, rfl⟩
abbrev main_v7 : Ref sig .tc := ⟨.hbm, 61, rfl⟩
abbrev main_call3_v0 : Ref sig .tc := ⟨.hbm, 62, rfl⟩
abbrev main_call3_v1 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_cst_0 : Ref sig .tc := ⟨.hbm, 68, rfl⟩
abbrev main_v11 : Ref sig .tc := ⟨.hbm, 69, rfl⟩
abbrev main_v12 : Ref sig .tc := ⟨.hbm, 70, rfl⟩
abbrev main_c : Ref sig .tc := ⟨.hbm, 71, rfl⟩
abbrev main_call4_v0 : Ref sig .tc := ⟨.hbm, 72, rfl⟩
abbrev main_v13 : Ref sig .tc := ⟨.hbm, 73, rfl⟩
abbrev main_v14 : Ref sig .tc := ⟨.hbm, 74, rfl⟩
abbrev main_c_1 : Ref sig .tc := ⟨.hbm, 75, rfl⟩
abbrev main_call5_v0 : Ref sig .tc := ⟨.hbm, 76, rfl⟩
abbrev main_v15 : Ref sig .tc := ⟨.hbm, 77, rfl⟩

abbrev nD : Nat := 1
abbrev τ : Topo := Topo.v7x

variable {F : FTy → Type} [FloatOps F]
-- ==== AttnBwd.lean ====
abbrev S2x2048x1536 : Shape := ⟨3, ![2, 2048, 1536]⟩
abbrev S2x8x2048 : Shape := ⟨3, ![2, 8, 2048]⟩
abbrev S2x2048x8x64 : Shape := ⟨4, ![2, 2048, 8, 64]⟩
abbrev S2x2048x512 : Shape := ⟨3, ![2, 2048, 512]⟩
abbrev S2x8x2048x2048 : Shape := ⟨4, ![2, 8, 2048, 2048]⟩
abbrev S_ : Shape := ⟨0, ![]⟩
abbrev S2x8x2048x1 : Shape := ⟨4, ![2, 8, 2048, 1]⟩
abbrev S2x8x1x2048 : Shape := ⟨4, ![2, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x64x2048 : Shape := ⟨4, ![2, 8, 64, 2048]⟩
abbrev S4096x512 : Shape := ⟨2, ![4096, 512]⟩
abbrev S2x2048x8 : Shape := ⟨3, ![2, 2048, 8]⟩
abbrev S4096x8 : Shape := ⟨2, ![4096, 8]⟩
abbrev S4096x128 : Shape := ⟨2, ![4096, 128]⟩
abbrev S2x4x512x8 : Shape := ⟨4, ![2, 4, 512, 8]⟩
abbrev S2x4x8x512 : Shape := ⟨4, ![2, 4, 8, 512]⟩
abbrev S4096x1536 : Shape := ⟨2, ![4096, 1536]⟩
abbrev S2048x128 : Shape := ⟨2, ![2048, 128]⟩
abbrev S512x128 : Shape := ⟨2, ![512, 128]⟩
abbrev S1x1x8x512 : Shape := ⟨4, ![1, 1, 8, 512]⟩
abbrev S1x4x8x512 : Shape := ⟨4, ![1, 4, 8, 512]⟩
abbrev S4x8x512 : Shape := ⟨3, ![4, 8, 512]⟩
abbrev S8x512 : Shape := ⟨2, ![8, 512]⟩
abbrev S512 : Shape := ⟨1, ![512]⟩
abbrev S1x512 : Shape := ⟨2, ![1, 512]⟩
abbrev S128x512 : Shape := ⟨2, ![128, 512]⟩
abbrev S512x1 : Shape := ⟨2, ![512, 1]⟩
abbrev S512x512 : Shape := ⟨2, ![512, 512]⟩

abbrev nBuf : Space → Nat
  | .hbm => 107
  | .vmem => 27
  | .smem => 0
  | _ => 0

abbrev bufTy : (tb : Table) → Fin (tcTables nBuf tb) → BufTy
  | .hbm, ⟨0, _⟩ => ⟨S2x2048x1536, .f32⟩
  | .hbm, ⟨1, _⟩ => ⟨S2x8x2048, .f32⟩
  | .hbm, ⟨2, _⟩ => ⟨S2x2048x8x64, .f32⟩
  | .hbm, ⟨3, _⟩ => ⟨S2x2048x512, .f32⟩
  | .hbm, ⟨4, _⟩ => ⟨S2x2048x8x64, .f32⟩
  | .hbm, ⟨5, _⟩ => ⟨S2x2048x512, .f32⟩
  | .hbm, ⟨6, _⟩ => ⟨S2x2048x8x64, .f32⟩
  | .hbm, ⟨7, _⟩ => ⟨S2x2048x512, .f32⟩
  | .hbm, ⟨8, _⟩ => ⟨S2x2048x8x64, .f32⟩
  | .hbm, ⟨9, _⟩ => ⟨S2x8x2048x2048, .f32⟩
  | .hbm, ⟨10, _⟩ => ⟨S_, .f32⟩
  | .hbm, ⟨11, _⟩ => ⟨S2x8x2048x2048, .f32⟩
  | .hbm, ⟨12, _⟩ => ⟨S2x8x2048x2048, .f32⟩
  | .hbm, ⟨13, _⟩ => ⟨S2x8x2048x1, .f32⟩
  | .hbm, ⟨14, _⟩ => ⟨S2x8x2048x2048, .f32⟩
  | .hbm, ⟨15, _⟩ => ⟨S2x8x2048x2048, .f32⟩
  | .hbm, ⟨16, _⟩ => ⟨S2x8x1x2048, .f32⟩
  | .hbm, ⟨17, _⟩ => ⟨S2x8x2048x2048, .f32⟩
  | .hbm, ⟨18, _⟩ => ⟨S2x8x2048x2048, .f32⟩
  | .hbm, ⟨19, _⟩ => ⟨S2048, .i32⟩
  | .hbm, ⟨20, _⟩ => ⟨S2048x1, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S2x8x2048x2048, .i1⟩
  | .hbm, ⟨28, _⟩ => ⟨S2x8x2048x2048, .f32⟩
  | .hbm, ⟨29, _⟩ => ⟨S2x8x2048x2048, .f32⟩
  | .hbm, ⟨30, _⟩ => ⟨S_, .f32⟩
  | .hbm, ⟨31, _⟩ => ⟨S2x8x2048, .f32⟩
  | .hbm, ⟨32, _⟩ => ⟨S2x8x2048x1, .f32⟩
  | .hbm, ⟨33, _⟩ => ⟨S2x8x2048x2048, .f32⟩
  | .hbm, ⟨34, _⟩ => ⟨S2x8x2048x2048, .f32⟩
  | .hbm, ⟨35, _⟩ => ⟨S2x8x2048x2048, .f32⟩
  | .hbm, ⟨36, _⟩ => ⟨S_, .f32⟩
  | .hbm, ⟨37, _⟩ => ⟨S2x8x2048, .f32⟩
  | .hbm, ⟨38, _⟩ => ⟨S2x8x2048, .f32⟩
  | .hbm, ⟨39, _⟩ => ⟨S2x8x2048, .f32⟩
  | .hbm, ⟨40, _⟩ => ⟨S2x8x2048x2048, .f32⟩
  | .hbm, ⟨41, _⟩ => ⟨S_, .f32⟩
  | .hbm, ⟨42, _⟩ => ⟨S2x8x2048x2048, .f32⟩
  | .hbm, ⟨43, _⟩ => ⟨S2x8x2048x2048, .f32⟩
  | .hbm, ⟨44, _⟩ => ⟨S2x8x2048x1, .f32⟩
  | .hbm, ⟨45, _⟩ => ⟨S2x8x2048x2048, .f32⟩
  | .hbm, ⟨46, _⟩ => ⟨S2x8x2048x2048, .f32⟩
  | .hbm, ⟨47, _⟩ => ⟨S2x8x1x2048, .f32⟩
  | .hbm, ⟨48, _⟩ => ⟨S2x8x2048x2048, .f32⟩
  | .hbm, ⟨49, _⟩ => ⟨S2x8x2048x2048, .f32⟩
  | .hbm, ⟨50, _⟩ => ⟨S2048, .i32⟩
  | .hbm, ⟨51, _⟩ => ⟨S2048x1, .i32⟩
  | .hbm, ⟨52, _⟩ => ⟨S1x2048, .i32⟩
  | .hbm, ⟨53, _⟩ => ⟨S2048x2048, .i32⟩
  | .hbm, ⟨54, _⟩ => ⟨S2048x2048, .i32⟩
  | .hbm, ⟨55, _⟩ => ⟨S2048x2048, .i1⟩
  | .hbm, ⟨56, _⟩ => ⟨S_, .f32⟩
  | .hbm, ⟨57, _⟩ => ⟨S_, .f32⟩
  | .hbm, ⟨58, _⟩ => ⟨S2x8x2048x2048, .i1⟩
  | .hbm, ⟨59, _⟩ => ⟨S2x8x2048x2048, .f32⟩
  | .hbm, ⟨60, _⟩ => ⟨S2x8x2048x2048, .f32⟩
  | .hbm, ⟨61, _⟩ => ⟨S_, .f32⟩
  | .hbm, ⟨62, _⟩ => ⟨S2x8x2048, .f32⟩
  | .hbm, ⟨63, _⟩ => ⟨S_, .f32⟩
  | .hbm, ⟨64, _⟩ => ⟨S2x8x2048, .f32⟩
  | .hbm, ⟨65, _⟩ => ⟨S2x8x2048, .f32⟩
  | .hbm, ⟨66, _⟩ => ⟨S2x8x2048x1, .f32⟩
  | .hbm, ⟨67, _⟩ => ⟨S2x8x2048x2048, .f32⟩
  | .hbm, ⟨68, _⟩ => ⟨S2x8x2048x2048, .f32⟩
  | .hbm, ⟨69, _⟩ => ⟨S2x8x2048x2048, .f32⟩
  | .hbm, ⟨70, _⟩ => ⟨S_, .f32⟩
  | .hbm, ⟨71, _⟩ => ⟨S2x8x2048, .f32⟩
  | .hbm, ⟨72, _⟩ => ⟨S2x8x2048x1, .f32⟩
  | .hbm, ⟨73, _⟩ => ⟨S2x8x2048x2048, .f32⟩
  | .hbm, ⟨74, _⟩ => ⟨S2x8x2048x2048, .f32⟩
  | .hbm, ⟨75, _⟩ => ⟨S2x8x64x2048, .f32⟩
  | .hbm, ⟨76, _⟩ => ⟨S2x2048x8x64, .f32⟩
  | .hbm, ⟨77, _⟩ => ⟨S4096x512, .f32⟩
  | .hbm, ⟨78, _⟩ => ⟨S4096x512, .bf16⟩
  | .hbm, ⟨79, _⟩ => ⟨S2x2048x8, .f32⟩
  | .hbm, ⟨80, _⟩ => ⟨S4096x8, .f32⟩
  | .hbm, ⟨81, _⟩ => ⟨S_, .i32⟩
  | .hbm, ⟨82, _⟩ => ⟨S_, .f32⟩
  | .hbm, ⟨83, _⟩ => ⟨S4096x128, .f32⟩
  | .hbm, ⟨84, _⟩ => ⟨S4096x8, .f32⟩
  | .hbm, ⟨85, _⟩ => ⟨S2x4x512x8, .f32⟩
  | .hbm, ⟨86, _⟩ => ⟨S2x4x8x512, .f32⟩
  | .hbm, ⟨87, _⟩ => ⟨S4096x1536, .f32⟩
  | .hbm, ⟨88, _⟩ => ⟨S4096x1536, .bf16⟩
  | .hbm, ⟨89, _⟩ => ⟨S4096x512, .f32⟩
  | .hbm, ⟨90, _⟩ => ⟨S4096x512, .bf16⟩
  | .hbm, ⟨91, _⟩ => ⟨S2x2048x8, .f32⟩
  | .hbm, ⟨92, _⟩ => ⟨S4096x8, .f32⟩
  | .hbm, ⟨93, _⟩ => ⟨S_, .i32⟩
  | .hbm, ⟨94, _⟩ => ⟨S_, .f32⟩
  | .hbm, ⟨95, _⟩ => ⟨S4096x128, .f32⟩
  | .hbm, ⟨96, _⟩ => ⟨S4096x512, .bf16⟩
  | .hbm, ⟨97, _⟩ => ⟨S4096x512, .bf16⟩
  | .hbm, ⟨98, _⟩ => ⟨S4096x512, .bf16⟩
  | .hbm, ⟨99, _⟩ => ⟨S4096x128, .f32⟩
  | .hbm, ⟨100, _⟩ => ⟨S2x4x8x512, .f32⟩
  | .hbm, ⟨101, _⟩ => ⟨S2x4x512x8, .f32⟩
  | .hbm, ⟨102, _⟩ => ⟨S4096x8, .f32⟩
  | .hbm, ⟨103, _⟩ => ⟨S_, .i32⟩
  | .hbm, ⟨104, _⟩ => ⟨S_, .f32⟩
  | .hbm, ⟨105, _⟩ => ⟨S4096x128, .f32⟩
  | .hbm, ⟨106, _⟩ => ⟨S4096x128, .f32⟩
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S1x1x8x512, .f32⟩
  | .local _ .vmem, ⟨15, _⟩ => ⟨S1x1x8x512, .f32⟩
  | .local _ .vmem, ⟨16, _⟩ => ⟨S2048x128, .bf16⟩
  | .local _ .vmem, ⟨17, _⟩ => ⟨S2048x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S2048x128, .f32⟩
  | .local _ .vmem, ⟨23, _⟩ => ⟨S2048x128, .f32⟩
  | .local _ .vmem, ⟨24, _⟩ => ⟨S1x4x8x512, .f32⟩
  | .local _ .vmem, ⟨25, _⟩ => ⟨S1x4x8x512, .f32⟩
  | .local _ .vmem, ⟨26, _⟩ => ⟨S2048x128, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c : Ref sig .tc := ⟨.hbm, 81, rfl⟩
abbrev main_call2_v0 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_8 : Ref sig .tc := ⟨.hbm, 93, rfl⟩
abbrev main_call3_v0 : Ref sig .tc := ⟨.hbm, 94, rfl⟩
abbrev main_v73 : Ref sig .tc := ⟨.hbm, 95, rfl⟩
abbrev main_v74_0 : Ref sig .tc := ⟨.hbm, 96, rfl⟩
abbrev main_v74_1 : Ref sig .tc := ⟨.hbm, 97, rfl⟩
abbrev main_v74_2 : Ref sig .tc := ⟨.hbm, 98, rfl⟩
abbrev main_v74_3 : Ref sig .tc := ⟨.hbm, 99, rfl⟩
abbrev main_v74_4 : Ref sig .tc := ⟨.hbm, 100, rfl⟩
abbrev main_v75 : Ref sig .tc := ⟨.hbm, 101, rfl⟩
abbrev main_v76 : Ref sig .tc := ⟨.hbm, 102, rfl⟩
abbrev main_c_9 : Ref sig .tc := ⟨.hbm, 103, rfl⟩
abbrev main_call4_v0 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 4, 4], ![false, false, false]⟩

def k0_mult1 (i : grid0.Coords) : BitVec 32 :=
  let arg2 : BitVec 32 := BitVec.ofNat 32 (i 2).val
  let c512_i32 : BitVec 32 := 512#32
  let v41 : BitVec 32 := Scalar.muli arg2 c512_i32
  v41
def k0_off1 (i : grid0.Coords) : Fin 2 → Nat :=
  let arg2 : BitVec 32 := BitVec.ofNat 32 (i 2).val
  let c512_i32 : BitVec 32 := 512#32
  let v41 : BitVec 32 := Scalar.muli arg2 c512_i32
  let v42 : BitVec 32 := v41
  let v43 : Index := Scalar.indexCast v42
  let c0_20 : Index := 0#32
  ![v43.toNat, 0]
@[reducible] def k0_t1_loop (i : grid0.Coords) : Scf.Loop 32 :=
  let arg2 : BitVec 32 := BitVec.ofNat 32 (i 2).val
  let c1_i32_78 : BitVec 32 := 1#32
  let v216 : BitVec 32 := Scalar.addi arg2 c1_i32_78
  let c4_i32 : BitVec 32 := 4#32
  let v217 : BitVec 32 := Scalar.subi c4_i32 v216
  let c1_i32_79 : BitVec 32 := 1#32
  let v219 : BitVec 32 := Scalar.divsi v217 c1_i32_79
  let v220 : BitVec 32 := Scalar.muli v219 c1_i32_79
  let v221 : BitVec 32 := Scalar.addi v216 v220
  let c1_i32_80 : BitVec 32 := 1#32
  ⟨v216, v221, c1_i32_80⟩
def k0_mult2 (i : grid0.Coords) (k0_t1 : Fin (k0_t1_loop i).trips) : BitVec 32 :=
  let arg2 : BitVec 32 := BitVec.ofNat 32 (i 2).val
  let c1_i32_78 : BitVec 32 := 1#32
  let v216 : BitVec 32 := Scalar.addi arg2 c1_i32_78
  let c1_i32_80 : BitVec 32 := 1#32
  let arg17 : BitVec 32 := Scf.iv v216 c1_i32_80 k0_t1
  let c512_i32_99 : BitVec 32 := 512#32
  let v261 : BitVec 32 := Scalar.muli arg17 c512_i32_99
  v261
def k0_off2 (i : grid0.Coords) (k0_t1 : Fin (k0_t1_loop i).trips) : Fin 2 → Nat :=
  let arg2 : BitVec 32 := BitVec.ofNat 32 (i 2).val
  let c1_i32_78 : BitVec 32 := 1#32
  let v216 : BitVec 32 := Scalar.addi arg2 c1_i32_78
  let c1_i32_80 : BitVec 32 := 1#32
  let arg17 : BitVec 32 := Scf.iv v216 c1_i32_80 k0_t1
  let c512_i32_99 : BitVec 32 := 512#32
  let v261 : BitVec 32 := Scalar.muli arg17 c512_i32_99
  let v262 : BitVec 32 := v261
  let v263 : Index := Scalar.indexCast v262
  let c0_100 : Index := 0#32
  ![v263.toNat, 0]
@[reducible] def k0_t2_loop (i : grid0.Coords) : Scf.Loop 32 :=
  let arg2 : BitVec 32 := BitVec.ofNat 32 (i 2).val
  let c1_i32_78 : BitVec 32 := 1#32
  let v216 : BitVec 32 := Scalar.addi arg2 c1_i32_78
  let c4_i32 : BitVec 32 := 4#32
  let v217 : BitVec 32 := Scalar.subi c4_i32 v216
  let c1_i32_79 : BitVec 32 := 1#32
  let v219 : BitVec 32 := Scalar.divsi v217 c1_i32_79
  let v220 : BitVec 32 := Scalar.muli v219 c1_i32_79
  let v221 : BitVec 32 := Scalar.addi v216 v220
  let v218 : BitVec 32 := Scalar.addi v216 v217
  let c1_i32_81 : BitVec 32 := 1#32
  ⟨v221, v218, c1_i32_81⟩
def k0_mult3 (i : grid0.Coords) (k0_t2 : Fin (k0_t2_loop i).trips) : BitVec 32 :=
  let arg2 : BitVec 32 := BitVec.ofNat 32 (i 2).val
  let c1_i32_78 : BitVec 32 := 1#32
  let v216 : BitVec 32 := Scalar.addi arg2 c1_i32_78
  let c4_i32 : BitVec 32 := 4#32
  let v217 : BitVec 32 := Scalar.subi c4_i32 v216
  let c1_i32_79 : BitVec 32 := 1#32
  let v219 : BitVec 32 := Scalar.divsi v217 c1_i32_79
  let v220 : BitVec 32 := Scalar.muli v219 c1_i32_79
  let v221 : BitVec 32 := Scalar.addi v216 v220
  let c1_i32_81 : BitVec 32 := 1#32
  let arg17 : BitVec 32 := Scf.iv v221 c1_i32_81 k0_t2
  let c512_i32_99 : BitVec 32 := 512#32
  let v261 : BitVec 32 := Scalar.muli arg17 c512_i32_99
  v261
def k0_off3 (i : grid0.Coords) (k0_t2 : Fin (k0_t2_loop i).trips) : Fin 2 → Nat :=
  let arg2 : BitVec 32 := BitVec.ofNat 32 (i 2).val
  let c1_i32_78 : BitVec 32 := 1#32
  let v216 : BitVec 32 := Scalar.addi arg2 c1_i32_78
  let c4_i32 : BitVec 32 := 4#32
  let v217 : BitVec 32 := Scalar.subi c4_i32 v216
  let c1_i32_79 : BitVec 32 := 1#32
  let v219 : BitVec 32 := Scalar.divsi v217 c1_i32_79
  let v220 : BitVec 32 := Scalar.muli v219 c1_i32_79
  let v221 : BitVec 32 := Scalar.addi v216 v220
  let c1_i32_81 : BitVec 32 := 1#32
  let arg17 : BitVec 32 := Scf.iv v221 c1_i32_81 k0_t2
  let c512_i32_99 : BitVec 32 := 512#32
  let v261 : BitVec 32 := Scalar.muli arg17 c512_i32_99
  let v262 : BitVec 32 := v261
  let v263 : Index := Scalar.indexCast v262
  let c0_100 : Index := 0#32
  ![v263.toNat, 0]
def k0_off4 (i : grid0.Coords) : Fin 4 → Nat :=
  let c0_86 : Index := 0#32
  let arg2 : BitVec 32 := BitVec.ofNat 32 (i 2).val
  let v230 : Index := Scalar.indexCast arg2
  let c0_87 : Index := 0#32
  let c0_88 : Index := 0#32
  ![0, v230.toNat, 0, 0]
def k0_cond3 (i : grid0.Coords) : BitVec 1 :=
  let arg2 : BitVec 32 := BitVec.ofNat 32 (i 2).val
  let c3_i32 : BitVec 32 := 3#32
  let v258 : BitVec 1 := Scalar.cmpi .eq arg2 c3_i32
  let v259 : BitVec 32 := Scalar.extui v258
  let c0_i32_98 : BitVec 32 := 0#32
  let v260 : BitVec 1 := Scalar.cmpi .ne v259 c0_i32_98
  v260

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x4x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]
-- ==== AttnGradIdeal.lean ====
abbrev S2x2048x1536 : Shape := ⟨3, ![2, 2048, 1536]⟩
abbrev S2x8x2048 : Shape := ⟨3, ![2, 8, 2048]⟩
abbrev S2x2048x8x64 : Shape := ⟨4, ![2, 2048, 8, 64]⟩
abbrev S2x2048x512 : Shape := ⟨3, ![2, 2048, 512]⟩
abbrev S2x8x2048x2048 : Shape := ⟨4, ![2, 8, 2048, 2048]⟩
abbrev S_ : Shape := ⟨0, ![]⟩
abbrev S2x8x2048x1 : Shape := ⟨4, ![2, 8, 2048, 1]⟩
abbrev S2x8x1x2048 : Shape := ⟨4, ![2, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x64x2048 : Shape := ⟨4, ![2, 8, 64, 2048]⟩
abbrev S2x8x2048x64 : Shape := ⟨4, ![2, 8, 2048, 64]⟩
abbrev S4096x512 : Shape := ⟨2, ![4096, 512]⟩
abbrev S2x2048x8 : Shape := ⟨3, ![2, 2048, 8]⟩
abbrev S4096x8 : Shape := ⟨2, ![4096, 8]⟩
abbrev S4096x128 : Shape := ⟨2, ![4096, 128]⟩

abbrev nBuf : Space → Nat
  | .hbm => 123
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S2x8x2048, .f32⟩
  | .hbm, ⟨2, _⟩ => ⟨S2x2048x8x64, .f32⟩
  | .hbm, ⟨3, _⟩ => ⟨S2x2048x512, .f32⟩
  | .hbm, ⟨4, _⟩ => ⟨S2x2048x8x64, .f32⟩
  | .hbm, ⟨5, _⟩ => ⟨S2x2048x512, .f32⟩
  | .hbm, ⟨6, _⟩ => ⟨S2x2048x8x64, .f32⟩
  | .hbm, ⟨7, _⟩ => ⟨S2x2048x512, .f32⟩
  | .hbm, ⟨8, _⟩ => ⟨S2x2048x8x64, .f32⟩
  | .hbm, ⟨9, _⟩ => ⟨S2x8x2048x2048, .f32⟩
  | .hbm, ⟨10, _⟩ => ⟨S_, .f32⟩
  | .hbm, ⟨11, _⟩ => ⟨S2x8x2048x2048, .f32⟩
  | .hbm, ⟨12, _⟩ => ⟨S2x8x2048x2048, .f32⟩
  | .hbm, ⟨13, _⟩ => ⟨S2x8x2048x1, .f32⟩
  | .hbm, ⟨14, _⟩ => ⟨S2x8x2048x2048, .f32⟩
  | .hbm, ⟨15, _⟩ => ⟨S2x8x2048x2048, .f32⟩
  | .hbm, ⟨16, _⟩ => ⟨S2x8x1x2048, .f32⟩
  | .hbm, ⟨17, _⟩ => ⟨S2x8x2048x2048, .f32⟩
  | .hbm, ⟨18, _⟩ => ⟨S2x8x2048x2048, .f32⟩
  | .hbm, ⟨19, _⟩ => ⟨S2048, .i32⟩
  | .hbm, ⟨20, _⟩ => ⟨S2048x1, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S2x8x2048x2048, .i1⟩
  | .hbm, ⟨28, _⟩ => ⟨S2x8x2048x2048, .f32⟩
  | .hbm, ⟨29, _⟩ => ⟨S2x8x2048x2048, .f32⟩
  | .hbm, ⟨30, _⟩ => ⟨S_, .f32⟩
  | .hbm, ⟨31, _⟩ => ⟨S2x8x2048x2048, .f32⟩
  | .hbm, ⟨32, _⟩ => ⟨S_, .f32⟩
  | .hbm, ⟨33, _⟩ => ⟨S2x8x2048, .f32⟩
  | .hbm, ⟨34, _⟩ => ⟨S2x8x2048x1, .f32⟩
  | .hbm, ⟨35, _⟩ => ⟨S2x8x2048x2048, .f32⟩
  | .hbm, ⟨36, _⟩ => ⟨S2x8x2048x2048, .i1⟩
  | .hbm, ⟨37, _⟩ => ⟨S2x8x2048x2048, .f32⟩
  | .hbm, ⟨38, _⟩ => ⟨S_, .f32⟩
  | .hbm, ⟨39, _⟩ => ⟨S2x8x2048, .f32⟩
  | .hbm, ⟨40, _⟩ => ⟨S_, .f32⟩
  | .hbm, ⟨41, _⟩ => ⟨S2x8x2048, .f32⟩
  | .hbm, ⟨42, _⟩ => ⟨S2x8x2048, .f32⟩
  | .hbm, ⟨43, _⟩ => ⟨S_, .f32⟩
  | .hbm, ⟨44, _⟩ => ⟨S2x8x2048, .f32⟩
  | .hbm, ⟨45, _⟩ => ⟨S2x8x2048, .i1⟩
  | .hbm, ⟨46, _⟩ => ⟨S_, .f32⟩
  | .hbm, ⟨47, _⟩ => ⟨S2x8x2048, .f32⟩
  | .hbm, ⟨48, _⟩ => ⟨S2x8x2048, .i1⟩
  | .hbm, ⟨49, _⟩ => ⟨S_, .f32⟩
  | .hbm, ⟨50, _⟩ => ⟨S2x8x2048, .f32⟩
  | .hbm, ⟨51, _⟩ => ⟨S_, .f32⟩
  | .hbm, ⟨52, _⟩ => ⟨S2x8x2048, .f32⟩
  | .hbm, ⟨53, _⟩ => ⟨S_, .f32⟩
  | .hbm, ⟨54, _⟩ => ⟨S2x8x2048, .f32⟩
  | .hbm, ⟨55, _⟩ => ⟨S2x8x2048, .f32⟩
  | .hbm, ⟨56, _⟩ => ⟨S2x8x2048, .f32⟩
  | .hbm, ⟨57, _⟩ => ⟨S2x8x2048x1, .f32⟩
  | .hbm, ⟨58, _⟩ => ⟨S2x8x2048x2048, .f32⟩
  | .hbm, ⟨59, _⟩ => ⟨S2x8x2048x2048, .f32⟩
  | .hbm, ⟨60, _⟩ => ⟨S2x8x2048x2048, .f32⟩
  | .hbm, ⟨61, _⟩ => ⟨S_, .f32⟩
  | .hbm, ⟨62, _⟩ => ⟨S2x8x2048, .f32⟩
  | .hbm, ⟨63, _⟩ => ⟨S2x8x2048x1, .f32⟩
  | .hbm, ⟨64, _⟩ => ⟨S2x8x2048x2048, .f32⟩
  | .hbm, ⟨65, _⟩ => ⟨S2x8x2048x2048, .f32⟩
  | .hbm, ⟨66, _⟩ => ⟨S2x8x2048x1, .f32⟩
  | .hbm, ⟨67, _⟩ => ⟨S_, .f32⟩
  | .hbm, ⟨68, _⟩ => ⟨S2x8x2048x1, .f32⟩
  | .hbm, ⟨69, _⟩ => ⟨S2x8x2048x1, .f32⟩
  | .hbm, ⟨70, _⟩ => ⟨S2x8x64x2048, .f32⟩
  | .hbm, ⟨71, _⟩ => ⟨S2x2048x8x64, .f32⟩
  | .hbm, ⟨72, _⟩ => ⟨S2x8x64x2048, .f32⟩
  | .hbm, ⟨73, _⟩ => ⟨S2x8x2048x2048, .f32⟩
  | .hbm, ⟨74, _⟩ => ⟨S2x8x64x2048, .f32⟩
  | .hbm, ⟨75, _⟩ => ⟨S2x2048x8x64, .f32⟩
  | .hbm, ⟨76, _⟩ => ⟨S2x8x2048x2048, .f32⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S2x8x2048, .f32⟩
  | .hbm, ⟨81, _⟩ => ⟨S2x8x2048x1, .f32⟩
  | .hbm, ⟨82, _⟩ => ⟨S2x8x2048x1, .f32⟩
  | .hbm, ⟨83, _⟩ => ⟨S2x8x2048x2048, .f32⟩
  | .hbm, ⟨84, _⟩ => ⟨S2x8x2048x2048, .f32⟩
  | .hbm, ⟨85, _⟩ => ⟨S_, .f32⟩
  | .hbm, ⟨86, _⟩ => ⟨S2x8x2048, .f32⟩
  | .hbm, ⟨87, _⟩ => ⟨S2x8x2048x2048, .f32⟩
  | .hbm, ⟨88, _⟩ => ⟨S2x8x2048x2048, .f32⟩
  | .hbm, ⟨89, _⟩ => ⟨S2x8x2048x2048, .f32⟩
  | .hbm, ⟨90, _⟩ => ⟨S_, .f32⟩
  | .hbm, ⟨91, _⟩ => ⟨S2x8x2048x2048, .f32⟩
  | .hbm, ⟨92, _⟩ => ⟨S2x8x2048x2048, .f32⟩
  | .hbm, ⟨93, _⟩ => ⟨S2x8x2048x2048, .f32⟩
  | .hbm, ⟨94, _⟩ => ⟨S_, .f32⟩
  | .hbm, ⟨95, _⟩ => ⟨S2x8x2048, .f32⟩
  | .hbm, ⟨96, _⟩ => ⟨S2x8x1x2048, .f32⟩
  | .hbm, ⟨97, _⟩ => ⟨S_, .f32⟩
  | .hbm, ⟨98, _⟩ => ⟨S2x8x2048, .f32⟩
  | .hbm, ⟨99, _⟩ => ⟨S_, .f32⟩
  | .hbm, ⟨100, _⟩ => ⟨S2x8x2048, .f32⟩
  | .hbm, ⟨101, _⟩ => ⟨S2x8x2048x1, .f32⟩
  | .hbm, ⟨102, _⟩ => ⟨S_, .f32⟩
  | .hbm, ⟨103, _⟩ => ⟨S2x8x2048, .f32⟩
  | .hbm, ⟨104, _⟩ => ⟨S2x8x2048, .f32⟩
  | .hbm, ⟨105, _⟩ => ⟨S_, .f32⟩
  | .hbm, ⟨106, _⟩ => ⟨S2x8x2048x2048, .f32⟩
  | .hbm, ⟨107, _⟩ => ⟨S2x8x2048x2048, .f32⟩
  | .hbm, ⟨108, _⟩ => ⟨S2x8x2048x64, .f32⟩
  | .hbm, ⟨109, _⟩ => ⟨S2x2048x8x64, .f32⟩
  | .hbm, ⟨110, _⟩ => ⟨S2x8x2048x64, .f32⟩
  | .hbm, ⟨111, _⟩ => ⟨S2x2048x8x64, .f32⟩
  | .hbm, ⟨112, _⟩ => ⟨S4096x512, .f32⟩
  | .hbm, ⟨113, _⟩ => ⟨S4096x512, .bf16⟩
  | .hbm, ⟨114, _⟩ => ⟨S4096x512, .f32⟩
  | .hbm, ⟨115, _⟩ => ⟨S4096x512, .bf16⟩
  | .hbm, ⟨116, _⟩ => ⟨S4096x512, .f32⟩
  | .hbm, ⟨117, _⟩ => ⟨S4096x512, .bf16⟩
  | .hbm, ⟨118, _⟩ => ⟨S2x2048x8, .f32⟩
  | .hbm, ⟨119, _⟩ => ⟨S4096x8, .f32⟩
  | .hbm, ⟨120, _⟩ => ⟨S_, .i32⟩
  | .hbm, ⟨121, _⟩ => ⟨S_, .f32⟩
  | .hbm, ⟨122, _⟩ => ⟨S4096x128, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_v21_1 : Ref sig .tc := ⟨.hbm, 27, rfl⟩
abbrev main_call0_v2 : Ref sig .tc := ⟨.hbm, 28, rfl⟩
abbrev main_v21_0 : Ref sig .tc := ⟨.hbm, 29, rfl⟩
abbrev main_call0_cst : Ref sig .tc := ⟨.hbm, 30, rfl⟩
abbrev main_v21_2 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call1_cst : Ref sig .tc := ⟨.hbm, 90, rfl⟩
abbrev main_call1_v0 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c : Ref sig .tc := ⟨.hbm, 120, rfl⟩
abbrev main_call2_v0 : Ref sig .tc := ⟨.hbm, 121, rfl⟩
abbrev main_v91 : Ref sig .tc := ⟨.hbm, 122, rfl⟩

abbrev nD : Nat := 1
abbrev τ : Topo := Topo.v7x

variable {F : FTy → Type} [FloatOps F]
-- ==== MixOutBwd.lean ====
abbrev S2x2048x512 : Shape := ⟨3, ![2, 2048, 512]⟩
abbrev S2x2048x2048 : Shape := ⟨3, ![2, 2048, 2048]⟩
abbrev S512x1024 : Shape := ⟨2, ![512, 1024]⟩
abbrev S1024x1024 : Shape := ⟨2, ![1024, 1024]⟩
abbrev S2x2048x1024 : Shape := ⟨3, ![2, 2048, 1024]⟩
abbrev S_ : Shape := ⟨0, ![]⟩
abbrev S4096x3072 : Shape := ⟨2, ![4096, 3072]⟩
abbrev S4096x2048 : Shape := ⟨2, ![4096, 2048]⟩
abbrev S4096x5120 : Shape := ⟨2, ![4096, 5120]⟩
abbrev S4096x1024 : Shape := ⟨2, ![4096, 1024]⟩
abbrev S4096x512 : Shape := ⟨2, ![4096, 512]⟩
abbrev S512x512 : Shape := ⟨2, ![512, 512]⟩
abbrev S512x2048 : Shape := ⟨2, ![512, 2048]⟩

abbrev nBuf : Space → Nat
  | .hbm => 26
  | .vmem => 25
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x2048, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S2x2048x1024, .f32⟩
  | .hbm, ⟨7, _⟩ => ⟨S_, .f32⟩
  | .hbm, ⟨8, _⟩ => ⟨S4096x3072, .f32⟩
  | .hbm, ⟨9, _⟩ => ⟨S4096x2048, .f32⟩
  | .hbm, ⟨10, _⟩ => ⟨S4096x5120, .f32⟩
  | .hbm, ⟨11, _⟩ => ⟨S4096x5120, .bf16⟩
  | .hbm, ⟨12, _⟩ => ⟨S4096x1024, .f32⟩
  | .hbm, ⟨13, _⟩ => ⟨S4096x512, .f32⟩
  | .hbm, ⟨14, _⟩ => ⟨S4096x512, .bf16⟩
  | .hbm, ⟨15, _⟩ => ⟨S4096x512, .f32⟩
  | .hbm, ⟨16, _⟩ => ⟨S4096x512, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S4096x512, .bf16⟩
  | .hbm, ⟨21, _⟩ => ⟨S4096x512, .bf16⟩
  | .hbm, ⟨22, _⟩ => ⟨S4096x2048, .bf16⟩
  | .hbm, ⟨23, _⟩ => ⟨S512x1024, .bf16⟩
  | .hbm, ⟨24, _⟩ => ⟨S512x1024, .bf16⟩
  | .hbm, ⟨25, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x2048, .bf16⟩
  | .local _ .vmem, ⟨18, _⟩ => ⟨S512x2048, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | .local _ .vmem, ⟨24, _⟩ => ⟨S1024x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v89 : BitVec 1 := Scalar.cmpi .eq arg0 c7_i32
  let v90 : BitVec 32 := Scalar.extui v89
  let c0_i32_54 : BitVec 32 := 0#32
  let v91 : BitVec 1 := Scalar.cmpi .ne v90 c0_i32_54
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixOutGradIdeal.lean ====
abbrev S2x2048x512 : Shape := ⟨3, ![2, 2048, 512]⟩
abbrev S2x2048x2048 : Shape := ⟨3, ![2, 2048, 2048]⟩
abbrev S512x1024 : Shape := ⟨2, ![512, 1024]⟩
abbrev S1024x1024 : Shape := ⟨2, ![1024, 1024]⟩
abbrev S2x2048x1024 : Shape := ⟨3, ![2, 2048, 1024]⟩
abbrev S_ : Shape := ⟨0, ![]⟩
abbrev S1024x512 : Shape := ⟨2, ![1024, 512]⟩
abbrev S4096x512 : Shape := ⟨2, ![4096, 512]⟩
abbrev S4096x2048 : Shape := ⟨2, ![4096, 2048]⟩

abbrev nBuf : Space → Nat
  | .hbm => 64
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x2048, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S1024x1024, .f32⟩
  | .hbm, ⟨40, _⟩ => ⟨S1024x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S1024x512, .f32⟩
  | .hbm, ⟨45, _⟩ => ⟨S512x1024, .f32⟩
  | .hbm, ⟨46, _⟩ => ⟨S2x2048x512, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S1024x512, .f32⟩
  | .hbm, ⟨51, _⟩ => ⟨S512x1024, .f32⟩
  | .hbm, ⟨52, _⟩ => ⟨S2x2048x512, .f32⟩
  | .hbm, ⟨53, _⟩ => ⟨S2x2048x1024, .f32⟩
  | .hbm, ⟨54, _⟩ => ⟨S4096x512, .f32⟩
  | .hbm, ⟨55, _⟩ => ⟨S4096x512, .f32⟩
  | .hbm, ⟨56, _⟩ => ⟨S2x2048x2048, .f32⟩
  | .hbm, ⟨57, _⟩ => ⟨S4096x2048, .f32⟩
  | .hbm, ⟨58, _⟩ => ⟨S4096x512, .bf16⟩
  | .hbm, ⟨59, _⟩ => ⟨S4096x512, .bf16⟩
  | .hbm, ⟨60, _⟩ => ⟨S4096x2048, .bf16⟩
  | .hbm, ⟨61, _⟩ => ⟨S512x1024, .bf16⟩
  | .hbm, ⟨62, _⟩ => ⟨S512x1024, .bf16⟩
  | .hbm, ⟨63, _⟩ => ⟨S1024x1024, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== MixProjBwd.lean ====
abbrev S2x2048x1024 : Shape := ⟨3, ![2, 2048, 1024]⟩
abbrev S1024 : Shape := ⟨1, ![1024]⟩
abbrev S1024x5128 : Shape := ⟨2, ![1024, 5128]⟩
abbrev S2x2048x5128 : Shape := ⟨3, ![2, 2048, 5128]⟩
abbrev S5128x1024 : Shape := ⟨2, ![5128, 1024]⟩
abbrev S1536x1024 : Shape := ⟨2, ![1536, 1024]⟩
abbrev S3584x1024 : Shape := ⟨2, ![3584, 1024]⟩
abbrev S5120x1024 : Shape := ⟨2, ![5120, 1024]⟩
abbrev S8x1024 : Shape := ⟨2, ![8, 1024]⟩
abbrev S_ : Shape := ⟨0, ![]⟩
abbrev S128x1024 : Shape := ⟨2, ![128, 1024]⟩
abbrev S4096x5128 : Shape := ⟨2, ![4096, 5128]⟩
abbrev S4096x512 : Shape := ⟨2, ![4096, 512]⟩
abbrev S4096x2048 : Shape := ⟨2, ![4096, 2048]⟩
abbrev S4096x8 : Shape := ⟨2, ![4096, 8]⟩
abbrev S4096x128 : Shape := ⟨2, ![4096, 128]⟩
abbrev S4096x1024 : Shape := ⟨2, ![4096, 1024]⟩
abbrev S1x1024 : Shape := ⟨2, ![1, 1024]⟩
abbrev S256x1024 : Shape := ⟨2, ![256, 1024]⟩
abbrev S256x512 : Shape := ⟨2, ![256, 512]⟩
abbrev S256x128 : Shape := ⟨2, ![256, 128]⟩
abbrev S512x1024 : Shape := ⟨2, ![512, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 39
  | .vmem => 35
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5128, .f32⟩
  | .hbm, ⟨3, _⟩ => ⟨S2x2048x1024, .f32⟩
  | .hbm, ⟨4, _⟩ => ⟨S2x2048x5128, .f32⟩
  | .hbm, ⟨5, _⟩ => ⟨S5128x1024, .f32⟩
  | .hbm, ⟨6, _⟩ => ⟨S1536x1024, .f32⟩
  | .hbm, ⟨7, _⟩ => ⟨S3584x1024, .f32⟩
  | .hbm, ⟨8, _⟩ => ⟨S5120x1024, .f32⟩
  | .hbm, ⟨9, _⟩ => ⟨S5120x1024, .bf16⟩
  | .hbm, ⟨10, _⟩ => ⟨S8x1024, .f32⟩
  | .hbm, ⟨11, _⟩ => ⟨S_, .i32⟩
  | .hbm, ⟨12, _⟩ => ⟨S_, .f32⟩
  | .hbm, ⟨13, _⟩ => ⟨S128x1024, .f32⟩
  | .hbm, ⟨14, _⟩ => ⟨S128x1024, .bf16⟩
  | .hbm, ⟨15, _⟩ => ⟨S4096x5128, .f32⟩
  | .hbm, ⟨16, _⟩ => ⟨S4096x512, .f32⟩
  | .hbm, ⟨17, _⟩ => ⟨S4096x512, .bf16⟩
  | .hbm, ⟨18, _⟩ => ⟨S4096x512, .f32⟩
  | .hbm, ⟨19, _⟩ => ⟨S4096x512, .bf16⟩
  | .hbm, ⟨20, _⟩ => ⟨S4096x512, .f32⟩
  | .hbm, ⟨21, _⟩ => ⟨S4096x512, .bf16⟩
  | .hbm, ⟨22, _⟩ => ⟨S4096x512, .f32⟩
  | .hbm, ⟨23, _⟩ => ⟨S4096x512, .bf16⟩
  | .hbm, ⟨24, _⟩ => ⟨S4096x512, .f32⟩
  | .hbm, ⟨25, _⟩ => ⟨S4096x512, .bf16⟩
  | .hbm, ⟨26, _⟩ => ⟨S4096x512, .f32⟩
  | .hbm, ⟨27, _⟩ => ⟨S4096x512, .bf16⟩
  | .hbm, ⟨28, _⟩ => ⟨S4096x2048, .f32⟩
  | .hbm, ⟨29, _⟩ => ⟨S4096x2048, .bf16⟩
  | .hbm, ⟨30, _⟩ => ⟨S4096x8, .f32⟩
  | .hbm, ⟨31, _⟩ => ⟨S_, .i32⟩
  | .hbm, ⟨32, _⟩ => ⟨S_, .f32⟩
  | .hbm, ⟨33, _⟩ => ⟨S4096x128, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x128, .f32⟩
  | .local _ .vmem, ⟨22, _⟩ => ⟨S256x128, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S1024x1024, .bf16⟩
  | .local _ .vmem, ⟨30, _⟩ => ⟨S1024x1024, .bf16⟩
  | .local _ .vmem, ⟨31, _⟩ => ⟨S128x1024, .bf16⟩
  | .local _ .vmem, ⟨32, _⟩ => ⟨S256x1024, .f32⟩
  | .local _ .vmem, ⟨33, _⟩ => ⟨S256x1024, .f32⟩
  | .local _ .vmem, ⟨34, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_0 : Ref sig .tc := ⟨.hbm, 31, rfl⟩
abbrev main_call1_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem21_1 : DmaSem sig := 33
abbrev cc0_sem22_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_14 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_15 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_16 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_17 (i : grid0.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc0_transform_18 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_19 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MixProjGradIdeal.lean ====
abbrev S2x2048x1024 : Shape := ⟨3, ![2, 2048, 1024]⟩
abbrev S1024 : Shape := ⟨1, ![1024]⟩
abbrev S1024x5128 : Shape := ⟨2, ![1024, 5128]⟩
abbrev S2x2048x5128 : Shape := ⟨3, ![2, 2048, 5128]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5128, .f32⟩
  | .hbm, ⟨3, _⟩ => ⟨S2x2048x1024, .f32⟩
  | .hbm, ⟨4, _⟩ => ⟨S2x2048x5128, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x5128, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S_, .f32⟩
  | .hbm, ⟨47, _⟩ => ⟨S2x2048, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | .hbm, ⟨54, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== FfnBwdDw.lean ====
abbrev S2x2048x1024 : Shape := ⟨3, ![2, 2048, 1024]⟩
abbrev S1024x2816 : Shape := ⟨2, ![1024, 2816]⟩
abbrev S2x2048x2816 : Shape := ⟨3, ![2, 2048, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 27
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S1024x2816, .f32⟩
  | .hbm, ⟨2, _⟩ => ⟨S1024x2816, .f32⟩
  | .hbm, ⟨3, _⟩ => ⟨S2x2048x2816, .f32⟩
  | .hbm, ⟨4, _⟩ => ⟨S2x2048x2816, .f32⟩
  | .hbm, ⟨5, _⟩ => ⟨S2x2048x1024, .f32⟩
  | .hbm, ⟨6, _⟩ => ⟨S2x2048x2816, .f32⟩
  | .hbm, ⟨7, _⟩ => ⟨S2x2048x2816, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x4x704, .f32⟩
  | .hbm, ⟨13, _⟩ => ⟨S4x4096x704, .f32⟩
  | .hbm, ⟨14, _⟩ => ⟨S4x4096x704, .bf16⟩
  | .hbm, ⟨15, _⟩ => ⟨S4096x4x704, .f32⟩
  | .hbm, ⟨16, _⟩ => ⟨S4x4096x704, .f32⟩
  | .hbm, ⟨17, _⟩ => ⟨S4x4096x704, .bf16⟩
  | .hbm, ⟨18, _⟩ => ⟨S4096x4x704, .f32⟩
  | .hbm, ⟨19, _⟩ => ⟨S4x4096x704, .f32⟩
  | .hbm, ⟨20, _⟩ => ⟨S4x4096x704, .bf16⟩
  | .hbm, ⟨21, _⟩ => ⟨S4096x4x704, .f32⟩
  | .hbm, ⟨22, _⟩ => ⟨S4x4096x704, .f32⟩
  | .hbm, ⟨23, _⟩ => ⟨S4x4096x704, .bf16⟩
  | .hbm, ⟨24, _⟩ => ⟨S4x704x1024, .bf16⟩
  | .hbm, ⟨25, _⟩ => ⟨S4x704x1024, .bf16⟩
  | .hbm, ⟨26, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S1x704x1024, .bf16⟩
  | .local _ .vmem, ⟨18, _⟩ => ⟨S704x1024, .f32⟩
  | .local _ .vmem, ⟨19, _⟩ => ⟨S704x1024, .f32⟩
  | .local _ .vmem, ⟨20, _⟩ => ⟨S704x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_33 : BitVec 32 := 0#32
  let v47 : BitVec 1 := Scalar.cmpi .ne v46 c0_i32_33
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnDwGradIdeal.lean ====
abbrev S2x2048x1024 : Shape := ⟨3, ![2, 2048, 1024]⟩
abbrev S1024x2816 : Shape := ⟨2, ![1024, 2816]⟩
abbrev S2x2048x2816 : Shape := ⟨3, ![2, 2048, 2816]⟩
abbrev S2816x1024 : Shape := ⟨2, ![2816, 1024]⟩
abbrev S_ : Shape := ⟨0, ![]⟩
abbrev S4x704x1024 : Shape := ⟨3, ![4, 704, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2816, .f32⟩
  | .hbm, ⟨2, _⟩ => ⟨S1024x2816, .f32⟩
  | .hbm, ⟨3, _⟩ => ⟨S2x2048x2816, .f32⟩
  | .hbm, ⟨4, _⟩ => ⟨S2x2048x2816, .f32⟩
  | .hbm, ⟨5, _⟩ => ⟨S2x2048x1024, .f32⟩
  | .hbm, ⟨6, _⟩ => ⟨S2x2048x2816, .f32⟩
  | .hbm, ⟨7, _⟩ => ⟨S2816x1024, .f32⟩
  | .hbm, ⟨8, _⟩ => ⟨S1024x2816, .f32⟩
  | .hbm, ⟨9, _⟩ => ⟨S2x2048x2816, .f32⟩
  | .hbm, ⟨10, _⟩ => ⟨S2816x1024, .f32⟩
  | .hbm, ⟨11, _⟩ => ⟨S1024x2816, .f32⟩
  | .hbm, ⟨12, _⟩ => ⟨S_, .f32⟩
  | .hbm, ⟨13, _⟩ => ⟨S2816x1024, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S_, .f32⟩
  | .hbm, ⟨18, _⟩ => ⟨S2x2048x2816, .f32⟩
  | .hbm, ⟨19, _⟩ => ⟨S2x2048x2816, .f32⟩
  | .hbm, ⟨20, _⟩ => ⟨S_, .f32⟩
  | .hbm, ⟨21, _⟩ => ⟨S2x2048x2816, .f32⟩
  | .hbm, ⟨22, _⟩ => ⟨S2x2048x2816, .f32⟩
  | .hbm, ⟨23, _⟩ => ⟨S2x2048x2816, .f32⟩
  | .hbm, ⟨24, _⟩ => ⟨S2x2048x2816, .f32⟩
  | .hbm, ⟨25, _⟩ => ⟨S2x2048x2816, .f32⟩
  | .hbm, ⟨26, _⟩ => ⟨S2x2048x1024, .f32⟩
  | .hbm, ⟨27, _⟩ => ⟨S1024x2816, .f32⟩
  | .hbm, ⟨28, _⟩ => ⟨S2816x1024, .f32⟩
  | .hbm, ⟨29, _⟩ => ⟨S2816x1024, .f32⟩
  | .hbm, ⟨30, _⟩ => ⟨S2816x1024, .f32⟩
  | .hbm, ⟨31, _⟩ => ⟨S4x704x1024, .f32⟩
  | .hbm, ⟨32, _⟩ => ⟨S4x704x1024, .bf16⟩
  | .hbm, ⟨33, _⟩ => ⟨S4x704x1024, .f32⟩
  | .hbm, ⟨34, _⟩ => ⟨S4x704x1024, .bf16⟩
  | .hbm, ⟨35, _⟩ => ⟨S4x704x1024, .f32⟩
  | .hbm, ⟨36, _⟩ => ⟨S4x704x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== FfnBwdDx.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x4x704 : Shape := ⟨3, ![4096, 4, 704]⟩
abbrev S4x4096x704 : Shape := ⟨3, ![4, 4096, 704]⟩
abbrev S4096x1024 : Shape := ⟨2, ![4096, 1024]⟩
abbrev S1x1024 : Shape := ⟨2, ![1, 1024]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S1024x1 : Shape := ⟨2, ![1024, 1]⟩

abbrev nBuf : Space → Nat
  | .hbm => 46
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x2816, .f32⟩
  | .hbm, ⟨23, _⟩ => ⟨S4096x4x704, .f32⟩
  | .hbm, ⟨24, _⟩ => ⟨S4x4096x704, .f32⟩
  | .hbm, ⟨25, _⟩ => ⟨S4x4096x704, .bf16⟩
  | .hbm, ⟨26, _⟩ => ⟨S2x2048x2816, .f32⟩
  | .hbm, ⟨27, _⟩ => ⟨S4096x4x704, .f32⟩
  | .hbm, ⟨28, _⟩ => ⟨S4x4096x704, .f32⟩
  | .hbm, ⟨29, _⟩ => ⟨S4x4096x704, .bf16⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S2816x1024, .f32⟩
  | .hbm, ⟨34, _⟩ => ⟨S4x704x1024, .f32⟩
  | .hbm, ⟨35, _⟩ => ⟨S4x704x1024, .bf16⟩
  | .hbm, ⟨36, _⟩ => ⟨S2816x1024, .f32⟩
  | .hbm, ⟨37, _⟩ => ⟨S4x704x1024, .f32⟩
  | .hbm, ⟨38, _⟩ => ⟨S4x704x1024, .bf16⟩
  | .hbm, ⟨39, _⟩ => ⟨S4x704x1024, .f32⟩
  | .hbm, ⟨40, _⟩ => ⟨S4x704x1024, .bf16⟩
  | .hbm, ⟨41, _⟩ => ⟨S4096x1024, .f32⟩
  | .hbm, ⟨42, _⟩ => ⟨S4x4096x704, .bf16⟩
  | .hbm, ⟨43, _⟩ => ⟨S4x4096x704, .bf16⟩
  | .hbm, ⟨44, _⟩ => ⟨S1x1024, .f32⟩
  | .hbm, ⟨45, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1024x1024, .f32⟩
  | .local _ .vmem, ⟨15, _⟩ => ⟨S1024x1024, .f32⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024, .f32⟩
  | .local _ .vmem, ⟨21, _⟩ => ⟨S1024x1024, .bf16⟩
  | .local _ .vmem, ⟨22, _⟩ => ⟨S1024x1024, .bf16⟩
  | .local _ .vmem, ⟨23, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev main_v32_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v200 : BitVec 1 := Scalar.cmpi .eq arg1 c3_i32
  let v201 : BitVec 32 := Scalar.extui v200
  let c0_i32_139 : BitVec 32 := 0#32
  let v202 : BitVec 1 := Scalar.cmpi .ne v201 c0_i32_139
  v202

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnGradIdeal.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S1x1024 : Shape := ⟨2, ![1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S_, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S2x2048x1024, .f32⟩
  | .hbm, ⟨43, _⟩ => ⟨S_, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S_, .f32⟩
  | .hbm, ⟨49, _⟩ => ⟨S2x2048x1024, .f32⟩
  | .hbm, ⟨50, _⟩ => ⟨S2x2048x1024, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S1024, .f32⟩
  | .hbm, ⟨64, _⟩ => ⟨S1x1x1024, .f32⟩
  | .hbm, ⟨65, _⟩ => ⟨S2x2048x1024, .f32⟩
  | .hbm, ⟨66, _⟩ => ⟨S2x2048x1024, .f32⟩
  | .hbm, ⟨67, _⟩ => ⟨S_, .f32⟩
  | .hbm, ⟨68, _⟩ => ⟨S1024, .f32⟩
  | .hbm, ⟨69, _⟩ => ⟨S2x2048x1024, .f32⟩
  | .hbm, ⟨70, _⟩ => ⟨S_, .f32⟩
  | .hbm, ⟨71, _⟩ => ⟨S2x2048, .f32⟩
  | .hbm, ⟨72, _⟩ => ⟨S2x2048x1, .f32⟩
  | .hbm, ⟨73, _⟩ => ⟨S2x2048x1024, .f32⟩
  | .hbm, ⟨74, _⟩ => ⟨S2x2048x1024, .f32⟩
  | .hbm, ⟨75, _⟩ => ⟨S2x2048x1, .f32⟩
  | .hbm, ⟨76, _⟩ => ⟨S_, .f32⟩
  | .hbm, ⟨77, _⟩ => ⟨S2x2048x1, .f32⟩
  | .hbm, ⟨78, _⟩ => ⟨S2x2048x1, .f32⟩
  | .hbm, ⟨79, _⟩ => ⟨S_, .f32⟩
  | .hbm, ⟨80, _⟩ => ⟨S2x2048, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S4096x1024, .f32⟩
  | .hbm, ⟨88, _⟩ => ⟨S4096x4x704, .f32⟩
  | .hbm, ⟨89, _⟩ => ⟨S4x4096x704, .f32⟩
  | .hbm, ⟨90, _⟩ => ⟨S4x4096x704, .bf16⟩
  | .hbm, ⟨91, _⟩ => ⟨S4096x4x704, .f32⟩
  | .hbm, ⟨92, _⟩ => ⟨S4x4096x704, .f32⟩
  | .hbm, ⟨93, _⟩ => ⟨S4x4096x704, .bf16⟩
  | .hbm, ⟨94, _⟩ => ⟨S1x1024, .f32⟩
  | .hbm, ⟨95, _⟩ => ⟨S4096x1024, .f32⟩
  | .hbm, ⟨96, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== FfnLoss.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S4096x1024 : Shape := ⟨2, ![4096, 1024]⟩
abbrev S1x1024 : Shape := ⟨2, ![1, 1024]⟩
abbrev S4x704x1024 : Shape := ⟨3, ![4, 704, 1024]⟩
abbrev S4x4096x704 : Shape := ⟨3, ![4, 4096, 704]⟩
abbrev S1x128 : Shape := ⟨2, ![1, 128]⟩
abbrev S1024x1024 : Shape := ⟨2, ![1024, 1024]⟩
abbrev S1x704x1024 : Shape := ⟨3, ![1, 704, 1024]⟩
abbrev S1x1024x704 : Shape := ⟨3, ![1, 1024, 704]⟩
abbrev S1024x1 : Shape := ⟨2, ![1024, 1]⟩
abbrev S704x1024 : Shape := ⟨2, ![704, 1024]⟩
abbrev S1024x704 : Shape := ⟨2, ![1024, 704]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 25
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S1024, .f32⟩
  | .hbm, ⟨7, _⟩ => ⟨S4096x1024, .f32⟩
  | .hbm, ⟨8, _⟩ => ⟨S1x1024, .f32⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S2816x1024, .f32⟩
  | .hbm, ⟨13, _⟩ => ⟨S4x704x1024, .f32⟩
  | .hbm, ⟨14, _⟩ => ⟨S4x704x1024, .bf16⟩
  | .hbm, ⟨15, _⟩ => ⟨S4x704x1024, .f32⟩
  | .hbm, ⟨16, _⟩ => ⟨S4x704x1024, .bf16⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4x4096x704, .bf16⟩
  | .hbm, ⟨21, _⟩ => ⟨S4x4096x704, .bf16⟩
  | .hbm, ⟨22, _⟩ => ⟨S4096x1024, .bf16⟩
  | .hbm, ⟨23, _⟩ => ⟨S1x128, .f32⟩
  | .hbm, ⟨24, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1024x1024, .bf16⟩
  | .local _ .vmem, ⟨19, _⟩ => ⟨S1024x1024, .bf16⟩
  | .local _ .vmem, ⟨20, _⟩ => ⟨S1x128, .f32⟩
  | .local _ .vmem, ⟨21, _⟩ => ⟨S1x1024, .f32⟩
  | .local _ .vmem, ⟨22, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_29 : BitVec 32 := 0#32
  let v44 : BitVec 1 := Scalar.cmpi .ne v43 c0_i32_29
  v44

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== FfnLossGradIdeal.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S1x128 : Shape := ⟨2, ![1, 128]⟩
abbrev S1x1024 : Shape := ⟨2, ![1, 1024]⟩

abbrev nBuf : Space → Nat
  | .hbm => 119
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x2816, .f32⟩
  | .hbm, ⟨24, _⟩ => ⟨S2x2048x2816, .f32⟩
  | .hbm, ⟨25, _⟩ => ⟨S2x2048x2816, .f32⟩
  | .hbm, ⟨26, _⟩ => ⟨S2x2048x2816, .f32⟩
  | .hbm, ⟨27, _⟩ => ⟨S_, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x1024, .f32⟩
  | .hbm, ⟨36, _⟩ => ⟨S_, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S2x2048, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S_, .f32⟩
  | .hbm, ⟨48, _⟩ => ⟨S2x2048x1, .f32⟩
  | .hbm, ⟨49, _⟩ => ⟨S2x2048x1, .f32⟩
  | .hbm, ⟨50, _⟩ => ⟨S2x2048x1, .f32⟩
  | .hbm, ⟨51, _⟩ => ⟨S2x2048x1, .f32⟩
  | .hbm, ⟨52, _⟩ => ⟨S_, .f32⟩
  | .hbm, ⟨53, _⟩ => ⟨S2x2048x1, .f32⟩
  | .hbm, ⟨54, _⟩ => ⟨S2x2048x1, .f32⟩
  | .hbm, ⟨55, _⟩ => ⟨S2x2048x1024, .f32⟩
  | .hbm, ⟨56, _⟩ => ⟨S2x2048x1024, .f32⟩
  | .hbm, ⟨57, _⟩ => ⟨S1x1x1024, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S2x2048, .f32⟩
  | .hbm, ⟨67, _⟩ => ⟨S_, .f32⟩
  | .hbm, ⟨68, _⟩ => ⟨S2x2048, .f32⟩
  | .hbm, ⟨69, _⟩ => ⟨S2x2048, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S2x2048, .f32⟩
  | .hbm, ⟨78, _⟩ => ⟨S_, .f32⟩
  | .hbm, ⟨79, _⟩ => ⟨S2x2048, .f32⟩
  | .hbm, ⟨80, _⟩ => ⟨S2x2048, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S_, .f32⟩
  | .hbm, ⟨85, _⟩ => ⟨S1024, .f32⟩
  | .hbm, ⟨86, _⟩ => ⟨S1x1x1024, .f32⟩
  | .hbm, ⟨87, _⟩ => ⟨S2x2048x1024, .f32⟩
  | .hbm, ⟨88, _⟩ => ⟨S2x2048x1024, .f32⟩
  | .hbm, ⟨89, _⟩ => ⟨S_, .f32⟩
  | .hbm, ⟨90, _⟩ => ⟨S1024, .f32⟩
  | .hbm, ⟨91, _⟩ => ⟨S2x2048x1024, .f32⟩
  | .hbm, ⟨92, _⟩ => ⟨S_, .f32⟩
  | .hbm, ⟨93, _⟩ => ⟨S2x2048, .f32⟩
  | .hbm, ⟨94, _⟩ => ⟨S2x2048x1, .f32⟩
  | .hbm, ⟨95, _⟩ => ⟨S2x2048x1024, .f32⟩
  | .hbm, ⟨96, _⟩ => ⟨S2x2048x1024, .f32⟩
  | .hbm, ⟨97, _⟩ => ⟨S2x2048x1, .f32⟩
  | .hbm, ⟨98, _⟩ => ⟨S_, .f32⟩
  | .hbm, ⟨99, _⟩ => ⟨S2x2048x1, .f32⟩
  | .hbm, ⟨100, _⟩ => ⟨S2x2048x1, .f32⟩
  | .hbm, ⟨101, _⟩ => ⟨S_, .f32⟩
  | .hbm, ⟨102, _⟩ => ⟨S2x2048, .f32⟩
  | .hbm, ⟨103, _⟩ => ⟨S2x2048x1024, .f32⟩
  | .hbm, ⟨104, _⟩ => ⟨S2x2048x1024, .f32⟩
  | .hbm, ⟨105, _⟩ => ⟨S2x2048x1024, .f32⟩
  | .hbm, ⟨106, _⟩ => ⟨S2x2048x1024, .f32⟩
  | .hbm, ⟨107, _⟩ => ⟨S2x2048x1024, .f32⟩
  | .hbm, ⟨108, _⟩ => ⟨S4096x1024, .f32⟩
  | .hbm, ⟨109, _⟩ => ⟨S4096x4x704, .f32⟩
  | .hbm, ⟨110, _⟩ => ⟨S4x4096x704, .f32⟩
  | .hbm, ⟨111, _⟩ => ⟨S4x4096x704, .bf16⟩
  | .hbm, ⟨112, _⟩ => ⟨S4096x4x704, .f32⟩
  | .hbm, ⟨113, _⟩ => ⟨S4x4096x704, .f32⟩
  | .hbm, ⟨114, _⟩ => ⟨S4x4096x704, .bf16⟩
  | .hbm, ⟨115, _⟩ => ⟨S4096x1024, .f32⟩
  | .hbm, ⟨116, _⟩ => ⟨S4096x1024, .bf16⟩
  | .hbm, ⟨117, _⟩ => ⟨S1x128, .f32⟩
  | .hbm, ⟨118, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_cst_12 : Ref sig .tc := ⟨.hbm, 74, rfl⟩
abbrev main_cst_13 : Ref sig .tc := ⟨.hbm, 75, rfl⟩
abbrev main_v46 : Ref sig .tc := ⟨.hbm, 76, rfl⟩
abbrev main_v47 : Ref sig .tc := ⟨.hbm, 77, rfl⟩
abbrev main_cst_14 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_15 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_v58 : Ref sig .tc := ⟨.hbm, 91, rfl⟩
abbrev main_cst_17 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_v65 : Ref sig .tc := ⟨.hbm, 100, rfl⟩
abbrev main_cst_19 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]
-- ==== Proof.ConvValue.lean ====
/- What the convolution's backward kernel leaves in its results, entry by entry. -/
module

public import proofs.«01_k».proof.Proof.Gen.ConvBwdIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen

variable (m : (ℓ : Loc nD τ sig) → Buf (Elt Ideal) ℓ)

/-- Every window's block index at every grid point: two sequences for each of four groups of 128 channels. -/
theorem idx : ∀ t : Fin cfg0.N, win0_0.index t = ![t.val % 2, t.val / 2]
    ∧ win0_1.index t = ![t.val % 2, 12 + (t.val / 2)]
    ∧ win0_2.index t = ![t.val % 2, 16 + (t.val / 2)]
    ∧ win0_3.index t = ![t.val % 2, 20 + (t.val / 2)]
    ∧ win0_4.index t = ![0, t.val / 2]
    ∧ win0_5.index t = ![t.val % 2, t.val / 2]
    ∧ win0_6.index t = ![t.val % 2, t.val / 2]
    ∧ win0_7.index t = ![t.val % 2, t.val / 2]
    ∧ win0_8.index t = ![0, t.val / 2] :=
  (by decide +kernel : ∀ t : Fin grid0.N, _)

/-- `u = c_c * c_x`, the convolution's input, at sequence `b`, channel `ch`, position `s`. -/
def inp (P : FVec Ideal S2x2048x5128 .f32) (b : Fin 2) (ch : Fin 512) (s : Fin 2048) : EReal :=
  P (ix3 b s ⟨2056 + ch.val, by omega⟩) * P (ix3 b s ⟨2568 + ch.val, by omega⟩)

/-- The cotangent of the convolution's output: `dy * c_b`. -/
def cot (P : FVec Ideal S2x2048x5128 .f32) (dy : FVec Ideal S2x2048x512 .f32) (b : Fin 2) (ch : Fin 512) (s : Fin 2048) : EReal :=
  dy (ix3 b s ch) * P (ix3 b s ⟨1544 + ch.val, by omega⟩)

/-- A sequence read `n` positions earlier, zero before its start. -/
def earlier (n : ℕ) (u : Fin 2048 → EReal) (s : Fin 2048) : EReal :=
  if h : n ≤ s.val then u ⟨s.val - n, by omega⟩ else 0

/-- A sequence read `n` positions later, zero past its end. -/
def later (n : ℕ) (u : Fin 2048 → EReal) (s : Fin 2048) : EReal :=
  if h : s.val + n < 2048 then u ⟨s.val + n, h⟩ else 0

/-- The gradient of the output gate: the cotangent times the three taps' sum. -/
def gateGrad (P : FVec Ideal S2x2048x5128 .f32) (w : FVec Ideal S3x512 .f32) (dy : FVec Ideal S2x2048x512 .f32)
    (b : Fin 2) (ch : Fin 512) (s : Fin 2048) : EReal :=
  dy (ix3 b s ch) * (w (ix2 0 ch) * earlier 2 (inp P b ch) s + w (ix2 1 ch) * earlier 1 (inp P b ch) s
    + w (ix2 2 ch) * inp P b ch s)

/-- The gradient of the convolution's input: the cotangent convolved the other way. -/
def inpGrad (P : FVec Ideal S2x2048x5128 .f32) (w : FVec Ideal S3x512 .f32) (dy : FVec Ideal S2x2048x512 .f32)
    (b : Fin 2) (ch : Fin 512) (s : Fin 2048) : EReal :=
  w (ix2 2 ch) * cot P dy b ch s + w (ix2 1 ch) * later 1 (cot P dy b ch) s + w (ix2 0 ch) * later 2 (cot P dy b ch) s

/-- A product with a sequence read earlier, as the kernel's body spells it. -/
theorem mul_earlier (n : ℕ) (hn : n < 2048) (w : EReal) (u : Fin 2048 → EReal) (r : Fin 2048) (h) :
    (if n ≤ r.val then w * u ⟨(r.val + 2048 - n) % 2048, h⟩ else 0) = w * earlier n u r := by
  unfold earlier
  by_cases hr : n ≤ r.val
  · rw [if_pos hr, dif_pos hr]
    congr 3; omega
  · rw [if_neg hr, dif_neg hr, mul_zero]

/-- A product with a sequence read later, as the kernel's body spells it. -/
theorem mul_later (n : ℕ) (hn : n < 2048) (w : EReal) (u : Fin 2048 → EReal) (r : Fin 2048) (h) :
    (if r.val < 2048 - n then w * u ⟨(r.val + 2048 - (2048 - n)) % 2048, h⟩ else 0) = w * later n u r := by
  unfold later
  by_cases hr : r.val + n < 2048
  · rw [if_pos (by omega), dif_pos hr]
    congr 3; omega
  · rw [if_neg (by omega), dif_neg hr, mul_zero]

/-- The gradient of a tap: the cotangent times the input read `2 - k` positions earlier, over one sequence. -/
def tapGrad (P : FVec Ideal S2x2048x5128 .f32) (dy : FVec Ideal S2x2048x512 .f32) (k : ℕ) (b : Fin 2) (ch : Fin 512) : EReal :=
  ∑ s : Fin 2048, cot P dy b ch s * earlier (2 - k) (inp P b ch) s

section Body

variable (cc cx cb dy : FVec Ideal S2048x128 .bf16) (w : FVec Ideal S8x128 .f32) (r : Fin 2048) (l : Fin 128)
  (P : FVec Ideal S2x2048x5128 .f32) (W : FVec Ideal S3x512 .f32) (Y : FVec Ideal S2x2048x512 .f32) (b : Fin 2) (ch : Fin 512)
  (hcc : ∀ s : Fin 2048, cc (ix2 s l) = P (ix3 b s ⟨2056 + ch.val, by omega⟩))
  (hcx : ∀ s : Fin 2048, cx (ix2 s l) = P (ix3 b s ⟨2568 + ch.val, by omega⟩))
  (hcb : ∀ s : Fin 2048, cb (ix2 s l) = P (ix3 b s ⟨1544 + ch.val, by omega⟩))
  (hdy : ∀ s : Fin 2048, dy (ix2 s l) = Y (ix3 b s ch))
  (hw : ∀ k : Fin 3, w (ix2 ⟨k.val, by omega⟩ l) = W (ix2 k ch))

include hcc hcx hdy hw in
/-- The body's first result is the output gate's gradient. -/
theorem body5 : k0_pay10 (F := Ideal) cc cx w dy (ix2 r l) = gateGrad P W Y b ch r := by
  pointwise [k0_pay10, k0_pay7, k0_pay6, k0_pay5, k0_pay3, k0_pay4, k0_pay8, k0_pay9]
  word_cmp
  simp only [hcc, hcx, hdy]
  refine Ideal.mul_congr rfl (Ideal.add_congr (Ideal.add_congr ?_ ?_) ?_)
  · exact (mul_earlier 2 (by omega) _ (inp P b ch) r _).trans (Ideal.mul_congr (hw 0) rfl)
  · exact (mul_earlier 1 (by omega) _ (inp P b ch) r _).trans (Ideal.mul_congr (hw 1) rfl)
  · exact Ideal.mul_congr (hw 2) rfl

include hdy hw hcb in
/-- The gradient of the convolution's input, as the body computes it. -/
theorem body_inp : k0_pay12 (F := Ideal) (k0_pay8 w) (k0_pay9 dy) cb (ix2 r l) = inpGrad P W Y b ch r := by
  pointwise [k0_pay12, k0_pay11, k0_pay8, k0_pay9]
  word_cmp
  simp only [hcb, hdy]
  refine Ideal.add_congr (Ideal.add_congr ?_ ?_) ?_
  · exact Ideal.mul_congr (hw 2) rfl
  · exact (mul_later 1 (by omega) _ (cot P Y b ch) r (by omega)).trans (Ideal.mul_congr (hw 1) rfl)
  · exact (mul_later 2 (by omega) _ (cot P Y b ch) r (by omega)).trans (Ideal.mul_congr (hw 0) rfl)

include hcx hdy hw hcb in
/-- The body's second result: the gradient of the input gate. -/
theorem body6 : k0_pay13 (F := Ideal) (k0_pay4 cx) (k0_pay8 w) (k0_pay9 dy) cb (ix2 r l)
    = inpGrad P W Y b ch r * P (ix3 b r ⟨2568 + ch.val, by omega⟩) := by
  pointwise [k0_pay13, body_inp cb dy w r l P W Y b ch hcb hdy hw, k0_pay4, hcx]

include hcc hdy hw hcb in
/-- The body's third result: the gradient of the gated input. -/
theorem body7 : k0_pay14 (F := Ideal) (k0_pay3 cc) (k0_pay8 w) (k0_pay9 dy) cb (ix2 r l)
    = inpGrad P W Y b ch r * P (ix3 b r ⟨2056 + ch.val, by omega⟩) := by
  pointwise [k0_pay14, body_inp cb dy w r l P W Y b ch hcb hdy hw, k0_pay3, hcc]

include hcc hcx in
/-- The convolution's input read one position earlier. -/
theorem body_u1 : k0_pay6 (F := Ideal) cc cx (ix2 r l) = earlier 1 (inp P b ch) r := by
  pointwise [k0_pay6, k0_pay5, k0_pay3, k0_pay4]
  word_cmp
  simp only [hcc, hcx]
  have e := mul_earlier 1 (by omega) 1 (inp P b ch) r (by omega)
  simp only [one_mul] at e
  exact e

include hcc hcx in
/-- The convolution's input read two positions earlier. -/
theorem body_u2 : k0_pay7 (F := Ideal) cc cx (ix2 r l) = earlier 2 (inp P b ch) r := by
  pointwise [k0_pay7, k0_pay5, k0_pay3, k0_pay4]
  word_cmp
  simp only [hcc, hcx]
  have e := mul_earlier 2 (by omega) 1 (inp P b ch) r (by omega)
  simp only [one_mul] at e
  exact e

/-- The part of the taps' gradient one sequence contributes, at row `r` of the eight. -/
def tapRow (P : FVec Ideal S2x2048x5128 .f32) (Y : FVec Ideal S2x2048x512 .f32) (b : Fin 2) (ch : Fin 512) (r : ℕ) : EReal :=
  if r < 3 then tapGrad P Y r b ch else 0

include hcc hcx hdy hcb in
/-- The body's fourth result adds one sequence's part of the taps' gradient. -/
theorem body8 (acc) (r : Fin 8) : k0_pay1 (F := Ideal) (k0_pay5 cc cx) (k0_pay6 cc cx)
      (k0_pay11 (k0_pay9 dy) cb) (iota Kind.tc S8x128 32 [0] iota_S8x128_d0_w32) k0_pay15
      (k0_pay16 (k0_pay7 cc cx) (k0_pay9 dy) cb) k0_pay17 acc (ix2 r l) = acc (ix2 r l) + tapRow P Y b ch r.val := by
  have u1 := fun s => body_u1 cc cx s l P b ch hcc hcx
  have u2 := fun s => body_u2 cc cx s l P b ch hcc hcx
  pointwise [k0_pay1, u1, u2, k0_pay5, k0_pay3, k0_pay4, k0_pay9, k0_pay11, k0_pay15, k0_pay16, k0_pay17, hcc, hcx, hcb, hdy]
  word_cmp
  refine Ideal.add_congr rfl ?_
  unfold tapRow tapGrad
  by_cases h0 : r.val = 0
  · simp [h0, cot]
  by_cases h1 : r.val = 1
  · simp [h1, cot]
  by_cases h2 : r.val = 2
  · simp [h2, cot, earlier, inp]
  · rw [if_neg h0, if_neg h1, if_neg h2, if_neg (by omega)]

end Body

theorem V1 (c : Dev nD) : V m c main_v1 = (truncf .bf16 (shapeCast S4096x512 (show FVec Ideal S2x2048x512 .f32 from m ((c : Thread nD τ).loc main_arg2)) shapeCasts_S2x2048x512_S4096x512) bitsLt_bf16_f32 : FVec Ideal S4096x512 .bf16) := by
  simp only [V, List.flatten_cons, List.flatten_nil, List.append_nil, List.cons_append, List.nil_append, hostOps0, hostOps0_1, StableHlo.TRef.binary, StableHlo.TRef.unary, StableHlo.TRef.toBuf, StableHlo.TRef.ofBuf, cast_eq]
  after_results_simp <;> rfl

theorem V6 (c : Dev nD) : V m c main_v6 = (truncf .bf16 (concatenate S4096x5120 1 [⟨S4096x1536, extractStridedSlice S4096x1536 ![0, 0] (shapeCast S4096x5128 (show FVec Ideal S2x2048x5128 .f32 from m ((c : Thread nD τ).loc main_arg0)) shapeCasts_S2x2048x5128_S4096x5128) slices_S4096x5128_S4096x1536_0_0⟩, ⟨S4096x3584, extractStridedSlice S4096x3584 ![0, 1544] (shapeCast S4096x5128 (show FVec Ideal S2x2048x5128 .f32 from m ((c : Thread nD τ).loc main_arg0)) shapeCasts_S2x2048x5128_S4096x5128) slices_S4096x5128_S4096x3584_0_1544⟩] concatenates_S4096x1536_S4096x3584_S4096x5120_d1)  bitsLt_bf16_f32 : FVec Ideal S4096x5120 .bf16) := by
  simp only [V, List.flatten_cons, List.flatten_nil, List.append_nil, List.cons_append, List.nil_append, hostOps0, hostOps0_1, StableHlo.TRef.binary, StableHlo.TRef.unary, StableHlo.TRef.toBuf, StableHlo.TRef.ofBuf, cast_eq]
  after_results_simp <;> rfl

theorem V1_at (c : Dev nD) (i : S4096x512.Idx) : V m c main_v1 i
      = (show FVec Ideal S2x2048x512 .f32 from m ((c : Thread nD τ).loc main_arg2)) (ix3 ⟨(i 0 : ℕ) / 2048, by have := (i 0).isLt; simp at this; omega⟩ ⟨(i 0 : ℕ) % 2048, by omega⟩ (i 1)) := by
  rw [V1]
  pointwise

theorem V6_at (c : Dev nD) (i : S4096x5120.Idx) (h : 1536 ≤ (i 1 : ℕ)) : V m c main_v6 i
      = (show FVec Ideal S2x2048x5128 .f32 from m ((c : Thread nD τ).loc main_arg0)) (ix3 ⟨(i 0 : ℕ) / 2048, by have := (i 0).isLt; simp at this; omega⟩ ⟨(i 0 : ℕ) % 2048, by omega⟩ ⟨(i 1 : ℕ) + 8, by have := (i 1).isLt; simp at this; omega⟩) := by
  rw [V6]
  idx_vars i
  have h : 1536 ≤ (i1 : ℕ) := h
  pointwise
  rw [dif_neg (by omega)]
  blk_ext

theorem blk0 (c : Dev nD) (t : Fin cfg0.N) (r : Fin 2048) (l : Fin 128) (h : t.val < 8) :
    (show FVec Ideal S2048x128 .bf16 from iblk m c 0 t) (ix2 r l)
      = (show FVec Ideal S2x2048x512 .f32 from m ((c : Thread nD τ).loc main_arg2)) (ix3 ⟨t.val % 2, by omega⟩ r ⟨128 * (t.val / 2) + l.val, by omega⟩) := by
  refine (V1_at m c _).trans ?_
  blk_ext [idx t]
theorem blk1 (c : Dev nD) (t : Fin cfg0.N) (r : Fin 2048) (l : Fin 128) (h : t.val < 8) :
    (show FVec Ideal S2048x128 .bf16 from iblk m c 1 t) (ix2 r l)
      = (show FVec Ideal S2x2048x5128 .f32 from m ((c : Thread nD τ).loc main_arg0)) (ix3 ⟨t.val % 2, by omega⟩ r ⟨1544 + (128 * (t.val / 2) + l.val), by omega⟩) := by
  refine (V6_at m c _ ?_).trans ?_
  · blk_simp [idx t]; omega
  · blk_ext [idx t]

theorem blk2 (c : Dev nD) (t : Fin cfg0.N) (r : Fin 2048) (l : Fin 128) (h : t.val < 8) :
    (show FVec Ideal S2048x128 .bf16 from iblk m c 2 t) (ix2 r l)
      = (show FVec Ideal S2x2048x5128 .f32 from m ((c : Thread nD τ).loc main_arg0)) (ix3 ⟨t.val % 2, by omega⟩ r ⟨2056 + (128 * (t.val / 2) + l.val), by omega⟩) := by
  refine (V6_at m c _ ?_).trans ?_
  · blk_simp [idx t]; omega
  · blk_ext [idx t]

theorem blk3 (c : Dev nD) (t : Fin cfg0.N) (r : Fin 2048) (l : Fin 128) (h : t.val < 8) :
    (show FVec Ideal S2048x128 .bf16 from iblk m c 3 t) (ix2 r l)
      = (show FVec Ideal S2x2048x5128 .f32 from m ((c : Thread nD τ).loc main_arg0)) (ix3 ⟨t.val % 2, by omega⟩ r ⟨2568 + (128 * (t.val / 2) + l.val), by omega⟩) := by
  refine (V6_at m c _ ?_).trans ?_
  · blk_simp [idx t]; omega
  · blk_ext [idx t]

theorem V7 (c : Dev nD) : V m c main_v7 = (pad S8x512 ![0, 0] ![5, 0] ![0, 0] (show FVec Ideal S3x512 .f32 from m ((c : Thread nD τ).loc main_arg1)) (sitofp .f32 (constantI S_ 32 0#32)) pads_S3x512_S8x512_050_000 h_S_ : FVec Ideal S8x512 .f32) := by
  simp only [V, List.flatten_cons, List.flatten_nil, List.append_nil, List.cons_append, List.nil_append, hostOps0, hostOps0_1, StableHlo.TRef.binary, StableHlo.TRef.unary, StableHlo.TRef.toBuf, StableHlo.TRef.ofBuf, cast_eq]
  after_results_simp <;> rfl

theorem V7_at (c : Dev nD) (i : S8x512.Idx) (h : (i 0 : ℕ) < 3) : V m c main_v7 i
      = (show FVec Ideal S3x512 .f32 from m ((c : Thread nD τ).loc main_arg1)) (ix2 ⟨(i 0 : ℕ), h⟩ (i 1)) := by
  rw [V7]
  idx_vars i
  have h : (i0 : ℕ) < 3 := h
  pointwise
  rw [dif_pos h]

theorem blk4 (c : Dev nD) (t : Fin cfg0.N) (k : Fin 3) (l : Fin 128) (h : t.val < 8) :
    (show FVec Ideal S8x128 .f32 from iblk m c 4 t) (ix2 ⟨k.val, by omega⟩ l)
      = (show FVec Ideal S3x512 .f32 from m ((c : Thread nD τ).loc main_arg1)) (ix2 k ⟨128 * (t.val / 2) + l.val, by omega⟩) := by
  refine (V7_at m c _ ?_).trans ?_
  · blk_simp [idx t]
    exact k.isLt
  · blk_ext [idx t]

/-- The arguments as one reads them. -/
abbrev argP (c : Dev nD) : FVec Ideal S2x2048x5128 .f32 := m ((c : Thread nD τ).loc main_arg0)
abbrev argW (c : Dev nD) : FVec Ideal S3x512 .f32 := m ((c : Thread nD τ).loc main_arg1)
abbrev argY (c : Dev nD) : FVec Ideal S2x2048x512 .f32 := m ((c : Thread nD τ).loc main_arg2)

/-- A function of sequence, channel and position as the array of rows the kernel writes. -/
def rowsOf (f : Fin 2 → Fin 512 → Fin 2048 → EReal) : FVec Ideal S4096x512 .bf16 := fun i =>
  f ⟨(i 0 : ℕ) / 2048, by have := (i 0).isLt; simp at this; omega⟩ (i 1) ⟨(i 0 : ℕ) % 2048, by omega⟩

/-- An entry of that array, its row and column given. -/
theorem rowsOf_eq (f : Fin 2 → Fin 512 → Fin 2048 → EReal) (i : S4096x512.Idx) (b : Fin 2) (ch : Fin 512) (s : Fin 2048)
    (h0 : (i 0 : ℕ) = 2048 * b.val + s.val) (h1 : (i 1 : ℕ) = ch.val) : f b ch s = rowsOf f i := by
  have hs := s.isLt
  have hb : (⟨(i 0 : ℕ) / 2048, by have := (i 0).isLt; simp at this; omega⟩ : Fin 2) = b :=
    Fin.ext (show (i 0 : ℕ) / 2048 = b.val by omega)
  have hc : (i 1 : Fin 512) = ch := Fin.ext h1
  have hs' : (⟨(i 0 : ℕ) % 2048, by omega⟩ : Fin 2048) = s := Fin.ext (show (i 0 : ℕ) % 2048 = s.val by omega)
  exact (congr (congr (congrArg f hb) hc) hs').symm

/-- The grid has eight points. -/
theorem lt8 (t : Fin cfg0.N) : t.val < 8 := lt_of_lt_of_eq t.isLt N_0

/-- Result 0: the output gate's gradient, whole. -/
theorem final5 (c : Dev nD) : (dats m 0 c).arrAt 5 (cfgs 0).N = rowsOf fun b ch s => gateGrad (argP m c) (argW m c) (argY m c) b ch s := by
  refine (dats m 0 c).arrAt_eq_of_covers 5 _ (by decide +kernel) fun t hf y => ?_
  blk_simp
  rw [after0_5]
  have h := lt8 t
  idx_vars y
  have hrow : ∀ f, f ⟨t.val % 2, by omega⟩ ⟨128 * (t.val / 2) + y1.val, by omega⟩ y0
      = rowsOf f (((cfg0.win 5).blk t).view.emb (ix2 y0 y1)) := fun f => rowsOf_eq f _ _ _ _
    (by blk_simp [idx t]; dsimp only; omega) (by blk_simp [idx t]; dsimp only; omega)
  have e := body5 (iblk m c 2 t) (iblk m c 3 t) (iblk m c 0 t) (iblk m c 4 t) y0 y1 (argP m c) (argW m c) (argY m c) ⟨t.val % 2, by omega⟩ ⟨128 * (t.val / 2) + y1.val, by omega⟩ (fun s => blk2 m c t s y1 h) (fun s => blk3 m c t s y1 h) (fun s => blk0 m c t s y1 h) (fun k => blk4 m c t k y1 h)
  by_cases h0 : t.val % 2 = 0
  · rw [outsAt0_A m c t h0]
    dsimp only
    frame_out
    exact e.trans (hrow fun b ch s => gateGrad (argP m c) (argW m c) (argY m c) b ch s)
  · rw [outsAt0_B m c t h0]
    dsimp only
    frame_out
    exact e.trans (hrow fun b ch s => gateGrad (argP m c) (argW m c) (argY m c) b ch s)

/-- Result 1: the input gate's gradient, whole. -/
theorem final6 (c : Dev nD) : (dats m 0 c).arrAt 6 (cfgs 0).N = rowsOf fun b ch s => inpGrad (argP m c) (argW m c) (argY m c) b ch s * (argP m c) (ix3 b s ⟨2568 + ch.val, by omega⟩) := by
  refine (dats m 0 c).arrAt_eq_of_covers 6 _ (by decide +kernel) fun t hf y => ?_
  blk_simp
  rw [after0_6]
  have h := lt8 t
  idx_vars y
  have hrow : ∀ f, f ⟨t.val % 2, by omega⟩ ⟨128 * (t.val / 2) + y1.val, by omega⟩ y0
      = rowsOf f (((cfg0.win 6).blk t).view.emb (ix2 y0 y1)) := fun f => rowsOf_eq f _ _ _ _
    (by blk_simp [idx t]; dsimp only; omega) (by blk_simp [idx t]; dsimp only; omega)
  have e := body6 (iblk m c 3 t) (iblk m c 1 t) (iblk m c 0 t) (iblk m c 4 t) y0 y1 (argP m c) (argW m c) (argY m c) ⟨t.val % 2, by omega⟩ ⟨128 * (t.val / 2) + y1.val, by omega⟩ (fun s => blk3 m c t s y1 h) (fun s => blk1 m c t s y1 h) (fun s => blk0 m c t s y1 h) (fun k => blk4 m c t k y1 h)
  by_cases h0 : t.val % 2 = 0
  · rw [outsAt0_A m c t h0]
    dsimp only
    frame_out
    exact e.trans (hrow fun b ch s => inpGrad (argP m c) (argW m c) (argY m c) b ch s * (argP m c) (ix3 b s ⟨2568 + ch.val, by omega⟩))
  · rw [outsAt0_B m c t h0]
    dsimp only
    frame_out
    exact e.trans (hrow fun b ch s => inpGrad (argP m c) (argW m c) (argY m c) b ch s * (argP m c) (ix3 b s ⟨2568 + ch.val, by omega⟩))

/-- Result 2: the gated input's gradient, whole. -/
theorem final7 (c : Dev nD) : (dats m 0 c).arrAt 7 (cfgs 0).N = rowsOf fun b ch s => inpGrad (argP m c) (argW m c) (argY m c) b ch s * (argP m c) (ix3 b s ⟨2056 + ch.val, by omega⟩) := by
  refine (dats m 0 c).arrAt_eq_of_covers 7 _ (by decide +kernel) fun t hf y => ?_
  blk_simp
  rw [after0_7]
  have h := lt8 t
  idx_vars y
  have hrow : ∀ f, f ⟨t.val % 2, by omega⟩ ⟨128 * (t.val / 2) + y1.val, by omega⟩ y0
      = rowsOf f (((cfg0.win 7).blk t).view.emb (ix2 y0 y1)) := fun f => rowsOf_eq f _ _ _ _
    (by blk_simp [idx t]; dsimp only; omega) (by blk_simp [idx t]; dsimp only; omega)
  have e := body7 (iblk m c 2 t) (iblk m c 1 t) (iblk m c 0 t) (iblk m c 4 t) y0 y1 (argP m c) (argW m c) (argY m c) ⟨t.val % 2, by omega⟩ ⟨128 * (t.val / 2) + y1.val, by omega⟩ (fun s => blk2 m c t s y1 h) (fun s => blk1 m c t s y1 h) (fun s => blk0 m c t s y1 h) (fun k => blk4 m c t k y1 h)
  by_cases h0 : t.val % 2 = 0
  · rw [outsAt0_A m c t h0]
    dsimp only
    frame_out
    exact e.trans (hrow fun b ch s => inpGrad (argP m c) (argW m c) (argY m c) b ch s * (argP m c) (ix3 b s ⟨2056 + ch.val, by omega⟩))
  · rw [outsAt0_B m c t h0]
    dsimp only
    frame_out
    exact e.trans (hrow fun b ch s => inpGrad (argP m c) (argW m c) (argY m c) b ch s * (argP m c) (ix3 b s ⟨2056 + ch.val, by omega⟩))

/-- The kernel starts a group of channels from zero. -/
theorem zero8 (j : S8x128.Idx) : k0_pay2 (F := Ideal) j = 0 := by pointwise [k0_pay2]

/-- Result 3: the taps' gradient, whole, summed over the two sequences. -/
theorem final8 (c : Dev nD) : (dats m 0 c).arrAt 8 (cfgs 0).N
    = (fun i => ∑ b : Fin 2, tapRow (argP m c) (argY m c) b (i 1) (i 0 : ℕ) : FVec Ideal S8x512 .f32) := by
  refine (dats m 0 c).arrAt_eq_of_covers 8 _ (by decide +kernel) fun t hf y => ?_
  blk_simp
  have h := lt8 t
  have e := fun (u : Fin cfg0.N) (acc : FVec Ideal S8x128 .f32) (j : S8x128.Idx) =>
    body8 (iblk m c 2 u) (iblk m c 3 u) (iblk m c 1 u) (iblk m c 0 u) (j 1) (argP m c) (argY m c) ⟨u.val % 2, by omega⟩
      ⟨128 * (u.val / 2) + (j 1 : ℕ), by have := lt8 u; have := (j 1).isLt; simp at this; omega⟩
      (fun s => blk2 m c u s (j 1) (lt8 u)) (fun s => blk3 m c u s (j 1) (lt8 u)) (fun s => blk1 m c u s (j 1) (lt8 u))
      (fun s => blk0 m c u s (j 1) (lt8 u)) acc (j 0)
  rw [after0_8, Pipeline.eq_sum_fin_of_reset_step_apply_of_flush (fun n h => (outsAt0 m c n h).2.2.2) 2 (fun _ => 0)
    (fun (u : Fin cfg0.N) (j : S8x128.Idx) => tapRow (argP m c) (argY m c) ⟨u.val % 2, by omega⟩
      ⟨128 * (u.val / 2) + (j 1 : ℕ), by have := lt8 u; have := (j 1).isLt; simp at this; omega⟩ (j 0 : ℕ))
    (fun u hu j => by
      rw [outsAt0_A m c u hu]
      dsimp only
      frame_out
      rw [eq_ix2 j]
      refine (e u _ _).trans (Ideal.add_congr (zero8 _) rfl))
    (fun u hu j => by
      rw [outsAt0_B m c u hu]
      dsimp only
      frame_out
      rw [eq_ix2 j]
      exact (e u _ _))
    t ((flush0_8 t).mp hf) _, zero_add]
  refine Fin.sum_fin_congr fun s => ?_
  have e1 : (⟨128 * ((2 * (t.val / 2) + s.val) / 2) + (y 1 : ℕ), by have := (y 1).isLt; simp at this; omega⟩ : Fin 512)
      = (win0_8.blk t).view.emb y 1 := Fin.ext (by blk_simp [idx t]; dsimp only; omega)
  have e0 : win0_8.index t 0 * 8 + (y 0 : ℕ) = (y 0 : ℕ) := by blk_simp [idx t]
  rw [e0, ← e1]
  exact congrArg (fun b => tapRow _ _ b _ _) (Fin.ext (show (2 * (t.val / 2) + s.val) % 2 = s.val by omega))

end Cert.ConvBwdIdeal.Value

end
-- ==== Proof.Sums.lean ====
/- Sums over the two leading axes of an array. -/
module

public import Idealize.ShloMosaic.Lib.Pointwise

@[expose] public section

noncomputable section

open Idealize.ShloMosaic

namespace Cert.Sums

variable {n0 n1 n2 : ℕ}

/-- The entries of an array that a reduction of its two leading axes sends to column `k`. -/
theorem drop_lead (h : (⟨3, ![n0, n1, n2]⟩ : Shape).ReducesTo [0, 1] ⟨1, ![n2]⟩) (k : Fin n2) (i : (⟨3, ![n0, n1, n2]⟩ : Shape).Idx) :
    h.drop i = ix1 k ↔ ∃ p : Fin n0 × Fin n1, ix3 p.1 p.2 k = i := by
  constructor
  · intro e
    refine ⟨(i 0, i 1), ?_⟩
    have e2 : (i 2 : ℕ) = k.val := congrArg Fin.val (congrFun e 0)
    funext a
    apply Fin.ext
    match a with
    | ⟨0, _⟩ => rfl
    | ⟨1, _⟩ => rfl
    | ⟨2, _⟩ => exact e2.symm
  · rintro ⟨p, rfl⟩
    funext b
    apply Fin.ext
    match b with
    | ⟨0, _⟩ => rfl

/-- The host's sum over the two leading axes, at a column. -/
theorem reduce_lead (h : (⟨3, ![n0, n1, n2]⟩ : Shape).ReducesTo [0, 1] ⟨1, ![n2]⟩) (v : (⟨3, ![n0, n1, n2]⟩ : Shape).Idx → EReal)
    (init : EReal) (k : Fin n2) :
    Ideal.hostReduceAdd h v init (ix1 k) = init + ∑ i : Fin n0, ∑ j : Fin n1, v (ix3 i j k) := by
  refine congrArg (init + ·) ?_
  refine (Finset.sum_filter_eq_sum_of_fiber _ (fun p : Fin n0 × Fin n1 => ix3 p.1 p.2 k)
    (fun _ _ e => Prod.ext (congrFun e 0) (congrFun e 1)) (drop_lead h k) v).trans ?_
  simp only [Fintype.sum_prod_type]

/-- A sum over rows taken tile by tile. -/
theorem tiles {N : ℕ} (a b : ℕ) (hN : N = a * b) (f : Fin N → EReal) :
    (∑ t : Fin a, ∑ r : Fin b, f ⟨b * t.val + r.val, by
      have h := Nat.mul_le_mul_left b (Nat.succ_le_of_lt t.isLt); have := r.isLt; rw [hN, Nat.mul_comm a b]; rw [Nat.mul_succ] at h; omega⟩) = ∑ p : Fin N, f p := by
  subst hN
  rw [← Fintype.sum_prod_type']
  exact Fintype.sum_equiv finProdFinEquiv _ _ fun p => congrArg f (Fin.ext (Nat.add_comm _ _))

/-- A sum over both sequences, position by position, is one over rows of tokens. -/
theorem pairs (f : Fin 2 → Fin 2048 → EReal) :
    (∑ b : Fin 2, ∑ s : Fin 2048, f b s) = ∑ p : Fin 4096, f ⟨p.val / 2048, by omega⟩ ⟨p.val % 2048, by omega⟩ := by
  refine Eq.trans ?_ (tiles 2 2048 rfl fun p : Fin 4096 => f ⟨p.val / 2048, by omega⟩ ⟨p.val % 2048, by omega⟩)
  refine Finset.sum_congr rfl fun b _ => Finset.sum_congr rfl fun s _ => ?_
  exact congrArg₂ f (Fin.ext (by dsimp only; omega)) (Fin.ext (by dsimp only; omega))

end Cert.Sums

end
-- ==== Proof.ConvRef.lean ====
/- What the derivative of the short convolution computes, entry by entry. -/
module

public import proofs.«01_k».proof.Proof.ConvValue
public import proofs.«01_k».proof.Proof.Sums
public import proofs.«01_k».proof.Proof.Gen.ConvGradIdeal.Run

@[expose] public section

set_option maxRecDepth 16384

noncomputable section

open Idealize.ShloMosaic Idealize.ShloMosaic.TcCoe Idealize.SL.Sem

namespace Cert.ConvGradIdeal.Value

open Cert.ConvGradIdeal Cert.ConvGradIdeal.Gen
open Cert.ConvBwdIdeal.Value (inp cot earlier later gateGrad inpGrad rowsOf tapGrad tapRow)

variable (P : FVec Ideal S2x2048x5128 .f32) (W : FVec Ideal S3x512 .f32) (Y : FVec Ideal S2x2048x512 .f32)

/-- The convolution's input with two zeros before each sequence. -/
def padded : FVec Ideal S2x2050x512 .f32 :=
  concatenate S2x2050x512 1 [⟨S2x2x512, (broadcastInDim S2x2x512 ![] bcast_S_S2x2x512 (constant S_ .f32 0x00000000#32))⟩, ⟨S2x2048x512, (mulf (extractStridedSlice S2x2048x512 ![0, 0, 2056] P slices_S2x2048x5128_S2x2048x512_0_0_2056) (extractStridedSlice S2x2048x512 ![0, 0, 2568] P slices_S2x2048x5128_S2x2048x512_0_0_2568))⟩] concatenates_S2x2x512_S2x2048x512_S2x2050x512_d1

theorem padded_at (b : Fin 2) (s : Fin 2050) (ch : Fin 512) :
    padded P (ix3 b s ch) = if h : 2 ≤ s.val then inp P b ch ⟨s.val - 2, by omega⟩ else 0 := by
  pointwise [padded]
  by_cases h : 2 ≤ s.val
  · rw [dif_neg (by omega), dif_pos h]
    rfl
  · rw [dif_pos (by omega), dif_neg h]

/-- A tap's weights along every sequence. -/
def tapV (k : ℕ) (h : S3x512.Slices ![k, 0] S1x512) : FVec Ideal S2x2048x512 .f32 :=
  broadcastInDim S2x2048x512 ![0, 1, 2] bcast_S1x1x512_S2x2048x512_0_1_2 (broadcastInDim S1x1x512 ![2] bcast_S512_S1x1x512_2 (shapeCast _ (extractStridedSlice S1x512 ![k, 0] W h) shapeCasts_S1x512_S512))

theorem tapV_at (k : ℕ) (h) (hk : k < 3) (b : Fin 2) (s : Fin 2048) (ch : Fin 512) :
    tapV W k h (ix3 b s ch) = W (ix2 ⟨k, hk⟩ ch) := by
  pointwise [tapV]

/-- The padded input read from position `k` on: the input `2 - k` positions earlier. -/
def shiftV (k : ℕ) (h : S2x2050x512.Slices ![0, k, 0] S2x2048x512) : FVec Ideal S2x2048x512 .f32 :=
  extractStridedSlice S2x2048x512 ![0, k, 0] (padded P) h

theorem shiftV_at (k : ℕ) (h) (hk : k < 3) (b : Fin 2) (s : Fin 2048) (ch : Fin 512) :
    shiftV P k h (ix3 b s ch) = earlier (2 - k) (inp P b ch) s := by
  pointwise [shiftV, padded_at]
  unfold earlier
  by_cases hs : 2 ≤ k + s.val
  · rw [dif_pos hs, dif_pos (by omega)]
    exact congrArg _ (Fin.ext (show k + s.val - 2 = s.val - (2 - k) by omega))
  · rw [dif_neg hs, dif_neg (by omega)]

theorem earlier_zero (u : Fin 2048 → EReal) (s : Fin 2048) : earlier 0 u s = u s := by
  unfold earlier
  rw [dif_pos (Nat.zero_le _)]
  rfl

/-- The gradient of the output gate. -/
def gateV : FVec Ideal S4096x512 .bf16 :=
  truncf .bf16 (shapeCast _ (mulf Y (addf (addf (mulf (tapV W 0 slices_S3x512_S1x512_0_0) (shiftV P 0 slices_S2x2050x512_S2x2048x512_0_0_0)) (mulf (tapV W 1 slices_S3x512_S1x512_1_0) (shiftV P 1 slices_S2x2050x512_S2x2048x512_0_1_0))) (mulf (tapV W 2 slices_S3x512_S1x512_2_0) (shiftV P 2 slices_S2x2050x512_S2x2048x512_0_2_0)))) shapeCasts_S2x2048x512_S4096x512) bitsLt_bf16_f32

theorem gateV_eq : gateV P W Y = rowsOf fun b ch s => gateGrad P W Y b ch s := by
  funext i
  idx_vars i
  pointwise [gateV, tapV_at, shiftV_at, rowsOf, gateGrad, earlier_zero]

/-- The cotangent of the convolution's output. -/
def cotV : FVec Ideal S2x2048x512 .f32 :=
  mulf (extractStridedSlice S2x2048x512 ![0, 0, 1544] P slices_S2x2048x5128_S2x2048x512_0_0_1544) Y

theorem cotV_at (b : Fin 2) (s : Fin 2048) (ch : Fin 512) : cotV P Y (ix3 b s ch) = cot P Y b ch s := by
  pointwise [cotV]
  exact mul_comm _ _

/-- A tap's part of the gradient of the padded input. -/
def backV (k j : ℕ) (h : S3x512.Slices ![k, 0] S1x512) (hp : S2x2048x512.Pads ![0, k, 0] ![0, j, 0] ![0, 0, 0] S2x2050x512) : FVec Ideal S2x2050x512 .f32 :=
  pad S2x2050x512 ![0, k, 0] ![0, j, 0] ![0, 0, 0] (mulf (tapV W k h) (cotV P Y)) (constant S_ .f32 0x00000000#32) hp h_S_

theorem backV_at (k j : ℕ) (h) (hp) (hk : k < 3) (b : Fin 2) (s : Fin 2048) (ch : Fin 512) :
    backV P W Y k j h hp (ix3 b ⟨2 + s.val, by omega⟩ ch) = W (ix2 ⟨k, hk⟩ ch) * later (2 - k) (cot P Y b ch) s := by
  pointwise [backV, tapV_at, cotV_at]
  unfold later
  by_cases hs : s.val + (2 - k) < 2048
  · rw [dif_pos (by omega), dif_pos hs]
    refine Ideal.mul_congr (tapV_at W k h hk b _ ch) (congrArg _ (Fin.ext (show 2 + s.val - k = s.val + (2 - k) by omega)))
  · rw [dif_neg (by omega), dif_neg hs, mul_zero]

theorem later_zero (u : Fin 2048 → EReal) (s : Fin 2048) : later 0 u s = u s := by
  unfold later
  rw [dif_pos (show s.val + 0 < 2048 from s.isLt)]
  rfl

/-- The gradient of the convolution's input. -/
def inpV : FVec Ideal S2x2048x512 .f32 :=
  extractStridedSlice S2x2048x512 ![0, 2, 0] (addf (addf (backV P W Y 2 0 slices_S3x512_S1x512_2_0 pads_S2x2048x512_S2x2050x512_000_200_000) (backV P W Y 1 1 slices_S3x512_S1x512_1_0 pads_S2x2048x512_S2x2050x512_000_110_000)) (backV P W Y 0 2 slices_S3x512_S1x512_0_0 pads_S2x2048x512_S2x2050x512_000_020_000)) slices_S2x2050x512_S2x2048x512_0_2_0

theorem inpV_at (b : Fin 2) (s : Fin 2048) (ch : Fin 512) : inpV P W Y (ix3 b s ch) = inpGrad P W Y b ch s := by
  pointwise [inpV, backV_at, inpGrad, later_zero]

/-- The gradients of the input gate and of the gated input. -/
def gateInV : FVec Ideal S4096x512 .bf16 :=
  truncf .bf16 (shapeCast _ (mulf (inpV P W Y) (extractStridedSlice S2x2048x512 ![0, 0, 2568] P slices_S2x2048x5128_S2x2048x512_0_0_2568)) shapeCasts_S2x2048x512_S4096x512) bitsLt_bf16_f32

theorem gateInV_eq : gateInV P W Y = rowsOf fun b ch s => inpGrad P W Y b ch s * P (ix3 b s ⟨2568 + ch.val, by omega⟩) := by
  funext i
  idx_vars i
  pointwise [gateInV, inpV_at, rowsOf]

def gatedV : FVec Ideal S4096x512 .bf16 :=
  truncf .bf16 (shapeCast _ (mulf (extractStridedSlice S2x2048x512 ![0, 0, 2056] P slices_S2x2048x5128_S2x2048x512_0_0_2056) (inpV P W Y)) shapeCasts_S2x2048x512_S4096x512) bitsLt_bf16_f32

theorem gatedV_eq : gatedV P W Y = rowsOf fun b ch s => inpGrad P W Y b ch s * P (ix3 b s ⟨2056 + ch.val, by omega⟩) := by
  funext i
  idx_vars i
  pointwise [gatedV, inpV_at, rowsOf]
  exact mul_comm _ _

/-- One tap's gradient, summed over positions and sequences. -/
def tapGradV (k : ℕ) (h : S2x2050x512.Slices ![0, k, 0] S2x2048x512) : FVec Ideal S1x512 .f32 :=
  broadcastInDim S1x512 ![1] bcast_S512_S1x512_1 (Host.reduceAdd (shapeCast _ (Host.reduceAdd (mulf (cotV P Y) (shiftV P k h)) (constant S_ .f32 0x00000000#32) reducesTo_S2x2048x512_S512_d0_1 h_S_) shapeCasts_S512_S1x1x512) (constant S_ .f32 0x00000000#32) reducesTo_S1x1x512_S512_d0_1 h_S_)

theorem tapGradV_at (k : ℕ) (h) (hk : k < 3) (ch : Fin 512) : tapGradV P Y k h (ix2 0 ch) = ∑ b : Fin 2, tapGrad P Y k b ch := by
  pointwise [tapGradV, cotV_at, shiftV_at P k h hk, Cert.Sums.reduce_lead, tapGrad]
  simp only [Finset.univ_unique, Finset.sum_singleton]

/-- The taps' gradient. -/
def tapsV : FVec Ideal S8x512 .f32 :=
  pad S8x512 ![0, 0] ![5, 0] ![0, 0] (addf (addf (pad S3x512 ![2, 0] ![0, 0] ![0, 0] (tapGradV P Y 2 slices_S2x2050x512_S2x2048x512_0_2_0) (constant S_ .f32 0x00000000#32) pads_S1x512_S3x512_200_000 h_S_) (pad S3x512 ![1, 0] ![1, 0] ![0, 0] (tapGradV P Y 1 slices_S2x2050x512_S2x2048x512_0_1_0) (constant S_ .f32 0x00000000#32) pads_S1x512_S3x512_110_000 h_S_)) (pad S3x512 ![0, 0] ![2, 0] ![0, 0] (tapGradV P Y 0 slices_S2x2050x512_S2x2048x512_0_0_0) (constant S_ .f32 0x00000000#32) pads_S1x512_S3x512_020_000 h_S_)) (sitofp .f32 (constantI S_ 32 0#32)) pads_S3x512_S8x512_050_000 h_S_

theorem tapsV_eq : tapsV P Y = fun i => ∑ b : Fin 2, tapRow P Y b (i 1) (i 0 : ℕ) := by
  funext i
  idx_vars i
  pointwise [tapsV, tapRow]
  by_cases h : i0.val < 3
  · simp only [dif_pos h, if_pos h]
    have hc : i0.val = 0 ∨ i0.val = 1 ∨ i0.val = 2 := by omega
    rcases hc with hc | hc | hc
    · rw [dif_neg (by omega), dif_neg (by omega), dif_pos (by omega), zero_add, zero_add]
      refine (congrArg (fun q => tapGradV P Y 0 _ (ix2 q i1)) (Subsingleton.elim _ 0)).trans ((tapGradV_at P Y 0 _ (by omega) i1).trans ?_)
      rw [hc]
    · rw [dif_neg (by omega), dif_pos (by omega), dif_neg (by omega), zero_add, add_zero]
      refine (congrArg (fun q => tapGradV P Y 1 _ (ix2 q i1)) (Subsingleton.elim _ 0)).trans ((tapGradV_at P Y 1 _ (by omega) i1).trans ?_)
      rw [hc]
    · rw [dif_pos (by omega), dif_neg (by omega), dif_neg (by omega), add_zero, add_zero]
      refine (congrArg (fun q => tapGradV P Y 2 _ (ix2 q i1)) (Subsingleton.elim _ 0)).trans ((tapGradV_at P Y 2 _ (by omega) i1).trans ?_)
      rw [hc]
  · simp only [dif_neg h, if_neg h, Finset.sum_const_zero]
    show (((0#32).toInt : ℝ) : EReal) = 0
    simp

end Cert.ConvGradIdeal.Value

end
-- ==== Proof.ConvClaim.lean ====
/- The convolution's backward kernel computes the derivative of the short convolution. -/
module

public import proofs.«01_k».proof.Defs
public import proofs.«01_k».proof.Proof.ConvRef
public import proofs.«01_k».proof.Proof.Gen.ConvGradIdeal.Run

@[expose] public section

set_option maxRecDepth 16384

noncomputable section

open Idealize.ShloMosaic Idealize.ShloMosaic.TcCoe Idealize.SL.Sem

namespace Cert.Proof

open Cert.ConvBwdIdeal Cert.ConvBwdIdeal.Value

theorem algebraic_conv : Cert.algebraic_ConvBwdIdeal_ConvGradIdeal := by
  pair_intro
  · run_from Cert.ConvBwdIdeal.Value.run_blocks m g
  · run_from Cert.ConvGradIdeal.Value.run m' g'
    · exact (Cert.ConvGradIdeal.Value.gateV_eq _ _ _).trans (final5 m c).symm
    · exact (Cert.ConvGradIdeal.Value.gateInV_eq _ _ _).trans (final6 m c).symm
    · exact (Cert.ConvGradIdeal.Value.gatedV_eq _ _ _).trans (final7 m c).symm
    · exact (Cert.ConvGradIdeal.Value.tapsV_eq _ _).trans (final8 m c).symm

/-- The reference is host operations only: its generated run says that its arguments are left alone, and it declares
    no semaphore. -/
theorem frame_conv_grad : Cert.quiescent_ConvGradIdeal := fun m ρ _ =>
  (θ_run Cert.ConvGradIdeal.defs _ _).mono (fun r h => ⟨fun c => (h c).2.2.2.2, sem_eq_zero_of_no_sems (by decide) r.2⟩)
    (Cert.ConvGradIdeal.Value.run (F := Ideal) m ρ)

end Cert.Proof

end
-- ==== Proof.FgateValue.lean ====
/- What the forget gate's backward kernel leaves in its results, entry by entry. -/
module

public import proofs.«01_k».proof.Proof.Gen.FgateBwdIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Fgate

/-- The running sum from the end: of a sequence of 2048 entries, those from the `n`-th on. -/
def tail (g : ℕ → EReal) (n : ℕ) : EReal := ∑ s ∈ Finset.Ico n 2048, g s

/-- The gate's slope at the logit `z`: `1 / (1 + exp z)`, with the double negation the kernel writes. -/
def slope (z : EReal) : EReal := Ideal.div 1 (1 + Ideal.exp (0 - (0 - z)))

/-- The logit's gradient at position `n`. -/
def gateGrad (g f : ℕ → EReal) (b : EReal) (n : ℕ) : EReal := tail g n * slope (f n + b)

/-- A chunk of 256 positions: what its upper triangular matrix sums, past what lies behind the chunk. -/
theorem tail_chunk (g : ℕ → EReal) (k : ℕ) (hk : 256 * k + 256 ≤ 2048) (r : Fin 256) :
    (∑ j : Fin 256, if r.val ≤ j.val then g (256 * k + j.val) else 0) + tail g (256 * k + 256) = tail g (256 * k + r.val) := by
  unfold tail
  rw [← Finset.sum_Ico_consecutive g (show 256 * k + r.val ≤ 256 * k + 256 by omega) hk]
  refine congrArg (· + _) ?_
  rw [Fin.sum_univ_eq_sum_range (fun j => if r.val ≤ j then g (256 * k + j) else 0) 256, ← Finset.sum_filter]
  refine Finset.sum_bij (fun j _ => 256 * k + j) ?_ ?_ ?_ ?_
  · intro j hj
    simp only [Finset.mem_filter, Finset.mem_range] at hj
    simp only [Finset.mem_Ico]
    omega
  · intro a _ b _ h
    simpa using h
  · intro b hb
    simp only [Finset.mem_Ico] at hb
    exact ⟨b - 256 * k, by simp only [Finset.mem_filter, Finset.mem_range]; omega, by omega⟩
  · intro _ _
    rfl

/-- The whole chunk. -/
theorem tail_whole (g : ℕ → EReal) (k : ℕ) (hk : 256 * k + 256 ≤ 2048) :
    tail g (256 * k + 256) + ∑ j : Fin 256, g (256 * k + j.val) = tail g (256 * k) := by
  have e := tail_chunk g k hk 0
  simp only [Fin.val_zero, Nat.zero_le, if_true, Nat.add_zero] at e
  rw [add_comm, e]

theorem tail_end (g : ℕ → EReal) : tail g 2048 = 0 := by
  simp [tail]

end Cert.Fgate

namespace Cert.FgateBwdIdeal.Value

open Cert.FgateBwdIdeal Cert.FgateBwdIdeal.Gen Cert.Fgate

section Body

variable (v f : FVec Ideal S256x128 .f32) (y : FVec Ideal S1x128 .f32) (r : Fin 256) (l : Fin 128) (g h : ℕ → EReal) (b : EReal) (k : ℕ)

/-- Rows of the triangular product. -/
theorem tri_at (c : FVec Ideal S1x128 .f32) : k0_pay7 (F := Ideal) k0_pay2 c v (ix2 r l)
    = (∑ j : Fin 256, if r.val ≤ j.val then v (ix2 j l) else 0) + c (ix2 0 l) := by
  pointwise [k0_pay7, k0_pay2]
  word_cmp

/-- A chunk continues the running sum that the chunks behind it leave in the carry. -/
theorem chunk (c : FVec Ideal S1x128 .f32) (hk : 256 * k + 256 ≤ 2048) (hv : ∀ j : Fin 256, v (ix2 j l) = g (256 * k + j.val))
    (hc : c (ix2 0 l) = tail g (256 * k + 256)) : k0_pay7 (F := Ideal) k0_pay2 c v (ix2 r l) = tail g (256 * k + r.val) := by
  rw [tri_at, hc, ← tail_chunk g k hk r]
  simp only [hv]

/-- The last chunk, with nothing behind it. -/
theorem chunk_last (hv : ∀ j : Fin 256, v (ix2 j l) = g (1792 + j.val)) :
    k0_pay3 (F := Ideal) v (ix2 r l) = tail g (1792 + r.val) :=
  chunk v r l g 7 (broadcast S1x128 (Scalar.ofBits .f32 0x00000000#32)) (by omega) hv
    ((show (Scalar.ofBits .f32 0x00000000#32 : Ideal .f32) = 0 by pointwise).trans (tail_end g).symm)

/-- The carry of the last chunk. -/
theorem carry_last (hv : ∀ j : Fin 256, v (ix2 j l) = g (1792 + j.val)) :
    k0_pay4 (F := Ideal) v (ix2 0 l) = tail g (256 * 6 + 256) := by
  have e := chunk_last v 0 l g hv
  pointwise [k0_pay4, e]

/-- The carry that a chunk leaves. -/
theorem carry (c : FVec Ideal S1x128 .f32) (hk : 256 * k + 256 ≤ 2048) (hv : ∀ j : Fin 256, v (ix2 j l) = g (256 * k + j.val))
    (hc : c (ix2 0 l) = tail g (256 * k + 256)) : k0_pay16 (F := Ideal) k0_pay2 c v (ix2 0 l) = tail g (256 * k) := by
  have e := chunk v 0 l g k c hk hv hc
  exact (show k0_pay16 (F := Ideal) k0_pay2 c v (ix2 0 l) = k0_pay7 (F := Ideal) k0_pay2 c v (ix2 0 l) by
    pointwise [k0_pay16, k0_pay15, k0_pay7]).trans e

/-- The product with the gate's slope. -/
theorem slope_at (d : FVec Ideal S256x128 .f32) (hd : d (ix2 r l) = tail g (256 * k + r.val)) (hf : f (ix2 r l) = h (256 * k + r.val))
    (hy : y (ix2 0 l) = b) : k0_pay13 (F := Ideal) d (k0_pay12 f y) (ix2 r l) = gateGrad g h b (256 * k + r.val) := by
  pointwise [k0_pay13, k0_pay12, hd, hf, hy]
  rfl

/-- The bias's sum over a chunk, added to what the chunks behind it left. -/
theorem bias_at (a : FVec Ideal S1x128 .f32) (d e : FVec Ideal S256x128 .f32) (q : ℕ → EReal) (hk : 256 * k + 256 ≤ 2048)
    (ha : a (ix2 0 l) = tail q (256 * k + 256)) (hd : ∀ j : Fin 256, k0_pay13 d e (ix2 j l) = q (256 * k + j.val)) :
    k0_pay14 (F := Ideal) a d e (ix2 0 l) = tail q (256 * k) := by
  rw [← tail_whole q k hk]
  pointwise [k0_pay14, ha, hd]

/-- The body's carries: row vectors, one for each chunk from the last one on. -/
def carries (v : ℕ → FVec Ideal S256x128 .f32) : ℕ → FVec Ideal S1x128 .f32
  | 0 => k0_pay4 (v 7)
  | n + 1 => k0_pay16 k0_pay2 (carries v n) (v (6 - n))

/-- The body's reverse running sums: one chunk's, from the last one on. -/
def sums (v : ℕ → FVec Ideal S256x128 .f32) : ℕ → FVec Ideal S256x128 .f32
  | 0 => k0_pay3 (v 7)
  | n + 1 => k0_pay7 k0_pay2 (carries v n) (v (6 - n))

/-- The body's bias sums. -/
def biases (v f : ℕ → FVec Ideal S256x128 .f32) (y : FVec Ideal S1x128 .f32) : ℕ → FVec Ideal S1x128 .f32
  | 0 => k0_pay6 (v 7) (f 7) y
  | n + 1 => k0_pay14 (biases v f y n) (sums v (n + 1)) (k0_pay12 (f (6 - n)) y)

variable (V F : ℕ → FVec Ideal S256x128 .f32) (hV : ∀ k, k < 8 → ∀ j : Fin 256, V k (ix2 j l) = g (256 * k + j.val))
  (hF : ∀ k, k < 8 → ∀ j : Fin 256, F k (ix2 j l) = h (256 * k + j.val)) (hy : y (ix2 0 l) = b)

include hV in
theorem carries_at (n : ℕ) (hn : n < 8) : carries V n (ix2 0 l) = tail g (256 * (7 - n)) := by
  induction n with
  | zero => exact carry_last (V 7) l g (hV 7 (by omega))
  | succ n ih =>
    refine (carry (V (6 - n)) l g (6 - n) _ (by omega) (hV _ (by omega)) ((ih (by omega)).trans ?_)).trans ?_
    · exact congrArg (tail g) (by omega)
    · exact congrArg (tail g) (by omega)

include hV in
theorem sums_at (n : ℕ) (hn : n < 8) (r : Fin 256) : sums V n (ix2 r l) = tail g (256 * (7 - n) + r.val) := by
  cases n with
  | zero => exact chunk_last (V 7) r l g (hV 7 (by omega))
  | succ n =>
    refine (chunk (V (6 - n)) r l g (6 - n) _ (by omega) (hV _ (by omega)) ((carries_at l g V hV n (by omega)).trans ?_)).trans ?_
    · exact congrArg (tail g) (by omega)
    · exact congrArg (tail g) (by omega)

include hV hF hy in
/-- A stored chunk of the body's first result. -/
theorem grads_at (n : ℕ) (hn : n < 8) (r : Fin 256) :
    k0_pay13 (sums V n) (k0_pay12 (F (7 - n)) y) (ix2 r l) = gateGrad g h b (256 * (7 - n) + r.val) :=
  slope_at (F (7 - n)) y r l g h b (7 - n) (sums V n) (sums_at l g V hV n hn r) (hF _ (by omega) r) hy

include hV hF hy in
theorem biases_at (n : ℕ) (hn : n < 8) : biases V F y n (ix2 0 l) = tail (gateGrad g h b) (256 * (7 - n)) := by
  induction n with
  | zero =>
    refine (bias_at l 7 (broadcast S1x128 (Scalar.ofBits .f32 0x00000000#32)) (sums V 0) (k0_pay12 (F 7) y) (gateGrad g h b) (by omega)
      ((show (Scalar.ofBits .f32 0x00000000#32 : Ideal .f32) = 0 by pointwise).trans (tail_end _).symm)
      (fun j => grads_at y l g h b V F hV hF hy 0 hn j))
  | succ n ih =>
    have e : 6 - n = 7 - (n + 1) := by omega
    refine (bias_at l (6 - n) (biases V F y n) (sums V (n + 1)) (k0_pay12 (F (6 - n)) y) (gateGrad g h b) (by omega)
      ((ih (by omega)).trans (congrArg (tail _) (by omega))) (fun j => ?_)).trans (congrArg (tail _) (by omega))
    rw [e]
    exact grads_at y l g h b V F hV hF hy (n + 1) hn j

end Body

variable (m : (ℓ : Loc nD τ sig) → Buf (Elt Ideal) ℓ)

/-- Every window's block index at every grid point: one sequence each. -/
theorem idx : ∀ t : Fin cfg0.N, win0_0.index t = ![t.val, 0]
    ∧ win0_1.index t = ![t.val, 0]
    ∧ win0_2.index t = ![0, 0]
    ∧ win0_3.index t = ![t.val, 0]
    ∧ win0_4.index t = ![0, 0] :=
  (by decide +kernel : ∀ t : Fin grid0.N, _)

/-- The eight chunks of a block. -/
def chunks (x : FVec Ideal S2048x128 .f32) (k : ℕ) : FVec Ideal S256x128 .f32 :=
  fun i => if h : 256 * k + (i 0).val < 2048 then x (ix2 ⟨256 * k + (i 0).val, h⟩ (i 1)) else 0

/-- A loaded chunk is the block's rows. -/
theorem ld_chunk (x : FVec Ideal S2048x128 .f32) (k : ℕ) (hk : k < 8) (inb) :
    (View.ld (Val := Elt Ideal) (e' := .f32) x (Rect.unit (s := S2048x128) ![256 * k, 0] ![256, 128] inb) : FVec Ideal S256x128 .f32) = chunks x k := by
  funext i
  idx_vars i
  unfold chunks
  rw [dif_pos (by have := i0.isLt; show 256 * k + i0.val < 2048; omega)]
  blk_simp
  refine congrArg x ?_
  blk_ext
  · exact congrArg (256 * k + ·) (Nat.one_mul _)
  · exact (Nat.zero_add _).trans (Nat.one_mul _)

/-- All eight loads of a block. -/
theorem loads (x : FVec Ideal S2048x128 .f32) :
    (View.ld (Val := Elt Ideal) (e' := .f32) x (Rect.unit (s := S2048x128) ![1792, 0] ![256, 128] inb_S2048x128_S256x128_1792_0) : FVec Ideal S256x128 .f32) = chunks x 7
    ∧ (View.ld (Val := Elt Ideal) (e' := .f32) x (Rect.unit (s := S2048x128) ![1536, 0] ![256, 128] inb_S2048x128_S256x128_1536_0) : FVec Ideal S256x128 .f32) = chunks x 6
    ∧ (View.ld (Val := Elt Ideal) (e' := .f32) x (Rect.unit (s := S2048x128) ![1280, 0] ![256, 128] inb_S2048x128_S256x128_1280_0) : FVec Ideal S256x128 .f32) = chunks x 5
    ∧ (View.ld (Val := Elt Ideal) (e' := .f32) x (Rect.unit (s := S2048x128) ![1024, 0] ![256, 128] inb_S2048x128_S256x128_1024_0) : FVec Ideal S256x128 .f32) = chunks x 4
    ∧ (View.ld (Val := Elt Ideal) (e' := .f32) x (Rect.unit (s := S2048x128) ![768, 0] ![256, 128] inb_S2048x128_S256x128_768_0) : FVec Ideal S256x128 .f32) = chunks x 3
    ∧ (View.ld (Val := Elt Ideal) (e' := .f32) x (Rect.unit (s := S2048x128) ![512, 0] ![256, 128] inb_S2048x128_S256x128_512_0) : FVec Ideal S256x128 .f32) = chunks x 2
    ∧ (View.ld (Val := Elt Ideal) (e' := .f32) x (Rect.unit (s := S2048x128) ![256, 0] ![256, 128] inb_S2048x128_S256x128_256_0) : FVec Ideal S256x128 .f32) = chunks x 1
    ∧ (View.ld (Val := Elt Ideal) (e' := .f32) x (Rect.unit (s := S2048x128) ![0, 0] ![256, 128] inb_S2048x128_S256x128_0_0) : FVec Ideal S256x128 .f32) = chunks x 0 :=
  ⟨ld_chunk x 7 (by omega) _, ld_chunk x 6 (by omega) _, ld_chunk x 5 (by omega) _, ld_chunk x 4 (by omega) _, ld_chunk x 3 (by omega) _, ld_chunk x 2 (by omega) _, ld_chunk x 1 (by omega) _, ld_chunk x 0 (by omega) _⟩

/-- The cotangent's column: sequence `b`, head `l`, zero past the eight heads. -/
def colD (D : FVec Ideal S2x8x2048 .f32) (b : Fin 2) (l n : ℕ) : EReal :=
  if h : l < 8 ∧ n < 2048 then D (ix3 b ⟨l, h.1⟩ ⟨n, h.2⟩) else 0

/-- The logits' column, zero past the eight heads. -/
def colF (X : FVec Ideal S2x2048x8 .f32) (b : Fin 2) (l n : ℕ) : EReal :=
  if h : l < 8 ∧ n < 2048 then X (ix3 b ⟨n, h.2⟩ ⟨l, h.1⟩) else 0

/-- A head's bias, zero past the eight heads. -/
def bias (Y : FVec Ideal S8 .f32) (l : ℕ) : EReal := if h : l < 8 then Y (ix1 ⟨l, h⟩) else 0

/-- The logit's gradient, of the three arguments. -/
def grad (X : FVec Ideal S2x2048x8 .f32) (Y : FVec Ideal S8 .f32) (D : FVec Ideal S2x8x2048 .f32) (b : Fin 2) (l n : ℕ) : EReal :=
  gateGrad (colD D b l) (colF X b l) (bias Y l) n

/-- The three arguments. -/
abbrev argX (c : Dev nD) : FVec Ideal S2x2048x8 .f32 := m ((c : Thread nD τ).loc main_arg0)
abbrev argY (c : Dev nD) : FVec Ideal S8 .f32 := m ((c : Thread nD τ).loc main_arg1)
abbrev argD (c : Dev nD) : FVec Ideal S2x8x2048 .f32 := m ((c : Thread nD τ).loc main_arg2)

theorem V2 (c : Dev nD) : V m c main_v2 = (pad S4096x128 ![0, 0] ![0, 120] ![0, 0] (shapeCast S4096x8 (transpose S2x2048x8 [0, 2, 1] (argD m c) transposes_S2x8x2048_S2x2048x8_0_2_1) shapeCasts_S2x2048x8_S4096x8)
      (sitofp (F := Ideal) .f32 (constantI S_ 32 0#32)) pads_S4096x8_S4096x128_000_01200 h_S_ : FVec Ideal S4096x128 .f32) := by
  simp only [V, List.flatten_cons, List.flatten_nil, List.append_nil, List.cons_append, List.nil_append, hostOps0, hostOps0_1,
    hostOps0_2, hostOps0_3, hostOps0_4, hostOps0_5,
    StableHlo.TRef.binary, StableHlo.TRef.unary, StableHlo.TRef.toBuf, StableHlo.TRef.ofBuf, cast_eq]
  after_results_simp <;> rfl

theorem V4 (c : Dev nD) : V m c main_v4 = (pad S4096x128 ![0, 0] ![0, 120] ![0, 0] (shapeCast S4096x8 (argX m c) shapeCasts_S2x2048x8_S4096x8)
      (sitofp (F := Ideal) .f32 (constantI S_ 32 0#32)) pads_S4096x8_S4096x128_000_01200 h_S_ : FVec Ideal S4096x128 .f32) := by
  simp only [V, List.flatten_cons, List.flatten_nil, List.append_nil, List.cons_append, List.nil_append, hostOps0, hostOps0_1,
    hostOps0_2, hostOps0_3, hostOps0_4, hostOps0_5,
    StableHlo.TRef.binary, StableHlo.TRef.unary, StableHlo.TRef.toBuf, StableHlo.TRef.ofBuf, cast_eq]
  after_results_simp <;> rfl

theorem V6 (c : Dev nD) : V m c main_v6 = (pad S1x128 ![0, 0] ![0, 120] ![0, 0] (shapeCast S1x8 (argY m c) shapeCasts_S8_S1x8)
      (sitofp (F := Ideal) .f32 (constantI S_ 32 0#32)) pads_S1x8_S1x128_000_01200 h_S_ : FVec Ideal S1x128 .f32) := by
  simp only [V, List.flatten_cons, List.flatten_nil, List.append_nil, List.cons_append, List.nil_append, hostOps0, hostOps0_1,
    hostOps0_2, hostOps0_3, hostOps0_4, hostOps0_5,
    StableHlo.TRef.binary, StableHlo.TRef.unary, StableHlo.TRef.toBuf, StableHlo.TRef.ofBuf, cast_eq]
  after_results_simp <;> rfl

/-- The host pads with zero. -/
theorem fill : (FloatOps.sitofp .f32 (0#32) : Ideal .f32) = 0 := by
  show (((0#32).toInt : ℝ) : EReal) = 0
  simp

theorem V2_at (c : Dev nD) (b : Fin 2) (n : Fin 2048) (l : Fin 128) (r : Fin 4096) (h : r.val = 2048 * b.val + n.val) :
    V m c main_v2 (ix2 r l) = colD (argD m c) b l.val n.val := by
  rw [V2]
  pointwise
  unfold colD
  by_cases hl : l.val < 8
  · rw [dif_pos hl, dif_pos ⟨hl, n.isLt⟩]
    blk_ext
  · rw [dif_neg hl, dif_neg (fun h => hl h.1), fill]

theorem V4_at (c : Dev nD) (b : Fin 2) (n : Fin 2048) (l : Fin 128) (r : Fin 4096) (h : r.val = 2048 * b.val + n.val) :
    V m c main_v4 (ix2 r l) = colF (argX m c) b l.val n.val := by
  rw [V4]
  pointwise
  unfold colF
  by_cases hl : l.val < 8
  · rw [dif_pos hl, dif_pos ⟨hl, n.isLt⟩]
    blk_ext
  · rw [dif_neg hl, dif_neg (fun h => hl h.1), fill]

theorem V6_at (c : Dev nD) (l : Fin 128) : V m c main_v6 (ix2 0 l) = bias (argY m c) l.val := by
  rw [V6]
  pointwise [fill]
  rfl

theorem lt2 (t : Fin cfg0.N) : t.val < 2 := lt_of_lt_of_eq t.isLt N_0

section Blocks

variable (c : Dev nD) (t : Fin cfg0.N) (l : Fin 128)

/-- The blocks' chunks are the columns'. -/
theorem chunks0 (k : ℕ) (hk : k < 8) (j : Fin 256) :
    chunks (iblk m c 0 t) k (ix2 j l) = colD (argD m c) ⟨t.val, lt2 t⟩ l.val (256 * k + j.val) := by
  refine (dif_pos (show 256 * k + j.val < 2048 by omega)).trans ?_
  refine (congrArg (V m c main_v2) ?_).trans (V2_at m c ⟨t.val, lt2 t⟩ ⟨256 * k + j.val, by omega⟩ l ⟨2048 * t.val + (256 * k + j.val), by have := lt2 t; omega⟩ rfl)
  blk_ext [idx t]

theorem chunks1 (k : ℕ) (hk : k < 8) (j : Fin 256) :
    chunks (iblk m c 1 t) k (ix2 j l) = colF (argX m c) ⟨t.val, lt2 t⟩ l.val (256 * k + j.val) := by
  refine (dif_pos (show 256 * k + j.val < 2048 by omega)).trans ?_
  refine (congrArg (V m c main_v4) ?_).trans (V4_at m c ⟨t.val, lt2 t⟩ ⟨256 * k + j.val, by omega⟩ l ⟨2048 * t.val + (256 * k + j.val), by have := lt2 t; omega⟩ rfl)
  blk_ext [idx t]

theorem blk2 : (show FVec Ideal S1x128 .f32 from iblk m c 2 t) (ix2 0 l) = bias (argY m c) l.val := by
  refine (congrArg (V m c main_v6) ?_).trans (V6_at m c l)
  blk_ext [idx t]

/-- The body's stored chunk at a grid point. -/
theorem piece (n : ℕ) (hn : n < 8) (r : Fin 256) :
    k0_pay13 (sums (chunks (iblk m c 0 t)) n) (k0_pay12 (chunks (iblk m c 1 t) (7 - n)) (iblk m c 2 t)) (ix2 r l)
      = grad (argX m c) (argY m c) (argD m c) ⟨t.val, lt2 t⟩ l.val (256 * (7 - n) + r.val) :=
  grads_at _ l _ _ _ _ _ (fun k hk j => chunks0 m c t l k hk j) (fun k hk j => chunks1 m c t l k hk j) (blk2 m c t l) n hn r

/-- The bias's sum over a grid point's sequence. -/
theorem total : biases (chunks (iblk m c 0 t)) (chunks (iblk m c 1 t)) (iblk m c 2 t) 7 (ix2 0 l)
    = tail (grad (argX m c) (argY m c) (argD m c) ⟨t.val, lt2 t⟩ l.val) 0 :=
  biases_at _ l _ _ _ _ _ (fun k hk j => chunks0 m c t l k hk j) (fun k hk j => chunks1 m c t l k hk j) (blk2 m c t l) 7 (by omega)

end Blocks

/-- The logits' gradient laid out over the rows of both sequences. -/
abbrev gradRows (c : Dev nD) : FVec Ideal S4096x128 .f32 :=
  fun i => grad (argX m c) (argY m c) (argD m c) ⟨(i 0 : ℕ) / 2048, by have := (i 0).isLt; simp at this; omega⟩ (i 1 : ℕ) ((i 0 : ℕ) % 2048)

/-- Result 0: the logits' gradient, whole. -/
theorem final3 (c : Dev nD) : (dats m 0 c).arrAt 3 (cfgs 0).N = gradRows m c := by
  refine (dats m 0 c).arrAt_eq_of_covers 3 _ (by decide +kernel) fun t hf y => ?_
  blk_simp
  rw [after0_3]
  have ht := lt2 t
  have key : ∀ (x : S256x128.Idx) (n : ℕ) (hn : n < 8) (h0 : (y 0 : ℕ) = 256 * (7 - n) + (x 0 : ℕ)) (h1 : (y 1 : ℕ) = (x 1 : ℕ)),
      k0_pay13 (sums (chunks (iblk m c 0 t)) n) (k0_pay12 (chunks (iblk m c 1 t) (7 - n)) (iblk m c 2 t)) x
        = gradRows m c (((cfg0.win 3).blk t).view.emb y) := by
    intro x n hn h0 h1
    rw [eq_ix2 x]
    refine (piece m c t (x 1) n hn (x 0)).trans ?_
    have hx := (x 0).isLt
    simp at hx
    have e0 : ((((cfg0.win 3).blk t).view.emb y) 0 : ℕ) = 2048 * t.val + (256 * (7 - n) + (x 0 : ℕ)) := by
      blk_simp [idx t]; dsimp only; omega
    have e1 : ((((cfg0.win 3).blk t).view.emb y) 1 : ℕ) = (x 1 : ℕ) := by
      blk_simp [idx t]; omega
    have q : ((((cfg0.win 3).blk t).view.emb y) 0 : ℕ) / 2048 = t.val := by omega
    unfold gradRows
    rw [e1, show (((((cfg0.win 3).blk t).view.emb y) 0 : ℕ)) % 2048 = 256 * (7 - n) + (x 0 : ℕ) by omega]
    exact congrArg (fun b => grad _ _ _ b _ _) (Fin.ext q.symm)
  have reads := loads (iblk m c 0 t)
  have reads' := loads (iblk m c 1 t)
  by_cases h0 : t.val % 2 = 0
  · rw [outsAt0_A m c t h0]
    dsimp only
    frame_out
    canon_tiles x h <;> simp only [reads, reads']
    · exact key x 7 (by omega) (by omega) (by omega)
    · exact key x 6 (by omega) (by omega) (by omega)
    · exact key x 5 (by omega) (by omega) (by omega)
    · exact key x 4 (by omega) (by omega) (by omega)
    · exact key x 3 (by omega) (by omega) (by omega)
    · exact key x 2 (by omega) (by omega) (by omega)
    · exact key x 1 (by omega) (by omega) (by omega)
    · exact key x 0 (by omega) (by omega) (by omega)
  · rw [outsAt0_B m c t h0]
    dsimp only
    frame_out
    canon_tiles x h <;> simp only [reads, reads']
    · exact key x 7 (by omega) (by omega) (by omega)
    · exact key x 6 (by omega) (by omega) (by omega)
    · exact key x 5 (by omega) (by omega) (by omega)
    · exact key x 4 (by omega) (by omega) (by omega)
    · exact key x 3 (by omega) (by omega) (by omega)
    · exact key x 2 (by omega) (by omega) (by omega)
    · exact key x 1 (by omega) (by omega) (by omega)
    · exact key x 0 (by omega) (by omega) (by omega)

/-- The bias's block after a grid point: what it held before, and the point's sum. -/
theorem add_at (p q : FVec Ideal S1x128 .f32) (l : Fin 128) :
    addf (shapeCast S1x128 p shapeCasts_S1x128_S1x128) q (ix2 0 l) = p (ix2 0 l) + q (ix2 0 l) := by
  pointwise

/-- The block's zero fill. -/
theorem zero_at (l : Fin 128) : k0_pay1 (F := Ideal) (ix2 0 l) = 0 := by
  pointwise [k0_pay1]

/-- Result 1: the bias's gradient over both sequences, whole. -/
theorem final4 (c : Dev nD) : (dats m 0 c).arrAt 4 (cfgs 0).N
    = (fun i => ∑ b : Fin 2, tail (grad (argX m c) (argY m c) (argD m c) b (i 1 : ℕ)) 0 : FVec Ideal S1x128 .f32) := by
  refine (dats m 0 c).arrAt_eq_of_after_last 4 t0_1 (by decide +kernel) _ fun j => ?_
  blk_simp
  rw [after0_4, Pipeline.eq_sum_fin_of_reset_step_apply_last (fun n h => (outsAt0 m c n h).2) 2 (fun _ => 0)
    (fun (u : Fin cfg0.N) (j : S1x128.Idx) => tail (grad (argX m c) (argY m c) (argD m c) ⟨u.val, lt2 u⟩ (j 1 : ℕ)) 0)
    (fun u hu j => by
      rw [outsAt0_A m c u hu]
      dsimp only
      frame_out
      simp only [loads (iblk m c 0 u), loads (iblk m c 1 u)]
      obtain ⟨q, rfl⟩ : ∃ q : Fin 128, j = ix2 0 q := ⟨j 1, by blk_ext⟩
      refine (add_at _ (biases (chunks (iblk m c 0 u)) (chunks (iblk m c 1 u)) (iblk m c 2 u) 7) q).trans ?_
      exact Ideal.add_congr (zero_at q) (total m c u q))
    (fun u hu j => by
      rw [outsAt0_B m c u hu]
      dsimp only
      frame_out
      simp only [loads (iblk m c 0 u), loads (iblk m c 1 u)]
      obtain ⟨q, rfl⟩ : ∃ q : Fin 128, j = ix2 0 q := ⟨j 1, by blk_ext⟩
      refine (add_at _ (biases (chunks (iblk m c 0 u)) (chunks (iblk m c 1 u)) (iblk m c 2 u) 7) q).trans ?_
      exact Ideal.add_congr rfl (total m c u q))
    (le_of_eq N_0) t0_1 rfl j, zero_add]
  rfl
end Cert.FgateBwdIdeal.Value

end
-- ==== Proof.Finite.lean ====
/- What the preconditions say: the magnitude of an entry below infinity makes it a real number. -/
module

public import Idealize.ShloMosaic.Lib.Pipeline.ValueKit
public import Idealize.ShloMosaic.Lib.Claim

@[expose] public section

noncomputable section

namespace Cert.Finite

open Idealize.ShloMosaic Idealize.ShloMosaic.TcCoe Idealize.SL.Sem

/-- The pattern of positive infinity is the top of the extended reals. -/
theorem top_eq : Ideal.ofBits .f32 0x7F800000#32 = ⊤ := by simp [Ideal.ofBits, Ideal.ieee]

/-- An extended real of magnitude below the top is a real. -/
theorem real_of_lt (v : EReal) (h : max v (-v) < ⊤) : ∃ r : ℝ, v = r := by
  induction v with
  | bot => simp at h
  | top => simp at h
  | coe r => exact ⟨r, rfl⟩

/-- The predicate of one array, read off at an entry. -/
theorem reals {s : Shape} (x : FVec Ideal s .f32) (hb : (⟨0, ![]⟩ : Shape).BroadcastsInDim s (![] : Fin 0 → Fin s.rank))
    (h : cmpf .olt (Host.absf x) (broadcastInDim s ![] hb (constant (⟨0, ![]⟩ : Shape) .f32 0x7F800000#32 : FVec Ideal _ .f32)) = fun _ => 1#1)
    (i : s.Idx) : ∃ r : ℝ, x i = r := by
  have h' := congrFun h i
  refine real_of_lt _ ?_
  by_contra hn
  have e : cmpf .olt (Host.absf x) (broadcastInDim s ![] hb (constant (⟨0, ![]⟩ : Shape) .f32 0x7F800000#32 : FVec Ideal _ .f32)) i
      = BitVec.ofBool (decide (max (x i) (-(x i)) < Ideal.ofBits .f32 0x7F800000#32)) := rfl
  rw [e, top_eq, decide_eq_false hn] at h'
  exact absurd h' (by decide)

end Cert.Finite

end
-- ==== Proof.FgateRef.lean ====
/- The derivative of the forget gate's forward lines, entry by entry, and that it is what the kernel leaves. -/
module

public import proofs.«01_k».proof.Proof.FgateValue
public import proofs.«01_k».proof.Proof.Sums
public import proofs.«01_k».proof.Proof.Finite
public import proofs.«01_k».proof.Proof.Gen.FgateGradIdeal.Run

@[expose] public section

set_option maxRecDepth 16384

noncomputable section

open Idealize.ShloMosaic Idealize.ShloMosaic.TcCoe Idealize.SL.Sem

namespace Cert.Fgate

/-- A sum kept over all positions, folded in order. -/
theorem foldl_add (n : ℕ) (f : Fin n → EReal) (v : EReal) :
    (List.finRange n).foldl (fun r i => r + f i) v = v + ∑ i, f i := by
  have e : ∀ (L : List (Fin n)) (v : EReal), L.foldl (fun r i => r + f i) v = v + (L.map f).sum := by
    intro L
    induction L with
    | nil => intro v; simp
    | cons a L ih => intro v; simp [ih, add_assoc]
  rw [e, Fin.sum_univ_def]

/-- The host's reverse running sum along the middle axis: its window reaches the end and is filled up with zero. -/
theorem window_tail (x : (⟨3, ![2, 2048, 8]⟩ : Shape).Idx → EReal)
    (h : (⟨3, ![2, 2048, 8]⟩ : Shape).ReduceWindows ![1, 2048, 1] ![1, 1, 1] ![0, 0, 0] ![0, 2047, 0] ⟨3, ![2, 2048, 8]⟩)
    (b : Fin 2) (s : Fin 2048) (k : Fin 8) :
    Ideal.hostReduceWindowAdd ![1, 2048, 1] ![1, 1, 1] ![0, 0, 0] ![0, 2047, 0] h x 0 (ix3 b s k)
      = tail (fun n => if h : n < 2048 then x (ix3 b ⟨n, h⟩ k) else 0) s.val := by
  unfold Ideal.hostReduceWindowAdd Host.reduceWindow
  dsimp only
  rw [foldl_add, zero_add]
  refine (Fintype.sum_equiv (⟨3, ![1, 2048, 1]⟩ : Shape).rowMajor.symm _
    (fun i => if h : s.val + (i 1).val < 2048 then x (ix3 b ⟨s.val + (i 1).val, h⟩ k) else 0) fun n => ?_).trans ?_
  · have h0 : ((⟨3, ![1, 2048, 1]⟩ : Shape).rowMajor.symm n 0).val = 0 := by have := ((⟨3, ![1, 2048, 1]⟩ : Shape).rowMajor.symm n 0).isLt; change ((⟨3, ![1, 2048, 1]⟩ : Shape).rowMajor.symm n 0).val < 1 at this; omega
    have h2 : ((⟨3, ![1, 2048, 1]⟩ : Shape).rowMajor.symm n 2).val = 0 := by have := ((⟨3, ![1, 2048, 1]⟩ : Shape).rowMajor.symm n 2).isLt; change ((⟨3, ![1, 2048, 1]⟩ : Shape).rowMajor.symm n 2).val < 1 at this; omega
    have hs : s.val < 2048 := s.isLt
    by_cases hc : s.val + ((⟨3, ![1, 2048, 1]⟩ : Shape).rowMajor.symm n 1).val < 2048
    · rw [dif_pos hc, dif_pos]
      · refine congrArg x ?_
        funext a
        refine Fin.ext ?_
        fin_cases a
        · change b.val * 1 + ((⟨3, ![1, 2048, 1]⟩ : Shape).rowMajor.symm n 0).val - 0 = b.val; omega
        · change s.val * 1 + ((⟨3, ![1, 2048, 1]⟩ : Shape).rowMajor.symm n 1).val - 0 = s.val + ((⟨3, ![1, 2048, 1]⟩ : Shape).rowMajor.symm n 1).val; omega
        · change k.val * 1 + ((⟨3, ![1, 2048, 1]⟩ : Shape).rowMajor.symm n 2).val - 0 = k.val; omega
      · intro a
        fin_cases a
        · change 0 ≤ b.val * 1 + ((⟨3, ![1, 2048, 1]⟩ : Shape).rowMajor.symm n 0).val ∧ b.val * 1 + ((⟨3, ![1, 2048, 1]⟩ : Shape).rowMajor.symm n 0).val - 0 < 2; omega
        · change 0 ≤ s.val * 1 + ((⟨3, ![1, 2048, 1]⟩ : Shape).rowMajor.symm n 1).val ∧ s.val * 1 + ((⟨3, ![1, 2048, 1]⟩ : Shape).rowMajor.symm n 1).val - 0 < 2048; omega
        · change 0 ≤ k.val * 1 + ((⟨3, ![1, 2048, 1]⟩ : Shape).rowMajor.symm n 2).val ∧ k.val * 1 + ((⟨3, ![1, 2048, 1]⟩ : Shape).rowMajor.symm n 2).val - 0 < 8; omega
    · rw [dif_neg hc, dif_neg]
      intro hin
      have := (hin 1).2
      change s.val * 1 + ((⟨3, ![1, 2048, 1]⟩ : Shape).rowMajor.symm n 1).val - 0 < 2048 at this
      omega
  · rw [sum_idx3]
    simp only [Fin.sum_univ_one]
    unfold tail
    rw [Finset.sum_Ico_eq_sum_range]
    change ∑ j : Fin 2048, (if h : s.val + j.val < 2048 then x (ix3 b ⟨s.val + j.val, h⟩ k) else 0) = _
    rw [Fin.sum_univ_eq_sum_range (fun j => if h : s.val + j < 2048 then x (ix3 b ⟨s.val + j, h⟩ k) else 0) 2048]
    refine (Finset.sum_subset (Finset.range_subset_range.mpr (Nat.sub_le _ _)) fun j _ hj => ?_).symm
    rw [dif_neg]
    intro hj'
    exact hj (Finset.mem_range.mpr (by omega))

/-- The kernel's slope at a finite logit. -/
theorem slope_coe (z : ℝ) : slope (z : EReal) = ((1 / (1 + Real.exp z) : ℝ) : EReal) := by
  have h : (0 : EReal) - (0 - (z : EReal)) = (z : EReal) := by norm_cast; simp
  have p : (1 + Real.exp z) ≠ 0 := by positivity
  unfold slope
  rw [h, Ideal.exp_coe]
  have e : (1 : EReal) + ((Real.exp z : ℝ) : EReal) = ((1 + Real.exp z : ℝ) : EReal) := by norm_cast
  rw [e, Ideal.div_coe p, one_mul]

/-- The softplus of a finite number. -/
theorem soft_coe (t : ℝ) : max (t : EReal) 0 + Ideal.log1p (Ideal.exp (-max (t : EReal) (-(t : EReal))))
    = ((Real.log (1 + Real.exp t) : ℝ) : EReal) := by
  have e1 : -max (t : EReal) (-(t : EReal)) = ((-max t (-t) : ℝ) : EReal) := by norm_cast
  have p : 0 < 1 + Real.exp (-max t (-t)) := by positivity
  have e2 : (1 : EReal) + ((Real.exp (-max t (-t)) : ℝ) : EReal) = ((1 + Real.exp (-max t (-t)) : ℝ) : EReal) := by norm_cast
  have e3 : max (t : EReal) 0 = ((max t 0 : ℝ) : EReal) := by norm_cast
  rw [e1, Ideal.exp_coe, Ideal.log1p, e2, Ideal.log_coe, if_neg (not_le.mpr p), e3]
  norm_cast
  rcases le_total t 0 with h | h
  · rw [max_eq_right h, max_eq_right (by linarith), neg_neg, zero_add]
  · rw [max_eq_left h, max_eq_left (by linarith)]
    have q : 1 + Real.exp t = Real.exp t * (1 + Real.exp (-t)) := by
      rw [mul_add, ← Real.exp_add, add_neg_cancel, Real.exp_zero, mul_one, add_comm]
    rw [q, Real.log_mul (Real.exp_pos t).ne' (by positivity), Real.log_exp]

/-- The logistic that jax writes as a difference in the exponent is the kernel's slope. -/
theorem slope_exp (z : ℝ) : Ideal.exp ((-z : ℝ) - ((Real.log (1 + Real.exp (-z)) : ℝ) : EReal)) = slope (z : EReal) := by
  rw [slope_coe]
  have e : (((-z : ℝ) : EReal) - ((Real.log (1 + Real.exp (-z)) : ℝ) : EReal)) = ((-z - Real.log (1 + Real.exp (-z)) : ℝ) : EReal) := by norm_cast
  have p : 0 < 1 + Real.exp (-z) := by positivity
  rw [e, Ideal.exp_coe, Real.exp_sub, Real.exp_log p]
  congr 1
  rw [Real.exp_neg]
  have := Real.exp_pos z
  field_simp
  ring

end Cert.Fgate

namespace Cert.FgateGradIdeal.Value

open Cert.FgateGradIdeal Cert.FgateGradIdeal.Gen Cert.Fgate

variable (X : FVec Ideal S2x2048x8 .f32) (Y : FVec Ideal S8 .f32) (D : FVec Ideal S2x8x2048 .f32)

/-- Minus the logit with its bias. -/
def negV : FVec Ideal S2x2048x8 .f32 :=
  Host.negf (addf X (broadcastInDim S2x2048x8 ![0, 1, 2] bcast_S1x1x8_S2x2048x8_0_1_2 (broadcastInDim S1x1x8 ![2] bcast_S8_S1x1x8_2 Y)))

def zeroV : FVec Ideal S2x2048x8 .f32 := broadcastInDim S2x2048x8 ![] bcast_S_S2x2048x8 (constant S_ .f32 0x00000000#32)
def infV : FVec Ideal S2x2048x8 .f32 := broadcastInDim S2x2048x8 ![] bcast_S_S2x2048x8 (constant S_ .f32 0x7F800000#32)

/-- The softplus that the log-sigmoid is minus of. -/
def softV (T : FVec Ideal S2x2048x8 .f32) : FVec Ideal S2x2048x8 .f32 :=
  select (cmpf .une (subf T zeroV) (subf T zeroV)) (addf T zeroV)
    (addf (maximumf T zeroV) (Host.log1p (Host.exp (Host.negf (Host.absf (subf T zeroV))))))

/-- The derivative of the softplus, as jax writes it. -/
def logisticV (T : FVec Ideal S2x2048x8 .f32) : FVec Ideal S2x2048x8 .f32 :=
  Host.exp (subf (select (cmpf .oeq T infV) zeroV T) (select (cmpf .oeq (softV T) infV) zeroV (softV T)))

/-- The reverse running sum of the cotangent. -/
def tailV : FVec Ideal S2x2048x8 .f32 :=
  Host.reduceWindowAdd ![1, 2048, 1] ![1, 1, 1] ![0, 0, 0] ![0, 2047, 0] (transpose S2x2048x8 [0, 2, 1] D transposes_S2x8x2048_S2x2048x8_0_2_1) (broadcastInDim S_ ![] bcast_S_S_ (constant S_ .f32 0x00000000#32)) reduceWindows_S2x2048x8_S2x2048x8_w1s1p0_0_w2048s1p0_2047_w1s1p0_0 h_S_

def gradV : FVec Ideal S2x2048x8 .f32 := Host.negf (mulf (Host.negf (tailV D)) (logisticV (negV X Y)))

theorem softV_at (T : FVec Ideal S2x2048x8 .f32) (b : Fin 2) (s : Fin 2048) (k : Fin 8) (t : ℝ) (ht : T (ix3 b s k) = t) :
    softV T (ix3 b s k) = ((Real.log (1 + Real.exp t) : ℝ) : EReal) := by
  refine Eq.trans ?_ (soft_coe t)
  pointwise [softV, zeroV, ht, Ideal.absf_def]
  rw [if_neg (not_not.mpr rfl)]

theorem logisticV_at (T : FVec Ideal S2x2048x8 .f32) (b : Fin 2) (s : Fin 2048) (k : Fin 8) (z : ℝ) (ht : T (ix3 b s k) = ((-z : ℝ) : EReal)) :
    logisticV T (ix3 b s k) = slope (z : EReal) := by
  rw [← slope_exp]
  pointwise [logisticV, zeroV, infV, softV_at T b s k _ ht, ht, Cert.Finite.top_eq]
  rw [if_neg (EReal.coe_ne_top _), if_neg (EReal.coe_ne_top _)]

theorem negV_at (b : Fin 2) (s : Fin 2048) (k : Fin 8) : negV X Y (ix3 b s k) = -(X (ix3 b s k) + Y (ix1 k)) := by
  pointwise [negV]

theorem tailV_at (b : Fin 2) (s : Fin 2048) (k : Fin 8) :
    tailV D (ix3 b s k) = tail (fun n => if h : n < 2048 then D (ix3 b k ⟨n, h⟩) else 0) s.val := by
  have e : broadcastInDim S_ ![] bcast_S_S_ (constant S_ .f32 0x00000000#32 : FVec Ideal S_ .f32) (Shape.Idx.first h_S_) = 0 := by pointwise []
  unfold tailV Host.reduceWindowAdd
  rw [e]
  refine (window_tail (transpose S2x2048x8 [0, 2, 1] D transposes_S2x8x2048_S2x2048x8_0_2_1)
    reduceWindows_S2x2048x8_S2x2048x8_w1s1p0_0_w2048s1p0_2047_w1s1p0_0 b s k).trans ?_
  refine congrArg (fun g => tail g s.val) (funext fun n => ?_)
  split
  · pointwise []
  · rfl

/-- The gradient of the gate's logits at a finite logit. -/
theorem gradV_at (b : Fin 2) (s : Fin 2048) (k : Fin 8) (x y : ℝ) (hx : X (ix3 b s k) = x) (hy : Y (ix1 k) = y) :
    gradV X Y D (ix3 b s k) = Cert.FgateBwdIdeal.Value.grad X Y D b k.val s.val := by
  have hn : negV X Y (ix3 b s k) = ((-(x + y) : ℝ) : EReal) := by rw [negV_at, hx, hy]; norm_cast
  pointwise [gradV, tailV_at, logisticV_at _ b s k _ hn]
  rw [EReal.neg_mul, neg_neg]
  unfold Cert.FgateBwdIdeal.Value.grad gateGrad
  refine congr (congrArg HMul.hMul (congrArg (fun g => tail g s.val) (funext fun n => ?_))) (congrArg slope ?_)
  · unfold Cert.FgateBwdIdeal.Value.colD
    by_cases hn : n < 2048
    · rw [dif_pos hn, dif_pos ⟨k.isLt, hn⟩]
    · rw [dif_neg hn, dif_neg fun h => hn h.2]
  · unfold Cert.FgateBwdIdeal.Value.colF Cert.FgateBwdIdeal.Value.bias
    rw [dif_pos ⟨k.isLt, s.isLt⟩, dif_pos k.isLt]
    refine Eq.trans ?_ (congr (congrArg HAdd.hAdd hx.symm) hy.symm)
    norm_cast

theorem fill : (FloatOps.sitofp .f32 0#32 : Ideal .f32) = 0 := by
  show (((0#32).toInt : ℝ) : EReal) = 0
  simp

/-- Past the eight heads the kernel's gradient is zero. -/
theorem grad_zero (b : Fin 2) (l n : ℕ) (hl : ¬ l < 8) : Cert.FgateBwdIdeal.Value.grad X Y D b l n = 0 := by
  unfold Cert.FgateBwdIdeal.Value.grad gateGrad tail
  rw [Finset.sum_eq_zero fun s _ => by unfold Cert.FgateBwdIdeal.Value.colD; rw [dif_neg fun h => hl h.1], zero_mul]

variable (hX : ∀ i, ∃ x : ℝ, X i = x) (hY : ∀ i, ∃ y : ℝ, Y i = y)

/-- The logits' gradient, padded to a register's lanes. -/
def rowsV : FVec Ideal S4096x128 .f32 :=
  pad S4096x128 ![0, 0] ![0, 120] ![0, 0] (shapeCast S4096x8 (gradV X Y D) shapeCasts_S2x2048x8_S4096x8) (sitofp .f32 (constantI S_ 32 0#32)) pads_S4096x8_S4096x128_000_01200 h_S_

/-- The bias's gradient, padded to a register's lanes. -/
def biasV : FVec Ideal S1x128 .f32 :=
  pad S1x128 ![0, 0] ![0, 120] ![0, 0] (shapeCast S1x8 (Host.reduceAdd (shapeCast S1x1x8 (Host.reduceAdd (gradV X Y D) (constant S_ .f32 0x00000000#32) reducesTo_S2x2048x8_S8_d0_1 h_S_) shapeCasts_S8_S1x1x8) (constant S_ .f32 0x00000000#32) reducesTo_S1x1x8_S8_d0_1 h_S_) shapeCasts_S8_S1x8) (sitofp .f32 (constantI S_ 32 0#32)) pads_S1x8_S1x128_000_01200 h_S_

include hX hY in
theorem gradV_all (b : Fin 2) (s : Fin 2048) (k : Fin 8) :
    gradV X Y D (ix3 b s k) = Cert.FgateBwdIdeal.Value.grad X Y D b k.val s.val := by
  obtain ⟨x, hx⟩ := hX (ix3 b s k)
  obtain ⟨y, hy⟩ := hY (ix1 k)
  exact gradV_at X Y D b s k x y hx hy

include hX hY in
theorem rowsV_eq : rowsV X Y D = fun i : S4096x128.Idx => Cert.FgateBwdIdeal.Value.grad X Y D ⟨(i 0 : ℕ) / 2048, by have := (i 0).isLt; change (i 0 : ℕ) < 4096 at this; omega⟩ (i 1 : ℕ) ((i 0 : ℕ) % 2048) := by
  funext i
  idx_vars i
  pointwise [rowsV, gradV_all X Y D hX hY]
  by_cases h : i1.val < 8
  · rw [dif_pos h]
  · rw [dif_neg h, grad_zero _ _ _ _ _ _ h]
    exact fill

include hX hY in
theorem biasV_eq : biasV X Y D = fun i : S1x128.Idx => ∑ b : Fin 2, tail (Cert.FgateBwdIdeal.Value.grad X Y D b (i 1 : ℕ)) 0 := by
  funext i
  idx_vars i
  pointwise [biasV, Cert.Sums.reduce_lead, gradV_all X Y D hX hY]
  by_cases h : i1.val < 8
  · rw [dif_pos h]
    simp only [Fin.sum_univ_one]
    refine Finset.sum_congr rfl fun b _ => ?_
    unfold tail
    rw [← Finset.range_eq_Ico, ← Fin.sum_univ_eq_sum_range (Cert.FgateBwdIdeal.Value.grad X Y D b i1.val) 2048]
  · rw [dif_neg h, Finset.sum_eq_zero fun b _ => ?_]
    · exact fill
    · unfold tail
      exact Finset.sum_eq_zero fun s _ => grad_zero X Y D b _ s h

end Cert.FgateGradIdeal.Value

end
-- ==== Proof.FgateClaim.lean ====
/- The forget gate's backward kernel computes the derivative of the gate's running log-sigmoid. -/
module

public import proofs.«01_k».proof.Defs
public import proofs.«01_k».proof.Proof.FgateRef
public import proofs.«01_k».proof.Proof.Gen.Pre_finite_gate
public import proofs.«01_k».proof.Proof.Gen.FgateGradIdeal.Run

@[expose] public section

set_option maxRecDepth 16384

noncomputable section

open Idealize.ShloMosaic Idealize.ShloMosaic.TcCoe Idealize.SL.Sem

namespace Cert.Proof

open Cert.FgateBwdIdeal Cert.FgateBwdIdeal.Value

/-- The precondition: the logits and the biases are real numbers. -/
theorem real0 (m : (ℓ : Loc nD τ sig) → Buf (Elt Ideal) ℓ) (h : Cert.Pre_FgateBwdIdeal_finite_gate m) (c : Dev nD) :
    ∀ i, ∃ x : ℝ, argX m c i = x := Cert.Finite.reals _ _ (h c).1

theorem real1 (m : (ℓ : Loc nD τ sig) → Buf (Elt Ideal) ℓ) (h : Cert.Pre_FgateBwdIdeal_finite_gate m) (c : Dev nD) :
    ∀ i, ∃ x : ℝ, argY m c i = x := Cert.Finite.reals _ _ (h c).2

theorem algebraic_fgate : Cert.algebraic_FgateBwdIdeal_FgateGradIdeal_pre_finite_gate := by
  pair_intro
  · run_from Cert.FgateBwdIdeal.Value.run_blocks m g
  · run_from Cert.FgateGradIdeal.Value.run m' g'
    · obtain ⟨e0, e1, e2⟩ := hagree c
      refine Eq.trans ?_ ((Cert.FgateGradIdeal.Value.rowsV_eq _ _ _ (real0 m hpre c) (real1 m hpre c)).trans (final3 m c).symm)
      exact congr (congr (congrArg Cert.FgateGradIdeal.Value.rowsV e0) e1) e2
    · obtain ⟨e0, e1, e2⟩ := hagree c
      refine Eq.trans ?_ ((Cert.FgateGradIdeal.Value.biasV_eq _ _ _ (real0 m hpre c) (real1 m hpre c)).trans (final4 m c).symm)
      exact congr (congr (congrArg Cert.FgateGradIdeal.Value.biasV e0) e1) e2

/-- The reference is host operations only: its generated run says that its arguments are left alone, and it declares
    no semaphore. -/
theorem frame_fgate_grad : Cert.quiescent_FgateGradIdeal := fun m ρ _ =>
  (θ_run Cert.FgateGradIdeal.defs _ _).mono (fun r h => ⟨fun c => (h c).2.2, sem_eq_zero_of_no_sems (by decide) r.2⟩)
    (Cert.FgateGradIdeal.Value.run (F := Ideal) m ρ)

end Cert.Proof

end
-- ==== Proof.AttnSem.lean ====
module

public import proofs.«01_k».proof.Proof.Gen.AttnBwdIdeal.Frame
public import proofs.«01_k».proof.Proof.Gen.AttnBwdIdeal.Skeleton
public import Idealize.ShloMosaic.Lib.VecWindow

@[expose] public section

set_option maxRecDepth 16384

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F]

local notation "𝕄" => MT nD τ sig Unit (Elt F) ℕ (UR sig nD τ) ℕ

/-- What the loop over the query tiles carries: the transposed key and value gradients and the two heads' column sums. -/
abbrev Carry (F : FTy → Type) : Type := FVec F S128x512 .f32 × FVec F S128x512 .f32 × FVec F S1x512 .f32 × FVec F S1x512 .f32

/-- The first of the pair's two head numbers. -/
abbrev headNo (hp : BitVec 32) : BitVec 32 := Scalar.addi (Scalar.muli 2#32 hp) 0#32

/-- The lane number at each entry. -/
abbrev laneNo : IVec S512x128 32 := iota .tc S512x128 32 [1] iota_S512x128_d1_w32

variable (hp : BitVec 32) (kv vv km0 km1 : FVec F S512x128 .bf16) (ck0 ck1 : FVec F S1x512 .f32)
variable (q o g : Vec F S512x128 .bf16) (cum lse : Vec F S512x128 .f32)

/-- The value gradient so far with the first head's part of this tile. -/
def tileDv0 (dv : FVec F S128x512 .f32) : FVec F S128x512 .f32 :=
  k0_pay20 hp kv ck0 dv (k0_pay7 q) (k0_pay12 g) (k0_pay14 cum) (k0_pay15 lse) (headNo hp) laneNo

/-- The first head's score gradient in this tile. -/
def tileDs0 : FVec F S512x512 .bf16 :=
  k0_pay24 hp kv vv ck0 (k0_pay7 q) (k0_pay12 g) (k0_pay14 cum) (k0_pay15 lse) (k0_pay18 o g) (headNo hp) laneNo

/-- The second head's score gradient in this tile. -/
def tileDs1 : FVec F S512x512 .f32 :=
  k0_pay29 hp kv vv ck1 (k0_pay3 o) (k0_pay8 q) (k0_pay13 g) (k0_pay14 cum) (k0_pay15 lse)

/-- What one tile below the diagonal makes of what the loop carries. -/
def tileCarry (a : Carry F) : Carry F :=
  (k0_pay111 (k0_pay8 q) (k0_pay25 a.1 (k0_pay7 q) (tileDs0 hp kv vv ck0 q o g cum lse) (constant S128x512 .f32 0x00000000#32)) (tileDs1 hp kv vv ck1 q o g cum lse),
   k0_pay28 hp kv ck1 (k0_pay8 q) (k0_pay13 g) (k0_pay14 cum) (k0_pay15 lse) (tileDv0 hp kv ck0 q g cum lse a.2.1),
   k0_pay22 hp kv vv ck0 a.2.2.1 (k0_pay7 q) (k0_pay12 g) (k0_pay14 cum) (k0_pay15 lse) (k0_pay18 o g) (headNo hp) laneNo,
   k0_pay30 hp kv vv ck1 a.2.2.2 (k0_pay3 o) (k0_pay8 q) (k0_pay13 g) (k0_pay14 cum) (k0_pay15 lse))

/-- The query gradient's rows after one tile below the diagonal. -/
def tileDq (w : Vec F S512x128 .f32) : FVec F S512x128 .f32 :=
  k0_pay112 km1 (k0_pay26 km0 (k0_pay17 (F := F)) (tileDs0 hp kv vv ck0 q o g cum lse)) (tileDs1 hp kv vv ck1 q o g cum lse) w

/-- The row sums after one tile below the diagonal. -/
def tileDcq (w : Vec F S512x128 .f32) : FVec F S512x128 .f32 :=
  k0_pay113 hp (k0_pay23 hp kv vv ck0 (k0_pay7 q) (k0_pay12 g) (k0_pay14 cum) (k0_pay15 lse) (k0_pay16 (F := F)) (k0_pay18 o g) (headNo hp) laneNo)
    (tileDs1 hp kv vv ck1 q o g cum lse) w

/-- The first head's score gradient in the tile on the diagonal. -/
def diagDs0 : FVec F S512x512 .f32 := k0_pay92 hp kv vv ck0 (k0_pay75 o) (k0_pay79 q) (k0_pay84 g) (k0_pay86 cum) (k0_pay87 lse)

/-- What the tile on the diagonal leaves for the loop to carry. -/
def diagCarry : Carry F :=
  (k0_pay107 vv ck1 (k0_pay80 q) (k0_pay85 g) (k0_pay96 k0_pay73 (k0_pay79 q) (diagDs0 hp kv vv ck0 q o g cum lse)) (k0_pay98 (k0_pay75 o) (k0_pay85 g)) (k0_pay99 kv (k0_pay80 q)) (k0_pay100 hp (k0_pay86 cum) (k0_pay87 lse)),
   k0_pay102 ck1 (k0_pay85 g) (k0_pay91 hp kv ck0 k0_pay74 (k0_pay79 q) (k0_pay84 g) (k0_pay86 cum) (k0_pay87 lse)) (k0_pay99 kv (k0_pay80 q)) (k0_pay100 hp (k0_pay86 cum) (k0_pay87 lse)),
   k0_pay93 hp kv vv ck0 k0_pay72 (k0_pay75 o) (k0_pay79 q) (k0_pay84 g) (k0_pay86 cum) (k0_pay87 lse),
   k0_pay104 vv ck1 k0_pay72 (k0_pay85 g) (k0_pay98 (k0_pay75 o) (k0_pay85 g)) (k0_pay99 kv (k0_pay80 q)) (k0_pay100 hp (k0_pay86 cum) (k0_pay87 lse)))

/-- The query gradient's rows after the tile on the diagonal. -/
def diagDq (w : Vec F S512x128 .f32) : FVec F S512x128 .f32 :=
  k0_pay108 vv km1 ck1 (k0_pay85 g) (k0_pay97 km0 (k0_pay89 (Scalar.ofBits .f32 0x00000000#32)) (diagDs0 hp kv vv ck0 q o g cum lse)) (k0_pay98 (k0_pay75 o) (k0_pay85 g)) (k0_pay99 kv (k0_pay80 q)) (k0_pay100 hp (k0_pay86 cum) (k0_pay87 lse)) w

/-- The row sums after the tile on the diagonal. -/
def diagDcq (w : Vec F S512x128 .f32) : FVec F S512x128 .f32 :=
  k0_pay109 (k0_pay105 hp vv ck1 (k0_pay85 g) (k0_pay94 hp k0_pay88 (diagDs0 hp kv vv ck0 q o g cum lse)) (k0_pay98 (k0_pay75 o) (k0_pay85 g)) (k0_pay99 kv (k0_pay80 q)) (k0_pay100 hp (k0_pay86 cum) (k0_pay87 lse))) w

variable (i : grid0.Coords) (x0 x3 x4 : Vec F S2048x128 .bf16) (x5 x6 : Vec F S2048x128 .f32)

/-- The rows of a full-height operand at the tile of trip `k`. -/
def rows2 {e : EltTy} (k : Fin (k0_t1_loop i).trips) (x : Vec F S2048x128 e) : Vec F S512x128 e :=
  VecWindow.window x (k0_off2 i k) S512x128.size (k0_off2_inb i k)

/-- The rows of a full-height operand at the tile on the diagonal. -/
def rows1 {e : EltTy} (x : Vec F S2048x128 e) : Vec F S512x128 e :=
  VecWindow.window x (k0_off1 i) S512x128.size (k0_off1_inb i)

/-- What the loop carries and what the two accumulators hold before trip `k`. -/
def loopSt (w14 w16 : Vec F S2048x128 .f32) (a : Carry F) : ℕ → Carry F × Vec F S2048x128 .f32 × Vec F S2048x128 .f32
  | 0 => (a, w14, w16)
  | k + 1 =>
    let s := loopSt w14 w16 a k
    if h : k < (k0_t1_loop i).trips then
      (tileCarry hp kv vv ck0 ck1 (rows2 i ⟨k, h⟩ x0) (rows2 i ⟨k, h⟩ x3) (rows2 i ⟨k, h⟩ x4) (rows2 i ⟨k, h⟩ x6) (rows2 i ⟨k, h⟩ x5) s.1,
       VecWindow.put s.2.1 (k0_off2 i ⟨k, h⟩) S512x128.size
         (tileDcq hp kv vv ck0 ck1 (rows2 i ⟨k, h⟩ x0) (rows2 i ⟨k, h⟩ x3) (rows2 i ⟨k, h⟩ x4) (rows2 i ⟨k, h⟩ x6) (rows2 i ⟨k, h⟩ x5) (rows2 i ⟨k, h⟩ s.2.1)),
       VecWindow.put s.2.2 (k0_off2 i ⟨k, h⟩) S512x128.size
         (tileDq hp kv vv km0 km1 ck0 ck1 (rows2 i ⟨k, h⟩ x0) (rows2 i ⟨k, h⟩ x3) (rows2 i ⟨k, h⟩ x4) (rows2 i ⟨k, h⟩ x6) (rows2 i ⟨k, h⟩ x5) (rows2 i ⟨k, h⟩ s.2.2)))
    else s

/-- The pair's head number at a grid point. -/
abbrev pairNo (i : grid0.Coords) : BitVec 32 := BitVec.ofNat 32 (i 1).val

variable (x1 x2 : Vec F S512x128 .bf16) (x7 : Vec F S1x1x8x512 .f32)

/-- What the body's tiles make of the operands' blocks and of the two accumulators: the carried sums and the accumulators after. -/
def bodySt (w14 w16 : Vec F S2048x128 .f32) : Carry F × Vec F S2048x128 .f32 × Vec F S2048x128 .f32 :=
  loopSt (pairNo i) (k0_pay62 x1) (k0_pay63 x2) (k0_pay66 x1) (k0_pay67 x1) (k0_pay69 i x7) (k0_pay71 (k0_pay68 x7) (k0_pay70 i)) i x0 x3 x4 x5 x6
    (VecWindow.put w14 (k0_off1 i) S512x128.size
      (diagDcq (pairNo i) (k0_pay62 x1) (k0_pay63 x2) (k0_pay69 i x7) (k0_pay71 (k0_pay68 x7) (k0_pay70 i)) (rows1 i x0) (rows1 i x3) (rows1 i x4) (rows1 i x6) (rows1 i x5) (rows1 i w14)))
    (VecWindow.put w16 (k0_off1 i) S512x128.size
      (diagDq (pairNo i) (k0_pay62 x1) (k0_pay63 x2) (k0_pay66 x1) (k0_pay67 x1) (k0_pay69 i x7) (k0_pay71 (k0_pay68 x7) (k0_pay70 i)) (rows1 i x0) (rows1 i x3) (rows1 i x4) (rows1 i x6) (rows1 i x5) (rows1 i w16)))
    (diagCarry (pairNo i) (k0_pay62 x1) (k0_pay63 x2) (k0_pay69 i x7) (k0_pay71 (k0_pay68 x7) (k0_pay70 i)) (rows1 i x0) (rows1 i x3) (rows1 i x4) (rows1 i x6) (rows1 i x5))
    (k0_t1_loop i).trips

/-- The row of column sums, added to what the accumulator holds there. -/
def rowDck (i : grid0.Coords) (w15 : Vec F S1x4x8x512 .f32) (a : Carry F) : FVec F S1x1x8x512 .f32 :=
  k0_pay1 (k0_pay120 (VecWindow.window w15 (k0_off4 i) S1x1x8x512.size (k0_off4_inb i))) (k0_pay121 (pairNo i) a.2.2.1) (k0_pay122 (pairNo i)) (k0_pay123 a.2.2.2) k0_pay124

/-- The column sums' accumulator after the body. -/
def outDck (i : grid0.Coords) (w15 : Vec F S1x4x8x512 .f32) (a : Carry F) : Vec F S1x4x8x512 .f32 :=
  VecWindow.put w15 (k0_off4 i) S1x1x8x512.size (rowDck i w15 a)

/-- The body clears the query gradient's accumulator: the first key tile. -/
abbrev clearsDq (i : grid0.Coords) : Prop :=
  Scalar.cmpi .ne (Scalar.extui (Scalar.cmpi .eq (BitVec.ofNat 32 (i 2).val) 0#32) : BitVec 32) 0#32 = 1#1

/-- The body clears the sums' accumulators: the first key tile of the first pair. -/
abbrev clearsSums (i : grid0.Coords) : Prop :=
  Scalar.cmpi .ne (Scalar.extui (Scalar.andi (Scalar.cmpi .eq (BitVec.ofNat 32 (i 2).val) 0#32) (Scalar.cmpi .eq (BitVec.ofNat 32 (i 1).val) 0#32)) : BitVec 32) 0#32 = 1#1

/-- The query gradient's accumulator as the tiles find it. -/
def found16 (i : grid0.Coords) (d : Vec F S2048x128 .f32) : Vec F S2048x128 .f32 := if clearsDq i then k0_pay59 else d

/-- The row sums' accumulator as the tiles find it. -/
def found14 (i : grid0.Coords) (d : Vec F S2048x128 .f32) : Vec F S2048x128 .f32 := if clearsSums i then k0_pay60 else d

/-- The column sums' accumulator as the tiles find it. -/
def found15 (i : grid0.Coords) (d : Vec F S1x4x8x512 .f32) : Vec F S1x4x8x512 .f32 := if clearsSums i then k0_pay61 else d

end Cert.AttnBwdIdeal.Body

end
-- ==== Proof.AttnTile.lean ====
module

public import proofs.«01_k».proof.Proof.AttnSem
public import Idealize.ShloMosaic.Lib.Pipeline.ValueKit

@[expose] public section

set_option maxRecDepth 16384

noncomputable section

open Idealize.ShloMosaic Idealize.ShloMosaic.TcCoe Idealize.SL.Sem

namespace Cert.AttnBwdIdeal.Tile

open Cert.AttnBwdIdeal Cert.AttnBwdIdeal.Gen Cert.AttnBwdIdeal.Body

/-- A finite sum of reals is the same sum among the extended reals. -/
theorem coe_sum {ι : Type} (s : Finset ι) (f : ι → ℝ) : ((∑ x ∈ s, f x : ℝ) : EReal) = ∑ x ∈ s, (f x : EReal) :=
  map_sum (⟨⟨Real.toEReal, EReal.coe_zero⟩, EReal.coe_add⟩ : ℝ →+ EReal) f s

/-- The lane of a pair's head `e` that holds feature `d`. -/
def lane (e : Fin 2) (d : Fin 64) : Fin 128 := ⟨64 * e.val + d.val, by omega⟩

/-- The head of the pair a lane belongs to. -/
def headOf (l : Fin 128) : Fin 2 := ⟨l.val / 64, by omega⟩

/-- The head of the pair a lane of the row statistics belongs to. -/
def parity (l : ℕ) : Fin 2 := ⟨l % 2, by omega⟩

/-- The sum over one head's lanes. -/
def half (e : Fin 2) (f : Fin 128 → ℝ) : ℝ := ∑ d : Fin 64, f (lane e d)

/-- A sum over the lanes of the first head, the others masked. -/
theorem sum_first (f : Fin 128 → ℝ) : (∑ x : Fin 128, if x.val < 64 then (f x : EReal) else 0) = (half 0 f : EReal) := by
  rw [half, coe_sum, Finset.sum_ite, Finset.sum_const_zero, add_zero]
  refine (Finset.sum_bij (fun d _ => lane 0 d) (fun d _ => ?_) (fun a _ b _ h => ?_) (fun x hx => ?_) fun _ _ => rfl).symm
  · simp [lane]
  · have := congrArg Fin.val h; simp only [lane] at this; exact Fin.ext (by omega)
  · have hx := (Finset.mem_filter.mp hx).2
    exact ⟨⟨x.val, hx⟩, Finset.mem_univ _, Fin.ext (by simp [lane])⟩

/-- A sum over the lanes of the second head, the others masked. -/
theorem sum_second (f : Fin 128 → ℝ) : (∑ x : Fin 128, if x.val < 64 then (0 : EReal) else (f x : EReal)) = (half 1 f : EReal) := by
  rw [half, coe_sum, Finset.sum_ite, Finset.sum_const_zero, zero_add]
  refine (Finset.sum_bij (fun d _ => lane 1 d) (fun d _ => ?_) (fun a _ b _ h => ?_) (fun x hx => ?_) fun _ _ => rfl).symm
  · simp [lane]
  · have := congrArg Fin.val h; simp only [lane] at this; exact Fin.ext (by omega)
  · have hx := (Finset.mem_filter.mp hx).2
    exact ⟨⟨x.val - 64, by omega⟩, Finset.mem_univ _, Fin.ext (by simp [lane]; omega)⟩

/-- One tile's operands as reals: queries, keys, values, outputs, cotangents, and per head of the pair the decays' and log-sums' rows and the keys' decays. -/
structure Reals where
  Q : Fin 512 → Fin 128 → ℝ
  K : Fin 512 → Fin 128 → ℝ
  V : Fin 512 → Fin 128 → ℝ
  O : Fin 512 → Fin 128 → ℝ
  G : Fin 512 → Fin 128 → ℝ
  C : Fin 512 → Fin 128 → ℝ
  L : Fin 512 → Fin 128 → ℝ
  CK : Fin 2 → Fin 512 → ℝ
  n : Fin 4

/-- The lane of the row statistics that belongs to the pair's head `e`. -/
def Reals.pick (T : Reals) (e : Fin 2) : Fin 128 := ⟨2 * T.n.val + e.val, by omega⟩

/-- The attention weight of query row `i` on key `j`. -/
def Reals.weight (T : Reals) (e : Fin 2) (i j : Fin 512) : ℝ :=
  Real.exp (half e (fun l => T.Q i l * (1 / 8) * T.K j l) + (T.C i (T.pick e) - T.L i (T.pick e)) - T.CK e j)

/-- The weight's cotangent less the row's mean of them. -/
def Reals.spread (T : Reals) (e : Fin 2) (i j : Fin 512) : ℝ :=
  half e (fun l => T.G i l * T.V j l) - half e (fun l => T.G i l * T.O i l)

/-- The score's gradient. -/
def Reals.sgrad (T : Reals) (e : Fin 2) (i j : Fin 512) : ℝ := T.weight e i j * T.spread e i j

/-- The weight, none on later keys. -/
def Reals.cweight (T : Reals) (e : Fin 2) (i j : Fin 512) : ℝ := if j ≤ i then T.weight e i j else 0

/-- The score's gradient, none on later keys. -/
def Reals.csgrad (T : Reals) (e : Fin 2) (i j : Fin 512) : ℝ := T.cweight e i j * T.spread e i j

/-- The kernel's vectors hold a tile's reals. -/
structure Reads (T : Reals) (kv vv km0 km1 : FVec Ideal S512x128 .bf16) (ck0 ck1 : FVec Ideal S1x512 .f32)
    (q o g : Vec Ideal S512x128 .bf16) (cum lse : Vec Ideal S512x128 .f32) : Prop where
  kv : ∀ j l, kv (ix2 j l) = (T.K j l : EReal)
  vv : ∀ j l, vv (ix2 j l) = (T.V j l : EReal)
  km0 : ∀ j l, km0 (ix2 j l) = if l.val < 64 then (T.K j l : EReal) else 0
  km1 : ∀ j l, km1 (ix2 j l) = if l.val < 64 then 0 else (T.K j l : EReal)
  ck0 : ∀ j, ck0 (ix2 0 j) = (T.CK 0 j : EReal)
  ck1 : ∀ j, ck1 (ix2 0 j) = (T.CK 1 j : EReal)
  q : ∀ i l, q (ix2 i l) = (T.Q i l : EReal)
  o : ∀ i l, o (ix2 i l) = (T.O i l : EReal)
  g : ∀ i l, g (ix2 i l) = (T.G i l : EReal)
  cum : ∀ i l, cum (ix2 i l) = (T.C i l : EReal)
  lse : ∀ i l, lse (ix2 i l) = (T.L i l : EReal)

/-- The score's scale is one eighth. -/
theorem scale_eq : Ideal.ofBits .f32 1040187392#32 = ((1 / 8 : ℝ) : EReal) := by
  simp [Ideal.ofBits, Ideal.ieee, -EReal.coe_mul]; norm_num

/-- The first head's number, a lane of the row statistics. -/
theorem head0_no : ∀ n : Fin 4, (Scalar.addi (Scalar.muli 2#32 (BitVec.ofNat 32 n.val)) 0#32).toNat = 2 * n.val := by decide

/-- The second head's number. -/
theorem head1_no : ∀ n : Fin 4, (Scalar.addi (Scalar.muli 2#32 (BitVec.ofNat 32 n.val)) 1#32).toNat = 2 * n.val + 1 := by decide

/-- A sum over the lanes that keeps the first head's. -/
theorem sum_pick0 (T : Reals) (f : Fin 128 → ℝ) : (∑ x : Fin 128, if x.val = 2 * T.n.val then (f x : EReal) else 0) = (f (T.pick 0) : EReal) := by
  refine (Finset.sum_congr rfl fun x _ => ?_).trans ((Finset.sum_ite_eq' Finset.univ (T.pick 0) fun x => (f x : EReal)).trans (if_pos (Finset.mem_univ _)))
  simp only [Fin.ext_iff, Reals.pick, Fin.val_zero, add_zero]

/-- A sum over the lanes that keeps the second head's. -/
theorem sum_pick1 (T : Reals) (f : Fin 128 → ℝ) : (∑ x : Fin 128, if x.val = 2 * T.n.val + 1 then (f x : EReal) else 0) = (f (T.pick 1) : EReal) := by
  refine (Finset.sum_congr rfl fun x _ => ?_).trans ((Finset.sum_ite_eq' Finset.univ (T.pick 1) fun x => (f x : EReal)).trans (if_pos (Finset.mem_univ _)))
  simp only [Fin.ext_iff, Reals.pick, Fin.val_one]

/-- The two heads' row statistics, each in its own lane. -/
theorem lane_split (n l : ℕ) (s : Fin 2 → ℝ) :
    ((if l = 2 * n then (s 0 : EReal) else 0) + if l = 2 * n + 1 then (s 1 : EReal) else 0) = ((if l / 2 = n then s (parity l) else 0 : ℝ) : EReal) := by
  by_cases h0 : l = 2 * n
  · rw [if_pos h0, if_neg (by omega), if_pos (by omega), add_zero, show parity l = 0 from Fin.ext (by simp [parity]; omega)]
  · by_cases h1 : l = 2 * n + 1
    · rw [if_neg h0, if_pos h1, if_pos (by omega), zero_add, show parity l = 1 from Fin.ext (by simp [parity]; omega)]
    · rw [if_neg h0, if_neg h1, if_neg (by omega), add_zero, EReal.coe_zero]

/-- The head of a lane. -/
theorem headOf_eq (l : Fin 128) : headOf l = if l.val < 64 then 0 else 1 := by
  unfold headOf; split <;> ext <;> simp <;> omega

variable {T : Reals} {kv vv km0 km1 : FVec Ideal S512x128 .bf16} {ck0 ck1 : FVec Ideal S1x512 .f32}
variable {q o g : Vec Ideal S512x128 .bf16} {cum lse : Vec Ideal S512x128 .f32} (h : Reads T kv vv km0 km1 ck0 ck1 q o g cum lse)
include h

omit h in
/-- The weight as the kernel spells it. -/
theorem weight_coe (e : Fin 2) (i j : Fin 512) :
    Ideal.exp (((half e fun l => T.Q i l * (1 / 8) * T.K j l : ℝ) : EReal) + ((T.C i (T.pick e) : EReal) - (T.L i (T.pick e) : EReal)) - (T.CK e j : EReal)) = (T.weight e i j : EReal) := by
  rw [← EReal.coe_sub, ← EReal.coe_add, ← EReal.coe_sub, Ideal.exp_coe]; rfl

omit h in
/-- The score's gradient as the kernel spells it. -/
theorem sgrad_coe (e : Fin 2) (i j : Fin 512) :
    (T.weight e i j : EReal) * (((half e fun l => T.G i l * T.V j l : ℝ) : EReal) - ((half e fun l => T.G i l * T.O i l : ℝ) : EReal)) = (T.sgrad e i j : EReal) := by
  rw [← EReal.coe_sub, ← EReal.coe_mul]; rfl

/-- The second head's score gradient. -/
theorem ds1_at (i j : Fin 512) : tileDs1 (BitVec.ofNat 32 T.n.val) kv vv ck1 q o g cum lse (ix2 i j) = (T.sgrad 1 i j : EReal) := by
  pointwise [tileDs1, k0_pay29, k0_pay27, k0_pay19, k0_pay18, k0_pay7, k0_pay12, k0_pay3, k0_pay8, k0_pay13, k0_pay14, k0_pay15, k0_pay4, k0_pay5, k0_pay6, k0_pay9, k0_pay10, k0_pay11, h.q, h.kv, h.g, h.vv, h.o, h.cum, h.lse, h.ck0, h.ck1, scale_eq]
  word_cmp
  simp only [← EReal.coe_mul, sum_second, head1_no, sum_pick1, weight_coe, sgrad_coe]

/-- The first head's score gradient. -/
theorem ds0_at (i j : Fin 512) : tileDs0 (BitVec.ofNat 32 T.n.val) kv vv ck0 q o g cum lse (ix2 i j) = (T.sgrad 0 i j : EReal) := by
  pointwise [tileDs0, k0_pay24, k0_pay21, k0_pay19, k0_pay18, k0_pay7, k0_pay12, k0_pay3, k0_pay8, k0_pay13, k0_pay14, k0_pay15, k0_pay4, k0_pay5, k0_pay6, k0_pay9, k0_pay10, k0_pay11, h.q, h.kv, h.g, h.vv, h.o, h.cum, h.lse, h.ck0, h.ck1, scale_eq, headNo, laneNo]
  word_cmp
  simp only [← EReal.coe_mul, sum_first, head0_no, sum_pick0, weight_coe, sgrad_coe]

/-- The tile's part of the values' gradient. -/
theorem dv_at (a : Carry Ideal) (l : Fin 128) (j : Fin 512) :
    (tileCarry (BitVec.ofNat 32 T.n.val) kv vv ck0 ck1 q o g cum lse a).2.1 (ix2 l j) = a.2.1 (ix2 l j) + ((∑ i : Fin 512, T.G i l * T.weight (headOf l) i j : ℝ) : EReal) := by
  pointwise [tileCarry, tileDv0, k0_pay28, k0_pay20, k0_pay27, k0_pay19, k0_pay18, k0_pay7, k0_pay12, k0_pay3, k0_pay8, k0_pay13, k0_pay14, k0_pay15, k0_pay4, k0_pay5, k0_pay6, k0_pay9, k0_pay10, k0_pay11, h.q, h.kv, h.g, h.vv, h.o, h.cum, h.lse, h.ck0, h.ck1, scale_eq, headNo, laneNo]
  word_cmp
  simp only [← EReal.coe_mul, sum_first, sum_second, head0_no, head1_no, sum_pick0, sum_pick1, weight_coe, sgrad_coe]
  rw [headOf_eq]; split <;> simp only [← EReal.coe_mul, ← coe_sum, Finset.sum_const_zero, add_zero]

/-- The tile's part of the keys' gradient. -/
theorem dk_at (a : Carry Ideal) (l : Fin 128) (j : Fin 512) :
    (tileCarry (BitVec.ofNat 32 T.n.val) kv vv ck0 ck1 q o g cum lse a).1 (ix2 l j) = a.1 (ix2 l j) + ((∑ i : Fin 512, T.Q i l * (1 / 8) * T.sgrad (headOf l) i j : ℝ) : EReal) := by
  pointwise [tileCarry, k0_pay111, k0_pay110, k0_pay25, ds0_at h, ds1_at h, k0_pay19, k0_pay18, k0_pay7, k0_pay12, k0_pay3, k0_pay8, k0_pay13, k0_pay14, k0_pay15, k0_pay4, k0_pay5, k0_pay6, k0_pay9, k0_pay10, k0_pay11, h.q, h.kv, h.g, h.vv, h.o, h.cum, h.lse, h.ck0, h.ck1, scale_eq, headNo, laneNo]
  word_cmp
  simp only [← EReal.coe_mul, sum_first, sum_second, head0_no, head1_no, sum_pick0, sum_pick1, weight_coe, sgrad_coe]
  rw [headOf_eq]; split <;> simp only [← EReal.coe_mul, ← coe_sum, Finset.sum_const_zero, add_zero]

/-- The tile's part of the first head's column sums. -/
theorem col0_at (a : Carry Ideal) (j : Fin 512) :
    (tileCarry (BitVec.ofNat 32 T.n.val) kv vv ck0 ck1 q o g cum lse a).2.2.1 (ix2 0 j) = a.2.2.1 (ix2 0 j) + ((∑ i : Fin 512, T.sgrad 0 i j : ℝ) : EReal) := by
  pointwise [tileCarry, k0_pay22, k0_pay21, k0_pay19, k0_pay18, k0_pay7, k0_pay12, k0_pay3, k0_pay8, k0_pay13, k0_pay14, k0_pay15, k0_pay4, k0_pay5, k0_pay6, k0_pay9, k0_pay10, k0_pay11, h.q, h.kv, h.g, h.vv, h.o, h.cum, h.lse, h.ck0, h.ck1, scale_eq, headNo, laneNo]
  word_cmp
  simp only [← EReal.coe_mul, sum_first, sum_second, head0_no, head1_no, sum_pick0, sum_pick1, weight_coe, sgrad_coe]
  simp only [← coe_sum]

/-- The tile's part of the second head's column sums. -/
theorem col1_at (a : Carry Ideal) (j : Fin 512) :
    (tileCarry (BitVec.ofNat 32 T.n.val) kv vv ck0 ck1 q o g cum lse a).2.2.2 (ix2 0 j) = a.2.2.2 (ix2 0 j) + ((∑ i : Fin 512, T.sgrad 1 i j : ℝ) : EReal) := by
  pointwise [tileCarry, k0_pay30, k0_pay29, k0_pay27, k0_pay19, k0_pay18, k0_pay7, k0_pay12, k0_pay3, k0_pay8, k0_pay13, k0_pay14, k0_pay15, k0_pay4, k0_pay5, k0_pay6, k0_pay9, k0_pay10, k0_pay11, h.q, h.kv, h.g, h.vv, h.o, h.cum, h.lse, h.ck0, h.ck1, scale_eq, headNo, laneNo]
  word_cmp
  simp only [← EReal.coe_mul, sum_first, sum_second, head0_no, head1_no, sum_pick0, sum_pick1, weight_coe, sgrad_coe]
  simp only [← coe_sum]

/-- The tile's part of the queries' gradient. -/
theorem dq_at (w : Vec Ideal S512x128 .f32) (i : Fin 512) (l : Fin 128) :
    tileDq (BitVec.ofNat 32 T.n.val) kv vv km0 km1 ck0 ck1 q o g cum lse w (ix2 i l) = w (ix2 i l) + ((∑ j : Fin 512, T.sgrad (headOf l) i j * T.K j l * (1 / 8) : ℝ) : EReal) := by
  pointwise [tileDq, k0_pay112, k0_pay110, k0_pay26, k0_pay17, ds0_at h, ds1_at h, h.km0, h.km1, k0_pay19, k0_pay18, k0_pay7, k0_pay12, k0_pay3, k0_pay8, k0_pay13, k0_pay14, k0_pay15, k0_pay4, k0_pay5, k0_pay6, k0_pay9, k0_pay10, k0_pay11, h.q, h.kv, h.g, h.vv, h.o, h.cum, h.lse, h.ck0, h.ck1, scale_eq, headNo, laneNo]
  rw [headOf_eq]; split <;> simp only [mul_zero, Finset.sum_const_zero, zero_mul, add_zero, zero_add, ← EReal.coe_mul, ← coe_sum, Finset.sum_mul]

/-- The tile's part of the row sums. -/
theorem dcq_at (w : Vec Ideal S512x128 .f32) (i : Fin 512) (l : Fin 128) :
    tileDcq (BitVec.ofNat 32 T.n.val) kv vv ck0 ck1 q o g cum lse w (ix2 i l) = w (ix2 i l) + ((if l.val / 2 = T.n.val then ∑ j : Fin 512, T.sgrad (parity l.val) i j else 0 : ℝ) : EReal) := by
  pointwise [tileDcq, k0_pay113, k0_pay23, k0_pay21, k0_pay16, ds1_at h, k0_pay19, k0_pay18, k0_pay7, k0_pay12, k0_pay3, k0_pay8, k0_pay13, k0_pay14, k0_pay15, k0_pay4, k0_pay5, k0_pay6, k0_pay9, k0_pay10, k0_pay11, h.q, h.kv, h.g, h.vv, h.o, h.cum, h.lse, h.ck0, h.ck1, scale_eq, headNo, laneNo]
  word_cmp
  simp only [← EReal.coe_mul, sum_first, sum_second, head0_no, head1_no, sum_pick0, sum_pick1, weight_coe, sgrad_coe]
  simp only [← coe_sum]
  exact congrArg (w (ix2 i l) + ·) (lane_split T.n.val l.val fun e => ∑ j : Fin 512, T.sgrad e i j)

omit h in
/-- The masked weight, as a factor. -/
theorem mask_weight (a : ℝ) (e : Fin 2) (i j : Fin 512) : (if j.val ≤ i.val then ((a * T.weight e i j : ℝ) : EReal) else 0) = ((a * T.cweight e i j : ℝ) : EReal) := by
  simp only [Reals.cweight, Fin.le_def]; split <;> simp

omit h in
/-- The masked score gradient. -/
theorem mask_sgrad (e : Fin 2) (i j : Fin 512) : (if j.val ≤ i.val then (T.sgrad e i j : EReal) else 0) = (T.csgrad e i j : EReal) := by
  simp only [Reals.csgrad, Reals.sgrad, Reals.cweight, Fin.le_def]; split <;> simp

omit h in
/-- The masked score gradient, as the second factor. -/
theorem mask_mul_sgrad (a : ℝ) (e : Fin 2) (i j : Fin 512) : (if j.val ≤ i.val then ((a * T.sgrad e i j : ℝ) : EReal) else 0) = ((a * T.csgrad e i j : ℝ) : EReal) := by
  simp only [Reals.csgrad, Reals.sgrad, Reals.cweight, Fin.le_def]; split <;> simp

omit h in
/-- The masked score gradient, as the first factor. -/
theorem mask_sgrad_mul (a : ℝ) (e : Fin 2) (i j : Fin 512) : (if j.val ≤ i.val then ((T.sgrad e i j * a : ℝ) : EReal) else 0) = ((T.csgrad e i j * a : ℝ) : EReal) := by
  rw [mul_comm, mul_comm _ a]; exact mask_mul_sgrad a e i j

/-- The first head's score gradient on the diagonal. -/
theorem diag_ds0_at (i j : Fin 512) :
    diagDs0 (BitVec.ofNat 32 T.n.val) kv vv ck0 q o g cum lse (ix2 i j) = (T.csgrad 0 i j : EReal) := by
  pointwise [diagDs0, k0_pay92, k0_pay90, k0_pay72, k0_pay73, k0_pay74, k0_pay75, k0_pay79, k0_pay77, k0_pay76, k0_pay78, k0_pay80, k0_pay84, k0_pay82, k0_pay81, k0_pay83, k0_pay85, k0_pay86, k0_pay87, k0_pay99, k0_pay100, k0_pay98, h.q, h.kv, h.g, h.vv, h.o, h.cum, h.lse, h.ck0, h.ck1, scale_eq]
  word_cmp
  simp only [← EReal.coe_mul, sum_first, sum_second, head0_no, head1_no, sum_pick0, sum_pick1, weight_coe, sgrad_coe]
  exact mask_sgrad 0 i j

/-- The values' gradient of the tile on the diagonal. -/
theorem diag_dv_at (l : Fin 128) (j : Fin 512) :
    (diagCarry (BitVec.ofNat 32 T.n.val) kv vv ck0 ck1 q o g cum lse).2.1 (ix2 l j) = ((∑ i : Fin 512, T.G i l * T.cweight (headOf l) i j : ℝ) : EReal) := by
  pointwise [diagCarry, k0_pay102, k0_pay101, k0_pay91, k0_pay90, k0_pay72, k0_pay73, k0_pay74, k0_pay75, k0_pay79, k0_pay77, k0_pay76, k0_pay78, k0_pay80, k0_pay84, k0_pay82, k0_pay81, k0_pay83, k0_pay85, k0_pay86, k0_pay87, k0_pay99, k0_pay100, k0_pay98, h.q, h.kv, h.g, h.vv, h.o, h.cum, h.lse, h.ck0, h.ck1, scale_eq]
  word_cmp
  simp only [← EReal.coe_mul, sum_first, sum_second, head0_no, head1_no, sum_pick0, sum_pick1, weight_coe, sgrad_coe]
  rw [headOf_eq]; split <;> simp only [mul_zero, ite_self, Finset.sum_const_zero, zero_mul, add_zero, zero_add, ← EReal.coe_mul, mask_weight, mask_sgrad, mask_mul_sgrad, mask_sgrad_mul, ← coe_sum, Finset.sum_mul]

/-- The keys' gradient of the tile on the diagonal. -/
theorem diag_dk_at (l : Fin 128) (j : Fin 512) :
    (diagCarry (BitVec.ofNat 32 T.n.val) kv vv ck0 ck1 q o g cum lse).1 (ix2 l j) = ((∑ i : Fin 512, T.Q i l * (1 / 8) * T.csgrad (headOf l) i j : ℝ) : EReal) := by
  pointwise [diagCarry, k0_pay107, k0_pay106, k0_pay103, k0_pay101, k0_pay96, k0_pay95, diag_ds0_at h, k0_pay72, k0_pay73, k0_pay74, k0_pay75, k0_pay79, k0_pay77, k0_pay76, k0_pay78, k0_pay80, k0_pay84, k0_pay82, k0_pay81, k0_pay83, k0_pay85, k0_pay86, k0_pay87, k0_pay99, k0_pay100, k0_pay98, h.q, h.kv, h.g, h.vv, h.o, h.cum, h.lse, h.ck0, h.ck1, scale_eq]
  word_cmp
  simp only [← EReal.coe_mul, sum_first, sum_second, head0_no, head1_no, sum_pick0, sum_pick1, weight_coe, sgrad_coe]
  rw [headOf_eq]; split <;> simp only [mul_zero, ite_self, Finset.sum_const_zero, zero_mul, add_zero, zero_add, ← EReal.coe_mul, mask_weight, mask_sgrad, mask_mul_sgrad, mask_sgrad_mul, ← coe_sum, Finset.sum_mul]

/-- The first head's column sums of the tile on the diagonal. -/
theorem diag_col0_at (j : Fin 512) :
    (diagCarry (BitVec.ofNat 32 T.n.val) kv vv ck0 ck1 q o g cum lse).2.2.1 (ix2 0 j) = ((∑ i : Fin 512, T.csgrad 0 i j : ℝ) : EReal) := by
  pointwise [diagCarry, k0_pay93, k0_pay92, k0_pay90, k0_pay72, k0_pay73, k0_pay74, k0_pay75, k0_pay79, k0_pay77, k0_pay76, k0_pay78, k0_pay80, k0_pay84, k0_pay82, k0_pay81, k0_pay83, k0_pay85, k0_pay86, k0_pay87, k0_pay99, k0_pay100, k0_pay98, h.q, h.kv, h.g, h.vv, h.o, h.cum, h.lse, h.ck0, h.ck1, scale_eq]
  word_cmp
  simp only [← EReal.coe_mul, sum_first, sum_second, head0_no, head1_no, sum_pick0, sum_pick1, weight_coe, sgrad_coe]
  simp only [mask_sgrad, ← coe_sum]

/-- The second head's column sums of the tile on the diagonal. -/
theorem diag_col1_at (j : Fin 512) :
    (diagCarry (BitVec.ofNat 32 T.n.val) kv vv ck0 ck1 q o g cum lse).2.2.2 (ix2 0 j) = ((∑ i : Fin 512, T.csgrad 1 i j : ℝ) : EReal) := by
  pointwise [diagCarry, k0_pay104, k0_pay103, k0_pay101, k0_pay72, k0_pay73, k0_pay74, k0_pay75, k0_pay79, k0_pay77, k0_pay76, k0_pay78, k0_pay80, k0_pay84, k0_pay82, k0_pay81, k0_pay83, k0_pay85, k0_pay86, k0_pay87, k0_pay99, k0_pay100, k0_pay98, h.q, h.kv, h.g, h.vv, h.o, h.cum, h.lse, h.ck0, h.ck1, scale_eq]
  word_cmp
  simp only [← EReal.coe_mul, sum_first, sum_second, head0_no, head1_no, sum_pick0, sum_pick1, weight_coe, sgrad_coe]
  simp only [mask_sgrad, ← coe_sum]

/-- The queries' gradient of the tile on the diagonal. -/
theorem diag_dq_at (w : Vec Ideal S512x128 .f32) (i : Fin 512) (l : Fin 128) :
    diagDq (BitVec.ofNat 32 T.n.val) kv vv km0 km1 ck0 ck1 q o g cum lse w (ix2 i l) = w (ix2 i l) + ((∑ j : Fin 512, T.csgrad (headOf l) i j * T.K j l * (1 / 8) : ℝ) : EReal) := by
  pointwise [diagDq, k0_pay108, k0_pay106, k0_pay103, k0_pay101, k0_pay97, k0_pay95, k0_pay89, diag_ds0_at h, h.km0, h.km1, k0_pay72, k0_pay73, k0_pay74, k0_pay75, k0_pay79, k0_pay77, k0_pay76, k0_pay78, k0_pay80, k0_pay84, k0_pay82, k0_pay81, k0_pay83, k0_pay85, k0_pay86, k0_pay87, k0_pay99, k0_pay100, k0_pay98, h.q, h.kv, h.g, h.vv, h.o, h.cum, h.lse, h.ck0, h.ck1, scale_eq]
  word_cmp
  simp only [← EReal.coe_mul, sum_first, sum_second, head0_no, head1_no, sum_pick0, sum_pick1, weight_coe, sgrad_coe]
  rw [headOf_eq]; split <;> simp only [mul_zero, ite_self, Finset.sum_const_zero, zero_mul, add_zero, zero_add, ← EReal.coe_mul, mask_weight, mask_sgrad, mask_mul_sgrad, mask_sgrad_mul, ← coe_sum, Finset.sum_mul]

/-- The row sums of the tile on the diagonal. -/
theorem diag_dcq_at (w : Vec Ideal S512x128 .f32) (i : Fin 512) (l : Fin 128) :
    diagDcq (BitVec.ofNat 32 T.n.val) kv vv ck0 ck1 q o g cum lse w (ix2 i l) = w (ix2 i l) + ((if l.val / 2 = T.n.val then ∑ j : Fin 512, T.csgrad (parity l.val) i j else 0 : ℝ) : EReal) := by
  pointwise [diagDcq, k0_pay109, k0_pay105, k0_pay103, k0_pay101, k0_pay94, k0_pay88, diag_ds0_at h, k0_pay72, k0_pay73, k0_pay74, k0_pay75, k0_pay79, k0_pay77, k0_pay76, k0_pay78, k0_pay80, k0_pay84, k0_pay82, k0_pay81, k0_pay83, k0_pay85, k0_pay86, k0_pay87, k0_pay99, k0_pay100, k0_pay98, h.q, h.kv, h.g, h.vv, h.o, h.cum, h.lse, h.ck0, h.ck1, scale_eq]
  word_cmp
  simp only [← EReal.coe_mul, sum_first, sum_second, head0_no, head1_no, sum_pick0, sum_pick1, weight_coe, sgrad_coe]
  simp only [mask_sgrad, ← coe_sum]
  exact congrArg (w (ix2 i l) + ·) (lane_split T.n.val l.val fun e => ∑ j : Fin 512, T.csgrad e i j)

end Cert.AttnBwdIdeal.Tile

end
-- ==== Proof.AttnRef.lean ====
module

public import proofs.«01_k».proof.Proof.AttnTile
public import proofs.«01_k».proof.Proof.Finite
public import proofs.«01_k».proof.Proof.Gen.AttnGradIdeal.Run

@[expose] public section

set_option maxRecDepth 16384

noncomputable section

open Idealize.ShloMosaic Idealize.ShloMosaic.TcCoe Idealize.SL.Sem

namespace Cert.Attn

/-- The packed arguments as reals: queries, keys and values side by side, the decays' running sums, the output's cotangent. -/
structure Args where
  A : Fin 2 → Fin 2048 → Fin 1536 → ℝ
  C : Fin 2 → Fin 8 → Fin 2048 → ℝ
  G : Fin 2 → Fin 2048 → Fin 8 → Fin 64 → ℝ

variable (X : Args) (b : Fin 2) (h : Fin 8) (r j : Fin 2048) (d : Fin 64)

/-- A query's entry, -/
def Args.q : ℝ := X.A b r ⟨64 * h.val + d.val, by omega⟩

/-- a key's, -/
def Args.k : ℝ := X.A b r ⟨512 + (64 * h.val + d.val), by omega⟩

/-- a value's. -/
def Args.v : ℝ := X.A b r ⟨1024 + (64 * h.val + d.val), by omega⟩

/-- The score of row `r` on key `j`, with the decay between them. -/
def Args.score : ℝ := (∑ d, X.q b h r d * X.k b h j d) * (1 / 8) + X.C b h r - X.C b h j

/-- The row's sum of exponentials over the keys up to it. -/
def Args.Z : ℝ := ∑ j, if j ≤ r then Real.exp (X.score b h r j) else 0

/-- The attention weight. -/
def Args.prob : ℝ := if j ≤ r then Real.exp (X.score b h r j) / X.Z b h r else 0

/-- The weight's cotangent. -/
def Args.dprob : ℝ := ∑ d, X.G b r h d * X.v b h j d

/-- The score's gradient. -/
def Args.dscore : ℝ := X.prob b h r j * (X.dprob b h r j - ∑ i, X.prob b h r i * X.dprob b h r i)

theorem Args.Z_pos : 0 < X.Z b h r :=
  Finset.sum_pos' (fun j _ => by split <;> positivity) ⟨r, Finset.mem_univ _, by rw [if_pos le_rfl]; positivity⟩

/-- A vector of each argument holds its reals. -/
structure Args.Reads (a0 : (⟨3, ![2, 2048, 1536]⟩ : Shape).Idx → EReal) (a1 : (⟨3, ![2, 8, 2048]⟩ : Shape).Idx → EReal) (a2 : (⟨4, ![2, 2048, 8, 64]⟩ : Shape).Idx → EReal) : Prop where
  A : ∀ b s k, a0 (ix3 b s k) = (X.A b s k : EReal)
  C : ∀ b h s, a1 (ix3 b h s) = (X.C b h s : EReal)
  G : ∀ b s h d, a2 (ix4 b s h d) = (X.G b s h d : EReal)

end Cert.Attn

namespace Cert.AttnGradIdeal.Value

open Cert.AttnGradIdeal Cert.AttnGradIdeal.Gen Cert.Attn
open Cert.AttnBwdIdeal.Tile (coe_sum scale_eq)

/-- The keys a row may look at. -/
def maskV : IVec S2x8x2048x2048 1 := broadcastInDim S2x8x2048x2048 ![2, 3] bcast_S2048x2048_S2x8x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))

variable (a0 : FVec Ideal S2x2048x1536 .f32) (a1 : FVec Ideal S2x8x2048 .f32) (a2 : FVec Ideal S2x2048x8x64 .f32)

/-- The queries by heads, -/
def qV : FVec Ideal S2x2048x8x64 .f32 := shapeCast _ (extractStridedSlice S2x2048x512 ![0, 0, 0] a0 slices_S2x2048x1536_S2x2048x512_0_0_0) shapeCasts_S2x2048x512_S2x2048x8x64

/-- the keys, -/
def kV : FVec Ideal S2x2048x8x64 .f32 := shapeCast _ (extractStridedSlice S2x2048x512 ![0, 0, 512] a0 slices_S2x2048x1536_S2x2048x512_0_0_512) shapeCasts_S2x2048x512_S2x2048x8x64

/-- the values. -/
def vV : FVec Ideal S2x2048x8x64 .f32 := shapeCast _ (extractStridedSlice S2x2048x512 ![0, 0, 1024] a0 slices_S2x2048x1536_S2x2048x512_0_0_1024) shapeCasts_S2x2048x512_S2x2048x8x64

/-- The scores, masked. -/
def scoreV : FVec Ideal S2x8x2048x2048 .f32 :=
  select maskV (subf (addf (mulf (Host.dotGeneral dot_S2x2048x8x64_S2x2048x8x64_S2x8x2048x2048_3_3_1_1_02_02 none (qV a0) (kV a0)) (broadcastInDim S2x8x2048x2048 ![] bcast_S_S2x8x2048x2048 (constant S_ .f32 0x3E000000#32))) (broadcastInDim S2x8x2048x2048 ![0, 1, 2, 3] bcast_S2x8x2048x1_S2x8x2048x2048_0_1_2_3 (broadcastInDim S2x8x2048x1 ![0, 1, 2] bcast_S2x8x2048_S2x8x2048x1_0_1_2 a1))) (broadcastInDim S2x8x2048x2048 ![0, 1, 2, 3] bcast_S2x8x1x2048_S2x8x2048x2048_0_1_2_3 (broadcastInDim S2x8x1x2048 ![0, 1, 3] bcast_S2x8x2048_S2x8x1x2048_0_1_3 a1))) (broadcastInDim S2x8x2048x2048 ![] bcast_S_S2x8x2048x2048 (id (constant S_ .f32 0xFF800000#32)))

/-- Each row's greatest score. -/
def topV (s : FVec Ideal S2x8x2048x2048 .f32) : FVec Ideal S2x8x2048 .f32 :=
  Host.reduce FloatOps.maximumf s (constant S_ .f32 0xFF800000#32) reducesTo_S2x8x2048x2048_S2x8x2048_d3 h_S_

/-- The same, once more against minus infinity. -/
def maxV (u : FVec Ideal S2x8x2048 .f32) : FVec Ideal S2x8x2048 .f32 :=
  maximumf (broadcastInDim S2x8x2048 ![] bcast_S_S2x8x2048 (constant S_ .f32 0xFF800000#32)) u

/-- The exponentials of the scores less a row's shift. -/
def expV (s : FVec Ideal S2x8x2048x2048 .f32) (t : FVec Ideal S2x8x2048 .f32) : FVec Ideal S2x8x2048x2048 .f32 :=
  Host.exp (subf s (broadcastInDim S2x8x2048x2048 ![0, 1, 2, 3] bcast_S2x8x2048x1_S2x8x2048x2048_0_1_2_3 (broadcastInDim S2x8x2048x1 ![0, 1, 2] bcast_S2x8x2048_S2x8x2048x1_0_1_2 t)))

/-- Their sums. -/
def sumV (e : FVec Ideal S2x8x2048x2048 .f32) : FVec Ideal S2x8x2048 .f32 :=
  Host.reduceAdd e (constant S_ .f32 0x00000000#32) reducesTo_S2x8x2048x2048_S2x8x2048_d3 h_S_

/-- The sums, one column. -/
def colV (e : FVec Ideal S2x8x2048x2048 .f32) : FVec Ideal S2x8x2048x1 .f32 :=
  broadcastInDim S2x8x2048x1 ![0, 1, 2] bcast_S2x8x2048_S2x8x2048x1_0_1_2 (sumV e)

/-- The weights. -/
def probV (e : FVec Ideal S2x8x2048x2048 .f32) : FVec Ideal S2x8x2048x2048 .f32 :=
  Host.divf e (broadcastInDim S2x8x2048x2048 ![0, 1, 2, 3] bcast_S2x8x2048x1_S2x8x2048x2048_0_1_2_3 (colV e))

/-- The output's cotangent, its rows last. -/
def ctV : FVec Ideal S2x8x64x2048 .f32 := transpose S2x8x64x2048 [0, 2, 3, 1] a2 transposes_S2x2048x8x64_S2x8x64x2048_0_2_3_1

/-- The weights' cotangents. -/
def dprobV : FVec Ideal S2x8x2048x2048 .f32 := Host.dotGeneral dot_S2x8x64x2048_S2x2048x8x64_S2x8x2048x2048_2_3_3_1_01_02 none (ctV a2) (vV a0)

/-- A row's share of the division's gradient. -/
def shareV (dp e : FVec Ideal S2x8x2048x2048 .f32) : FVec Ideal S2x8x2048 .f32 :=
  Host.reduceAdd (mulf (mulf dp (broadcastInDim S2x8x2048x2048 ![0, 1, 2, 3] bcast_S2x8x2048x1_S2x8x2048x2048_0_1_2_3 (Host.divf (broadcastInDim S2x8x2048x1 ![] bcast_S_S2x8x2048x1 (constant S_ .f32 0x3F800000#32)) (mulf (colV e) (colV e))))) e) (constant S_ .f32 0x00000000#32) reducesTo_S2x8x2048x2048_S2x8x2048_d3 h_S_

/-- The same by the sum it is for. -/
def shareRowV (w : FVec Ideal S2x8x2048 .f32) : FVec Ideal S2x8x2048 .f32 :=
  Host.reduceAdd (Host.negf (shapeCast _ w shapeCasts_S2x8x2048_S2x8x2048x1)) (constant S_ .f32 0x00000000#32) reducesTo_S2x8x2048x1_S2x8x2048_d3 h_S_

/-- The scores' gradient. -/
def dscoreV (dp e : FVec Ideal S2x8x2048x2048 .f32) : FVec Ideal S2x8x2048x2048 .f32 :=
  select maskV (mulf (addf (Host.divf dp (broadcastInDim S2x8x2048x2048 ![0, 1, 2, 3] bcast_S2x8x2048x1_S2x8x2048x2048_0_1_2_3 (colV e))) (broadcastInDim S2x8x2048x2048 ![0, 1, 2] bcast_S2x8x2048_S2x8x2048x2048_0_1_2 (shareRowV (shareV dp e)))) e) (broadcastInDim S2x8x2048x2048 ![] bcast_S_S2x8x2048x2048 (constant S_ .f32 0x00000000#32))

/-- The scores' gradient with the scale. -/
def scaledV (ds : FVec Ideal S2x8x2048x2048 .f32) : FVec Ideal S2x8x2048x2048 .f32 :=
  mulf ds (broadcastInDim S2x8x2048x2048 ![] bcast_S_S2x8x2048x2048 (constant S_ .f32 0x3E000000#32))

/-- The gradient of the queries, -/
def dqV (ds : FVec Ideal S2x8x2048x2048 .f32) : FVec Ideal S4096x512 .bf16 :=
  truncf .bf16 (shapeCast _ (transpose S2x2048x8x64 [0, 2, 1, 3] (Host.dotGeneral dot_S2x8x2048x2048_S2x2048x8x64_S2x8x2048x64_3_1_2_3_01_02 none (scaledV ds) (kV a0)) transposes_S2x8x2048x64_S2x2048x8x64_0_2_1_3) shapeCasts_S2x2048x8x64_S4096x512) bitsLt_bf16_f32

/-- of the keys, -/
def dkV (ds : FVec Ideal S2x8x2048x2048 .f32) : FVec Ideal S4096x512 .bf16 :=
  truncf .bf16 (shapeCast _ (transpose S2x2048x8x64 [0, 2, 1, 3] (Host.dotGeneral dot_S2x8x2048x2048_S2x2048x8x64_S2x8x2048x64_2_1_3_3_01_02 none (scaledV ds) (qV a0)) transposes_S2x8x2048x64_S2x2048x8x64_0_2_1_3) shapeCasts_S2x2048x8x64_S4096x512) bitsLt_bf16_f32

/-- of the values, -/
def dvV (p : FVec Ideal S2x8x2048x2048 .f32) : FVec Ideal S4096x512 .bf16 :=
  truncf .bf16 (shapeCast _ (transpose S2x2048x8x64 [0, 3, 1, 2] (Host.dotGeneral dot_S2x8x64x2048_S2x8x2048x2048_S2x8x64x2048_3_2_2_3_01_01 none (ctV a2) p) transposes_S2x8x64x2048_S2x2048x8x64_0_3_1_2) shapeCasts_S2x2048x8x64_S4096x512) bitsLt_bf16_f32

/-- The decays' gradient by columns, -/
def colsV (ds : FVec Ideal S2x8x2048x2048 .f32) : FVec Ideal S2x8x2048 .f32 :=
  Host.reduceAdd (shapeCast _ (Host.reduceAdd (Host.negf ds) (constant S_ .f32 0x00000000#32) reducesTo_S2x8x2048x2048_S2x8x2048_d2 h_S_) shapeCasts_S2x8x2048_S2x8x1x2048) (constant S_ .f32 0x00000000#32) reducesTo_S2x8x1x2048_S2x8x2048_d2 h_S_

/-- by rows, -/
def rowsV (ds : FVec Ideal S2x8x2048x2048 .f32) : FVec Ideal S2x8x2048 .f32 :=
  Host.reduceAdd (shapeCast _ (Host.reduceAdd ds (constant S_ .f32 0x00000000#32) reducesTo_S2x8x2048x2048_S2x8x2048_d3 h_S_) shapeCasts_S2x8x2048_S2x8x2048x1) (constant S_ .f32 0x00000000#32) reducesTo_S2x8x2048x1_S2x8x2048_d3 h_S_

/-- and both together, padded to the lanes. -/
def dcumV (ds : FVec Ideal S2x8x2048x2048 .f32) : FVec Ideal S4096x128 .f32 :=
  pad S4096x128 ![0, 0] ![0, 120] ![0, 0] (shapeCast _ (transpose S2x2048x8 [0, 2, 1] (addf (colsV ds) (rowsV ds)) transposes_S2x8x2048_S2x2048x8_0_2_1) shapeCasts_S2x2048x8_S4096x8) (sitofp .f32 (constantI S_ 32 0#32)) pads_S4096x8_S4096x128_000_01200 h_S_

variable (X : Args)

theorem q_at (H : X.Reads a0 a1 a2) (b : Fin 2) (s : Fin 2048) (h : Fin 8) (d : Fin 64) : qV a0 (ix4 b s h d) = (X.q b h s d : EReal) := by
  pointwise [qV]
  refine (congrArg a0 ?_).trans (H.A b s ⟨64 * h.val + d.val, by omega⟩)
  blk_ext

theorem k_at (H : X.Reads a0 a1 a2) (b : Fin 2) (s : Fin 2048) (h : Fin 8) (d : Fin 64) : kV a0 (ix4 b s h d) = (X.k b h s d : EReal) := by
  pointwise [kV]
  refine (congrArg a0 ?_).trans (H.A b s ⟨512 + (64 * h.val + d.val), by omega⟩)
  blk_ext

theorem v_at (H : X.Reads a0 a1 a2) (b : Fin 2) (s : Fin 2048) (h : Fin 8) (d : Fin 64) : vV a0 (ix4 b s h d) = (X.v b h s d : EReal) := by
  pointwise [vV]
  refine (congrArg a0 ?_).trans (H.A b s ⟨1024 + (64 * h.val + d.val), by omega⟩)
  blk_ext

/-- The mask's fill is minus infinity. -/
theorem bot_eq : Ideal.ofBits .f32 0xFF800000#32 = (⊥ : EReal) := by simp [Ideal.ofBits, Ideal.ieee]

theorem score_at (H : X.Reads a0 a1 a2) (b : Fin 2) (h : Fin 8) (r j : Fin 2048) :
    scoreV a0 a1 (ix4 b h r j) = if j ≤ r then (X.score b h r j : EReal) else ⊥ := by
  pointwise [scoreV, maskV, q_at a0 a1 a2 X H, k_at a0 a1 a2 X H, H.C, scale_eq]
  word_cmp
  refine if_congr Iff.rfl ?_ ?_
  · simp only [Args.score, EReal.coe_add, EReal.coe_sub, EReal.coe_mul, coe_sum]
  · exact bot_eq

/-- The greatest of finitely many reals and minus infinities is real where one of them is. -/
theorem fold_max_real {n : ℕ} (f : Fin n → EReal) (h : ∀ j, f j = ⊥ ∨ ∃ r : ℝ, f j = r) (i : Fin n) (r : ℝ) (hi : f i = r) :
    ∃ t : ℝ, Finset.fold max ⊥ f Finset.univ = t := by
  have up : ∀ s : Finset (Fin n), Finset.fold max ⊥ f s ≠ ⊤ := by
    intro s
    induction s using Finset.induction_on with
    | empty => simp
    | insert a s ha ih =>
      rw [Finset.fold_insert ha]
      rcases h a with e | ⟨t, e⟩ <;> rcases max_choice (f a) (Finset.fold max ⊥ f s) with e' | e' <;> rw [e'] <;> simp_all
  have low : (r : EReal) ≤ Finset.fold max ⊥ f Finset.univ := by
    rw [Finset.le_fold_max]
    exact .inr ⟨i, Finset.mem_univ _, hi.ge⟩
  exact ⟨_, (EReal.coe_toReal (up _) fun e => by rw [e] at low; exact absurd (le_bot_iff.mp low) (EReal.coe_ne_bot r)).symm⟩

theorem top_at (s : FVec Ideal S2x8x2048x2048 .f32) (b : Fin 2) (h : Fin 8) (r : Fin 2048) :
    ∃ z, z = (⊥ : EReal) ∧ topV s (ix3 b h r) = Finset.fold max z (fun j => s (ix4 b h r j)) Finset.univ := by
  refine ⟨Ideal.ofBits .f32 0xFF800000#32, bot_eq, ?_⟩
  pointwise [topV]

theorem max_at (u : FVec Ideal S2x8x2048 .f32) (b : Fin 2) (h : Fin 8) (r : Fin 2048) :
    ∃ z, z = (⊥ : EReal) ∧ maxV u (ix3 b h r) = max z (u (ix3 b h r)) := by
  refine ⟨Ideal.ofBits .f32 0xFF800000#32, bot_eq, ?_⟩
  pointwise [maxV]

theorem real_max (s : FVec Ideal S2x8x2048x2048 .f32) (hs : ∀ b h r j, s (ix4 b h r j) = if j ≤ r then (X.score b h r j : EReal) else ⊥) (b : Fin 2) (h : Fin 8) (r : Fin 2048) :
    ∃ t : ℝ, maxV (topV s) (ix3 b h r) = t := by
  obtain ⟨t, e⟩ := fold_max_real (fun j => s (ix4 b h r j))
    (fun j => by rw [hs]; split; exacts [.inr ⟨_, rfl⟩, .inl rfl]) r (X.score b h r r) (by rw [hs, if_pos le_rfl])
  obtain ⟨z, ez, e1⟩ := top_at s b h r
  obtain ⟨y, ey, e2⟩ := max_at (topV s) b h r
  subst ez ey
  exact ⟨t, e2.trans ((max_eq_right bot_le).trans (e1.trans e))⟩

/-- A row's exponentials less the shift `t`. -/
def ex (t : ℝ) (b : Fin 2) (h : Fin 8) (r j : Fin 2048) : ℝ := if j ≤ r then Real.exp (X.score b h r j - t) else 0

theorem exp_at (s : FVec Ideal S2x8x2048x2048 .f32) (u : FVec Ideal S2x8x2048 .f32) (hs : ∀ b h r j, s (ix4 b h r j) = if j ≤ r then (X.score b h r j : EReal) else ⊥) (t : Fin 2 → Fin 8 → Fin 2048 → ℝ) (ht : ∀ b h r, u (ix3 b h r) = (t b h r : EReal))
    (b : Fin 2) (h : Fin 8) (r j : Fin 2048) : expV s u (ix4 b h r j) = (ex X (t b h r) b h r j : EReal) := by
  pointwise [expV, hs, ht]
  unfold ex
  split
  · rw [← EReal.coe_sub, Ideal.exp_coe]
  · rw [EReal.bot_sub]; exact Ideal.exp_bot

variable (e : FVec Ideal S2x8x2048x2048 .f32) (t : Fin 2 → Fin 8 → Fin 2048 → ℝ) (he : ∀ b h r j, e (ix4 b h r j) = (ex X (t b h r) b h r j : EReal))

/-- The row's sum with the shift. -/
theorem ex_sum (t : ℝ) (b : Fin 2) (h : Fin 8) (r : Fin 2048) : ∑ j, ex X t b h r j = Real.exp (-t) * X.Z b h r := by
  unfold ex Args.Z
  rw [Finset.mul_sum]
  refine Finset.sum_congr rfl fun j _ => ?_
  split
  · rw [← Real.exp_add]; congr 1; ring
  · rw [mul_zero]

theorem ex_prob (t : ℝ) (b : Fin 2) (h : Fin 8) (r j : Fin 2048) : ex X t b h r j / (Real.exp (-t) * X.Z b h r) = X.prob b h r j := by
  unfold ex Args.prob
  have := (X.Z_pos b h r).ne'
  split
  · rw [show X.score b h r j - t = -t + X.score b h r j by ring, Real.exp_add]
    exact mul_div_mul_left _ _ (Real.exp_pos _).ne'
  · rw [zero_div]

theorem sum_ne (t : ℝ) (b : Fin 2) (h : Fin 8) (r : Fin 2048) : Real.exp (-t) * X.Z b h r ≠ 0 := (mul_pos (Real.exp_pos _) (X.Z_pos b h r)).ne'

include he in
theorem sum_at (b : Fin 2) (h : Fin 8) (r : Fin 2048) : sumV e (ix3 b h r) = ((Real.exp (-t b h r) * X.Z b h r : ℝ) : EReal) := by
  pointwise [sumV, he]
  rw [← coe_sum, ex_sum]

include he in
theorem prob_at (b : Fin 2) (h : Fin 8) (r j : Fin 2048) : probV e (ix4 b h r j) = (X.prob b h r j : EReal) := by
  pointwise [probV, colV, he, sum_at X e t he]
  rw [Ideal.div_coe (sum_ne X _ b h r), ← EReal.coe_mul, ← ex_prob X (t b h r), mul_one_div]

theorem dprob_at (H : X.Reads a0 a1 a2) (b : Fin 2) (h : Fin 8) (r j : Fin 2048) : dprobV a0 a2 (ix4 b h r j) = (X.dprob b h r j : EReal) := by
  pointwise [dprobV, ctV, v_at a0 a1 a2 X H, H.G]
  simp only [Args.dprob, EReal.coe_mul, coe_sum]

variable (dp : FVec Ideal S2x8x2048x2048 .f32) (hdp : ∀ b h r j, dp (ix4 b h r j) = (X.dprob b h r j : EReal))

include he hdp in
theorem share_at (b : Fin 2) (h : Fin 8) (r : Fin 2048) :
    shareV dp e (ix3 b h r) = (((∑ j, X.prob b h r j * X.dprob b h r j) / (Real.exp (-t b h r) * X.Z b h r) : ℝ) : EReal) := by
  pointwise [shareV, colV, he, hdp, sum_at X e t he]
  have hl := sum_ne X (t b h r) b h r
  rw [Finset.sum_div, coe_sum]
  refine Finset.sum_congr rfl fun j _ => ?_
  rw [← EReal.coe_mul, Ideal.div_coe (mul_ne_zero hl hl), one_mul, ← EReal.coe_mul, ← EReal.coe_mul, ← ex_prob X (t b h r)]
  congr 1
  field_simp

theorem shareRow_at (w : FVec Ideal S2x8x2048 .f32) (b : Fin 2) (h : Fin 8) (r : Fin 2048) : shareRowV w (ix3 b h r) = -w (ix3 b h r) := by
  pointwise [shareRowV]
  exact Fin.sum_univ_one _

include he hdp in
theorem dscore_at (b : Fin 2) (h : Fin 8) (r j : Fin 2048) : dscoreV dp e (ix4 b h r j) = (X.dscore b h r j : EReal) := by
  pointwise [dscoreV, maskV, colV, he, hdp, sum_at X e t he, shareRow_at, share_at X e t he dp hdp]
  word_cmp
  have hl := sum_ne X (t b h r) b h r
  by_cases hj : j ≤ r
  · refine (if_pos hj).trans ?_
    rw [Ideal.div_coe hl, ← EReal.coe_mul, ← EReal.coe_neg, ← EReal.coe_add, ← EReal.coe_mul, Args.dscore, ← ex_prob X (t b h r) b h r j]
    congr 1
    field_simp
    ring
  · refine (if_neg hj).trans ?_
    rw [Args.dscore, Args.prob, if_neg hj, zero_mul]
    exact EReal.coe_zero.symm

variable (ds : FVec Ideal S2x8x2048x2048 .f32) (hds : ∀ b h r j, ds (ix4 b h r j) = (X.dscore b h r j : EReal))

/-- The row of the packed results a sequence's position has. -/
def packed (b : Fin 2) (r : Fin 2048) : Fin 4096 := ⟨2048 * b.val + r.val, by omega⟩

/-- The column a head's entry has. -/
def column (h : Fin 8) (d : Fin 64) : Fin 512 := ⟨64 * h.val + d.val, by omega⟩

include hds in
theorem dq_at (H : X.Reads a0 a1 a2) (b : Fin 2) (r : Fin 2048) (h : Fin 8) (d : Fin 64) :
    dqV a0 ds (ix2 (packed b r) (column h d)) = ((∑ j, X.dscore b h r j * X.k b h j d * (1 / 8) : ℝ) : EReal) := by
  pointwise [dqV, scaledV, packed, column]
  rw [coe_sum]
  refine Finset.sum_congr rfl fun j _ => ?_
  rw [hds, k_at a0 a1 a2 X H, scale_eq, ← EReal.coe_mul, ← EReal.coe_mul]
  congr 1
  ring

include hds in
theorem dk_at (H : X.Reads a0 a1 a2) (b : Fin 2) (r : Fin 2048) (h : Fin 8) (d : Fin 64) :
    dkV a0 ds (ix2 (packed b r) (column h d)) = ((∑ i, X.q b h i d * (1 / 8) * X.dscore b h i r : ℝ) : EReal) := by
  pointwise [dkV, scaledV, packed, column]
  rw [coe_sum]
  refine Finset.sum_congr rfl fun j _ => ?_
  rw [hds, q_at a0 a1 a2 X H, scale_eq, ← EReal.coe_mul, ← EReal.coe_mul]
  congr 1
  ring

theorem dv_at (H : X.Reads a0 a1 a2) (p : FVec Ideal S2x8x2048x2048 .f32) (hp : ∀ b h r j, p (ix4 b h r j) = (X.prob b h r j : EReal)) (b : Fin 2) (r : Fin 2048) (h : Fin 8) (d : Fin 64) :
    dvV a2 p (ix2 (packed b r) (column h d)) = ((∑ i, X.G b i h d * X.prob b h i r : ℝ) : EReal) := by
  pointwise [dvV, ctV, packed, column]
  rw [coe_sum]
  refine Finset.sum_congr rfl fun j _ => ?_
  rw [hp, H.G, ← EReal.coe_mul]

include hds in
theorem cols_at (b : Fin 2) (h : Fin 8) (j : Fin 2048) : colsV ds (ix3 b h j) = ((-∑ i, X.dscore b h i j : ℝ) : EReal) := by
  pointwise [colsV, hds]
  refine (Fin.sum_univ_one _).trans ?_
  rw [← Finset.sum_neg_distrib, coe_sum]
  exact Finset.sum_congr rfl fun i _ => (EReal.coe_neg _).symm

include hds in
theorem rows_at (b : Fin 2) (h : Fin 8) (r : Fin 2048) : rowsV ds (ix3 b h r) = ((∑ j, X.dscore b h r j : ℝ) : EReal) := by
  pointwise [rowsV, hds]
  refine (Fin.sum_univ_one _).trans ?_
  rw [coe_sum]

include hds in
theorem dcum_at (b : Fin 2) (r : Fin 2048) (l : Fin 128) :
    dcumV ds (ix2 (packed b r) l) = ((if h : l.val < 8 then (∑ j, X.dscore b ⟨l.val, h⟩ r j) - ∑ i, X.dscore b ⟨l.val, h⟩ i r else 0 : ℝ) : EReal) := by
  pointwise [dcumV, packed]
  have hr : 2048 * b.val + r.val < 4096 := by omega
  by_cases hl : l.val < 8
  · rw [dif_pos ⟨hr, hl⟩, dif_pos hl, cols_at X ds hds, rows_at X ds hds, ← EReal.coe_add]
    congr 1
    ring
  · rw [dif_neg fun h => hl h.2, dif_neg hl]
    show (((0#32).toInt : ℝ) : EReal) = _
    simp

end Cert.AttnGradIdeal.Value

end
-- ==== Proof.AttnPoint.lean ====
module

public import proofs.«01_k».proof.Proof.AttnTile

@[expose] public section

set_option maxRecDepth 16384

noncomputable section

open Idealize.ShloMosaic Idealize.ShloMosaic.TcCoe Idealize.SL.Sem

namespace Cert.AttnBwdIdeal.Tile

open Cert.AttnBwdIdeal Cert.AttnBwdIdeal.Gen Cert.AttnBwdIdeal.Body

/-- One batch's sequence for a pair of heads, as reals: a row per position. -/
structure Seq where
  Q : ℕ → Fin 128 → ℝ
  K : ℕ → Fin 128 → ℝ
  V : ℕ → Fin 128 → ℝ
  O : ℕ → Fin 128 → ℝ
  G : ℕ → Fin 128 → ℝ
  C : ℕ → Fin 128 → ℝ
  L : ℕ → Fin 128 → ℝ
  n : Fin 4

/-- The lane of the row statistics that belongs to the pair's head `e`. -/
def Seq.pick (S : Seq) (e : Fin 2) : Fin 128 := ⟨2 * S.n.val + e.val, by omega⟩

/-- The tile of query rows `a` and keys `b`. -/
def Seq.tile (S : Seq) (a b : ℕ) : Reals where
  Q i l := S.Q (512 * a + i.val) l
  K j l := S.K (512 * b + j.val) l
  V j l := S.V (512 * b + j.val) l
  O i l := S.O (512 * a + i.val) l
  G i l := S.G (512 * a + i.val) l
  C i l := S.C (512 * a + i.val) l
  L i l := S.L (512 * a + i.val) l
  CK e j := S.C (512 * b + j.val) (S.pick e)
  n := S.n

/-- The attention weight of row `r` on key `j`, none on later keys. -/
def Seq.weight (S : Seq) (e : Fin 2) (r j : ℕ) : ℝ :=
  if j ≤ r then Real.exp (half e (fun l => S.Q r l * (1 / 8) * S.K j l) + (S.C r (S.pick e) - S.L r (S.pick e)) - S.C j (S.pick e)) else 0

/-- The score's gradient, none on later keys. -/
def Seq.grad (S : Seq) (e : Fin 2) (r j : ℕ) : ℝ :=
  S.weight e r j * (half e (fun l => S.G r l * S.V j l) - half e (fun l => S.G r l * S.O r l))

theorem Seq.weight_later (S : Seq) (e : Fin 2) {r j : ℕ} (h : r < j) : S.weight e r j = 0 := if_neg (by omega)

theorem Seq.grad_later (S : Seq) (e : Fin 2) {r j : ℕ} (h : r < j) : S.grad e r j = 0 := by
  rw [Seq.grad, S.weight_later e h, zero_mul]

theorem Seq.tile_weight (S : Seq) (e : Fin 2) {a b : ℕ} (h : b < a) (i j : Fin 512) : (S.tile a b).weight e i j = S.weight e (512 * a + i.val) (512 * b + j.val) :=
  (if_pos (show 512 * b + j.val ≤ 512 * a + i.val by omega)).symm

theorem Seq.tile_cweight (S : Seq) (e : Fin 2) (a : ℕ) (i j : Fin 512) : (S.tile a a).cweight e i j = S.weight e (512 * a + i.val) (512 * a + j.val) :=
  if_congr (by rw [Fin.le_def]; omega) rfl rfl

theorem Seq.tile_sgrad (S : Seq) (e : Fin 2) {a b : ℕ} (h : b < a) (i j : Fin 512) : (S.tile a b).sgrad e i j = S.grad e (512 * a + i.val) (512 * b + j.val) :=
  congrArg (· * _) (S.tile_weight e h i j)

theorem Seq.tile_csgrad (S : Seq) (e : Fin 2) (a : ℕ) (i j : Fin 512) : (S.tile a a).csgrad e i j = S.grad e (512 * a + i.val) (512 * a + j.val) :=
  congrArg (· * _) (S.tile_cweight e a i j)

/-- The sum over the first `a` tiles of rows. -/
def upTo (a : ℕ) (f : ℕ → ℝ) : ℝ := ∑ r ∈ Finset.range (512 * a), f r

theorem upTo_succ (a : ℕ) (f : ℕ → ℝ) : upTo (a + 1) f = upTo a f + ∑ i : Fin 512, f (512 * a + i.val) := by
  rw [upTo, upTo, show 512 * (a + 1) = 512 * a + 512 by ring, Finset.sum_range_add, ← Finset.sum_range fun i => f (512 * a + i)]

/-- A sum whose first tiles vanish is its next tile's. -/
theorem upTo_first (a : ℕ) (f : ℕ → ℝ) (h : ∀ r, r < 512 * a → f r = 0) : upTo (a + 1) f = ∑ i : Fin 512, f (512 * a + i.val) := by
  rw [upTo_succ, upTo, Finset.sum_eq_zero fun r hr => h r (Finset.mem_range.mp hr), zero_add]

/-- The queries' gradient: the part of the keys of tile `b`. -/
def Seq.dqPart (S : Seq) (b r : ℕ) (l : Fin 128) : ℝ := ∑ j : Fin 512, S.grad (headOf l) r (512 * b + j.val) * S.K (512 * b + j.val) l * (1 / 8)

/-- The row sums: the part of the keys of tile `b`. -/
def Seq.rowPart (S : Seq) (b r : ℕ) (l : Fin 128) : ℝ := if l.val / 2 = S.n.val then ∑ j : Fin 512, S.grad (parity l.val) r (512 * b + j.val) else 0

theorem Seq.dqPart_early (S : Seq) (b r : ℕ) (l : Fin 128) (h : r < 512 * b) : S.dqPart b r l = 0 :=
  Finset.sum_eq_zero fun j _ => by rw [S.grad_later _ (by omega), zero_mul, zero_mul]

theorem Seq.rowPart_early (S : Seq) (b r : ℕ) (l : Fin 128) (h : r < 512 * b) : S.rowPart b r l = 0 := by
  unfold Seq.rowPart; split
  · exact Finset.sum_eq_zero fun j _ => S.grad_later _ (by omega)
  · rfl

/-- The rows a window of a full-height operand reads. -/
theorem window_at {e : EltTy} (x : Vec Ideal S2048x128 e) (off : Fin 2 → ℕ) (inb : ∀ a, off a + S512x128.size a ≤ S2048x128.size a) (a : ℕ) (ha : a < 4) (hoff : off = ![512 * a, 0]) (i : Fin 512) (l : Fin 128) :
    VecWindow.window x off S512x128.size inb (ix2 i l) = x (ix2 ⟨512 * a + i.val, by omega⟩ l) := by
  subst hoff
  refine congrArg x (funext fun b => Fin.ext ?_)
  fin_cases b
  · show 512 * a + 1 * i.val = 512 * a + i.val; omega
  · show 0 + 1 * l.val = l.val; omega

/-- Adding a tile's part to an accumulator's rows. -/
theorem put_step (w s : Vec Ideal S2048x128 .f32) (off : Fin 2 → ℕ) (inb : ∀ a, off a + S512x128.size a ≤ S2048x128.size a) (a : ℕ) (ha : a < 4) (hoff : off = ![512 * a, 0])
    (f : ℕ → Fin 128 → ℝ) (u : FVec Ideal S512x128 .f32)
    (hu : ∀ i l, u (ix2 i l) = VecWindow.window s off S512x128.size inb (ix2 i l) + (f (512 * a + i.val) l : EReal))
    (hs : ∀ r l, s (ix2 r l) = w (ix2 r l) + ((if r.val < 512 * a then f r.val l else 0 : ℝ) : EReal)) (r : Fin 2048) (l : Fin 128) :
    VecWindow.put s off S512x128.size u (ix2 r l) = w (ix2 r l) + ((if r.val < 512 * (a + 1) then f r.val l else 0 : ℝ) : EReal) := by
  unfold VecWindow.put
  by_cases h : 512 * a ≤ r.val ∧ r.val < 512 * a + 512
  · have hm : ∀ b : Fin S2048x128.rank, off b ≤ ((ix2 r l : S2048x128.Idx) b).val ∧ ((ix2 r l : S2048x128.Idx) b).val < off b + S512x128.size b := fun b => by
      subst hoff; fin_cases b
      · exact h
      · exact ⟨Nat.zero_le _, by show l.val < 0 + 128; omega⟩
    rw [dif_pos hm, if_pos (by omega)]
    have e : Rect.unitLocal (s := S2048x128) (off := off) (size := S512x128.size) (ix2 r l) hm = ix2 (⟨r.val - 512 * a, by omega⟩ : Fin 512) l := by
      subst hoff; funext b; fin_cases b
      · exact Fin.ext rfl
      · exact Fin.ext (Nat.sub_zero _)
    rw [e, hu, window_at s off inb a ha hoff, hs, if_neg (by show ¬ (512 * a + (r.val - 512 * a) < 512 * a); omega), EReal.coe_zero, add_zero]
    have e2 : 512 * a + (r.val - 512 * a) = r.val := by omega
    simp only [e2]
  · have hm : ¬ ∀ b : Fin S2048x128.rank, off b ≤ ((ix2 r l : S2048x128.Idx) b).val ∧ ((ix2 r l : S2048x128.Idx) b).val < off b + S512x128.size b := fun hall => by
      subst hoff; exact h (hall 0)
    rw [dif_neg hm, hs]
    by_cases h1 : r.val < 512 * a
    · rw [if_pos h1, if_pos (by omega)]
    · rw [if_neg h1, if_neg (by omega)]

/-- The diagonal tile's rows. -/
theorem off1_eq (i : grid0.Coords) : k0_off1 i = ![512 * (i 2).val, 0] := by
  have h : ∀ n : Fin 4, (Scalar.indexCast (Scalar.muli (BitVec.ofNat 32 n.val) 512#32)).toNat = 512 * n.val := by decide
  exact congrArg (fun a => ![a, 0]) (h (i 2))

/-- The loop runs over the tiles below the diagonal. -/
theorem trips_eq (i : grid0.Coords) : (k0_t1_loop i).trips = 3 - (i 2).val := by
  have h : ∀ n : Fin 4, Scf.trips (Scalar.addi (BitVec.ofNat 32 n.val) 1#32) (Scalar.addi (Scalar.addi (BitVec.ofNat 32 n.val) 1#32) (Scalar.muli (Scalar.divsi (Scalar.subi 4#32 (Scalar.addi (BitVec.ofNat 32 n.val) 1#32)) 1#32) 1#32)) 1#32 = 3 - n.val := by
    decide +kernel
  exact h (i 2)

/-- Trip `k`'s rows. -/
theorem off2_eq (i : grid0.Coords) (k : Fin (k0_t1_loop i).trips) : k0_off2 i k = ![512 * ((i 2).val + 1 + k.val), 0] := by
  have h : ∀ n k : Fin 4, (Scalar.indexCast (Scalar.muli (Scf.iv (Scalar.addi (BitVec.ofNat 32 n.val) 1#32) 1#32 k.val) 512#32)).toNat = 512 * (n.val + 1 + k.val) := by decide
  have hk : k.val < 4 := by have := k.isLt.trans_eq (trips_eq i); omega
  exact congrArg (fun a => ![a, 0]) (h (i 2) ⟨k.val, hk⟩)

/-- The blocks of a grid point hold a sequence's reals. -/
structure Blocks (S : Seq) (i : grid0.Coords) (x0 x3 x4 : Vec Ideal S2048x128 .bf16) (x5 x6 : Vec Ideal S2048x128 .f32)
    (x1 x2 : Vec Ideal S512x128 .bf16) (x7 : Vec Ideal S1x1x8x512 .f32) : Prop where
  n : S.n = i 1
  q : ∀ r l, x0 (ix2 r l) = (S.Q r.val l : EReal)
  o : ∀ r l, x3 (ix2 r l) = (S.O r.val l : EReal)
  g : ∀ r l, x4 (ix2 r l) = (S.G r.val l : EReal)
  lse : ∀ r l, x5 (ix2 r l) = (S.L r.val l : EReal)
  cum : ∀ r l, x6 (ix2 r l) = (S.C r.val l : EReal)
  k : ∀ j l, x1 (ix2 j l) = (S.K (512 * (i 2).val + j.val) l : EReal)
  v : ∀ j l, x2 (ix2 j l) = (S.V (512 * (i 2).val + j.val) l : EReal)
  ck : ∀ (a : Fin 8) j, x7 (ix4 0 0 a j) = (S.C (512 * (i 2).val + j.val) ⟨a.val, by omega⟩ : EReal)

variable {S : Seq} {i : grid0.Coords} {x0 x3 x4 : Vec Ideal S2048x128 .bf16} {x5 x6 : Vec Ideal S2048x128 .f32}
variable {x1 x2 : Vec Ideal S512x128 .bf16} {x7 : Vec Ideal S1x1x8x512 .f32} (h : Blocks S i x0 x3 x4 x5 x6 x1 x2 x7)
include h

omit h in
/-- A sum over the rows of the keys' decays that keeps one. -/
theorem sum_row (f : Fin 8 → EReal) (k : Fin 8) (n : ℕ) (hn : n = k.val) : (∑ x : Fin 8, if x.val = n then f x else 0) = f k := by
  subst hn
  refine (Finset.sum_congr rfl fun x _ => ?_).trans ((Finset.sum_ite_eq' Finset.univ k f).trans (if_pos (Finset.mem_univ _)))
  simp only [Fin.ext_iff]

/-- The first head's keys' decays. -/
theorem ck0_at (j : Fin 512) : k0_pay69 i x7 (ix2 0 j) = (S.C (512 * (i 2).val + j.val) (S.pick 0) : EReal) := by
  pointwise [k0_pay69, k0_pay68]
  word_cmp
  refine (sum_row _ ⟨2 * (i 1).val, by have : (i 1).val < 4 := (i 1).isLt; omega⟩ _ (head0_no (i 1))).trans ?_
  refine (h.ck _ j).trans ?_
  simp only [Seq.pick, h.n, Fin.val_zero, add_zero]

/-- The second head's keys' decays. -/
theorem ck1_at (j : Fin 512) : k0_pay71 (k0_pay68 x7) (k0_pay70 i) (ix2 0 j) = (S.C (512 * (i 2).val + j.val) (S.pick 1) : EReal) := by
  pointwise [k0_pay71, k0_pay70, k0_pay68]
  word_cmp
  refine (sum_row _ ⟨2 * (i 1).val + 1, by have : (i 1).val < 4 := (i 1).isLt; omega⟩ _ (head1_no (i 1))).trans ?_
  refine (h.ck _ j).trans ?_
  simp only [Seq.pick, h.n, Fin.val_one]

/-- The vectors of tile `a`. -/
theorem reads (off : Fin 2 → ℕ) (inb : ∀ a, off a + S512x128.size a ≤ S2048x128.size a) (a : ℕ) (ha : a < 4) (hoff : off = ![512 * a, 0]) :
    Reads (S.tile a (i 2).val) (k0_pay62 x1) (k0_pay63 x2) (k0_pay66 x1) (k0_pay67 x1) (k0_pay69 i x7) (k0_pay71 (k0_pay68 x7) (k0_pay70 i))
      (VecWindow.window x0 off S512x128.size inb) (VecWindow.window x3 off S512x128.size inb) (VecWindow.window x4 off S512x128.size inb)
      (VecWindow.window x6 off S512x128.size inb) (VecWindow.window x5 off S512x128.size inb) where
  kv j l := by pointwise [k0_pay62]; exact h.k j l
  vv j l := by pointwise [k0_pay63]; exact h.v j l
  km0 j l := by pointwise [k0_pay66, k0_pay64, k0_pay65, k0_pay62, h.k]; word_cmp; rfl
  km1 j l := by pointwise [k0_pay67, k0_pay64, k0_pay65, k0_pay62, h.k]; word_cmp; rfl
  ck0 j := ck0_at h j
  ck1 j := ck1_at h j
  q j l := (window_at _ off inb a ha hoff j l).trans (h.q _ l)
  o j l := (window_at _ off inb a ha hoff j l).trans (h.o _ l)
  g j l := (window_at _ off inb a ha hoff j l).trans (h.g _ l)
  cum j l := (window_at _ off inb a ha hoff j l).trans (h.cum _ l)
  lse j l := (window_at _ off inb a ha hoff j l).trans (h.lse _ l)

/-- What is held after the tiles of rows below `a`: the carried sums and the two accumulators. -/
structure Held (S : Seq) (b : ℕ) (w14 w16 : Vec Ideal S2048x128 .f32) (a : ℕ) (s : Carry Ideal × Vec Ideal S2048x128 .f32 × Vec Ideal S2048x128 .f32) : Prop where
  dk : ∀ l (j : Fin 512), s.1.1 (ix2 l j) = (upTo a (fun r => S.Q r l * (1 / 8) * S.grad (headOf l) r (512 * b + j.val)) : EReal)
  dv : ∀ l (j : Fin 512), s.1.2.1 (ix2 l j) = (upTo a (fun r => S.G r l * S.weight (headOf l) r (512 * b + j.val)) : EReal)
  col0 : ∀ j : Fin 512, s.1.2.2.1 (ix2 0 j) = (upTo a (fun r => S.grad 0 r (512 * b + j.val)) : EReal)
  col1 : ∀ j : Fin 512, s.1.2.2.2 (ix2 0 j) = (upTo a (fun r => S.grad 1 r (512 * b + j.val)) : EReal)
  row : ∀ r l, s.2.1 (ix2 r l) = w14 (ix2 r l) + ((if r.val < 512 * a then S.rowPart b r.val l else 0 : ℝ) : EReal)
  dq : ∀ r l, s.2.2 (ix2 r l) = w16 (ix2 r l) + ((if r.val < 512 * a then S.dqPart b r.val l else 0 : ℝ) : EReal)

theorem bodySt_held (w14 w16 : Vec Ideal S2048x128 .f32) : Held S (i 2).val w14 w16 4 (bodySt i x0 x3 x4 x5 x6 x1 x2 x7 w14 w16) := by
  have hb : (i 2).val < 4 := (i 2).isLt
  have hn : pairNo i = BitVec.ofNat 32 S.n.val := by rw [h.n]
  have key : ∀ k, k ≤ 3 - (i 2).val → Held S (i 2).val w14 w16 ((i 2).val + 1 + k)
      (loopSt (pairNo i) (k0_pay62 x1) (k0_pay63 x2) (k0_pay66 x1) (k0_pay67 x1) (k0_pay69 i x7) (k0_pay71 (k0_pay68 x7) (k0_pay70 i)) i x0 x3 x4 x5 x6
    (VecWindow.put w14 (k0_off1 i) S512x128.size
      (diagDcq (pairNo i) (k0_pay62 x1) (k0_pay63 x2) (k0_pay69 i x7) (k0_pay71 (k0_pay68 x7) (k0_pay70 i)) (rows1 i x0) (rows1 i x3) (rows1 i x4) (rows1 i x6) (rows1 i x5) (rows1 i w14)))
    (VecWindow.put w16 (k0_off1 i) S512x128.size
      (diagDq (pairNo i) (k0_pay62 x1) (k0_pay63 x2) (k0_pay66 x1) (k0_pay67 x1) (k0_pay69 i x7) (k0_pay71 (k0_pay68 x7) (k0_pay70 i)) (rows1 i x0) (rows1 i x3) (rows1 i x4) (rows1 i x6) (rows1 i x5) (rows1 i w16)))
    (diagCarry (pairNo i) (k0_pay62 x1) (k0_pay63 x2) (k0_pay69 i x7) (k0_pay71 (k0_pay68 x7) (k0_pay70 i)) (rows1 i x0) (rows1 i x3) (rows1 i x4) (rows1 i x6) (rows1 i x5)) k) := by
    intro k
    rw [hn]
    induction k with
    | zero =>
      intro _
      have R := reads h (k0_off1 i) (k0_off1_inb i) (i 2).val hb (off1_eq i)
      refine ⟨fun l j => (diag_dk_at R l j).trans ?_, fun l j => (diag_dv_at R l j).trans ?_, fun j => (diag_col0_at R j).trans ?_, fun j => (diag_col1_at R j).trans ?_, ?_, ?_⟩
      · simp only [Seq.tile_csgrad]
        rw [add_zero, upTo_first _ _ fun r hr => by rw [S.grad_later _ (by omega), mul_zero]]; rfl
      · simp only [Seq.tile_cweight]
        rw [add_zero, upTo_first _ _ fun r hr => by rw [S.weight_later _ (by omega), mul_zero]]; rfl
      · simp only [Seq.tile_csgrad]
        rw [add_zero, upTo_first _ _ fun r hr => S.grad_later _ (by omega)]
      · simp only [Seq.tile_csgrad]
        rw [add_zero, upTo_first _ _ fun r hr => S.grad_later _ (by omega)]
      · refine put_step w14 w14 _ (k0_off1_inb i) _ hb (off1_eq i) (S.rowPart (i 2).val) _ (fun r l => (diag_dcq_at R _ r l).trans ?_) fun r l => ?_
        · simp only [Seq.tile_csgrad]; rfl
        · split <;> rename_i hr
          · rw [S.rowPart_early _ _ _ hr, EReal.coe_zero, add_zero]
          · rw [EReal.coe_zero, add_zero]
      · refine put_step w16 w16 _ (k0_off1_inb i) _ hb (off1_eq i) (S.dqPart (i 2).val) _ (fun r l => (diag_dq_at R _ r l).trans ?_) fun r l => ?_
        · simp only [Seq.tile_csgrad]; rfl
        · split <;> rename_i hr
          · rw [S.dqPart_early _ _ _ hr, EReal.coe_zero, add_zero]
          · rw [EReal.coe_zero, add_zero]
    | succ k ih =>
      intro hk
      have H := ih (by omega)
      have hk' : k < (k0_t1_loop i).trips := by rw [trips_eq]; omega
      have ha : (i 2).val + 1 + k < 4 := by omega
      have hlt : (i 2).val < (i 2).val + 1 + k := by omega
      have R := reads h (k0_off2 i ⟨k, hk'⟩) (k0_off2_inb i ⟨k, hk'⟩) ((i 2).val + 1 + k) ha (off2_eq i ⟨k, hk'⟩)
      simp only [loopSt, dif_pos hk']
      refine ⟨fun l j => (dk_at R _ l j).trans ?_, fun l j => (dv_at R _ l j).trans ?_, fun j => (col0_at R _ j).trans ?_, fun j => (col1_at R _ j).trans ?_, ?_, ?_⟩
      · simp only [S.tile_sgrad _ hlt]
        rw [H.dk, ← EReal.coe_add, ← add_assoc ((i 2).val + 1) k 1, upTo_succ]; rfl
      · simp only [S.tile_weight _ hlt]
        rw [H.dv, ← EReal.coe_add, ← add_assoc ((i 2).val + 1) k 1, upTo_succ]; rfl
      · simp only [S.tile_sgrad _ hlt]
        rw [H.col0, ← EReal.coe_add, ← add_assoc ((i 2).val + 1) k 1, upTo_succ]
      · simp only [S.tile_sgrad _ hlt]
        rw [H.col1, ← EReal.coe_add, ← add_assoc ((i 2).val + 1) k 1, upTo_succ]
      · refine put_step w14 _ _ (k0_off2_inb i ⟨k, hk'⟩) _ ha (off2_eq i ⟨k, hk'⟩) (S.rowPart (i 2).val) _ (fun r l => (dcq_at R _ r l).trans ?_) H.row
        simp only [S.tile_sgrad _ hlt]; rfl
      · refine put_step w16 _ _ (k0_off2_inb i ⟨k, hk'⟩) _ ha (off2_eq i ⟨k, hk'⟩) (S.dqPart (i 2).val) _ (fun r l => (dq_at R _ r l).trans ?_) H.dq
        simp only [S.tile_sgrad _ hlt]; rfl
  have e := key (k0_t1_loop i).trips (trips_eq i).le
  rw [show (i 2).val + 1 + (k0_t1_loop i).trips = 4 by rw [trips_eq]; omega] at e
  exact e

end Cert.AttnBwdIdeal.Tile

end
-- ==== Proof.AttnLoop.lean ====
module

public import proofs.«01_k».proof.Proof.Gen.AttnBwdIdeal.Frame
public import proofs.«01_k».proof.Proof.Gen.AttnBwdIdeal.Loops
public import Idealize.ShloMosaic.Lib.VecWindow
public import proofs.«01_k».proof.Proof.AttnSem
@[expose] public section

set_option maxRecDepth 16384

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F]

local notation "𝕄" => MT nD τ sig Unit (Elt F) ℕ (UR sig nD τ) ℕ

/-- What a trip yields, read off the contents it finds. -/
theorem tripR_eq (𝒱 : Variants) (c : Dev nD) (bd : Option 𝒱.V) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x1x8x512 .f32) (harg10 : arg10.IsWhole) (arg11 : Memref sig .tc .vmem S2048x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S2048x128 .f32) (harg14 : arg14.IsWhole) (arg15 : Memref sig .tc .vmem S1x4x8x512 .f32) (harg15 : arg15.IsWhole) (arg16 : Memref sig .tc .vmem S2048x128 .f32) (harg16 : arg16.IsWhole) (hp arg2 : BitVec 32) (kv vv km0 km1 : FVec F S512x128 .bf16) (ck0 ck1 : FVec F S1x512 .f32) (v42 : BitVec 32) (v120 : FVec F S1x512 .f32) (v176 : FVec F S128x512 .f32) (v183 : FVec F S1x512 .f32) (v195 : FVec F S512x128 .f32) (v198 : FVec F S128x512 .f32) (v216 : BitVec 32)
    (X3 : BufTy.Contents (Elt F) arg3.view.ty) (X6 : BufTy.Contents (Elt F) arg6.view.ty) (X7 : BufTy.Contents (Elt F) arg7.view.ty) (X8 : BufTy.Contents (Elt F) arg8.view.ty) (X9 : BufTy.Contents (Elt F) arg9.view.ty)
    (k : Fin (k0_t1_loop i).trips) (a : Carry F) (f14 : BufTy.Contents (Elt F) arg14.view.ty) (f16 : BufTy.Contents (Elt F) arg16.view.ty) :
    tripR_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 hp arg2 kv vv km0 km1 ck0 ck1 v42 v120 v176 v183 v195 v198 v216 X3 X6 X7 X8 X9 k a f14 f16
      = tileCarry hp kv vv ck0 ck1 (rows2 i k (arg3.view.read (Elt F) X3)) (rows2 i k (arg6.view.read (Elt F) X6)) (rows2 i k (arg7.view.read (Elt F) X7)) (rows2 i k (arg9.view.read (Elt F) X9)) (rows2 i k (arg8.view.read (Elt F) X8)) a := by
  unfold tripR_k0_t1 trip_k0_t1; rfl

/-- What a trip stores, read off the contents it finds. -/
theorem tripL_eq (𝒱 : Variants) (c : Dev nD) (bd : Option 𝒱.V) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x1x8x512 .f32) (harg10 : arg10.IsWhole) (arg11 : Memref sig .tc .vmem S2048x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S2048x128 .f32) (harg14 : arg14.IsWhole) (arg15 : Memref sig .tc .vmem S1x4x8x512 .f32) (harg15 : arg15.IsWhole) (arg16 : Memref sig .tc .vmem S2048x128 .f32) (harg16 : arg16.IsWhole) (hp arg2 : BitVec 32) (kv vv km0 km1 : FVec F S512x128 .bf16) (ck0 ck1 : FVec F S1x512 .f32) (v42 : BitVec 32) (v120 : FVec F S1x512 .f32) (v176 : FVec F S128x512 .f32) (v183 : FVec F S1x512 .f32) (v195 : FVec F S512x128 .f32) (v198 : FVec F S128x512 .f32) (v216 : BitVec 32)
    (X3 : BufTy.Contents (Elt F) arg3.view.ty) (X6 : BufTy.Contents (Elt F) arg6.view.ty) (X7 : BufTy.Contents (Elt F) arg7.view.ty) (X8 : BufTy.Contents (Elt F) arg8.view.ty) (X9 : BufTy.Contents (Elt F) arg9.view.ty)
    (k : Fin (k0_t1_loop i).trips) (a : Carry F) (f14 : BufTy.Contents (Elt F) arg14.view.ty) (f16 : BufTy.Contents (Elt F) arg16.view.ty) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 hp arg2 kv vv km0 km1 ck0 ck1 v42 v120 v176 v183 v195 v198 v216 X3 X6 X7 X8 X9 k a f14 f16
      = ([⟨Rect.unit (s := S2048x128) (k0_off2 i k) S512x128.size (k0_off2_inb i k), tileDcq hp kv vv ck0 ck1 (rows2 i k (arg3.view.read (Elt F) X3)) (rows2 i k (arg6.view.read (Elt F) X6)) (rows2 i k (arg7.view.read (Elt F) X7)) (rows2 i k (arg9.view.read (Elt F) X9)) (rows2 i k (arg8.view.read (Elt F) X8)) (rows2 i k (arg14.view.read (Elt F) f14))⟩],
         [⟨Rect.unit (s := S2048x128) (k0_off2 i k) S512x128.size (k0_off2_inb i k), tileDq hp kv vv km0 km1 ck0 ck1 (rows2 i k (arg3.view.read (Elt F) X3)) (rows2 i k (arg6.view.read (Elt F) X6)) (rows2 i k (arg7.view.read (Elt F) X7)) (rows2 i k (arg9.view.read (Elt F) X9)) (rows2 i k (arg8.view.read (Elt F) X8)) (rows2 i k (arg16.view.read (Elt F) f16))⟩]) := by
  unfold tripL_k0_t1 trip_k0_t1; rfl

/-- The loop's state before trip `k`, read off what its buffers hold. -/
theorem st_eq (𝒱 : Variants) (c : Dev nD) (bd : Option 𝒱.V) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x1x8x512 .f32) (harg10 : arg10.IsWhole) (arg11 : Memref sig .tc .vmem S2048x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S2048x128 .f32) (harg14 : arg14.IsWhole) (arg15 : Memref sig .tc .vmem S1x4x8x512 .f32) (harg15 : arg15.IsWhole) (arg16 : Memref sig .tc .vmem S2048x128 .f32) (harg16 : arg16.IsWhole) (hp arg2 : BitVec 32) (kv vv km0 km1 : FVec F S512x128 .bf16) (ck0 ck1 : FVec F S1x512 .f32) (v42 : BitVec 32) (v120 : FVec F S1x512 .f32) (v176 : FVec F S128x512 .f32) (v183 : FVec F S1x512 .f32) (v195 : FVec F S512x128 .f32) (v198 : FVec F S128x512 .f32) (v216 : BitVec 32)
    (X3 : BufTy.Contents (Elt F) arg3.view.ty) (X6 : BufTy.Contents (Elt F) arg6.view.ty) (X7 : BufTy.Contents (Elt F) arg7.view.ty) (X8 : BufTy.Contents (Elt F) arg8.view.ty) (X9 : BufTy.Contents (Elt F) arg9.view.ty)
    (G14 : BufTy.Contents (Elt F) arg14.view.ty) (G16 : BufTy.Contents (Elt F) arg16.view.ty) (a : Carry F) (k : ℕ) (hk : k ≤ (k0_t1_loop i).trips) :
    let s := st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 hp arg2 kv vv km0 km1 ck0 ck1 v42 v120 v176 v183 v195 v198 v216 X3 X6 X7 X8 X9 G14 G16 a k
    let z := loopSt hp kv vv km0 km1 ck0 ck1 i (arg3.view.read (Elt F) X3) (arg6.view.read (Elt F) X6) (arg7.view.read (Elt F) X7) (arg8.view.read (Elt F) X8) (arg9.view.read (Elt F) X9)
      (arg14.view.read (Elt F) G14) (arg16.view.read (Elt F) G16) a k
    s.1 = z.1 ∧ arg14.view.read (Elt F) (arg14.view.writes (Elt F) G14 s.2.1) = z.2.1 ∧ arg16.view.read (Elt F) (arg16.view.writes (Elt F) G16 s.2.2) = z.2.2 := by
  induction k with
  | zero => exact ⟨rfl, rfl, rfl⟩
  | succ k ih =>
    have hk' : k < (k0_t1_loop i).trips := hk
    obtain ⟨h1, h2, h3⟩ := ih (Nat.le_of_lt hk')
    have e := st_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 hp arg2 kv vv km0 km1 ck0 ck1 v42 v120 v176 v183 v195 v198 v216 X3 X6 X7 X8 X9 G14 G16 a ⟨k, hk'⟩
    rw [tripR_eq, tripL_eq] at e
    dsimp only at e h1 h2 h3 ⊢
    rw [e]
    simp only [loopSt, dif_pos hk']
    refine ⟨by rw [h1], ?_, ?_⟩
    · rw [List.singleton_append, View.read_writes_cons_put _ _ _ _ _ rfl, h2]
    · rw [List.singleton_append, View.read_writes_cons_put _ _ _ _ _ rfl, h3]

/-- The second loop runs no trip: it starts where the first ended. -/
theorem trips_t2 (i : grid0.Coords) : (k0_t2_loop i).trips = 0 := by
  have h : ∀ n : Fin 4, Scf.trips (Scalar.addi (Scalar.addi (BitVec.ofNat 32 n.val) 1#32) (Scalar.muli (Scalar.divsi (Scalar.subi 4#32 (Scalar.addi (BitVec.ofNat 32 n.val) 1#32)) 1#32) 1#32)) (Scalar.addi (Scalar.addi (BitVec.ofNat 32 n.val) 1#32) (Scalar.subi 4#32 (Scalar.addi (BitVec.ofNat 32 n.val) 1#32))) 1#32 = 0 := by
    decide +kernel
  exact h (i 2)

end Cert.AttnBwdIdeal.Body

end
-- ==== Proof.AttnPrologue.lean ====
module

public import proofs.«01_k».proof.Proof.Gen.AttnBwdIdeal.Frame
public import Idealize.ShloMosaic.Lib.VecWindow
public import proofs.«01_k».proof.Proof.AttnSem

@[expose] public section

set_option maxRecDepth 16384

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F]

local notation "𝕄" => MT nD τ sig Unit (Elt F) ℕ (UR sig nD τ) ℕ

/-- What the prologue hands on, its whole-block loads read. -/
theorem res_eq (i : grid0.Coords) (arg4 arg5 : Memref sig .tc .vmem S512x128 .bf16) (arg10 : Memref sig .tc .vmem S1x1x8x512 .f32) (harg4 : arg4.IsWhole) (harg5 : arg5.IsWhole) (harg10 : arg10.IsWhole)
    (x1 x2 : Vec F S512x128 .bf16) (x7 : Vec F S1x1x8x512 .f32) :
    (⟨BitVec.ofNat 32 (i 1).val, BitVec.ofNat 32 (i 2).val, k0_pay62 (arg4.view.readAt (Elt F) (Rect.unit (s := S512x128) ![0, 0] S512x128.size inb_S512x128_S512x128_0_0).toLoadRect (harg4.unread x1)), k0_pay63 (arg5.view.readAt (Elt F) (Rect.unit (s := S512x128) ![0, 0] S512x128.size inb_S512x128_S512x128_0_0).toLoadRect (harg5.unread x2)), k0_pay66 (arg4.view.readAt (Elt F) (Rect.unit (s := S512x128) ![0, 0] S512x128.size inb_S512x128_S512x128_0_0).toLoadRect (harg4.unread x1)), k0_pay67 (arg4.view.readAt (Elt F) (Rect.unit (s := S512x128) ![0, 0] S512x128.size inb_S512x128_S512x128_0_0).toLoadRect (harg4.unread x1)), k0_pay68 (arg10.view.readAt (Elt F) (Rect.unit (s := S1x1x8x512) ![0, 0, 0, 0] S1x1x8x512.size inb_S1x1x8x512_S1x1x8x512_0_0_0_0).toLoadRect (harg10.unread x7)), k0_pay69 i (arg10.view.readAt (Elt F) (Rect.unit (s := S1x1x8x512) ![0, 0, 0, 0] S1x1x8x512.size inb_S1x1x8x512_S1x1x8x512_0_0_0_0).toLoadRect (harg10.unread x7)), k0_pay70 i⟩ : (Σ' (arg1 : BitVec 32) (arg2 : BitVec 32) (v9 : FVec F S512x128 .bf16) (v11 : FVec F S512x128 .bf16) (v16 : FVec F S512x128 .bf16) (v17 : FVec F S512x128 .bf16) (v19 : FVec F S8x512 .f32) (v28 : FVec F S1x512 .f32), IVec S8x512 1))
      = ⟨BitVec.ofNat 32 (i 1).val, BitVec.ofNat 32 (i 2).val, k0_pay62 x1, k0_pay63 x2, k0_pay66 x1, k0_pay67 x1, k0_pay68 x7, k0_pay69 i x7, k0_pay70 i⟩ := by
  rw [View.readAt_full, View.readAt_full, View.readAt_full, harg4.read_unread, harg5.read_unread, harg10.read_unread]

/-- The prologue: it clears the accumulators where a sweep starts and loads the key, value and decay blocks. -/
theorem wp_prologue (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x1x8x512 .f32) (harg10 : arg10.IsWhole) (arg11 : Memref sig .tc .vmem S2048x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S2048x128 .f32) (harg14 : arg14.IsWhole) (arg15 : Memref sig .tc .vmem S1x4x8x512 .f32) (harg15 : arg15.IsWhole) (arg16 : Memref sig .tc .vmem S2048x128 .f32) (harg16 : arg16.IsWhole)
    (x1 x2 : Vec F S512x128 .bf16) (x7 : Vec F S1x1x8x512 .f32) (d14 : Vec F S2048x128 .f32) (d15 : Vec F S1x4x8x512 .f32) (d16 : Vec F S2048x128 .f32)
    (E : Set ℕ) (K : (Σ' (arg1 : BitVec 32) (arg2 : BitVec 32) (v9 : FVec F S512x128 .bf16) (v11 : FVec F S512x128 .bf16) (v16 : FVec F S512x128 .bf16) (v17 : FVec F S512x128 .bf16) (v19 : FVec F S8x512 .f32) (v28 : FVec F S1x512 .f32), IVec S8x512 1) → sProp 𝕄) :
    iprop(owns (c : Thread nD τ) arg4 fullShare x1 ∗ owns (c : Thread nD τ) arg5 fullShare x2 ∗ owns (c : Thread nD τ) arg10 fullShare x7 ∗ owns (c : Thread nD τ) arg14 fullShare d14 ∗ owns (c : Thread nD τ) arg15 fullShare d15 ∗ owns (c : Thread nD τ) arg16 fullShare d16
        ∗ (∀ r, iprop(⌜r = ⟨BitVec.ofNat 32 (i 1).val, BitVec.ofNat 32 (i 2).val, k0_pay62 x1, k0_pay63 x2, k0_pay66 x1, k0_pay67 x1, k0_pay68 x7, k0_pay69 i x7, k0_pay70 i⟩⌝ ∗ owns (c : Thread nD τ) arg4 fullShare x1 ∗ owns (c : Thread nD τ) arg5 fullShare x2 ∗ owns (c : Thread nD τ) arg10 fullShare x7 ∗ owns (c : Thread nD τ) arg14 fullShare (found14 i d14) ∗ owns (c : Thread nD τ) arg15 fullShare (found15 i d15) ∗ owns (c : Thread nD τ) arg16 fullShare (found16 i d16)) -∗ K r))
      ⊢ wp frame (wpE (defs₀ (F := F)) Variants.none c none) E (k0_part7 i arg3 harg3 arg4 harg4 arg5 harg5 arg6 harg6 arg7 harg7 arg8 harg8 arg9 harg9 arg10 harg10 arg11 harg11 arg12 harg12 arg13 harg13 arg14 harg14 arg15 harg15 arg16 harg16) K := by
  rw [k0_part7_eq_skeleton]; unfold k0_part7_skel owns
  iintro ⟨⟨%f1, %hf1, H1⟩, ⟨%f2, %hf2, H2⟩, ⟨%f7, %hf7, H7⟩, ⟨%f11, %hf11, H11⟩, ⟨%f12, %hf12, H12⟩, ⟨%f13, %hf13, H13⟩, Hk⟩
  obtain rfl := harg4.eq_unread hf1; obtain rfl := harg5.eq_unread hf2; obtain rfl := harg10.eq_unread hf7; obtain rfl := harg14.eq_unread hf11; obtain rfl := harg15.eq_unread hf12; obtain rfl := harg16.eq_unread hf13
  by_cases hc1 : clearsDq i <;> by_cases hc2 : clearsSums i
  · -- clears the query gradient's accumulator, clears the sums'
    sl_exec (disch := first | sl_exact hc1 | sl_exact hc2)
    sl_step
    iapply Hk
    isplitr
    · ipureintro; exact res_eq i arg4 arg5 arg10 harg4 harg5 harg10 x1 x2 x7
    isplitl [H1]
    · iexists _; isplitr; · ipureintro; exact harg4.read_unread _
      iexact H1
    isplitl [H2]
    · iexists _; isplitr; · ipureintro; exact harg5.read_unread _
      iexact H2
    isplitl [H7]
    · iexists _; isplitr; · ipureintro; exact harg10.read_unread _
      iexact H7
    isplitl [H11]
    · iexists _; isplitr; swap; · iexact H11
      ipureintro; exact (View.read_writes_full _ _ _ _ _).trans (if_pos hc2).symm
    isplitl [H12]
    · iexists _; isplitr; swap; · iexact H12
      ipureintro; exact (View.read_writes_full _ _ _ _ _).trans (if_pos hc2).symm
    iexists _; isplitr; swap; · iexact H13
    ipureintro; exact (View.read_writes_full _ _ _ _ _).trans (if_pos hc1).symm
  · -- clears the query gradient's accumulator, keeps the sums'
    sl_exec (disch := first | sl_exact hc1 | sl_exact hc2)
    sl_step
    iapply Hk
    isplitr
    · ipureintro; exact res_eq i arg4 arg5 arg10 harg4 harg5 harg10 x1 x2 x7
    isplitl [H1]
    · iexists _; isplitr; · ipureintro; exact harg4.read_unread _
      iexact H1
    isplitl [H2]
    · iexists _; isplitr; · ipureintro; exact harg5.read_unread _
      iexact H2
    isplitl [H7]
    · iexists _; isplitr; · ipureintro; exact harg10.read_unread _
      iexact H7
    isplitl [H11]
    · iexists _; isplitr; swap; · iexact H11
      ipureintro; exact (harg14.read_unread _).trans (if_neg hc2).symm
    isplitl [H12]
    · iexists _; isplitr; swap; · iexact H12
      ipureintro; exact (harg15.read_unread _).trans (if_neg hc2).symm
    iexists _; isplitr; swap; · iexact H13
    ipureintro; exact (View.read_writes_full _ _ _ _ _).trans (if_pos hc1).symm
  · -- keeps the query gradient's accumulator, clears the sums'
    sl_exec (disch := first | sl_exact hc1 | sl_exact hc2)
    sl_step
    iapply Hk
    isplitr
    · ipureintro; exact res_eq i arg4 arg5 arg10 harg4 harg5 harg10 x1 x2 x7
    isplitl [H1]
    · iexists _; isplitr; · ipureintro; exact harg4.read_unread _
      iexact H1
    isplitl [H2]
    · iexists _; isplitr; · ipureintro; exact harg5.read_unread _
      iexact H2
    isplitl [H7]
    · iexists _; isplitr; · ipureintro; exact harg10.read_unread _
      iexact H7
    isplitl [H11]
    · iexists _; isplitr; swap; · iexact H11
      ipureintro; exact (View.read_writes_full _ _ _ _ _).trans (if_pos hc2).symm
    isplitl [H12]
    · iexists _; isplitr; swap; · iexact H12
      ipureintro; exact (View.read_writes_full _ _ _ _ _).trans (if_pos hc2).symm
    iexists _; isplitr; swap; · iexact H13
    ipureintro; exact (harg16.read_unread _).trans (if_neg hc1).symm
  · -- keeps the query gradient's accumulator, keeps the sums'
    sl_exec (disch := first | sl_exact hc1 | sl_exact hc2)
    sl_step
    iapply Hk
    isplitr
    · ipureintro; exact res_eq i arg4 arg5 arg10 harg4 harg5 harg10 x1 x2 x7
    isplitl [H1]
    · iexists _; isplitr; · ipureintro; exact harg4.read_unread _
      iexact H1
    isplitl [H2]
    · iexists _; isplitr; · ipureintro; exact harg5.read_unread _
      iexact H2
    isplitl [H7]
    · iexists _; isplitr; · ipureintro; exact harg10.read_unread _
      iexact H7
    isplitl [H11]
    · iexists _; isplitr; swap; · iexact H11
      ipureintro; exact (harg14.read_unread _).trans (if_neg hc2).symm
    isplitl [H12]
    · iexists _; isplitr; swap; · iexact H12
      ipureintro; exact (harg15.read_unread _).trans (if_neg hc2).symm
    iexists _; isplitr; swap; · iexact H13
    ipureintro; exact (harg16.read_unread _).trans (if_neg hc1).symm

end Cert.AttnBwdIdeal.Body

end
-- ==== Proof.AttnRun.lean ====
module

public import proofs.«01_k».proof.Proof.Gen.AttnBwdIdeal.Frame
public import proofs.«01_k».proof.Proof.Gen.AttnBwdIdeal.Loops
public import Idealize.ShloMosaic.Lib.VecWindow
public import proofs.«01_k».proof.Proof.AttnLoop
public import proofs.«01_k».proof.Proof.AttnPrologue

@[expose] public section

set_option maxRecDepth 16384
set_option maxHeartbeats 4000000

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F]

local notation "𝕄" => MT nD τ sig Unit (Elt F) ℕ (UR sig nD τ) ℕ

/-- The second loop hands on what it is given. -/
theorem st2_eq (𝒱 : Variants) (c : Dev nD) (bd : Option 𝒱.V) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x1x8x512 .f32) (harg10 : arg10.IsWhole) (arg11 : Memref sig .tc .vmem S2048x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S2048x128 .f32) (harg14 : arg14.IsWhole) (arg15 : Memref sig .tc .vmem S1x4x8x512 .f32) (harg15 : arg15.IsWhole) (arg16 : Memref sig .tc .vmem S2048x128 .f32) (harg16 : arg16.IsWhole) (hp arg2 : BitVec 32) (kv vv km0 km1 : FVec F S512x128 .bf16) (ck0 ck1 : FVec F S1x512 .f32) (v42 : BitVec 32) (v120 : FVec F S1x512 .f32) (v176 : FVec F S128x512 .f32) (v183 : FVec F S1x512 .f32) (v195 : FVec F S512x128 .f32) (v198 : FVec F S128x512 .f32) (v216 : BitVec 32)
    (X3 : BufTy.Contents (Elt F) arg3.view.ty) (X6 : BufTy.Contents (Elt F) arg6.view.ty) (X7 : BufTy.Contents (Elt F) arg7.view.ty) (X8 : BufTy.Contents (Elt F) arg8.view.ty) (X9 : BufTy.Contents (Elt F) arg9.view.ty)
    (G14 : BufTy.Contents (Elt F) arg14.view.ty) (G16 : BufTy.Contents (Elt F) arg16.view.ty) (a : Carry F) :
    st_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 hp arg2 kv vv km0 km1 ck0 ck1 v42 v120 v176 v183 v195 v198 v216 X3 X6 X7 X8 X9 G14 G16 a (Scf.trips (k0_t2_loop i).lb (k0_t2_loop i).ub (k0_t2_loop i).st) = (a, [], []) :=
  (congrArg (st_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 hp arg2 kv vv km0 km1 ck0 ck1 v42 v120 v176 v183 v195 v198 v216 X3 X6 X7 X8 X9 G14 G16 a) (trips_t2 i)).trans rfl

/-- The first loop's end, read off what the body finds. -/
theorem fin (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x1x8x512 .f32) (harg10 : arg10.IsWhole) (arg11 : Memref sig .tc .vmem S2048x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S2048x128 .f32) (harg14 : arg14.IsWhole) (arg15 : Memref sig .tc .vmem S1x4x8x512 .f32) (harg15 : arg15.IsWhole) (arg16 : Memref sig .tc .vmem S2048x128 .f32) (harg16 : arg16.IsWhole) (arg2 : BitVec 32) (v42 : BitVec 32) (v120 : FVec F S1x512 .f32) (v176 : FVec F S128x512 .f32) (v183 : FVec F S1x512 .f32) (v195 : FVec F S512x128 .f32) (v198 : FVec F S128x512 .f32) (v216 : BitVec 32) (ck1 : FVec F S1x512 .f32)
    (f0 : BufTy.Contents (Elt F) arg3.view.ty) (f3 : BufTy.Contents (Elt F) arg6.view.ty) (f4 : BufTy.Contents (Elt F) arg7.view.ty) (f5 : BufTy.Contents (Elt F) arg8.view.ty) (f6 : BufTy.Contents (Elt F) arg9.view.ty)
    (f11 : BufTy.Contents (Elt F) arg14.view.ty) (f13 : BufTy.Contents (Elt F) arg16.view.ty) (x1 x2 : Vec F S512x128 .bf16) (x7 : Vec F S1x1x8x512 .f32) (y14 y16 : (Rect.unit (s := S2048x128) (k0_off1 i) S512x128.size (k0_off1_inb i)).shape.Idx → Elt F .f32) (a : Carry F)
    (h1 : ck1 = k0_pay71 (k0_pay68 x7) (k0_pay70 i))
    (ha : a = diagCarry (pairNo i) (k0_pay62 x1) (k0_pay63 x2) (k0_pay69 i x7) (k0_pay71 (k0_pay68 x7) (k0_pay70 i)) (rows1 i (arg3.view.read (Elt F) f0)) (rows1 i (arg6.view.read (Elt F) f3)) (rows1 i (arg7.view.read (Elt F) f4)) (rows1 i (arg9.view.read (Elt F) f6)) (rows1 i (arg8.view.read (Elt F) f5)))
    (h14 : y14 = diagDcq (pairNo i) (k0_pay62 x1) (k0_pay63 x2) (k0_pay69 i x7) (k0_pay71 (k0_pay68 x7) (k0_pay70 i)) (rows1 i (arg3.view.read (Elt F) f0)) (rows1 i (arg6.view.read (Elt F) f3)) (rows1 i (arg7.view.read (Elt F) f4)) (rows1 i (arg9.view.read (Elt F) f6)) (rows1 i (arg8.view.read (Elt F) f5)) (rows1 i (arg14.view.read (Elt F) f11)))
    (h16 : y16 = diagDq (pairNo i) (k0_pay62 x1) (k0_pay63 x2) (k0_pay66 x1) (k0_pay67 x1) (k0_pay69 i x7) (k0_pay71 (k0_pay68 x7) (k0_pay70 i)) (rows1 i (arg3.view.read (Elt F) f0)) (rows1 i (arg6.view.read (Elt F) f3)) (rows1 i (arg7.view.read (Elt F) f4)) (rows1 i (arg9.view.read (Elt F) f6)) (rows1 i (arg8.view.read (Elt F) f5)) (rows1 i (arg16.view.read (Elt F) f13))) :
    let s := (st_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 (pairNo i) arg2 (k0_pay62 x1) (k0_pay63 x2) (k0_pay66 x1) (k0_pay67 x1) (k0_pay69 i x7) ck1 v42 v120 v176 v183 v195 v198 v216 f0 f3 f4 f5 f6 (arg14.view.writes (Elt F) f11 [⟨Rect.unit (s := S2048x128) (k0_off1 i) S512x128.size (k0_off1_inb i), y14⟩]) (arg16.view.writes (Elt F) f13 [⟨Rect.unit (s := S2048x128) (k0_off1 i) S512x128.size (k0_off1_inb i), y16⟩]) a (Scf.trips (k0_t1_loop i).lb (k0_t1_loop i).ub (k0_t1_loop i).st))
    s.1 = (bodySt i (arg3.view.read (Elt F) f0) (arg6.view.read (Elt F) f3) (arg7.view.read (Elt F) f4) (arg8.view.read (Elt F) f5) (arg9.view.read (Elt F) f6) x1 x2 x7 (arg14.view.read (Elt F) f11) (arg16.view.read (Elt F) f13)).1 ∧ arg14.view.read (Elt F) (arg14.view.writes (Elt F) (arg14.view.writes (Elt F) f11 [⟨Rect.unit (s := S2048x128) (k0_off1 i) S512x128.size (k0_off1_inb i), y14⟩]) s.2.1) = (bodySt i (arg3.view.read (Elt F) f0) (arg6.view.read (Elt F) f3) (arg7.view.read (Elt F) f4) (arg8.view.read (Elt F) f5) (arg9.view.read (Elt F) f6) x1 x2 x7 (arg14.view.read (Elt F) f11) (arg16.view.read (Elt F) f13)).2.1
      ∧ arg16.view.read (Elt F) (arg16.view.writes (Elt F) (arg16.view.writes (Elt F) f13 [⟨Rect.unit (s := S2048x128) (k0_off1 i) S512x128.size (k0_off1_inb i), y16⟩]) s.2.2) = (bodySt i (arg3.view.read (Elt F) f0) (arg6.view.read (Elt F) f3) (arg7.view.read (Elt F) f4) (arg8.view.read (Elt F) f5) (arg9.view.read (Elt F) f6) x1 x2 x7 (arg14.view.read (Elt F) f11) (arg16.view.read (Elt F) f13)).2.2 := by
  subst h1 ha h14 h16
  have h := st_eq (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 (pairNo i) arg2 (k0_pay62 x1) (k0_pay63 x2) (k0_pay66 x1) (k0_pay67 x1) (k0_pay69 i x7) (k0_pay71 (k0_pay68 x7) (k0_pay70 i)) v42 v120 v176 v183 v195 v198 v216 f0 f3 f4 f5 f6 (arg14.view.writes (Elt F) f11 [⟨Rect.unit (s := S2048x128) (k0_off1 i) S512x128.size (k0_off1_inb i), diagDcq (pairNo i) (k0_pay62 x1) (k0_pay63 x2) (k0_pay69 i x7) (k0_pay71 (k0_pay68 x7) (k0_pay70 i)) (rows1 i (arg3.view.read (Elt F) f0)) (rows1 i (arg6.view.read (Elt F) f3)) (rows1 i (arg7.view.read (Elt F) f4)) (rows1 i (arg9.view.read (Elt F) f6)) (rows1 i (arg8.view.read (Elt F) f5)) (rows1 i (arg14.view.read (Elt F) f11))⟩]) (arg16.view.writes (Elt F) f13 [⟨Rect.unit (s := S2048x128) (k0_off1 i) S512x128.size (k0_off1_inb i), diagDq (pairNo i) (k0_pay62 x1) (k0_pay63 x2) (k0_pay66 x1) (k0_pay67 x1) (k0_pay69 i x7) (k0_pay71 (k0_pay68 x7) (k0_pay70 i)) (rows1 i (arg3.view.read (Elt F) f0)) (rows1 i (arg6.view.read (Elt F) f3)) (rows1 i (arg7.view.read (Elt F) f4)) (rows1 i (arg9.view.read (Elt F) f6)) (rows1 i (arg8.view.read (Elt F) f5)) (rows1 i (arg16.view.read (Elt F) f13))⟩]) (diagCarry (pairNo i) (k0_pay62 x1) (k0_pay63 x2) (k0_pay69 i x7) (k0_pay71 (k0_pay68 x7) (k0_pay70 i)) (rows1 i (arg3.view.read (Elt F) f0)) (rows1 i (arg6.view.read (Elt F) f3)) (rows1 i (arg7.view.read (Elt F) f4)) (rows1 i (arg9.view.read (Elt F) f6)) (rows1 i (arg8.view.read (Elt F) f5))) (k0_t1_loop i).trips le_rfl
  dsimp only at h
  rw [View.read_writes_cons_put arg14.view f11 _ _ [] rfl, View.read_writes_cons_put arg16.view f13 _ _ [] rfl] at h
  exact h

/-- The body at any grid point: what it leaves in its outputs and in its accumulators. -/
theorem wp_body (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x1x8x512 .f32) (harg10 : arg10.IsWhole) (arg11 : Memref sig .tc .vmem S2048x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S2048x128 .f32) (harg14 : arg14.IsWhole) (arg15 : Memref sig .tc .vmem S1x4x8x512 .f32) (harg15 : arg15.IsWhole) (arg16 : Memref sig .tc .vmem S2048x128 .f32) (harg16 : arg16.IsWhole)
    (x0 : Vec F S2048x128 .bf16) (x1 : Vec F S512x128 .bf16) (x2 : Vec F S512x128 .bf16) (x3 : Vec F S2048x128 .bf16) (x4 : Vec F S2048x128 .bf16) (x5 : Vec F S2048x128 .f32) (x6 : Vec F S2048x128 .f32) (x7 : Vec F S1x1x8x512 .f32) (d11 : Vec F S2048x128 .bf16) (d14 : Vec F S2048x128 .f32) (d15 : Vec F S1x4x8x512 .f32) (d16 : Vec F S2048x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare d11 ∗ (∃ d, owns (c : Thread nD τ) arg12 fullShare d) ∗ (∃ d, owns (c : Thread nD τ) arg13 fullShare d) ∗ owns (c : Thread nD τ) arg14 fullShare d14 ∗ owns (c : Thread nD τ) arg15 fullShare d15 ∗ owns (c : Thread nD τ) arg16 fullShare d16
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (if k0_cond3 i = 1#1 then k0_pay2 (bodySt i x0 x3 x4 x5 x6 x1 x2 x7 (found14 i d14) (found16 i d16)).2.2 else d11) ∗ owns (c : Thread nD τ) arg12 fullShare (k0_pay118 (bodySt i x0 x3 x4 x5 x6 x1 x2 x7 (found14 i d14) (found16 i d16)).1.1) ∗ owns (c : Thread nD τ) arg13 fullShare (k0_pay119 (bodySt i x0 x3 x4 x5 x6 x1 x2 x7 (found14 i d14) (found16 i d16)).1.2.1) ∗ owns (c : Thread nD τ) arg14 fullShare (bodySt i x0 x3 x4 x5 x6 x1 x2 x7 (found14 i d14) (found16 i d16)).2.1 ∗ owns (c : Thread nD τ) arg15 fullShare (outDck i (found15 i d15) (bodySt i x0 x3 x4 x5 x6 x1 x2 x7 (found14 i d14) (found16 i d16)).1) ∗ owns (c : Thread nD τ) arg16 fullShare (bodySt i x0 x3 x4 x5 x6 x1 x2 x7 (found14 i d14) (found16 i d16)).2.2) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  rw [cc0_attn_bwd_eq_skeleton]; unfold cc0_attn_bwd_skel
  simp only [k0_part8_eq_skeleton, k0_part9_eq_skeleton, k0_part10_eq_skeleton, k0_part11_eq_skeleton, k0_part12_eq_skeleton]
  rw [wp_bind]
  iintro ⟨H0, H1, H2, H3, H4, H5, H6, H7, H8, H9, H10, H11, H12, H13, Hk⟩
  iapply (wp_prologue c i arg3 harg3 arg4 harg4 arg5 harg5 arg6 harg6 arg7 harg7 arg8 harg8 arg9 harg9 arg10 harg10 arg11 harg11 arg12 harg12 arg13 harg13 arg14 harg14 arg15 harg15 arg16 harg16 x1 x2 x7 d14 d15 d16 E _)
  isplitl [H1]; · iexact H1
  isplitl [H2]; · iexact H2
  isplitl [H7]; · iexact H7
  isplitl [H11]; · iexact H11
  isplitl [H12]; · iexact H12
  isplitl [H13]; · iexact H13
  generalize found14 i d14 = w14
  generalize found15 i d15 = w15
  generalize found16 i d16 = w16
  iintro %r ⟨%hr, H1, H2, H7, H11, H12, H13⟩
  subst hr
  unfold owns
  icases H0 with ⟨%f0, %hf0, H0⟩; icases H1 with ⟨%f1, %hf1, H1⟩; icases H2 with ⟨%f2, %hf2, H2⟩; icases H3 with ⟨%f3, %hf3, H3⟩
  icases H4 with ⟨%f4, %hf4, H4⟩; icases H5 with ⟨%f5, %hf5, H5⟩; icases H6 with ⟨%f6, %hf6, H6⟩; icases H7 with ⟨%f7, %hf7, H7⟩
  icases H8 with ⟨%f8, %hf8, H8⟩; icases H9 with ⟨%d9, %f9, -, H9⟩; icases H10 with ⟨%d10, %f10, -, H10⟩
  icases H11 with ⟨%f11, %hf11, H11⟩; icases H12 with ⟨%f12, %hf12, H12⟩; icases H13 with ⟨%f13, %hf13, H13⟩
  subst hf0 hf1 hf2 hf3 hf4 hf5 hf6 hf7 hf8 hf11 hf12 hf13
  have hfin := fin (F := F) c i arg3 harg3 arg4 harg4 arg5 harg5 arg6 harg6 arg7 harg7 arg8 harg8 arg9 harg9 arg10 harg10 arg11 harg11 arg12 harg12 arg13 harg13 arg14 harg14 arg15 harg15 arg16 harg16
  by_cases hc3 : k0_cond3 i = 1#1
  all_goals
    sl_exec (disch := first | sl_exact hc3)
    sl_step
    iapply Hk
    isplitl [H0]; swap; isplitl [H1]; swap; isplitl [H2]; swap; isplitl [H3]; swap
    isplitl [H4]; swap; isplitl [H5]; swap; isplitl [H6]; swap; isplitl [H7]; swap
    isplitl [H8]
    · iexists _; isplitr; swap; · iexact H8
      ipureintro
      first
      | exact (if_neg hc3).symm
      | refine (View.read_writes_full _ _ _ _ _).trans (Eq.trans ?_ (if_pos hc3).symm)
        refine congrArg k0_pay2 ((View.readAt_full _ _ _).trans ?_)
        rw [st2_eq]; dsimp only; rw [List.nil_append, View.writes_append]
        exact (hfin _ _ _ _ _ _ _ _ _ f0 f3 f4 f5 f6 f11 f13 _ _ _ _ _ _ rfl rfl rfl rfl).2.2
    isplitl [H9]
    · iexists _; isplitr; swap; · iexact H9
      ipureintro
      refine (View.read_writes_full _ _ _ _ _).trans ?_
      rw [st2_eq]
      exact congrArg (fun z : Carry F => k0_pay118 z.1) (hfin _ _ _ _ _ _ _ _ _ f0 f3 f4 f5 f6 f11 f13 _ _ _ _ _ _ rfl rfl rfl rfl).1
    isplitl [H10]
    · iexists _; isplitr; swap; · iexact H10
      ipureintro
      refine (View.read_writes_full _ _ _ _ _).trans ?_
      rw [st2_eq]
      exact congrArg (fun z : Carry F => k0_pay119 z.2.1) (hfin _ _ _ _ _ _ _ _ _ f0 f3 f4 f5 f6 f11 f13 _ _ _ _ _ _ rfl rfl rfl rfl).1
    isplitl [H11]
    · iexists _; isplitr; swap; · iexact H11
      ipureintro
      rw [st2_eq]; dsimp only; rw [List.nil_append, View.writes_append]
      exact (hfin _ _ _ _ _ _ _ _ _ f0 f3 f4 f5 f6 f11 f13 _ _ _ _ _ _ rfl rfl rfl rfl).2.1
    isplitl [H12]
    · iexists _; isplitr; swap; · iexact H12
      ipureintro
      refine (View.read_writes_cons_put _ _ _ _ [] rfl).trans (congrArg (VecWindow.put _ _ _) ?_)
      unfold rowDck
      show k0_pay1 (F := F) (k0_pay120 (F := F) _) (k0_pay121 (F := F) _ _) (k0_pay122 _) (k0_pay123 (F := F) _) (k0_pay124 (F := F)) = _
      rw [st2_eq]
      exact congr (congr (congr (congr (congrArg k0_pay1 rfl) (congrArg (fun z : Carry F => k0_pay121 (pairNo i) z.2.2.1) (hfin _ _ _ _ _ _ _ _ _ f0 f3 f4 f5 f6 f11 f13 _ _ _ _ _ _ rfl rfl rfl rfl).1)) rfl) (congrArg (fun z : Carry F => k0_pay123 z.2.2.2) (hfin _ _ _ _ _ _ _ _ _ f0 f3 f4 f5 f6 f11 f13 _ _ _ _ _ _ rfl rfl rfl rfl).1)) rfl
    · iexists _; isplitr; swap; · iexact H13
      ipureintro
      rw [st2_eq]; dsimp only; rw [List.nil_append, View.writes_append]
      exact (hfin _ _ _ _ _ _ _ _ _ f0 f3 f4 f5 f6 f11 f13 _ _ _ _ _ _ rfl rfl rfl rfl).2.2
    all_goals (iexists _; isplitr; swap; · first | iexact H0 | iexact H1 | iexact H2 | iexact H3 | iexact H4 | iexact H5 | iexact H6 | iexact H7)
    all_goals ipureintro; rfl

end Cert.AttnBwdIdeal.Body

end
-- ==== Proof.AttnFrame.lean ====
module

public import proofs.«01_k».proof.Proof.AttnRun
public import proofs.«01_k».proof.Proof.Gen.AttnBwdIdeal.Frame
public import Idealize.ShloMosaic.Lib.Claim

@[expose] public section

set_option maxRecDepth 16384

noncomputable section

/-! The launch of the attention gradient: what its outputs hold point by point, the invariant that carries the `dq`
accumulator from point to point, and the frame. -/

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal Cert.AttnBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold -/

/-- `dq`, `dk`, `dv`, the row sums, the column sums, and the scratch. -/
abbrev Outs (F : FTy → Type) [FloatOps F] : Type :=
  Vec F S2048x128 .bf16 × Vec F S512x128 .bf16 × Vec F S512x128 .bf16 × Vec F S2048x128 .f32 × Vec F S1x4x8x512 .f32 × Vec F S2048x128 .f32

/-- One point's outputs, from what it finds in the row sums, the column sums and the scratch. -/
def point (c : Dev nD) (t : Fin cfg0.N) (d14 : Vec F S2048x128 .f32) (d15 : Vec F S1x4x8x512 .f32) (d16 : Vec F S2048x128 .f32) : Outs F :=
  let B := bodySt (grid0.coords t) (iblk m c 0 t) (iblk m c 3 t) (iblk m c 4 t) (iblk m c 5 t) (iblk m c 6 t) (iblk m c 1 t) (iblk m c 2 t) (iblk m c 7 t) (found14 (grid0.coords t) d14) (found16 (grid0.coords t) d16)
  (k0_pay2 B.2.2, k0_pay118 B.1.1, k0_pay119 B.1.2.1, B.2.1, outDck (grid0.coords t) (found15 (grid0.coords t) d15) B.1, B.2.2)

/-- The outputs after each point. The first point clears all it would find. -/
def outsAt (c : Dev nD) : (n : ℕ) → n < cfg0.N → Outs F
  | 0, hn => point m c ⟨0, hn⟩ k0_pay60 k0_pay61 k0_pay59
  | n + 1, hn =>
    let p := outsAt c n (Nat.lt_of_succ_lt hn)
    point m c ⟨n + 1, hn⟩ p.2.2.2.1 p.2.2.2.2.1 p.2.2.2.2.2

/-- Each sixteenth point clears the sums, -/
theorem clears_sums : ∀ t : Fin cfg0.N, t.val % 16 = 0 → clearsSums (grid0.coords t) :=
  (by unfold clearsSums; decide +kernel : ∀ t : Fin grid0.N, t.val % 16 = 0 → clearsSums (grid0.coords t))

/-- and each fourth one the scratch. -/
theorem clears_dq : ∀ t : Fin cfg0.N, t.val % 4 = 0 → clearsDq (grid0.coords t) :=
  (by unfold clearsDq; decide +kernel : ∀ t : Fin grid0.N, t.val % 4 = 0 → clearsDq (grid0.coords t))

/-- The outputs after a point, from anything that agrees with what the point before left wherever it is not cleared. -/
theorem outsAt_eq (c : Dev nD) (t : Fin cfg0.N) (d14 : Vec F S2048x128 .f32) (d15 : Vec F S1x4x8x512 .f32) (d16 : Vec F S2048x128 .f32)
    (h14 : t.val % 16 = 0 ∨ d14 = (outsAt m c (t.val - 1) (Nat.lt_of_le_of_lt (Nat.sub_le _ _) t.isLt)).2.2.2.1)
    (h15 : t.val % 16 = 0 ∨ d15 = (outsAt m c (t.val - 1) (Nat.lt_of_le_of_lt (Nat.sub_le _ _) t.isLt)).2.2.2.2.1)
    (h16 : t.val % 4 = 0 ∨ d16 = (outsAt m c (t.val - 1) (Nat.lt_of_le_of_lt (Nat.sub_le _ _) t.isLt)).2.2.2.2.2) :
    outsAt m c t.val t.isLt = point m c t d14 d15 d16 := by
  have e : ∃ p14 p15 p16, outsAt m c t.val t.isLt = point m c t p14 p15 p16
      ∧ (t.val % 16 = 0 ∨ d14 = p14) ∧ (t.val % 16 = 0 ∨ d15 = p15) ∧ (t.val % 4 = 0 ∨ d16 = p16) := by
    obtain ⟨n, hn⟩ := t
    cases n with
    | zero => exact ⟨_, _, _, rfl, .inl rfl, .inl rfl, .inl rfl⟩
    | succ n => exact ⟨_, _, _, rfl, h14, h15, h16⟩
  obtain ⟨p14, p15, p16, hp, g14, g15, g16⟩ := e
  rw [hp]; unfold point
  have e14 : found14 (grid0.coords t) d14 = found14 (grid0.coords t) p14 := by
    rcases g14 with h | h
    · unfold found14; rw [if_pos (clears_sums t h), if_pos (clears_sums t h)]
    · rw [h]
  have e15 : found15 (grid0.coords t) d15 = found15 (grid0.coords t) p15 := by
    rcases g15 with h | h
    · unfold found15; rw [if_pos (clears_sums t h), if_pos (clears_sums t h)]
    · rw [h]
  have e16 : found16 (grid0.coords t) d16 = found16 (grid0.coords t) p16 := by
    rcases g16 with h | h
    · unfold found16; rw [if_pos (clears_dq t h), if_pos (clears_dq t h)]
    · rw [h]
  rw [e14, e15, e16]

/-! ## The invariant -/

/-- The scratch, whole. -/
abbrev scr : Memref sig .tc .vmem S2048x128 .f32 := Memref.whole cc0_scratch0

/-- Before the first point the scratch holds anything, afterwards what the point before left. -/
def PhiS (c : Dev nD) : (n : ℕ) → n ≤ cfg0.N → sProp 𝕄
  | 0, _ => Pipeline.ΦA spec0 c
  | n + 1, hn => iprop(owns (c : Thread nD τ) scr fullShare ((outsAt m c n hn).2.2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scr fullShare ((outsAt m c n hn).2.2.2.2.2) ∗ (∃ r, prngReg c r)) := rfl

theorem PhiS_pos (c : Dev nD) (n : ℕ) (h : n ≤ cfg0.N) (hz : n ≠ 0) :
    PhiS m c n h = iprop(owns (c : Thread nD τ) scr fullShare ((outsAt m c (n - 1) (by omega)).2.2.2.2.2) ∗ (∃ r, prngReg c r)) := by
  cases n with
  | zero => exact absurd rfl hz
  | succ n => rfl

theorem PhiA_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-! ## The proof data -/

/-- The launch's proof data: each input's block stays, each output holds `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
    | ⟨9, _⟩ => (outsAt m c t.val t.isLt).2.1
    | ⟨10, _⟩ => (outsAt m c t.val t.isLt).2.2.1
    | ⟨11, _⟩ => (outsAt m c t.val t.isLt).2.2.2.1
    | ⟨12, _⟩ => (outsAt m c t.val t.isLt).2.2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

section Windows

variable (c : Dev nD) (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = (outsAt m c t.val t.isLt).1 := by dsimp only [dats]
theorem after0_9 : (dats m 0 c).after 9 t = (outsAt m c t.val t.isLt).2.1 := by dsimp only [dats]
theorem after0_10 : (dats m 0 c).after 10 t = (outsAt m c t.val t.isLt).2.2.1 := by dsimp only [dats]
theorem after0_11 : (dats m 0 c).after 11 t = (outsAt m c t.val t.isLt).2.2.2.1 := by dsimp only [dats]
theorem after0_12 : (dats m 0 c).after 12 t = (outsAt m c t.val t.isLt).2.2.2.2.1 := by dsimp only [dats]
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d
theorem before0_6 (d) : (dats m 0 c).before 6 t d = iblk m c 6 t :=
  before0_6_of m (dats m 0 c) (A_eq m c 6) (after0_6 m c) t d
theorem before0_7 (d) : (dats m 0 c).before 7 t d = iblk m c 7 t :=
  before0_7_of m (dats m 0 c) (A_eq m c 7) (after0_7 m c) t d

end Windows

/-- The row sums found at a point: what the point before left, or anything where they are cleared. -/
theorem before_11 (c : Dev nD) (t : Fin cfg0.N) (d) :
    t.val % 16 = 0 ∨ (dats m 0 c).before 11 t d = (outsAt m c (t.val - 1) (Nat.lt_of_le_of_lt (Nat.sub_le _ _) t.isLt)).2.2.2.1 := by
  by_cases h : t.val % 16 = 0
  · exact .inl h
  · refine .inr (((dats m 0 c).before_out_kept 11 rfl t (by omega) ?_ (fun _ => rfl) (fun _ _ => rfl) d).trans (after0_11 m c _))
    refine Bool.eq_false_iff.mpr fun hf => ?_
    have := (flush0_11 _).mp hf
    dsimp only at this; omega

/-- The column sums found at a point, likewise. -/
theorem before_12 (c : Dev nD) (t : Fin cfg0.N) (d) :
    t.val % 16 = 0 ∨ (dats m 0 c).before 12 t d = (outsAt m c (t.val - 1) (Nat.lt_of_le_of_lt (Nat.sub_le _ _) t.isLt)).2.2.2.2.1 := by
  by_cases h : t.val % 16 = 0
  · exact .inl h
  · refine .inr (((dats m 0 c).before_out_kept 12 rfl t (by omega) ?_ (fun _ => rfl) (fun _ _ => rfl) d).trans (after0_12 m c _))
    refine Bool.eq_false_iff.mpr fun hf => ?_
    have := (flush0_12 _).mp hf
    dsimp only at this; omega

/-- Where `dq` is not stored its block is not written back. -/
theorem noFlush_8 : ∀ t : Fin cfg0.N, ¬ k0_cond3 (grid0.coords t) = 1#1 → (cfg0.win 8).flush t = false :=
  (by decide +kernel : ∀ t : Fin grid0.N, ¬ k0_cond3 (grid0.coords t) = 1#1 → win0_8.flush t = false)

/-- A window that is written at a point is left at what the proof data says. -/
theorem leaves_busy (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The scratch before a point: what the point before left, or anything at the first. -/
theorem Phi_in (c : Dev nD) (t : Fin cfg0.N) :
    (dats m 0 c).Φ t.castSucc ⊢ iprop(∃ d, ⌜t.val % 4 = 0 ∨ d = (outsAt m c (t.val - 1) (Nat.lt_of_le_of_lt (Nat.sub_le _ _) t.isLt)).2.2.2.2.2⌝ ∗ owns (c : Thread nD τ) scr fullShare d ∗ (∃ r, prngReg c r)) := by
  rw [PhiS_castSucc m c t]
  by_cases hz : t.val = 0
  · rw [PhiS_zero m c _ _ hz, PhiA_eq]
    iintro ⟨⟨%d, H⟩, Hg⟩
    iexists d
    isplitr; · ipureintro; exact .inl (by omega)
    isplitl [H]; · iexact H
    iexact Hg
  · rw [PhiS_pos m c _ _ hz]
    iintro ⟨H, Hg⟩
    iexists _
    isplitr; · ipureintro; exact .inr rfl
    isplitl [H]; · iexact H
    iexact Hg

set_option maxHeartbeats 4000000 in
/-- The body at any point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_busy m c 0 t rfl, after0_0, leaves_busy m c 1 t rfl, after0_1, leaves_busy m c 2 t rfl, after0_2, leaves_busy m c 3 t rfl, after0_3, leaves_busy m c 4 t rfl, after0_4,
    leaves_busy m c 5 t rfl, after0_5, leaves_busy m c 6 t rfl, after0_6, leaves_busy m c 7 t rfl, after0_7, leaves_busy m c 9 t rfl, after0_9, leaves_busy m c 10 t rfl, after0_10,
    leaves_busy m c 11 t rfl, after0_11, leaves_busy m c 12 t rfl, after0_12]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HP' := (Phi_in m c t) $$ HP
  icases HP' with ⟨%d16, %h16, HS, Hg⟩
  rw [outsAt_eq m c t _ _ d16 (before_11 m c t d11) (before_12 m c t d12) h16]
  iapply (wp_body c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]; · iexact HS
    iexact Hg
  isplitl [Ho]; · iexact Ho
  by_cases h3 : k0_cond3 (grid0.coords t) = 1#1
  · rw [if_pos h3, leaves_busy m c 8 t (by show (!(k0_cond3 (grid0.coords t) == 1#1)) = false; rw [h3]; rfl), after0_8,
      outsAt_eq m c t _ _ d16 (before_11 m c t d11) (before_12 m c t d12) h16]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [if_neg h3, Dat.leavesExact_idle (dats m 0 c) 8 t (by show (!(k0_cond3 (grid0.coords t) == 1#1)) = true; rw [beq_eq_false_iff_ne.mpr h3]; rfl) (noFlush_8 t h3)]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    isplitl [H9]; · iexact H9
    isplitl [H10]; · iexact H10
    isplitl [H11]; · iexact H11
    iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run and the frame -/

set_option backward.isDefEq.respectTransparency.types false in
/-- The launch runs: the arrays end at what the proof data says, the counters at zero. -/
theorem run_main_quiescent : θ_run defs (onTc (τ := τ) (main (F := F))) (s₀ m ρ)
    (fun r => (Pipeline.FramePost cfgs (dats m) 0 (Pipeline.afterTail₀ cfgs (dats m) 0 (V0 m) [hostOps1, hostOps1_1, hostOps1_2])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  (θ_run defs _ _).mono (fun _ h => h.1) (run_main_quiescent m ρ)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.AttnBwdIdeal.Body

end
-- ==== Proof.AttnSums.lean ====
module

public import proofs.«01_k».proof.Proof.AttnPoint
public import proofs.«01_k».proof.Proof.AttnFrame

@[expose] public section

set_option maxRecDepth 16384

noncomputable section

open Idealize.ShloMosaic Idealize.ShloMosaic.TcCoe Idealize.SL.Sem

namespace Cert.AttnBwdIdeal.Tile

open Cert.AttnBwdIdeal Cert.AttnBwdIdeal.Gen Cert.AttnBwdIdeal.Body

/-- The column sums of tile `b`'s keys, each head in its own row. -/
def Seq.colPart (S : Seq) (b a j : ℕ) : ℝ := if a / 2 = S.n.val then upTo 4 fun r => S.grad (parity a) r (512 * b + j) else 0

/-- The key tile and the pair of a point. -/
theorem coords_eq : ∀ t : Fin cfg0.N, ((grid0.coords t) 2).val = t.val % 4 ∧ ((grid0.coords t) 1).val = t.val / 4 % 4 :=
  (by decide +kernel : ∀ t : Fin grid0.N, ((grid0.coords t) 2).val = t.val % 4 ∧ ((grid0.coords t) 1).val = t.val / 4 % 4)

/-- The other points keep the sums, -/
theorem keeps_sums : ∀ t : Fin cfg0.N, t.val % 16 ≠ 0 → ¬ clearsSums (grid0.coords t) :=
  (by unfold clearsSums; decide +kernel : ∀ t : Fin grid0.N, t.val % 16 ≠ 0 → ¬ clearsSums (grid0.coords t))

/-- and the scratch. -/
theorem keeps_dq : ∀ t : Fin cfg0.N, t.val % 4 ≠ 0 → ¬ clearsDq (grid0.coords t) :=
  (by unfold clearsDq; decide +kernel : ∀ t : Fin grid0.N, t.val % 4 ≠ 0 → ¬ clearsDq (grid0.coords t))

/-- Putting one key tile's rows, read at an entry. -/
theorem put_tile (x : Vec Ideal S1x4x8x512 .f32) (off : Fin 4 → ℕ) (k : ℕ) (hoff : off = ![0, k, 0, 0]) (u : FVec Ideal S1x1x8x512 .f32) (b : Fin 4) (a : Fin 8) (j : Fin 512) :
    VecWindow.put x off S1x1x8x512.size u (ix4 0 b a j) = if b.val = k then u (ix4 0 0 a j) else x (ix4 0 b a j) := by
  subst hoff
  unfold VecWindow.put
  by_cases h : b.val = k
  · have hm : ∀ d : Fin S1x4x8x512.rank, (![0, k, 0, 0] : Fin 4 → ℕ) d ≤ ((ix4 0 b a j : S1x4x8x512.Idx) d).val ∧ ((ix4 0 b a j : S1x4x8x512.Idx) d).val < (![0, k, 0, 0] : Fin 4 → ℕ) d + S1x1x8x512.size d := fun d => by
      fin_cases d
      · exact ⟨Nat.le_refl _, Nat.zero_lt_one⟩
      · exact ⟨h.ge, by show b.val < k + 1; omega⟩
      · exact ⟨Nat.zero_le _, by show a.val < 0 + 8; omega⟩
      · exact ⟨Nat.zero_le _, by show j.val < 0 + 512; omega⟩
    rw [dif_pos hm, if_pos h]
    refine congrArg u (funext fun d => Fin.ext ?_)
    fin_cases d
    · rfl
    · show b.val - k = 0; omega
    · rfl
    · rfl
  · rw [if_neg h, dif_neg fun hall => h ?_]
    have h1 : k ≤ b.val ∧ b.val < k + 1 := hall 1
    omega

/-- A key tile's rows of the column sums, read at an entry. -/
theorem tile_at (x : Vec Ideal S1x4x8x512 .f32) (off : Fin 4 → ℕ) (inb : ∀ a, off a + S1x1x8x512.size a ≤ S1x4x8x512.size a) (b : Fin 4) (hoff : off = ![0, b.val, 0, 0]) (a : Fin 8) (j : Fin 512) :
    VecWindow.window x off S1x1x8x512.size inb (ix4 0 0 a j) = x (ix4 0 b a j) := by
  subst hoff
  refine congrArg x (funext fun d => Fin.ext ?_)
  fin_cases d
  · rfl
  · show b.val + 1 * 0 = b.val; omega
  · show 0 + 1 * a.val = a.val; omega
  · show 0 + 1 * j.val = j.val; omega

theorem off4_eq (i : grid0.Coords) : k0_off4 i = ![0, (i 2).val, 0, 0] := by
  have h : ∀ n : Fin 4, (Scalar.indexCast (BitVec.ofNat 32 n.val)).toNat = n.val := by decide
  exact congrArg (fun a => ![0, a, 0, 0]) (h (i 2))

/-- The row of column sums a point adds. -/
theorem rowDck_at (S : Seq) (i : grid0.Coords) (hn : S.n = i 1) (w14 w16 : Vec Ideal S2048x128 .f32) (s : Carry Ideal × Vec Ideal S2048x128 .f32 × Vec Ideal S2048x128 .f32)
    (H : Held S (i 2).val w14 w16 4 s) (w15 : Vec Ideal S1x4x8x512 .f32) (a : Fin 8) (j : Fin 512) :
    rowDck i w15 s.1 (ix4 0 0 a j) = w15 (ix4 0 (i 2) a j) + ((- S.colPart (i 2).val a.val j.val : ℝ) : EReal) := by
  have e : pairNo i = BitVec.ofNat 32 S.n.val := by rw [hn]
  have e2 : ∀ n : Fin 4, (Scalar.muli 2#32 (BitVec.ofNat 32 n.val)).toNat = 2 * n.val := by decide
  unfold rowDck
  rw [e]
  pointwise [k0_pay1, k0_pay120, k0_pay121, k0_pay122, k0_pay123, k0_pay124, H.col0, H.col1]
  word_cmp
  simp only [e2, head1_no]
  refine congrArg₂ (· + ·) (tile_at w15 _ _ (i 2) (off4_eq i) a j) ?_
  refine (congrArg (fun z => (0 : EReal) - z) (lane_split S.n.val a.val fun e => upTo 4 fun r => S.grad e r (512 * (i 2).val + j.val))).trans ?_
  rw [zero_sub, ← EReal.coe_neg]; rfl

/-- What the outputs hold after point `n`, of the sequences `S` of each batch and pair. -/
structure Inv (S : ℕ → ℕ → Seq) (n : ℕ) (p : Outs Ideal) : Prop where
  dq : ∀ r l, p.1 (ix2 r l) = ((∑ k ∈ Finset.range (n % 4 + 1), (S (n / 16) (n / 4 % 4)).dqPart k r.val l : ℝ) : EReal)
  dk : ∀ (j : Fin 512) l, p.2.1 (ix2 j l) = (upTo 4 (fun r => (S (n / 16) (n / 4 % 4)).Q r l * (1 / 8) * (S (n / 16) (n / 4 % 4)).grad (headOf l) r (512 * (n % 4) + j.val)) : EReal)
  dv : ∀ (j : Fin 512) l, p.2.2.1 (ix2 j l) = (upTo 4 (fun r => (S (n / 16) (n / 4 % 4)).G r l * (S (n / 16) (n / 4 % 4)).weight (headOf l) r (512 * (n % 4) + j.val)) : EReal)
  row : ∀ r l, p.2.2.2.1 (ix2 r l) = ((∑ u ∈ Finset.range (n % 16 + 1), (S (n / 16) (u / 4)).rowPart (u % 4) r.val l : ℝ) : EReal)
  col : ∀ b (a : Fin 8) (j : Fin 512), p.2.2.2.2.1 (ix4 0 b a j) = ((∑ u ∈ Finset.range (n % 16 + 1), (if b.val = u % 4 then - (S (n / 16) (u / 4)).colPart (u % 4) a.val j.val else 0) : ℝ) : EReal)
  scr : ∀ r l, p.2.2.2.2.2 (ix2 r l) = ((∑ k ∈ Finset.range (n % 4 + 1), (S (n / 16) (n / 4 % 4)).dqPart k r.val l : ℝ) : EReal)

variable (m : (ℓ : Loc nD τ sig) → Buf (Elt Ideal) ℓ) (c : Dev nD) (S : ℕ → ℕ → Seq)

theorem inv (hB : ∀ t : Fin cfg0.N, Blocks (S (t.val / 16) (t.val / 4 % 4)) (grid0.coords t) (iblk m c 0 t) (iblk m c 3 t) (iblk m c 4 t) (iblk m c 5 t) (iblk m c 6 t) (iblk m c 1 t) (iblk m c 2 t) (iblk m c 7 t)) :
    ∀ n (hn : n < cfg0.N), Inv S n (outsAt m c n hn) := by
  intro n
  induction n using Nat.strong_induction_on with
  | _ n ih =>
    intro hn
    have e := outsAt_eq m c ⟨n, hn⟩ _ _ _ (.inr rfl) (.inr rfl) (.inr rfl)
    simp only at e
    rw [e]
    have B := hB ⟨n, hn⟩
    obtain ⟨h2, h1⟩ := coords_eq ⟨n, hn⟩
    simp only at h1 h2 B
    generalize hi : grid0.coords ⟨n, hn⟩ = i at B h1 h2
    -- what the tiles find
    have f14 : ∀ r l, found14 i (outsAt m c (n - 1) (Nat.lt_of_le_of_lt (Nat.sub_le _ _) hn)).2.2.2.1 (ix2 r l)
        = ((∑ u ∈ Finset.range (n % 16), (S (n / 16) (u / 4)).rowPart (u % 4) r.val l : ℝ) : EReal) := fun r l => by
      by_cases h0 : n % 16 = 0
      · unfold found14; rw [if_pos (hi ▸ clears_sums ⟨n, hn⟩ h0), h0, Finset.sum_range_zero]
        pointwise [k0_pay60]
        exact EReal.coe_zero.symm
      · unfold found14; rw [if_neg (hi ▸ keeps_sums ⟨n, hn⟩ h0), (ih (n - 1) (by omega) _).row]
        rw [show (n - 1) % 16 + 1 = n % 16 by omega, show (n - 1) / 16 = n / 16 by omega]
    have f15 : ∀ b a j, found15 i (outsAt m c (n - 1) (Nat.lt_of_le_of_lt (Nat.sub_le _ _) hn)).2.2.2.2.1 (ix4 0 b a j)
        = ((∑ u ∈ Finset.range (n % 16), (if b.val = u % 4 then - (S (n / 16) (u / 4)).colPart (u % 4) a.val j.val else 0) : ℝ) : EReal) := fun b a j => by
      by_cases h0 : n % 16 = 0
      · unfold found15; rw [if_pos (hi ▸ clears_sums ⟨n, hn⟩ h0), h0, Finset.sum_range_zero]
        pointwise [k0_pay61]
        exact EReal.coe_zero.symm
      · unfold found15; rw [if_neg (hi ▸ keeps_sums ⟨n, hn⟩ h0), (ih (n - 1) (by omega) _).col]
        rw [show (n - 1) % 16 + 1 = n % 16 by omega, show (n - 1) / 16 = n / 16 by omega]
    have f16 : ∀ r l, found16 i (outsAt m c (n - 1) (Nat.lt_of_le_of_lt (Nat.sub_le _ _) hn)).2.2.2.2.2 (ix2 r l)
        = ((∑ k ∈ Finset.range (n % 4), (S (n / 16) (n / 4 % 4)).dqPart k r.val l : ℝ) : EReal) := fun r l => by
      by_cases h0 : n % 4 = 0
      · unfold found16; rw [if_pos (hi ▸ clears_dq ⟨n, hn⟩ h0), h0, Finset.sum_range_zero]
        pointwise [k0_pay59]
        exact EReal.coe_zero.symm
      · unfold found16; rw [if_neg (hi ▸ keeps_dq ⟨n, hn⟩ h0), (ih (n - 1) (by omega) _).scr]
        rw [show (n - 1) % 4 + 1 = n % 4 by omega, show (n - 1) / 16 = n / 16 by omega, show (n - 1) / 4 % 4 = n / 4 % 4 by omega]
    unfold point
    simp only [hi]
    have H := bodySt_held B (found14 i (outsAt m c (n - 1) (Nat.lt_of_le_of_lt (Nat.sub_le _ _) hn)).2.2.2.1) (found16 i (outsAt m c (n - 1) (Nat.lt_of_le_of_lt (Nat.sub_le _ _) hn)).2.2.2.2.2)
    generalize bodySt i (iblk m c 0 ⟨n, hn⟩) (iblk m c 3 ⟨n, hn⟩) (iblk m c 4 ⟨n, hn⟩) (iblk m c 5 ⟨n, hn⟩) (iblk m c 6 ⟨n, hn⟩) (iblk m c 1 ⟨n, hn⟩) (iblk m c 2 ⟨n, hn⟩) (iblk m c 7 ⟨n, hn⟩) (found14 i (outsAt m c (n - 1) (Nat.lt_of_le_of_lt (Nat.sub_le _ _) hn)).2.2.2.1) (found16 i (outsAt m c (n - 1) (Nat.lt_of_le_of_lt (Nat.sub_le _ _) hn)).2.2.2.2.2) = s at H
    have hdq : ∀ r l, s.2.2 (ix2 r l) = ((∑ k ∈ Finset.range (n % 4 + 1), (S (n / 16) (n / 4 % 4)).dqPart k r.val l : ℝ) : EReal) := fun r l => by
      rw [H.dq, f16, if_pos (by omega), ← EReal.coe_add, h2, Finset.sum_range_succ]
    refine ⟨fun r l => ?_, fun j l => ?_, fun j l => ?_, fun r l => ?_, fun b a j => ?_, hdq⟩
    · pointwise [k0_pay2]; exact hdq r l
    · pointwise [k0_pay118]; rw [H.dk, h2]
    · pointwise [k0_pay119]; rw [H.dv, h2]
    · dsimp only; rw [H.row, f14, if_pos (by omega), ← EReal.coe_add, h2, Finset.sum_range_succ, show n % 16 / 4 = n / 4 % 4 by omega, show n % 16 % 4 = n % 4 by omega]
    · dsimp only [outDck]
      rw [put_tile _ _ _ (off4_eq i), f15, Finset.sum_range_succ, show n % 16 / 4 = n / 4 % 4 by omega, show n % 16 % 4 = n % 4 by omega, h2]
      split <;> rename_i hb
      · rw [rowDck_at _ i B.n _ _ s H, show i 2 = b from Fin.ext (by omega), f15, ← EReal.coe_add, hb]
      · rw [add_zero]

end Cert.AttnBwdIdeal.Tile

end
-- ==== Proof.AttnHost.lean ====
module

public import proofs.«01_k».proof.Proof.AttnRef
public import proofs.«01_k».proof.Proof.AttnSums

@[expose] public section

set_option maxRecDepth 16384

noncomputable section

open Idealize.ShloMosaic Idealize.ShloMosaic.TcCoe Idealize.SL.Sem
open Idealize.ShloMosaic.Pipeline (Dat)

namespace Cert.AttnBwdIdeal.Tile

open Cert.AttnBwdIdeal Cert.AttnBwdIdeal.Gen
open Cert.Attn
open Cert.AttnGradIdeal.Value (packed column qV kV vV scoreV topV maxV expV sumV probV)

variable (m : (ℓ : Loc nD τ sig) → Buf (Elt Ideal) ℓ)

/-- The packed queries, keys and values, -/
def arg0 (c : Dev nD) : FVec Ideal S2x2048x1536 .f32 := m ((c.tc : Thread nD τ).loc main_arg0)

/-- the decays' running sums, -/
def arg1 (c : Dev nD) : FVec Ideal S2x8x2048 .f32 := m ((c.tc : Thread nD τ).loc main_arg1)

/-- the output's cotangent. -/
def arg2 (c : Dev nD) : FVec Ideal S2x2048x8x64 .f32 := m ((c.tc : Thread nD τ).loc main_arg2)

/-- A head's values as a column of lanes, padded. -/
def padV (x : FVec Ideal S2x8x2048 .f32) : FVec Ideal S4096x128 .f32 :=
  pad S4096x128 ![0, 0] ![0, 120] ![0, 0] (shapeCast S4096x8 (transpose S2x2048x8 [0, 2, 1] x transposes_S2x8x2048_S2x2048x8_0_2_1) shapeCasts_S2x2048x8_S4096x8) (sitofp (F := Ideal) .f32 (constantI S_ 32 0#32)) pads_S4096x8_S4096x128_000_01200 h_S_

/-- The forward's output. -/
def outV (a0 : FVec Ideal S2x2048x1536 .f32) (p : FVec Ideal S2x8x2048x2048 .f32) : FVec Ideal S4096x512 .bf16 :=
  truncf .bf16 (shapeCast S4096x512 (transpose S2x2048x8x64 [0, 3, 1, 2] (Host.dotGeneral dot_S2x2048x8x64_S2x8x2048x2048_S2x8x64x2048_1_3_3_2_02_01 none (vV a0) p) transposes_S2x8x64x2048_S2x2048x8x64_0_3_1_2) shapeCasts_S2x2048x8x64_S4096x512) bitsLt_bf16_f32

/-- The weights of the arguments. -/
def weightV (a0 : FVec Ideal S2x2048x1536 .f32) (a1 : FVec Ideal S2x8x2048 .f32) : FVec Ideal S2x8x2048x2048 .f32 :=
  probV (expV (scoreV a0 a1) (maxV (topV (scoreV a0 a1))))

/-- A shift and the logarithm of a sum. -/
def logV (u w : FVec Ideal S2x8x2048 .f32) : FVec Ideal S2x8x2048 .f32 := addf u (Host.log w)

/-- The forward's log-sum. -/
def lseV (s : FVec Ideal S2x8x2048x2048 .f32) : FVec Ideal S2x8x2048 .f32 :=
  logV (topV s) (sumV (expV s (topV s)))

/-- The decays of each key block, a head a row. -/
def rowV (x : FVec Ideal S4096x128 .f32) : FVec Ideal S2x4x8x512 .f32 :=
  transpose S2x4x8x512 [0, 1, 3, 2] (shapeCast S2x4x512x8 (extractStridedSlice S4096x8 ![0, 0] x slices_S4096x128_S4096x8_0_0) shapeCasts_S4096x8_S2x4x512x8) transposes_S2x4x512x8_S2x4x8x512_0_1_3_2

/-- What the host hands the launch: the forward's output, the decays, the packed arguments and the log-sum. -/
theorem host (c : Dev nD) : V m c main_v60 = outV (arg0 m c) (weightV (arg0 m c) (arg1 m c))
    ∧ V m c main_v63 = padV (arg1 m c)
    ∧ V m c main_v66 = rowV (padV (arg1 m c))
    ∧ V m c main_v68 = (truncf .bf16 (shapeCast S4096x1536 (arg0 m c) shapeCasts_S2x2048x1536_S4096x1536) bitsLt_bf16_f32 : FVec Ideal S4096x1536 .bf16)
    ∧ V m c main_v70 = (truncf .bf16 (shapeCast S4096x512 (arg2 m c) shapeCasts_S2x2048x8x64_S4096x512) bitsLt_bf16_f32 : FVec Ideal S4096x512 .bf16)
    ∧ V m c main_v73 = padV (lseV (scoreV (arg0 m c) (arg1 m c))) := by
  refine ⟨?_, ?_, ?_, ?_, ?_, ?_⟩ <;>
  simp only [V, List.flatten_cons, List.flatten_nil, List.append_nil, List.cons_append, List.nil_append, hostOps0, hostOps0_1,
    hostOps0_2, hostOps0_3, hostOps0_4, hostOps0_5, hostOps0_6, hostOps0_7, V0,
    StableHlo.TRef.binary, StableHlo.TRef.unary, StableHlo.TRef.toBuf, StableHlo.TRef.ofBuf, cast_eq] <;>
  after_results_simp <;> rfl

variable (X : Args) (c : Dev nD) (H : X.Reads (arg0 m c) (arg1 m c) (arg2 m c))

theorem pad_at (x : FVec Ideal S2x8x2048 .f32) (b : Fin 2) (r : Fin 2048) (l : Fin 128) :
    padV x (ix2 (packed b r) l) = if h : l.val < 8 then x (ix3 b ⟨l.val, h⟩ r) else 0 := by
  pointwise [padV, packed]
  have hr : 2048 * b.val + r.val < 4096 := by omega
  by_cases hl : l.val < 8
  · rw [dif_pos ⟨hr, hl⟩, dif_pos hl]
  · rw [dif_neg fun h => hl h.2, dif_neg hl]
    show (((0#32).toInt : ℝ) : EReal) = 0
    simp

theorem row_at (x : FVec Ideal S4096x128 .f32) (b : Fin 2) (n : Fin 4) (a : Fin 8) (j : Fin 512) :
    rowV x (ix4 b n a j) = x (ix2 (packed b ⟨512 * n.val + j.val, by omega⟩) ⟨a.val, by omega⟩) := by
  pointwise [rowV, packed]
  refine congrArg x ?_
  blk_ext

include H in
theorem score_fn : ∀ b h r j, scoreV (arg0 m c) (arg1 m c) (ix4 b h r j) = if j ≤ r then (X.score b h r j : EReal) else ⊥ :=
  fun b h r j => Cert.AttnGradIdeal.Value.score_at _ _ (arg2 m c) X H b h r j

include H in
theorem weight_at (b : Fin 2) (h : Fin 8) (r j : Fin 2048) : weightV (arg0 m c) (arg1 m c) (ix4 b h r j) = (X.prob b h r j : EReal) := by
  choose t ht using Cert.AttnGradIdeal.Value.real_max X _ (score_fn m X c H)
  exact Cert.AttnGradIdeal.Value.prob_at X _ t (Cert.AttnGradIdeal.Value.exp_at X _ _ (score_fn m X c H) t ht) b h r j

/-- The forward's output over reals. -/
def _root_.Cert.Attn.Args.out (X : Args) (b : Fin 2) (h : Fin 8) (r : Fin 2048) (d : Fin 64) : ℝ := ∑ j, X.v b h j d * X.prob b h r j

theorem outV_at (a0 : FVec Ideal S2x2048x1536 .f32) (a1 : FVec Ideal S2x8x2048 .f32) (a2 : FVec Ideal S2x2048x8x64 .f32) (H : X.Reads a0 a1 a2) (p : FVec Ideal S2x8x2048x2048 .f32)
    (hp : ∀ b h r j, p (ix4 b h r j) = (X.prob b h r j : EReal)) (b : Fin 2) (r : Fin 2048) (h : Fin 8) (d : Fin 64) :
    outV a0 p (ix2 (packed b r) (column h d)) = (X.out b h r d : EReal) := by
  pointwise [outV, packed, column, hp, Cert.AttnGradIdeal.Value.v_at a0 a1 a2 X H]
  simp only [Args.out, coe_sum, EReal.coe_mul]

include H in
theorem out_at (b : Fin 2) (r : Fin 2048) (h : Fin 8) (d : Fin 64) :
    V m c main_v60 (ix2 (packed b r) (column h d)) = (X.out b h r d : EReal) :=
  (congrFun (host m c).1 _).trans (outV_at X _ _ _ H _ (weight_at m X c H) b r h d)

theorem log_at (u w : FVec Ideal S2x8x2048 .f32) (b : Fin 2) (h : Fin 8) (r : Fin 2048) (t z : ℝ) (hu : u (ix3 b h r) = t) (hw : w (ix3 b h r) = ((Real.exp (-t) * z : ℝ) : EReal)) (hz : 0 < z) :
    logV u w (ix3 b h r) = (Real.log z : EReal) := by
  pointwise [logV, hu, hw]
  rw [Ideal.log_coe, if_neg (not_le.mpr (mul_pos (Real.exp_pos _) hz)), Real.log_mul (Real.exp_pos _).ne' hz.ne', Real.log_exp, ← EReal.coe_add]
  congr 1
  ring

include H in
theorem lse_at (b : Fin 2) (h : Fin 8) (r : Fin 2048) : lseV (scoreV (arg0 m c) (arg1 m c)) (ix3 b h r) = (Real.log (X.Z b h r) : EReal) := by
  generalize hs : scoreV (arg0 m c) (arg1 m c) = s
  have hs' := score_fn m X c H
  rw [hs] at hs'
  have top : ∀ b h r, ∃ t : ℝ, topV s (ix3 b h r) = t := by
    intro b h r
    obtain ⟨t, e⟩ := Cert.AttnGradIdeal.Value.fold_max_real (fun j => s (ix4 b h r j))
      (fun j => by rw [hs']; split; exacts [.inr ⟨_, rfl⟩, .inl rfl]) r (X.score b h r r) (by rw [hs', if_pos le_rfl])
    obtain ⟨z, ez, e1⟩ := Cert.AttnGradIdeal.Value.top_at s b h r
    subst ez
    exact ⟨t, e1.trans e⟩
  choose t ht using top
  exact log_at _ _ b h r (t b h r) _ (ht b h r) (Cert.AttnGradIdeal.Value.sum_at X _ t (Cert.AttnGradIdeal.Value.exp_at X s _ hs' t ht) b h r) (X.Z_pos b h r)

include H in
theorem arg_at (b : Fin 2) (r : Fin 2048) (k : Fin 1536) : V m c main_v68 (ix2 (packed b r) k) = (X.A b r k : EReal) := by
  rw [(host m c).2.2.2.1]
  pointwise [packed]
  refine (congrArg (arg0 m c) ?_).trans (H.A b r k)
  blk_ext

include H in
theorem ct_at (b : Fin 2) (r : Fin 2048) (h : Fin 8) (d : Fin 64) : V m c main_v70 (ix2 (packed b r) (column h d)) = (X.G b r h d : EReal) := by
  rw [(host m c).2.2.2.2.1]
  pointwise [packed, column]
  refine (congrArg (arg2 m c) ?_).trans (H.G b r h d)
  blk_ext

end Cert.AttnBwdIdeal.Tile

end
-- ==== Proof.AttnReal.lean ====
module

public import proofs.«01_k».proof.Proof.AttnHost

@[expose] public section

set_option maxRecDepth 16384

noncomputable section

open Idealize.ShloMosaic Idealize.ShloMosaic.TcCoe Idealize.SL.Sem
open Idealize.ShloMosaic.Pipeline (Dat)

namespace Cert.AttnBwdIdeal.Tile

open Cert.AttnBwdIdeal Cert.AttnBwdIdeal.Gen Cert.AttnBwdIdeal.Body Cert.Attn
open Cert.AttnGradIdeal.Value (packed column)

/-- Head `e` of pair `n`. -/
def pairHead (n : ℕ) (e : Fin 2) : Fin 8 := ⟨2 * (n % 4) + e.val, by omega⟩

/-- The head of a pair's lane, -/
def headAt (n : ℕ) (l : Fin 128) : Fin 8 := pairHead n (headOf l)

/-- the entry in the head, -/
def entry (l : Fin 128) : Fin 64 := ⟨l.val % 64, by omega⟩

/-- a sequence's row by its number, -/
def rowOf (r : ℕ) : Fin 2048 := ⟨r % 2048, by omega⟩

/-- and the sequence by its. -/
def seqNo (b : ℕ) : Fin 2 := ⟨b % 2, by omega⟩

/-- What sequence `b` hands the launch for the heads of pair `n`. -/
def seqOf (X : Args) (b n : ℕ) : Seq where
  Q r l := X.q (seqNo b) (headAt n l) (rowOf r) (entry l)
  K r l := X.k (seqNo b) (headAt n l) (rowOf r) (entry l)
  V r l := X.v (seqNo b) (headAt n l) (rowOf r) (entry l)
  O r l := X.out (seqNo b) (headAt n l) (rowOf r) (entry l)
  G r l := X.G (seqNo b) (rowOf r) (headAt n l) (entry l)
  C r l := if h : l.val < 8 then X.C (seqNo b) ⟨l.val, h⟩ (rowOf r) else 0
  L r l := if h : l.val < 8 then Real.log (X.Z (seqNo b) ⟨l.val, h⟩ (rowOf r)) else 0
  n := ⟨n % 4, by omega⟩

variable (X : Args) (b n : ℕ)

theorem rowOf_val (r : Fin 2048) : rowOf r.val = r := Fin.ext (Nat.mod_eq_of_lt r.isLt)

theorem headOf_lane (e : Fin 2) (d : Fin 64) : headOf (lane e d) = e := Fin.ext (by simp only [headOf, lane]; omega)

theorem entry_lane (e : Fin 2) (d : Fin 64) : entry (lane e d) = d := Fin.ext (by simp only [entry, lane]; omega)

/-- A sum over a head's lanes is one over its entries. -/
theorem half_eq (e : Fin 2) (f : Fin 8 → Fin 64 → ℝ) : half e (fun l => f (headAt n l) (entry l)) = ∑ d, f (pairHead n e) d := by
  unfold half headAt
  exact Finset.sum_congr rfl fun d _ => by beta_reduce; rw [headOf_lane, entry_lane]

theorem pick_lt (e : Fin 2) : ((seqOf X b n).pick e).val < 8 := (pairHead n e).isLt

/-- The weight from the saved log-sum is the attention weight. -/
theorem weight_eq (e : Fin 2) (r j : Fin 2048) : (seqOf X b n).weight e r.val j.val = X.prob (seqNo b) (pairHead n e) r j := by
  have hz := X.Z_pos (seqNo b) (pairHead n e) r
  refine if_congr Iff.rfl ?_ rfl
  have hC : ∀ i : Fin 2048, (seqOf X b n).C i.val ((seqOf X b n).pick e) = X.C (seqNo b) (pairHead n e) i :=
    fun i => (dif_pos (pick_lt X b n e)).trans (congrArg (X.C _ _) (rowOf_val i))
  have hL : (seqOf X b n).L r.val ((seqOf X b n).pick e) = Real.log (X.Z (seqNo b) (pairHead n e) r) :=
    (dif_pos (pick_lt X b n e)).trans (congrArg (fun i => Real.log (X.Z _ _ i)) (rowOf_val r))
  rw [hC, hC, hL]
  have hs : half e (fun l => (seqOf X b n).Q r.val l * (1 / 8) * (seqOf X b n).K j.val l) = (∑ d, X.q (seqNo b) (pairHead n e) r d * X.k (seqNo b) (pairHead n e) j d) * (1 / 8) := by
    refine (half_eq n e fun h d => X.q (seqNo b) h (rowOf r.val) d * (1 / 8) * X.k (seqNo b) h (rowOf j.val) d).trans ?_
    rw [Finset.sum_mul, rowOf_val, rowOf_val]
    exact Finset.sum_congr rfl fun d _ => by ring
  rw [hs, show ∀ s C L D : ℝ, s + (C - L) - D = (s + C - D) - L by intros; ring, Real.exp_sub, Real.exp_log hz]
  rfl

/-- The kernel's gradient of a score is the attention's. -/
theorem grad_eq (e : Fin 2) (r j : Fin 2048) : (seqOf X b n).grad e r.val j.val = X.dscore (seqNo b) (pairHead n e) r j := by
  unfold Seq.grad Args.dscore
  rw [weight_eq]
  have h1 : half e (fun l => (seqOf X b n).G r.val l * (seqOf X b n).V j.val l) = X.dprob (seqNo b) (pairHead n e) r j := by
    refine (half_eq n e fun h d => X.G (seqNo b) (rowOf r.val) h d * X.v (seqNo b) h (rowOf j.val) d).trans ?_
    rw [rowOf_val, rowOf_val]
    rfl
  have h2 : half e (fun l => (seqOf X b n).G r.val l * (seqOf X b n).O r.val l) = ∑ i, X.prob (seqNo b) (pairHead n e) r i * X.dprob (seqNo b) (pairHead n e) r i := by
    refine (half_eq n e fun h d => X.G (seqNo b) (rowOf r.val) h d * X.out (seqNo b) h (rowOf r.val) d).trans ?_
    simp only [rowOf_val, Args.out, Args.dprob, Finset.mul_sum]
    rw [Finset.sum_comm]
    exact Finset.sum_congr rfl fun i _ => Finset.sum_congr rfl fun d _ => by ring
  rw [h1, h2]

/-- The sum over the key tiles. -/
theorem sum_tiles (f : ℕ → ℝ) : ∑ k ∈ Finset.range 4, ∑ j : Fin 512, f (512 * k + j.val) = ∑ i : Fin 2048, f i.val := by
  rw [Finset.sum_range fun k => ∑ j : Fin 512, f (512 * k + j.val), ← Fintype.sum_prod_type']
  refine Fintype.sum_equiv (finProdFinEquiv (m := 4) (n := 512)) _ _ fun x => ?_
  simp [finProdFinEquiv, add_comm]

theorem sum_rows (f : ℕ → ℝ) : upTo 4 f = ∑ i : Fin 2048, f i.val := Finset.sum_range f

/-- The sum over the points of a sequence by its heads' pairs and key tiles. -/
theorem sum_points (f : ℕ → ℕ → ℝ) : ∑ u ∈ Finset.range 16, f (u / 4) (u % 4) = ∑ n ∈ Finset.range 4, ∑ k ∈ Finset.range 4, f n k := by
  simp [Finset.sum_range_succ]
  ring

theorem dq_sum (r : Fin 2048) (l : Fin 128) : ∑ k ∈ Finset.range 4, (seqOf X b n).dqPart k r.val l
    = ∑ j, X.dscore (seqNo b) (headAt n l) r j * X.k (seqNo b) (headAt n l) j (entry l) * (1 / 8) := by
  refine (sum_tiles fun j => (seqOf X b n).grad (headOf l) r.val j * (seqOf X b n).K j l * (1 / 8)).trans (Finset.sum_congr rfl fun j _ => ?_)
  rw [grad_eq, show (seqOf X b n).K j.val l = X.k (seqNo b) (headAt n l) (rowOf j.val) (entry l) from rfl, rowOf_val]
  rfl

theorem dk_sum (j : Fin 2048) (l : Fin 128) : upTo 4 (fun r => (seqOf X b n).Q r l * (1 / 8) * (seqOf X b n).grad (headOf l) r j.val)
    = ∑ i, X.q (seqNo b) (headAt n l) i (entry l) * (1 / 8) * X.dscore (seqNo b) (headAt n l) i j := by
  refine (sum_rows _).trans (Finset.sum_congr rfl fun i _ => ?_)
  rw [grad_eq, show (seqOf X b n).Q i.val l = X.q (seqNo b) (headAt n l) (rowOf i.val) (entry l) from rfl, rowOf_val]
  rfl

theorem dv_sum (j : Fin 2048) (l : Fin 128) : upTo 4 (fun r => (seqOf X b n).G r l * (seqOf X b n).weight (headOf l) r j.val)
    = ∑ i, X.G (seqNo b) i (headAt n l) (entry l) * X.prob (seqNo b) (headAt n l) i j := by
  refine (sum_rows _).trans (Finset.sum_congr rfl fun i _ => ?_)
  rw [weight_eq, show (seqOf X b n).G i.val l = X.G (seqNo b) (rowOf i.val) (headAt n l) (entry l) from rfl, rowOf_val]
  rfl

/-- A head's number from its pair. -/
theorem pairHead_eq (a : Fin 8) : pairHead (a.val / 2) (parity a.val) = a := Fin.ext (by simp only [pairHead, parity]; omega)

theorem row_sum (r : Fin 2048) (l : Fin 128) : ∑ u ∈ Finset.range 16, (seqOf X b (u / 4)).rowPart (u % 4) r.val l
    = if h : l.val < 8 then ∑ j, X.dscore (seqNo b) ⟨l.val, h⟩ r j else 0 := by
  rw [sum_points fun n k => (seqOf X b n).rowPart k r.val l]
  have e : ∀ n ∈ Finset.range 4, ∑ k ∈ Finset.range 4, (seqOf X b n).rowPart k r.val l
      = if l.val / 2 = n then ∑ j, X.dscore (seqNo b) (pairHead n (parity l.val)) r j else 0 := by
    intro n hn
    have hn' : n % 4 = n := Nat.mod_eq_of_lt (Finset.mem_range.mp hn)
    unfold Seq.rowPart
    rw [show ((seqOf X b n).n.val) = n from hn']
    by_cases h : l.val / 2 = n
    · simp only [if_pos h]
      exact (sum_tiles fun j => (seqOf X b n).grad (parity l.val) r.val j).trans (Finset.sum_congr rfl fun j _ => grad_eq X b n _ r j)
    · simp only [if_neg h, Finset.sum_const_zero]
  rw [Finset.sum_congr rfl e, Finset.sum_ite_eq]
  by_cases h : l.val < 8
  · rw [if_pos (Finset.mem_range.mpr (by omega)), dif_pos h, pairHead_eq ⟨l.val, h⟩]
  · rw [if_neg (fun hm => by have := Finset.mem_range.mp hm; omega), dif_neg h]

theorem col_sum (k : Fin 4) (a : Fin 8) (j : Fin 512) : (∑ u ∈ Finset.range 16, if k.val = u % 4 then -(seqOf X b (u / 4)).colPart (u % 4) a.val j else 0)
    = -∑ i, X.dscore (seqNo b) a i ⟨512 * k.val + j.val, by omega⟩ := by
  rw [sum_points fun n k' => if k.val = k' then -(seqOf X b n).colPart k' a.val j else 0]
  have e : ∀ n ∈ Finset.range 4, (∑ k' ∈ Finset.range 4, if k.val = k' then -(seqOf X b n).colPart k' a.val j else 0)
      = if a.val / 2 = n then -∑ i, X.dscore (seqNo b) (pairHead n (parity a.val)) i ⟨512 * k.val + j.val, by omega⟩ else 0 := by
    intro n hn
    have hn' : n % 4 = n := Nat.mod_eq_of_lt (Finset.mem_range.mp hn)
    rw [Finset.sum_ite_eq, if_pos (Finset.mem_range.mpr k.isLt)]
    unfold Seq.colPart
    rw [show ((seqOf X b n).n.val) = n from hn']
    split
    · exact congrArg Neg.neg ((sum_rows _).trans (Finset.sum_congr rfl fun i _ => grad_eq X b n _ i ⟨512 * k.val + j.val, by omega⟩))
    · exact neg_zero
  rw [Finset.sum_congr rfl e, Finset.sum_ite_eq, if_pos (Finset.mem_range.mpr (by omega)), pairHead_eq a]

end Cert.AttnBwdIdeal.Tile

end
-- ==== Proof.AttnValue.lean ====
module

public import proofs.«01_k».proof.Proof.AttnReal

@[expose] public section

set_option maxRecDepth 16384

noncomputable section

open Idealize.ShloMosaic Idealize.ShloMosaic.TcCoe Idealize.SL.Sem
open Idealize.ShloMosaic.Pipeline (Dat)

namespace Cert.AttnBwdIdeal.Tile

open Cert.AttnBwdIdeal Cert.AttnBwdIdeal.Gen Cert.AttnBwdIdeal.Body Cert.Attn
open Cert.AttnGradIdeal.Value (packed column)

variable (m : (ℓ : Loc nD τ sig) → Buf (Elt Ideal) ℓ)

theorem idx : ∀ t : Fin cfg0.N, win0_0.index t = ![t.val / 16, t.val / 4 % 4]
    ∧ win0_1.index t = ![t.val / 16 * 4 + t.val % 4, 4 + t.val / 4 % 4]
    ∧ win0_2.index t = ![t.val / 16 * 4 + t.val % 4, 8 + t.val / 4 % 4]
    ∧ win0_3.index t = ![t.val / 16, t.val / 4 % 4]
    ∧ win0_4.index t = ![t.val / 16, t.val / 4 % 4]
    ∧ win0_5.index t = ![t.val / 16, 0]
    ∧ win0_6.index t = ![t.val / 16, 0]
    ∧ win0_7.index t = ![t.val / 16, t.val % 4, 0, 0]
    ∧ win0_8.index t = ![t.val / 16, t.val / 4 % 4]
    ∧ win0_9.index t = ![t.val / 16 * 4 + t.val % 4, t.val / 4 % 4]
    ∧ win0_10.index t = ![t.val / 16 * 4 + t.val % 4, t.val / 4 % 4]
    ∧ win0_11.index t = ![t.val / 16, 0]
    ∧ win0_12.index t = ![t.val / 16, 0, 0, 0] :=
  (by decide +kernel : ∀ t : Fin grid0.N, _)

theorem lt32 (t : Fin cfg0.N) : t.val < 32 := t.isLt.trans_eq (by decide : cfg0.N = 32)

variable (X : Args) (c : Dev nD) (t : Fin cfg0.N)

theorem read0 (r : Fin 2048) (l : Fin 128) : iblk m c 0 t (ix2 r l) = V m c main_v68 (ix2 (⟨t.val / 16 * 2048 + r.val, by have := lt32 t; omega⟩ : Fin 4096) (⟨t.val / 4 % 4 * 128 + l.val, by have := lt32 t; omega⟩ : Fin 1536)) := by
  refine congrArg (V m c main_v68) ?_
  blk_ext [idx t]

theorem read1 (r : Fin 512) (l : Fin 128) : iblk m c 1 t (ix2 r l) = V m c main_v68 (ix2 (⟨(t.val / 16 * 4 + t.val % 4) * 512 + r.val, by have := lt32 t; omega⟩ : Fin 4096) (⟨(4 + t.val / 4 % 4) * 128 + l.val, by have := lt32 t; omega⟩ : Fin 1536)) := by
  refine congrArg (V m c main_v68) ?_
  blk_ext [idx t]

theorem read2 (r : Fin 512) (l : Fin 128) : iblk m c 2 t (ix2 r l) = V m c main_v68 (ix2 (⟨(t.val / 16 * 4 + t.val % 4) * 512 + r.val, by have := lt32 t; omega⟩ : Fin 4096) (⟨(8 + t.val / 4 % 4) * 128 + l.val, by have := lt32 t; omega⟩ : Fin 1536)) := by
  refine congrArg (V m c main_v68) ?_
  blk_ext [idx t]

theorem read3 (r : Fin 2048) (l : Fin 128) : iblk m c 3 t (ix2 r l) = V m c main_v60 (ix2 (⟨t.val / 16 * 2048 + r.val, by have := lt32 t; omega⟩ : Fin 4096) (⟨t.val / 4 % 4 * 128 + l.val, by have := lt32 t; omega⟩ : Fin 512)) := by
  refine congrArg (V m c main_v60) ?_
  blk_ext [idx t]

theorem read4 (r : Fin 2048) (l : Fin 128) : iblk m c 4 t (ix2 r l) = V m c main_v70 (ix2 (⟨t.val / 16 * 2048 + r.val, by have := lt32 t; omega⟩ : Fin 4096) (⟨t.val / 4 % 4 * 128 + l.val, by have := lt32 t; omega⟩ : Fin 512)) := by
  refine congrArg (V m c main_v70) ?_
  blk_ext [idx t]

theorem read5 (r : Fin 2048) (l : Fin 128) : iblk m c 5 t (ix2 r l) = V m c main_v73 (ix2 (⟨t.val / 16 * 2048 + r.val, by have := lt32 t; omega⟩ : Fin 4096) (⟨l.val, by have := lt32 t; omega⟩ : Fin 128)) := by
  refine congrArg (V m c main_v73) ?_
  blk_ext [idx t]

theorem read6 (r : Fin 2048) (l : Fin 128) : iblk m c 6 t (ix2 r l) = V m c main_v63 (ix2 (⟨t.val / 16 * 2048 + r.val, by have := lt32 t; omega⟩ : Fin 4096) (⟨l.val, by have := lt32 t; omega⟩ : Fin 128)) := by
  refine congrArg (V m c main_v63) ?_
  blk_ext [idx t]

theorem read7 (a : Fin 8) (j : Fin 512) : iblk m c 7 t (ix4 0 0 a j) = V m c main_v66 (ix4 (⟨t.val / 16, by have := lt32 t; omega⟩ : Fin 2) (⟨t.val % 4, by omega⟩ : Fin 4) a j) := by
  refine congrArg (V m c main_v66) ?_
  blk_ext [idx t]

/-- A place of the packed arrays by its head and entry. -/
theorem place {n : ℕ} (r r' : Fin 4096) (l l' : Fin n) (hr : r.val = r'.val) (hl : l.val = l'.val) : ix2 r l = ix2 r' l' :=
  congrArg₂ ix2 (Fin.ext hr) (Fin.ext hl)

variable (H : X.Reads (arg0 m c) (arg1 m c) (arg2 m c))

include H in
/-- The blocks of a point hold its sequence's values. -/
theorem blocks : Blocks (seqOf X (t.val / 16) (t.val / 4 % 4)) (grid0.coords t) (iblk m c 0 t) (iblk m c 3 t) (iblk m c 4 t) (iblk m c 5 t) (iblk m c 6 t) (iblk m c 1 t) (iblk m c 2 t) (iblk m c 7 t) := by
  have ht := lt32 t
  have h2 := (coords_eq t).1
  have h1 := (coords_eq t).2
  generalize grid0.coords t = i at h1 h2
  constructor
  · refine Fin.ext ?_
    show t.val / 4 % 4 % 4 = _
    exact (Nat.mod_mod _ _).trans h1.symm
  · intro r l
    refine (read0 m c t r l).trans ((congrArg (V m c main_v68) (place _ (packed (seqNo (t.val / 16)) (rowOf r.val)) _ ⟨64 * (headAt (t.val / 4 % 4) l).val + (entry l).val, by simp only [headAt, pairHead, headOf, entry]; omega⟩ ?_ ?_)).trans (arg_at m X c H _ _ _)) <;>
      simp only [packed, seqNo, rowOf, headAt, pairHead, headOf, entry] <;> omega
  · intro r l
    refine (read3 m c t r l).trans ((congrArg (V m c main_v60) (place _ (packed (seqNo (t.val / 16)) (rowOf r.val)) _ (column (headAt (t.val / 4 % 4) l) (entry l)) ?_ ?_)).trans (out_at m X c H _ _ _ _)) <;>
      simp only [packed, column, seqNo, rowOf, headAt, pairHead, headOf, entry] <;> omega
  · intro r l
    refine (read4 m c t r l).trans ((congrArg (V m c main_v70) (place _ (packed (seqNo (t.val / 16)) (rowOf r.val)) _ (column (headAt (t.val / 4 % 4) l) (entry l)) ?_ ?_)).trans (ct_at m X c H _ _ _ _)) <;>
      simp only [packed, column, seqNo, rowOf, headAt, pairHead, headOf, entry] <;> omega
  · intro r l
    refine (read5 m c t r l).trans ((congrArg (V m c main_v73) (place _ (packed (seqNo (t.val / 16)) (rowOf r.val)) _ l ?_ rfl)).trans ((congrFun (host m c).2.2.2.2.2 _).trans ((pad_at _ _ _ _).trans ?_)))
    · simp only [packed, seqNo, rowOf]; omega
    · simp only [seqOf]
      split
      · exact lse_at m X c H _ _ _
      · exact EReal.coe_zero.symm
  · intro r l
    refine (read6 m c t r l).trans ((congrArg (V m c main_v63) (place _ (packed (seqNo (t.val / 16)) (rowOf r.val)) _ l ?_ rfl)).trans ((congrFun (host m c).2.1 _).trans ((pad_at _ _ _ _).trans ?_)))
    · simp only [packed, seqNo, rowOf]; omega
    · simp only [seqOf]
      split
      · exact H.C _ _ _
      · exact EReal.coe_zero.symm
  · intro r l
    refine (read1 m c t r l).trans ((congrArg (V m c main_v68) (place _ (packed (seqNo (t.val / 16)) (rowOf (512 * (i 2).val + r.val))) _ ⟨512 + (64 * (headAt (t.val / 4 % 4) l).val + (entry l).val), by simp only [headAt, pairHead, headOf, entry]; omega⟩ ?_ ?_)).trans (arg_at m X c H _ _ _)) <;>
      simp only [packed, seqNo, rowOf, headAt, pairHead, headOf, entry, h2] <;> omega
  · intro r l
    refine (read2 m c t r l).trans ((congrArg (V m c main_v68) (place _ (packed (seqNo (t.val / 16)) (rowOf (512 * (i 2).val + r.val))) _ ⟨1024 + (64 * (headAt (t.val / 4 % 4) l).val + (entry l).val), by simp only [headAt, pairHead, headOf, entry]; omega⟩ ?_ ?_)).trans (arg_at m X c H _ _ _)) <;>
      simp only [packed, seqNo, rowOf, headAt, pairHead, headOf, entry, h2] <;> omega
  · intro a j
    refine (read7 m c t a j).trans ((congrFun (host m c).2.2.1 _).trans ((row_at _ _ _ _ _).trans ((pad_at _ _ _ _).trans ?_)))
    simp only [seqOf]
    rw [dif_pos a.isLt, dif_pos a.isLt]
    refine (H.C _ _ _).trans (congrArg (fun x : ℝ => (x : EReal)) ?_)
    refine congr (congrFun (congrArg X.C (Fin.ext ?_)) _) (Fin.ext ?_) <;> simp only [seqNo, rowOf, h2] <;> omega

end Cert.AttnBwdIdeal.Tile

end
-- ==== Proof.AttnFinal.lean ====
module

public import proofs.«01_k».proof.Proof.AttnValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnBwdIdeal.Tile

open Cert.AttnBwdIdeal Cert.AttnBwdIdeal.Gen Cert.AttnBwdIdeal.Body Cert.Attn
open Cert.AttnGradIdeal.Value (packed column)

variable (m : (ℓ : Loc nD τ sig) → Buf (Elt Ideal) ℓ)

theorem flush8 : ∀ t : Fin cfg0.N, (cfg0.win 8).flush t = true → t.val % 4 = 3 :=
  (by decide +kernel : ∀ t : Fin grid0.N, win0_8.flush t = true → t.val % 4 = 3)

theorem flush11 : ∀ t : Fin cfg0.N, (cfg0.win 11).flush t = true → t.val % 16 = 15 :=
  (by decide +kernel : ∀ t : Fin grid0.N, win0_11.flush t = true → t.val % 16 = 15)

theorem flush12 : ∀ t : Fin cfg0.N, (cfg0.win 12).flush t = true → t.val % 16 = 15 :=
  (by decide +kernel : ∀ t : Fin grid0.N, win0_12.flush t = true → t.val % 16 = 15)

variable (X : Args) (c : Dev nD) (H : X.Reads (arg0 m c) (arg1 m c) (arg2 m c))

include H in
/-- The launch's outputs after a point, over the arguments. -/
theorem outs (t : Fin cfg0.N) : Inv (seqOf X) t.val (outsAt m c t.val t.isLt) :=
  inv m c (seqOf X) (fun t => blocks m X c t H) t.val t.isLt

variable (T : FVec Ideal S4096x512 .bf16)

include H in
/-- Result 0: the queries' gradient. -/
theorem final8 (hT : ∀ b r h d, T (ix2 (packed b r) (column h d)) = ((∑ j, X.dscore b h r j * X.k b h j d * (1 / 8) : ℝ) : EReal)) :
    (dats m 0 c).arrAt 8 (cfgs 0).N = T := by
  refine (dats m 0 c).arrAt_eq_of_covers 8 _ (by decide +kernel) fun t hf y => ?_
  have h3 : t.val % 4 = 3 := flush8 t hf
  have ht := lt32 t
  blk_simp
  rw [after0_8]
  idx_vars y
  refine ((outs m X c H t).dq y0 y1).trans ?_
  rw [h3, dq_sum]
  refine (hT _ _ _ _).symm.trans (congrArg T ?_)
  refine Eq.trans ?_ (eq_ix2 _).symm
  refine place _ _ _ _ ?_ ?_ <;> blk_simp [idx t] <;> simp only [packed, column, seqNo, headAt, pairHead, headOf, entry] <;> omega

include H in
/-- Result 1: the keys'. -/
theorem final9 (hT : ∀ b r h d, T (ix2 (packed b r) (column h d)) = ((∑ i, X.q b h i d * (1 / 8) * X.dscore b h i r : ℝ) : EReal)) :
    (dats m 0 c).arrAt 9 (cfgs 0).N = T := by
  refine (dats m 0 c).arrAt_eq_of_covers 9 _ (by decide +kernel) fun t hf y => ?_
  have ht := lt32 t
  blk_simp
  rw [after0_9]
  idx_vars y
  refine ((outs m X c H t).dk y0 y1).trans ?_
  rw [show 512 * (t.val % 4) + y0.val = (⟨512 * (t.val % 4) + y0.val, by omega⟩ : Fin 2048).val from rfl, dk_sum]
  refine (hT _ _ _ _).symm.trans (congrArg T ?_)
  refine Eq.trans ?_ (eq_ix2 _).symm
  refine place _ _ _ _ ?_ ?_ <;> blk_simp [idx t] <;> simp only [packed, column, seqNo, headAt, pairHead, headOf, entry] <;> omega

include H in
/-- Result 2: the values'. -/
theorem final10 (hT : ∀ b r h d, T (ix2 (packed b r) (column h d)) = ((∑ i, X.G b i h d * X.prob b h i r : ℝ) : EReal)) :
    (dats m 0 c).arrAt 10 (cfgs 0).N = T := by
  refine (dats m 0 c).arrAt_eq_of_covers 10 _ (by decide +kernel) fun t hf y => ?_
  have ht := lt32 t
  blk_simp
  rw [after0_10]
  idx_vars y
  refine ((outs m X c H t).dv y0 y1).trans ?_
  rw [show 512 * (t.val % 4) + y0.val = (⟨512 * (t.val % 4) + y0.val, by omega⟩ : Fin 2048).val from rfl, dv_sum]
  refine (hT _ _ _ _).symm.trans (congrArg T ?_)
  refine Eq.trans ?_ (eq_ix2 _).symm
  refine place _ _ _ _ ?_ ?_ <;> blk_simp [idx t] <;> simp only [packed, column, seqNo, headAt, pairHead, headOf, entry] <;> omega

include H in
/-- The rows' sums of the scores' gradient. -/
theorem final11 (R : FVec Ideal S4096x128 .f32) (hR : ∀ b r l, R (ix2 (packed b r) l) = ((if h : l.val < 8 then ∑ j, X.dscore b ⟨l.val, h⟩ r j else 0 : ℝ) : EReal)) :
    (dats m 0 c).arrAt 11 (cfgs 0).N = R := by
  refine (dats m 0 c).arrAt_eq_of_covers 11 _ (by decide +kernel) fun t hf y => ?_
  have h15 : t.val % 16 = 15 := flush11 t hf
  have ht := lt32 t
  blk_simp
  rw [after0_11]
  idx_vars y
  refine ((outs m X c H t).row y0 y1).trans ?_
  rw [h15, row_sum]
  refine (hR _ _ _).symm.trans (congrArg R ?_)
  refine Eq.trans ?_ (eq_ix2 _).symm
  refine place _ _ _ _ ?_ ?_ <;> blk_simp [idx t] <;> simp only [packed, seqNo] <;> omega

include H in
/-- The columns' sums, less. -/
theorem final12 (R : FVec Ideal S2x4x8x512 .f32) (hR : ∀ b (k : Fin 4) a (j : Fin 512), R (ix4 b k a j) = ((-∑ i, X.dscore b a i ⟨512 * k.val + j.val, by omega⟩ : ℝ) : EReal)) :
    (dats m 0 c).arrAt 12 (cfgs 0).N = R := by
  refine (dats m 0 c).arrAt_eq_of_covers 12 _ (by decide +kernel) fun t hf y => ?_
  have h15 : t.val % 16 = 15 := flush12 t hf
  have ht := lt32 t
  blk_simp
  rw [after0_12]
  idx_vars y
  rw [show y0 = 0 from Subsingleton.elim _ _]
  refine ((outs m X c H t).col y1 y2 y3).trans ?_
  rw [h15, col_sum]
  refine (hR _ _ _ _).symm.trans (congrArg R ?_)
  blk_ext [idx t, seqNo]

/-- The rows' and the columns' sums together, the columns' brought to lanes. -/
def bothV (x : FVec Ideal S4096x128 .f32) (y : FVec Ideal S2x4x8x512 .f32) : FVec Ideal S4096x128 .f32 :=
  addf x (pad S4096x128 ![0, 0] ![0, 120] ![0, 0] (shapeCast S4096x8 (transpose S2x4x512x8 [0, 1, 3, 2] y transposes_S2x4x8x512_S2x4x512x8_0_1_3_2) shapeCasts_S2x4x512x8_S4096x8) (sitofp (F := Ideal) .f32 (constantI S_ 32 0#32)) pads_S4096x8_S4096x128_000_01200 h_S_)

theorem tail : Pipeline.afterTail₀ cfgs (dats m) 0 (V0 m) [hostOps1, hostOps1_1, hostOps1_2] c main_v78
    = bothV ((dats m 0 c).arrAt 11 (cfgs 0).N) ((dats m 0 c).arrAt 12 (cfgs 0).N) := by
  have e11 := Pipeline.withArrays_arr_shared spec0 c (V0 m c) (fun w => (dats m 0 c).arrAt w (cfgs 0).N) (fun w w' h e => (dats m 0 c).arrAt_sharedIn (by decide) (V0 m c) (A_eq m c) _ w w' h e) 11
  have e12 := Pipeline.withArrays_arr_shared spec0 c (V0 m c) (fun w => (dats m 0 c).arrAt w (cfgs 0).N) (fun w w' h e => (dats m 0 c).arrAt_sharedIn (by decide) (V0 m c) (A_eq m c) _ w w' h e) 12
  rw [← e11, ← e12]
  unfold Pipeline.afterTail₀
  generalize Pipeline.withArrays (cfgs 0).spec c (V0 m c) (fun w => (dats m 0 c).arrAt w (cfgs 0).N) = V1
  simp only [List.flatten_cons, List.flatten_nil, List.append_nil, List.cons_append, List.nil_append, hostOps1, hostOps1_1, hostOps1_2,
    StableHlo.TRef.binary, StableHlo.TRef.unary, StableHlo.TRef.toBuf, StableHlo.TRef.ofBuf, cast_eq]
  after_results_simp <;> rfl

end Cert.AttnBwdIdeal.Tile

end
-- ==== Proof.AttnClaim.lean ====
/- Attention's backward kernel computes the derivative of the masked softmax attention with decays. -/
module

public import proofs.«01_k».proof.Defs
public import proofs.«01_k».proof.Proof.AttnFinal
public import proofs.«01_k».proof.Proof.Gen.Pre_finite_attn
public import proofs.«01_k».proof.Proof.Gen.AttnGradIdeal.Run

@[expose] public section

set_option maxRecDepth 16384

noncomputable section

open Idealize.ShloMosaic Idealize.ShloMosaic.TcCoe Idealize.SL.Sem

namespace Cert.AttnGradIdeal.Value

open Cert.AttnGradIdeal Cert.AttnGradIdeal.Gen Cert.Attn

variable (a0 : FVec Ideal S2x2048x1536 .f32) (a1 : FVec Ideal S2x8x2048 .f32) (a2 : FVec Ideal S2x2048x8x64 .f32)

/-- The reference's exponentials, -/
def exps : FVec Ideal S2x8x2048x2048 .f32 := expV (scoreV a0 a1) (maxV (topV (scoreV a0 a1)))

/-- its scores' gradient, -/
def grads : FVec Ideal S2x8x2048x2048 .f32 := dscoreV (dprobV a0 a2) (exps a0 a1)

/-- and its four results. -/
def refQ : FVec Ideal S4096x512 .bf16 := dqV a0 (grads a0 a1 a2)

def refK : FVec Ideal S4096x512 .bf16 := dkV a0 (grads a0 a1 a2)

def refV : FVec Ideal S4096x512 .bf16 := dvV a2 (probV (exps a0 a1))

def refC : FVec Ideal S4096x128 .f32 := dcumV (grads a0 a1 a2)

variable (X : Args) (H : X.Reads a0 a1 a2)

include H in
theorem exps_at : ∃ t : Fin 2 → Fin 8 → Fin 2048 → ℝ, ∀ b h r j, exps a0 a1 (ix4 b h r j) = (ex X (t b h r) b h r j : EReal) := by
  choose t ht using real_max X _ (score_at a0 a1 a2 X H)
  exact ⟨t, exp_at X _ _ (score_at a0 a1 a2 X H) t ht⟩

include H in
theorem grads_at (b : Fin 2) (h : Fin 8) (r j : Fin 2048) : grads a0 a1 a2 (ix4 b h r j) = (X.dscore b h r j : EReal) := by
  obtain ⟨t, ht⟩ := exps_at a0 a1 a2 X H
  exact dscore_at X _ t ht _ (dprob_at a0 a1 a2 X H) b h r j

include H in
theorem probs_at (b : Fin 2) (h : Fin 8) (r j : Fin 2048) : probV (exps a0 a1) (ix4 b h r j) = (X.prob b h r j : EReal) := by
  obtain ⟨t, ht⟩ := exps_at a0 a1 a2 X H
  exact prob_at X _ t ht b h r j

/-- The reference's run returns them. -/
theorem res_eq (m : (ℓ : Loc nD τ sig) → Buf (Elt Ideal) ℓ) (c : Dev nD) :
    res_main_v84 m c = refQ (m ((c.tc : Thread nD τ).loc main_arg0)) (m ((c.tc : Thread nD τ).loc main_arg1)) (m ((c.tc : Thread nD τ).loc main_arg2))
    ∧ res_main_v86 m c = refK (m ((c.tc : Thread nD τ).loc main_arg0)) (m ((c.tc : Thread nD τ).loc main_arg1)) (m ((c.tc : Thread nD τ).loc main_arg2))
    ∧ res_main_v88 m c = refV (m ((c.tc : Thread nD τ).loc main_arg0)) (m ((c.tc : Thread nD τ).loc main_arg1)) (m ((c.tc : Thread nD τ).loc main_arg2))
    ∧ res_main_v91 m c = refC (m ((c.tc : Thread nD τ).loc main_arg0)) (m ((c.tc : Thread nD τ).loc main_arg1)) (m ((c.tc : Thread nD τ).loc main_arg2)) :=
  ⟨rfl, rfl, rfl, rfl⟩

end Cert.AttnGradIdeal.Value

namespace Cert.AttnBwdIdeal.Tile

open Cert.AttnBwdIdeal Cert.AttnBwdIdeal.Gen Cert.AttnBwdIdeal.Body Cert.Attn
open Cert.AttnGradIdeal.Value (packed column refQ refK refV refC grads grads_at probs_at)

variable (m : (ℓ : Loc nD τ sig) → Buf (Elt Ideal) ℓ)

/-- The run's results: the launch's arrays, and what the host makes of the last two. -/
theorem run_results (ρ : Dev nD → PrngReg) : θ_run defs (onTc (τ := τ) (main (F := Ideal))) ⟨m, fun _ => 0, ρ⟩ fun r => ∀ c : Dev nD,
      r.2.mem ((c.tc : Thread nD τ).loc main_v74_0) = (dats m 0 c).arrAt 8 (cfgs 0).N
      ∧ r.2.mem ((c.tc : Thread nD τ).loc main_v74_1) = (dats m 0 c).arrAt 9 (cfgs 0).N
      ∧ r.2.mem ((c.tc : Thread nD τ).loc main_v74_2) = (dats m 0 c).arrAt 10 (cfgs 0).N
      ∧ r.2.mem ((c.tc : Thread nD τ).loc main_v78) = bothV ((dats m 0 c).arrAt 11 (cfgs 0).N) ((dats m 0 c).arrAt 12 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 8, (h.1 c).1 9, (h.1 c).1 10,
    ((h.1 c).2 main_v78 (Pipeline.mem_restRefs_of main_v78 (by decide) (by decide))).trans (tail m c),
    h.2.1 c⟩) (θ_run_and (run_main m ρ) (frame m ρ))

variable (X : Args) (c : Dev nD) (H : X.Reads (arg0 m c) (arg1 m c) (arg2 m c))

theorem bothV_at (x : FVec Ideal S4096x128 .f32) (y : FVec Ideal S2x4x8x512 .f32) (b : Fin 2) (r : Fin 2048) (l : Fin 128) :
    bothV x y (ix2 (packed b r) l) = x (ix2 (packed b r) l) + if h : l.val < 8 then y (ix4 b ⟨r.val / 512, by omega⟩ ⟨l.val, h⟩ ⟨r.val % 512, by omega⟩) else 0 := by
  pointwise [bothV, packed]
  have hr : 2048 * b.val + r.val < 4096 := by omega
  refine congrArg (_ + ·) ?_
  by_cases hl : l.val < 8
  · rw [dif_pos ⟨hr, hl⟩, dif_pos hl]
    refine congrArg y ?_
    blk_ext
  · rw [dif_neg fun h => hl h.2, dif_neg hl]
    show (((0#32).toInt : ℝ) : EReal) = 0
    simp

/-- The rows' sums as an array, -/
def rowArr : FVec Ideal S4096x128 .f32 := fun i =>
  ((if h : (i 1).val < 8 then ∑ j, X.dscore (seqNo ((i 0).val / 2048)) ⟨(i 1).val, h⟩ (rowOf (i 0).val) j else 0 : ℝ) : EReal)

/-- and the columns'. -/
def colArr : FVec Ideal S2x4x8x512 .f32 := fun i =>
  ((-∑ r, X.dscore (i 0) (i 2) r (rowOf (512 * (i 1).val + (i 3).val)) : ℝ) : EReal)

theorem rowArr_at (b : Fin 2) (r : Fin 2048) (l : Fin 128) : rowArr X (ix2 (packed b r) l) = ((if h : l.val < 8 then ∑ j, X.dscore b ⟨l.val, h⟩ r j else 0 : ℝ) : EReal) := by
  have e0 : seqNo ((2048 * b.val + r.val) / 2048) = b := Fin.ext (by simp only [seqNo]; omega)
  have e1 : rowOf (2048 * b.val + r.val) = r := Fin.ext (by simp only [rowOf]; omega)
  show ((if h : l.val < 8 then ∑ j, X.dscore (seqNo ((2048 * b.val + r.val) / 2048)) ⟨l.val, h⟩ (rowOf (2048 * b.val + r.val)) j else 0 : ℝ) : EReal) = _
  rw [e0, e1]

theorem colArr_at (b : Fin 2) (k : Fin 4) (a : Fin 8) (j : Fin 512) : colArr X (ix4 b k a j) = ((-∑ i, X.dscore b a i ⟨512 * k.val + j.val, by omega⟩ : ℝ) : EReal) := by
  have e1 : rowOf (512 * k.val + j.val) = ⟨512 * k.val + j.val, by omega⟩ := Fin.ext (by simp only [rowOf]; omega)
  show ((-∑ r, X.dscore b a r (rowOf (512 * k.val + j.val)) : ℝ) : EReal) = _
  rw [e1]

theorem both_eq (X : Args) (g : FVec Ideal S2x8x2048x2048 .f32)
    (hg : ∀ b h r j, g (ix4 b h r j) = (X.dscore b h r j : EReal)) (b : Fin 2) (r : Fin 2048) (l : Fin 128) :
    bothV (rowArr X) (colArr X) (ix2 (packed b r) l) = Cert.AttnGradIdeal.Value.dcumV g (ix2 (packed b r) l) := by
  refine (bothV_at _ _ _ _ _).trans (Eq.trans ?_ (Cert.AttnGradIdeal.Value.dcum_at X _ hg _ _ _).symm)
  rw [rowArr_at]
  by_cases hl : l.val < 8
  · simp only [dif_pos hl]
    rw [colArr_at, ← EReal.coe_add, sub_eq_add_neg, show (⟨512 * (r.val / 512) + r.val % 512, by omega⟩ : Fin 2048) = r from Fin.ext (Nat.div_add_mod _ _)]
  · simp only [dif_neg hl]
    exact add_zero _

include H in
/-- The four results are the reference's. -/
theorem results : (dats m 0 c).arrAt 8 (cfgs 0).N = refQ (arg0 m c) (arg1 m c) (arg2 m c)
    ∧ (dats m 0 c).arrAt 9 (cfgs 0).N = refK (arg0 m c) (arg1 m c) (arg2 m c)
    ∧ (dats m 0 c).arrAt 10 (cfgs 0).N = refV (arg0 m c) (arg1 m c) (arg2 m c)
    ∧ bothV ((dats m 0 c).arrAt 11 (cfgs 0).N) ((dats m 0 c).arrAt 12 (cfgs 0).N) = refC (arg0 m c) (arg1 m c) (arg2 m c) := by
  have hg := grads_at _ _ _ X H
  refine ⟨final8 m X c H _ fun b r h d => Cert.AttnGradIdeal.Value.dq_at _ _ _ X _ hg H b r h d, final9 m X c H _ fun b r h d => Cert.AttnGradIdeal.Value.dk_at _ _ _ X _ hg H b r h d,
    final10 m X c H _ fun b r h d => Cert.AttnGradIdeal.Value.dv_at _ _ _ X H _ (probs_at _ _ _ X H) b r h d, ?_⟩
  rw [final11 m X c H _ (rowArr_at X), final12 m X c H _ (colArr_at X)]
  funext i
  have hi : i = ix2 (packed (seqNo ((i 0).val / 2048)) (rowOf (i 0).val)) (i 1) :=
    (eq_ix2 i).trans (place _ _ _ _ (by have h : (i 0).val < 4096 := (i 0).isLt; simp only [packed, seqNo, rowOf]; omega) rfl)
  exact (congrArg _ hi).trans ((both_eq X _ hg _ _ _).trans (congrArg (refC (arg0 m c) (arg1 m c) (arg2 m c)) hi.symm))

end Cert.AttnBwdIdeal.Tile

namespace Cert.Proof

open Cert.AttnBwdIdeal Cert.AttnBwdIdeal.Tile Cert.Attn

/-- The precondition: the arguments are real numbers. -/
theorem attn_reals (m : (ℓ : Loc nD τ sig) → Buf (Elt Ideal) ℓ) (h : Cert.Pre_AttnBwdIdeal_finite_attn m) (c : Dev nD) :
    ∃ X : Args, X.Reads (arg0 m c) (arg1 m c) (arg2 m c) := by
  choose f hf using (Cert.Finite.reals _ _ (h c).1 : ∀ i, ∃ x : ℝ, arg0 m c i = x)
  choose g hg using (Cert.Finite.reals _ _ (h c).2.1 : ∀ i, ∃ x : ℝ, arg1 m c i = x)
  choose k hk using (Cert.Finite.reals _ _ (h c).2.2 : ∀ i, ∃ x : ℝ, arg2 m c i = x)
  exact ⟨⟨fun b s j => f (ix3 b s j), fun b h s => g (ix3 b h s), fun b s h d => k (ix4 b s h d)⟩,
    ⟨fun b s j => hf _, fun b h s => hg _, fun b s h d => hk _⟩⟩

set_option maxHeartbeats 4000000 in
theorem algebraic_attn : Cert.algebraic_AttnBwdIdeal_AttnGradIdeal_pre_finite_attn := by
  pair_intro
  · run_from Cert.AttnBwdIdeal.Tile.run_results m g
  · run_from Cert.AttnGradIdeal.Value.run m' g'
    all_goals
      obtain ⟨e0, e1, e2⟩ := hagree c
      obtain ⟨X, H⟩ := attn_reals m hpre c
    · refine Eq.trans ?_ (results m X c H).1.symm
      exact (Cert.AttnGradIdeal.Value.res_eq m' c).1.trans (congr (congr (congrArg Cert.AttnGradIdeal.Value.refQ e0) e1) e2)
    · refine Eq.trans ?_ (results m X c H).2.1.symm
      exact (Cert.AttnGradIdeal.Value.res_eq m' c).2.1.trans (congr (congr (congrArg Cert.AttnGradIdeal.Value.refK e0) e1) e2)
    · refine Eq.trans ?_ (results m X c H).2.2.1.symm
      exact (Cert.AttnGradIdeal.Value.res_eq m' c).2.2.1.trans (congr (congr (congrArg Cert.AttnGradIdeal.Value.refV e0) e1) e2)
    · refine Eq.trans ?_ (results m X c H).2.2.2.symm
      exact (Cert.AttnGradIdeal.Value.res_eq m' c).2.2.2.trans (congr (congr (congrArg Cert.AttnGradIdeal.Value.refC e0) e1) e2)

/-- The reference is host operations only: its run leaves the arguments alone, and it declares no semaphore. -/
theorem frame_attn_grad : Cert.quiescent_AttnGradIdeal := fun m ρ _ =>
  (θ_run Cert.AttnGradIdeal.defs _ _).mono (fun r h => ⟨fun c => (h c).2.2.2.2, sem_eq_zero_of_no_sems (by decide) r.2⟩)
    (Cert.AttnGradIdeal.Value.run (F := Ideal) m ρ)

end Cert.Proof

end
-- ==== Proof.AttnFrames.lean ====
module

public import proofs.«01_k».proof.Defs
public import proofs.«01_k».proof.Proof.AttnFrame
public import proofs.«01_k».proof.Proof.Gen.AttnBwd.Frame

@[expose] public section

set_option maxRecDepth 16384

/-! The frames of the attention gradient, both read off the one run. -/

namespace Cert.Proof.Attn

open Idealize.ShloMosaic Idealize.SL.Sem

set_option maxHeartbeats 4000000 in
/-- The frame over bits: the program is the same text. -/
theorem frame_attn : Cert.quiescent_AttnBwd := fun m ρ _ => by
  refine cast ?_ (Cert.AttnBwdIdeal.Body.frame (F := Bits) m ρ)
  sl_kernel_rfl

/-- The frame over the ideal values. -/
theorem frame_attn_ideal : Cert.quiescent_AttnBwdIdeal := fun m ρ _ => Cert.AttnBwdIdeal.Body.frame (F := Ideal) m ρ

end Cert.Proof.Attn
-- ==== Proof.MixOutSpec.lean ====
/- The gradient of the gated output projections, entry by entry, over rows of tokens. -/
module

public import proofs.«01_k».proof.Proof.Sums
public import Idealize.ShloMosaic.Lib.Pipeline.ValueKit

@[expose] public section

noncomputable section

open Idealize.ShloMosaic

namespace Cert.MixOut

/-- The gate. -/
def gateOf (z : EReal) : EReal := Ideal.div 1 (1 + Ideal.exp (-z))

/-- A matrix's entries. -/
def mat {n p : ℕ} (v : (⟨2, ![n, p]⟩ : Shape).Idx → EReal) (i : Fin n) (j : Fin p) : EReal := v (ix2 i j)

/-- A batch of two sequences as rows of tokens. -/
def rows {p : ℕ} (v : (⟨3, ![2, 2048, p]⟩ : Shape).Idx → EReal) (i : Fin 4096) (j : Fin p) : EReal :=
  v (ix3 ⟨i.val / 2048, by omega⟩ ⟨i.val % 2048, by omega⟩ j)

/-- One half of the gates' columns. -/
def half (v : (⟨3, ![2, 2048, 2048]⟩ : Shape).Idx → EReal) (k : ℕ) (hk : k ≤ 1024) (i : Fin 4096) (j : Fin 1024) : EReal :=
  rows v i ⟨k + j.val, by omega⟩

variable {n p q : ℕ}

/-- The product of two matrices. -/
def prod (u : Fin n → Fin p → EReal) (w : Fin p → Fin q → EReal) (r : Fin n) (j : Fin q) : EReal := ∑ x, u r x * w x j

/-- The product with a transposed matrix. -/
def prodT (u : Fin n → Fin p → EReal) (w : Fin q → Fin p → EReal) (r : Fin n) (j : Fin q) : EReal := ∑ x, u r x * w j x

/-- A weight's gradient: a sum over all rows. -/
def wGrad (u : Fin n → Fin p → EReal) (v : Fin n → Fin q → EReal) (i : Fin p) (j : Fin q) : EReal := ∑ r, u r i * v r j

/-- The cotangent behind a gate. -/
def gated (d g : Fin n → Fin p → EReal) (r : Fin n) (j : Fin p) : EReal := d r j * gateOf (g r j)

/-- A gate's gradient. -/
def gateGrad (d y g : Fin n → Fin p → EReal) (r : Fin n) (j : Fin p) : EReal := d r j * y r j * (gateOf (g r j) * (1 - gateOf (g r j)))

/-- Both branches behind their gates, added. -/
def merged (ga ya gc yc : Fin n → Fin p → EReal) (r : Fin n) (j : Fin p) : EReal := gateOf (ga r j) * ya r j + gateOf (gc r j) * yc r j

/-- A weight's gradient over rows taken tile by tile. -/
theorem wGrad_tiles {N : ℕ} (a b : ℕ) (hN : N = a * b) (u : Fin N → Fin p → EReal) (v : Fin N → Fin q → EReal) (i : Fin p) (j : Fin q)
    (e : Fin a → Fin b → Fin N) (he : ∀ t r, (e t r).val = b * t.val + r.val) :
    (∑ t : Fin a, wGrad (fun r => u (e t r)) (fun r => v (e t r)) i j) = wGrad u v i j := by
  refine Eq.trans ?_ (Cert.Sums.tiles a b hN fun r => u r i * v r j)
  refine Finset.sum_congr rfl fun t _ => Finset.sum_congr rfl fun r _ => ?_
  exact congrArg (fun x => u x i * v x j) (Fin.ext (he t r))

end Cert.MixOut

end
-- ==== Proof.MixOutRef.lean ====
/- The reference of the gated output projections' gradient, entry by entry. -/
module

public import proofs.«01_k».proof.Proof.MixOutSpec
public import proofs.«01_k».proof.Proof.Gen.MixOutGradIdeal.Run

@[expose] public section

set_option maxRecDepth 16384

noncomputable section

open Idealize.ShloMosaic Idealize.ShloMosaic.TcCoe Idealize.SL.Sem

namespace Cert.MixOutGradIdeal.Value

open Cert.MixOutGradIdeal Cert.MixOutGradIdeal.Gen Cert.MixOut

variable (O : FVec Ideal S2x2048x512 .f32) (G : FVec Ideal S2x2048x2048 .f32) (A : FVec Ideal S512x1024 .f32)
  (W : FVec Ideal S1024x1024 .f32) (X Z M : FVec Ideal S2x2048x1024 .f32) (b : Fin 2) (s : Fin 2048) (j : Fin 1024)

/-- The constant one. -/
def oneV : FVec Ideal S2x2048x1024 .f32 := broadcastInDim S2x2048x1024 ![] bcast_S_S2x2048x1024 (constant S_ .f32 0x3F800000#32)

/-- The gate at a logit array. -/
def sigV : FVec Ideal S2x2048x1024 .f32 := Host.divf oneV (addf oneV (Host.exp (Host.negf Z)))

theorem sigV_at : sigV Z (ix3 b s j) = gateOf (Z (ix3 b s j)) := by
  pointwise [sigV, oneV, gateOf]

/-- The cotangent of what the last product takes. -/
def dmV : FVec Ideal S2x2048x1024 .f32 := Host.dotGeneral dot_S2x2048x1024_S1024x1024_S2x2048x1024_2_1_01_0_n_n none X W

theorem dmV_at : dmV W X (ix3 b s j) = ∑ x, X (ix3 b s x) * W (ix2 j x) := by
  pointwise [dmV]

/-- A branch before its gate. -/
def projV : FVec Ideal S2x2048x1024 .f32 := Host.dotGeneral dot_S2x2048x512_S512x1024_S2x2048x1024_2_0_01_1_n_n none O A

theorem projV_at : projV O A (ix3 b s j) = ∑ x, O (ix3 b s x) * A (ix2 x j) := by
  pointwise [projV]

/-- A branch's gradient. -/
def inV : FVec Ideal S4096x512 .bf16 :=
  truncf .bf16 (shapeCast _ (Host.dotGeneral dot_S2x2048x1024_S512x1024_S2x2048x512_2_1_01_0_n_n none (mulf (sigV Z) (dmV W X)) A) shapeCasts_S2x2048x512_S4096x512) bitsLt_bf16_f32

theorem inV_eq : inV A W X Z = fun i => prodT (gated (prodT (rows X) (mat W)) (rows Z)) (mat A) (i 0) (i 1) := by
  funext i
  idx_vars i
  pointwise [inV, sigV_at, dmV_at, prodT, gated, rows, mat]
  exact Finset.sum_congr rfl fun x _ => congrArg (· * _) (mul_comm _ _)

/-- A branch's weights' gradient. -/
def weightV : FVec Ideal S512x1024 .bf16 :=
  truncf .bf16 (transpose S512x1024 [1, 0] (Host.dotGeneral dot_S2x2048x1024_S2x2048x512_S1024x512_01_01_2_2_n_n none (mulf (sigV Z) (dmV W X)) O) transposes_S1024x512_S512x1024_1_0) bitsLt_bf16_f32

theorem weightV_eq : weightV O W X Z = fun i => wGrad (rows O) (gated (prodT (rows X) (mat W)) (rows Z)) (i 0) (i 1) := by
  funext i
  idx_vars i
  pointwise [weightV, sigV_at, dmV_at, wGrad, prodT, gated, rows, mat]
  refine (Cert.Sums.pairs _).trans (Finset.sum_congr rfl fun x _ => ?_)
  exact (mul_comm _ _).trans (congrArg (_ * ·) (mul_comm _ _))

/-- One gate's gradient. -/
def gateV (O : FVec Ideal S2x2048x512 .f32) (A : FVec Ideal S512x1024 .f32) (W : FVec Ideal S1024x1024 .f32)
    (X Z : FVec Ideal S2x2048x1024 .f32) : FVec Ideal S2x2048x1024 .f32 :=
  mulf (mulf (dmV W X) (projV O A)) (mulf (sigV Z) (subf oneV (sigV Z)))

theorem gateV_at : gateV O A W X Z (ix3 b s j)
    = (∑ x, X (ix3 b s x) * W (ix2 j x)) * (∑ x, O (ix3 b s x) * A (ix2 x j)) * (gateOf (Z (ix3 b s j)) * (1 - gateOf (Z (ix3 b s j)))) := by
  pointwise [gateV, sigV_at, dmV_at, projV_at, oneV]

/-- Both gates' logits, from the columns of one array. -/
def leftV : FVec Ideal S2x2048x1024 .f32 := extractStridedSlice S2x2048x1024 ![0, 0, 0] G slices_S2x2048x2048_S2x2048x1024_0_0_0

def rightV : FVec Ideal S2x2048x1024 .f32 := extractStridedSlice S2x2048x1024 ![0, 0, 1024] G slices_S2x2048x2048_S2x2048x1024_0_0_1024

theorem leftV_rows : rows (leftV G) = half G 0 (by omega) := by
  funext i j
  pointwise [leftV, half, rows]

theorem rightV_rows : rows (rightV G) = half G 1024 (by omega) := by
  funext i j
  pointwise [rightV, half, rows]

/-- Both gates' gradients, side by side. -/
def gatesV (Y : FVec Ideal S2x2048x512 .f32) (B : FVec Ideal S512x1024 .f32) : FVec Ideal S4096x2048 .bf16 :=
  truncf .bf16 (shapeCast _ (concatenate S2x2048x2048 2 [⟨S2x2048x1024, gateV O A W X (leftV G)⟩, ⟨S2x2048x1024, gateV Y B W X (rightV G)⟩] concatenates_S2x2048x1024_S2x2048x1024_S2x2048x2048_d2) shapeCasts_S2x2048x2048_S4096x2048) bitsLt_bf16_f32

theorem gatesV_eq (Y : FVec Ideal S2x2048x512 .f32) (B : FVec Ideal S512x1024 .f32) : gatesV O G A W X Y B = fun i =>
    if h : (i 1).val < 1024 then gateGrad (prodT (rows X) (mat W)) (prod (rows O) (mat A)) (half G 0 (by omega)) (i 0) ⟨(i 1).val, h⟩
    else gateGrad (prodT (rows X) (mat W)) (prod (rows Y) (mat B)) (half G 1024 (by omega)) (i 0) ⟨(i 1).val - 1024, by have := (i 1).isLt; simp at this; omega⟩ := by
  funext i
  idx_vars i
  rw [← leftV_rows, ← rightV_rows]
  pointwise [gatesV, gateV_at, gateGrad, prod, prodT, rows, mat]

/-- The last product's weight gradient. -/
def outV (Y : FVec Ideal S2x2048x512 .f32) (B : FVec Ideal S512x1024 .f32) : FVec Ideal S1024x1024 .bf16 :=
  truncf .bf16 (transpose S1024x1024 [1, 0] (Host.dotGeneral dot_S2x2048x1024_S2x2048x1024_S1024x1024_01_01_2_2_n_n none X (addf (mulf (sigV (leftV G)) (projV O A)) (mulf (sigV (rightV G)) (projV Y B)))) transposes_S1024x1024_S1024x1024_1_0) bitsLt_bf16_f32

theorem outV_eq (Y : FVec Ideal S2x2048x512 .f32) (B : FVec Ideal S512x1024 .f32) : outV O G A X Y B = fun i =>
    wGrad (merged (half G 0 (by omega)) (prod (rows O) (mat A)) (half G 1024 (by omega)) (prod (rows Y) (mat B))) (rows X) (i 0) (i 1) := by
  funext i
  idx_vars i
  rw [← leftV_rows, ← rightV_rows]
  pointwise [outV, sigV_at, projV_at, wGrad, merged, prod, rows, mat]
  exact (Cert.Sums.pairs _).trans (Finset.sum_congr rfl fun x _ => mul_comm _ _)

end Cert.MixOutGradIdeal.Value

end
-- ==== Proof.MixOutValue.lean ====
/- What the backward kernel of the gated output projections leaves in its results, entry by entry. -/
module

public import proofs.«01_k».proof.Proof.MixOutSpec
public import proofs.«01_k».proof.Proof.Gen.MixOutBwdIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOutBwdIdeal.Value

open Cert.MixOutBwdIdeal Cert.MixOutBwdIdeal.Gen Cert.MixOut

section Body

variable (X : FVec Ideal S512x1024 .f32) (O C : FVec Ideal S512x512 .bf16) (G H : FVec Ideal S512x1024 .bf16)
  (A B : FVec Ideal S512x1024 .bf16) (W : FVec Ideal S1024x1024 .bf16) (r : Fin 512)

/-- The gate of a tile, as the body takes it. -/
theorem gate_at (j : Fin 1024) : k0_pay15 (F := Ideal) G (ix2 r j) = gateOf (mat G r j) := by
  pointwise [k0_pay15, gateOf, mat]
  rw [zero_sub]

/-- The other gate, whose quotient the body takes later. -/
theorem gate'_eq : k0_pay17 (F := Ideal) (k0_pay16 G) (Scalar.ofBits .f32 0x3F800000#32) = k0_pay15 G := rfl

theorem dm_at (j : Fin 1024) : k0_pay19 (F := Ideal) (k0_pay10 X) W (ix2 r j) = prodT (mat X) (mat W) r j := by
  pointwise [k0_pay19, k0_pay10, prodT, mat]

theorem in_at (h : Fin 512) : k0_pay24 (F := Ideal) (k0_pay10 X) (k0_pay15 G) W A (ix2 r h)
    = prodT (gated (prodT (mat X) (mat W)) (mat G)) (mat A) r h := by
  pointwise [k0_pay24, k0_pay20, gate_at, dm_at]
  rfl

theorem in'_eq : k0_pay25 (F := Ideal) (k0_pay10 X) (k0_pay16 G) (Scalar.ofBits .f32 0x3F800000#32) W A
    = k0_pay24 (k0_pay10 X) (k0_pay15 G) W A := rfl

theorem proj_at (j : Fin 1024) : k0_pay13 (F := Ideal) O A (ix2 r j) = prod (mat O) (mat A) r j := by
  pointwise [k0_pay13, k0_pay11, prod, mat]

theorem proj'_eq : k0_pay14 (F := Ideal) O A = k0_pay13 O A := rfl

theorem dgate_at (j : Fin 1024) : k0_pay22 (F := Ideal) (k0_pay10 X) (k0_pay13 O A) (k0_pay15 G) W (ix2 r j)
    = gateGrad (prodT (mat X) (mat W)) (prod (mat O) (mat A)) (mat G) r j := by
  pointwise [k0_pay22, gate_at, dm_at, proj_at, gateGrad]
  exact mul_assoc _ _ _

theorem dgate'_eq : k0_pay23 (F := Ideal) (k0_pay10 X) (k0_pay14 O A) (k0_pay16 G) (Scalar.ofBits .f32 0x3F800000#32) W
    = k0_pay22 (k0_pay10 X) (k0_pay13 O A) (k0_pay15 G) W := rfl

theorem weight_at (P : FVec Ideal S512x1024 .f32) (i : Fin 512) (j : Fin 1024) :
    k0_pay1 (F := Ideal) (k0_pay11 O) (k0_pay20 (k0_pay10 X) (k0_pay15 G) W) P (ix2 i j)
      = P (ix2 i j) + wGrad (mat O) (gated (prodT (mat X) (mat W)) (mat G)) i j := by
  pointwise [k0_pay1, k0_pay11, k0_pay20, gate_at, dm_at]
  rfl

theorem weight'_eq (P : FVec Ideal S512x1024 .f32) :
    k0_pay2 (F := Ideal) (k0_pay12 O) (k0_pay21 (k0_pay10 X) (k0_pay16 G) (Scalar.ofBits .f32 0x3F800000#32) W) P
      = k0_pay1 (k0_pay11 O) (k0_pay20 (k0_pay10 X) (k0_pay15 G) W) P := rfl

theorem merged_at (j : Fin 1024) : k0_pay18 (F := Ideal) (k0_pay13 O A) (k0_pay14 C B) (k0_pay15 G) (k0_pay16 H) (Scalar.ofBits .f32 0x3F800000#32) (ix2 r j)
    = merged (mat G) (prod (mat O) (mat A)) (mat H) (prod (mat C) (mat B)) r j := by
  refine (show _ = k0_pay15 (F := Ideal) G (ix2 r j) * k0_pay13 (F := Ideal) O A (ix2 r j) + k0_pay15 (F := Ideal) H (ix2 r j) * k0_pay13 (F := Ideal) C B (ix2 r j) from rfl).trans ?_
  rw [gate_at, gate_at, proj_at, proj_at]
  rfl

theorem tn_at (Y : FVec Ideal S512x1024 .bf16) (P : FVec Ideal S1024x1024 .f32) (i j : Fin 1024) :
    k0_pay3 (F := Ideal) (k0_pay10 X) Y P (ix2 i j) = P (ix2 i j) + wGrad (mat Y) (mat X) i j := by
  pointwise [k0_pay3, k0_pay10]
  rfl

theorem out_at (P : FVec Ideal S1024x1024 .f32) (i j : Fin 1024) :
    k0_pay3 (F := Ideal) (k0_pay10 X) (k0_pay18 (k0_pay13 O A) (k0_pay14 C B) (k0_pay15 G) (k0_pay16 H) (Scalar.ofBits .f32 0x3F800000#32)) P (ix2 i j)
      = P (ix2 i j) + wGrad (merged (mat G) (prod (mat O) (mat A)) (mat H) (prod (mat C) (mat B))) (mat X) i j := by
  refine (tn_at X _ P i j).trans (congrArg (P (ix2 i j) + ·) (Finset.sum_congr rfl fun r _ => congrArg (· * _) ?_))
  exact merged_at O C G H A B r i

theorem zero_at (i : Fin 512) (j : Fin 1024) : k0_pay7 (F := Ideal) (ix2 i j) = 0 := by
  pointwise [k0_pay7]

theorem zero'_at (i : Fin 1024) (j : Fin 1024) : k0_pay9 (F := Ideal) (ix2 i j) = 0 := by
  pointwise [k0_pay9]

end Body

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0]
    ∧ win0_3.index t = ![t.val, 3] ∧ win0_4.index t = ![t.val, 4] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, 0] ∧ win0_12.index t = ![0, 0] ∧ win0_13.index t = ![0, 0] :=
  (by decide +kernel : ∀ t : Fin grid0.N, _)

/-- The grid has eight points. -/
theorem lt8 (t : Fin cfg0.N) : t.val < 8 := lt_of_lt_of_eq t.isLt N_0

/-- The arguments as one reads them. -/
abbrev argO (c : Dev nD) : FVec Ideal S2x2048x512 .f32 := m ((c : Thread nD τ).loc main_arg0)
abbrev argC (c : Dev nD) : FVec Ideal S2x2048x512 .f32 := m ((c : Thread nD τ).loc main_arg1)
abbrev argG (c : Dev nD) : FVec Ideal S2x2048x2048 .f32 := m ((c : Thread nD τ).loc main_arg2)
abbrev argA (c : Dev nD) : FVec Ideal S512x1024 .f32 := m ((c : Thread nD τ).loc main_arg3)
abbrev argB (c : Dev nD) : FVec Ideal S512x1024 .f32 := m ((c : Thread nD τ).loc main_arg4)
abbrev argW (c : Dev nD) : FVec Ideal S1024x1024 .f32 := m ((c : Thread nD τ).loc main_arg5)
abbrev argX (c : Dev nD) : FVec Ideal S2x2048x1024 .f32 := m ((c : Thread nD τ).loc main_arg6)

theorem host (c : Dev nD) :
    V m c main_v4 = (shapeCast S4096x1024 (argX m c) shapeCasts_S2x2048x1024_S4096x1024 : FVec Ideal S4096x1024 .f32)
    ∧ V m c main_v3 = (truncf .bf16 (concatenate S4096x5120 1 [⟨S4096x3072, broadcastInDim S4096x3072 ![] bcast_S_S4096x3072 (constant S_ .f32 0x00000000#32)⟩, ⟨S4096x2048, shapeCast S4096x2048 (argG m c) shapeCasts_S2x2048x2048_S4096x2048⟩] concatenates_S4096x3072_S4096x2048_S4096x5120_d1) bitsLt_bf16_f32 : FVec Ideal S4096x5120 .bf16)
    ∧ V m c main_v6 = (truncf .bf16 (shapeCast S4096x512 (argO m c) shapeCasts_S2x2048x512_S4096x512) bitsLt_bf16_f32 : FVec Ideal S4096x512 .bf16)
    ∧ V m c main_v8 = (truncf .bf16 (shapeCast S4096x512 (argC m c) shapeCasts_S2x2048x512_S4096x512) bitsLt_bf16_f32 : FVec Ideal S4096x512 .bf16)
    ∧ V m c main_v9 = (truncf .bf16 (argA m c) bitsLt_bf16_f32 : FVec Ideal S512x1024 .bf16)
    ∧ V m c main_v10 = (truncf .bf16 (argB m c) bitsLt_bf16_f32 : FVec Ideal S512x1024 .bf16)
    ∧ V m c main_v11 = (truncf .bf16 (argW m c) bitsLt_bf16_f32 : FVec Ideal S1024x1024 .bf16) := by
  refine ⟨?_, ?_, ?_, ?_, ?_, ?_, ?_⟩ <;> simp only [V, List.flatten_cons, List.flatten_nil, List.append_nil, List.cons_append, List.nil_append,
    hostOps0, StableHlo.TRef.binary, StableHlo.TRef.unary, StableHlo.TRef.toBuf, StableHlo.TRef.ofBuf, cast_eq] <;>
    after_results_simp <;> rfl

/-- The rows of the tokens' arrays as the host lays them out. -/
theorem castX_at (v : FVec Ideal S2x2048x1024 .f32) (p : Fin 4096) (j : Fin 1024) :
    shapeCast S4096x1024 v shapeCasts_S2x2048x1024_S4096x1024 (ix2 p j) = rows v p j := by
  pointwise [rows]

theorem castO_at (v : FVec Ideal S2x2048x512 .f32) (p : Fin 4096) (j : Fin 512) :
    truncf .bf16 (shapeCast S4096x512 v shapeCasts_S2x2048x512_S4096x512) bitsLt_bf16_f32 (ix2 p j) = rows v p j := by
  pointwise [rows]

theorem castG_at (v : FVec Ideal S2x2048x2048 .f32) (z : FVec Ideal S4096x3072 .f32) (k : ℕ) (hk : k ≤ 1024) (p : Fin 4096) (j : Fin 1024) :
    truncf .bf16 (concatenate S4096x5120 1 [⟨S4096x3072, z⟩, ⟨S4096x2048, shapeCast S4096x2048 v shapeCasts_S2x2048x2048_S4096x2048⟩] concatenates_S4096x3072_S4096x2048_S4096x5120_d1) bitsLt_bf16_f32
      (ix2 p ⟨3072 + k + j.val, by omega⟩) = half v k hk p j := by
  pointwise [rows, half]
  rw [dif_neg (by omega)]
  exact congrArg (fun x => v (ix3 _ _ x)) (Fin.ext (by dsimp only; omega))

section Blocks

variable (c : Dev nD) (t : Fin cfg0.N)

/-- A row of a tile as a row of the whole. -/
def row (r : Fin 512) : Fin 4096 := ⟨512 * t.val + r.val, by have := lt8 t; omega⟩

theorem blk0 : mat (show FVec Ideal S512x1024 .f32 from iblk m c 0 t) = fun r => rows (argX m c) (row t r) := by
  funext r j
  refine (congrArg (V m c main_v4) (?_ : _ = ix2 (row t r) j)).trans ((congrFun (host m c).1 _).trans (castX_at _ _ _))
  blk_ext [idx t]
  exact congrArg (· + r.val) (Nat.mul_comm _ _)

theorem blk1 : mat (show FVec Ideal S512x512 .bf16 from iblk m c 1 t) = fun r => rows (argO m c) (row t r) := by
  funext r j
  refine (congrArg (V m c main_v6) (?_ : _ = ix2 (row t r) j)).trans ((congrFun (host m c).2.2.1 _).trans (castO_at _ _ _))
  blk_ext [idx t]
  exact congrArg (· + r.val) (Nat.mul_comm _ _)

theorem blk2 : mat (show FVec Ideal S512x512 .bf16 from iblk m c 2 t) = fun r => rows (argC m c) (row t r) := by
  funext r j
  refine (congrArg (V m c main_v8) (?_ : _ = ix2 (row t r) j)).trans ((congrFun (host m c).2.2.2.1 _).trans (castO_at _ _ _))
  blk_ext [idx t]
  exact congrArg (· + r.val) (Nat.mul_comm _ _)

theorem blk3 : mat (show FVec Ideal S512x1024 .bf16 from iblk m c 3 t) = fun r => half (argG m c) 0 (by omega) (row t r) := by
  funext r j
  refine (congrArg (V m c main_v3) (?_ : _ = ix2 (row t r) ⟨3072 + 0 + j.val, by omega⟩)).trans ((congrFun (host m c).2.1 _).trans (castG_at _ _ 0 (by omega) _ _))
  blk_ext [idx t]
  exact congrArg (· + r.val) (Nat.mul_comm _ _)

theorem blk4 : mat (show FVec Ideal S512x1024 .bf16 from iblk m c 4 t) = fun r => half (argG m c) 1024 (by omega) (row t r) := by
  funext r j
  refine (congrArg (V m c main_v3) (?_ : _ = ix2 (row t r) ⟨3072 + 1024 + j.val, by omega⟩)).trans ((congrFun (host m c).2.1 _).trans (castG_at _ _ 1024 (by omega) _ _))
  blk_ext [idx t]
  exact congrArg (· + r.val) (Nat.mul_comm _ _)

theorem blk5 : mat (show FVec Ideal S512x1024 .bf16 from iblk m c 5 t) = mat (argA m c) := by
  funext r j
  refine (congrArg (V m c main_v9) (?_ : _ = ix2 r j)).trans (congrFun (host m c).2.2.2.2.1 _)
  blk_ext [idx t]

theorem blk6 : mat (show FVec Ideal S512x1024 .bf16 from iblk m c 6 t) = mat (argB m c) := by
  funext r j
  refine (congrArg (V m c main_v10) (?_ : _ = ix2 r j)).trans (congrFun (host m c).2.2.2.2.2.1 _)
  blk_ext [idx t]

theorem blk7 : mat (show FVec Ideal S1024x1024 .bf16 from iblk m c 7 t) = mat (argW m c) := by
  funext r j
  refine (congrArg (V m c main_v11) (?_ : _ = ix2 r j)).trans (congrFun (host m c).2.2.2.2.2.2 _)
  blk_ext [idx t]

/-- What the body leaves in its first two results, in every case. -/
theorem outs : (outsAt0 m c t.val t.isLt).1 = k0_pay24 (k0_pay10 (iblk m c 0 t)) (k0_pay15 (iblk m c 3 t)) (iblk m c 7 t) (iblk m c 5 t)
    ∧ (outsAt0 m c t.val t.isLt).2.1 = k0_pay24 (k0_pay10 (iblk m c 0 t)) (k0_pay15 (iblk m c 4 t)) (iblk m c 7 t) (iblk m c 6 t) := by
  by_cases h0 : t.val % 8 = 0
  · rw [outsAt0_A m c t h0 (by omega)]
    dsimp only
    constructor <;> frame_out <;> rfl
  · by_cases h1 : t.val % 8 = 7
    · rw [outsAt0_C m c t h0 h1]
      dsimp only
      constructor <;> frame_out <;> rfl
    · rw [outsAt0_B m c t h0 h1]
      dsimp only
      constructor <;> frame_out <;> rfl

/-- What a grid point adds to the three weights' running sums. -/
def addA : FVec Ideal S512x1024 .f32 → FVec Ideal S512x1024 .f32 :=
  k0_pay1 (k0_pay11 (iblk m c 1 t)) (k0_pay20 (k0_pay10 (iblk m c 0 t)) (k0_pay15 (iblk m c 3 t)) (iblk m c 7 t))

def addB : FVec Ideal S512x1024 .f32 → FVec Ideal S512x1024 .f32 :=
  k0_pay1 (k0_pay11 (iblk m c 2 t)) (k0_pay20 (k0_pay10 (iblk m c 0 t)) (k0_pay15 (iblk m c 4 t)) (iblk m c 7 t))

def addW : FVec Ideal S1024x1024 .f32 → FVec Ideal S1024x1024 .f32 :=
  k0_pay3 (k0_pay10 (iblk m c 0 t)) (k0_pay18 (k0_pay13 (iblk m c 1 t) (iblk m c 5 t)) (k0_pay14 (iblk m c 2 t) (iblk m c 6 t)) (k0_pay15 (iblk m c 3 t)) (k0_pay16 (iblk m c 4 t)) (Scalar.ofBits .f32 0x3F800000#32))

/-- The running sums at the first point. -/
theorem sums_first (h0 : t.val % 8 = 0) : (outsAt0 m c t.val t.isLt).2.2.2.2.2.2.1 = addA m c t k0_pay7
    ∧ (outsAt0 m c t.val t.isLt).2.2.2.2.2.2.2.1 = addB m c t k0_pay7
    ∧ (outsAt0 m c t.val t.isLt).2.2.2.2.2.2.2.2 = addW m c t k0_pay9 := by
  rw [outsAt0_A m c t h0 (by omega)]
  dsimp only
  refine ⟨?_, ?_, ?_⟩ <;> frame_out <;> rfl

/-- The running sums at a later point. -/
theorem sums_step (h0 : ¬t.val % 8 = 0) : (outsAt0 m c t.val t.isLt).2.2.2.2.2.2.1 = addA m c t (outsAt0 m c (t.val - 1) (Nat.lt_of_le_of_lt (Nat.sub_le _ _) t.isLt)).2.2.2.2.2.2.1
    ∧ (outsAt0 m c t.val t.isLt).2.2.2.2.2.2.2.1 = addB m c t (outsAt0 m c (t.val - 1) (Nat.lt_of_le_of_lt (Nat.sub_le _ _) t.isLt)).2.2.2.2.2.2.2.1
    ∧ (outsAt0 m c t.val t.isLt).2.2.2.2.2.2.2.2 = addW m c t (outsAt0 m c (t.val - 1) (Nat.lt_of_le_of_lt (Nat.sub_le _ _) t.isLt)).2.2.2.2.2.2.2.2 := by
  by_cases h1 : t.val % 8 = 7
  · rw [outsAt0_C m c t h0 h1]
    dsimp only
    refine ⟨?_, ?_, ?_⟩ <;> frame_out
    · exact congrArg (addA m c t) (read_unread_whole _ _ _)
    · exact congrArg (addB m c t) (read_unread_whole _ _ _)
    · exact congrArg (addW m c t) (read_unread_whole _ _ _)
  · rw [outsAt0_B m c t h0 h1]
    dsimp only
    refine ⟨?_, ?_, ?_⟩ <;> frame_out
    · exact congrArg (addA m c t) (read_unread_whole _ _ _)
    · exact congrArg (addB m c t) (read_unread_whole _ _ _)
    · exact congrArg (addW m c t) (read_unread_whole _ _ _)

/-- The last point writes the running sums out. -/
theorem sums_last (h1 : t.val % 8 = 7) : (outsAt0 m c t.val t.isLt).2.2.2.1 = k0_pay4 (outsAt0 m c t.val t.isLt).2.2.2.2.2.2.1
    ∧ (outsAt0 m c t.val t.isLt).2.2.2.2.1 = k0_pay4 (outsAt0 m c t.val t.isLt).2.2.2.2.2.2.2.1
    ∧ (outsAt0 m c t.val t.isLt).2.2.2.2.2.1 = k0_pay6 (outsAt0 m c t.val t.isLt).2.2.2.2.2.2.2.2 := by
  rw [(sums_step m c t (by omega)).1, (sums_step m c t (by omega)).2.1, (sums_step m c t (by omega)).2.2, outsAt0_C m c t (by omega) h1]
  dsimp only
  refine ⟨?_, ?_, ?_⟩ <;> frame_out
  · exact congrArg (fun P => k0_pay4 (F := Ideal) (addA m c t P)) (read_unread_whole _ _ _)
  · exact congrArg (fun P => k0_pay4 (F := Ideal) (addB m c t P)) (read_unread_whole _ _ _)
  · exact congrArg (fun P => k0_pay6 (F := Ideal) (addW m c t P)) (read_unread_whole _ _ _)

/-- What the body leaves in its third result: both gates' gradients side by side. -/
theorem outs_gates (y : S512x2048.Idx) : (outsAt0 m c t.val t.isLt).2.2.1 y
    = if h : (y 1).val < 1024 then k0_pay22 (F := Ideal) (k0_pay10 (iblk m c 0 t)) (k0_pay13 (iblk m c 1 t) (iblk m c 5 t)) (k0_pay15 (iblk m c 3 t)) (iblk m c 7 t) (ix2 (y 0) ⟨(y 1).val, h⟩)
      else k0_pay22 (F := Ideal) (k0_pay10 (iblk m c 0 t)) (k0_pay13 (iblk m c 2 t) (iblk m c 6 t)) (k0_pay15 (iblk m c 4 t)) (iblk m c 7 t) (ix2 (y 0) ⟨(y 1).val - 1024, by have := (y 1).isLt; simp at this; omega⟩) := by
  have keyL (x : S512x1024.Idx) (f : FVec Ideal S512x1024 .bf16) (g : S512x1024.Idx → EReal) (h0 : (y 0 : ℕ) = (x 0 : ℕ)) (h1 : (y 1 : ℕ) = (x 1 : ℕ)) :
      f x = if h : (y 1).val < 1024 then f (ix2 (y 0) ⟨(y 1).val, h⟩) else g (ix2 (y 0) ⟨(y 1).val - 1024, by have := (y 1).isLt; simp at this; omega⟩) := by
    have hx := (x 1).isLt
    rw [dif_pos (show (y 1).val < 1024 by simp at hx; omega)]
    refine congrArg f ((eq_ix2 x).trans ?_)
    exact congrArg₂ ix2 (Fin.ext h0.symm) (Fin.ext h1.symm)
  have keyR (x : S512x1024.Idx) (f : S512x1024.Idx → EReal) (g : FVec Ideal S512x1024 .bf16) (h0 : (y 0 : ℕ) = (x 0 : ℕ)) (h1 : (y 1 : ℕ) = 1024 + (x 1 : ℕ)) :
      g x = if h : (y 1).val < 1024 then f (ix2 (y 0) ⟨(y 1).val, h⟩) else g (ix2 (y 0) ⟨(y 1).val - 1024, by have := (y 1).isLt; simp at this; omega⟩) := by
    rw [dif_neg (by omega)]
    refine congrArg g ((eq_ix2 x).trans ?_)
    exact congrArg₂ ix2 (Fin.ext h0.symm) (Fin.ext (by dsimp only; omega))
  by_cases h0 : t.val % 8 = 0
  · rw [outsAt0_A m c t h0 (by omega)]
    dsimp only
    frame_out
    canon_tiles x h
    · exact keyR x _ _ (by omega) (by omega)
    · exact keyL x _ _ (by omega) (by omega)
  · by_cases h1 : t.val % 8 = 7
    · rw [outsAt0_C m c t h0 h1]
      dsimp only
      frame_out
      canon_tiles x h
      · exact keyR x _ _ (by omega) (by omega)
      · exact keyL x _ _ (by omega) (by omega)
    · rw [outsAt0_B m c t h0 h1]
      dsimp only
      frame_out
      canon_tiles x h
      · exact keyR x _ _ (by omega) (by omega)
      · exact keyL x _ _ (by omega) (by omega)

end Blocks

/-- Result 0: the gradient of the attention's output. -/
theorem whole8 (c : Dev nD) : (dats m 0 c).arrAt 8 (cfgs 0).N
    = (fun i => prodT (gated (prodT (rows (argX m c)) (mat (argW m c))) (half (argG m c) 0 (by omega))) (mat (argA m c)) (i 0) (i 1) : FVec Ideal S4096x512 .bf16) := by
  refine (dats m 0 c).arrAt_eq_of_covers 8 _ (by decide +kernel) fun t hf y => ?_
  blk_simp
  rw [after0_8, (outs m c t).1]
  idx_vars y
  have e : ((cfg0.win 8).blk t).view.emb (ix2 y0 y1) = ix2 (row t y0) y1 := by
    blk_ext [idx t]
    exact congrArg (· + y0.val) (Nat.mul_comm _ _)
  refine (in_at _ _ _ _ y0 y1).trans ?_
  rw [blk0, blk3, blk5, blk7, e]
  rfl

/-- Result 1: the gradient of the convolution's output. -/
theorem whole9 (c : Dev nD) : (dats m 0 c).arrAt 9 (cfgs 0).N
    = (fun i => prodT (gated (prodT (rows (argX m c)) (mat (argW m c))) (half (argG m c) 1024 (by omega))) (mat (argB m c)) (i 0) (i 1) : FVec Ideal S4096x512 .bf16) := by
  refine (dats m 0 c).arrAt_eq_of_covers 9 _ (by decide +kernel) fun t hf y => ?_
  blk_simp
  rw [after0_9, (outs m c t).2]
  idx_vars y
  have e : ((cfg0.win 9).blk t).view.emb (ix2 y0 y1) = ix2 (row t y0) y1 := by
    blk_ext [idx t]
    exact congrArg (· + y0.val) (Nat.mul_comm _ _)
  refine (in_at _ _ _ _ y0 y1).trans ?_
  rw [blk0, blk4, blk6, blk7, e]
  rfl

/-- The gradients of both gates, side by side. -/
def gateRows (c : Dev nD) : FVec Ideal S4096x2048 .bf16 := fun i =>
  if h : (i 1).val < 1024 then gateGrad (prodT (rows (argX m c)) (mat (argW m c))) (prod (rows (argO m c)) (mat (argA m c))) (half (argG m c) 0 (by omega)) (i 0) ⟨(i 1).val, h⟩
  else gateGrad (prodT (rows (argX m c)) (mat (argW m c))) (prod (rows (argC m c)) (mat (argB m c))) (half (argG m c) 1024 (by omega)) (i 0) ⟨(i 1).val - 1024, by have := (i 1).isLt; simp at this; omega⟩

/-- Result 2: the gradients of both gates. -/
theorem whole10 (c : Dev nD) : (dats m 0 c).arrAt 10 (cfgs 0).N = gateRows m c := by
  refine (dats m 0 c).arrAt_eq_of_covers 10 _ (by decide +kernel) fun t hf y => ?_
  blk_simp
  rw [after0_10]
  idx_vars y
  have e : ((cfg0.win 10).blk t).view.emb (ix2 y0 y1) = ix2 (row t y0) y1 := by
    blk_ext [idx t]
    exact congrArg (· + y0.val) (Nat.mul_comm _ _)
  refine (outs_gates m c t _).trans ?_
  rw [e]
  unfold gateRows
  refine dite_congr rfl (fun h => ?_) (fun h => ?_)
  · refine (dgate_at _ _ _ _ _ _ _).trans ?_
    rw [blk0, blk1, blk3, blk5, blk7]
    rfl
  · refine (dgate_at _ _ _ _ _ _ _).trans ?_
    rw [blk0, blk2, blk4, blk6, blk7]
    rfl

theorem write_at (P : FVec Ideal S512x1024 .f32) (i : Fin 512) (j : Fin 1024) : k0_pay4 (F := Ideal) P (ix2 i j) = P (ix2 i j) := by
  pointwise [k0_pay4]

theorem write'_at (P : FVec Ideal S1024x1024 .f32) (i j : Fin 1024) : k0_pay6 (F := Ideal) P (ix2 i j) = P (ix2 i j) := by
  pointwise [k0_pay6]

/-- Result 3: the gradient of the attention's output projection. -/
theorem whole11 (c : Dev nD) : (dats m 0 c).arrAt 11 (cfgs 0).N
    = (fun i => wGrad (rows (argO m c)) (gated (prodT (rows (argX m c)) (mat (argW m c))) (half (argG m c) 0 (by omega))) (i 0) (i 1) : FVec Ideal S512x1024 .bf16) := by
  refine (dats m 0 c).arrAt_eq_of_after_last 11 t0_7 (by decide +kernel) _ fun j => ?_
  blk_simp
  rw [after0_11, (sums_last m c t0_7 (by decide)).1]
  idx_vars j
  refine (write_at _ j0 j1).trans ?_
  rw [Pipeline.eq_sum_fin_of_reset_step_apply_last (fun n h => (outsAt0 m c n h).2.2.2.2.2.2.1) 8 (fun _ => 0)
    (fun (u : Fin cfg0.N) (j : S512x1024.Idx) => wGrad (fun r => rows (argO m c) (row u r)) (fun r => gated (prodT (rows (argX m c)) (mat (argW m c))) (half (argG m c) 0 (by omega)) (row u r)) (j 0) (j 1))
    (fun u hu j => by
      rw [(sums_first m c u hu).1]
      idx_vars j
      refine (weight_at _ _ _ _ _ _ _).trans ?_
      rw [zero_at, blk0, blk1, blk3, blk7]
      rfl)
    (fun u hu j => by
      rw [(sums_step m c u hu).1]
      idx_vars j
      refine (weight_at _ _ _ _ _ _ _).trans ?_
      rw [blk0, blk1, blk3, blk7]
      rfl)
    (le_of_eq N_0) t0_7 rfl _, zero_add]
  exact wGrad_tiles 8 512 rfl _ _ _ _ _ fun t r => rfl

/-- Result 4: the gradient of the convolution's output projection. -/
theorem whole12 (c : Dev nD) : (dats m 0 c).arrAt 12 (cfgs 0).N
    = (fun i => wGrad (rows (argC m c)) (gated (prodT (rows (argX m c)) (mat (argW m c))) (half (argG m c) 1024 (by omega))) (i 0) (i 1) : FVec Ideal S512x1024 .bf16) := by
  refine (dats m 0 c).arrAt_eq_of_after_last 12 t0_7 (by decide +kernel) _ fun j => ?_
  blk_simp
  rw [after0_12, (sums_last m c t0_7 (by decide)).2.1]
  idx_vars j
  refine (write_at _ j0 j1).trans ?_
  rw [Pipeline.eq_sum_fin_of_reset_step_apply_last (fun n h => (outsAt0 m c n h).2.2.2.2.2.2.2.1) 8 (fun _ => 0)
    (fun (u : Fin cfg0.N) (j : S512x1024.Idx) => wGrad (fun r => rows (argC m c) (row u r)) (fun r => gated (prodT (rows (argX m c)) (mat (argW m c))) (half (argG m c) 1024 (by omega)) (row u r)) (j 0) (j 1))
    (fun u hu j => by
      rw [(sums_first m c u hu).2.1]
      idx_vars j
      refine (weight_at _ _ _ _ _ _ _).trans ?_
      rw [zero_at, blk0, blk2, blk4, blk7]
      rfl)
    (fun u hu j => by
      rw [(sums_step m c u hu).2.1]
      idx_vars j
      refine (weight_at _ _ _ _ _ _ _).trans ?_
      rw [blk0, blk2, blk4, blk7]
      rfl)
    (le_of_eq N_0) t0_7 rfl _, zero_add]
  exact wGrad_tiles 8 512 rfl _ _ _ _ _ fun t r => rfl

/-- Result 5: the gradient of the last projection. -/
theorem whole13 (c : Dev nD) : (dats m 0 c).arrAt 13 (cfgs 0).N
    = (fun i => wGrad (merged (half (argG m c) 0 (by omega)) (prod (rows (argO m c)) (mat (argA m c))) (half (argG m c) 1024 (by omega)) (prod (rows (argC m c)) (mat (argB m c)))) (rows (argX m c)) (i 0) (i 1) : FVec Ideal S1024x1024 .bf16) := by
  refine (dats m 0 c).arrAt_eq_of_after_last 13 t0_7 (by decide +kernel) _ fun j => ?_
  blk_simp
  rw [after0_13, (sums_last m c t0_7 (by decide)).2.2]
  idx_vars j
  refine (write'_at _ j0 j1).trans ?_
  rw [Pipeline.eq_sum_fin_of_reset_step_apply_last (fun n h => (outsAt0 m c n h).2.2.2.2.2.2.2.2) 8 (fun _ => 0)
    (fun (u : Fin cfg0.N) (j : S1024x1024.Idx) => wGrad (fun r => merged (half (argG m c) 0 (by omega)) (prod (rows (argO m c)) (mat (argA m c))) (half (argG m c) 1024 (by omega)) (prod (rows (argC m c)) (mat (argB m c))) (row u r)) (fun r => rows (argX m c) (row u r)) (j 0) (j 1))
    (fun u hu j => by
      rw [(sums_first m c u hu).2.2]
      idx_vars j
      refine (out_at _ _ _ _ _ _ _ _ _ _).trans ?_
      rw [zero'_at, blk0, blk1, blk2, blk3, blk4, blk5, blk6]
      rfl)
    (fun u hu j => by
      rw [(sums_step m c u hu).2.2]
      idx_vars j
      refine (out_at _ _ _ _ _ _ _ _ _ _).trans ?_
      rw [blk0, blk1, blk2, blk3, blk4, blk5, blk6]
      rfl)
    (le_of_eq N_0) t0_7 rfl _, zero_add]
  exact wGrad_tiles 8 512 rfl _ _ _ _ _ fun t r => rfl

end Cert.MixOutBwdIdeal.Value

end
-- ==== Proof.MixOutClaim.lean ====
/- The backward kernel of the gated output projections computes their derivative. -/
module

public import proofs.«01_k».proof.Defs
public import proofs.«01_k».proof.Proof.MixOutRef
public import proofs.«01_k».proof.Proof.MixOutValue

@[expose] public section

set_option maxRecDepth 16384

noncomputable section

open Idealize.ShloMosaic Idealize.ShloMosaic.TcCoe Idealize.SL.Sem

namespace Cert.Proof

open Cert.MixOutBwdIdeal Cert.MixOutBwdIdeal.Value
open Cert.MixOutGradIdeal.Value (inV leftV rightV gatesV weightV outV inV_eq weightV_eq gatesV_eq outV_eq leftV_rows rightV_rows)

set_option maxHeartbeats 4000000 in
theorem algebraic_mixout : Cert.algebraic_MixOutBwdIdeal_MixOutGradIdeal := by
  pair_intro
  · run_from Cert.MixOutBwdIdeal.Value.run_blocks m g
  · run_from Cert.MixOutGradIdeal.Value.run m' g'
    · refine (show _ = inV (argA m c) (argW m c) (argX m c) (leftV (argG m c)) from rfl).trans ?_
      rw [inV_eq, leftV_rows]
      exact (whole8 m c).symm
    · refine (show _ = inV (argB m c) (argW m c) (argX m c) (rightV (argG m c)) from rfl).trans ?_
      rw [inV_eq, rightV_rows]
      exact (whole9 m c).symm
    · refine Eq.trans (b := gatesV (argO m c) (argG m c) (argA m c) (argW m c) (argX m c) (argC m c) (argB m c)) ?_ ?_
      · obtain ⟨e0, e1, e2, e3, e4, e5, e6⟩ := hagree c
        rw [e4, e5, e6]
        rfl
      refine Eq.trans ?_ (whole10 m c).symm
      exact gatesV_eq _ _ _ _ _ _ _
    · refine (show _ = weightV (argO m c) (argW m c) (argX m c) (leftV (argG m c)) from rfl).trans ?_
      rw [weightV_eq, leftV_rows]
      exact (whole11 m c).symm
    · refine (show _ = weightV (argC m c) (argW m c) (argX m c) (rightV (argG m c)) from rfl).trans ?_
      rw [weightV_eq, rightV_rows]
      exact (whole12 m c).symm
    · exact (show _ = outV (argO m c) (argG m c) (argA m c) (argX m c) (argC m c) (argB m c) from rfl).trans
        ((outV_eq _ _ _ _ _ _).trans (whole13 m c).symm)

/-- The reference is host operations only: its generated run says that its arguments are left alone, and it declares
    no semaphore. -/
theorem frame_mixout_grad : Cert.quiescent_MixOutGradIdeal := fun m ρ _ =>
  (θ_run Cert.MixOutGradIdeal.defs _ _).mono (fun r h => ⟨fun c => (h c).2.2.2.2.2.2, sem_eq_zero_of_no_sems (by decide) r.2⟩)
    (Cert.MixOutGradIdeal.Value.run (F := Ideal) m ρ)

end Cert.Proof

end
-- ==== Proof.NormSpec.lean ====
/- The gradient of a root mean square norm, entry by entry: as the kernel orders it and as the derivative is taken. -/
module

public import proofs.«01_k».proof.Proof.MixOutSpec

@[expose] public section

noncomputable section

open Idealize.ShloMosaic

namespace Cert.Norm

/-- The norm's small constant. -/
def eps : EReal := Ideal.ofBits .f32 0x358637BD#32

/-- The norm's constant is a positive real. -/
theorem eps_pos : ∃ e : ℝ, 0 < e ∧ eps = e := by
  refine ⟨_, ?_, by simp [eps, Ideal.ofBits, Ideal.ieee, -EReal.coe_mul]; rfl⟩
  norm_num

/-- The width, and minus one half, as the programs spell them. -/
theorem width_eq : Ideal.ofBits .f32 0x44800000#32 = ((1024 : ℝ) : EReal) := by
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul]; norm_num

variable {n : ℕ}

/-- A row's mean square, with the constant. -/
def ms (x : Fin n → Fin 1024 → EReal) (r : Fin n) : EReal :=
  Ideal.div (∑ j, x r j * x r j) (Ideal.ofBits .f32 0x44800000#32) + eps

/-- The inverse of a row's root mean square. -/
def inv (x : Fin n → Fin 1024 → EReal) (r : Fin n) : EReal := Ideal.rsqrt (ms x r)

/-- The normed rows. -/
def hat (x : Fin n → Fin 1024 → EReal) (r : Fin n) (j : Fin 1024) : EReal := x r j * inv x r

/-- The rows' gradient, in the kernel's order. -/
def normGrad (x : Fin n → Fin 1024 → EReal) (g : Fin 1024 → EReal) (d : Fin n → Fin 1024 → EReal) (r : Fin n) (j : Fin 1024) : EReal :=
  inv x r * (d r j * g j - hat x r j * Ideal.div (∑ l, d r l * g l * hat x r l) (Ideal.ofBits .f32 0x44800000#32))

/-- The scale's gradient. -/
def scaleGrad (x d : Fin n → Fin 1024 → EReal) (j : Fin 1024) : EReal := ∑ r, d r j * hat x r j

/-- The derivative's factor of a row through its mean square. -/
def through (x : Fin n → Fin 1024 → EReal) (g : Fin 1024 → EReal) (d : Fin n → Fin 1024 → EReal) (r : Fin n) : EReal :=
  Ideal.div ((∑ l, x r l * (d r l * g l)) * (Ideal.ofBits .f32 0xBF000000#32 * Ideal.div (inv x r) (ms x r))) (Ideal.ofBits .f32 0x44800000#32)

/-- A finite sum of reals. -/
theorem coe_sum {ι : Type} (s : Finset ι) (f : ι → ℝ) : ((∑ x ∈ s, f x : ℝ) : EReal) = ∑ x ∈ s, (f x : EReal) :=
  map_sum (⟨⟨Real.toEReal, EReal.coe_zero⟩, EReal.coe_add⟩ : ℝ →+ EReal) f s

theorem rsqrt_coe {r : ℝ} (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr h.le), if_neg h.ne']

section Real

variable (x d : Fin n → Fin 1024 → EReal) (g : Fin 1024 → EReal) (X D : Fin n → Fin 1024 → ℝ) (G : Fin 1024 → ℝ) (r : Fin n)

/-- Over real rows the mean square is a positive real. -/
theorem ms_real (hx : ∀ r j, x r j = X r j) : ∃ M : ℝ, 0 < M ∧ ms x r = M := by
  obtain ⟨e, he, hE⟩ := eps_pos
  refine ⟨(∑ j, X r j * X r j) * (1 / 1024) + e, add_pos_of_nonneg_of_pos (mul_nonneg (Finset.sum_nonneg fun j _ => mul_self_nonneg _) (by norm_num)) he, ?_⟩
  unfold ms
  rw [hE, width_eq, Ideal.div_coe (by norm_num), EReal.coe_add, EReal.coe_mul, coe_sum]
  simp only [hx, EReal.coe_mul]

/-- The two forms of the rows' gradient agree over the reals, whatever is added. -/
theorem grad_eq (hx : ∀ r j, x r j = X r j) (hd : ∀ r j, d r j = D r j) (hg : ∀ j, g j = G j) (res : EReal) (j : Fin 1024) :
    res + d r j * g j * inv x r + x r j * through x g d r + through x g d r * x r j = res + normGrad x g d r j := by
  obtain ⟨M, hM, eM⟩ := ms_real x X r hx
  have hs := Real.sqrt_pos.mpr hM
  have hq : (Real.sqrt M)⁻¹ * (Real.sqrt M)⁻¹ = 1 / M := by
    rw [← mul_inv, Real.mul_self_sqrt hM.le, one_div]
  have ei : inv x r = (((Real.sqrt M)⁻¹ : ℝ) : EReal) := by rw [inv, eM, rsqrt_coe hM]
  generalize (Real.sqrt M)⁻¹ = i at hq ei
  have et : through x g d r = (((∑ l, X r l * (D r l * G l)) * (-(1 / 2) * (i * (i * i))) * (1 / 1024) : ℝ) : EReal) := by
    unfold through
    rw [ei, eM, width_eq, half_eq, Ideal.div_coe (by norm_num), Ideal.div_coe hM.ne', ← hq]
    simp only [hx, hd, hg, ← EReal.coe_mul, ← coe_sum]
  have en : normGrad x g d r j = ((i * (D r j * G j - X r j * i * ((∑ l, D r l * G l * (X r l * i)) * (1 / 1024))) : ℝ) : EReal) := by
    unfold normGrad hat
    rw [ei, width_eq, Ideal.div_coe (by norm_num)]
    simp only [hx, hd, hg, ← EReal.coe_mul, ← coe_sum, ← EReal.coe_sub]
  rw [et, en, ei, hx, hd, hg, add_assoc, add_assoc]
  simp only [← EReal.coe_mul, ← EReal.coe_add]
  refine congrArg (fun v : ℝ => res + (v : EReal)) ?_
  have e : (∑ l, D r l * G l * (X r l * i)) = (∑ l, X r l * (D r l * G l)) * i := by
    rw [Finset.sum_mul]
    exact Finset.sum_congr rfl fun l _ => by ring
  rw [e]
  ring

end Real

end Cert.Norm

end
-- ==== Proof.MixProjRef.lean ====
/- The reference of the input projection's gradient through its norm, entry by entry. -/
module

public import proofs.«01_k».proof.Proof.NormSpec
public import proofs.«01_k».proof.Proof.Gen.MixProjGradIdeal.Run

@[expose] public section

set_option maxRecDepth 16384

noncomputable section

open Idealize.ShloMosaic Idealize.ShloMosaic.TcCoe Idealize.SL.Sem

namespace Cert.MixProjGradIdeal.Value

open Cert.MixProjGradIdeal Cert.MixProjGradIdeal.Gen Cert.MixOut Cert.Norm

variable (X R D : FVec Ideal S2x2048x1024 .f32) (G : FVec Ideal S1024 .f32) (W : FVec Ideal S1024x5128 .f32) (P : FVec Ideal S2x2048x5128 .f32)
  (I M : FVec Ideal S2x2048x1 .f32) (K : FVec Ideal S2x2048 .f32)
  (b : Fin 2) (s : Fin 2048) (j : Fin 1024) (u : Fin 1) (p : Fin 4096)

/-- Every row's mean square. -/
def msV : FVec Ideal S2x2048x1 .f32 :=
  addf (Host.divf (broadcastInDim S2x2048x1 ![0, 1] bcast_S2x2048_S2x2048x1_0_1 (Host.reduceAdd (mulf X X) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

theorem msV_at : msV X (ix3 b s u) = Ideal.div (∑ l, X (ix3 b s l) * X (ix3 b s l)) (Ideal.ofBits .f32 0x44800000#32) + eps := by
  pointwise [msV, eps]

/-- Every row's inverse root mean square. -/
def invV : FVec Ideal S2x2048x1 .f32 := Host.rsqrt M

theorem invV_at : invV M (ix3 b s u) = Ideal.rsqrt (M (ix3 b s u)) := by
  pointwise [invV]

/-- The cotangent before the projection. -/
def dhV : FVec Ideal S2x2048x1024 .f32 := Host.dotGeneral dot_S2x2048x5128_S1024x5128_S2x2048x1024_2_1_01_0_n_n none P W

theorem dhV_at : dhV W P (ix3 b s j) = ∑ x, P (ix3 b s x) * W (ix2 j x) := by
  pointwise [dhV]

/-- The cotangent times the norm's scale. -/
def scaledV : FVec Ideal S2x2048x1024 .f32 :=
  mulf D (broadcastInDim S2x2048x1024 ![0, 1, 2] bcast_S1x1x1024_S2x2048x1024_0_1_2 (broadcastInDim S1x1x1024 ![2] bcast_S1024_S1x1x1024_2 G))

theorem scaledV_at : scaledV D G (ix3 b s j) = D (ix3 b s j) * G (ix1 j) := by
  pointwise [scaledV]

/-- A row's factor through its mean square. -/
def throughV : FVec Ideal S2x2048 .f32 :=
  Host.reduceAdd (Host.divf (mulf (shapeCast _ (Host.reduceAdd (mulf X D) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf I M))) (broadcastInDim S2x2048x1 ![] bcast_S_S2x2048x1 (constant S_ .f32 0x44800000#32))) (constant S_ .f32 0x00000000#32) reducesTo_S2x2048x1_S2x2048_d2 h_S_

theorem throughV_at : throughV X D I M (ix2 b s) = Ideal.div ((∑ l, X (ix3 b s l) * D (ix3 b s l)) * (Ideal.ofBits .f32 0xBF000000#32 * Ideal.div (I (ix3 b s 0)) (M (ix3 b s 0)))) (Ideal.ofBits .f32 0x44800000#32) := by
  pointwise [throughV]
  exact Fin.sum_univ_one _

/-- The rows' gradient from its parts. -/
def sumV : FVec Ideal S4096x1024 .f32 :=
  shapeCast _ (addf (addf (addf R (mulf D (broadcastInDim S2x2048x1024 ![0, 1, 2] bcast_S2x2048x1_S2x2048x1024_0_1_2 I))) (mulf X (broadcastInDim S2x2048x1024 ![0, 1] bcast_S2x2048_S2x2048x1024_0_1 K))) (mulf (broadcastInDim S2x2048x1024 ![0, 1] bcast_S2x2048_S2x2048x1024_0_1 K) X)) shapeCasts_S2x2048x1024_S4096x1024

theorem sumV_at : sumV X R D I K (ix2 p j) = rows R p j + rows D p j * I (ix3 ⟨p.val / 2048, by omega⟩ ⟨p.val % 2048, by omega⟩ 0)
    + rows X p j * K (ix2 ⟨p.val / 2048, by omega⟩ ⟨p.val % 2048, by omega⟩) + K (ix2 ⟨p.val / 2048, by omega⟩ ⟨p.val % 2048, by omega⟩) * rows X p j := by
  pointwise [sumV, rows]

/-- Result 0. -/
def gradV : FVec Ideal S4096x1024 .f32 :=
  sumV X R (scaledV (dhV W P) G) (invV (msV X)) (throughV X (scaledV (dhV W P) G) (invV (msV X)) (msV X))

theorem gradV_at : gradV X R G W P (ix2 p j) = rows R p j + prodT (rows P) (mat W) p j * G (ix1 j) * inv (rows X) p
    + rows X p j * through (rows X) (fun l => G (ix1 l)) (prodT (rows P) (mat W)) p
    + through (rows X) (fun l => G (ix1 l)) (prodT (rows P) (mat W)) p * rows X p j := by
  rw [gradV, sumV_at, throughV_at, invV_at, msV_at]
  simp only [rows, scaledV_at, dhV_at]
  rfl

/-- The scale's gradient. -/
def scaleV : FVec Ideal S1x1024 .f32 :=
  shapeCast _ (Host.reduceAdd (shapeCast _ (Host.reduceAdd (mulf (mulf X (broadcastInDim S2x2048x1024 ![0, 1, 2] bcast_S2x2048x1_S2x2048x1024_0_1_2 I)) D) (constant S_ .f32 0x00000000#32) reducesTo_S2x2048x1024_S1024_d0_1 h_S_) shapeCasts_S1024_S1x1x1024) (constant S_ .f32 0x00000000#32) reducesTo_S1x1x1024_S1024_d0_1 h_S_) shapeCasts_S1024_S1x1024

theorem scaleV_at : scaleV X D I (ix2 u j) = ∑ b : Fin 2, ∑ s : Fin 2048, X (ix3 b s j) * I (ix3 b s 0) * D (ix3 b s j) := by
  pointwise [scaleV]
  rw [Cert.Sums.reduce_lead, zero_add, Fin.sum_univ_one, Fin.sum_univ_one]
  pointwise
  rw [Cert.Sums.reduce_lead, zero_add]
  pointwise

theorem scaleV_eq : scaleV X (dhV W P) (invV (msV X)) (ix2 u j) = scaleGrad (rows X) (prodT (rows P) (mat W)) j := by
  rw [scaleV_at]
  refine (Cert.Sums.pairs _).trans (Finset.sum_congr rfl fun r _ => (mul_comm _ _).trans ?_)
  rw [dhV_at, invV_at, msV_at]
  rfl

end Cert.MixProjGradIdeal.Value

end
-- ==== Proof.MixProjRun.lean ====
module

public import proofs.«01_k».proof.Proof.Gen.MixProjBwdIdeal.Frame.Runs
public import Idealize.ShloMosaic.Lib.VecWindow

@[expose] public section

set_option maxRecDepth 16384

noncomputable section

/-! One run of the input projection's gradient, at any grid point: what it leaves in its two outputs. The first point clears
the norm's gradient, every point adds to it. -/

namespace Cert.MixProjBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixProjBwdIdeal Cert.MixProjBwdIdeal.Gen

variable {F : FTy → Type} [FloatOps F]

local notation "𝕄" => MT nD τ sig Unit (Elt F) ℕ (UR sig nD τ) ℕ

/-- What a point finds in the norm's gradient: zero at the first one. -/
def found (i : grid0.Coords) (d : Vec F S1x1024 .f32) : Vec F S1x1024 .f32 :=
  open Classical in if cond0_0 i then k0_pay5 else d

/-- The normed input's cotangent: the nine pieces against their weights. -/
def dhOf (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x1024 .bf16) (x10 : Vec F S256x1024 .bf16) (x11 : Vec F S256x128 .f32) (x12 : Vec F S512x1024 .bf16) (x13 : Vec F S512x1024 .bf16) (x14 : Vec F S512x1024 .bf16) (x15 : Vec F S512x1024 .bf16) (x16 : Vec F S512x1024 .bf16) (x17 : Vec F S512x1024 .bf16) (x18 : Vec F S1024x1024 .bf16) (x19 : Vec F S1024x1024 .bf16) (x20 : Vec F S128x1024 .bf16) : Vec F S256x1024 .f32 :=
  k0_pay8 (k0_pay6 x3 x12 x4 x13 x5 x14 x6 x15) (k0_pay7 x7 x16) x8 x17 x9 x18 x10 x19 x11 x20

/-! What a point stores, and what it adds to the norm's gradient, from what it loads. -/

section Stored

variable {a0 x0 a1 x1 : Vec F S256x1024 .f32} {a2 x2 e d : Vec F S1x1024 .f32} {a3 x3 a4 x4 a5 x5 a6 x6 a7 x7 a8 x8 : Vec F S256x512 .bf16} {a9 x9 a10 x10 : Vec F S256x1024 .bf16}
  {a11 x11 : Vec F S256x128 .f32} {a12 x12 a13 x13 a14 x14 a15 x15 a16 x16 a17 x17 : Vec F S512x1024 .bf16} {a18 x18 a19 x19 : Vec F S1024x1024 .bf16} {a20 x20 : Vec F S128x1024 .bf16}
  (h1 : a1 = x1) (h3 : a3 = x3) (h4 : a4 = x4) (h5 : a5 = x5) (h6 : a6 = x6) (h7 : a7 = x7) (h8 : a8 = x8) (h9 : a9 = x9) (h10 : a10 = x10) (h11 : a11 = x11) (h12 : a12 = x12) (h13 : a13 = x13) (h14 : a14 = x14) (h15 : a15 = x15) (h16 : a16 = x16) (h17 : a17 = x17) (h18 : a18 = x18) (h19 : a19 = x19) (h20 : a20 = x20)
include h1 h3 h4 h5 h6 h7 h8 h9 h10 h11 h12 h13 h14 h15 h16 h17 h18 h19 h20

theorem stored_rows (h0 : a0 = x0) (h2 : a2 = x2) :
    k0_pay3 (k0_pay8 (k0_pay6 a3 a12 a4 a13 a5 a14 a6 a15) (k0_pay7 a7 a16) a8 a17 a9 a18 a10 a19 a11 a20) (k0_pay9 a1) (k0_pay10 a1) a2 a0
        = k0_pay3 (dhOf x3 x4 x5 x6 x7 x8 x9 x10 x11 x12 x13 x14 x15 x16 x17 x18 x19 x20) (k0_pay9 x1) (k0_pay10 x1) x2 x0 := by
  subst h0 h1 h2 h3 h4 h5 h6 h7 h8 h9 h10 h11 h12 h13 h14 h15 h16 h17 h18 h19 h20; rfl

theorem stored_gain (hd : e = d) :
    k0_pay4 (k0_pay8 (k0_pay6 a3 a12 a4 a13 a5 a14 a6 a15) (k0_pay7 a7 a16) a8 a17 a9 a18 a10 a19 a11 a20) (k0_pay9 a1) (k0_pay10 a1) e
        = k0_pay4 (dhOf x3 x4 x5 x6 x7 x8 x9 x10 x11 x12 x13 x14 x15 x16 x17 x18 x19 x20) (k0_pay9 x1) (k0_pay10 x1) d := by
  subst h1 h3 h4 h5 h6 h7 h8 h9 h10 h11 h12 h13 h14 h15 h16 h17 h18 h19 h20 hd; rfl

end Stored

set_option maxHeartbeats 16000000 in
/-- The body at any grid point. -/
theorem wp_body (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x128 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S128x1024 .bf16) (harg21 : arg21.IsWhole) (arg22 : Memref sig .tc .vmem S256x1024 .f32) (harg22 : arg22.IsWhole) (arg23 : Memref sig .tc .vmem S1x1024 .f32) (harg23 : arg23.IsWhole)
    (x0 : Vec F S256x1024 .f32) (x1 : Vec F S256x1024 .f32) (x2 : Vec F S1x1024 .f32) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x1024 .bf16) (x10 : Vec F S256x1024 .bf16) (x11 : Vec F S256x128 .f32) (x12 : Vec F S512x1024 .bf16) (x13 : Vec F S512x1024 .bf16) (x14 : Vec F S512x1024 .bf16) (x15 : Vec F S512x1024 .bf16) (x16 : Vec F S512x1024 .bf16) (x17 : Vec F S512x1024 .bf16) (x18 : Vec F S1024x1024 .bf16) (x19 : Vec F S1024x1024 .bf16) (x20 : Vec F S128x1024 .bf16) (d22 : Vec F S1x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ owns (c : Thread nD τ) arg23 fullShare d22
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (k0_pay3 (dhOf x3 x4 x5 x6 x7 x8 x9 x10 x11 x12 x13 x14 x15 x16 x17 x18 x19 x20) (k0_pay9 x1) (k0_pay10 x1) x2 x0) ∗ owns (c : Thread nD τ) arg23 fullShare (k0_pay4 (dhOf x3 x4 x5 x6 x7 x8 x9 x10 x11 x12 x13 x14 x15 x16 x17 x18 x19 x20) (k0_pay9 x1) (k0_pay10 x1) (found i d22))) -∗ K ⟨⟩))
      ⊢ wp frame (wpE (defs₀ (F := F)) Variants.none c none) E (cc0_mix_proj_bwd_dx i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  rw [cc0_mix_proj_bwd_dx_eq_skeleton]; unfold cc0_mix_proj_bwd_dx_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%f22, %hf22, H22⟩, Hk⟩
  subst hf0 hf1 hf2 hf3 hf4 hf5 hf6 hf7 hf8 hf9 hf10 hf11 hf12 hf13 hf14 hf15 hf16 hf17 hf18 hf19 hf20 hf22
  by_cases hc0 : cond0_0 i
  all_goals
    sl_exec (disch := first | sl_exact hc0)
    sl_step
    iapply Hk
    isplitl [H0]; swap; isplitl [H1]; swap; isplitl [H2]; swap; isplitl [H3]; swap; isplitl [H4]; swap; isplitl [H5]; swap
    isplitl [H6]; swap; isplitl [H7]; swap; isplitl [H8]; swap; isplitl [H9]; swap; isplitl [H10]; swap; isplitl [H11]; swap
    isplitl [H12]; swap; isplitl [H13]; swap; isplitl [H14]; swap; isplitl [H15]; swap; isplitl [H16]; swap; isplitl [H17]; swap
    isplitl [H18]; swap; isplitl [H19]; swap; isplitl [H20]; swap; isplitl [H21]; swap
    all_goals (iexists _; isplitr; swap; · first | iexact H0 | iexact H1 | iexact H2 | iexact H3 | iexact H4 | iexact H5 | iexact H6 | iexact H7 | iexact H8 | iexact H9 | iexact H10 | iexact H11 | iexact H12 | iexact H13 | iexact H14 | iexact H15 | iexact H16 | iexact H17 | iexact H18 | iexact H19 | iexact H20 | iexact H21 | iexact H22)
    all_goals ipureintro
    all_goals first
      | with_reducible rfl
      | exact (View.read_writes_full _ _ _ _ _).trans (stored_rows (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _))
      | refine (View.read_writes_full _ _ _ _ _).trans (stored_gain (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) ((View.readAt_full _ _ _).trans ?_))
        first
          | exact (View.read_writes_full _ _ _ _ _).trans (show found i _ = _ from if_pos hc0).symm
          | exact (show found i _ = _ from if_neg hc0).symm

end Cert.MixProjBwdIdeal.Body

end
-- ==== Proof.MixProjFrame.lean ====
module

public import proofs.«01_k».proof.Proof.MixProjRun
public import Idealize.ShloMosaic.Lib.Claim

@[expose] public section

set_option maxRecDepth 16384

noncomputable section

/-! The launch of the input projection's gradient: what its outputs hold point by point, and the frame. -/

namespace Cert.MixProjBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixProjBwdIdeal Cert.MixProjBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The normed input's cotangent on a point's rows. -/
def dhAt (c : Dev nD) (t : Fin cfg0.N) : Vec F S256x1024 .f32 := dhOf (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-- The rows a point stores. -/
def rowsAt (c : Dev nD) (t : Fin cfg0.N) : Vec F S256x1024 .f32 :=
  k0_pay3 (dhAt m c t) (k0_pay9 (iblk m c 1 t)) (k0_pay10 (iblk m c 1 t)) (iblk m c 2 t) (iblk m c 0 t)

/-- What a point makes of the norm's gradient. -/
def addGain (c : Dev nD) (t : Fin cfg0.N) (d : Vec F S1x1024 .f32) : Vec F S1x1024 .f32 :=
  k0_pay4 (dhAt m c t) (k0_pay9 (iblk m c 1 t)) (k0_pay10 (iblk m c 1 t)) d

/-- The norm's gradient after each point. -/
def gainAt (c : Dev nD) : (n : ℕ) → n < cfg0.N → Vec F S1x1024 .f32
  | 0, hn => addGain m c ⟨0, hn⟩ k0_pay5
  | n + 1, hn => addGain m c ⟨n + 1, hn⟩ (gainAt c n (Nat.lt_of_succ_lt hn))

/-- The norm's gradient after a point, from what the point finds. -/
theorem gainAt_eq (c : Dev nD) (t : Fin cfg0.N) (d : Vec F S1x1024 .f32)
    (h : t.val = 0 ∨ d = gainAt m c (t.val - 1) (Nat.lt_of_le_of_lt (Nat.sub_le _ _) t.isLt)) :
    addGain m c t (found (grid0.coords t) d) = gainAt m c t.val t.isLt := by
  have hN : t.val < 16 := lt_of_lt_of_eq t.isLt (show cfg0.N = 16 from N_0)
  by_cases hz : t.val = 0
  · rw [show found (grid0.coords t) d = k0_pay5 from if_pos ((hcond0_0 t).mpr (by omega))]
    obtain ⟨n, hn⟩ := t; dsimp only at hz; subst hz; rfl
  · rw [show found (grid0.coords t) d = d from if_neg (mt (hcond0_0 t).mp (by omega)), h.resolve_left hz]
    obtain ⟨n, hn⟩ := t
    cases n with
    | zero => exact absurd rfl hz
    | succ n => rfl

/-- The launch's proof data: each input's block stays, each output holds what is said above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => rowsAt m c t
    | ⟨22, _⟩ => gainAt m c t.val t.isLt
    | ⟨_ + 23, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

section Windows

variable (c : Dev nD) (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = iblk m c 14 t := by dsimp only [dats]
theorem after0_15 : (dats m 0 c).after 15 t = iblk m c 15 t := by dsimp only [dats]
theorem after0_16 : (dats m 0 c).after 16 t = iblk m c 16 t := by dsimp only [dats]
theorem after0_17 : (dats m 0 c).after 17 t = iblk m c 17 t := by dsimp only [dats]
theorem after0_18 : (dats m 0 c).after 18 t = iblk m c 18 t := by dsimp only [dats]
theorem after0_19 : (dats m 0 c).after 19 t = iblk m c 19 t := by dsimp only [dats]
theorem after0_20 : (dats m 0 c).after 20 t = iblk m c 20 t := by dsimp only [dats]
theorem after0_21 : (dats m 0 c).after 21 t = rowsAt m c t := by dsimp only [dats]
theorem after0_22 : (dats m 0 c).after 22 t = gainAt m c t.val t.isLt := by dsimp only [dats]
theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d
theorem before0_6 (d) : (dats m 0 c).before 6 t d = iblk m c 6 t := before0_6_of m (dats m 0 c) (A_eq m c 6) (after0_6 m c) t d
theorem before0_7 (d) : (dats m 0 c).before 7 t d = iblk m c 7 t := before0_7_of m (dats m 0 c) (A_eq m c 7) (after0_7 m c) t d
theorem before0_8 (d) : (dats m 0 c).before 8 t d = iblk m c 8 t := before0_8_of m (dats m 0 c) (A_eq m c 8) (after0_8 m c) t d
theorem before0_9 (d) : (dats m 0 c).before 9 t d = iblk m c 9 t := before0_9_of m (dats m 0 c) (A_eq m c 9) (after0_9 m c) t d
theorem before0_10 (d) : (dats m 0 c).before 10 t d = iblk m c 10 t := before0_10_of m (dats m 0 c) (A_eq m c 10) (after0_10 m c) t d
theorem before0_11 (d) : (dats m 0 c).before 11 t d = iblk m c 11 t := before0_11_of m (dats m 0 c) (A_eq m c 11) (after0_11 m c) t d
theorem before0_12 (d) : (dats m 0 c).before 12 t d = iblk m c 12 t := before0_12_of m (dats m 0 c) (A_eq m c 12) (after0_12 m c) t d
theorem before0_13 (d) : (dats m 0 c).before 13 t d = iblk m c 13 t := before0_13_of m (dats m 0 c) (A_eq m c 13) (after0_13 m c) t d
theorem before0_14 (d) : (dats m 0 c).before 14 t d = iblk m c 14 t := before0_14_of m (dats m 0 c) (A_eq m c 14) (after0_14 m c) t d
theorem before0_15 (d) : (dats m 0 c).before 15 t d = iblk m c 15 t := before0_15_of m (dats m 0 c) (A_eq m c 15) (after0_15 m c) t d
theorem before0_16 (d) : (dats m 0 c).before 16 t d = iblk m c 16 t := before0_16_of m (dats m 0 c) (A_eq m c 16) (after0_16 m c) t d
theorem before0_17 (d) : (dats m 0 c).before 17 t d = iblk m c 17 t := before0_17_of m (dats m 0 c) (A_eq m c 17) (after0_17 m c) t d
theorem before0_18 (d) : (dats m 0 c).before 18 t d = iblk m c 18 t := before0_18_of m (dats m 0 c) (A_eq m c 18) (after0_18 m c) t d
theorem before0_19 (d) : (dats m 0 c).before 19 t d = iblk m c 19 t := before0_19_of m (dats m 0 c) (A_eq m c 19) (after0_19 m c) t d
theorem before0_20 (d) : (dats m 0 c).before 20 t d = iblk m c 20 t := before0_20_of m (dats m 0 c) (A_eq m c 20) (after0_20 m c) t d

end Windows

/-- The norm's gradient found at a point: what the point before left, or anything at the first. -/
theorem before_22 (c : Dev nD) (t : Fin cfg0.N) (d) :
    t.val = 0 ∨ (dats m 0 c).before 22 t d = gainAt m c (t.val - 1) (Nat.lt_of_le_of_lt (Nat.sub_le _ _) t.isLt) := by
  have hN : t.val < 16 := lt_of_lt_of_eq t.isLt (show cfg0.N = 16 from N_0)
  by_cases h : t.val = 0
  · exact .inl h
  · refine .inr (((dats m 0 c).before_out_kept 22 rfl t (by omega) ?_ (fun _ => rfl) (fun _ _ => rfl) d).trans (after0_22 m c _))
    refine Bool.eq_false_iff.mpr fun hf => ?_
    have := (flush0_22 _).mp hf
    dsimp only at this; omega

/-- A window that is written at a point is left at what the proof data says. -/
theorem leaves_busy (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 4000000 in
/-- The body at any point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl, show (dats m 0 c).owesAt () t.succ = (dats m 0 c).owesAt () t.castSucc from rfl]
  rw [leaves_busy m c 0 t rfl, after0_0, leaves_busy m c 1 t rfl, after0_1, leaves_busy m c 2 t rfl, after0_2, leaves_busy m c 3 t rfl, after0_3, leaves_busy m c 4 t rfl, after0_4,
    leaves_busy m c 5 t rfl, after0_5, leaves_busy m c 6 t rfl, after0_6, leaves_busy m c 7 t rfl, after0_7, leaves_busy m c 8 t rfl, after0_8, leaves_busy m c 9 t rfl, after0_9,
    leaves_busy m c 10 t rfl, after0_10, leaves_busy m c 11 t rfl, after0_11, leaves_busy m c 12 t rfl, after0_12, leaves_busy m c 13 t rfl, after0_13, leaves_busy m c 14 t rfl, after0_14,
    leaves_busy m c 15 t rfl, after0_15, leaves_busy m c 16 t rfl, after0_16, leaves_busy m c 17 t rfl, after0_17, leaves_busy m c 18 t rfl, after0_18, leaves_busy m c 19 t rfl, after0_19,
    leaves_busy m c 20 t rfl, after0_20, leaves_busy m c 21 t rfl, after0_21, leaves_busy m c 22 t rfl, after0_22]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  rw [← gainAt_eq m c t _ (before_22 m c t d22)]
  iapply (wp_body c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexact H22
  iintro ⟨H0, H1, H2, H3, H4, H5, H6, H7, H8, H9, H10, H11, H12, H13, H14, H15, H16, H17, H18, H19, H20, H21, H22⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch runs: the arrays end at what the proof data says, the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-- The run, with each result named by the proof data. -/
theorem run_blocks : θ_run defs (onTc (τ := τ) (main (F := F))) ⟨m, fun _ => 0, ρ⟩ (fun r => ∀ c : Dev nD,
      r.2.mem ((c.tc : Thread nD τ).loc main_v28_0) = (dats m 0 c).arrAt 21 cfg0.N
      ∧ r.2.mem ((c.tc : Thread nD τ).loc main_v28_1) = (dats m 0 c).arrAt 22 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 21, (h.1 c).1 22, h.2.1 c⟩) (θ_run_and (run_main m ρ) (frame m ρ))

end Cert.MixProjBwdIdeal.Body

end
-- ==== Proof.MixProjValue.lean ====
/- What the backward kernel of the input projection leaves in its results, entry by entry. -/
module

public import proofs.«01_k».proof.Proof.NormSpec
public import proofs.«01_k».proof.Proof.MixProjFrame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixProjBwdIdeal.Value

open Cert.MixProjBwdIdeal Cert.MixProjBwdIdeal.Gen Cert.MixProjBwdIdeal.Body Cert.MixOut Cert.Norm

/-- Some neighbouring columns of a matrix. -/
def cols {n : ℕ} (u : Fin n → Fin 5128 → EReal) (a k : ℕ) (h : a + k ≤ 5128) (r : Fin n) (x : Fin k) : EReal := u r ⟨a + x.val, by omega⟩

/-- A sum over all columns, taken piece by piece in the kernel's order. -/
theorem pieces (f : Fin 5128 → EReal) (s : (a k : ℕ) → a + k ≤ 5128 → EReal) (hs : ∀ a k h, s a k h = ∑ x : Fin k, f ⟨a + x.val, by omega⟩) :
    s 0 512 (by omega) + s 512 512 (by omega) + s 1024 512 (by omega) + s 1544 512 (by omega) + s 2056 512 (by omega) + s 2568 512 (by omega)
      + s 3080 1024 (by omega) + s 4104 1024 (by omega) + s 1536 8 (by omega) = ∑ x, f x := by
  obtain ⟨F, eF⟩ : ∃ F : ℕ → EReal, ∀ n (h : n < 5128), F n = f ⟨n, h⟩ := ⟨fun n => if h : n < 5128 then f ⟨n, h⟩ else 0, fun n h => dif_pos h⟩
  have hF : ∀ a k h, s a k h = ∑ x ∈ Finset.range k, F (a + x) := by
    intro a k h
    rw [hs, Finset.sum_range]
    exact Finset.sum_congr rfl fun x _ => (eF _ _).symm
  have hW : ∑ x, f x = ∑ x ∈ Finset.range 5128, F x := by
    rw [Finset.sum_range]
    exact Finset.sum_congr rfl fun x _ => (eF _ x.isLt).symm
  have e (a k : ℕ) {n : ℕ} (h : n = a + k) : ∑ x ∈ Finset.range n, F x = ∑ x ∈ Finset.range a, F x + ∑ x ∈ Finset.range k, F (a + x) := by
    rw [h]
    exact Finset.sum_range_add _ _ _
  rw [hW, e 4104 1024 rfl, e 3080 1024 rfl, e 2568 512 rfl, e 2056 512 rfl, e 1544 512 rfl, e 1536 8 rfl, e 1024 512 rfl, e 512 512 rfl]
  simp only [hF, Nat.zero_add]
  abel

section Body

variable (X R H : FVec Ideal S256x1024 .f32) (G P : FVec Ideal S1x1024 .f32)
  (p0 p1 p2 p3 p4 p5 : FVec Ideal S256x512 .bf16) (w0 w1 w2 w3 w4 w5 : FVec Ideal S512x1024 .bf16)
  (p6 p7 : FVec Ideal S256x1024 .bf16) (w6 w7 : FVec Ideal S1024x1024 .bf16) (p8 : FVec Ideal S256x128 .f32) (w8 : FVec Ideal S128x1024 .bf16)
  (r : Fin 256) (j : Fin 1024)

theorem dh_at : dhOf (F := Ideal) p0 p1 p2 p3 p4 p5 p6 p7 p8 w0 w1 w2 w3 w4 w5 w6 w7 w8 (ix2 r j)
    = prod (mat p0) (mat w0) r j + prod (mat p1) (mat w1) r j + prod (mat p2) (mat w2) r j + prod (mat p3) (mat w3) r j + prod (mat p4) (mat w4) r j
      + prod (mat p5) (mat w5) r j + prod (mat p6) (mat w6) r j + prod (mat p7) (mat w7) r j + prod (mat p8) (mat w8) r j := by
  pointwise [dhOf, k0_pay8, k0_pay6, k0_pay7, prod, mat]

theorem grad_at : k0_pay3 (F := Ideal) H (k0_pay9 X) (k0_pay10 X) G R (ix2 r j)
    = mat R r j + normGrad (mat X) (fun l => G (ix2 0 l)) (mat H) r j := by
  pointwise [k0_pay3, k0_pay2, k0_pay1, k0_pay9, k0_pay10, normGrad, hat, Cert.Norm.inv, ms, eps, mat]

theorem scale_at : k0_pay4 (F := Ideal) H (k0_pay9 X) (k0_pay10 X) P (ix2 0 j) = P (ix2 0 j) + scaleGrad (mat X) (mat H) j := by
  pointwise [k0_pay4, k0_pay2, k0_pay1, k0_pay9, k0_pay10, scaleGrad, hat, Cert.Norm.inv, ms, eps, mat]

theorem zero_at : k0_pay5 (F := Ideal) (ix2 0 j) = 0 := by
  pointwise [k0_pay5]

end Body

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 1] ∧ win0_11.index t = ![t.val, 0] ∧ win0_12.index t = ![0, 0] ∧ win0_13.index t = ![1, 0] ∧ win0_14.index t = ![2, 0] ∧ win0_15.index t = ![3, 0] ∧ win0_16.index t = ![4, 0] ∧ win0_17.index t = ![5, 0] ∧ win0_18.index t = ![3, 0] ∧ win0_19.index t = ![4, 0] ∧ win0_20.index t = ![0, 0] ∧ win0_21.index t = ![t.val, 0] ∧ win0_22.index t = ![0, 0] :=
  (by decide +kernel : ∀ t : Fin grid0.N, _)

/-- The grid has sixteen points. -/
theorem lt16 (t : Fin cfg0.N) : t.val < 16 := lt_of_lt_of_eq t.isLt N_0

/-- The arguments as one reads them. -/
abbrev argX (c : Dev nD) : FVec Ideal S2x2048x1024 .f32 := m ((c : Thread nD τ).loc main_arg0)
abbrev argG (c : Dev nD) : FVec Ideal S1024 .f32 := m ((c : Thread nD τ).loc main_arg1)
abbrev argW (c : Dev nD) : FVec Ideal S1024x5128 .f32 := m ((c : Thread nD τ).loc main_arg2)
abbrev argR (c : Dev nD) : FVec Ideal S2x2048x1024 .f32 := m ((c : Thread nD τ).loc main_arg3)
abbrev argP (c : Dev nD) : FVec Ideal S2x2048x5128 .f32 := m ((c : Thread nD τ).loc main_arg4)

/-- The tokens' rows as the host lays them out. -/
def castX (v : FVec Ideal S2x2048x1024 .f32) : FVec Ideal S4096x1024 .f32 := shapeCast S4096x1024 v shapeCasts_S2x2048x1024_S4096x1024

def castP (v : FVec Ideal S2x2048x5128 .f32) : FVec Ideal S4096x5128 .f32 := shapeCast S4096x5128 v shapeCasts_S2x2048x5128_S4096x5128

theorem castX_at (v : FVec Ideal S2x2048x1024 .f32) (p : Fin 4096) (j : Fin 1024) : castX v (ix2 p j) = rows v p j := by
  pointwise [castX, rows]

theorem castP_at (v : FVec Ideal S2x2048x5128 .f32) (p : Fin 4096) (j : Fin 5128) : castP v (ix2 p j) = rows v p j := by
  pointwise [castP, rows]

/-- A piece of the cotangent's columns. -/
def cutP (a : ℕ) (h : S4096x5128.Slices ![0, a] S4096x512) (v : FVec Ideal S2x2048x5128 .f32) : FVec Ideal S4096x512 .bf16 :=
  truncf .bf16 (extractStridedSlice S4096x512 ![0, a] (castP v) h) bitsLt_bf16_f32

theorem cutP_at (a : ℕ) (ha : a + 512 ≤ 5128) (h : S4096x5128.Slices ![0, a] S4096x512) (v : FVec Ideal S2x2048x5128 .f32) (p : Fin 4096) (x : Fin 512) :
    cutP a h v (ix2 p x) = cols (rows v) a 512 ha p x := by
  refine Eq.trans ?_ (castP_at v p ⟨a + x.val, by omega⟩)
  refine congrArg (castP v) (funext fun d => Fin.ext ?_)
  match d with
  | ⟨0, _⟩ => exact Nat.zero_add _
  | ⟨1, _⟩ => rfl

/-- The gates' columns. -/
def cutG (v : FVec Ideal S2x2048x5128 .f32) : FVec Ideal S4096x2048 .bf16 :=
  truncf .bf16 (extractStridedSlice S4096x2048 ![0, 3080] (castP v) slices_S4096x5128_S4096x2048_0_3080) bitsLt_bf16_f32

theorem cutG_at (b : ℕ) (hb : b ≤ 1024) (v : FVec Ideal S2x2048x5128 .f32) (p : Fin 4096) (x : Fin 1024) :
    cutG v (ix2 p ⟨b + x.val, by omega⟩) = cols (rows v) (3080 + b) 1024 (by omega) p x := by
  pointwise [cutG, castP_at, cols]
  exact congrArg (rows v p) (Fin.ext (by dsimp only; omega))

/-- The zero the padding fills with. -/
theorem fill_eq : (FloatOps.sitofp FTy.f32 (0#32 : BitVec 32) : Ideal .f32) = 0 := by
  show (((0#32).toInt : ℝ) : EReal) = 0
  simp

/-- The forget gates' columns, padded. -/
def cutF (v : FVec Ideal S2x2048x5128 .f32) : FVec Ideal S4096x128 .f32 :=
  pad S4096x128 ![0, 0] ![0, 120] ![0, 0] (extractStridedSlice S4096x8 ![0, 1536] (castP v) slices_S4096x5128_S4096x8_0_1536) (sitofp .f32 (constantI S_ 32 0#32)) pads_S4096x8_S4096x128_000_01200 h_S_

theorem cutF_at (v : FVec Ideal S2x2048x5128 .f32) (p : Fin 4096) (x : Fin 128) :
    cutF v (ix2 p x) = if h : x.val < 8 then cols (rows v) 1536 8 (by omega) p ⟨x.val, h⟩ else 0 := by
  pointwise [cutF, castP_at, cols, fill_eq]

/-- The weight, transposed, without the forget gates' rows; and those alone, padded. -/
def castW (v : FVec Ideal S1024x5128 .f32) : FVec Ideal S5120x1024 .bf16 :=
  truncf .bf16 (concatenate S5120x1024 0 [⟨S1536x1024, extractStridedSlice S1536x1024 ![0, 0] (transpose S5128x1024 [1, 0] v transposes_S1024x5128_S5128x1024_1_0) slices_S5128x1024_S1536x1024_0_0⟩, ⟨S3584x1024, extractStridedSlice S3584x1024 ![1544, 0] (transpose S5128x1024 [1, 0] v transposes_S1024x5128_S5128x1024_1_0) slices_S5128x1024_S3584x1024_1544_0⟩] concatenates_S1536x1024_S3584x1024_S5120x1024_d0) bitsLt_bf16_f32

def castF (v : FVec Ideal S1024x5128 .f32) : FVec Ideal S128x1024 .bf16 :=
  truncf .bf16 (pad S128x1024 ![0, 0] ![120, 0] ![0, 0] (extractStridedSlice S8x1024 ![1536, 0] (transpose S5128x1024 [1, 0] v transposes_S1024x5128_S5128x1024_1_0) slices_S5128x1024_S8x1024_1536_0) (sitofp .f32 (constantI S_ 32 0#32)) pads_S8x1024_S128x1024_01200_000 h_S_) bitsLt_bf16_f32

theorem castW_low (a k : ℕ) (h : a + k ≤ 1536) (v : FVec Ideal S1024x5128 .f32) (x : Fin k) (j : Fin 1024) :
    castW v (ix2 ⟨a + x.val, by omega⟩ j) = cols (mat v) a k (by omega) j x := by
  pointwise [castW, cols, mat]
  rw [dif_pos (by omega)]

theorem castW_high (a k : ℕ) (h0 : 1536 ≤ a) (h : a + k ≤ 5120) (v : FVec Ideal S1024x5128 .f32) (x : Fin k) (j : Fin 1024) :
    castW v (ix2 ⟨a + x.val, by omega⟩ j) = cols (mat v) (a + 8) k (by omega) j x := by
  pointwise [castW, cols, mat]
  rw [dif_neg (by omega)]
  exact congrArg (fun q => v (ix2 j q)) (Fin.ext (by dsimp only; omega))

theorem castF_at (v : FVec Ideal S1024x5128 .f32) (x : Fin 128) (j : Fin 1024) :
    castF v (ix2 x j) = if h : x.val < 8 then cols (mat v) 1536 8 (by omega) j ⟨x.val, h⟩ else 0 := by
  pointwise [castF, cols, mat, fill_eq]

theorem host (c : Dev nD) : V m c main_v25 = castX (argR m c) ∧ V m c main_v26 = castX (argX m c)
    ∧ V m c main_v27 = (shapeCast S1x1024 (argG m c) shapeCasts_S1024_S1x1024 : FVec Ideal S1x1024 .f32)
    ∧ V m c main_v4 = castW (argW m c) ∧ V m c main_v7 = castF (argW m c) ∧ V m c main_v22 = cutG (argP m c) ∧ V m c main_v24 = cutF (argP m c) := by
  refine ⟨?_, ?_, ?_, ?_, ?_, ?_, ?_⟩ <;> simp only [V, List.flatten_cons, List.flatten_nil, List.append_nil, List.cons_append, List.nil_append,
    hostOps0, hostOps0_1, hostOps0_2, hostOps0_3, hostOps0_4, StableHlo.TRef.binary, StableHlo.TRef.unary, StableHlo.TRef.toBuf, StableHlo.TRef.ofBuf, cast_eq] <;>
    after_results_simp <;> rfl

theorem hostP (c : Dev nD) : V m c main_v10 = cutP 0 slices_S4096x5128_S4096x512_0_0 (argP m c)
    ∧ V m c main_v12 = cutP 512 slices_S4096x5128_S4096x512_0_512 (argP m c)
    ∧ V m c main_v14 = cutP 1024 slices_S4096x5128_S4096x512_0_1024 (argP m c)
    ∧ V m c main_v16 = cutP 1544 slices_S4096x5128_S4096x512_0_1544 (argP m c)
    ∧ V m c main_v18 = cutP 2056 slices_S4096x5128_S4096x512_0_2056 (argP m c)
    ∧ V m c main_v20 = cutP 2568 slices_S4096x5128_S4096x512_0_2568 (argP m c) := by
  refine ⟨?_, ?_, ?_, ?_, ?_, ?_⟩ <;> simp only [V, List.flatten_cons, List.flatten_nil, List.append_nil, List.cons_append, List.nil_append,
    hostOps0, hostOps0_1, hostOps0_2, hostOps0_3, hostOps0_4, StableHlo.TRef.binary, StableHlo.TRef.unary, StableHlo.TRef.toBuf, StableHlo.TRef.ofBuf, cast_eq] <;>
    after_results_simp <;> rfl

section Blocks

variable (c : Dev nD) (t : Fin cfg0.N)

/-- A row of a tile as a row of the whole. -/
def row (r : Fin 256) : Fin 4096 := ⟨256 * t.val + r.val, by have := lt16 t; omega⟩

theorem blk0 : mat (show FVec Ideal S256x1024 .f32 from iblk m c 0 t) = fun r => rows (argR m c) (row t r) := by
  funext r j
  refine (congrArg (V m c main_v25) (?_ : _ = ix2 (row t r) j)).trans ((congrFun (host m c).1 _).trans (castX_at _ _ _))
  blk_ext [idx t]
  exact congrArg (· + r.val) (Nat.mul_comm _ _)

theorem blk1 : mat (show FVec Ideal S256x1024 .f32 from iblk m c 1 t) = fun r => rows (argX m c) (row t r) := by
  funext r j
  refine (congrArg (V m c main_v26) (?_ : _ = ix2 (row t r) j)).trans ((congrFun (host m c).2.1 _).trans (castX_at _ _ _))
  blk_ext [idx t]
  exact congrArg (· + r.val) (Nat.mul_comm _ _)

theorem blk2 (l : Fin 1024) : (show FVec Ideal S1x1024 .f32 from iblk m c 2 t) (ix2 0 l) = argG m c (ix1 l) := by
  refine (congrArg (V m c main_v27) (?_ : _ = ix2 0 l)).trans ((congrFun (host m c).2.2.1 _).trans ?_)
  · blk_ext [idx t]
  · pointwise

theorem blk3 : mat (show FVec Ideal S256x512 .bf16 from iblk m c 3 t) = fun r => cols (rows (argP m c)) 0 512 (by omega) (row t r) := by
  funext r x
  refine (congrArg (V m c main_v10) (?_ : _ = ix2 (row t r) x)).trans ((congrFun (hostP m c).1 _).trans (cutP_at _ _ _ _ _ _))
  blk_ext [idx t]
  exact congrArg (· + r.val) (Nat.mul_comm _ _)

theorem blk4 : mat (show FVec Ideal S256x512 .bf16 from iblk m c 4 t) = fun r => cols (rows (argP m c)) 512 512 (by omega) (row t r) := by
  funext r x
  refine (congrArg (V m c main_v12) (?_ : _ = ix2 (row t r) x)).trans ((congrFun (hostP m c).2.1 _).trans (cutP_at _ _ _ _ _ _))
  blk_ext [idx t]
  exact congrArg (· + r.val) (Nat.mul_comm _ _)

theorem blk5 : mat (show FVec Ideal S256x512 .bf16 from iblk m c 5 t) = fun r => cols (rows (argP m c)) 1024 512 (by omega) (row t r) := by
  funext r x
  refine (congrArg (V m c main_v14) (?_ : _ = ix2 (row t r) x)).trans ((congrFun (hostP m c).2.2.1 _).trans (cutP_at _ _ _ _ _ _))
  blk_ext [idx t]
  exact congrArg (· + r.val) (Nat.mul_comm _ _)

theorem blk6 : mat (show FVec Ideal S256x512 .bf16 from iblk m c 6 t) = fun r => cols (rows (argP m c)) 1544 512 (by omega) (row t r) := by
  funext r x
  refine (congrArg (V m c main_v16) (?_ : _ = ix2 (row t r) x)).trans ((congrFun (hostP m c).2.2.2.1 _).trans (cutP_at _ _ _ _ _ _))
  blk_ext [idx t]
  exact congrArg (· + r.val) (Nat.mul_comm _ _)

theorem blk7 : mat (show FVec Ideal S256x512 .bf16 from iblk m c 7 t) = fun r => cols (rows (argP m c)) 2056 512 (by omega) (row t r) := by
  funext r x
  refine (congrArg (V m c main_v18) (?_ : _ = ix2 (row t r) x)).trans ((congrFun (hostP m c).2.2.2.2.1 _).trans (cutP_at _ _ _ _ _ _))
  blk_ext [idx t]
  exact congrArg (· + r.val) (Nat.mul_comm _ _)

theorem blk8 : mat (show FVec Ideal S256x512 .bf16 from iblk m c 8 t) = fun r => cols (rows (argP m c)) 2568 512 (by omega) (row t r) := by
  funext r x
  refine (congrArg (V m c main_v20) (?_ : _ = ix2 (row t r) x)).trans ((congrFun (hostP m c).2.2.2.2.2 _).trans (cutP_at _ _ _ _ _ _))
  blk_ext [idx t]
  exact congrArg (· + r.val) (Nat.mul_comm _ _)

theorem blk9 : mat (show FVec Ideal S256x1024 .bf16 from iblk m c 9 t) = fun r => cols (rows (argP m c)) 3080 1024 (by omega) (row t r) := by
  funext r x
  refine (congrArg (V m c main_v22) (?_ : _ = ix2 (row t r) ⟨0 + x.val, by omega⟩)).trans ((congrFun (host m c).2.2.2.2.2.1 _).trans (cutG_at 0 (by omega) _ _ _))
  blk_ext [idx t]
  exact congrArg (· + r.val) (Nat.mul_comm _ _)

theorem blk10 : mat (show FVec Ideal S256x1024 .bf16 from iblk m c 10 t) = fun r => cols (rows (argP m c)) 4104 1024 (by omega) (row t r) := by
  funext r x
  refine (congrArg (V m c main_v22) (?_ : _ = ix2 (row t r) ⟨1024 + x.val, by omega⟩)).trans ((congrFun (host m c).2.2.2.2.2.1 _).trans (cutG_at 1024 (by omega) _ _ _))
  blk_ext [idx t]
  exact congrArg (· + r.val) (Nat.mul_comm _ _)

theorem blk11 (r : Fin 256) (x : Fin 128) : mat (show FVec Ideal S256x128 .f32 from iblk m c 11 t) r x
    = if h : x.val < 8 then cols (rows (argP m c)) 1536 8 (by omega) (row t r) ⟨x.val, h⟩ else 0 := by
  refine (congrArg (V m c main_v24) (?_ : _ = ix2 (row t r) x)).trans ((congrFun (host m c).2.2.2.2.2.2 _).trans (cutF_at _ _ _))
  blk_ext [idx t]
  exact congrArg (· + r.val) (Nat.mul_comm _ _)

theorem blk12 : mat (show FVec Ideal S512x1024 .bf16 from iblk m c 12 t) = fun x j => cols (mat (argW m c)) 0 512 (by omega) j x := by
  funext x j
  refine (congrArg (V m c main_v4) (?_ : _ = ix2 ⟨0 + x.val, by omega⟩ j)).trans ((congrFun (host m c).2.2.2.1 _).trans (castW_low 0 512 (by omega) _ _ _))
  blk_ext [idx t]

theorem blk13 : mat (show FVec Ideal S512x1024 .bf16 from iblk m c 13 t) = fun x j => cols (mat (argW m c)) 512 512 (by omega) j x := by
  funext x j
  refine (congrArg (V m c main_v4) (?_ : _ = ix2 ⟨512 + x.val, by omega⟩ j)).trans ((congrFun (host m c).2.2.2.1 _).trans (castW_low 512 512 (by omega) _ _ _))
  blk_ext [idx t]

theorem blk14 : mat (show FVec Ideal S512x1024 .bf16 from iblk m c 14 t) = fun x j => cols (mat (argW m c)) 1024 512 (by omega) j x := by
  funext x j
  refine (congrArg (V m c main_v4) (?_ : _ = ix2 ⟨1024 + x.val, by omega⟩ j)).trans ((congrFun (host m c).2.2.2.1 _).trans (castW_low 1024 512 (by omega) _ _ _))
  blk_ext [idx t]

theorem blk15 : mat (show FVec Ideal S512x1024 .bf16 from iblk m c 15 t) = fun x j => cols (mat (argW m c)) 1544 512 (by omega) j x := by
  funext x j
  refine (congrArg (V m c main_v4) (?_ : _ = ix2 ⟨1536 + x.val, by omega⟩ j)).trans ((congrFun (host m c).2.2.2.1 _).trans (castW_high 1536 512 (by omega) (by omega) _ _ _))
  blk_ext [idx t]

theorem blk16 : mat (show FVec Ideal S512x1024 .bf16 from iblk m c 16 t) = fun x j => cols (mat (argW m c)) 2056 512 (by omega) j x := by
  funext x j
  refine (congrArg (V m c main_v4) (?_ : _ = ix2 ⟨2048 + x.val, by omega⟩ j)).trans ((congrFun (host m c).2.2.2.1 _).trans (castW_high 2048 512 (by omega) (by omega) _ _ _))
  blk_ext [idx t]

theorem blk17 : mat (show FVec Ideal S512x1024 .bf16 from iblk m c 17 t) = fun x j => cols (mat (argW m c)) 2568 512 (by omega) j x := by
  funext x j
  refine (congrArg (V m c main_v4) (?_ : _ = ix2 ⟨2560 + x.val, by omega⟩ j)).trans ((congrFun (host m c).2.2.2.1 _).trans (castW_high 2560 512 (by omega) (by omega) _ _ _))
  blk_ext [idx t]

theorem blk18 : mat (show FVec Ideal S1024x1024 .bf16 from iblk m c 18 t) = fun x j => cols (mat (argW m c)) 3080 1024 (by omega) j x := by
  funext x j
  refine (congrArg (V m c main_v4) (?_ : _ = ix2 ⟨3072 + x.val, by omega⟩ j)).trans ((congrFun (host m c).2.2.2.1 _).trans (castW_high 3072 1024 (by omega) (by omega) _ _ _))
  blk_ext [idx t]

theorem blk19 : mat (show FVec Ideal S1024x1024 .bf16 from iblk m c 19 t) = fun x j => cols (mat (argW m c)) 4104 1024 (by omega) j x := by
  funext x j
  refine (congrArg (V m c main_v4) (?_ : _ = ix2 ⟨4096 + x.val, by omega⟩ j)).trans ((congrFun (host m c).2.2.2.1 _).trans (castW_high 4096 1024 (by omega) (by omega) _ _ _))
  blk_ext [idx t]

theorem blk20 (x : Fin 128) (j : Fin 1024) : mat (show FVec Ideal S128x1024 .bf16 from iblk m c 20 t) x j
    = if h : x.val < 8 then cols (mat (argW m c)) 1536 8 (by omega) j ⟨x.val, h⟩ else 0 := by
  refine (congrArg (V m c main_v7) (?_ : _ = ix2 x j)).trans ((congrFun (host m c).2.2.2.2.1 _).trans (castF_at _ _ _))
  blk_ext [idx t]

/-- The padded lanes add nothing. -/
theorem lanes_sum (u w : Fin 8 → EReal) : (∑ x : Fin 128, (if h : x.val < 8 then u ⟨x.val, h⟩ else 0) * (if h : x.val < 8 then w ⟨x.val, h⟩ else 0)) = ∑ x, u x * w x := by
  refine (Fin.sum_univ_add (a := 8) (b := 120) _).trans ?_
  rw [show (∑ x : Fin 120, _) = (0 : EReal) from Finset.sum_eq_zero fun x _ => by
    rw [dif_neg (by simp), zero_mul], add_zero]
  exact Finset.sum_congr rfl fun x _ => by
    rw [dif_pos (by simp), dif_pos (by simp)]
    rfl

theorem dhAt_eq : mat (dhAt m c t) = fun r => prodT (rows (argP m c)) (mat (argW m c)) (row t r) := by
  funext r j
  refine (dh_at _ _ _ _ _ _ _ _ _ _ _ _ _ _ _ _ _ _ r j).trans ?_
  rw [blk3, blk4, blk5, blk6, blk7, blk8, blk9, blk10, blk12, blk13, blk14, blk15, blk16, blk17, blk18, blk19]
  refine Eq.trans ?_ (pieces (fun x => rows (argP m c) (row t r) x * mat (argW m c) j x)
    (fun a k h => ∑ x, cols (rows (argP m c)) a k h (row t r) x * cols (mat (argW m c)) a k h j x) fun a k h => rfl)
  refine congrArg (HAdd.hAdd (α := EReal) (β := EReal) _) ?_
  unfold prod
  simp only [blk11, blk20]
  exact lanes_sum _ _

theorem addGain_at (P : FVec Ideal S1x1024 .f32) (j : Fin 1024) : addGain m c t P (ix2 0 j) = P (ix2 0 j)
    + scaleGrad (fun r => rows (argX m c) (row t r)) (fun r => prodT (rows (argP m c)) (mat (argW m c)) (row t r)) j := by
  refine (scale_at _ _ _ _).trans ?_
  rw [blk1, dhAt_eq]

/-- A tile's part of the norm's gradient. -/
def part (i : S1x1024.Idx) : EReal :=
  scaleGrad (fun r => rows (argX m c) (row t r)) (fun r => prodT (rows (argP m c)) (mat (argW m c)) (row t r)) (i 1)

theorem gainAt_first (h : t.val % 16 = 0) : gainAt m c t.val t.isLt = addGain m c t (k0_pay5 (F := Ideal)) := by
  have ht := lt16 t
  obtain ⟨n, hn⟩ := t
  obtain _ | n := n
  · rfl
  · exact absurd h (by dsimp only at ht ⊢; omega)

theorem gainAt_step (h : ¬t.val % 16 = 0) :
    gainAt m c t.val t.isLt = addGain m c t (gainAt m c (t.val - 1) (Nat.lt_of_le_of_lt (Nat.sub_le _ _) t.isLt)) := by
  obtain ⟨n, hn⟩ := t
  obtain _ | n := n
  · exact absurd rfl h
  · rfl

theorem gain_first (h : t.val % 16 = 0) (i : S1x1024.Idx) : gainAt m c t.val t.isLt i = 0 + part m c t i := by
  rw [gainAt_first m c t h]
  idx_vars i
  obtain rfl : i0 = 0 := Subsingleton.elim _ _
  rw [addGain_at, zero_at]
  rfl

theorem gain_step (h : ¬t.val % 16 = 0) (i : S1x1024.Idx) :
    gainAt m c t.val t.isLt i = gainAt m c (t.val - 1) (Nat.lt_of_le_of_lt (Nat.sub_le _ _) t.isLt) i + part m c t i := by
  rw [gainAt_step m c t h]
  idx_vars i
  obtain rfl : i0 = 0 := Subsingleton.elim _ _
  exact addGain_at _ _ _ _ _

end Blocks

/-- Result 0: the gradient of the layer's input. -/
theorem whole21 (c : Dev nD) : (dats m 0 c).arrAt 21 (cfgs 0).N
    = (fun i => rows (argR m c) (i 0) (i 1) + normGrad (rows (argX m c)) (fun l => argG m c (ix1 l)) (prodT (rows (argP m c)) (mat (argW m c))) (i 0) (i 1) : FVec Ideal S4096x1024 .f32) := by
  refine (dats m 0 c).arrAt_eq_of_covers 21 _ (by decide +kernel) fun t hf y => ?_
  blk_simp
  rw [after0_21]
  idx_vars y
  have e : ((cfg0.win 21).blk t).view.emb (ix2 y0 y1) = ix2 (row t y0) y1 := by
    blk_ext [idx t]
    exact congrArg (· + y0.val) (Nat.mul_comm _ _)
  refine (grad_at _ _ _ _ y0 y1).trans ?_
  rw [blk0, blk1, dhAt_eq, e, show (fun l => (show FVec Ideal S1x1024 .f32 from iblk m c 2 t) (ix2 0 l)) = fun l => argG m c (ix1 l) from funext (blk2 m c t)]
  rfl

/-- A scale's gradient over rows taken tile by tile. -/
theorem scale_tiles (x d : Fin 4096 → Fin 1024 → EReal) (j : Fin 1024) :
    (∑ t : Fin cfg0.N, scaleGrad (fun r => x (row t r)) (fun r => d (row t r)) j) = scaleGrad x d j :=
  Cert.Sums.tiles 16 256 rfl fun r => d r j * hat x r j

/-- Result 1: the gradient of the norm's scale. -/
theorem whole22 (c : Dev nD) : (dats m 0 c).arrAt 22 (cfgs 0).N
    = (fun i => scaleGrad (rows (argX m c)) (prodT (rows (argP m c)) (mat (argW m c))) (i 1) : FVec Ideal S1x1024 .f32) := by
  refine (dats m 0 c).arrAt_eq_of_after_last 22 t0_15 (by decide +kernel) _ fun j => ?_
  blk_simp
  rw [after0_22]
  rw [Pipeline.eq_sum_fin_of_reset_step_apply_last (gainAt m c) 16 (fun _ => 0)
    (part m c)
    (fun u hu j => gain_first m c u hu j) (fun u hu j => gain_step m c u hu j)
    (le_of_eq N_0) t0_15 rfl _, zero_add]
  exact scale_tiles _ _ _

end Cert.MixProjBwdIdeal.Value

end
-- ==== Proof.MixProjClaim.lean ====
/- The backward kernel of the input projection computes the derivative through the projection and the norm. -/
module

public import proofs.«01_k».proof.Defs
public import proofs.«01_k».proof.Proof.Finite
public import proofs.«01_k».proof.Proof.Gen.Pre_finite_norm
public import proofs.«01_k».proof.Proof.MixProjRef
public import proofs.«01_k».proof.Proof.MixProjValue

@[expose] public section

set_option maxRecDepth 16384

noncomputable section

open Idealize.ShloMosaic Idealize.ShloMosaic.TcCoe Idealize.SL.Sem

namespace Cert.Proof

open Cert.MixProjBwdIdeal Cert.MixProjBwdIdeal.Value Cert.MixOut
open Cert.MixProjGradIdeal.Value (gradV scaleV dhV invV msV gradV_at scaleV_eq)

/-- Over finite arguments the rows' gradient is the derivative's. -/
theorem proj_grad (X R : FVec Ideal S2x2048x1024 .f32) (G : FVec Ideal S1024 .f32) (W : FVec Ideal S1024x5128 .f32) (P : FVec Ideal S2x2048x5128 .f32)
    (hX : ∀ i, ∃ r : ℝ, X i = r) (hG : ∀ i, ∃ r : ℝ, G i = r) (hW : ∀ i, ∃ r : ℝ, W i = r) (hP : ∀ i, ∃ r : ℝ, P i = r) (p : Fin 4096) (j : Fin 1024) :
    gradV X R G W P (ix2 p j) = rows R p j + Cert.Norm.normGrad (rows X) (fun l => G (ix1 l)) (prodT (rows P) (mat W)) p j := by
  choose x ex using hX
  choose g eg using hG
  choose w ew using hW
  choose q eq using hP
  rw [gradV_at]
  refine Cert.Norm.grad_eq (rows X) (prodT (rows P) (mat W)) (fun l => G (ix1 l)) (fun r j => x (ix3 ⟨r.val / 2048, by omega⟩ ⟨r.val % 2048, by omega⟩ j))
    (fun r j => ∑ l : Fin 5128, q (ix3 ⟨r.val / 2048, by omega⟩ ⟨r.val % 2048, by omega⟩ l) * w (ix2 j l)) (fun l => g (ix1 l)) p
    (fun r j => ex _) (fun r j => ?_) (fun l => eg _) _ j
  rw [Cert.Norm.coe_sum]
  exact Finset.sum_congr rfl fun l _ => (congrArg₂ (· * ·) (eq _) (ew _)).trans (EReal.coe_mul _ _).symm

set_option maxHeartbeats 4000000 in
theorem algebraic_mixproj : Cert.algebraic_MixProjBwdIdeal_MixProjGradIdeal_pre_finite_norm := by
  pair_intro
  · run_from Cert.MixProjBwdIdeal.Body.run_blocks m g
  · run_from Cert.MixProjGradIdeal.Value.run m' g'
    · refine Eq.trans (b := gradV (argX m c) (argR m c) (argG m c) (argW m c) (argP m c)) ?_ (Eq.trans ?_ (whole21 m c).symm)
      · obtain ⟨e0, e1, e2, e3, e4⟩ := hagree c
        unfold Cert.MixProjGradIdeal.Value.res_main_v39
        simp only [e0, e1, e2, e3, e4]
        rfl
      funext i
      idx_vars i
      exact proj_grad _ _ _ _ _ (Cert.Finite.reals _ _ (hpre c).1) (Cert.Finite.reals _ _ (hpre c).2.1)
        (Cert.Finite.reals _ _ (hpre c).2.2.1) (Cert.Finite.reals _ _ (hpre c).2.2.2) i0 i1
    · refine Eq.trans (b := scaleV (argX m c) (dhV (argW m c) (argP m c)) (invV (msV (argX m c)))) ?_ (Eq.trans ?_ (whole22 m c).symm)
      · rfl
      funext i
      idx_vars i
      exact scaleV_eq _ _ _ _ _

/-- The reference is host operations only: its generated run says that its arguments are left alone, and it declares
    no semaphore. -/
theorem frame_mixproj_grad : Cert.quiescent_MixProjGradIdeal := fun m ρ _ =>
  (θ_run Cert.MixProjGradIdeal.defs _ _).mono (fun r h => ⟨fun c => (h c).2.2, sem_eq_zero_of_no_sems (by decide) r.2⟩)
    (Cert.MixProjGradIdeal.Value.run (F := Ideal) m ρ)

end Cert.Proof

end
-- ==== Proof.MixProjFrames.lean ====
module

public import proofs.«01_k».proof.Defs
public import proofs.«01_k».proof.Proof.MixProjFrame
public import proofs.«01_k».proof.Proof.Gen.MixProjBwd.Frame.Runs

@[expose] public section

set_option maxRecDepth 16384

/-! The frames of the input projection's gradient, both read off the one run. -/

namespace Cert.Proof.MixProj

open Idealize.ShloMosaic Idealize.SL.Sem

set_option maxHeartbeats 4000000 in
/-- The frame over bits: the program is the same text. -/
theorem frame_bits : Cert.quiescent_MixProjBwd := fun m ρ _ => by
  refine cast ?_ (Cert.MixProjBwdIdeal.Body.frame (F := Bits) m ρ)
  sl_kernel_rfl

/-- The frame over the ideal values. -/
theorem frame_ideal : Cert.quiescent_MixProjBwdIdeal := fun m ρ _ => Cert.MixProjBwdIdeal.Body.frame (F := Ideal) m ρ

end Cert.Proof.MixProj
-- ==== Proof.FfnSpec.lean ====
/- The hidden activations of the feed-forward layer and its weights' gradients, entry by entry, over rows of tokens. -/
module

public import proofs.«01_k».proof.Proof.MixOutSpec

@[expose] public section

noncomputable section

open Idealize.ShloMosaic Cert.MixOut

namespace Cert.Ffn

variable {n p : ℕ}

/-- The activation: the gate's branch through its nonlinearity, times the other branch. -/
def act (g u : Fin n → Fin p → EReal) (r : Fin n) (j : Fin p) : EReal := g r j * gateOf (g r j) * u r j

/-- A row of a weight's gradient, of the chip `k`. -/
def slot (k : Fin 4) (f : Fin 704) : Fin 2816 := ⟨k.val * 704 + f.val, by omega⟩

/-- A weight's gradient, one slab a chip. -/
def slabs (W : Fin 2816 → Fin 1024 → EReal) : (⟨3, ![4, 704, 1024]⟩ : Shape).Idx → EReal := fun i => W (slot (i 0) (i 1)) (i 2)

end Cert.Ffn

end
-- ==== Proof.FfnDwRef.lean ====
/- The reference of the feed-forward weights' gradients, entry by entry. -/
module

public import proofs.«01_k».proof.Proof.FfnSpec
public import proofs.«01_k».proof.Proof.Gen.FfnDwGradIdeal.Run

@[expose] public section

set_option maxRecDepth 16384

noncomputable section

open Idealize.ShloMosaic Idealize.ShloMosaic.TcCoe Idealize.SL.Sem

namespace Cert.FfnDwGradIdeal.Value

open Cert.FfnDwGradIdeal Cert.FfnDwGradIdeal.Gen Cert.MixOut Cert.Ffn

variable (N D : FVec Ideal S2x2048x1024 .f32) (A B : FVec Ideal S1024x2816 .f32) (H U : FVec Ideal S2x2048x2816 .f32)
  (b : Fin 2) (s : Fin 2048) (j : Fin 2816)

/-- A hidden branch. -/
def hidV : FVec Ideal S2x2048x2816 .f32 := Host.dotGeneral dot_S2x2048x1024_S1024x2816_S2x2048x2816_2_0_01_1_n_n none N A

theorem hidV_at : hidV N A (ix3 b s j) = ∑ x, N (ix3 b s x) * A (ix2 x j) := by
  pointwise [hidV]

/-- The activation. -/
def actV : FVec Ideal S2x2048x2816 .f32 :=
  mulf (mulf H (Host.divf (broadcastInDim S2x2048x2816 ![] bcast_S_S2x2048x2816 (constant S_ .f32 0x3F800000#32))
    (addf (broadcastInDim S2x2048x2816 ![] bcast_S_S2x2048x2816 (constant S_ .f32 0x3F800000#32)) (Host.exp (Host.negf H))))) U

theorem actV_at : actV H U (ix3 b s j) = H (ix3 b s j) * gateOf (H (ix3 b s j)) * U (ix3 b s j) := by
  pointwise [actV, gateOf]

/-- The gradient of a weight that takes the layer's input. -/
def inV : FVec Ideal S4x704x1024 .bf16 :=
  truncf .bf16 (shapeCast _ (transpose S2816x1024 [1, 0] (transpose S1024x2816 [1, 0] (Host.dotGeneral dot_S2x2048x2816_S2x2048x1024_S2816x1024_01_01_2_2_n_n none H N) transposes_S2816x1024_S1024x2816_1_0) transposes_S1024x2816_S2816x1024_1_0) shapeCasts_S2816x1024_S4x704x1024) bitsLt_bf16_f32

theorem inV_eq : inV N H = slabs (wGrad (rows H) (rows N)) := by
  funext i
  idx_vars i
  pointwise [inV, slabs, slot, wGrad, rows]
  exact Cert.Sums.pairs _

/-- The gradient of the weight that takes the activation. -/
def outV : FVec Ideal S4x704x1024 .bf16 :=
  truncf .bf16 (shapeCast _ (transpose S2816x1024 [1, 0] (Host.dotGeneral dot_S2x2048x1024_S2x2048x2816_S1024x2816_01_01_2_2_n_n none D (actV (hidV N A) (hidV N B))) transposes_S1024x2816_S2816x1024_1_0) shapeCasts_S2816x1024_S4x704x1024) bitsLt_bf16_f32

theorem outV_eq : outV N D A B = slabs (wGrad (act (prod (rows N) (mat A)) (prod (rows N) (mat B))) (rows D)) := by
  funext i
  idx_vars i
  pointwise [outV, slabs, slot, actV_at, hidV_at, wGrad, act, prod, rows, mat]
  exact (Cert.Sums.pairs _).trans (Finset.sum_congr rfl fun x _ => mul_comm _ _)

end Cert.FfnDwGradIdeal.Value

end
-- ==== Proof.FfnDwValue.lean ====
/- What the backward kernel of the feed-forward weights leaves in its results, entry by entry. -/
module

public import proofs.«01_k».proof.Proof.FfnSpec
public import proofs.«01_k».proof.Proof.Gen.FfnBwdDwIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnBwdDwIdeal.Value

open Cert.FfnBwdDwIdeal Cert.FfnBwdDwIdeal.Gen Cert.MixOut Cert.Ffn

/-- A block of one chip's slab, as a matrix. -/
def slab (v : FVec Ideal S1x1024x704 .bf16) (r : Fin 1024) (f : Fin 704) : EReal := v (ix3 0 r f)

section Body

variable (X D : FVec Ideal S1024x1024 .bf16) (G U : FVec Ideal S1x1024x704 .bf16) (P : FVec Ideal S704x1024 .f32)
  (i : Fin 704) (j : Fin 1024)

theorem in_at : k0_pay11 (F := Ideal) X P G (ix2 i j) = P (ix2 i j) + wGrad (slab G) (mat X) i j := by
  pointwise [k0_pay11, k0_pay9]
  rfl

theorem in'_eq : k0_pay1 (F := Ideal) (k0_pay9 X) P G = k0_pay11 X P G := rfl

theorem act_at (r : Fin 1024) : k0_pay10 (F := Ideal) G U (ix2 r i) = act (slab G) (slab U) r i := by
  pointwise [k0_pay10, act, slab, gateOf]
  rw [zero_sub]

theorem tn_at (Y : FVec Ideal S1024x704 .bf16) : k0_pay2 (F := Ideal) Y P D (ix2 i j) = P (ix2 i j) + wGrad (mat Y) (mat D) i j := by
  pointwise [k0_pay2]
  rfl

theorem out_at : k0_pay2 (F := Ideal) (k0_pay10 G U) P D (ix2 i j) = P (ix2 i j) + wGrad (act (slab G) (slab U)) (mat D) i j := by
  refine (tn_at D P i j _).trans (congrArg (P (ix2 i j) + ·) (Finset.sum_congr rfl fun r _ => congrArg (· * _) ?_))
  exact act_at G U i r

theorem zero_at : k0_pay6 (F := Ideal) (ix2 i j) = 0 := by
  pointwise [k0_pay6]

theorem write_at : k0_pay3 (F := Ideal) P (ix3 0 i j) = P (ix2 i j) := by
  pointwise [k0_pay3]

end Body

variable (m : (ℓ : Loc nD τ sig) → Buf (Elt Ideal) ℓ)

/-- Every window's block index at every grid point. -/
theorem idx : ∀ t : Fin cfg0.N, win0_0.index t = ![t.val % 4, 0] ∧ win0_1.index t = ![t.val % 4, 0] ∧ win0_2.index t = ![t.val / 4, t.val % 4, 0]
    ∧ win0_3.index t = ![t.val / 4, t.val % 4, 0] ∧ win0_4.index t = ![t.val / 4, t.val % 4, 0] ∧ win0_5.index t = ![t.val / 4, t.val % 4, 0]
    ∧ win0_6.index t = ![t.val / 4, 0, 0] ∧ win0_7.index t = ![t.val / 4, 0, 0] ∧ win0_8.index t = ![t.val / 4, 0, 0] :=
  (by decide +kernel : ∀ t : Fin grid0.N, _)

/-- The grid has sixteen points. -/
theorem lt16 (t : Fin cfg0.N) : t.val < 16 := lt_of_lt_of_eq t.isLt N_0

/-- The arguments as one reads them. -/
abbrev argN (c : Dev nD) : FVec Ideal S2x2048x1024 .f32 := m ((c : Thread nD τ).loc main_arg0)
abbrev argA (c : Dev nD) : FVec Ideal S1024x2816 .f32 := m ((c : Thread nD τ).loc main_arg1)
abbrev argB (c : Dev nD) : FVec Ideal S1024x2816 .f32 := m ((c : Thread nD τ).loc main_arg2)
abbrev argH (c : Dev nD) : FVec Ideal S2x2048x2816 .f32 := m ((c : Thread nD τ).loc main_arg3)
abbrev argU (c : Dev nD) : FVec Ideal S2x2048x2816 .f32 := m ((c : Thread nD τ).loc main_arg4)
abbrev argD (c : Dev nD) : FVec Ideal S2x2048x1024 .f32 := m ((c : Thread nD τ).loc main_arg5)

/-- The host's product of the input with a weight. -/
def hidV (N : FVec Ideal S2x2048x1024 .f32) (A : FVec Ideal S1024x2816 .f32) : FVec Ideal S2x2048x2816 .f32 :=
  Host.dotGeneral dot_S2x2048x1024_S1024x2816_S2x2048x2816_2_0_01_1_n_n none N A

theorem hidV_rows (N : FVec Ideal S2x2048x1024 .f32) (A : FVec Ideal S1024x2816 .f32) : rows (hidV N A) = prod (rows N) (mat A) := by
  funext i j
  pointwise [hidV, rows, prod, mat]

/-- The tokens' rows, and a hidden array's slabs, as the host lays them out. -/
def castX (v : FVec Ideal S2x2048x1024 .f32) : FVec Ideal S4096x1024 .bf16 :=
  truncf .bf16 (shapeCast S4096x1024 v shapeCasts_S2x2048x1024_S4096x1024) bitsLt_bf16_f32

def castH (v : FVec Ideal S2x2048x2816 .f32) : FVec Ideal S4x4096x704 .bf16 :=
  truncf .bf16 (transpose S4x4096x704 [1, 0, 2] (shapeCast S4096x4x704 v shapeCasts_S2x2048x2816_S4096x4x704) transposes_S4096x4x704_S4x4096x704_1_0_2) bitsLt_bf16_f32

theorem castX_at (v : FVec Ideal S2x2048x1024 .f32) (p : Fin 4096) (j : Fin 1024) : castX v (ix2 p j) = rows v p j := by
  pointwise [castX, rows]

theorem castH_at (v : FVec Ideal S2x2048x2816 .f32) (k : Fin 4) (p : Fin 4096) (f : Fin 704) : castH v (ix3 k p f) = rows v p (slot k f) := by
  pointwise [castH, rows, slot]

theorem host (c : Dev nD) : V m c main_v3 = castX (argN m c) ∧ V m c main_v5 = castX (argD m c)
    ∧ V m c main_v8 = castH (hidV (argN m c) (argA m c)) ∧ V m c main_v11 = castH (hidV (argN m c) (argB m c))
    ∧ V m c main_v14 = castH (argH m c) ∧ V m c main_v17 = castH (argU m c) := by
  refine ⟨?_, ?_, ?_, ?_, ?_, ?_⟩ <;> simp only [V, List.flatten_cons, List.flatten_nil, List.append_nil, List.cons_append, List.nil_append,
    hostOps0, StableHlo.TRef.binary, StableHlo.TRef.unary, StableHlo.TRef.toBuf, StableHlo.TRef.ofBuf, cast_eq] <;>
    after_results_simp <;> rfl

section Blocks

variable (c : Dev nD) (t : Fin cfg0.N)

/-- A row of a tile as a row of the whole, and a point's chip. -/
def row (r : Fin 1024) : Fin 4096 := ⟨1024 * (t.val % 4) + r.val, by omega⟩

def chip : Fin 4 := ⟨t.val / 4, by have := lt16 t; omega⟩

/-- The columns of one chip. -/
def part {n : ℕ} (v : Fin n → Fin 2816 → EReal) (k : Fin 4) (r : Fin n) (f : Fin 704) : EReal := v r (slot k f)

theorem blk0 : mat (show FVec Ideal S1024x1024 .bf16 from iblk m c 0 t) = fun r => rows (argN m c) (row t r) := by
  funext r j
  refine (congrArg (V m c main_v3) (?_ : _ = ix2 (row t r) j)).trans ((congrFun (host m c).1 _).trans (castX_at _ _ _))
  blk_ext [idx t]
  exact congrArg (· + r.val) (Nat.mul_comm _ _)

theorem blk1 : mat (show FVec Ideal S1024x1024 .bf16 from iblk m c 1 t) = fun r => rows (argD m c) (row t r) := by
  funext r j
  refine (congrArg (V m c main_v5) (?_ : _ = ix2 (row t r) j)).trans ((congrFun (host m c).2.1 _).trans (castX_at _ _ _))
  blk_ext [idx t]
  exact congrArg (· + r.val) (Nat.mul_comm _ _)

theorem blk2 : slab (show FVec Ideal S1x1024x704 .bf16 from iblk m c 2 t) = fun r => part (prod (rows (argN m c)) (mat (argA m c))) (chip t) (row t r) := by
  rw [← hidV_rows]
  funext r f
  refine (congrArg (V m c main_v8) (?_ : _ = ix3 (chip t) (row t r) f)).trans ((congrFun (host m c).2.2.1 _).trans (castH_at _ _ _ _))
  blk_ext [idx t]
  · rfl
  · exact congrArg (· + r.val) (Nat.mul_comm _ _)

theorem blk3 : slab (show FVec Ideal S1x1024x704 .bf16 from iblk m c 3 t) = fun r => part (prod (rows (argN m c)) (mat (argB m c))) (chip t) (row t r) := by
  rw [← hidV_rows]
  funext r f
  refine (congrArg (V m c main_v11) (?_ : _ = ix3 (chip t) (row t r) f)).trans ((congrFun (host m c).2.2.2.1 _).trans (castH_at _ _ _ _))
  blk_ext [idx t]
  · rfl
  · exact congrArg (· + r.val) (Nat.mul_comm _ _)

theorem blk4 : slab (show FVec Ideal S1x1024x704 .bf16 from iblk m c 4 t) = fun r => part (rows (argH m c)) (chip t) (row t r) := by
  funext r f
  refine (congrArg (V m c main_v14) (?_ : _ = ix3 (chip t) (row t r) f)).trans ((congrFun (host m c).2.2.2.2.1 _).trans (castH_at _ _ _ _))
  blk_ext [idx t]
  · rfl
  · exact congrArg (· + r.val) (Nat.mul_comm _ _)

theorem blk5 : slab (show FVec Ideal S1x1024x704 .bf16 from iblk m c 5 t) = fun r => part (rows (argU m c)) (chip t) (row t r) := by
  funext r f
  refine (congrArg (V m c main_v17) (?_ : _ = ix3 (chip t) (row t r) f)).trans ((congrFun (host m c).2.2.2.2.2 _).trans (castH_at _ _ _ _))
  blk_ext [idx t]
  · rfl
  · exact congrArg (· + r.val) (Nat.mul_comm _ _)

/-- What a grid point makes of the three running sums. -/
def addG (P : FVec Ideal S704x1024 .f32) : FVec Ideal S704x1024 .f32 := k0_pay11 (iblk m c 0 t) P (iblk m c 4 t)

def addU (P : FVec Ideal S704x1024 .f32) : FVec Ideal S704x1024 .f32 := k0_pay11 (iblk m c 0 t) P (iblk m c 5 t)

def addD (P : FVec Ideal S704x1024 .f32) : FVec Ideal S704x1024 .f32 := k0_pay2 (k0_pay10 (iblk m c 2 t) (iblk m c 3 t)) P (iblk m c 1 t)

/-- The running sums at a chip's first point. -/
theorem sums_first (h0 : t.val % 4 = 0) : (outsAt0 m c t.val t.isLt).2.2.2.1 = addG m c t k0_pay6
    ∧ (outsAt0 m c t.val t.isLt).2.2.2.2.1 = addU m c t k0_pay6
    ∧ (outsAt0 m c t.val t.isLt).2.2.2.2.2 = addD m c t k0_pay6 := by
  rw [outsAt0_A m c t h0 (by omega)]
  dsimp only
  refine ⟨?_, ?_, ?_⟩ <;> frame_out <;> rfl

/-- The running sums at a later point. -/
theorem sums_step (h0 : ¬t.val % 4 = 0) : (outsAt0 m c t.val t.isLt).2.2.2.1 = addG m c t (outsAt0 m c (t.val - 1) (Nat.lt_of_le_of_lt (Nat.sub_le _ _) t.isLt)).2.2.2.1
    ∧ (outsAt0 m c t.val t.isLt).2.2.2.2.1 = addU m c t (outsAt0 m c (t.val - 1) (Nat.lt_of_le_of_lt (Nat.sub_le _ _) t.isLt)).2.2.2.2.1
    ∧ (outsAt0 m c t.val t.isLt).2.2.2.2.2 = addD m c t (outsAt0 m c (t.val - 1) (Nat.lt_of_le_of_lt (Nat.sub_le _ _) t.isLt)).2.2.2.2.2 := by
  by_cases h1 : t.val % 4 = 3
  · rw [outsAt0_C m c t h0 h1]
    dsimp only
    refine ⟨?_, ?_, ?_⟩ <;> frame_out
    · exact congrArg (addG m c t) (read_unread_whole _ _ _)
    · exact congrArg (addU m c t) (read_unread_whole _ _ _)
    · exact congrArg (addD m c t) (read_unread_whole _ _ _)
  · rw [outsAt0_B m c t h0 h1]
    dsimp only
    refine ⟨?_, ?_, ?_⟩ <;> frame_out
    · exact congrArg (addG m c t) (read_unread_whole _ _ _)
    · exact congrArg (addU m c t) (read_unread_whole _ _ _)
    · exact congrArg (addD m c t) (read_unread_whole _ _ _)

/-- A chip's last point writes the running sums out. -/
theorem sums_last (h1 : t.val % 4 = 3) : (outsAt0 m c t.val t.isLt).1 = k0_pay3 (outsAt0 m c t.val t.isLt).2.2.2.1
    ∧ (outsAt0 m c t.val t.isLt).2.1 = k0_pay3 (outsAt0 m c t.val t.isLt).2.2.2.2.1
    ∧ (outsAt0 m c t.val t.isLt).2.2.1 = k0_pay3 (outsAt0 m c t.val t.isLt).2.2.2.2.2 := by
  rw [(sums_step m c t (by omega)).1, (sums_step m c t (by omega)).2.1, (sums_step m c t (by omega)).2.2, outsAt0_C m c t (by omega) h1]
  dsimp only
  refine ⟨?_, ?_, ?_⟩ <;> frame_out
  · exact congrArg (fun P => k0_pay3 (F := Ideal) (addG m c t P)) (read_unread_whole _ _ _)
  · exact congrArg (fun P => k0_pay3 (F := Ideal) (addU m c t P)) (read_unread_whole _ _ _)
  · exact congrArg (fun P => k0_pay3 (F := Ideal) (addD m c t P)) (read_unread_whole _ _ _)

theorem addG_at (P : FVec Ideal S704x1024 .f32) (i : Fin 704) (j : Fin 1024) : addG m c t P (ix2 i j) = P (ix2 i j)
    + wGrad (fun r => part (rows (argH m c)) (chip t) (row t r)) (fun r => rows (argN m c) (row t r)) i j := by
  refine (in_at _ _ _ _ _).trans ?_
  rw [blk0, blk4]

theorem addU_at (P : FVec Ideal S704x1024 .f32) (i : Fin 704) (j : Fin 1024) : addU m c t P (ix2 i j) = P (ix2 i j)
    + wGrad (fun r => part (rows (argU m c)) (chip t) (row t r)) (fun r => rows (argN m c) (row t r)) i j := by
  refine (in_at _ _ _ _ _).trans ?_
  rw [blk0, blk5]

theorem addD_at (P : FVec Ideal S704x1024 .f32) (i : Fin 704) (j : Fin 1024) : addD m c t P (ix2 i j) = P (ix2 i j)
    + wGrad (fun r => part (act (prod (rows (argN m c)) (mat (argA m c))) (prod (rows (argN m c)) (mat (argB m c)))) (chip t) (row t r)) (fun r => rows (argD m c) (row t r)) i j := by
  refine (out_at _ _ _ _ _ _).trans ?_
  rw [blk1, blk2, blk3]
  rfl

/-- A weight's gradient, its four tiles of one chip added. -/
theorem tiles_chip (u : Fin 4096 → Fin 2816 → EReal) (v : Fin 4096 → Fin 1024 → EReal) (i : Fin 704) (j : Fin 1024)
    (e : Fin 4 → Fin cfg0.N) (he : ∀ s, (e s).val = 4 * (t.val / 4) + s.val) :
    (∑ s : Fin 4, wGrad (fun r => part u (chip (e s)) (row (e s) r)) (fun r => v (row (e s) r)) i j) = wGrad u v (slot (chip t) i) j := by
  refine Eq.trans (Finset.sum_congr rfl fun s _ => ?_) (wGrad_tiles 4 1024 rfl u v (slot (chip t) i) j (fun s r => row (e s) r) fun s r => ?_)
  · have h : chip (e s) = chip t := Fin.ext (by have := he s; have := s.isLt; dsimp only [chip]; omega)
    rw [h]
    rfl
  · have := he s
    have := s.isLt
    dsimp only [row]
    omega

end Blocks

/-- Where a result's block lies. -/
theorem emb_at (c : Dev nD) (t : Fin cfg0.N) (i : Fin 704) (j : Fin 1024) :
    ((cfg0.win 6).blk t).view.emb (ix3 0 i j) = ix3 (chip t) i j ∧ ((cfg0.win 7).blk t).view.emb (ix3 0 i j) = ix3 (chip t) i j
      ∧ ((cfg0.win 8).blk t).view.emb (ix3 0 i j) = ix3 (chip t) i j := by
  refine ⟨?_, ?_, ?_⟩ <;> blk_ext [idx t] <;> rfl

/-- Result 0: the gradient of the gate's weight. -/
theorem whole6 (c : Dev nD) : (dats m 0 c).arrAt 6 (cfgs 0).N
    = (slabs (wGrad (rows (argH m c)) (rows (argN m c))) : FVec Ideal S4x704x1024 .bf16) := by
  refine (dats m 0 c).arrAt_eq_of_covers 6 _ (by decide +kernel) fun t hf y => ?_
  blk_simp
  rw [after0_6, (sums_last m c t ((flush0_6 t).mp hf)).1]
  idx_vars y
  obtain rfl : y0 = 0 := Subsingleton.elim _ _
  refine (write_at _ y1 y2).trans ?_
  rw [(emb_at c t y1 y2).1, Pipeline.eq_sum_fin_of_reset_step_apply_of_flush (fun n h => (outsAt0 m c n h).2.2.2.1) 4 (fun _ => 0)
    (fun (u : Fin cfg0.N) (j : S704x1024.Idx) => wGrad (fun r => part (rows (argH m c)) (chip u) (row u r)) (fun r => rows (argN m c) (row u r)) (j 0) (j 1))
    (fun u hu j => by
      rw [(sums_first m c u hu).1]
      idx_vars j
      rw [addG_at, zero_at])
    (fun u hu j => by
      rw [(sums_step m c u hu).1]
      idx_vars j
      exact addG_at _ _ _ _ _ _)
    t ((flush0_6 t).mp hf) _, zero_add]
  exact tiles_chip t _ _ y1 y2 _ fun s => rfl

/-- Result 1: the gradient of the other hidden weight. -/
theorem whole7 (c : Dev nD) : (dats m 0 c).arrAt 7 (cfgs 0).N
    = (slabs (wGrad (rows (argU m c)) (rows (argN m c))) : FVec Ideal S4x704x1024 .bf16) := by
  refine (dats m 0 c).arrAt_eq_of_covers 7 _ (by decide +kernel) fun t hf y => ?_
  blk_simp
  rw [after0_7, (sums_last m c t ((flush0_7 t).mp hf)).2.1]
  idx_vars y
  obtain rfl : y0 = 0 := Subsingleton.elim _ _
  refine (write_at _ y1 y2).trans ?_
  rw [(emb_at c t y1 y2).2.1, Pipeline.eq_sum_fin_of_reset_step_apply_of_flush (fun n h => (outsAt0 m c n h).2.2.2.2.1) 4 (fun _ => 0)
    (fun (u : Fin cfg0.N) (j : S704x1024.Idx) => wGrad (fun r => part (rows (argU m c)) (chip u) (row u r)) (fun r => rows (argN m c) (row u r)) (j 0) (j 1))
    (fun u hu j => by
      rw [(sums_first m c u hu).2.1]
      idx_vars j
      rw [addU_at, zero_at])
    (fun u hu j => by
      rw [(sums_step m c u hu).2.1]
      idx_vars j
      exact addU_at _ _ _ _ _ _)
    t ((flush0_7 t).mp hf) _, zero_add]
  exact tiles_chip t _ _ y1 y2 _ fun s => rfl

/-- Result 2: the gradient of the last weight. -/
theorem whole8 (c : Dev nD) : (dats m 0 c).arrAt 8 (cfgs 0).N
    = (slabs (wGrad (act (prod (rows (argN m c)) (mat (argA m c))) (prod (rows (argN m c)) (mat (argB m c)))) (rows (argD m c))) : FVec Ideal S4x704x1024 .bf16) := by
  refine (dats m 0 c).arrAt_eq_of_covers 8 _ (by decide +kernel) fun t hf y => ?_
  blk_simp
  rw [after0_8, (sums_last m c t ((flush0_8 t).mp hf)).2.2]
  idx_vars y
  obtain rfl : y0 = 0 := Subsingleton.elim _ _
  refine (write_at _ y1 y2).trans ?_
  rw [(emb_at c t y1 y2).2.2, Pipeline.eq_sum_fin_of_reset_step_apply_of_flush (fun n h => (outsAt0 m c n h).2.2.2.2.2) 4 (fun _ => 0)
    (fun (u : Fin cfg0.N) (j : S704x1024.Idx) => wGrad (fun r => part (act (prod (rows (argN m c)) (mat (argA m c))) (prod (rows (argN m c)) (mat (argB m c)))) (chip u) (row u r)) (fun r => rows (argD m c) (row u r)) (j 0) (j 1))
    (fun u hu j => by
      rw [(sums_first m c u hu).2.2]
      idx_vars j
      rw [addD_at, zero_at])
    (fun u hu j => by
      rw [(sums_step m c u hu).2.2]
      idx_vars j
      exact addD_at _ _ _ _ _ _)
    t ((flush0_8 t).mp hf) _, zero_add]
  exact tiles_chip t _ _ y1 y2 _ fun s => rfl

end Cert.FfnBwdDwIdeal.Value

end
-- ==== Proof.FfnDwClaim.lean ====
/- The backward kernel of the feed-forward weights computes their derivative. -/
module

public import proofs.«01_k».proof.Defs
public import proofs.«01_k».proof.Proof.FfnDwRef
public import proofs.«01_k».proof.Proof.FfnDwValue

@[expose] public section

set_option maxRecDepth 16384

noncomputable section

open Idealize.ShloMosaic Idealize.ShloMosaic.TcCoe Idealize.SL.Sem

namespace Cert.Proof

open Cert.FfnBwdDwIdeal Cert.FfnBwdDwIdeal.Value
open Cert.FfnDwGradIdeal.Value (inV outV inV_eq outV_eq)

set_option maxHeartbeats 4000000 in
theorem algebraic_ffndw : Cert.algebraic_FfnBwdDwIdeal_FfnDwGradIdeal := by
  pair_intro
  · run_from Cert.FfnBwdDwIdeal.Value.run_blocks m g
  · run_from Cert.FfnDwGradIdeal.Value.run m' g'
    · exact (show _ = inV (argN m c) (argH m c) from rfl).trans ((inV_eq _ _).trans (whole6 m c).symm)
    · exact (show _ = inV (argN m c) (argU m c) from rfl).trans ((inV_eq _ _).trans (whole7 m c).symm)
    · exact (show _ = outV (argN m c) (argD m c) (argA m c) (argB m c) from rfl).trans ((outV_eq _ _ _ _).trans (whole8 m c).symm)

/-- The reference is host operations only: its generated run says that its arguments are left alone, and it declares
    no semaphore. -/
theorem frame_ffndw_grad : Cert.quiescent_FfnDwGradIdeal := fun m ρ _ =>
  (θ_run Cert.FfnDwGradIdeal.defs _ _).mono (fun r h => ⟨fun c => (h c).2.2.2, sem_eq_zero_of_no_sems (by decide) r.2⟩)
    (Cert.FfnDwGradIdeal.Value.run (F := Ideal) m ρ)

end Cert.Proof

end
-- ==== Proof.FfnBack.lean ====
/- The gradient of the feed-forward layer's hidden values, input and norm, entry by entry, over rows of tokens. -/
module

public import proofs.«01_k».proof.Proof.FfnSpec
public import proofs.«01_k».proof.Proof.NormSpec

@[expose] public section

noncomputable section

open Idealize.ShloMosaic Cert.MixOut

namespace Cert.Ffn

variable {n p q : ℕ}

/-- The layer's share of the cotangent. -/
def cot (d : Fin n → Fin p → EReal) (r : Fin n) (j : Fin p) : EReal := Ideal.ofBits .f32 0x3F000000#32 * d r j

/-- The normed rows with their scale. -/
def normed (x : Fin n → Fin 1024 → EReal) (g : Fin 1024 → EReal) (r : Fin n) (j : Fin 1024) : EReal := Cert.Norm.hat x r j * g j

/-- The cotangent of the up projection's branch, from the activation's. -/
def upBack (a h : Fin n → Fin p → EReal) (r : Fin n) (f : Fin p) : EReal := a r f * (h r f * gateOf (h r f))

/-- The cotangent of the gate's branch, from the activation's. -/
def gateBack (a h u : Fin n → Fin p → EReal) (r : Fin n) (f : Fin p) : EReal :=
  a r f * u r f * (gateOf (h r f) * (1 + h r f * (1 - gateOf (h r f))))

/-- The cotangent of the normed rows. -/
def inBack (dg du : Fin n → Fin p → EReal) (A B : Fin q → Fin p → EReal) (r : Fin n) (j : Fin q) : EReal := prodT dg A r j + prodT du B r j

/-- The columns of one chip. -/
def part (v : Fin n → Fin 2816 → EReal) (k : Fin 4) (r : Fin n) (f : Fin 704) : EReal := v r (slot k f)

/-- A hidden array, one slab of columns a chip. -/
def cut (v : Fin 4096 → Fin 2816 → EReal) : (⟨3, ![4, 4096, 704]⟩ : Shape).Idx → EReal := fun i => v (i 1) (slot (i 0) (i 2))

/-- A sum over all hidden columns, taken chip by chip. -/
theorem chips (f : Fin 2816 → EReal) : (∑ k : Fin 4, ∑ x : Fin 704, f (slot k x)) = ∑ x, f x := by
  refine Eq.trans (Finset.sum_congr rfl fun k _ => Finset.sum_congr rfl fun x _ => congrArg f (Fin.ext ?_)) (Cert.Sums.tiles 4 704 rfl f)
  dsimp only [slot]
  omega

/-! ## Over the reals -/

/-- Every entry is a real number. -/
def Real₂ (v : Fin n → Fin p → EReal) : Prop := ∀ r j, ∃ x : ℝ, v r j = x

theorem gate_real (x : ℝ) : ∃ y : ℝ, gateOf (x : EReal) = y := by
  refine ⟨1 * (1 / (1 + Real.exp (-x))), ?_⟩
  unfold gateOf
  rw [← EReal.coe_neg, Ideal.exp_coe, ← EReal.coe_one, ← EReal.coe_add, Ideal.div_coe (by have := Real.exp_pos (-x); positivity), ← EReal.coe_mul]

theorem prod_real (u : Fin n → Fin p → EReal) (w : Fin p → Fin q → EReal) (hu : Real₂ u) (hw : Real₂ w) : Real₂ (prod u w) := fun r j => by
  choose a ea using hu
  choose b eb using hw
  refine ⟨∑ x, a r x * b x j, ?_⟩
  rw [Cert.Norm.coe_sum]
  exact Finset.sum_congr rfl fun x _ => (congrArg₂ (· * ·) (ea _ _) (eb _ _)).trans (EReal.coe_mul _ _).symm

theorem prodT_real (u : Fin n → Fin p → EReal) (w : Fin q → Fin p → EReal) (hu : Real₂ u) (hw : Real₂ w) : Real₂ (prodT u w) :=
  prod_real u (fun x j => w j x) hu fun x j => hw j x

theorem cot_real (d : Fin n → Fin p → EReal) (hd : Real₂ d) : Real₂ (cot d) := fun r j => by
  obtain ⟨a, ea⟩ := hd r j
  refine ⟨1 / 2 * a, ?_⟩
  unfold cot
  rw [ea, show Ideal.ofBits .f32 0x3F000000#32 = ((1 / 2 : ℝ) : EReal) from by simp [Ideal.ofBits, Ideal.ieee, -EReal.coe_mul]; norm_num, EReal.coe_mul]

theorem normed_real (x : Fin n → Fin 1024 → EReal) (g : Fin 1024 → EReal) (hx : Real₂ x) (hg : ∀ j, ∃ y : ℝ, g j = y) : Real₂ (normed x g) := fun r j => by
  choose X ex using hx
  obtain ⟨G, eg⟩ := hg j
  obtain ⟨M, hM, eM⟩ := Cert.Norm.ms_real x X r ex
  refine ⟨X r j * (Real.sqrt M)⁻¹ * G, ?_⟩
  unfold normed Cert.Norm.hat Cert.Norm.inv
  rw [eM, Cert.Norm.rsqrt_coe hM, ex, eg, EReal.coe_mul, EReal.coe_mul]

theorem upBack_real (a h : Fin n → Fin p → EReal) (ha : Real₂ a) (hh : Real₂ h) : Real₂ (upBack a h) := fun r f => by
  obtain ⟨x, ex⟩ := ha r f
  obtain ⟨y, ey⟩ := hh r f
  obtain ⟨s, es⟩ := gate_real y
  refine ⟨x * (y * s), ?_⟩
  unfold upBack
  rw [ex, ey, es, EReal.coe_mul, EReal.coe_mul]

theorem gateBack_real (a h u : Fin n → Fin p → EReal) (ha : Real₂ a) (hh : Real₂ h) (hu : Real₂ u) : Real₂ (gateBack a h u) := fun r f => by
  obtain ⟨x, ex⟩ := ha r f
  obtain ⟨y, ey⟩ := hh r f
  obtain ⟨z, ez⟩ := hu r f
  obtain ⟨s, es⟩ := gate_real y
  refine ⟨x * z * (s * (1 + y * (1 - s))), ?_⟩
  unfold gateBack
  rw [ex, ey, ez, es]
  simp only [EReal.coe_mul, EReal.coe_add, EReal.coe_sub, EReal.coe_one]

/-- The derivative's form of the gate's cotangent, over the reals. -/
theorem gateBack_eq (a h u : Fin n → Fin p → EReal) (ha : Real₂ a) (hh : Real₂ h) (hu : Real₂ u) (r : Fin n) (f : Fin p) :
    a r f * u r f * gateOf (h r f) + h r f * (a r f * u r f) * (gateOf (h r f) * (1 - gateOf (h r f))) = gateBack a h u r f := by
  obtain ⟨x, ex⟩ := ha r f
  obtain ⟨y, ey⟩ := hh r f
  obtain ⟨z, ez⟩ := hu r f
  obtain ⟨s, es⟩ := gate_real y
  unfold gateBack
  rw [ex, ey, ez, es, ← EReal.coe_one]
  simp only [← EReal.coe_mul, ← EReal.coe_add, ← EReal.coe_sub]
  exact congrArg Real.toEReal (by ring)

theorem inBack_real (dg du : Fin n → Fin p → EReal) (A B : Fin q → Fin p → EReal) (hg : Real₂ dg) (hu : Real₂ du) (hA : Real₂ A) (hB : Real₂ B) :
    Real₂ (inBack dg du A B) := fun r j => by
  obtain ⟨x, ex⟩ := prodT_real dg A hg hA r j
  obtain ⟨y, ey⟩ := prodT_real du B hu hB r j
  exact ⟨x + y, by unfold inBack; rw [ex, ey, EReal.coe_add]⟩

end Cert.Ffn

end
-- ==== Proof.FfnDxRef.lean ====
/- The reference of the feed-forward layer's backward pass, entry by entry. -/
module

public import proofs.«01_k».proof.Proof.FfnBack
public import proofs.«01_k».proof.Proof.Gen.FfnGradIdeal.Run

@[expose] public section

set_option maxRecDepth 16384

noncomputable section

open Idealize.ShloMosaic Idealize.ShloMosaic.TcCoe Idealize.SL.Sem

namespace Cert.FfnGradIdeal.Value

open Cert.FfnGradIdeal Cert.FfnGradIdeal.Gen Cert.MixOut Cert.Ffn Cert.Norm

variable (X R D : FVec Ideal S2x2048x1024 .f32) (G : FVec Ideal S1024 .f32) (A : FVec Ideal S1024x2816 .f32) (W : FVec Ideal S2816x1024 .f32)
  (H U C : FVec Ideal S2x2048x2816 .f32) (I M : FVec Ideal S2x2048x1 .f32) (K : FVec Ideal S2x2048 .f32)
  (b : Fin 2) (s : Fin 2048) (j : Fin 1024) (f : Fin 2816) (u : Fin 1) (p : Fin 4096)

/-- Every row's mean square, and its inverse root. -/
def msV : FVec Ideal S2x2048x1 .f32 :=
  addf (Host.divf (broadcastInDim S2x2048x1 ![0, 1] bcast_S2x2048_S2x2048x1_0_1 (Host.reduceAdd (mulf X X) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

theorem msV_at : msV X (ix3 b s u) = Ideal.div (∑ l, X (ix3 b s l) * X (ix3 b s l)) (Ideal.ofBits .f32 0x44800000#32) + eps := by
  pointwise [msV, eps]

def invV : FVec Ideal S2x2048x1 .f32 := Host.rsqrt M

theorem invV_at : invV M (ix3 b s u) = Ideal.rsqrt (M (ix3 b s u)) := by
  pointwise [invV]

/-- The norm's scale over the rows. -/
def wideV : FVec Ideal S2x2048x1024 .f32 := broadcastInDim S2x2048x1024 ![0, 1, 2] bcast_S1x1x1024_S2x2048x1024_0_1_2 (broadcastInDim S1x1x1024 ![2] bcast_S1024_S1x1x1024_2 G)

theorem wideV_at : wideV G (ix3 b s j) = G (ix1 j) := by
  pointwise [wideV]

/-- The rows over their root mean square. -/
def hatV : FVec Ideal S2x2048x1024 .f32 := mulf X (broadcastInDim S2x2048x1024 ![0, 1, 2] bcast_S2x2048x1_S2x2048x1024_0_1_2 I)

theorem hatV_at : hatV X I (ix3 b s j) = X (ix3 b s j) * I (ix3 b s 0) := by
  pointwise [hatV]

/-- The normed rows. -/
def normV : FVec Ideal S2x2048x1024 .f32 := mulf (hatV X (invV (msV X))) (wideV G)

theorem normV_rows : rows (normV X G) = normed (rows X) fun l => G (ix1 l) := by
  funext p j
  have e : normV X G (ix3 ⟨p.val / 2048, by omega⟩ ⟨p.val % 2048, by omega⟩ j) = hatV X (invV (msV X)) (ix3 ⟨p.val / 2048, by omega⟩ ⟨p.val % 2048, by omega⟩ j) * wideV G (ix3 ⟨p.val / 2048, by omega⟩ ⟨p.val % 2048, by omega⟩ j) := rfl
  refine e.trans ?_
  rw [hatV_at, wideV_at, invV_at, msV_at]
  rfl

/-- A hidden branch. -/
def hidV : FVec Ideal S2x2048x2816 .f32 := Host.dotGeneral dot_S2x2048x1024_S1024x2816_S2x2048x2816_2_0_01_1_n_n none X A

theorem hidV_rows : rows (hidV X A) = prod (rows X) (mat A) := by
  funext p f
  pointwise [hidV, rows, prod, mat]

/-- The layer's share of the cotangent. -/
def shareV : FVec Ideal S2x2048x1024 .f32 :=
  mulf (broadcastInDim S2x2048x1024 ![] bcast_S_S2x2048x1024 (constant S_ .f32 0x3F000000#32)) (shapeCast _ D shapeCasts_S2x2048x1024_S2x2048x1024)

theorem shareV_rows : rows (shareV D) = cot (rows D) := by
  funext p j
  pointwise [shareV, rows, cot]

/-- The activation's cotangent. -/
def actV : FVec Ideal S2x2048x2816 .f32 := Host.dotGeneral dot_S2x2048x1024_S2816x1024_S2x2048x2816_2_1_01_0_n_n none D W

theorem actV_rows : rows (actV D W) = prodT (rows D) (mat W) := by
  funext p f
  pointwise [actV, rows, prodT, mat]

/-- The logistic gate. -/
def sigV : FVec Ideal S2x2048x2816 .f32 :=
  Host.divf (broadcastInDim S2x2048x2816 ![] bcast_S_S2x2048x2816 (constant S_ .f32 0x3F800000#32))
    (addf (broadcastInDim S2x2048x2816 ![] bcast_S_S2x2048x2816 (constant S_ .f32 0x3F800000#32)) (Host.exp (Host.negf H)))

theorem sigV_at : sigV H (ix3 b s f) = gateOf (H (ix3 b s f)) := by
  pointwise [sigV, gateOf]

/-- The up branch's cotangent. -/
def upV : FVec Ideal S2x2048x2816 .f32 := mulf (mulf H (sigV H)) C

theorem upV_rows : rows (upV H C) = upBack (rows C) (rows H) := by
  funext p f
  have e : upV H C (ix3 ⟨p.val / 2048, by omega⟩ ⟨p.val % 2048, by omega⟩ f) = H (ix3 ⟨p.val / 2048, by omega⟩ ⟨p.val % 2048, by omega⟩ f) * sigV H (ix3 ⟨p.val / 2048, by omega⟩ ⟨p.val % 2048, by omega⟩ f) * C (ix3 ⟨p.val / 2048, by omega⟩ ⟨p.val % 2048, by omega⟩ f) := rfl
  refine e.trans ?_
  rw [sigV_at]
  exact mul_comm _ _

/-- The gate branch's cotangent. -/
def gateV : FVec Ideal S2x2048x2816 .f32 :=
  addf (mulf (mulf C U) (sigV H)) (mulf (mulf H (mulf C U)) (mulf (sigV H) (subf (broadcastInDim S2x2048x2816 ![] bcast_S_S2x2048x2816 (constant S_ .f32 0x3F800000#32)) (sigV H))))

theorem gateV_at : gateV H U C (ix3 b s f) = C (ix3 b s f) * U (ix3 b s f) * gateOf (H (ix3 b s f))
    + H (ix3 b s f) * (C (ix3 b s f) * U (ix3 b s f)) * (gateOf (H (ix3 b s f)) * (1 - gateOf (H (ix3 b s f)))) := by
  rw [← sigV_at]
  pointwise [gateV]

theorem gateV_rows (hc : Real₂ (rows C)) (hh : Real₂ (rows H)) (hu : Real₂ (rows U)) : rows (gateV H U C) = gateBack (rows C) (rows H) (rows U) := by
  funext p f
  exact (gateV_at H U C _ _ f).trans (gateBack_eq (rows C) (rows H) (rows U) hc hh hu p f)

/-- A branch's share of the normed rows' cotangent. -/
def backV : FVec Ideal S2x2048x1024 .f32 := Host.dotGeneral dot_S2x2048x2816_S1024x2816_S2x2048x1024_2_1_01_0_n_n none H A

theorem backV_rows : rows (backV A H) = prodT (rows H) (mat A) := by
  funext p j
  pointwise [backV, rows, prodT, mat]

/-- The normed rows' cotangent. -/
def bothV (A B : FVec Ideal S1024x2816 .f32) (C H : FVec Ideal S2x2048x2816 .f32) : FVec Ideal S2x2048x1024 .f32 := addf (backV B H) (backV A C)

theorem bothV_rows (A B : FVec Ideal S1024x2816 .f32) (C H : FVec Ideal S2x2048x2816 .f32) : rows (bothV A B C H) = inBack (rows C) (rows H) (mat A) (mat B) := by
  funext p j
  exact (add_comm _ _).trans (congrArg₂ (HAdd.hAdd (α := EReal) (β := EReal)) (congrFun (congrFun (backV_rows A C) p) j) (congrFun (congrFun (backV_rows B H) p) j))

/-- A cotangent times the norm's scale. -/
def scaledV : FVec Ideal S2x2048x1024 .f32 := mulf D (wideV G)

theorem scaledV_at : scaledV D G (ix3 b s j) = D (ix3 b s j) * G (ix1 j) := congrArg (D (ix3 b s j) * ·) (wideV_at G b s j)

/-- A row's factor through its mean square. -/
def throughV : FVec Ideal S2x2048 .f32 :=
  Host.reduceAdd (Host.divf (mulf (shapeCast _ (Host.reduceAdd (mulf X D) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf I M))) (broadcastInDim S2x2048x1 ![] bcast_S_S2x2048x1 (constant S_ .f32 0x44800000#32))) (constant S_ .f32 0x00000000#32) reducesTo_S2x2048x1_S2x2048_d2 h_S_

theorem throughV_at : throughV X D I M (ix2 b s) = Ideal.div ((∑ l, X (ix3 b s l) * D (ix3 b s l)) * (Ideal.ofBits .f32 0xBF000000#32 * Ideal.div (I (ix3 b s 0)) (M (ix3 b s 0)))) (Ideal.ofBits .f32 0x44800000#32) := by
  pointwise [throughV]
  exact Fin.sum_univ_one _

/-- The rows' gradient from its parts. -/
def sumV : FVec Ideal S4096x1024 .f32 :=
  shapeCast _ (addf R (addf (addf (mulf D (broadcastInDim S2x2048x1024 ![0, 1, 2] bcast_S2x2048x1_S2x2048x1024_0_1_2 I)) (mulf X (broadcastInDim S2x2048x1024 ![0, 1] bcast_S2x2048_S2x2048x1024_0_1 K))) (mulf (broadcastInDim S2x2048x1024 ![0, 1] bcast_S2x2048_S2x2048x1024_0_1 K) X))) shapeCasts_S2x2048x1024_S4096x1024

theorem sumV_at : sumV X R D I K (ix2 p j) = rows R p j + (rows D p j * I (ix3 ⟨p.val / 2048, by omega⟩ ⟨p.val % 2048, by omega⟩ 0)
    + rows X p j * K (ix2 ⟨p.val / 2048, by omega⟩ ⟨p.val % 2048, by omega⟩) + K (ix2 ⟨p.val / 2048, by omega⟩ ⟨p.val % 2048, by omega⟩) * rows X p j) := by
  pointwise [sumV, rows]

/-- Result 0, by the normed rows' cotangent. -/
def gradV : FVec Ideal S4096x1024 .f32 :=
  sumV X R (scaledV D G) (invV (msV X)) (throughV X (scaledV D G) (invV (msV X)) (msV X))

theorem gradV_at : gradV X R D G (ix2 p j) = rows R p j + rows D p j * G (ix1 j) * Cert.Norm.inv (rows X) p
    + rows X p j * through (rows X) (fun l => G (ix1 l)) (rows D) p + through (rows X) (fun l => G (ix1 l)) (rows D) p * rows X p j := by
  rw [gradV, sumV_at, throughV_at, invV_at, msV_at]
  simp only [rows, scaledV_at]
  rw [← add_assoc, ← add_assoc]
  rfl

/-- The scale's gradient, by the normed rows' cotangent. -/
def scaleV : FVec Ideal S1x1024 .f32 :=
  shapeCast _ (Host.reduceAdd (shapeCast _ (Host.reduceAdd (mulf (hatV X I) D) (constant S_ .f32 0x00000000#32) reducesTo_S2x2048x1024_S1024_d0_1 h_S_) shapeCasts_S1024_S1x1x1024) (constant S_ .f32 0x00000000#32) reducesTo_S1x1x1024_S1024_d0_1 h_S_) shapeCasts_S1024_S1x1024

theorem scaleV_at : scaleV X D I (ix2 u j) = ∑ b : Fin 2, ∑ s : Fin 2048, X (ix3 b s j) * I (ix3 b s 0) * D (ix3 b s j) := by
  pointwise [scaleV, hatV]
  rw [Cert.Sums.reduce_lead, zero_add, Fin.sum_univ_one, Fin.sum_univ_one]
  pointwise
  rw [Cert.Sums.reduce_lead, zero_add]
  pointwise

theorem scaleV_eq : scaleV X D (invV (msV X)) (ix2 u j) = scaleGrad (rows X) (rows D) j := by
  rw [scaleV_at]
  refine (Cert.Sums.pairs _).trans (Finset.sum_congr rfl fun r _ => (mul_comm _ _).trans ?_)
  rw [invV_at, msV_at]
  rfl

/-- A hidden array cut by chips, and rows of tokens, as the reference returns them. -/
def cutV : FVec Ideal S4x4096x704 .bf16 :=
  truncf .bf16 (transpose S4x4096x704 [1, 0, 2] (shapeCast _ H shapeCasts_S2x2048x2816_S4096x4x704) transposes_S4096x4x704_S4x4096x704_1_0_2) bitsLt_bf16_f32

theorem cutV_eq : cutV H = cut (rows H) := by
  funext i
  idx_vars i
  pointwise [cutV, cut, rows, slot]

def flatV : FVec Ideal S4096x1024 .bf16 := truncf .bf16 (shapeCast _ X shapeCasts_S2x2048x1024_S4096x1024) bitsLt_bf16_f32

theorem flatV_at : flatV X (ix2 p j) = rows X p j := by
  pointwise [flatV, rows]

end Cert.FfnGradIdeal.Value

end
-- ==== Proof.FfnDxRun.lean ====
module

public import proofs.«01_k».proof.Proof.Gen.FfnBwdDxIdeal.Frame
public import proofs.«01_k».proof.Proof.Gen.FfnBwdDxIdeal.Skeleton
public import Idealize.ShloMosaic.Lib.VecWindow

@[expose] public section

set_option maxRecDepth 16384
set_option maxHeartbeats 4000000
noncomputable section

/-! One run of the feed-forward's input gradient, at any grid point. The first of a row tile's four points casts the scaled
cotangent and clears the sum over the hidden columns; each point takes its chip's columns, in four blocks of rows; the last
one passes the sum through the norm. -/

namespace Cert.FfnBwdDxIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnBwdDxIdeal Cert.FfnBwdDxIdeal.Gen

variable {F : FTy → Type} [FloatOps F]

local notation "𝕄" => MT nD τ sig Unit (Elt F) ℕ (UR sig nD τ) ℕ

/-- The cotangent a point works with: cast at a row tile's first point, kept afterwards. -/
def foundDf (i : grid0.Coords) (x0 : Vec F S1024x1024 .f32) (d : Vec F S1024x1024 .bf16) : Vec F S1024x1024 .bf16 :=
  if k0_cond1 i = 1#1 then k0_pay6 x0 else d

/-- What a point finds in the sum over the hidden columns: zero at a row tile's first point. -/
def foundDn (i : grid0.Coords) (d : Vec F S1024x1024 .f32) : Vec F S1024x1024 .f32 :=
  if k0_cond1 i = 1#1 then k0_pay7 else d

/-- What a point finds in the norm's gradient: zero at the very first one. -/
def foundDg (i : grid0.Coords) (d : Vec F S1x1024 .f32) : Vec F S1x1024 .f32 :=
  if k0_cond2 i = 1#1 then k0_pay8 else d

/-- Rows `o` to `o + 255` of a row tile. -/
def rowsF {e : EltTy} (x : S1024x1024.Idx → Elt F e) (o : ℕ) (h : ∀ a, (![o, 0] : Fin 2 → ℕ) a + S256x1024.size a ≤ S1024x1024.size a) : S256x1024.Idx → Elt F e :=
  VecWindow.window x ![o, 0] S256x1024.size h

/-- Rows `o` to `o + 255` of a chip's hidden columns. -/
def rowsH {e : EltTy} (x : S1x1024x704.Idx → Elt F e) (o : ℕ) (h : ∀ a, (![0, o, 0] : Fin 3 → ℕ) a + S1x256x704.size a ≤ S1x1024x704.size a) : S1x256x704.Idx → Elt F e :=
  VecWindow.window x ![0, o, 0] S1x256x704.size h

/-- Four blocks of rows, laid over a row tile. -/
def putF {e : EltTy} (x : S1024x1024.Idx → Elt F e) (w0 w1 w2 w3 : S256x1024.Idx → Elt F e) : S1024x1024.Idx → Elt F e :=
  VecWindow.put (VecWindow.put (VecWindow.put (VecWindow.put x ![0, 0] S256x1024.size w0) ![256, 0] S256x1024.size w1) ![512, 0] S256x1024.size w2) ![768, 0] S256x1024.size w3

/-- Four blocks of rows, laid over a chip's hidden columns. -/
def putH {e : EltTy} (x : S1x1024x704.Idx → Elt F e) (w0 w1 w2 w3 : S1x256x704.Idx → Elt F e) : S1x1024x704.Idx → Elt F e :=
  VecWindow.put (VecWindow.put (VecWindow.put (VecWindow.put x ![0, 0, 0] S1x256x704.size w0) ![0, 256, 0] S1x256x704.size w1) ![0, 512, 0] S1x256x704.size w2) ![0, 768, 0] S1x256x704.size w3

/-- The four blocks cover a row tile, whatever was there. -/
theorem putF_any {e : EltTy} (x y : S1024x1024.Idx → Elt F e) (w0 w1 w2 w3 : S256x1024.Idx → Elt F e) : putF x w0 w1 w2 w3 = putF y w0 w1 w2 w3 := by
  funext p
  unfold putF VecWindow.put
  have hp : (p 0).val < 1024 := (p 0).isLt
  have hq : (p 1).val < 1024 := (p 1).isLt
  have key : ∀ o : ℕ, o ≤ (p 0).val → (p 0).val < o + 256 → ∀ a, (![o, 0] : Fin 2 → ℕ) a ≤ (p a).val ∧ (p a).val < (![o, 0] : Fin 2 → ℕ) a + S256x1024.size a := by
    intro o h1 h2 a; match a with
    | ⟨0, _⟩ => exact ⟨h1, h2⟩
    | ⟨1, _⟩ => exact ⟨Nat.zero_le _, show (p 1).val < 0 + 1024 by omega⟩
  by_cases h3 : 768 ≤ (p 0).val
  · rw [dif_pos (key 768 h3 (by omega)), dif_pos (key 768 h3 (by omega))]
  by_cases h2 : 512 ≤ (p 0).val
  · rw [dif_neg, dif_pos (key 512 h2 (by omega)), dif_neg, dif_pos (key 512 h2 (by omega))]
    all_goals exact fun h => h3 (h 0).1
  by_cases h1 : 256 ≤ (p 0).val
  · rw [dif_neg, dif_neg, dif_pos (key 256 h1 (by omega)), dif_neg, dif_neg, dif_pos (key 256 h1 (by omega))]
    all_goals first | exact fun h => h3 (h 0).1 | exact fun h => h2 (h 0).1
  · rw [dif_neg, dif_neg, dif_neg, dif_pos (key 0 (by omega) (by omega)), dif_neg, dif_neg, dif_neg, dif_pos (key 0 (by omega) (by omega))]
    all_goals first | exact fun h => h3 (h 0).1 | exact fun h => h2 (h 0).1 | exact fun h => h1 (h 0).1

/-- The four blocks cover a chip's hidden columns, whatever was there. -/
theorem putH_any {e : EltTy} (x y : S1x1024x704.Idx → Elt F e) (w0 w1 w2 w3 : S1x256x704.Idx → Elt F e) : putH x w0 w1 w2 w3 = putH y w0 w1 w2 w3 := by
  funext p
  unfold putH VecWindow.put
  have ho : (p 0).val < 1 := (p 0).isLt
  have hp : (p 1).val < 1024 := (p 1).isLt
  have hq : (p 2).val < 704 := (p 2).isLt
  have key : ∀ o : ℕ, o ≤ (p 1).val → (p 1).val < o + 256 → ∀ a, (![0, o, 0] : Fin 3 → ℕ) a ≤ (p a).val ∧ (p a).val < (![0, o, 0] : Fin 3 → ℕ) a + S1x256x704.size a := by
    intro o h1 h2 a; match a with
    | ⟨0, _⟩ => exact ⟨Nat.zero_le _, show (p 0).val < 0 + 1 by omega⟩
    | ⟨1, _⟩ => exact ⟨h1, h2⟩
    | ⟨2, _⟩ => exact ⟨Nat.zero_le _, show (p 2).val < 0 + 704 by omega⟩
  by_cases h3 : 768 ≤ (p 1).val
  · rw [dif_pos (key 768 h3 (by omega)), dif_pos (key 768 h3 (by omega))]
  by_cases h2 : 512 ≤ (p 1).val
  · rw [dif_neg, dif_pos (key 512 h2 (by omega)), dif_neg, dif_pos (key 512 h2 (by omega))]
    all_goals exact fun h => h3 (h 1).1
  by_cases h1 : 256 ≤ (p 1).val
  · rw [dif_neg, dif_neg, dif_pos (key 256 h1 (by omega)), dif_neg, dif_neg, dif_pos (key 256 h1 (by omega))]
    all_goals first | exact fun h => h3 (h 1).1 | exact fun h => h2 (h 1).1
  · rw [dif_neg, dif_neg, dif_neg, dif_pos (key 0 (by omega) (by omega)), dif_neg, dif_neg, dif_neg, dif_pos (key 0 (by omega) (by omega))]
    all_goals first | exact fun h => h3 (h 1).1 | exact fun h => h2 (h 1).1 | exact fun h => h1 (h 1).1

/-- Four stores of row blocks, over any contents and any earlier stores, leave the four blocks. -/
theorem read_putF {σ} {e : EltTy} (a : Memref σ .tc .vmem S1024x1024 e) (f : BufTy.Contents (Elt F) a.view.ty) (x : S1024x1024.Idx → Elt F e)
    {w0 a0 w1 a1 w2 a2 w3 a3 : S256x1024.Idx → Elt F e} (L : List (View.Piece (Elt F) S1024x1024 e))
    (i0 : ∀ a, (![0, 0] : Fin 2 → ℕ) a + S256x1024.size a ≤ S1024x1024.size a) (i1 : ∀ a, (![256, 0] : Fin 2 → ℕ) a + S256x1024.size a ≤ S1024x1024.size a)
    (i2 : ∀ a, (![512, 0] : Fin 2 → ℕ) a + S256x1024.size a ≤ S1024x1024.size a) (i3 : ∀ a, (![768, 0] : Fin 2 → ℕ) a + S256x1024.size a ≤ S1024x1024.size a)
    (h0 : a0 = w0) (h1 : a1 = w1) (h2 : a2 = w2) (h3 : a3 = w3) :
    a.view.read (Elt F) (a.view.writes (Elt F) f (⟨Rect.unit (s := S1024x1024) ![768, 0] S256x1024.size i3, a3⟩ :: ⟨Rect.unit (s := S1024x1024) ![512, 0] S256x1024.size i2, a2⟩
      :: ⟨Rect.unit (s := S1024x1024) ![256, 0] S256x1024.size i1, a1⟩ :: ⟨Rect.unit (s := S1024x1024) ![0, 0] S256x1024.size i0, a0⟩ :: L)) = putF x w0 w1 w2 w3 := by
  subst h0 h1 h2 h3
  rw [View.read_writes_cons_put a.view f i3 a3 _ rfl, View.read_writes_cons_put a.view f i2 a2 _ rfl, View.read_writes_cons_put a.view f i1 a1 _ rfl,
    View.read_writes_cons_put a.view f i0 a0 L rfl]
  exact putF_any _ x _ _ _ _

/-- The same over a chip's hidden columns. -/
theorem read_putH {σ} {e : EltTy} (a : Memref σ .tc .vmem S1x1024x704 e) (f : BufTy.Contents (Elt F) a.view.ty) (x : S1x1024x704.Idx → Elt F e)
    {w0 a0 w1 a1 w2 a2 w3 a3 : S1x256x704.Idx → Elt F e} (L : List (View.Piece (Elt F) S1x1024x704 e))
    (i0 : ∀ a, (![0, 0, 0] : Fin 3 → ℕ) a + S1x256x704.size a ≤ S1x1024x704.size a) (i1 : ∀ a, (![0, 256, 0] : Fin 3 → ℕ) a + S1x256x704.size a ≤ S1x1024x704.size a)
    (i2 : ∀ a, (![0, 512, 0] : Fin 3 → ℕ) a + S1x256x704.size a ≤ S1x1024x704.size a) (i3 : ∀ a, (![0, 768, 0] : Fin 3 → ℕ) a + S1x256x704.size a ≤ S1x1024x704.size a)
    (h0 : a0 = w0) (h1 : a1 = w1) (h2 : a2 = w2) (h3 : a3 = w3) :
    a.view.read (Elt F) (a.view.writes (Elt F) f (⟨Rect.unit (s := S1x1024x704) ![0, 768, 0] S1x256x704.size i3, a3⟩ :: ⟨Rect.unit (s := S1x1024x704) ![0, 512, 0] S1x256x704.size i2, a2⟩
      :: ⟨Rect.unit (s := S1x1024x704) ![0, 256, 0] S1x256x704.size i1, a1⟩ :: ⟨Rect.unit (s := S1x1024x704) ![0, 0, 0] S1x256x704.size i0, a0⟩ :: L)) = putH x w0 w1 w2 w3 := by
  subst h0 h1 h2 h3
  rw [View.read_writes_cons_put a.view f i3 a3 _ rfl, View.read_writes_cons_put a.view f i2 a2 _ rfl, View.read_writes_cons_put a.view f i1 a1 _ rfl,
    View.read_writes_cons_put a.view f i0 a0 L rfl]
  exact putH_any _ x _ _ _ _

/-- A load of a row block, of any contents. -/
theorem loadF {σ} {e : EltTy} (a : Memref σ .tc .vmem S1024x1024 e) (f : BufTy.Contents (Elt F) a.view.ty) {x : S1024x1024.Idx → Elt F e} (o : ℕ)
    (i : ∀ a, (![o, 0] : Fin 2 → ℕ) a + S256x1024.size a ≤ S1024x1024.size a) (h : a.view.read (Elt F) f = x) :
    a.view.readAt (Elt F) (Rect.unit (s := S1024x1024) ![o, 0] S256x1024.size i).toLoadRect f = rowsF x o i := by
  subst h; exact View.readAt_unit a.view f i rfl i

/-- A load of a row block of a chip's hidden columns. -/
theorem loadH {σ} {e : EltTy} (a : Memref σ .tc .vmem S1x1024x704 e) (f : BufTy.Contents (Elt F) a.view.ty) (o : ℕ)
    (i : ∀ a, (![0, o, 0] : Fin 3 → ℕ) a + S1x256x704.size a ≤ S1x1024x704.size a) :
    a.view.readAt (Elt F) (Rect.unit (s := S1x1024x704) ![0, o, 0] S1x256x704.size i).toLoadRect f = rowsH (a.view.read (Elt F) f) o i := View.readAt_unit a.view f i rfl i

/-- A row block's load sees nothing of a store of an earlier block. -/
theorem loadF_later {σ} {e : EltTy} (a : Memref σ .tc .vmem S1024x1024 e) (f : BufTy.Contents (Elt F) a.view.ty) {x : S256x1024.Idx → Elt F e} (o o' : ℕ)
    (i : ∀ a, (![o, 0] : Fin 2 → ℕ) a + S256x1024.size a ≤ S1024x1024.size a) (i' : ∀ a, (![o', 0] : Fin 2 → ℕ) a + S256x1024.size a ≤ S1024x1024.size a)
    (w : S256x1024.Idx → Elt F e) (L : List (View.Piece (Elt F) S1024x1024 e)) (ho : o' + 256 ≤ o)
    (h : a.view.readAt (Elt F) (Rect.unit (s := S1024x1024) ![o, 0] S256x1024.size i).toLoadRect (a.view.writes (Elt F) f L) = x) :
    a.view.readAt (Elt F) (Rect.unit (s := S1024x1024) ![o, 0] S256x1024.size i).toLoadRect (a.view.writes (Elt F) f (⟨Rect.unit (s := S1024x1024) ![o', 0] S256x1024.size i', w⟩ :: L)) = x := by
  rw [View.readAt_unit a.view _ i rfl i] at h ⊢
  rw [View.read_writes_cons_put a.view f i' w L rfl]
  exact (VecWindow.window_put_of_disjoint _ _ _ _ _ _ _ 0 (Or.inr ho)).trans h

/-! Each row block's three results, from what the body loads. -/

section Blocks

variable {a8 x8 : Vec F S256x1024 .bf16} {a10 x10 : Vec F S1x704x1024 .bf16} {a13 x13 a16 x16 : Vec F S1x256x704 .bf16} {a44 x44 : Vec F S256x1024 .f32}
  {a45 x45 a48 x48 : Vec F S1x704x1024 .bf16} (h8 : a8 = x8) (h10 : a10 = x10) (h13 : a13 = x13) (h16 : a16 = x16) (h44 : a44 = x44) (h45 : a45 = x45) (h48 : a48 = x48)

include h8 h10 h13

theorem hu_0 : k0_pay18 (k0_pay12 a8 a10 a13) = k0_pay36 (k0_pay33 x8 x10 x13) := by
  subst h8 h10 h13; rfl

theorem hu_1 : k0_pay26 (k0_pay20 a8 a10) (k0_pay21 a13) = k0_pay36 (k0_pay33 x8 x10 x13) := by
  subst h8 h10 h13; rfl

theorem hu_2 : k0_pay36 (k0_pay33 a8 a10 a13) = k0_pay36 (k0_pay33 x8 x10 x13) := by
  subst h8 h10 h13; rfl

theorem hu_3 : k0_pay46 (k0_pay38 a8 a10) (k0_pay39 a13) k0_pay41 = k0_pay36 (k0_pay33 x8 x10 x13) := by
  subst h8 h10 h13; rfl

include h16

theorem hg_0 : k0_pay17 (k0_pay11 a13) (k0_pay13 a8 a10 a16) (k0_pay14 a13) k0_pay15 = k0_pay35 (k0_pay34 x8 x10 x13 x16) := by
  subst h8 h10 h13 h16; rfl

theorem hg_1 : k0_pay25 (k0_pay20 a8 a10) (k0_pay21 a13) a16 = k0_pay35 (k0_pay34 x8 x10 x13 x16) := by
  subst h8 h10 h13 h16; rfl

theorem hg_2 : k0_pay35 (k0_pay34 a8 a10 a13 a16) = k0_pay35 (k0_pay34 x8 x10 x13 x16) := by
  subst h8 h10 h13 h16; rfl

theorem hg_3 : k0_pay45 (k0_pay38 a8 a10) (k0_pay39 a13) (k0_pay40 a16) k0_pay41 = k0_pay35 (k0_pay34 x8 x10 x13 x16) := by
  subst h8 h10 h13 h16; rfl

include h44 h45 h48

theorem dn_0 : k0_pay19 (k0_pay11 a13) (k0_pay12 a8 a10 a13) (k0_pay13 a8 a10 a16) (k0_pay14 a13) k0_pay15 a44 a45 a48 = k0_pay37 (k0_pay33 x8 x10 x13) (k0_pay34 x8 x10 x13 x16) x44 x45 x48 := by
  subst h8 h10 h13 h16 h44 h45 h48; rfl

theorem dn_1 : k0_pay29 (k0_pay23 (k0_pay20 a8 a10) (k0_pay21 a13)) a44 (k0_pay27 (k0_pay20 a8 a10) (k0_pay21 a13) a16 a45) (k0_pay28 a48) (constant S256x1024 .f32 0x00000000#32) = k0_pay37 (k0_pay33 x8 x10 x13) (k0_pay34 x8 x10 x13 x16) x44 x45 x48 := by
  subst h8 h10 h13 h16 h44 h45 h48; rfl

theorem dn_2 : k0_pay37 (k0_pay33 a8 a10 a13) (k0_pay34 a8 a10 a13 a16) a44 a45 a48 = k0_pay37 (k0_pay33 x8 x10 x13) (k0_pay34 x8 x10 x13 x16) x44 x45 x48 := by
  subst h8 h10 h13 h16 h44 h45 h48; rfl

theorem dn_3 : k0_pay47 (k0_pay38 a8 a10) (k0_pay39 a13) (k0_pay40 a16) k0_pay41 a44 a45 a48 = k0_pay37 (k0_pay33 x8 x10 x13) (k0_pay34 x8 x10 x13 x16) x44 x45 x48 := by
  subst h8 h10 h13 h16 h44 h45 h48; rfl

end Blocks

/-- The gate's cotangent a point stores. -/
def dhgOf (x3 x4 : Vec F S1x1024x704 .bf16) (x7 : Vec F S1x704x1024 .bf16) (x12 : Vec F S1024x1024 .bf16) : Vec F S1x1024x704 .bf16 :=
  putH x3
    (k0_pay35 (k0_pay34 (rowsF x12 0 inb_S1024x1024_S256x1024_0_0) x7 (rowsH x3 0 inb_S1x1024x704_S1x256x704_0_0_0) (rowsH x4 0 inb_S1x1024x704_S1x256x704_0_0_0)))
    (k0_pay35 (k0_pay34 (rowsF x12 256 inb_S1024x1024_S256x1024_256_0) x7 (rowsH x3 256 inb_S1x1024x704_S1x256x704_0_256_0) (rowsH x4 256 inb_S1x1024x704_S1x256x704_0_256_0)))
    (k0_pay35 (k0_pay34 (rowsF x12 512 inb_S1024x1024_S256x1024_512_0) x7 (rowsH x3 512 inb_S1x1024x704_S1x256x704_0_512_0) (rowsH x4 512 inb_S1x1024x704_S1x256x704_0_512_0)))
    (k0_pay35 (k0_pay34 (rowsF x12 768 inb_S1024x1024_S256x1024_768_0) x7 (rowsH x3 768 inb_S1x1024x704_S1x256x704_0_768_0) (rowsH x4 768 inb_S1x1024x704_S1x256x704_0_768_0)))

/-- The up projection's cotangent a point stores. -/
def dhuOf (x3 : Vec F S1x1024x704 .bf16) (x7 : Vec F S1x704x1024 .bf16) (x12 : Vec F S1024x1024 .bf16) : Vec F S1x1024x704 .bf16 :=
  putH x3
    (k0_pay36 (k0_pay33 (rowsF x12 0 inb_S1024x1024_S256x1024_0_0) x7 (rowsH x3 0 inb_S1x1024x704_S1x256x704_0_0_0)))
    (k0_pay36 (k0_pay33 (rowsF x12 256 inb_S1024x1024_S256x1024_256_0) x7 (rowsH x3 256 inb_S1x1024x704_S1x256x704_0_256_0)))
    (k0_pay36 (k0_pay33 (rowsF x12 512 inb_S1024x1024_S256x1024_512_0) x7 (rowsH x3 512 inb_S1x1024x704_S1x256x704_0_512_0)))
    (k0_pay36 (k0_pay33 (rowsF x12 768 inb_S1024x1024_S256x1024_768_0) x7 (rowsH x3 768 inb_S1x1024x704_S1x256x704_0_768_0)))

/-- The sum over the hidden columns after a point, from the one it finds. -/
def dnOf (x3 x4 : Vec F S1x1024x704 .bf16) (x5 x6 x7 : Vec F S1x704x1024 .bf16) (x12 : Vec F S1024x1024 .bf16) (x13 : Vec F S1024x1024 .f32) : Vec F S1024x1024 .f32 :=
  putF x13
    (k0_pay37 (k0_pay33 (rowsF x12 0 inb_S1024x1024_S256x1024_0_0) x7 (rowsH x3 0 inb_S1x1024x704_S1x256x704_0_0_0)) (k0_pay34 (rowsF x12 0 inb_S1024x1024_S256x1024_0_0) x7 (rowsH x3 0 inb_S1x1024x704_S1x256x704_0_0_0) (rowsH x4 0 inb_S1x1024x704_S1x256x704_0_0_0)) (rowsF x13 0 inb_S1024x1024_S256x1024_0_0) x5 x6)
    (k0_pay37 (k0_pay33 (rowsF x12 256 inb_S1024x1024_S256x1024_256_0) x7 (rowsH x3 256 inb_S1x1024x704_S1x256x704_0_256_0)) (k0_pay34 (rowsF x12 256 inb_S1024x1024_S256x1024_256_0) x7 (rowsH x3 256 inb_S1x1024x704_S1x256x704_0_256_0) (rowsH x4 256 inb_S1x1024x704_S1x256x704_0_256_0)) (rowsF x13 256 inb_S1024x1024_S256x1024_256_0) x5 x6)
    (k0_pay37 (k0_pay33 (rowsF x12 512 inb_S1024x1024_S256x1024_512_0) x7 (rowsH x3 512 inb_S1x1024x704_S1x256x704_0_512_0)) (k0_pay34 (rowsF x12 512 inb_S1024x1024_S256x1024_512_0) x7 (rowsH x3 512 inb_S1x1024x704_S1x256x704_0_512_0) (rowsH x4 512 inb_S1x1024x704_S1x256x704_0_512_0)) (rowsF x13 512 inb_S1024x1024_S256x1024_512_0) x5 x6)
    (k0_pay37 (k0_pay33 (rowsF x12 768 inb_S1024x1024_S256x1024_768_0) x7 (rowsH x3 768 inb_S1x1024x704_S1x256x704_0_768_0)) (k0_pay34 (rowsF x12 768 inb_S1024x1024_S256x1024_768_0) x7 (rowsH x3 768 inb_S1x1024x704_S1x256x704_0_768_0) (rowsH x4 768 inb_S1x1024x704_S1x256x704_0_768_0)) (rowsF x13 768 inb_S1024x1024_S256x1024_768_0) x5 x6)

/-- The row tile's gradient and the norm's, at a row tile's last point. -/
theorem last_dx {a1 x1 a13 x13 : Vec F S1024x1024 .f32} {a2 x2 : Vec F S1x1024 .f32} {a0 x0 : Vec F S1024x1024 .f32} (h1 : a1 = x1) (h13 : a13 = x13) (h2 : a2 = x2) (h0 : a0 = x0) :
    k0_pay4 a1 a13 a2 a0 = k0_pay4 x1 x13 x2 x0 := by
  subst h1 h13 h2 h0; rfl

theorem last_dg {a1 x1 a13 x13 : Vec F S1024x1024 .f32} {a2 x2 : Vec F S1x1024 .f32} (h1 : a1 = x1) (h13 : a13 = x13) (h2 : a2 = x2) :
    k0_pay5 a1 a13 a2 = k0_pay5 x1 x13 x2 := by
  subst h1 h13 h2; rfl

/-- The cast cotangent, from what the body loads. -/
theorem cast_df {a0 x0 : Vec F S1024x1024 .f32} (h : a0 = x0) : k0_pay6 a0 = k0_pay6 x0 := by subst h; rfl

set_option maxHeartbeats 16000000 in
/-- The body at any grid point. -/
theorem wp_body (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S1024x1024 .f32) (harg10 : arg10.IsWhole) (arg11 : Memref sig .tc .vmem S1x1024x704 .bf16) (harg11 : arg11.IsWhole) (arg12 : Memref sig .tc .vmem S1x1024x704 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1024x1024 .f32) (harg15 : arg15.IsWhole)
    (x0 : Vec F S1024x1024 .f32) (x1 : Vec F S1024x1024 .f32) (x2 : Vec F S1x1024 .f32) (x3 : Vec F S1x1024x704 .bf16) (x4 : Vec F S1x1024x704 .bf16) (x5 : Vec F S1x704x1024 .bf16) (x6 : Vec F S1x704x1024 .bf16) (x7 : Vec F S1x704x1024 .bf16) (d8 : Vec F S1024x1024 .f32) (d11 : Vec F S1x1024 .f32) (d12 : Vec F S1024x1024 .bf16) (d13 : Vec F S1024x1024 .f32)
    (h21 : k0_cond2 i = 1#1 → k0_cond1 i = 1#1) (h31 : k0_cond3 i = 1#1 → ¬k0_cond1 i = 1#1)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ (∃ d, owns (c : Thread nD τ) arg11 fullShare d) ∗ (∃ d, owns (c : Thread nD τ) arg12 fullShare d) ∗ owns (c : Thread nD τ) arg13 fullShare d11 ∗ owns (c : Thread nD τ) arg14 fullShare d12 ∗ owns (c : Thread nD τ) arg15 fullShare d13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (if k0_cond3 i = 1#1 then k0_pay4 x1 (dnOf x3 x4 x5 x6 x7 (foundDf i x0 d12) (foundDn i d13)) x2 x0 else d8) ∗ owns (c : Thread nD τ) arg11 fullShare (dhgOf x3 x4 x7 (foundDf i x0 d12)) ∗ owns (c : Thread nD τ) arg12 fullShare (dhuOf x3 x7 (foundDf i x0 d12)) ∗ owns (c : Thread nD τ) arg13 fullShare (if k0_cond3 i = 1#1 then k0_pay5 x1 (dnOf x3 x4 x5 x6 x7 (foundDf i x0 d12) (foundDn i d13)) (foundDg i d11) else foundDg i d11) ∗ owns (c : Thread nD τ) arg14 fullShare (foundDf i x0 d12) ∗ owns (c : Thread nD τ) arg15 fullShare (dnOf x3 x4 x5 x6 x7 (foundDf i x0 d12) (foundDn i d13))) -∗ K ⟨⟩))
      ⊢ wp frame (wpE (defs₀ (F := F)) Variants.none c none) E (cc0_ffn_bwd_dx i arg2 harg2 arg3 harg3 arg4 harg4 arg5 harg5 arg6 harg6 arg7 harg7 arg8 harg8 arg9 harg9 arg10 harg10 arg11 harg11 arg12 harg12 arg13 harg13 arg14 harg14 arg15 harg15) K := by
  have hc : (k0_cond1 i = 1#1 ∧ k0_cond2 i = 1#1 ∧ ¬k0_cond3 i = 1#1) ∨ (k0_cond1 i = 1#1 ∧ ¬k0_cond2 i = 1#1 ∧ ¬k0_cond3 i = 1#1) ∨
      (¬k0_cond1 i = 1#1 ∧ ¬k0_cond2 i = 1#1 ∧ k0_cond3 i = 1#1) ∨ (¬k0_cond1 i = 1#1 ∧ ¬k0_cond2 i = 1#1 ∧ ¬k0_cond3 i = 1#1) := by
    by_cases h1 : k0_cond1 i = 1#1 <;> by_cases h2 : k0_cond2 i = 1#1 <;> by_cases h3 : k0_cond3 i = 1#1 <;> simp_all
  rw [cc0_ffn_bwd_dx_eq_skeleton]; unfold cc0_ffn_bwd_dx_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, Hk⟩
  subst hf0 hf1 hf2 hf3 hf4 hf5 hf6 hf7 hf8 hf11 hf12 hf13
  obtain ⟨h1, h2, h3⟩ | ⟨h1, h2, h3⟩ | ⟨h1, h2, h3⟩ | ⟨h1, h2, h3⟩ := hc
  all_goals
    sl_exec (disch := first | sl_exact h1 | sl_exact h2 | sl_exact h3)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]; swap
    isplitl [H9]
    · iexists _; isplitr; swap; · iexact H9
      ipureintro
      refine read_putH arg11 _ _ [] _ _ _ _
        (hg_0 (loadF arg14 _ 0 _ ?_) (View.readAt_full _ _ _) (loadH arg5 _ 0 _) (loadH arg6 _ 0 _))
        (hg_1 (loadF arg14 _ 256 _ ?_) (View.readAt_full _ _ _) (loadH arg5 _ 256 _) (loadH arg6 _ 256 _))
        (hg_2 (loadF arg14 _ 512 _ ?_) (View.readAt_full _ _ _) (loadH arg5 _ 512 _) (loadH arg6 _ 512 _))
        (hg_3 (loadF arg14 _ 768 _ ?_) (View.readAt_full _ _ _) (loadH arg5 _ 768 _) (loadH arg6 _ 768 _))
      all_goals first
        | exact (show foundDf i _ _ = _ from if_neg h1).symm
        | exact (View.read_writes_full _ _ _ _ _).trans ((cast_df (View.readAt_full _ _ _)).trans (show foundDf i _ _ = _ from if_pos h1).symm)
    isplitl [H10]
    · iexists _; isplitr; swap; · iexact H10
      ipureintro
      refine read_putH arg12 _ _ [] _ _ _ _
        (hu_0 (loadF arg14 _ 0 _ ?_) (View.readAt_full _ _ _) (loadH arg5 _ 0 _))
        (hu_1 (loadF arg14 _ 256 _ ?_) (View.readAt_full _ _ _) (loadH arg5 _ 256 _))
        (hu_2 (loadF arg14 _ 512 _ ?_) (View.readAt_full _ _ _) (loadH arg5 _ 512 _))
        (hu_3 (loadF arg14 _ 768 _ ?_) (View.readAt_full _ _ _) (loadH arg5 _ 768 _))
      all_goals first
        | exact (show foundDf i _ _ = _ from if_neg h1).symm
        | exact (View.read_writes_full _ _ _ _ _).trans ((cast_df (View.readAt_full _ _ _)).trans (show foundDf i _ _ = _ from if_pos h1).symm)
    isplitl [H11]; swap
    isplitl [H12]
    · iexists _; isplitr; swap; · iexact H12
      ipureintro
      first
        | exact (show foundDf i _ _ = _ from if_neg h1).symm
        | exact (View.read_writes_full _ _ _ _ _).trans ((cast_df (View.readAt_full _ _ _)).trans (show foundDf i _ _ = _ from if_pos h1).symm)
    iexists _; isplitr; swap; · iexact H13
    ipureintro
    rotate_left
    iexists _; isplitr; swap; · iexact H11
    ipureintro
    rotate_left
    iexists _; isplitr; swap; · iexact H8
    ipureintro
    rotate_left
    on_goal 3 => first
      | exact (if_neg h3).symm
      | refine (View.read_writes_full _ _ _ _ _).trans ((last_dx (View.readAt_full _ _ _) ((View.readAt_full _ _ _).trans ?_) (View.readAt_full _ _ _) (View.readAt_full _ _ _)).trans (if_pos h3).symm)
    on_goal 2 => first
      | exact ((View.read_writes_full _ _ _ _ _).trans (show foundDg i _ = _ from if_pos h2).symm).trans (if_neg h3).symm
      | exact (show foundDg i _ = _ from if_neg h2).symm.trans (if_neg h3).symm
      | refine (View.read_writes_full _ _ _ _ _).trans ((last_dg (View.readAt_full _ _ _) ((View.readAt_full _ _ _).trans ?_) ((View.readAt_full _ _ _).trans (show foundDg i _ = _ from if_neg h2).symm)).trans (if_pos h3).symm)
    all_goals
      refine read_putF arg15 _ _ _ _ _ _ _
        (dn_0 (loadF arg14 _ 0 _ ?_) (View.readAt_full _ _ _) (loadH arg5 _ 0 _) (loadH arg6 _ 0 _)
          (by first | exact loadF arg15 _ 0 _ (show foundDn i _ = _ from if_neg h1).symm | exact loadF arg15 _ 0 _ ((View.read_writes_full _ _ _ _ _).trans (show foundDn i _ = _ from if_pos h1).symm)) (View.readAt_full _ _ _) (View.readAt_full _ _ _))
        (dn_1 (loadF arg14 _ 256 _ ?_) (View.readAt_full _ _ _) (loadH arg5 _ 256 _) (loadH arg6 _ 256 _)
          (by first | exact loadF arg15 _ 256 _ (show foundDn i _ = _ from if_neg h1).symm | exact loadF_later arg15 _ 256 0 _ _ _ _ (by decide) (loadF arg15 _ 256 _ ((View.read_writes_full _ _ _ _ _).trans (show foundDn i _ = _ from if_pos h1).symm))) (View.readAt_full _ _ _) (View.readAt_full _ _ _))
        (dn_2 (loadF arg14 _ 512 _ ?_) (View.readAt_full _ _ _) (loadH arg5 _ 512 _) (loadH arg6 _ 512 _)
          (by first | exact loadF arg15 _ 512 _ (show foundDn i _ = _ from if_neg h1).symm | exact loadF_later arg15 _ 512 256 _ _ _ _ (by decide) (loadF_later arg15 _ 512 0 _ _ _ _ (by decide) (loadF arg15 _ 512 _ ((View.read_writes_full _ _ _ _ _).trans (show foundDn i _ = _ from if_pos h1).symm)))) (View.readAt_full _ _ _) (View.readAt_full _ _ _))
        (dn_3 (loadF arg14 _ 768 _ ?_) (View.readAt_full _ _ _) (loadH arg5 _ 768 _) (loadH arg6 _ 768 _)
          (by first | exact loadF arg15 _ 768 _ (show foundDn i _ = _ from if_neg h1).symm | exact loadF_later arg15 _ 768 512 _ _ _ _ (by decide) (loadF_later arg15 _ 768 256 _ _ _ _ (by decide) (loadF_later arg15 _ 768 0 _ _ _ _ (by decide) (loadF arg15 _ 768 _ ((View.read_writes_full _ _ _ _ _).trans (show foundDn i _ = _ from if_pos h1).symm))))) (View.readAt_full _ _ _) (View.readAt_full _ _ _))
    all_goals first
      | exact (show foundDf i _ _ = _ from if_neg h1).symm
      | exact (View.read_writes_full _ _ _ _ _).trans ((cast_df (View.readAt_full _ _ _)).trans (show foundDf i _ _ = _ from if_pos h1).symm)

end Cert.FfnBwdDxIdeal.Body

end
-- ==== Proof.FfnDxFrame.lean ====
module

public import proofs.«01_k».proof.Proof.FfnDxRun
public import proofs.«01_k».proof.Proof.Gen.FfnBwdDxIdeal.Frame
public import Idealize.ShloMosaic.Lib.Claim
public import Idealize.ShloMosaic.Lib.Pipeline.TableIdle

@[expose] public section

set_option maxRecDepth 16384

noncomputable section

/-! The launch of the feed-forward's input gradient: what its outputs hold point by point, the invariant that carries the
sum over the hidden columns from point to point, and the frame. -/

namespace Cert.FfnBwdDxIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnBwdDxIdeal Cert.FfnBwdDxIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold -/

/-- The input's gradient, the gate's and the up projection's cotangents, the norm's gradient, the cast cotangent, and the
sum over the hidden columns. -/
abbrev Outs (F : FTy → Type) [FloatOps F] : Type :=
  Vec F S1024x1024 .f32 × Vec F S1x1024x704 .bf16 × Vec F S1x1024x704 .bf16 × Vec F S1x1024 .f32 × Vec F S1024x1024 .bf16 × Vec F S1024x1024 .f32

/-- The sum over the hidden columns after a point, from the cotangent and the sum it finds. -/
def sumAt (c : Dev nD) (t : Fin cfg0.N) (d12 : Vec F S1024x1024 .bf16) (d13 : Vec F S1024x1024 .f32) : Vec F S1024x1024 .f32 :=
  dnOf (iblk m c 3 t) (iblk m c 4 t) (iblk m c 5 t) (iblk m c 6 t) (iblk m c 7 t) (foundDf (grid0.coords t) (iblk m c 0 t) d12) (foundDn (grid0.coords t) d13)

/-- One point's outputs, from what it finds in the norm's gradient, the cast cotangent and the scratch. -/
def point (c : Dev nD) (t : Fin cfg0.N) (d11 : Vec F S1x1024 .f32) (d12 : Vec F S1024x1024 .bf16) (d13 : Vec F S1024x1024 .f32) : Outs F :=
  (k0_pay4 (iblk m c 1 t) (sumAt m c t d12 d13) (iblk m c 2 t) (iblk m c 0 t),
    dhgOf (iblk m c 3 t) (iblk m c 4 t) (iblk m c 7 t) (foundDf (grid0.coords t) (iblk m c 0 t) d12),
    dhuOf (iblk m c 3 t) (iblk m c 7 t) (foundDf (grid0.coords t) (iblk m c 0 t) d12),
    (if k0_cond3 (grid0.coords t) = 1#1 then k0_pay5 (iblk m c 1 t) (sumAt m c t d12 d13) (foundDg (grid0.coords t) d11) else foundDg (grid0.coords t) d11),
    foundDf (grid0.coords t) (iblk m c 0 t) d12, sumAt m c t d12 d13)

/-- The outputs after each point. The first point clears all it would find. -/
def outsAt (c : Dev nD) : (n : ℕ) → n < cfg0.N → Outs F
  | 0, hn => point m c ⟨0, hn⟩ k0_pay8 (k0_pay6 (iblk m c 0 ⟨0, hn⟩)) k0_pay7
  | n + 1, hn =>
    let p := outsAt c n (Nat.lt_of_succ_lt hn)
    point m c ⟨n + 1, hn⟩ p.2.2.2.1 p.2.2.2.2.1 p.2.2.2.2.2

/-- Each fourth point starts a row tile, -/
theorem starts : ∀ t : Fin cfg0.N, t.val % 4 = 0 → k0_cond1 (grid0.coords t) = 1#1 :=
  (by decide +kernel : ∀ t : Fin grid0.N, t.val % 4 = 0 → k0_cond1 (grid0.coords t) = 1#1)

/-- and the first one clears the norm's gradient. -/
theorem clears : ∀ t : Fin cfg0.N, t.val = 0 → k0_cond2 (grid0.coords t) = 1#1 :=
  (by decide +kernel : ∀ t : Fin grid0.N, t.val = 0 → k0_cond2 (grid0.coords t) = 1#1)

theorem cond21 : ∀ t : Fin cfg0.N, k0_cond2 (grid0.coords t) = 1#1 → k0_cond1 (grid0.coords t) = 1#1 :=
  (by decide +kernel : ∀ t : Fin grid0.N, k0_cond2 (grid0.coords t) = 1#1 → k0_cond1 (grid0.coords t) = 1#1)

theorem cond31 : ∀ t : Fin cfg0.N, k0_cond3 (grid0.coords t) = 1#1 → ¬k0_cond1 (grid0.coords t) = 1#1 :=
  (by decide +kernel : ∀ t : Fin grid0.N, k0_cond3 (grid0.coords t) = 1#1 → ¬k0_cond1 (grid0.coords t) = 1#1)

/-- The outputs after a point, from anything that agrees with what the point before left wherever it is not cleared. -/
theorem outsAt_eq (c : Dev nD) (t : Fin cfg0.N) (d11 : Vec F S1x1024 .f32) (d12 : Vec F S1024x1024 .bf16) (d13 : Vec F S1024x1024 .f32)
    (h11 : t.val = 0 ∨ d11 = (outsAt m c (t.val - 1) (Nat.lt_of_le_of_lt (Nat.sub_le _ _) t.isLt)).2.2.2.1)
    (h12 : t.val % 4 = 0 ∨ d12 = (outsAt m c (t.val - 1) (Nat.lt_of_le_of_lt (Nat.sub_le _ _) t.isLt)).2.2.2.2.1)
    (h13 : t.val % 4 = 0 ∨ d13 = (outsAt m c (t.val - 1) (Nat.lt_of_le_of_lt (Nat.sub_le _ _) t.isLt)).2.2.2.2.2) :
    outsAt m c t.val t.isLt = point m c t d11 d12 d13 := by
  have e : ∃ p11 p12 p13, outsAt m c t.val t.isLt = point m c t p11 p12 p13
      ∧ (t.val = 0 ∨ d11 = p11) ∧ (t.val % 4 = 0 ∨ d12 = p12) ∧ (t.val % 4 = 0 ∨ d13 = p13) := by
    obtain ⟨n, hn⟩ := t
    cases n with
    | zero => exact ⟨_, _, _, rfl, .inl rfl, .inl rfl, .inl rfl⟩
    | succ n => exact ⟨_, _, _, rfl, h11, h12, h13⟩
  obtain ⟨p11, p12, p13, hp, g11, g12, g13⟩ := e
  rw [hp]; unfold point sumAt
  have e11 : foundDg (grid0.coords t) d11 = foundDg (grid0.coords t) p11 := by
    rcases g11 with h | h
    · unfold foundDg; rw [if_pos (clears t h), if_pos (clears t h)]
    · rw [h]
  have e12 : foundDf (grid0.coords t) (iblk m c 0 t) d12 = foundDf (grid0.coords t) (iblk m c 0 t) p12 := by
    rcases g12 with h | h
    · unfold foundDf; rw [if_pos (starts t h), if_pos (starts t h)]
    · rw [h]
  have e13 : foundDn (grid0.coords t) d13 = foundDn (grid0.coords t) p13 := by
    rcases g13 with h | h
    · unfold foundDn; rw [if_pos (starts t h), if_pos (starts t h)]
    · rw [h]
  rw [e11, e12, e13]

/-! ## The invariant -/

/-- The scratch, whole. -/
abbrev scr : Memref sig .tc .vmem S1024x1024 .f32 := Memref.whole cc0_scratch0

/-- Before the first point the scratch holds anything, afterwards what the point before left. -/
def PhiS (c : Dev nD) : (n : ℕ) → n ≤ cfg0.N → sProp 𝕄
  | 0, _ => Pipeline.ΦA spec0 c
  | n + 1, hn => iprop(owns (c : Thread nD τ) scr fullShare ((outsAt m c n hn).2.2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scr fullShare ((outsAt m c n hn).2.2.2.2.2) ∗ (∃ r, prngReg c r)) := rfl

theorem PhiS_pos (c : Dev nD) (n : ℕ) (h : n ≤ cfg0.N) (hz : n ≠ 0) :
    PhiS m c n h = iprop(owns (c : Thread nD τ) scr fullShare ((outsAt m c (n - 1) (by omega)).2.2.2.2.2) ∗ (∃ r, prngReg c r)) := by
  cases n with
  | zero => exact absurd rfl hz
  | succ n => rfl

theorem PhiA_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-! ## The proof data -/

/-- The launch's proof data: each input's block stays, each output holds `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
    | ⟨9, _⟩ => (outsAt m c t.val t.isLt).2.1
    | ⟨10, _⟩ => (outsAt m c t.val t.isLt).2.2.1
    | ⟨11, _⟩ => (outsAt m c t.val t.isLt).2.2.2.1
    | ⟨12, _⟩ => (outsAt m c t.val t.isLt).2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

section Windows

variable (c : Dev nD) (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = (outsAt m c t.val t.isLt).1 := by dsimp only [dats]
theorem after0_9 : (dats m 0 c).after 9 t = (outsAt m c t.val t.isLt).2.1 := by dsimp only [dats]
theorem after0_10 : (dats m 0 c).after 10 t = (outsAt m c t.val t.isLt).2.2.1 := by dsimp only [dats]
theorem after0_11 : (dats m 0 c).after 11 t = (outsAt m c t.val t.isLt).2.2.2.1 := by dsimp only [dats]
theorem after0_12 : (dats m 0 c).after 12 t = (outsAt m c t.val t.isLt).2.2.2.2.1 := by dsimp only [dats]
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d
theorem before0_6 (d) : (dats m 0 c).before 6 t d = iblk m c 6 t :=
  before0_6_of m (dats m 0 c) (A_eq m c 6) (after0_6 m c) t d
theorem before0_7 (d) : (dats m 0 c).before 7 t d = iblk m c 7 t :=
  before0_7_of m (dats m 0 c) (A_eq m c 7) (after0_7 m c) t d

end Windows

/-- A point that neither starts a row tile nor ends one leaves the norm's gradient, -/
theorem keeps_dg (c : Dev nD) (t : Fin cfg0.N) (hz : t.val ≠ 0) (h2 : ¬k0_cond2 (grid0.coords t) = 1#1) (h3 : ¬k0_cond3 (grid0.coords t) = 1#1) :
    (outsAt m c t.val t.isLt).2.2.2.1 = (outsAt m c (t.val - 1) (Nat.lt_of_le_of_lt (Nat.sub_le _ _) t.isLt)).2.2.2.1 := by
  rw [outsAt_eq m c t _ _ _ (.inr rfl) (.inr rfl) (.inr rfl)]
  unfold point foundDg
  dsimp only
  rw [if_neg h3, if_neg h2]

/-- and one that does not start a row tile the cast cotangent. -/
theorem keeps_df (c : Dev nD) (t : Fin cfg0.N) (hz : t.val ≠ 0) (h1 : ¬k0_cond1 (grid0.coords t) = 1#1) :
    (outsAt m c t.val t.isLt).2.2.2.2.1 = (outsAt m c (t.val - 1) (Nat.lt_of_le_of_lt (Nat.sub_le _ _) t.isLt)).2.2.2.2.1 := by
  rw [outsAt_eq m c t _ _ _ (.inr rfl) (.inr rfl) (.inr rfl)]
  unfold point foundDf
  dsimp only
  rw [if_neg h1]

theorem idle_dg (i : grid0.Coords) (h : cfg0.idle 11 i = true) : ¬k0_cond2 i = 1#1 ∧ ¬k0_cond3 i = 1#1 := by
  have h' : (!(k0_cond2 i == 1#1) && !(k0_cond3 i == 1#1)) = true := h
  constructor
  · intro h2; rw [h2] at h'; exact absurd h' (by simp)
  · intro h3; rw [h3, Bool.and_comm] at h'; exact absurd h' (by simp)

theorem idle_df (i : grid0.Coords) (h : cfg0.idle 12 i = true) : ¬k0_cond1 i = 1#1 := by
  have h' : (!(k0_cond1 i == 1#1)) = true := h
  intro h1; rw [h1] at h'; exact absurd h' (by decide)

theorem fresh_dg : ∀ t : Fin cfg0.N, cfg0.fresh 11 t.val = true → t.val = 0 := by
  intro t ht
  rw [Cfg.fresh_tab cfg0 11 (fun n => n % 16 == 0) rfl (by decide +kernel) t.val (Nat.le_of_lt t.isLt)] at ht
  have : cfg0.N = 16 := N_0
  have := t.isLt
  have := beq_iff_eq.mp ht
  omega

theorem fresh_df : ∀ t : Fin cfg0.N, cfg0.fresh 12 t.val = true → t.val % 4 = 0 := by
  intro t ht
  rw [Cfg.fresh_tab cfg0 12 (fun n => n % 4 == 0) rfl (by decide +kernel) t.val (Nat.le_of_lt t.isLt)] at ht
  exact beq_iff_eq.mp ht

/-- The norm's gradient found at a point: what the point before left, or anything where it is cleared. -/
theorem before_11 (c : Dev nD) (t : Fin cfg0.N) (d) :
    t.val = 0 ∨ (dats m 0 c).before 11 t d = (outsAt m c (t.val - 1) (Nat.lt_of_le_of_lt (Nat.sub_le _ _) t.isLt)).2.2.2.1 := by
  have h := (dats m 0 c).before_out_traj 11 rfl (fun _ _ => rfl) (fun t hz hi _ => by
    rw [after0_11, after0_11]; exact keeps_dg m c t hz (idle_dg _ hi).1 (idle_dg _ hi).2) t.val t rfl d
  by_cases hf : cfg0.fresh 11 t.val = true
  · exact .inl (fresh_dg t hf)
  · rw [if_neg hf] at h
    exact .inr (h.trans (after0_11 m c _))

/-- The cast cotangent found at a point, likewise. -/
theorem before_12 (c : Dev nD) (t : Fin cfg0.N) (d) :
    t.val % 4 = 0 ∨ (dats m 0 c).before 12 t d = (outsAt m c (t.val - 1) (Nat.lt_of_le_of_lt (Nat.sub_le _ _) t.isLt)).2.2.2.2.1 := by
  have h := (dats m 0 c).before_out_traj 12 rfl (fun _ _ => rfl) (fun t hz hi _ => by
    rw [after0_12, after0_12]; exact keeps_df m c t hz (idle_df _ hi)) t.val t rfl d
  by_cases hf : cfg0.fresh 12 t.val = true
  · exact .inl (fresh_df t hf)
  · rw [if_neg hf] at h
    exact .inr (h.trans (after0_12 m c _))

/-- Where the input's gradient is not stored its block is not written back. -/
theorem noFlush_8 : ∀ t : Fin cfg0.N, ¬ k0_cond3 (grid0.coords t) = 1#1 → (cfg0.win 8).flush t = false :=
  (by decide +kernel : ∀ t : Fin grid0.N, ¬ k0_cond3 (grid0.coords t) = 1#1 → win0_8.flush t = false)

/-- A window left at what the proof data says, where an idle point finds just that. -/
theorem leaves_of (c : Dev nD) (w : Fin cfg0.W) (t : Fin cfg0.N) (d : (cfg0.win w).block.Idx → Elt F (cfg0.win w).elt)
    (h : cfg0.idle w (grid0.coords t) = true → (dats m 0 c).before w t d = (dats m 0 c).after w t) :
    owns (c : Thread nD τ) ((cfg0.win w).stage (cfg0.slots t w)) fullShare ((dats m 0 c).after w t) ⊢ (dats m 0 c).leavesExact w t := by
  unfold Dat.leavesExact
  by_cases hi : cfg0.idle w (grid0.coords t) = true
  · rw [show cfg0.idle w (cfg0.grid.coords t) = true from hi]
    by_cases hf : (cfg0.win w).flush t = true
    · rw [hf]
    · rw [Bool.not_eq_true] at hf
      rw [hf]
      dsimp only
      rw [← h hi]
      iintro H
      iexists d
      iexact H
  · rw [Bool.not_eq_true] at hi
    rw [show cfg0.idle w (cfg0.grid.coords t) = false from hi]

/-- A window that is written at a point is left at what the proof data says. -/
theorem leaves_busy (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The scratch before a point: what the point before left, or anything at the first. -/
theorem Phi_in (c : Dev nD) (t : Fin cfg0.N) :
    (dats m 0 c).Φ t.castSucc ⊢ iprop(∃ d, ⌜t.val % 4 = 0 ∨ d = (outsAt m c (t.val - 1) (Nat.lt_of_le_of_lt (Nat.sub_le _ _) t.isLt)).2.2.2.2.2⌝ ∗ owns (c : Thread nD τ) scr fullShare d ∗ (∃ r, prngReg c r)) := by
  rw [PhiS_castSucc m c t]
  by_cases hz : t.val = 0
  · rw [PhiS_zero m c _ _ hz, PhiA_eq]
    iintro ⟨⟨%d, H⟩, Hg⟩
    iexists d
    isplitr; · ipureintro; exact .inl (by omega)
    isplitl [H]; · iexact H
    iexact Hg
  · rw [PhiS_pos m c _ _ hz]
    iintro ⟨H, Hg⟩
    iexists _
    isplitr; · ipureintro; exact .inr rfl
    isplitl [H]; · iexact H
    iexact Hg

set_option maxHeartbeats 4000000 in
/-- The body at any point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_busy m c 0 t rfl, after0_0, leaves_busy m c 1 t rfl, after0_1, leaves_busy m c 2 t rfl, after0_2, leaves_busy m c 3 t rfl, after0_3, leaves_busy m c 4 t rfl, after0_4,
    leaves_busy m c 5 t rfl, after0_5, leaves_busy m c 6 t rfl, after0_6, leaves_busy m c 7 t rfl, after0_7, leaves_busy m c 9 t rfl, after0_9, leaves_busy m c 10 t rfl, after0_10]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HP' := (Phi_in m c t) $$ HP
  icases HP' with ⟨%d13, %h13, HS, Hg⟩
  have hO := outsAt_eq m c t _ _ d13 (before_11 m c t d11) (before_12 m c t d12) h13
  have k11 : cfg0.idle 11 (grid0.coords t) = true → (dats m 0 c).before 11 t d11 = (dats m 0 c).after 11 t := fun hi => by
    rw [after0_11, hO]; unfold point foundDg; dsimp only
    rw [if_neg (idle_dg _ hi).2, if_neg (idle_dg _ hi).1]
  have k12 : cfg0.idle 12 (grid0.coords t) = true → (dats m 0 c).before 12 t d12 = (dats m 0 c).after 12 t := fun hi => by
    rw [after0_12, hO]; unfold point foundDf; dsimp only
    rw [if_neg (idle_df _ hi)]
  have a8 := (after0_8 m c t).trans (congrArg (fun p => p.1) hO)
  have a11 := (after0_11 m c t).trans (congrArg (fun p => p.2.2.2.1) hO)
  have a12 := (after0_12 m c t).trans (congrArg (fun p => p.2.2.2.2.1) hO)
  rw [hO]
  iapply (wp_body c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ (cond21 t) (cond31 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · by_cases h3 : k0_cond3 (grid0.coords t) = 1#1
    · rw [if_pos h3, leaves_busy m c 8 t (by show (!(k0_cond3 (grid0.coords t) == 1#1)) = false; rw [h3]; rfl), a8]
      iexact H8
    · rw [if_neg h3, Dat.leavesExact_idle (dats m 0 c) 8 t (by show (!(k0_cond3 (grid0.coords t) == 1#1)) = true; rw [beq_eq_false_iff_ne.mpr h3]; rfl) (noFlush_8 t h3)]
      iexists d8
      iexact H8
  isplitl [H9]; · iexact H9
  isplitl [H10]; · iexact H10
  isplitl [H11]
  · iapply (leaves_of m c 11 t d11 k11)
    rw [a11]
    iexact H11
  iapply (leaves_of m c 12 t d12 k12)
  rw [a12]
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨HS, Hg⟩
  isplitl [HS]
  · iexists _; iexact HS
  iexact Hg

/-! ## The run and the frame -/

set_option backward.isDefEq.respectTransparency.types false in
/-- The launch runs: the arrays end at what the proof data says, the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

/-- The run, with each result named by the proof data. -/
theorem run_blocks : θ_run defs (onTc (τ := τ) (main (F := F))) ⟨m, fun _ => 0, ρ⟩ (fun r => ∀ c : Dev nD,
      r.2.mem ((c.tc : Thread nD τ).loc main_v32_0) = (dats m 0 c).arrAt 8 cfg0.N
      ∧ r.2.mem ((c.tc : Thread nD τ).loc main_v32_1) = (dats m 0 c).arrAt 9 cfg0.N
      ∧ r.2.mem ((c.tc : Thread nD τ).loc main_v32_2) = (dats m 0 c).arrAt 10 cfg0.N
      ∧ r.2.mem ((c.tc : Thread nD τ).loc main_v32_3) = (dats m 0 c).arrAt 11 cfg0.N
      ∧ r.2.mem ((c.tc : Thread nD τ).loc main_v32_4) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 8, (h.1 c).1 9, (h.1 c).1 10, (h.1 c).1 11, (h.1 c).1 12, h.2.1 c⟩) (θ_run_and (run_main m ρ) (frame m ρ))

end Cert.FfnBwdDxIdeal.Body

end
-- ==== Proof.FfnDxValue.lean ====
/- What the kernel of the feed-forward's input gradient leaves in its results, entry by entry. -/
module

public import proofs.«01_k».proof.Proof.FfnBack
public import proofs.«01_k».proof.Proof.FfnDxFrame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnBwdDxIdeal.Value

open Cert.FfnBwdDxIdeal Cert.FfnBwdDxIdeal.Gen Cert.FfnBwdDxIdeal.Body Cert.MixOut Cert.Norm Cert.Ffn

/-- A block of one chip's columns, and of its slab of a weight, as matrices. -/
def hid {n : ℕ} (v : (⟨3, ![1, n, 704]⟩ : Shape).Idx → EReal) (r : Fin n) (f : Fin 704) : EReal := v (ix3 0 r f)

def slab (v : (⟨3, ![1, 704, 1024]⟩ : Shape).Idx → EReal) (f : Fin 704) (j : Fin 1024) : EReal := v (ix3 0 f j)

section Body

variable (C : FVec Ideal S256x1024 .bf16) (W A B : FVec Ideal S1x704x1024 .bf16) (H U : FVec Ideal S1x256x704 .bf16) (P : FVec Ideal S256x1024 .f32)
  (Y Z : FVec Ideal S256x704 .bf16) (X N R : FVec Ideal S1024x1024 .f32) (G Q : FVec Ideal S1x1024 .f32)
  (r : Fin 256) (f : Fin 704) (j : Fin 1024) (s : Fin 1024)

theorem up_at : k0_pay33 (F := Ideal) C W H (ix2 r f) = upBack (prodT (mat C) (slab W)) (hid H) r f := by
  pointwise [k0_pay33, k0_pay30, k0_pay31, k0_pay32, upBack, prodT, mat, slab, hid, gateOf]
  rw [zero_sub]

theorem gate_at : k0_pay34 (F := Ideal) C W H U (ix2 r f) = gateBack (prodT (mat C) (slab W)) (hid H) (hid U) r f := by
  pointwise [k0_pay34, k0_pay30, k0_pay31, k0_pay32, gateBack, prodT, mat, slab, hid, gateOf]
  rw [zero_sub]

theorem put35_at : k0_pay35 (F := Ideal) Y (ix3 0 r f) = Y (ix2 r f) := by
  pointwise [k0_pay35]

theorem put36_at : k0_pay36 (F := Ideal) Y (ix3 0 r f) = Y (ix2 r f) := by
  pointwise [k0_pay36]

theorem both_at : k0_pay37 (F := Ideal) Y Z P A B (ix2 r j) = P (ix2 r j) + (prod (mat Z) (slab A) r j + prod (mat Y) (slab B) r j) := by
  pointwise [k0_pay37, prod, mat, slab]

theorem cast_at : k0_pay6 (F := Ideal) R (ix2 s j) = cot (mat R) s j := by
  pointwise [k0_pay6, cot, mat]

theorem none_at : k0_pay7 (F := Ideal) (ix2 s j) = 0 := by
  pointwise [k0_pay7]

theorem zero_at : k0_pay8 (F := Ideal) (ix2 0 j) = 0 := by
  pointwise [k0_pay8]

theorem grad_at : k0_pay4 (F := Ideal) X N G R (ix2 s j) = mat R s j + normGrad (mat X) (fun l => G (ix2 0 l)) (mat N) s j := by
  pointwise [k0_pay4, k0_pay3, k0_pay2, k0_pay1, normGrad, hat, Cert.Norm.inv, ms, eps, mat]

theorem cast_of (d : Fin 1024 → Fin 1024 → EReal) (h : mat R = d) : mat (k0_pay6 (F := Ideal) R) = cot d := by
  subst h
  funext r j
  exact cast_at R j r

theorem grad_of (x d n : Fin 1024 → Fin 1024 → EReal) (g : Fin 1024 → EReal) (hx : mat X = x) (hn : mat N = n) (hg : ∀ l, G (ix2 0 l) = g l) (hd : mat R = d) :
    k0_pay4 (F := Ideal) X N G R (ix2 s j) = d s j + normGrad x g n s j := by
  subst hx hn hd
  obtain rfl : (fun l => G (ix2 0 l)) = g := funext hg
  exact grad_at X N R G j s

theorem scale_at : k0_pay5 (F := Ideal) X N Q (ix2 0 j) = Q (ix2 0 j) + scaleGrad (mat X) (mat N) j := by
  pointwise [k0_pay5, k0_pay3, k0_pay2, k0_pay1, scaleGrad, hat, Cert.Norm.inv, ms, eps, mat]

end Body

/-! ## The four row blocks -/

theorem mat_rowsF (x : S1024x1024.Idx → EReal) (o : ℕ) (h : ∀ a, (![o, 0] : Fin 2 → ℕ) a + S256x1024.size a ≤ S1024x1024.size a) (ho : o + 256 ≤ 1024) :
    mat (VecWindow.window x ![o, 0] S256x1024.size h : S256x1024.Idx → EReal) = fun r j => mat x ⟨o + r.val, by omega⟩ j := by
  funext r j
  refine congrArg x (funext fun a => Fin.ext ?_)
  match a with
  | ⟨0, _⟩ => exact ValueKit.rect_emb_unit_val _ _ _ _ _
  | ⟨1, _⟩ => exact (ValueKit.rect_emb_unit_val _ _ _ _ _).trans (Nat.zero_add _)

theorem hid_rowsH (x : S1x1024x704.Idx → EReal) (o : ℕ) (h : ∀ a, (![0, o, 0] : Fin 3 → ℕ) a + S1x256x704.size a ≤ S1x1024x704.size a) (ho : o + 256 ≤ 1024) :
    hid (VecWindow.window x ![0, o, 0] S1x256x704.size h : S1x256x704.Idx → EReal) = fun r f => hid x ⟨o + r.val, by omega⟩ f := by
  funext r f
  refine congrArg x (funext fun a => Fin.ext ?_)
  match a with
  | ⟨0, _⟩ => exact (ValueKit.rect_emb_unit_val _ _ _ _ _).trans (Nat.zero_add _)
  | ⟨1, _⟩ => exact ValueKit.rect_emb_unit_val _ _ _ _ _
  | ⟨2, _⟩ => exact (ValueKit.rect_emb_unit_val _ _ _ _ _).trans (Nat.zero_add _)

/-- Four row blocks that all read off one matrix make that matrix. -/
theorem putF_of (x : S1024x1024.Idx → EReal) (w0 w1 w2 w3 : S256x1024.Idx → EReal) (v : Fin 1024 → Fin 1024 → EReal)
    (h0 : ∀ r j, w0 (ix2 r j) = v ⟨0 + r.val, by omega⟩ j) (h1 : ∀ r j, w1 (ix2 r j) = v ⟨256 + r.val, by omega⟩ j)
    (h2 : ∀ r j, w2 (ix2 r j) = v ⟨512 + r.val, by omega⟩ j) (h3 : ∀ r j, w3 (ix2 r j) = v ⟨768 + r.val, by omega⟩ j) (p j : Fin 1024) :
    putF (F := Ideal) (e := .f32) x w0 w1 w2 w3 (ix2 p j) = v p j := by
  unfold putF VecWindow.put
  have key : ∀ o : ℕ, o ≤ p.val → p.val < o + 256 → ∀ a, (![o, 0] : Fin 2 → ℕ) a ≤ ((ix2 p j : S1024x1024.Idx) a).val ∧ ((ix2 p j : S1024x1024.Idx) a).val < (![o, 0] : Fin 2 → ℕ) a + S256x1024.size a := by
    intro o h1 h2 a; match a with
    | ⟨0, _⟩ => exact ⟨h1, h2⟩
    | ⟨1, _⟩ => exact ⟨Nat.zero_le _, show j.val < 0 + 1024 by omega⟩
  have val : ∀ (w : S256x1024.Idx → EReal) (o : ℕ) (ho : o + 256 ≤ 1024) (hw : ∀ r j, w (ix2 r j) = v ⟨o + r.val, by omega⟩ j) (h1 : o ≤ p.val) (h2 : p.val < o + 256)
      (i : S256x1024.Idx) (e0 : (i 0).val = p.val - o) (e1 : (i 1).val = j.val), w i = v p j := by
    intro w o ho hw h1 h2 i e0 e1
    idx_vars i
    refine (hw i0 i1).trans ?_
    rw [show (⟨o + i0.val, by omega⟩ : Fin 1024) = p from Fin.ext (by have : i0.val = p.val - o := e0; dsimp only; omega), show i1 = j from Fin.ext e1]
  by_cases c3 : 768 ≤ p.val
  · rw [dif_pos (key 768 c3 (by omega))]
    exact val w3 768 (by omega) h3 c3 (by omega) _ rfl rfl
  by_cases c2 : 512 ≤ p.val
  · rw [dif_neg (fun h => c3 (h 0).1), dif_pos (key 512 c2 (by omega))]
    exact val w2 512 (by omega) h2 c2 (by omega) _ rfl rfl
  by_cases c1 : 256 ≤ p.val
  · rw [dif_neg (fun h => c3 (h 0).1), dif_neg (fun h => c2 (h 0).1), dif_pos (key 256 c1 (by omega))]
    exact val w1 256 (by omega) h1 c1 (by omega) _ rfl rfl
  · rw [dif_neg (fun h => c3 (h 0).1), dif_neg (fun h => c2 (h 0).1), dif_neg (fun h => c1 (h 0).1), dif_pos (key 0 (by omega) (by omega))]
    exact val w0 0 (by omega) h0 (by omega) (by omega) _ rfl rfl

/-- The same over a chip's columns. -/
theorem putH_of (x : S1x1024x704.Idx → EReal) (w0 w1 w2 w3 : S1x256x704.Idx → EReal) (v : Fin 1024 → Fin 704 → EReal)
    (h0 : ∀ r f, w0 (ix3 0 r f) = v ⟨0 + r.val, by omega⟩ f) (h1 : ∀ r f, w1 (ix3 0 r f) = v ⟨256 + r.val, by omega⟩ f)
    (h2 : ∀ r f, w2 (ix3 0 r f) = v ⟨512 + r.val, by omega⟩ f) (h3 : ∀ r f, w3 (ix3 0 r f) = v ⟨768 + r.val, by omega⟩ f) (p : Fin 1024) (f : Fin 704) :
    putH (F := Ideal) (e := .bf16) x w0 w1 w2 w3 (ix3 0 p f) = v p f := by
  unfold putH VecWindow.put
  have key : ∀ o : ℕ, o ≤ p.val → p.val < o + 256 → ∀ a, (![0, o, 0] : Fin 3 → ℕ) a ≤ ((ix3 0 p f : S1x1024x704.Idx) a).val ∧ ((ix3 0 p f : S1x1024x704.Idx) a).val < (![0, o, 0] : Fin 3 → ℕ) a + S1x256x704.size a := by
    intro o h1 h2 a; match a with
    | ⟨0, _⟩ => exact ⟨Nat.zero_le _, Nat.zero_lt_one⟩
    | ⟨1, _⟩ => exact ⟨h1, h2⟩
    | ⟨2, _⟩ => exact ⟨Nat.zero_le _, show f.val < 0 + 704 by omega⟩
  have val : ∀ (w : S1x256x704.Idx → EReal) (o : ℕ) (ho : o + 256 ≤ 1024) (hw : ∀ r f, w (ix3 0 r f) = v ⟨o + r.val, by omega⟩ f) (h1 : o ≤ p.val) (h2 : p.val < o + 256)
      (i : S1x256x704.Idx) (e0 : (i 1).val = p.val - o) (e1 : (i 2).val = f.val), w i = v p f := by
    intro w o ho hw h1 h2 i e0 e1
    idx_vars i
    obtain rfl : i0 = 0 := Subsingleton.elim _ _
    refine (hw i1 i2).trans ?_
    rw [show (⟨o + i1.val, by omega⟩ : Fin 1024) = p from Fin.ext (by have : i1.val = p.val - o := e0; dsimp only; omega), show i2 = f from Fin.ext e1]
  by_cases c3 : 768 ≤ p.val
  · rw [dif_pos (key 768 c3 (by omega))]
    exact val w3 768 (by omega) h3 c3 (by omega) _ rfl rfl
  by_cases c2 : 512 ≤ p.val
  · rw [dif_neg (fun h => c3 (h 1).1), dif_pos (key 512 c2 (by omega))]
    exact val w2 512 (by omega) h2 c2 (by omega) _ rfl rfl
  by_cases c1 : 256 ≤ p.val
  · rw [dif_neg (fun h => c3 (h 1).1), dif_neg (fun h => c2 (h 1).1), dif_pos (key 256 c1 (by omega))]
    exact val w1 256 (by omega) h1 c1 (by omega) _ rfl rfl
  · rw [dif_neg (fun h => c3 (h 1).1), dif_neg (fun h => c2 (h 1).1), dif_neg (fun h => c1 (h 1).1), dif_pos (key 0 (by omega) (by omega))]
    exact val w0 0 (by omega) h0 (by omega) (by omega) _ rfl rfl

section Blocks

variable (H U : FVec Ideal S1x1024x704 .bf16) (A B W : FVec Ideal S1x704x1024 .bf16) (C : FVec Ideal S1024x1024 .bf16) (P : FVec Ideal S1024x1024 .f32)
  (p : Fin 1024) (f : Fin 704) (j : Fin 1024)

/-- One row block's cotangents are the rows of the whole tile's. -/
theorem gate_block (o : ℕ) (ho : o + 256 ≤ 1024) (hF : ∀ a, (![o, 0] : Fin 2 → ℕ) a + S256x1024.size a ≤ S1024x1024.size a) (hH : ∀ a, (![0, o, 0] : Fin 3 → ℕ) a + S1x256x704.size a ≤ S1x1024x704.size a) (r : Fin 256) :
    k0_pay34 (F := Ideal) (rowsF (F := Ideal) (e := .bf16) C o hF) W (rowsH (F := Ideal) (e := .bf16) H o hH) (rowsH (F := Ideal) (e := .bf16) U o hH) (ix2 r f)
      = gateBack (prodT (mat C) (slab W)) (hid H) (hid U) ⟨o + r.val, by omega⟩ f := by
  refine (gate_at _ _ _ _ r f).trans ?_
  unfold rowsF rowsH
  rw [mat_rowsF C o hF ho, hid_rowsH H o hH ho, hid_rowsH U o hH ho]
  rfl

theorem up_block (o : ℕ) (ho : o + 256 ≤ 1024) (hF : ∀ a, (![o, 0] : Fin 2 → ℕ) a + S256x1024.size a ≤ S1024x1024.size a) (hH : ∀ a, (![0, o, 0] : Fin 3 → ℕ) a + S1x256x704.size a ≤ S1x1024x704.size a) (r : Fin 256) :
    k0_pay33 (F := Ideal) (rowsF (F := Ideal) (e := .bf16) C o hF) W (rowsH (F := Ideal) (e := .bf16) H o hH) (ix2 r f)
      = upBack (prodT (mat C) (slab W)) (hid H) ⟨o + r.val, by omega⟩ f := by
  refine (up_at _ _ _ r f).trans ?_
  unfold rowsF rowsH
  rw [mat_rowsF C o hF ho, hid_rowsH H o hH ho]
  rfl

theorem dn_block (o : ℕ) (ho : o + 256 ≤ 1024) (hF : ∀ a, (![o, 0] : Fin 2 → ℕ) a + S256x1024.size a ≤ S1024x1024.size a) (hH : ∀ a, (![0, o, 0] : Fin 3 → ℕ) a + S1x256x704.size a ≤ S1x1024x704.size a) (r : Fin 256) :
    k0_pay37 (F := Ideal) (k0_pay33 (rowsF (F := Ideal) (e := .bf16) C o hF) W (rowsH (F := Ideal) (e := .bf16) H o hH))
        (k0_pay34 (rowsF (F := Ideal) (e := .bf16) C o hF) W (rowsH (F := Ideal) (e := .bf16) H o hH) (rowsH (F := Ideal) (e := .bf16) U o hH))
        (rowsF (F := Ideal) (e := .f32) P o hF) A B (ix2 r j)
      = mat P ⟨o + r.val, by omega⟩ j + (prod (gateBack (prodT (mat C) (slab W)) (hid H) (hid U)) (slab A) ⟨o + r.val, by omega⟩ j
        + prod (upBack (prodT (mat C) (slab W)) (hid H)) (slab B) ⟨o + r.val, by omega⟩ j) := by
  refine (both_at _ _ _ _ _ r j).trans ?_
  refine congrArg₂ (HAdd.hAdd (α := EReal) (β := EReal)) (congrFun (congrFun (mat_rowsF P o hF ho) r) j) ?_
  refine congrArg₂ (HAdd.hAdd (α := EReal) (β := EReal)) (Finset.sum_congr rfl fun f _ => congrArg (HMul.hMul (α := EReal) (β := EReal) · _) ?_)
    (Finset.sum_congr rfl fun f _ => congrArg (HMul.hMul (α := EReal) (β := EReal) · _) ?_)
  · exact gate_block H U W C f o ho hF hH r
  · exact up_block H W C f o ho hF hH r

theorem dhg_at : dhgOf (F := Ideal) H U W C (ix3 0 p f) = gateBack (prodT (mat C) (slab W)) (hid H) (hid U) p f := by
  unfold dhgOf
  exact putH_of _ _ _ _ _ _ (fun r f => (put35_at _ r f).trans (gate_block H U W C f 0 (by omega) _ _ r))
    (fun r f => (put35_at _ r f).trans (gate_block H U W C f 256 (by omega) _ _ r))
    (fun r f => (put35_at _ r f).trans (gate_block H U W C f 512 (by omega) _ _ r))
    (fun r f => (put35_at _ r f).trans (gate_block H U W C f 768 (by omega) _ _ r)) p f

theorem dhu_at : dhuOf (F := Ideal) H W C (ix3 0 p f) = upBack (prodT (mat C) (slab W)) (hid H) p f := by
  unfold dhuOf
  exact putH_of _ _ _ _ _ _ (fun r f => (put36_at _ r f).trans (up_block H W C f 0 (by omega) _ _ r))
    (fun r f => (put36_at _ r f).trans (up_block H W C f 256 (by omega) _ _ r))
    (fun r f => (put36_at _ r f).trans (up_block H W C f 512 (by omega) _ _ r))
    (fun r f => (put36_at _ r f).trans (up_block H W C f 768 (by omega) _ _ r)) p f

theorem dn_at : dnOf (F := Ideal) H U A B W C P (ix2 p j) = mat P p j + (prod (gateBack (prodT (mat C) (slab W)) (hid H) (hid U)) (slab A) p j
    + prod (upBack (prodT (mat C) (slab W)) (hid H)) (slab B) p j) := by
  unfold dnOf
  exact putF_of _ _ _ _ _ (fun p j => mat P p j + (prod (gateBack (prodT (mat C) (slab W)) (hid H) (hid U)) (slab A) p j
    + prod (upBack (prodT (mat C) (slab W)) (hid H)) (slab B) p j)) (fun r j => dn_block H U A B W C P j 0 (by omega) _ _ r)
    (fun r j => dn_block H U A B W C P j 256 (by omega) _ _ r) (fun r j => dn_block H U A B W C P j 512 (by omega) _ _ r)
    (fun r j => dn_block H U A B W C P j 768 (by omega) _ _ r) p j

end Blocks

variable (m : (ℓ : Loc nD τ sig) → Buf (Elt Ideal) ℓ)

/-- Every window's block index at every grid point. -/
theorem idx : ∀ t : Fin cfg0.N, win0_0.index t = ![t.val / 4, 0] ∧ win0_1.index t = ![t.val / 4, 0] ∧ win0_2.index t = ![0, 0]
    ∧ win0_3.index t = ![t.val % 4, t.val / 4, 0] ∧ win0_4.index t = ![t.val % 4, t.val / 4, 0] ∧ win0_5.index t = ![t.val % 4, 0, 0]
    ∧ win0_6.index t = ![t.val % 4, 0, 0] ∧ win0_7.index t = ![t.val % 4, 0, 0] ∧ win0_8.index t = ![t.val / 4, 0] ∧ win0_9.index t = ![t.val % 4, t.val / 4, 0]
    ∧ win0_10.index t = ![t.val % 4, t.val / 4, 0] ∧ win0_11.index t = ![0, 0] ∧ win0_12.index t = ![t.val / 4, 0] :=
  (by decide +kernel : ∀ t : Fin grid0.N, _)

/-- The grid has sixteen points. -/
theorem lt16 (t : Fin cfg0.N) : t.val < 16 := lt_of_lt_of_eq t.isLt N_0

/-- The arguments as one reads them. -/
abbrev argX (c : Dev nD) : FVec Ideal S2x2048x1024 .f32 := m ((c : Thread nD τ).loc main_arg0)
abbrev argG (c : Dev nD) : FVec Ideal S1024 .f32 := m ((c : Thread nD τ).loc main_arg1)
abbrev argA (c : Dev nD) : FVec Ideal S1024x2816 .f32 := m ((c : Thread nD τ).loc main_arg2)
abbrev argB (c : Dev nD) : FVec Ideal S1024x2816 .f32 := m ((c : Thread nD τ).loc main_arg3)
abbrev argW (c : Dev nD) : FVec Ideal S2816x1024 .f32 := m ((c : Thread nD τ).loc main_arg4)
abbrev argD (c : Dev nD) : FVec Ideal S2x2048x1024 .f32 := m ((c : Thread nD τ).loc main_arg5)

/-! ## The host's preparation -/

/-- The normed rows as the host computes them. -/
def normV (X : FVec Ideal S2x2048x1024 .f32) (G : FVec Ideal S1024 .f32) : FVec Ideal S2x2048x1024 .f32 :=
  mulf (mulf X (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf X X) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))
    (broadcastInDim S2x2048x1024 ![0, 1, 2] bcast_S1x1x1024_S2x2048x1024_0_1_2 (broadcastInDim S1x1x1024 ![2] bcast_S1024_S1x1x1024_2 G))

theorem normV_rows (X : FVec Ideal S2x2048x1024 .f32) (G : FVec Ideal S1024 .f32) : rows (normV X G) = normed (rows X) fun l => G (ix1 l) := by
  funext p j
  pointwise [normV, rows, normed, hat, Cert.Norm.inv, ms, eps]

/-- A hidden branch. -/
def hidV (N : FVec Ideal S2x2048x1024 .f32) (A : FVec Ideal S1024x2816 .f32) : FVec Ideal S2x2048x2816 .f32 :=
  Host.dotGeneral dot_S2x2048x1024_S1024x2816_S2x2048x2816_2_0_01_1_n_n none N A

theorem hidV_rows (N : FVec Ideal S2x2048x1024 .f32) (A : FVec Ideal S1024x2816 .f32) : rows (hidV N A) = prod (rows N) (mat A) := by
  funext i j
  pointwise [hidV, rows, prod, mat]

/-- The tokens' rows, a hidden array's slabs and the weights' slabs, as the host lays them out. -/
def castX (v : FVec Ideal S2x2048x1024 .f32) : FVec Ideal S4096x1024 .f32 := shapeCast S4096x1024 v shapeCasts_S2x2048x1024_S4096x1024

def castH (v : FVec Ideal S2x2048x2816 .f32) : FVec Ideal S4x4096x704 .bf16 :=
  truncf .bf16 (transpose S4x4096x704 [1, 0, 2] (shapeCast S4096x4x704 v shapeCasts_S2x2048x2816_S4096x4x704) transposes_S4096x4x704_S4x4096x704_1_0_2) bitsLt_bf16_f32

def castA (v : FVec Ideal S1024x2816 .f32) : FVec Ideal S4x704x1024 .bf16 :=
  truncf .bf16 (shapeCast S4x704x1024 (transpose S2816x1024 [1, 0] v transposes_S1024x2816_S2816x1024_1_0) shapeCasts_S2816x1024_S4x704x1024) bitsLt_bf16_f32

def castW (v : FVec Ideal S2816x1024 .f32) : FVec Ideal S4x704x1024 .bf16 := truncf .bf16 (shapeCast S4x704x1024 v shapeCasts_S2816x1024_S4x704x1024) bitsLt_bf16_f32

theorem castX_at (v : FVec Ideal S2x2048x1024 .f32) (p : Fin 4096) (j : Fin 1024) : castX v (ix2 p j) = rows v p j := by
  pointwise [castX, rows]

theorem castH_at (v : FVec Ideal S2x2048x2816 .f32) (k : Fin 4) (p : Fin 4096) (f : Fin 704) : castH v (ix3 k p f) = rows v p (slot k f) := by
  pointwise [castH, rows, slot]

theorem castA_at (v : FVec Ideal S1024x2816 .f32) (k : Fin 4) (f : Fin 704) (j : Fin 1024) : castA v (ix3 k f j) = mat v j (slot k f) := by
  pointwise [castA, mat, slot]

theorem castW_at (v : FVec Ideal S2816x1024 .f32) (k : Fin 4) (f : Fin 704) (j : Fin 1024) : castW v (ix3 k f j) = mat v (slot k f) j := by
  pointwise [castW, mat, slot]

theorem host (c : Dev nD) : V m c main_v21 = castX (argD m c) ∧ V m c main_v22 = castX (argX m c)
    ∧ V m c main_v23 = (shapeCast S1x1024 (argG m c) shapeCasts_S1024_S1x1024 : FVec Ideal S1x1024 .f32)
    ∧ V m c main_v16 = castH (hidV (normV (argX m c) (argG m c)) (argA m c)) ∧ V m c main_v20 = castH (hidV (normV (argX m c) (argG m c)) (argB m c))
    ∧ V m c main_v26 = castA (argA m c) ∧ V m c main_v29 = castA (argB m c) ∧ V m c main_v31 = castW (argW m c) := by
  refine ⟨?_, ?_, ?_, ?_, ?_, ?_, ?_, ?_⟩ <;> simp only [V, List.flatten_cons, List.flatten_nil, List.append_nil, List.cons_append, List.nil_append,
    hostOps0, StableHlo.TRef.binary, StableHlo.TRef.unary, StableHlo.TRef.nullary, StableHlo.TRef.toBuf, StableHlo.TRef.ofBuf, cast_eq] <;>
    after_results_simp <;> rfl

/-! ## The layer's values by the arguments -/

/-- A hidden branch's rows, the activation's cotangent, and the cotangents of both branches and of the normed rows. -/
def branch (X : FVec Ideal S2x2048x1024 .f32) (G : FVec Ideal S1024 .f32) (A : FVec Ideal S1024x2816 .f32) : Fin 4096 → Fin 2816 → EReal :=
  prod (normed (rows X) fun l => G (ix1 l)) (mat A)

def actCot (W : FVec Ideal S2816x1024 .f32) (D : FVec Ideal S2x2048x1024 .f32) : Fin 4096 → Fin 2816 → EReal := prodT (cot (rows D)) (mat W)

section Points

variable (c : Dev nD) (t : Fin cfg0.N)

abbrev hgAll : Fin 4096 → Fin 2816 → EReal := branch (argX m c) (argG m c) (argA m c)
abbrev huAll : Fin 4096 → Fin 2816 → EReal := branch (argX m c) (argG m c) (argB m c)
abbrev dgAll : Fin 4096 → Fin 2816 → EReal := gateBack (actCot (argW m c) (argD m c)) (hgAll m c) (huAll m c)
abbrev duAll : Fin 4096 → Fin 2816 → EReal := upBack (actCot (argW m c) (argD m c)) (hgAll m c)
abbrev dnAll : Fin 4096 → Fin 1024 → EReal := inBack (dgAll m c) (duAll m c) (mat (argA m c)) (mat (argB m c))

/-- A row of a tile as a row of the whole, and a point's chip. -/
def row (r : Fin 1024) : Fin 4096 := ⟨1024 * (t.val / 4) + r.val, by have := lt16 t; omega⟩

def chip : Fin 4 := ⟨t.val % 4, by omega⟩

theorem blk0 : mat (show FVec Ideal S1024x1024 .f32 from iblk m c 0 t) = fun r => rows (argD m c) (row t r) := by
  funext r j
  refine (congrArg (V m c main_v21) (?_ : _ = ix2 (row t r) j)).trans ((congrFun (host m c).1 _).trans (castX_at _ _ _))
  blk_ext [idx t]
  exact congrArg (· + r.val) (Nat.mul_comm _ _)

theorem blk1 : mat (show FVec Ideal S1024x1024 .f32 from iblk m c 1 t) = fun r => rows (argX m c) (row t r) := by
  funext r j
  refine (congrArg (V m c main_v22) (?_ : _ = ix2 (row t r) j)).trans ((congrFun (host m c).2.1 _).trans (castX_at _ _ _))
  blk_ext [idx t]
  exact congrArg (· + r.val) (Nat.mul_comm _ _)

theorem blk2 (l : Fin 1024) : (show FVec Ideal S1x1024 .f32 from iblk m c 2 t) (ix2 0 l) = argG m c (ix1 l) := by
  refine (congrArg (V m c main_v23) (?_ : _ = ix2 0 l)).trans ((congrFun (host m c).2.2.1 _).trans ?_)
  · blk_ext [idx t]
  · pointwise

theorem blk3 : hid (show FVec Ideal S1x1024x704 .bf16 from iblk m c 3 t) = fun r => part (hgAll m c) (chip t) (row t r) := by
  unfold hgAll branch
  rw [← normV_rows, ← hidV_rows]
  funext r f
  refine (congrArg (V m c main_v16) (?_ : _ = ix3 (chip t) (row t r) f)).trans ((congrFun (host m c).2.2.2.1 _).trans (castH_at _ _ _ _))
  blk_ext [idx t]
  · rfl
  · exact congrArg (· + r.val) (Nat.mul_comm _ _)

theorem blk4 : hid (show FVec Ideal S1x1024x704 .bf16 from iblk m c 4 t) = fun r => part (huAll m c) (chip t) (row t r) := by
  unfold huAll branch
  rw [← normV_rows, ← hidV_rows]
  funext r f
  refine (congrArg (V m c main_v20) (?_ : _ = ix3 (chip t) (row t r) f)).trans ((congrFun (host m c).2.2.2.2.1 _).trans (castH_at _ _ _ _))
  blk_ext [idx t]
  · rfl
  · exact congrArg (· + r.val) (Nat.mul_comm _ _)

theorem blk5 : slab (show FVec Ideal S1x704x1024 .bf16 from iblk m c 5 t) = fun f j => mat (argA m c) j (slot (chip t) f) := by
  funext f j
  refine (congrArg (V m c main_v26) (?_ : _ = ix3 (chip t) f j)).trans ((congrFun (host m c).2.2.2.2.2.1 _).trans (castA_at _ _ _ _))
  blk_ext [idx t]
  rfl

theorem blk6 : slab (show FVec Ideal S1x704x1024 .bf16 from iblk m c 6 t) = fun f j => mat (argB m c) j (slot (chip t) f) := by
  funext f j
  refine (congrArg (V m c main_v29) (?_ : _ = ix3 (chip t) f j)).trans ((congrFun (host m c).2.2.2.2.2.2.1 _).trans (castA_at _ _ _ _))
  blk_ext [idx t]
  rfl

theorem blk7 : slab (show FVec Ideal S1x704x1024 .bf16 from iblk m c 7 t) = fun f j => mat (argW m c) (slot (chip t) f) j := by
  funext f j
  refine (congrArg (V m c main_v31) (?_ : _ = ix3 (chip t) f j)).trans ((congrFun (host m c).2.2.2.2.2.2.2 _).trans (castW_at _ _ _ _))
  blk_ext [idx t]
  rfl

/-! ## What a point leaves, by what it finds -/

/-- The point before. -/
abbrev prev : Outs Ideal := outsAt m c (t.val - 1) (Nat.lt_of_le_of_lt (Nat.sub_le _ _) t.isLt)

theorem outs_point : outsAt m c t.val t.isLt = point m c t (prev m c t).2.2.2.1 (prev m c t).2.2.2.2.1 (prev m c t).2.2.2.2.2 :=
  outsAt_eq m c t _ _ _ (.inr rfl) (.inr rfl) (.inr rfl)

theorem later : ∀ t : Fin cfg0.N, ¬t.val % 4 = 0 → ¬k0_cond1 (grid0.coords t) = 1#1 :=
  (by decide +kernel : ∀ t : Fin grid0.N, ¬t.val % 4 = 0 → ¬k0_cond1 (grid0.coords t) = 1#1)

theorem notFirst : ∀ t : Fin cfg0.N, ¬t.val % 16 = 0 → ¬k0_cond2 (grid0.coords t) = 1#1 :=
  (by decide +kernel : ∀ t : Fin grid0.N, ¬t.val % 16 = 0 → ¬k0_cond2 (grid0.coords t) = 1#1)

theorem ends : ∀ t : Fin cfg0.N, k0_cond3 (grid0.coords t) = 1#1 ↔ t.val % 4 = 3 :=
  (by decide +kernel : ∀ t : Fin grid0.N, k0_cond3 (grid0.coords t) = 1#1 ↔ t.val % 4 = 3)

theorem df_first (h : t.val % 4 = 0) : (outsAt m c t.val t.isLt).2.2.2.2.1 = k0_pay6 (iblk m c 0 t) := by
  rw [outs_point]; unfold point foundDf; exact if_pos (starts t h)

theorem df_step (h : ¬t.val % 4 = 0) : (outsAt m c t.val t.isLt).2.2.2.2.1 = (prev m c t).2.2.2.2.1 := by
  rw [outs_point]; unfold point foundDf; exact if_neg (later t h)

theorem dn_point : (outsAt m c t.val t.isLt).2.2.2.2.2 = dnOf (iblk m c 3 t) (iblk m c 4 t) (iblk m c 5 t) (iblk m c 6 t) (iblk m c 7 t)
    (outsAt m c t.val t.isLt).2.2.2.2.1 (foundDn (grid0.coords t) (prev m c t).2.2.2.2.2) := by
  rw [outs_point]; rfl

theorem dx_point : (outsAt m c t.val t.isLt).1 = k0_pay4 (iblk m c 1 t) (outsAt m c t.val t.isLt).2.2.2.2.2 (iblk m c 2 t) (iblk m c 0 t) := by
  rw [outs_point]; rfl

theorem dhg_point : (outsAt m c t.val t.isLt).2.1 = dhgOf (iblk m c 3 t) (iblk m c 4 t) (iblk m c 7 t) (outsAt m c t.val t.isLt).2.2.2.2.1 := by
  rw [outs_point]; rfl

theorem dhu_point : (outsAt m c t.val t.isLt).2.2.1 = dhuOf (iblk m c 3 t) (iblk m c 7 t) (outsAt m c t.val t.isLt).2.2.2.2.1 := by
  rw [outs_point]; rfl

theorem dg_point : (outsAt m c t.val t.isLt).2.2.2.1 = if k0_cond3 (grid0.coords t) = 1#1 then
    k0_pay5 (iblk m c 1 t) (outsAt m c t.val t.isLt).2.2.2.2.2 (foundDg (grid0.coords t) (prev m c t).2.2.2.1) else foundDg (grid0.coords t) (prev m c t).2.2.2.1 := by
  rw [outs_point]; rfl

/-- The cast cotangent at a row tile's first point. -/
theorem df_tile (h : t.val % 4 = 0) : mat (show FVec Ideal S1024x1024 .bf16 from (outsAt m c t.val t.isLt).2.2.2.2.1) = fun r => cot (rows (argD m c)) (row t r) := by
  rw [df_first m c t h]
  exact cast_of _ _ (blk0 m c t)

/-- The cast cotangent is the row tile's at every point. -/
theorem df_eq (n : ℕ) : ∀ t : Fin cfg0.N, t.val = n → mat (show FVec Ideal S1024x1024 .bf16 from (outsAt m c t.val t.isLt).2.2.2.2.1) = fun r => cot (rows (argD m c)) (row t r) := by
  induction n with
  | zero =>
    intro t ht
    exact df_tile m c t (by rw [ht])
  | succ n ih =>
    intro t ht
    by_cases h : t.val % 4 = 0
    · exact df_tile m c t h
    · have e := ih ⟨t.val - 1, Nat.lt_of_le_of_lt (Nat.sub_le _ _) t.isLt⟩ (by dsimp only; omega)
      have er : ∀ r, row ⟨t.val - 1, Nat.lt_of_le_of_lt (Nat.sub_le _ _) t.isLt⟩ r = row t r := fun r => Fin.ext (by dsimp only [row]; omega)
      simp only [er] at e
      rw [df_step m c t h]
      exact e

/-- The activation's cotangent at a point's columns. -/
theorem act_point : prodT (mat (show FVec Ideal S1024x1024 .bf16 from (outsAt m c t.val t.isLt).2.2.2.2.1)) (slab (show FVec Ideal S1x704x1024 .bf16 from iblk m c 7 t))
    = fun r => part (actCot (argW m c) (argD m c)) (chip t) (row t r) := by
  rw [df_eq m c _ t rfl, blk7]
  rfl

theorem dhg_eq (p : Fin 1024) (f : Fin 704) : (show FVec Ideal S1x1024x704 .bf16 from (outsAt m c t.val t.isLt).2.1) (ix3 0 p f) = dgAll m c (row t p) (slot (chip t) f) := by
  rw [dhg_point]
  refine (dhg_at _ _ _ _ p f).trans ?_
  rw [act_point, blk3, blk4]
  rfl

theorem dhu_eq (p : Fin 1024) (f : Fin 704) : (show FVec Ideal S1x1024x704 .bf16 from (outsAt m c t.val t.isLt).2.2.1) (ix3 0 p f) = duAll m c (row t p) (slot (chip t) f) := by
  rw [dhu_point]
  refine (dhu_at _ _ _ p f).trans ?_
  rw [act_point, blk3]
  rfl

/-- What a chip adds to the normed rows' cotangent. -/
def chipAdd (i : S1024x1024.Idx) : EReal := (∑ f : Fin 704, dgAll m c (row t (i 0)) (slot (chip t) f) * mat (argA m c) (i 1) (slot (chip t) f))
  + ∑ f : Fin 704, duAll m c (row t (i 0)) (slot (chip t) f) * mat (argB m c) (i 1) (slot (chip t) f)

theorem dn_found (i : S1024x1024.Idx) : (show FVec Ideal S1024x1024 .f32 from (outsAt m c t.val t.isLt).2.2.2.2.2) i
    = (show FVec Ideal S1024x1024 .f32 from foundDn (grid0.coords t) (prev m c t).2.2.2.2.2) i + chipAdd m c t i := by
  rw [dn_point]
  idx_vars i
  refine (dn_at _ _ _ _ _ _ _ i0 i1).trans ?_
  rw [act_point, blk3, blk4, blk5, blk6]
  rfl

theorem dn_first (h : t.val % 4 = 0) (i : S1024x1024.Idx) : (show FVec Ideal S1024x1024 .f32 from (outsAt m c t.val t.isLt).2.2.2.2.2) i = 0 + chipAdd m c t i := by
  rw [dn_found]
  unfold foundDn
  rw [if_pos (starts t h)]
  idx_vars i
  exact congrArg (HAdd.hAdd (α := EReal) (β := EReal) · _) (none_at i0 i1)

theorem dn_step (h : ¬t.val % 4 = 0) (i : S1024x1024.Idx) : (show FVec Ideal S1024x1024 .f32 from (outsAt m c t.val t.isLt).2.2.2.2.2) i
    = (show FVec Ideal S1024x1024 .f32 from (prev m c t).2.2.2.2.2) i + chipAdd m c t i := by
  rw [dn_found]
  unfold foundDn
  rw [if_neg (later t h)]

/-- The four chips' additions at one row tile. -/
theorem adds (e : Fin 4 → Fin cfg0.N) (he : ∀ s, (e s).val = 4 * (t.val / 4) + s.val) (i : S1024x1024.Idx) :
    (∑ s : Fin 4, chipAdd m c (e s) i) = dnAll m c (row t (i 0)) (i 1) := by
  have hr : ∀ s, row (e s) (i 0) = row t (i 0) := fun s => Fin.ext (by have := he s; have := s.isLt; dsimp only [row]; omega)
  have hc : ∀ s, chip (e s) = s := fun s => Fin.ext (by have := he s; have := s.isLt; dsimp only [chip]; omega)
  unfold chipAdd
  simp only [hr, hc]
  rw [Finset.sum_add_distrib]
  exact congrArg₂ (HAdd.hAdd (α := EReal) (β := EReal)) (chips fun f => dgAll m c (row t (i 0)) f * mat (argA m c) (i 1) f)
    (chips fun f => duAll m c (row t (i 0)) f * mat (argB m c) (i 1) f)

/-- At a row tile's last point the sum is complete. -/
theorem dn_last (h : t.val % 4 = 3) : mat (show FVec Ideal S1024x1024 .f32 from (outsAt m c t.val t.isLt).2.2.2.2.2) = fun r => dnAll m c (row t r) := by
  funext r j
  refine (Pipeline.eq_sum_fin_of_reset_step_apply_of_flush (fun n h => (show FVec Ideal S1024x1024 .f32 from (outsAt m c n h).2.2.2.2.2)) 4 (fun _ => 0)
    (chipAdd m c) (fun u hu j => dn_first m c u hu j) (fun u hu j => dn_step m c u hu j) t h (ix2 r j)).trans ?_
  refine (zero_add _).trans ?_
  exact adds m c t _ (fun s => rfl) (ix2 r j)

theorem dx_eq (h : t.val % 4 = 3) (r j : Fin 1024) : (show FVec Ideal S1024x1024 .f32 from (outsAt m c t.val t.isLt).1) (ix2 r j)
    = rows (argD m c) (row t r) j + normGrad (rows (argX m c)) (fun l => argG m c (ix1 l)) (dnAll m c) (row t r) j := by
  rw [dx_point]
  exact grad_of _ _ _ _ j r _ _ _ _ (blk1 m c t) (dn_last m c t h) (blk2 m c t) (blk0 m c t)

/-- What a point adds to the norm's gradient. -/
def scaleAdd (i : S1x1024.Idx) : EReal :=
  if t.val % 4 = 3 then scaleGrad (fun r => rows (argX m c) (row t r)) (fun r => dnAll m c (row t r)) (i 1) else 0

theorem dg_found (i : S1x1024.Idx) : (show FVec Ideal S1x1024 .f32 from (outsAt m c t.val t.isLt).2.2.2.1) i
    = (show FVec Ideal S1x1024 .f32 from foundDg (grid0.coords t) (prev m c t).2.2.2.1) i + scaleAdd m c t i := by
  rw [dg_point]
  unfold scaleAdd
  by_cases h : t.val % 4 = 3
  · rw [if_pos h, if_pos ((ends t).mpr h)]
    idx_vars i
    obtain rfl : i0 = 0 := Subsingleton.elim _ _
    refine (scale_at _ _ _ i1).trans ?_
    rw [blk1, dn_last m c t h]
  · rw [if_neg h, if_neg (fun h' => h ((ends t).mp h')), add_zero]

theorem dg_first (h : t.val % 16 = 0) (i : S1x1024.Idx) : (show FVec Ideal S1x1024 .f32 from (outsAt m c t.val t.isLt).2.2.2.1) i = 0 + scaleAdd m c t i := by
  rw [dg_found]
  unfold foundDg
  rw [if_pos (clears t (by have := lt16 t; omega))]
  idx_vars i
  obtain rfl : i0 = 0 := Subsingleton.elim _ _
  exact congrArg (HAdd.hAdd (α := EReal) (β := EReal) · _) (zero_at i1)

theorem dg_step (h : ¬t.val % 16 = 0) (i : S1x1024.Idx) : (show FVec Ideal S1x1024 .f32 from (outsAt m c t.val t.isLt).2.2.2.1) i
    = (show FVec Ideal S1x1024 .f32 from (prev m c t).2.2.2.1) i + scaleAdd m c t i := by
  rw [dg_found]
  unfold foundDg
  rw [if_neg (notFirst t h)]

end Points

/-- The norm's gradient over rows taken tile by tile. -/
theorem scale_tiles (c : Dev nD) (i : S1x1024.Idx) : (∑ t : Fin 16, scaleAdd m c ⟨t.val, lt_of_lt_of_eq t.isLt N_0.symm⟩ i) = scaleGrad (rows (argX m c)) (dnAll m c) (i 1) := by
  refine (Cert.Sums.tiles 4 4 rfl fun t : Fin 16 => scaleAdd m c ⟨t.val, lt_of_lt_of_eq t.isLt N_0.symm⟩ i).symm.trans ?_
  refine Eq.trans (Finset.sum_congr rfl fun s _ => ?_) (Cert.Sums.tiles 4 1024 rfl fun r => dnAll m c r (i 1) * hat (rows (argX m c)) r (i 1))
  rw [Fin.sum_univ_four]
  unfold scaleAdd
  dsimp only
  rw [if_neg (by simp), if_neg (by simp), if_neg (by simp), if_pos (by simp)]
  rw [zero_add, zero_add, zero_add]
  refine Finset.sum_congr rfl fun r _ => ?_
  have e : row ⟨4 * s.val + (3 : Fin 4).val, lt_of_lt_of_eq (by have := s.isLt; simp; omega) N_0.symm⟩ r = ⟨1024 * s.val + r.val, by omega⟩ := Fin.ext (by dsimp only [row]; simp; omega)
  rw [← e]
  rfl

/-- Result 0: the gradient of the layer's input. -/
theorem whole8 (c : Dev nD) : (dats m 0 c).arrAt 8 (cfgs 0).N
    = (fun i => rows (argD m c) (i 0) (i 1) + normGrad (rows (argX m c)) (fun l => argG m c (ix1 l)) (dnAll m c) (i 0) (i 1) : FVec Ideal S4096x1024 .f32) := by
  refine (dats m 0 c).arrAt_eq_of_covers 8 _ (by decide +kernel) fun t hf y => ?_
  blk_simp
  rw [after0_8]
  idx_vars y
  have e : ((cfg0.win 8).blk t).view.emb (ix2 y0 y1) = ix2 (row t y0) y1 := by
    blk_ext [idx t]
    exact congrArg (· + y0.val) (Nat.mul_comm _ _)
  refine (dx_eq m c t ((flush0_8 t).mp hf) y0 y1).trans ?_
  rw [e]
  rfl

/-- Result 1: the cotangent of the gate's branch. -/
theorem whole9 (c : Dev nD) : (dats m 0 c).arrAt 9 (cfgs 0).N = (cut (dgAll m c) : FVec Ideal S4x4096x704 .bf16) := by
  refine (dats m 0 c).arrAt_eq_of_covers 9 _ (by decide +kernel) fun t hf y => ?_
  blk_simp
  rw [after0_9]
  idx_vars y
  obtain rfl : y0 = 0 := Subsingleton.elim _ _
  have e : ((cfg0.win 9).blk t).view.emb (ix3 0 y1 y2) = ix3 (chip t) (row t y1) y2 := by
    blk_ext [idx t]
    · rfl
    · exact congrArg (· + y1.val) (Nat.mul_comm _ _)
  refine (dhg_eq m c t y1 y2).trans ?_
  rw [e]
  rfl

/-- Result 2: the cotangent of the up projection's branch. -/
theorem whole10 (c : Dev nD) : (dats m 0 c).arrAt 10 (cfgs 0).N = (cut (duAll m c) : FVec Ideal S4x4096x704 .bf16) := by
  refine (dats m 0 c).arrAt_eq_of_covers 10 _ (by decide +kernel) fun t hf y => ?_
  blk_simp
  rw [after0_10]
  idx_vars y
  obtain rfl : y0 = 0 := Subsingleton.elim _ _
  have e : ((cfg0.win 10).blk t).view.emb (ix3 0 y1 y2) = ix3 (chip t) (row t y1) y2 := by
    blk_ext [idx t]
    · rfl
    · exact congrArg (· + y1.val) (Nat.mul_comm _ _)
  refine (dhu_eq m c t y1 y2).trans ?_
  rw [e]
  rfl

/-- Result 3: the gradient of the norm's scale. -/
theorem whole11 (c : Dev nD) : (dats m 0 c).arrAt 11 (cfgs 0).N
    = (fun i => scaleGrad (rows (argX m c)) (dnAll m c) (i 1) : FVec Ideal S1x1024 .f32) := by
  refine (dats m 0 c).arrAt_eq_of_after_last 11 t0_15 (by decide +kernel) _ fun j => ?_
  blk_simp
  rw [after0_11]
  refine (Pipeline.eq_sum_fin_of_reset_step_apply_last (fun n h => (show FVec Ideal S1x1024 .f32 from (outsAt m c n h).2.2.2.1)) 16 (fun _ => 0)
    (scaleAdd m c) (fun u hu j => dg_first m c u hu j) (fun u hu j => dg_step m c u hu j) (le_of_eq N_0) t0_15 rfl _).trans ?_
  rw [zero_add]
  exact scale_tiles m c _

/-- Result 4: the layer's share of the cotangent. -/
theorem whole12 (c : Dev nD) : (dats m 0 c).arrAt 12 (cfgs 0).N = (fun i => cot (rows (argD m c)) (i 0) (i 1) : FVec Ideal S4096x1024 .bf16) := by
  refine (dats m 0 c).arrAt_eq_of_covers 12 _ (by decide +kernel) fun t hf y => ?_
  blk_simp
  rw [after0_12]
  idx_vars y
  have e : ((cfg0.win 12).blk t).view.emb (ix2 y0 y1) = ix2 (row t y0) y1 := by
    blk_ext [idx t]
    exact congrArg (· + y0.val) (Nat.mul_comm _ _)
  refine (congrFun (congrFun (df_eq m c _ t rfl) y0) y1).trans ?_
  rw [e]
  rfl

end Cert.FfnBwdDxIdeal.Value

end
-- ==== Proof.FfnDxClaim.lean ====
/- The backward kernel of the feed-forward layer computes the derivative through the layer and its norm. -/
module

public import proofs.«01_k».proof.Defs
public import proofs.«01_k».proof.Proof.Finite
public import proofs.«01_k».proof.Proof.Gen.Pre_finite_ffn
public import proofs.«01_k».proof.Proof.FfnDxRef
public import proofs.«01_k».proof.Proof.FfnDxValue

@[expose] public section

set_option maxRecDepth 16384

noncomputable section

open Idealize.ShloMosaic Idealize.ShloMosaic.TcCoe Idealize.SL.Sem

namespace Cert.Proof

open Cert.FfnBwdDxIdeal Cert.FfnBwdDxIdeal.Value Cert.MixOut Cert.Ffn
open Cert.FfnGradIdeal.Value (gradV scaleV invV msV shareV actV upV gateV bothV cutV flatV gradV_at scaleV_eq shareV_rows actV_rows upV_rows gateV_rows bothV_rows cutV_eq flatV_at)

section Ffn

variable (X D : FVec Ideal S2x2048x1024 .f32) (G : FVec Ideal S1024 .f32) (A B : FVec Ideal S1024x2816 .f32) (W : FVec Ideal S2816x1024 .f32)

/-- The reference's hidden branch, and both branches' cotangents. -/
def ffnHid : FVec Ideal S2x2048x2816 .f32 := Cert.FfnGradIdeal.Value.hidV (Cert.FfnGradIdeal.Value.normV X G) A

def ffnUp : FVec Ideal S2x2048x2816 .f32 := upV (ffnHid X G A) (actV (shareV D) W)

def ffnGate : FVec Ideal S2x2048x2816 .f32 := gateV (ffnHid X G A) (ffnHid X G B) (actV (shareV D) W)

theorem ffnHid_rows : rows (ffnHid X G A) = branch X G A := by
  unfold ffnHid branch
  rw [Cert.FfnGradIdeal.Value.hidV_rows, Cert.FfnGradIdeal.Value.normV_rows]

theorem ffnAct_rows : rows (actV (shareV D) W) = actCot W D := by
  unfold actCot
  rw [actV_rows, shareV_rows]

theorem ffnUp_rows : rows (ffnUp X D G A W) = upBack (actCot W D) (branch X G A) := by
  unfold ffnUp
  rw [upV_rows, ffnHid_rows, ffnAct_rows]

variable (hX : ∀ i, ∃ r : ℝ, X i = r) (hG : ∀ i, ∃ r : ℝ, G i = r) (hA : ∀ i, ∃ r : ℝ, A i = r) (hB : ∀ i, ∃ r : ℝ, B i = r)
  (hW : ∀ i, ∃ r : ℝ, W i = r) (hD : ∀ i, ∃ r : ℝ, D i = r)

include hX hG hA in
theorem branch_real : Real₂ (branch X G A) :=
  prod_real _ _ (normed_real _ _ (fun r j => hX _) fun j => hG _) fun r j => hA _

include hW hD in
theorem actCot_real : Real₂ (actCot W D) := prodT_real _ _ (cot_real _ fun r j => hD _) fun r j => hW _

include hX hG hA hB hW hD

theorem ffnGate_rows : rows (ffnGate X D G A B W) = gateBack (actCot W D) (branch X G A) (branch X G B) := by
  unfold ffnGate
  have ha : Real₂ (rows (actV (shareV D) W)) := by rw [ffnAct_rows]; exact actCot_real D W hW hD
  have hh : Real₂ (rows (ffnHid X G A)) := by rw [ffnHid_rows]; exact branch_real X G A hX hG hA
  have hu : Real₂ (rows (ffnHid X G B)) := by rw [ffnHid_rows]; exact branch_real X G B hX hG hB
  rw [gateV_rows _ _ _ ha hh hu, ffnHid_rows, ffnHid_rows, ffnAct_rows]

/-- The normed rows' cotangent, as both programs have it. -/
theorem ffnBoth_rows : rows (bothV A B (ffnGate X D G A B W) (ffnUp X D G A W))
    = inBack (gateBack (actCot W D) (branch X G A) (branch X G B)) (upBack (actCot W D) (branch X G A)) (mat A) (mat B) := by
  rw [bothV_rows, ffnGate_rows X D G A B W hX hG hA hB hW hD, ffnUp_rows]

/-- Over finite arguments the rows' gradient is the derivative's. -/
theorem ffn_grad (p : Fin 4096) (j : Fin 1024) : gradV X D (bothV A B (ffnGate X D G A B W) (ffnUp X D G A W)) G (ix2 p j)
    = rows D p j + Cert.Norm.normGrad (rows X) (fun l => G (ix1 l)) (inBack (gateBack (actCot W D) (branch X G A) (branch X G B)) (upBack (actCot W D) (branch X G A)) (mat A) (mat B)) p j := by
  have hR := inBack_real (gateBack (actCot W D) (branch X G A) (branch X G B)) (upBack (actCot W D) (branch X G A)) (mat A) (mat B)
    (gateBack_real _ _ _ (actCot_real D W hW hD) (branch_real X G A hX hG hA) (branch_real X G B hX hG hB))
    (upBack_real _ _ (actCot_real D W hW hD) (branch_real X G A hX hG hA)) (fun r j => hA _) (fun r j => hB _)
  rw [gradV_at, ffnBoth_rows X D G A B W hX hG hA hB hW hD]
  choose x ex using hX
  choose g eg using hG
  choose d ed using hR
  exact Cert.Norm.grad_eq (rows X) _ (fun l => G (ix1 l)) (fun r j => x (ix3 ⟨r.val / 2048, by omega⟩ ⟨r.val % 2048, by omega⟩ j)) d (fun l => g (ix1 l)) p
    (fun r j => ex _) (fun r j => ed _ _) (fun l => eg _) _ j

end Ffn

set_option maxHeartbeats 4000000 in
theorem algebraic_ffndx : Cert.algebraic_FfnBwdDxIdeal_FfnGradIdeal_pre_finite_ffn := by
  pair_intro
  · run_from Cert.FfnBwdDxIdeal.Body.run_blocks m g
  · run_from Cert.FfnGradIdeal.Value.run m' g'
    · refine Eq.trans (b := gradV (argX m c) (argD m c) (bothV (argA m c) (argB m c) (ffnGate (argX m c) (argD m c) (argG m c) (argA m c) (argB m c) (argW m c))
        (ffnUp (argX m c) (argD m c) (argG m c) (argA m c) (argW m c))) (argG m c)) ?_ (Eq.trans ?_ (whole8 m c).symm)
      · obtain ⟨e0, e1, e2, e3, e4, e5⟩ := hagree c
        unfold Cert.FfnGradIdeal.Value.res_main_v55
        simp only [e0, e1, e2, e3, e4, e5]
        rfl
      funext i
      idx_vars i
      exact ffn_grad _ _ _ _ _ _ (Cert.Finite.reals _ _ (hpre c).1) (Cert.Finite.reals _ _ (hpre c).2.1) (Cert.Finite.reals _ _ (hpre c).2.2.1)
        (Cert.Finite.reals _ _ (hpre c).2.2.2.1) (Cert.Finite.reals _ _ (hpre c).2.2.2.2.1) (Cert.Finite.reals _ _ (hpre c).2.2.2.2.2) i0 i1
    · refine Eq.trans (b := cutV (ffnGate (argX m c) (argD m c) (argG m c) (argA m c) (argB m c) (argW m c))) ?_ (Eq.trans ?_ (whole9 m c).symm)
      · obtain ⟨e0, e1, e2, e3, e4, e5⟩ := hagree c
        unfold Cert.FfnGradIdeal.Value.res_main_v58
        simp only [e0, e1, e2, e3, e4, e5]
        rfl
      rw [cutV_eq]
      exact congrArg cut (ffnGate_rows _ _ _ _ _ _ (Cert.Finite.reals _ _ (hpre c).1) (Cert.Finite.reals _ _ (hpre c).2.1) (Cert.Finite.reals _ _ (hpre c).2.2.1)
        (Cert.Finite.reals _ _ (hpre c).2.2.2.1) (Cert.Finite.reals _ _ (hpre c).2.2.2.2.1) (Cert.Finite.reals _ _ (hpre c).2.2.2.2.2))
    · refine Eq.trans (b := cutV (ffnUp (argX m c) (argD m c) (argG m c) (argA m c) (argW m c))) ?_ (Eq.trans ?_ (whole10 m c).symm)
      · rfl
      rw [cutV_eq]
      exact congrArg cut (ffnUp_rows _ _ _ _ _)
    · refine Eq.trans (b := scaleV (argX m c) (bothV (argA m c) (argB m c) (ffnGate (argX m c) (argD m c) (argG m c) (argA m c) (argB m c) (argW m c))
        (ffnUp (argX m c) (argD m c) (argG m c) (argA m c) (argW m c))) (invV (msV (argX m c)))) ?_ (Eq.trans ?_ (whole11 m c).symm)
      · obtain ⟨e0, e1, e2, e3, e4, e5⟩ := hagree c
        unfold Cert.FfnGradIdeal.Value.res_main_v62
        simp only [e0, e1, e2, e3, e4, e5]
        rfl
      funext i
      idx_vars i
      refine (scaleV_eq _ _ _ _).trans ?_
      rw [ffnBoth_rows _ _ _ _ _ _ (Cert.Finite.reals _ _ (hpre c).1) (Cert.Finite.reals _ _ (hpre c).2.1) (Cert.Finite.reals _ _ (hpre c).2.2.1)
        (Cert.Finite.reals _ _ (hpre c).2.2.2.1) (Cert.Finite.reals _ _ (hpre c).2.2.2.2.1) (Cert.Finite.reals _ _ (hpre c).2.2.2.2.2)]
    · refine Eq.trans (b := flatV (shareV (argD m c))) ?_ (Eq.trans ?_ (whole12 m c).symm)
      · rfl
      funext i
      idx_vars i
      refine (flatV_at _ _ _).trans ?_
      rw [shareV_rows]

/-- The reference is host operations only: its generated run says that its arguments are left alone, and it declares
    no semaphore. -/
theorem frame_ffndx_grad : Cert.quiescent_FfnGradIdeal := fun m ρ _ =>
  (θ_run Cert.FfnGradIdeal.defs _ _).mono (fun r h => ⟨fun c => (h c).2.2.2.2.2, sem_eq_zero_of_no_sems (by decide) r.2⟩)
    (Cert.FfnGradIdeal.Value.run (F := Ideal) m ρ)

end Cert.Proof

end
-- ==== Proof.FfnDxFrames.lean ====
module

public import proofs.«01_k».proof.Defs
public import proofs.«01_k».proof.Proof.FfnDxFrame
public import proofs.«01_k».proof.Proof.Gen.FfnBwdDx.Frame

@[expose] public section

set_option maxRecDepth 16384

/-! The frames of the feed-forward's input gradient, both read off the one run. -/

namespace Cert.Proof.FfnDx

open Idealize.ShloMosaic Idealize.SL.Sem

set_option maxHeartbeats 4000000 in
/-- The frame over bits: the program is the same text. -/
theorem frame_bits : Cert.quiescent_FfnBwdDx := fun m ρ _ => by
  refine cast ?_ (Cert.FfnBwdDxIdeal.Body.frame (F := Bits) m ρ)
  sl_kernel_rfl

/-- The frame over the ideal values. -/
theorem frame_ideal : Cert.quiescent_FfnBwdDxIdeal := fun m ρ _ => Cert.FfnBwdDxIdeal.Body.frame (F := Ideal) m ρ

end Cert.Proof.FfnDx
-- ==== Proof.FfnLossSpec.lean ====
/- The feed-forward layer with the loss behind it: the layer's output, the error of the normed output, the loss and its
cotangent, and their agreement with the derivative's forms over the reals. -/
module

public import proofs.«01_k».proof.Proof.FfnBack

@[expose] public section

noncomputable section

open Idealize.ShloMosaic Idealize.ShloMosaic.TcCoe Idealize.SL.Sem

namespace Cert.Ffn

open Cert.MixOut Cert.Norm

variable {n p : ℕ}

/-- One half, two, and one over the width, as the programs spell them. -/
theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem part_of_width : Ideal.ofBits .f32 0x3A800000#32 = ((1 / 1024 : ℝ) : EReal) := by
  simp [Ideal.ofBits, Ideal.ieee, -EReal.coe_mul]; norm_num

/-- The layer's output from its input and what the hidden columns add. -/
def layer (x a : Fin n → Fin p → EReal) (r : Fin n) (j : Fin p) : EReal := x r j + Ideal.ofBits .f32 0x3F000000#32 * a r j

/-- The error of the normed output against the target. -/
def errOf (y : Fin n → Fin 1024 → EReal) (g : Fin 1024 → EReal) (t : Fin n → Fin 1024 → EReal) (r : Fin n) (j : Fin 1024) : EReal := hat y r j * g j - t r j

/-- The loss's cotangent of the normed output. -/
def errCot (e : Fin n → Fin 1024 → EReal) (r : Fin n) (j : Fin 1024) : EReal := e r j * Ideal.ofBits .f32 0x3A800000#32

/-- What a block of rows adds to the loss. -/
def blockLoss (e : Fin n → Fin 1024 → EReal) : EReal :=
  Ideal.div (Ideal.ofBits .f32 0x3F000000#32 * ∑ r, ∑ j, e r j * e r j) (Ideal.ofBits .f32 0x44800000#32)

/-- The loss as the reference sums it: half the sum of the rows' means. -/
def lossOf (e : Fin n → Fin 1024 → EReal) : EReal :=
  Ideal.ofBits .f32 0x3F000000#32 * ∑ r, Ideal.div (∑ j, e r j * e r j) (Ideal.ofBits .f32 0x44800000#32)

theorem act_real (h u : Fin n → Fin p → EReal) (hh : Real₂ h) (hu : Real₂ u) : Real₂ (act h u) := fun r f => by
  obtain ⟨y, ey⟩ := hh r f
  obtain ⟨z, ez⟩ := hu r f
  obtain ⟨s, es⟩ := gate_real y
  refine ⟨y * s * z, ?_⟩
  unfold act
  rw [ey, ez, es, EReal.coe_mul, EReal.coe_mul]

theorem layer_real (x a : Fin n → Fin p → EReal) (hx : Real₂ x) (ha : Real₂ a) : Real₂ (layer x a) := fun r j => by
  obtain ⟨y, ey⟩ := hx r j
  obtain ⟨z, ez⟩ := ha r j
  refine ⟨y + 1 / 2 * z, ?_⟩
  unfold layer
  rw [ey, ez, half, EReal.coe_add, EReal.coe_mul]

theorem errOf_real (y : Fin n → Fin 1024 → EReal) (g : Fin 1024 → EReal) (t : Fin n → Fin 1024 → EReal) (hy : Real₂ y) (hg : ∀ j, ∃ x : ℝ, g j = x) (ht : Real₂ t) :
    Real₂ (errOf y g t) := fun r j => by
  obtain ⟨a, ea⟩ := normed_real y g hy hg r j
  obtain ⟨b, eb⟩ := ht r j
  refine ⟨a - b, ?_⟩
  have ea' : hat y r j * g j = a := ea
  unfold errOf
  rw [ea', eb, EReal.coe_sub]

theorem errCot_real (e : Fin n → Fin 1024 → EReal) (he : Real₂ e) : Real₂ (errCot e) := fun r j => by
  obtain ⟨a, ea⟩ := he r j
  refine ⟨a * (1 / 1024), ?_⟩
  unfold errCot
  rw [ea, part_of_width, EReal.coe_mul]

/-- The derivative's cotangent of the normed output is the kernel's. -/
theorem errCot_eq (e : Fin n → Fin 1024 → EReal) (he : Real₂ e) (r : Fin n) (j : Fin 1024) :
    Ideal.div (Ideal.ofBits .f32 0x3F000000#32 * 1) (Ideal.ofBits .f32 0x44800000#32) * (Ideal.ofBits .f32 0x40000000#32 * e r j) = errCot e r j := by
  obtain ⟨a, ea⟩ := he r j
  unfold errCot
  rw [ea, part_of_width, half, two, width_eq, Ideal.div_coe (by norm_num), mul_one]
  simp only [← EReal.coe_mul]
  exact congrArg Real.toEReal (by ring)

/-- Over the reals the blocks' losses add up to the loss. -/
theorem lossOf_eq (e : Fin 4096 → Fin 1024 → EReal) (he : Real₂ e) :
    (∑ b : Fin 16, blockLoss fun r : Fin 256 => e ⟨256 * b.val + r.val, by omega⟩) = lossOf e := by
  choose E eE using he
  obtain rfl : e = fun r j => ((E r j : ℝ) : EReal) := funext fun r => funext fun j => eE r j
  unfold blockLoss lossOf
  rw [half, width_eq]
  simp only [Ideal.div_coe (show (1024 : ℝ) ≠ 0 by norm_num)]
  rw [← Cert.Sums.tiles 16 256 rfl fun r : Fin 4096 => (∑ j, ((E r j : ℝ) : EReal) * ((E r j : ℝ) : EReal)) * ((1 / 1024 : ℝ) : EReal)]
  simp only [← EReal.coe_mul, ← coe_sum]
  refine congrArg Real.toEReal ?_
  rw [Finset.mul_sum]
  refine Finset.sum_congr rfl fun b _ => ?_
  rw [← Finset.sum_mul]
  ring

end Cert.Ffn

end
-- ==== Proof.FfnLossRef.lean ====
/- The reference of the feed-forward layer with the loss, entry by entry. -/
module

public import proofs.«01_k».proof.Proof.FfnLossSpec
public import proofs.«01_k».proof.Proof.Gen.FfnLossGradIdeal.Run

@[expose] public section

set_option maxRecDepth 16384

noncomputable section

open Idealize.ShloMosaic Idealize.ShloMosaic.TcCoe Idealize.SL.Sem

namespace Cert.FfnLossGradIdeal.Value

open Cert.FfnLossGradIdeal Cert.FfnLossGradIdeal.Gen Cert.MixOut Cert.Ffn Cert.Norm

variable (X Y R D E T : FVec Ideal S2x2048x1024 .f32) (G : FVec Ideal S1024 .f32) (A : FVec Ideal S1024x2816 .f32) (W : FVec Ideal S2816x1024 .f32)
  (H U C : FVec Ideal S2x2048x2816 .f32) (I M : FVec Ideal S2x2048x1 .f32) (K : FVec Ideal S2x2048 .f32)
  (b : Fin 2) (s : Fin 2048) (j : Fin 1024) (f : Fin 2816) (u : Fin 1) (p : Fin 4096)

/-- Every row's mean square, and its inverse root. -/
def msV : FVec Ideal S2x2048x1 .f32 :=
  addf (Host.divf (broadcastInDim S2x2048x1 ![0, 1] bcast_S2x2048_S2x2048x1_0_1 (Host.reduceAdd (mulf X X) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

theorem msV_at : msV X (ix3 b s u) = Ideal.div (∑ l, X (ix3 b s l) * X (ix3 b s l)) (Ideal.ofBits .f32 0x44800000#32) + eps := by
  pointwise [msV, eps]

def invV : FVec Ideal S2x2048x1 .f32 := Host.rsqrt M

theorem invV_at : invV M (ix3 b s u) = Ideal.rsqrt (M (ix3 b s u)) := by
  pointwise [invV]

/-- A norm's scale over the rows. -/
def wideV : FVec Ideal S2x2048x1024 .f32 := broadcastInDim S2x2048x1024 ![0, 1, 2] bcast_S1x1x1024_S2x2048x1024_0_1_2 (broadcastInDim S1x1x1024 ![2] bcast_S1024_S1x1x1024_2 G)

theorem wideV_at : wideV G (ix3 b s j) = G (ix1 j) := by
  pointwise [wideV]

/-- The rows over their root mean square. -/
def hatV : FVec Ideal S2x2048x1024 .f32 := mulf X (broadcastInDim S2x2048x1024 ![0, 1, 2] bcast_S2x2048x1_S2x2048x1024_0_1_2 I)

theorem hatV_at : hatV X I (ix3 b s j) = X (ix3 b s j) * I (ix3 b s 0) := by
  pointwise [hatV]

/-- The normed rows. -/
def normV : FVec Ideal S2x2048x1024 .f32 := mulf (hatV X (invV (msV X))) (wideV G)

theorem normV_at : normV X G (ix3 b s j) = X (ix3 b s j) * Ideal.rsqrt (Ideal.div (∑ l, X (ix3 b s l) * X (ix3 b s l)) (Ideal.ofBits .f32 0x44800000#32) + eps) * G (ix1 j) := by
  have e : normV X G (ix3 b s j) = hatV X (invV (msV X)) (ix3 b s j) * wideV G (ix3 b s j) := rfl
  rw [e, hatV_at, wideV_at, invV_at, msV_at]

theorem normV_rows : rows (normV X G) = normed (rows X) fun l => G (ix1 l) := by
  funext p j
  exact normV_at X G _ _ j

/-- A hidden branch. -/
def hidV : FVec Ideal S2x2048x2816 .f32 := Host.dotGeneral dot_S2x2048x1024_S1024x2816_S2x2048x2816_2_0_01_1_n_n none X A

theorem hidV_rows : rows (hidV X A) = prod (rows X) (mat A) := by
  funext p f
  pointwise [hidV, rows, prod, mat]

/-- The activation. -/
def actV : FVec Ideal S2x2048x2816 .f32 :=
  mulf (mulf H (Host.divf (broadcastInDim S2x2048x2816 ![] bcast_S_S2x2048x2816 (constant S_ .f32 0x3F800000#32))
    (addf (broadcastInDim S2x2048x2816 ![] bcast_S_S2x2048x2816 (constant S_ .f32 0x3F800000#32)) (Host.exp (Host.negf H))))) U

theorem actV_rows : rows (actV H U) = act (rows H) (rows U) := by
  funext p f
  pointwise [actV, act, rows, gateOf]

/-- What the hidden columns add. -/
def downV : FVec Ideal S2x2048x1024 .f32 := Host.dotGeneral dot_S2x2048x2816_S2816x1024_S2x2048x1024_2_0_01_1_n_n none H W

theorem downV_rows : rows (downV W H) = prod (rows H) (mat W) := by
  funext p j
  pointwise [downV, rows, prod, mat]

/-- The layer's output. -/
def layerV : FVec Ideal S2x2048x1024 .f32 := addf X (mulf (broadcastInDim S2x2048x1024 ![] bcast_S_S2x2048x1024 (constant S_ .f32 0x3F000000#32)) R)

theorem layerV_rows : rows (layerV X R) = layer (rows X) (rows R) := by
  funext p j
  pointwise [layerV, layer, rows]

/-- The error of the normed output. -/
def errV : FVec Ideal S2x2048x1024 .f32 := subf (normV Y G) T

theorem errV_rows : rows (errV Y T G) = errOf (rows Y) (fun l => G (ix1 l)) (rows T) := by
  funext p j
  have e : rows (errV Y T G) p j = rows (normV Y G) p j - rows T p j := rfl
  rw [e, normV_rows]
  rfl

/-- The normed output's cotangent. -/
def cotV : FVec Ideal S2x2048x1024 .f32 :=
  mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32))) (broadcastInDim S2x2048 ![] bcast_S_S2x2048 (constant S_ .f32 0x44800000#32))))
    (mulf (broadcastInDim S2x2048x1024 ![] bcast_S_S2x2048x1024 (constant S_ .f32 0x40000000#32)) E)

theorem cotV_at : cotV E (ix3 b s j) = Ideal.div (Ideal.ofBits .f32 0x3F000000#32 * 1) (Ideal.ofBits .f32 0x44800000#32) * (Ideal.ofBits .f32 0x40000000#32 * E (ix3 b s j)) := by
  pointwise [cotV]

theorem cotV_rows (h : Real₂ (rows E)) : rows (cotV E) = errCot (rows E) := by
  funext p j
  exact (cotV_at E _ _ j).trans (errCot_eq (rows E) h p j)

/-- A cotangent times the norm's scale. -/
def scaledV : FVec Ideal S2x2048x1024 .f32 := mulf D (wideV G)

theorem scaledV_at : scaledV D G (ix3 b s j) = D (ix3 b s j) * G (ix1 j) := congrArg (D (ix3 b s j) * ·) (wideV_at G b s j)

/-- A row's factor through its mean square. -/
def throughV : FVec Ideal S2x2048 .f32 :=
  Host.reduceAdd (Host.divf (mulf (shapeCast _ (Host.reduceAdd (mulf X D) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf I M))) (broadcastInDim S2x2048x1 ![] bcast_S_S2x2048x1 (constant S_ .f32 0x44800000#32))) (constant S_ .f32 0x00000000#32) reducesTo_S2x2048x1_S2x2048_d2 h_S_

theorem throughV_at : throughV X D I M (ix2 b s) = Ideal.div ((∑ l, X (ix3 b s l) * D (ix3 b s l)) * (Ideal.ofBits .f32 0xBF000000#32 * Ideal.div (I (ix3 b s 0)) (M (ix3 b s 0)))) (Ideal.ofBits .f32 0x44800000#32) := by
  pointwise [throughV]
  exact Fin.sum_univ_one _

/-- The rows' gradient from its parts. -/
def sumV : FVec Ideal S4096x1024 .f32 :=
  shapeCast _ (addf (addf (mulf D (broadcastInDim S2x2048x1024 ![0, 1, 2] bcast_S2x2048x1_S2x2048x1024_0_1_2 I)) (mulf X (broadcastInDim S2x2048x1024 ![0, 1] bcast_S2x2048_S2x2048x1024_0_1 K))) (mulf (broadcastInDim S2x2048x1024 ![0, 1] bcast_S2x2048_S2x2048x1024_0_1 K) X)) shapeCasts_S2x2048x1024_S4096x1024

theorem sumV_at : sumV X D I K (ix2 p j) = rows D p j * I (ix3 ⟨p.val / 2048, by omega⟩ ⟨p.val % 2048, by omega⟩ 0)
    + rows X p j * K (ix2 ⟨p.val / 2048, by omega⟩ ⟨p.val % 2048, by omega⟩) + K (ix2 ⟨p.val / 2048, by omega⟩ ⟨p.val % 2048, by omega⟩) * rows X p j := by
  pointwise [sumV, rows]

/-- Result 0, by the normed output's cotangent. -/
def gradV : FVec Ideal S4096x1024 .f32 :=
  sumV X (scaledV D G) (invV (msV X)) (throughV X (scaledV D G) (invV (msV X)) (msV X))

theorem gradV_at : gradV X D G (ix2 p j) = rows D p j * G (ix1 j) * Cert.Norm.inv (rows X) p
    + rows X p j * through (rows X) (fun l => G (ix1 l)) (rows D) p + through (rows X) (fun l => G (ix1 l)) (rows D) p * rows X p j := by
  rw [gradV, sumV_at, throughV_at, invV_at, msV_at]
  simp only [rows, scaledV_at]
  rfl

/-- The scale's gradient, by the normed output's cotangent. -/
def scaleV : FVec Ideal S1x1024 .f32 :=
  shapeCast _ (Host.reduceAdd (shapeCast _ (Host.reduceAdd (mulf (hatV X I) D) (constant S_ .f32 0x00000000#32) reducesTo_S2x2048x1024_S1024_d0_1 h_S_) shapeCasts_S1024_S1x1x1024) (constant S_ .f32 0x00000000#32) reducesTo_S1x1x1024_S1024_d0_1 h_S_) shapeCasts_S1024_S1x1024

theorem scaleV_at : scaleV X D I (ix2 u j) = ∑ b : Fin 2, ∑ s : Fin 2048, X (ix3 b s j) * I (ix3 b s 0) * D (ix3 b s j) := by
  pointwise [scaleV, hatV]
  rw [Cert.Sums.reduce_lead, zero_add, Fin.sum_univ_one, Fin.sum_univ_one]
  pointwise
  rw [Cert.Sums.reduce_lead, zero_add]
  pointwise

theorem scaleV_eq : scaleV X D (invV (msV X)) (ix2 u j) = scaleGrad (rows X) (rows D) j := by
  rw [scaleV_at]
  refine (Cert.Sums.pairs _).trans (Finset.sum_congr rfl fun r _ => (mul_comm _ _).trans ?_)
  rw [invV_at, msV_at]
  rfl

/-- The rows' mean squared errors. -/
def meanV : FVec Ideal S2x2048 .f32 :=
  Host.divf (Host.reduceAdd (mulf E E) (constant S_ .f32 0x00000000#32) reducesTo_S2x2048x1024_S2x2048_d2 h_S_) (broadcastInDim S2x2048 ![] bcast_S_S2x2048 (constant S_ .f32 0x44800000#32))

theorem meanV_at : meanV E (ix2 b s) = Ideal.div (∑ l, E (ix3 b s l) * E (ix3 b s l)) (Ideal.ofBits .f32 0x44800000#32) := by
  pointwise [meanV]

/-- The loss, once a lane. -/
def lossV : FVec Ideal S1x128 .f32 :=
  broadcastInDim S1x128 ![] bcast_S_S1x128 (mulf (constant S_ .f32 0x3F000000#32) (Host.reduceAdd (meanV E) (constant S_ .f32 0x00000000#32) reducesTo_S2x2048_S_d0_1 h_S_))

theorem lossV_at (l : Fin 128) : lossV E (ix2 u l) = lossOf (rows E) := by
  pointwise [lossV]
  refine congrArg (Ideal.ofBits .f32 0x3F000000#32 * ·) ?_
  refine (Cert.Sums.pairs _).trans (Finset.sum_congr rfl fun r _ => ?_)
  exact meanV_at E _ _

/-- A hidden array cut by chips, and rows of tokens, as the reference returns them. -/
def cutV : FVec Ideal S4x4096x704 .bf16 :=
  truncf .bf16 (transpose S4x4096x704 [1, 0, 2] (shapeCast _ H shapeCasts_S2x2048x2816_S4096x4x704) transposes_S4096x4x704_S4x4096x704_1_0_2) bitsLt_bf16_f32

theorem cutV_eq : cutV H = cut (rows H) := by
  funext i
  idx_vars i
  pointwise [cutV, cut, rows, slot]

def flatV : FVec Ideal S4096x1024 .bf16 := truncf .bf16 (shapeCast _ X shapeCasts_S2x2048x1024_S4096x1024) bitsLt_bf16_f32

theorem flatV_at : flatV X (ix2 p j) = rows X p j := by
  pointwise [flatV, rows]

end Cert.FfnLossGradIdeal.Value

end
-- ==== Proof.FfnLossRun.lean ====
module

public import proofs.«01_k».proof.Proof.FfnDxRun
public import proofs.«01_k».proof.Proof.Gen.FfnLossIdeal.Frame
public import proofs.«01_k».proof.Proof.Gen.FfnLossIdeal.Skeleton
public import Idealize.ShloMosaic.Lib.VecWindow

@[expose] public section

set_option maxRecDepth 16384
set_option maxHeartbeats 4000000
noncomputable section

/-! One run of the feed-forward layer with the loss, at any grid point. The first of a row tile's four points norms the rows
and clears the sum over the hidden columns; each point takes its chip's columns; the last one takes the layer's output, the
loss and its gradient through the final norm, in four blocks of rows. -/

namespace Cert.FfnLossIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnLossIdeal Cert.FfnLossIdeal.Gen
open Cert.FfnBwdDxIdeal.Body (rowsF putF read_putF loadF)

variable {F : FTy → Type} [FloatOps F]

local notation "𝕄" => MT nD τ sig Unit (Elt F) ℕ (UR sig nD τ) ℕ

/-! ## What a point computes -/

/-- The normed rows. -/
def firstN (x : Vec F S1024x1024 .f32) (g : Vec F S1x1024 .f32) : Vec F S1024x1024 .bf16 :=
  truncf .bf16 (mulf (mulf (shapeCast S1024x1024 x shapeCasts_S1024x1024_S1024x1024)
    (broadcastTo S1024x1024 (rsqrt (addf (divf (shapeCast S1024x1 (multiReduction .add [1] S1024 (mulf (shapeCast S1024x1024 x shapeCasts_S1024x1024_S1024x1024) (shapeCast S1024x1024 x shapeCasts_S1024x1024_S1024x1024)) 0x00000000#32 reduces_S1024x1024_S1024 (.inl rfl) rfl) shapeCasts_S1024_S1024x1)
      (broadcast S1024x1 (Scalar.ofBits .f32 0x44800000#32))) (broadcast S1024x1 (Scalar.ofBits .f32 0x358637BD#32)))) broadcasts_S1024x1_S1024x1024))
    (broadcastTo S1024x1024 (shapeCast S1x1024 g shapeCasts_S1x1024_S1x1024) broadcasts_S1x1024_S1024x1024)) bitsLt_bf16_f32

/-- Zeros, of the sum over the hidden columns, the loss and the final norm's gradient. -/
def zeroAcc : Vec F S1024x1024 .f32 := shapeCast S1024x1024 (broadcast S1024x1024 (Scalar.ofBits .f32 0x00000000#32)) shapeCasts_S1024x1024_S1024x1024

def zeroLoss : Vec F S1x128 .f32 := broadcast S1x128 (Scalar.ofBits .f32 0x00000000#32)

def zeroDg : Vec F S1x1024 .f32 := broadcast S1x1024 (Scalar.ofBits .f32 0x00000000#32)

/-- A hidden branch at a chip's columns. -/
def hidOf (w : Vec F S1x704x1024 .bf16) (n : Vec F S1024x1024 .bf16) : Vec F S1024x704 .f32 :=
  matmul dot_S1024x1024_S704x1024_S1024x704_1_1_0_0_n_n none (shapeCast S1024x1024 n shapeCasts_S1024x1024_S1024x1024) (shapeCast S704x1024 w shapeCasts_S1x704x1024_S704x1024) (constant S1024x704 .f32 0x00000000#32)

/-- The branch as a point stores it. -/
def hgOf (w : Vec F S1x704x1024 .bf16) (n : Vec F S1024x1024 .bf16) : Vec F S1x1024x704 .bf16 :=
  shapeCast S1x1024x704 (truncf .bf16 (hidOf w n) bitsLt_bf16_f32) shapeCasts_S1024x704_S1x1024x704

/-- The activation from both branches. -/
def actOf (h u : Vec F S1024x704 .f32) : Vec F S1024x704 .f32 :=
  mulf (mulf h (divf (broadcast S1024x704 (Scalar.ofBits .f32 0x3F800000#32)) (addf (broadcast S1024x704 (Scalar.ofBits .f32 0x3F800000#32)) (exp (subf (broadcast S1024x704 (Scalar.ofBits .f32 0x00000000#32)) h))))) u

/-- The sum over the hidden columns after a point, from the activation and the sum it finds. -/
def downOf (v : Vec F S1024x704 .f32) (w : Vec F S1x704x1024 .bf16) (acc : Vec F S1024x1024 .f32) : Vec F S1024x1024 .f32 :=
  shapeCast S1024x1024 (addf acc (matmul dot_S1024x704_S704x1024_S1024x1024_1_0_0_1_n_n none (truncf .bf16 v bitsLt_bf16_f32) (shapeCast S704x1024 w shapeCasts_S1x704x1024_S704x1024) (constant S1024x1024 .f32 0x00000000#32))) shapeCasts_S1024x1024_S1024x1024

def accOf (x2 : Vec F S1x704x1024 .bf16) (x3 : Vec F S1x704x1024 .bf16) (x4 : Vec F S1x704x1024 .bf16) (n : Vec F S1024x1024 .bf16) (acc : Vec F S1024x1024 .f32) : Vec F S1024x1024 .f32 :=
  downOf (actOf (hidOf x2 n) (hidOf x3 n)) x4 acc

/-- The layer's output, of a block of rows. -/
def rowLayer (x a : Vec F S256x1024 .f32) : Vec F S256x1024 .f32 :=
  addf (shapeCast S256x1024 x shapeCasts_S256x1024_S256x1024) (mulf (broadcast S256x1024 (Scalar.ofBits .f32 0x3F000000#32)) a)

/-- The inverse root of each row's mean square. -/
def rowInv (y : Vec F S256x1024 .f32) : Vec F S256x1 .f32 :=
  rsqrt (addf (divf (shapeCast S256x1 (multiReduction .add [1] S256 (mulf y y) 0x00000000#32 reduces_S256x1024_S256 (.inl rfl) rfl) shapeCasts_S256_S256x1) (broadcast S256x1 (Scalar.ofBits .f32 0x44800000#32))) (broadcast S256x1 (Scalar.ofBits .f32 0x358637BD#32)))

def rowHat (y : Vec F S256x1024 .f32) : Vec F S256x1024 .f32 := mulf y (broadcastTo S256x1024 (rowInv y) broadcasts_S256x1_S256x1024)

/-- The error of the normed output. -/
def rowErr (y t : Vec F S256x1024 .f32) (g : Vec F S1x1024 .f32) : Vec F S256x1024 .f32 :=
  subf (mulf (rowHat y) (broadcastTo S256x1024 (shapeCast S1x1024 g shapeCasts_S1x1024_S1x1024) broadcasts_S1x1024_S256x1024)) (shapeCast S256x1024 t shapeCasts_S256x1024_S256x1024)

/-- The error's cotangent. -/
def rowCot (e : Vec F S256x1024 .f32) : Vec F S256x1024 .f32 := mulf e (broadcast S256x1024 (Scalar.ofBits .f32 0x3A800000#32))

/-- What the rows add to the loss, lane by lane. -/
def addLoss (e : Vec F S256x1024 .f32) (l : Vec F S1x128 .f32) : Vec F S1x128 .f32 :=
  addf (shapeCast S1x128 l shapeCasts_S1x128_S1x128) (broadcastTo S1x128 (divf (mulf (broadcast S1x1 (Scalar.ofBits .f32 0x3F000000#32))
    (shapeCast S1x1 (multiReduction .add [0] S1 (shapeCast S256x1 (multiReduction .add [1] S256 (mulf e e) 0x00000000#32 reduces_S256x1024_S256 (.inl rfl) rfl) shapeCasts_S256_S256x1) 0x00000000#32 reduces_S256x1_S1 (.inl rfl) rfl) shapeCasts_S1_S1x1))
    (broadcast S1x1 (Scalar.ofBits .f32 0x44800000#32))) broadcasts_S1x1_S1x128)

/-- A cotangent times the norm's scale, and the rows' gradient from it. -/
def scaled (c : Vec F S256x1024 .f32) (g : Vec F S1x1024 .f32) : Vec F S256x1024 .f32 := mulf c (broadcastTo S256x1024 (shapeCast S1x1024 g shapeCasts_S1x1024_S1x1024) broadcasts_S1x1024_S256x1024)

def throughNorm (y d : Vec F S256x1024 .f32) : Vec F S256x1024 .f32 :=
  mulf (broadcastTo S256x1024 (rowInv y) broadcasts_S256x1_S256x1024) (subf d (mulf (rowHat y) (broadcastTo S256x1024 (divf (shapeCast S256x1 (multiReduction .add [1] S256 (mulf d (rowHat y)) 0x00000000#32 reduces_S256x1024_S256 (.inl rfl) rfl) shapeCasts_S256_S256x1) (broadcast S256x1 (Scalar.ofBits .f32 0x44800000#32))) broadcasts_S256x1_S256x1024)))

/-- What the rows add to the final norm's gradient. -/
def addScale (y c : Vec F S256x1024 .f32) (d : Vec F S1x1024 .f32) : Vec F S1x1024 .f32 :=
  addf (shapeCast S1x1024 d shapeCasts_S1x1024_S1x1024) (shapeCast S1x1024 (multiReduction .add [0] S1024 (mulf c (rowHat y)) 0x00000000#32 reduces_S256x1024_S1024 (.inl rfl) rfl) shapeCasts_S1024_S1x1024)

/-- One row block's gradient, loss and scale's gradient, from its input rows, its sums over the hidden columns and its target. -/
def rowGrad (x a t : Vec F S256x1024 .f32) (g : Vec F S1x1024 .f32) : Vec F S256x1024 .f32 :=
  throughNorm (rowLayer x a) (scaled (rowCot (rowErr (rowLayer x a) t g)) g)

def rowLoss (x a t : Vec F S256x1024 .f32) (g : Vec F S1x1024 .f32) (l : Vec F S1x128 .f32) : Vec F S1x128 .f32 := addLoss (rowErr (rowLayer x a) t g) l

def rowScale (x a t : Vec F S256x1024 .f32) (g : Vec F S1x1024 .f32) (d : Vec F S1x1024 .f32) : Vec F S1x1024 .f32 := addScale (rowLayer x a) (rowCot (rowErr (rowLayer x a) t g)) d

/-- A row tile's gradient, and the loss and the scale's gradient after it. -/
def dxOf (x0 : Vec F S1024x1024 .f32) (x5 : Vec F S1024x1024 .f32) (x6 : Vec F S1x1024 .f32) (acc : Vec F S1024x1024 .f32) : Vec F S1024x1024 .f32 :=
  putF x0
    (rowGrad (rowsF x0 0 inb_S1024x1024_S256x1024_0_0) (rowsF acc 0 inb_S1024x1024_S256x1024_0_0) (rowsF x5 0 inb_S1024x1024_S256x1024_0_0) x6)
    (rowGrad (rowsF x0 256 inb_S1024x1024_S256x1024_256_0) (rowsF acc 256 inb_S1024x1024_S256x1024_256_0) (rowsF x5 256 inb_S1024x1024_S256x1024_256_0) x6)
    (rowGrad (rowsF x0 512 inb_S1024x1024_S256x1024_512_0) (rowsF acc 512 inb_S1024x1024_S256x1024_512_0) (rowsF x5 512 inb_S1024x1024_S256x1024_512_0) x6)
    (rowGrad (rowsF x0 768 inb_S1024x1024_S256x1024_768_0) (rowsF acc 768 inb_S1024x1024_S256x1024_768_0) (rowsF x5 768 inb_S1024x1024_S256x1024_768_0) x6)

def lossAfter (x0 : Vec F S1024x1024 .f32) (x5 : Vec F S1024x1024 .f32) (x6 : Vec F S1x1024 .f32) (acc : Vec F S1024x1024 .f32) (l : Vec F S1x128 .f32) : Vec F S1x128 .f32 :=
  rowLoss (rowsF x0 768 inb_S1024x1024_S256x1024_768_0) (rowsF acc 768 inb_S1024x1024_S256x1024_768_0) (rowsF x5 768 inb_S1024x1024_S256x1024_768_0) x6
    (rowLoss (rowsF x0 512 inb_S1024x1024_S256x1024_512_0) (rowsF acc 512 inb_S1024x1024_S256x1024_512_0) (rowsF x5 512 inb_S1024x1024_S256x1024_512_0) x6
    (rowLoss (rowsF x0 256 inb_S1024x1024_S256x1024_256_0) (rowsF acc 256 inb_S1024x1024_S256x1024_256_0) (rowsF x5 256 inb_S1024x1024_S256x1024_256_0) x6
    (rowLoss (rowsF x0 0 inb_S1024x1024_S256x1024_0_0) (rowsF acc 0 inb_S1024x1024_S256x1024_0_0) (rowsF x5 0 inb_S1024x1024_S256x1024_0_0) x6
    l)))

def dgAfter (x0 : Vec F S1024x1024 .f32) (x5 : Vec F S1024x1024 .f32) (x6 : Vec F S1x1024 .f32) (acc : Vec F S1024x1024 .f32) (d : Vec F S1x1024 .f32) : Vec F S1x1024 .f32 :=
  rowScale (rowsF x0 768 inb_S1024x1024_S256x1024_768_0) (rowsF acc 768 inb_S1024x1024_S256x1024_768_0) (rowsF x5 768 inb_S1024x1024_S256x1024_768_0) x6
    (rowScale (rowsF x0 512 inb_S1024x1024_S256x1024_512_0) (rowsF acc 512 inb_S1024x1024_S256x1024_512_0) (rowsF x5 512 inb_S1024x1024_S256x1024_512_0) x6
    (rowScale (rowsF x0 256 inb_S1024x1024_S256x1024_256_0) (rowsF acc 256 inb_S1024x1024_S256x1024_256_0) (rowsF x5 256 inb_S1024x1024_S256x1024_256_0) x6
    (rowScale (rowsF x0 0 inb_S1024x1024_S256x1024_0_0) (rowsF acc 0 inb_S1024x1024_S256x1024_0_0) (rowsF x5 0 inb_S1024x1024_S256x1024_0_0) x6
    d)))

/-- The normed rows a point works with: made at a row tile's first point, kept afterwards. -/
def foundN (i : grid0.Coords) (x0 : Vec F S1024x1024 .f32) (x1 : Vec F S1x1024 .f32) (d : Vec F S1024x1024 .bf16) : Vec F S1024x1024 .bf16 :=
  if k0_cond1 i = 1#1 then firstN x0 x1 else d

/-- What a point finds in the sum over the hidden columns: zero at a row tile's first point. -/
def foundAcc (i : grid0.Coords) (d : Vec F S1024x1024 .f32) : Vec F S1024x1024 .f32 := if k0_cond1 i = 1#1 then zeroAcc else d

/-- What a point finds in the loss and in the final norm's gradient: zero at the very first one. -/
def foundLoss (i : grid0.Coords) (d : Vec F S1x128 .f32) : Vec F S1x128 .f32 := if k0_cond2 i = 1#1 then zeroLoss else d

def foundDg (i : grid0.Coords) (d : Vec F S1x1024 .f32) : Vec F S1x1024 .f32 := if k0_cond2 i = 1#1 then zeroDg else d

/-! ## What the body loads and stores -/

/-- The normed rows, both branches and the sum, from what the body loads. -/
theorem n_of {a0 x0 : Vec F S1024x1024 .f32} {a1 x1 : Vec F S1x1024 .f32} (h0 : a0 = x0) (h1 : a1 = x1) : k0_pay39 a0 a1 = firstN x0 x1 := by
  subst h0 h1; rfl

theorem hg_of {a10 x10 : Vec F S1024x1024 .bf16} {a2 x2 : Vec F S1x704x1024 .bf16} (h10 : a10 = x10) (h2 : a2 = x2) : k0_pay46 a10 a2 = hgOf x2 x10 := by
  subst h10 h2; rfl

theorem hu_of {a10 x10 : Vec F S1024x1024 .bf16} {a3 x3 : Vec F S1x704x1024 .bf16} (h10 : a10 = x10) (h3 : a3 = x3) : k0_pay47 a10 a3 = hgOf x3 x10 := by
  subst h10 h3; rfl

theorem acc_of {a10 x10 : Vec F S1024x1024 .bf16} {a2 x2 : Vec F S1x704x1024 .bf16} {a3 x3 : Vec F S1x704x1024 .bf16} {a13 x13 : Vec F S1024x1024 .f32} {a4 x4 : Vec F S1x704x1024 .bf16}
    (h10 : a10 = x10) (h2 : a2 = x2) (h3 : a3 = x3) (h13 : a13 = x13) (h4 : a4 = x4) :
    k0_pay1 (k0_pay44 a10 a2) (k0_pay45 a10 a3) (k0_pay48 a10 a2) k0_pay49 a13 a4 = accOf x2 x3 x4 x10 x13 := by
  subst h10 h2 h3 h13 h4; rfl

/-! Each row block's three results, from what the body loads. -/

section Blocks

variable {ax xx aa xa ay xy : Vec F S256x1024 .f32} {ag xg ad xd : Vec F S1x1024 .f32} {al xl : Vec F S1x128 .f32}
  (hx : ax = xx) (ha : aa = xa) (hy : ay = xy) (hg : ag = xg)
include hx ha hy hg

theorem dx_0 : k0_pay10 (k0_pay2 ag) (k0_pay4 ax aa) (k0_pay5 ax aa) (k0_pay6 ag ax aa ay) k0_pay8 = rowGrad xx xa xy xg := by
  subst hx ha hy hg; rfl

theorem dx_1 : k0_pay19 (k0_pay2 ag) (k0_pay13 ax aa) (k0_pay14 ax aa) (k0_pay15 (k0_pay2 ag) ax aa) ay = rowGrad xx xa xy xg := by
  subst hx ha hy hg; rfl

theorem dx_2 : k0_pay29 (k0_pay22 ax aa) (k0_pay23 ax aa) (k0_pay27 (k0_pay2 ag) ax aa ay) (k0_pay28 (k0_pay2 ag) ax aa ay) = rowGrad xx xa xy xg := by
  subst hx ha hy hg; rfl

theorem dx_3 : k0_pay37 (k0_pay2 ag) (k0_pay32 ax aa) (k0_pay33 ax aa) (k0_pay34 (k0_pay2 ag) ax aa ay) = rowGrad xx xa xy xg := by
  subst hx ha hy hg; rfl

theorem loss_0 (hl : al = xl) : k0_pay7 ag ax aa ay al = rowLoss xx xa xy xg xl := by
  subst hx ha hy hg hl; rfl

theorem loss_1 (hl : al = xl) : k0_pay17 (k0_pay15 (k0_pay2 ag) ax aa) ay al = rowLoss xx xa xy xg xl := by
  subst hx ha hy hg hl; rfl

theorem loss_2 (hl : al = xl) : k0_pay25 (k0_pay2 ag) ax aa ay al = rowLoss xx xa xy xg xl := by
  subst hx ha hy hg hl; rfl

theorem loss_3 (hl : al = xl) : k0_pay35 (k0_pay34 (k0_pay2 ag) ax aa ay) al = rowLoss xx xa xy xg xl := by
  subst hx ha hy hg hl; rfl

theorem dg_0 (hd : ad = xd) : k0_pay11 (k0_pay5 ax aa) (k0_pay6 ag ax aa ay) k0_pay8 ad = rowScale xx xa xy xg xd := by
  subst hx ha hy hg hd; rfl

theorem dg_1 (hd : ad = xd) : k0_pay20 (k0_pay14 ax aa) (k0_pay15 (k0_pay2 ag) ax aa) ay ad = rowScale xx xa xy xg xd := by
  subst hx ha hy hg hd; rfl

theorem dg_2 (hd : ad = xd) : k0_pay30 (k0_pay23 ax aa) (k0_pay26 (k0_pay2 ag) ax aa ay) ad = rowScale xx xa xy xg xd := by
  subst hx ha hy hg hd; rfl

theorem dg_3 (hd : ad = xd) : k0_pay38 (k0_pay33 ax aa) (k0_pay34 (k0_pay2 ag) ax aa ay) ad = rowScale xx xa xy xg xd := by
  subst hx ha hy hg hd; rfl

end Blocks

set_option maxHeartbeats 16000000 in
/-- The body at any grid point. -/
theorem wp_body (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024x704 .bf16) (harg10 : arg10.IsWhole) (arg11 : Memref sig .tc .vmem S1x1024x704 .bf16) (harg11 : arg11.IsWhole) (arg12 : Memref sig .tc .vmem S1024x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1024x1024 .f32) (harg15 : arg15.IsWhole)
    (x0 : Vec F S1024x1024 .f32) (x1 : Vec F S1x1024 .f32) (x2 : Vec F S1x704x1024 .bf16) (x3 : Vec F S1x704x1024 .bf16) (x4 : Vec F S1x704x1024 .bf16) (x5 : Vec F S1024x1024 .f32) (x6 : Vec F S1x1024 .f32) (d7 : Vec F S1024x1024 .f32) (d10 : Vec F S1024x1024 .bf16) (d11 : Vec F S1x128 .f32) (d12 : Vec F S1x1024 .f32) (d13 : Vec F S1024x1024 .f32)
    (h21 : k0_cond2 i = 1#1 → k0_cond1 i = 1#1) (h31 : k0_cond3 i = 1#1 → ¬k0_cond1 i = 1#1)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ (∃ d, owns (c : Thread nD τ) arg10 fullShare d) ∗ (∃ d, owns (c : Thread nD τ) arg11 fullShare d) ∗ owns (c : Thread nD τ) arg12 fullShare d10 ∗ owns (c : Thread nD τ) arg13 fullShare d11 ∗ owns (c : Thread nD τ) arg14 fullShare d12 ∗ owns (c : Thread nD τ) arg15 fullShare d13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (if k0_cond3 i = 1#1 then dxOf x0 x5 x6 (accOf x2 x3 x4 (foundN i x0 x1 d10) (foundAcc i d13)) else d7) ∗ owns (c : Thread nD τ) arg10 fullShare (hgOf x2 (foundN i x0 x1 d10)) ∗ owns (c : Thread nD τ) arg11 fullShare (hgOf x3 (foundN i x0 x1 d10)) ∗ owns (c : Thread nD τ) arg12 fullShare (foundN i x0 x1 d10) ∗ owns (c : Thread nD τ) arg13 fullShare (if k0_cond3 i = 1#1 then lossAfter x0 x5 x6 (accOf x2 x3 x4 (foundN i x0 x1 d10) (foundAcc i d13)) (foundLoss i d11) else foundLoss i d11) ∗ owns (c : Thread nD τ) arg14 fullShare (if k0_cond3 i = 1#1 then dgAfter x0 x5 x6 (accOf x2 x3 x4 (foundN i x0 x1 d10) (foundAcc i d13)) (foundDg i d12) else foundDg i d12) ∗ owns (c : Thread nD τ) arg15 fullShare (accOf x2 x3 x4 (foundN i x0 x1 d10) (foundAcc i d13))) -∗ K ⟨⟩))
      ⊢ wp frame (wpE (defs₀ (F := F)) Variants.none c none) E (cc0_ffn2_fwd_loss i arg2 harg2 arg3 harg3 arg4 harg4 arg5 harg5 arg6 harg6 arg7 harg7 arg8 harg8 arg9 harg9 arg10 harg10 arg11 harg11 arg12 harg12 arg13 harg13 arg14 harg14 arg15 harg15) K := by
  have hc : (k0_cond1 i = 1#1 ∧ k0_cond2 i = 1#1 ∧ ¬k0_cond3 i = 1#1) ∨ (k0_cond1 i = 1#1 ∧ ¬k0_cond2 i = 1#1 ∧ ¬k0_cond3 i = 1#1) ∨
      (¬k0_cond1 i = 1#1 ∧ ¬k0_cond2 i = 1#1 ∧ k0_cond3 i = 1#1) ∨ (¬k0_cond1 i = 1#1 ∧ ¬k0_cond2 i = 1#1 ∧ ¬k0_cond3 i = 1#1) := by
    by_cases h1 : k0_cond1 i = 1#1 <;> by_cases h2 : k0_cond2 i = 1#1 <;> by_cases h3 : k0_cond3 i = 1#1 <;> simp_all
  rw [cc0_ffn2_fwd_loss_eq_skeleton]; unfold cc0_ffn2_fwd_loss_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, Hk⟩
  subst hf0 hf1 hf2 hf3 hf4 hf5 hf6 hf7 hf10 hf11 hf12 hf13
  obtain ⟨h1, h2, h3⟩ | ⟨h1, h2, h3⟩ | ⟨h1, h2, h3⟩ | ⟨h1, h2, h3⟩ := hc
  all_goals
    sl_exec (disch := first | sl_exact h1 | sl_exact h2 | sl_exact h3)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]; swap
    isplitl [H8]
    · iexists _; isplitr; swap; · iexact H8
      ipureintro
      refine (View.read_writes_full _ _ _ _ _).trans (hg_of ((View.readAt_full _ _ _).trans ?_) (View.readAt_full _ _ _))
      first
        | exact (show foundN i _ _ _ = _ from if_neg h1).symm
        | exact (View.read_writes_full _ _ _ _ _).trans ((n_of (View.readAt_full _ _ _) (View.readAt_full _ _ _)).trans (show foundN i _ _ _ = _ from if_pos h1).symm)
    isplitl [H9]
    · iexists _; isplitr; swap; · iexact H9
      ipureintro
      refine (View.read_writes_full _ _ _ _ _).trans (hu_of ((View.readAt_full _ _ _).trans ?_) (View.readAt_full _ _ _))
      first
        | exact (show foundN i _ _ _ = _ from if_neg h1).symm
        | exact (View.read_writes_full _ _ _ _ _).trans ((n_of (View.readAt_full _ _ _) (View.readAt_full _ _ _)).trans (show foundN i _ _ _ = _ from if_pos h1).symm)
    isplitl [H10]
    · iexists _; isplitr; swap; · iexact H10
      ipureintro
      first
        | exact (show foundN i _ _ _ = _ from if_neg h1).symm
        | exact (View.read_writes_full _ _ _ _ _).trans ((n_of (View.readAt_full _ _ _) (View.readAt_full _ _ _)).trans (show foundN i _ _ _ = _ from if_pos h1).symm)
    isplitl [H11]; swap
    isplitl [H12]; swap
    iexists _; isplitr; swap; · iexact H13
    ipureintro
    rotate_left
    iexists _; isplitr; swap; · iexact H12
    ipureintro
    rotate_left
    iexists _; isplitr; swap; · iexact H11
    ipureintro
    rotate_left
    iexists _; isplitr; swap; · iexact H7
    ipureintro
    rotate_left
    on_goal 4 => first
      | exact (if_neg h3).symm
      | refine (read_putF arg9 _ _ [] _ _ _ _
          (dx_0 (loadF arg2 _ 0 _ rfl) (loadF arg15 _ 0 _ ?_) (loadF arg7 _ 0 _ rfl) (View.readAt_full _ _ _))
          (dx_1 (loadF arg2 _ 256 _ rfl) (loadF arg15 _ 256 _ ?_) (loadF arg7 _ 256 _ rfl) (View.readAt_full _ _ _))
          (dx_2 (loadF arg2 _ 512 _ rfl) (loadF arg15 _ 512 _ ?_) (loadF arg7 _ 512 _ rfl) (View.readAt_full _ _ _))
          (dx_3 (loadF arg2 _ 768 _ rfl) (loadF arg15 _ 768 _ ?_) (loadF arg7 _ 768 _ rfl) (View.readAt_full _ _ _))).trans (if_pos h3).symm
    on_goal 3 => first
      | exact ((View.read_writes_full _ _ _ _ _).trans (show foundLoss i _ = _ from if_pos h2).symm).trans (if_neg h3).symm
      | exact (show foundLoss i _ = _ from if_neg h2).symm.trans (if_neg h3).symm
      | refine ((View.read_writes_full _ _ _ _ _).trans (loss_3 (loadF arg2 _ 768 _ rfl) (loadF arg15 _ 768 _ ?_) (loadF arg7 _ 768 _ rfl) (View.readAt_full _ _ _)
          ((View.readAt_full _ _ _).trans ((View.read_writes_full _ _ _ _ _).trans (loss_2 (loadF arg2 _ 512 _ rfl) (loadF arg15 _ 512 _ ?_) (loadF arg7 _ 512 _ rfl) (View.readAt_full _ _ _)
          ((View.readAt_full _ _ _).trans ((View.read_writes_full _ _ _ _ _).trans (loss_1 (loadF arg2 _ 256 _ rfl) (loadF arg15 _ 256 _ ?_) (loadF arg7 _ 256 _ rfl) (View.readAt_full _ _ _)
          ((View.readAt_full _ _ _).trans ((View.read_writes_full _ _ _ _ _).trans (loss_0 (loadF arg2 _ 0 _ rfl) (loadF arg15 _ 0 _ ?_) (loadF arg7 _ 0 _ rfl) (View.readAt_full _ _ _)
          ((View.readAt_full _ _ _).trans (show foundLoss i _ = _ from if_neg h2).symm)))))))))))).trans (if_pos h3).symm
    on_goal 2 => first
      | exact ((View.read_writes_full _ _ _ _ _).trans (show foundDg i _ = _ from if_pos h2).symm).trans (if_neg h3).symm
      | exact (show foundDg i _ = _ from if_neg h2).symm.trans (if_neg h3).symm
      | refine ((View.read_writes_full _ _ _ _ _).trans (dg_3 (loadF arg2 _ 768 _ rfl) (loadF arg15 _ 768 _ ?_) (loadF arg7 _ 768 _ rfl) (View.readAt_full _ _ _)
          ((View.readAt_full _ _ _).trans ((View.read_writes_full _ _ _ _ _).trans (dg_2 (loadF arg2 _ 512 _ rfl) (loadF arg15 _ 512 _ ?_) (loadF arg7 _ 512 _ rfl) (View.readAt_full _ _ _)
          ((View.readAt_full _ _ _).trans ((View.read_writes_full _ _ _ _ _).trans (dg_1 (loadF arg2 _ 256 _ rfl) (loadF arg15 _ 256 _ ?_) (loadF arg7 _ 256 _ rfl) (View.readAt_full _ _ _)
          ((View.readAt_full _ _ _).trans ((View.read_writes_full _ _ _ _ _).trans (dg_0 (loadF arg2 _ 0 _ rfl) (loadF arg15 _ 0 _ ?_) (loadF arg7 _ 0 _ rfl) (View.readAt_full _ _ _)
          ((View.readAt_full _ _ _).trans (show foundDg i _ = _ from if_neg h2).symm)))))))))))).trans (if_pos h3).symm
    all_goals refine (View.read_writes_full _ _ _ _ _).trans (acc_of ((View.readAt_full _ _ _).trans ?_) (View.readAt_full _ _ _) (View.readAt_full _ _ _) ((View.readAt_full _ _ _).trans ?_) (View.readAt_full _ _ _))
    all_goals first
      | exact (show foundN i _ _ _ = _ from if_neg h1).symm
      | exact (View.read_writes_full _ _ _ _ _).trans ((n_of (View.readAt_full _ _ _) (View.readAt_full _ _ _)).trans (show foundN i _ _ _ = _ from if_pos h1).symm)
      | exact (show foundAcc i _ = _ from if_neg h1).symm
      | exact (View.read_writes_full _ _ _ _ _).trans (show foundAcc i _ = _ from if_pos h1).symm

end Cert.FfnLossIdeal.Body

end
-- ==== Proof.FfnLossFrame.lean ====
module

public import proofs.«01_k».proof.Proof.FfnLossRun
public import proofs.«01_k».proof.Proof.Gen.FfnLossIdeal.Frame
public import Idealize.ShloMosaic.Lib.Claim
public import Idealize.ShloMosaic.Lib.Pipeline.TableIdle

@[expose] public section

set_option maxRecDepth 16384

noncomputable section

/-! The launch of the feed-forward layer with the loss: what its outputs hold point by point, the invariant that carries the
sum over the hidden columns from point to point, and the frame. -/

namespace Cert.FfnLossIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnLossIdeal Cert.FfnLossIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold -/

/-- The input's gradient, both hidden branches, the normed rows, the loss, the final norm's gradient, and the sum over the
hidden columns. -/
abbrev Outs (F : FTy → Type) [FloatOps F] : Type :=
  Vec F S1024x1024 .f32 × Vec F S1x1024x704 .bf16 × Vec F S1x1024x704 .bf16 × Vec F S1024x1024 .bf16 × Vec F S1x128 .f32 × Vec F S1x1024 .f32 × Vec F S1024x1024 .f32

/-- The normed rows a point works with. -/
def normAt (c : Dev nD) (t : Fin cfg0.N) (d10 : Vec F S1024x1024 .bf16) : Vec F S1024x1024 .bf16 := foundN (grid0.coords t) (iblk m c 0 t) (iblk m c 1 t) d10

/-- The sum over the hidden columns after a point. -/
def sumAt (c : Dev nD) (t : Fin cfg0.N) (d10 : Vec F S1024x1024 .bf16) (d13 : Vec F S1024x1024 .f32) : Vec F S1024x1024 .f32 :=
  accOf (iblk m c 2 t) (iblk m c 3 t) (iblk m c 4 t) (normAt m c t d10) (foundAcc (grid0.coords t) d13)

/-- One point's outputs, from what it finds in the normed rows, the loss, the final norm's gradient and the scratch. -/
def point (c : Dev nD) (t : Fin cfg0.N) (d10 : Vec F S1024x1024 .bf16) (d11 : Vec F S1x128 .f32) (d12 : Vec F S1x1024 .f32) (d13 : Vec F S1024x1024 .f32) : Outs F :=
  (dxOf (iblk m c 0 t) (iblk m c 5 t) (iblk m c 6 t) (sumAt m c t d10 d13), hgOf (iblk m c 2 t) (normAt m c t d10), hgOf (iblk m c 3 t) (normAt m c t d10), normAt m c t d10,
    (if k0_cond3 (grid0.coords t) = 1#1 then lossAfter (iblk m c 0 t) (iblk m c 5 t) (iblk m c 6 t) (sumAt m c t d10 d13) (foundLoss (grid0.coords t) d11) else foundLoss (grid0.coords t) d11),
    (if k0_cond3 (grid0.coords t) = 1#1 then dgAfter (iblk m c 0 t) (iblk m c 5 t) (iblk m c 6 t) (sumAt m c t d10 d13) (foundDg (grid0.coords t) d12) else foundDg (grid0.coords t) d12),
    sumAt m c t d10 d13)

/-- The outputs after each point. The first point clears all it would find. -/
def outsAt (c : Dev nD) : (n : ℕ) → n < cfg0.N → Outs F
  | 0, hn => point m c ⟨0, hn⟩ (firstN (iblk m c 0 ⟨0, hn⟩) (iblk m c 1 ⟨0, hn⟩)) zeroLoss zeroDg zeroAcc
  | n + 1, hn =>
    let p := outsAt c n (Nat.lt_of_succ_lt hn)
    point m c ⟨n + 1, hn⟩ p.2.2.2.1 p.2.2.2.2.1 p.2.2.2.2.2.1 p.2.2.2.2.2.2

/-- Each fourth point starts a row tile, -/
theorem starts : ∀ t : Fin cfg0.N, t.val % 4 = 0 → k0_cond1 (grid0.coords t) = 1#1 :=
  (by decide +kernel : ∀ t : Fin grid0.N, t.val % 4 = 0 → k0_cond1 (grid0.coords t) = 1#1)

/-- and the first one clears the loss and the final norm's gradient. -/
theorem clears : ∀ t : Fin cfg0.N, t.val = 0 → k0_cond2 (grid0.coords t) = 1#1 :=
  (by decide +kernel : ∀ t : Fin grid0.N, t.val = 0 → k0_cond2 (grid0.coords t) = 1#1)

theorem cond21 : ∀ t : Fin cfg0.N, k0_cond2 (grid0.coords t) = 1#1 → k0_cond1 (grid0.coords t) = 1#1 :=
  (by decide +kernel : ∀ t : Fin grid0.N, k0_cond2 (grid0.coords t) = 1#1 → k0_cond1 (grid0.coords t) = 1#1)

theorem cond31 : ∀ t : Fin cfg0.N, k0_cond3 (grid0.coords t) = 1#1 → ¬k0_cond1 (grid0.coords t) = 1#1 :=
  (by decide +kernel : ∀ t : Fin grid0.N, k0_cond3 (grid0.coords t) = 1#1 → ¬k0_cond1 (grid0.coords t) = 1#1)

/-- The outputs after a point, from anything that agrees with what the point before left wherever it is not cleared. -/
theorem outsAt_eq (c : Dev nD) (t : Fin cfg0.N) (d10 : Vec F S1024x1024 .bf16) (d11 : Vec F S1x128 .f32) (d12 : Vec F S1x1024 .f32) (d13 : Vec F S1024x1024 .f32)
    (h10 : t.val % 4 = 0 ∨ d10 = (outsAt m c (t.val - 1) (Nat.lt_of_le_of_lt (Nat.sub_le _ _) t.isLt)).2.2.2.1)
    (h11 : t.val = 0 ∨ d11 = (outsAt m c (t.val - 1) (Nat.lt_of_le_of_lt (Nat.sub_le _ _) t.isLt)).2.2.2.2.1)
    (h12 : t.val = 0 ∨ d12 = (outsAt m c (t.val - 1) (Nat.lt_of_le_of_lt (Nat.sub_le _ _) t.isLt)).2.2.2.2.2.1)
    (h13 : t.val % 4 = 0 ∨ d13 = (outsAt m c (t.val - 1) (Nat.lt_of_le_of_lt (Nat.sub_le _ _) t.isLt)).2.2.2.2.2.2) :
    outsAt m c t.val t.isLt = point m c t d10 d11 d12 d13 := by
  have e : ∃ p10 p11 p12 p13, outsAt m c t.val t.isLt = point m c t p10 p11 p12 p13
      ∧ (t.val % 4 = 0 ∨ d10 = p10) ∧ (t.val = 0 ∨ d11 = p11) ∧ (t.val = 0 ∨ d12 = p12) ∧ (t.val % 4 = 0 ∨ d13 = p13) := by
    obtain ⟨n, hn⟩ := t
    cases n with
    | zero => exact ⟨_, _, _, _, rfl, .inl rfl, .inl rfl, .inl rfl, .inl rfl⟩
    | succ n => exact ⟨_, _, _, _, rfl, h10, h11, h12, h13⟩
  obtain ⟨p10, p11, p12, p13, hp, g10, g11, g12, g13⟩ := e
  rw [hp]; unfold point sumAt normAt
  have e10 : foundN (grid0.coords t) (iblk m c 0 t) (iblk m c 1 t) d10 = foundN (grid0.coords t) (iblk m c 0 t) (iblk m c 1 t) p10 := by
    rcases g10 with h | h
    · unfold foundN; rw [if_pos (starts t h), if_pos (starts t h)]
    · rw [h]
  have e11 : foundLoss (grid0.coords t) d11 = foundLoss (grid0.coords t) p11 := by
    rcases g11 with h | h
    · unfold foundLoss; rw [if_pos (clears t h), if_pos (clears t h)]
    · rw [h]
  have e12 : foundDg (grid0.coords t) d12 = foundDg (grid0.coords t) p12 := by
    rcases g12 with h | h
    · unfold foundDg; rw [if_pos (clears t h), if_pos (clears t h)]
    · rw [h]
  have e13 : foundAcc (grid0.coords t) d13 = foundAcc (grid0.coords t) p13 := by
    rcases g13 with h | h
    · unfold foundAcc; rw [if_pos (starts t h), if_pos (starts t h)]
    · rw [h]
  rw [e10, e11, e12, e13]

/-! ## The invariant -/

/-- The scratch, whole. -/
abbrev scr : Memref sig .tc .vmem S1024x1024 .f32 := Memref.whole cc0_scratch0

/-- Before the first point the scratch holds anything, afterwards what the point before left. -/
def PhiS (c : Dev nD) : (n : ℕ) → n ≤ cfg0.N → sProp 𝕄
  | 0, _ => Pipeline.ΦA spec0 c
  | n + 1, hn => iprop(owns (c : Thread nD τ) scr fullShare ((outsAt m c n hn).2.2.2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scr fullShare ((outsAt m c n hn).2.2.2.2.2.2) ∗ (∃ r, prngReg c r)) := rfl

theorem PhiS_pos (c : Dev nD) (n : ℕ) (h : n ≤ cfg0.N) (hz : n ≠ 0) :
    PhiS m c n h = iprop(owns (c : Thread nD τ) scr fullShare ((outsAt m c (n - 1) (by omega)).2.2.2.2.2.2) ∗ (∃ r, prngReg c r)) := by
  cases n with
  | zero => exact absurd rfl hz
  | succ n => rfl

theorem PhiA_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-! ## The proof data -/

/-- The launch's proof data: each input's block stays, each output holds `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨9, _⟩ => (outsAt m c t.val t.isLt).2.2.1
    | ⟨10, _⟩ => (outsAt m c t.val t.isLt).2.2.2.1
    | ⟨11, _⟩ => (outsAt m c t.val t.isLt).2.2.2.2.1
    | ⟨12, _⟩ => (outsAt m c t.val t.isLt).2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

section Windows

variable (c : Dev nD) (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = (outsAt m c t.val t.isLt).1 := by dsimp only [dats]
theorem after0_8 : (dats m 0 c).after 8 t = (outsAt m c t.val t.isLt).2.1 := by dsimp only [dats]
theorem after0_9 : (dats m 0 c).after 9 t = (outsAt m c t.val t.isLt).2.2.1 := by dsimp only [dats]
theorem after0_10 : (dats m 0 c).after 10 t = (outsAt m c t.val t.isLt).2.2.2.1 := by dsimp only [dats]
theorem after0_11 : (dats m 0 c).after 11 t = (outsAt m c t.val t.isLt).2.2.2.2.1 := by dsimp only [dats]
theorem after0_12 : (dats m 0 c).after 12 t = (outsAt m c t.val t.isLt).2.2.2.2.2.1 := by dsimp only [dats]
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d
theorem before0_6 (d) : (dats m 0 c).before 6 t d = iblk m c 6 t :=
  before0_6_of m (dats m 0 c) (A_eq m c 6) (after0_6 m c) t d

end Windows

/-- A point that neither starts a row tile nor ends one leaves the loss, -/
theorem keeps_loss (c : Dev nD) (t : Fin cfg0.N) (hz : t.val ≠ 0) (h2 : ¬k0_cond2 (grid0.coords t) = 1#1) (h3 : ¬k0_cond3 (grid0.coords t) = 1#1) :
    (outsAt m c t.val t.isLt).2.2.2.2.1 = (outsAt m c (t.val - 1) (Nat.lt_of_le_of_lt (Nat.sub_le _ _) t.isLt)).2.2.2.2.1 := by
  rw [outsAt_eq m c t _ _ _ _ (.inr rfl) (.inr rfl) (.inr rfl) (.inr rfl)]
  unfold point foundLoss
  dsimp only
  rw [if_neg h3, if_neg h2]

/-- A point that neither starts a row tile nor ends one leaves the final norm's gradient, -/
theorem keeps_dg (c : Dev nD) (t : Fin cfg0.N) (hz : t.val ≠ 0) (h2 : ¬k0_cond2 (grid0.coords t) = 1#1) (h3 : ¬k0_cond3 (grid0.coords t) = 1#1) :
    (outsAt m c t.val t.isLt).2.2.2.2.2.1 = (outsAt m c (t.val - 1) (Nat.lt_of_le_of_lt (Nat.sub_le _ _) t.isLt)).2.2.2.2.2.1 := by
  rw [outsAt_eq m c t _ _ _ _ (.inr rfl) (.inr rfl) (.inr rfl) (.inr rfl)]
  unfold point foundDg
  dsimp only
  rw [if_neg h3, if_neg h2]

/-- and one that does not start a row tile the normed rows. -/
theorem keeps_n (c : Dev nD) (t : Fin cfg0.N) (hz : t.val ≠ 0) (h1 : ¬k0_cond1 (grid0.coords t) = 1#1) :
    (outsAt m c t.val t.isLt).2.2.2.1 = (outsAt m c (t.val - 1) (Nat.lt_of_le_of_lt (Nat.sub_le _ _) t.isLt)).2.2.2.1 := by
  rw [outsAt_eq m c t _ _ _ _ (.inr rfl) (.inr rfl) (.inr rfl) (.inr rfl)]
  unfold point normAt foundN
  dsimp only
  rw [if_neg h1]

theorem idle_loss (i : grid0.Coords) (h : cfg0.idle 11 i = true) : ¬k0_cond2 i = 1#1 ∧ ¬k0_cond3 i = 1#1 := by
  have h' : (!(k0_cond2 i == 1#1) && !(k0_cond3 i == 1#1)) = true := h
  constructor
  · intro h2; rw [h2] at h'; exact absurd h' (by simp)
  · intro h3; rw [h3, Bool.and_comm] at h'; exact absurd h' (by simp)

theorem fresh_loss : ∀ t : Fin cfg0.N, cfg0.fresh 11 t.val = true → t.val = 0 := by
  intro t ht
  rw [Cfg.fresh_tab cfg0 11 (fun n => n % 16 == 0) rfl (by decide +kernel) t.val (Nat.le_of_lt t.isLt)] at ht
  have : cfg0.N = 16 := N_0
  have := t.isLt
  have := beq_iff_eq.mp ht
  omega

/-- What a point finds there: what the point before left, or anything where it is cleared. -/
theorem before_11 (c : Dev nD) (t : Fin cfg0.N) (d) :
    t.val = 0 ∨ (dats m 0 c).before 11 t d = (outsAt m c (t.val - 1) (Nat.lt_of_le_of_lt (Nat.sub_le _ _) t.isLt)).2.2.2.2.1 := by
  have h := (dats m 0 c).before_out_traj 11 rfl (fun _ _ => rfl) (fun t hz hi _ => by
    rw [after0_11, after0_11]; exact keeps_loss m c t hz (idle_loss _ hi).1 (idle_loss _ hi).2) t.val t rfl d
  by_cases hf : cfg0.fresh 11 t.val = true
  · exact .inl (fresh_loss t hf)
  · rw [if_neg hf] at h
    exact .inr (h.trans (after0_11 m c _))

theorem idle_dg (i : grid0.Coords) (h : cfg0.idle 12 i = true) : ¬k0_cond2 i = 1#1 ∧ ¬k0_cond3 i = 1#1 := idle_loss i h

theorem fresh_dg : ∀ t : Fin cfg0.N, cfg0.fresh 12 t.val = true → t.val = 0 := by
  intro t ht
  rw [Cfg.fresh_tab cfg0 12 (fun n => n % 16 == 0) rfl (by decide +kernel) t.val (Nat.le_of_lt t.isLt)] at ht
  have : cfg0.N = 16 := N_0
  have := t.isLt
  have := beq_iff_eq.mp ht
  omega

/-- What a point finds there: what the point before left, or anything where it is cleared. -/
theorem before_12 (c : Dev nD) (t : Fin cfg0.N) (d) :
    t.val = 0 ∨ (dats m 0 c).before 12 t d = (outsAt m c (t.val - 1) (Nat.lt_of_le_of_lt (Nat.sub_le _ _) t.isLt)).2.2.2.2.2.1 := by
  have h := (dats m 0 c).before_out_traj 12 rfl (fun _ _ => rfl) (fun t hz hi _ => by
    rw [after0_12, after0_12]; exact keeps_dg m c t hz (idle_dg _ hi).1 (idle_dg _ hi).2) t.val t rfl d
  by_cases hf : cfg0.fresh 12 t.val = true
  · exact .inl (fresh_dg t hf)
  · rw [if_neg hf] at h
    exact .inr (h.trans (after0_12 m c _))

theorem idle_n (i : grid0.Coords) (h : cfg0.idle 10 i = true) : ¬k0_cond1 i = 1#1 := by
  have h' : (!(k0_cond1 i == 1#1)) = true := h
  intro h1; rw [h1] at h'; exact absurd h' (by decide)

theorem fresh_n : ∀ t : Fin cfg0.N, cfg0.fresh 10 t.val = true → t.val % 4 = 0 := by
  intro t ht
  rw [Cfg.fresh_tab cfg0 10 (fun n => n % 4 == 0) rfl (by decide +kernel) t.val (Nat.le_of_lt t.isLt)] at ht
  exact beq_iff_eq.mp ht

/-- The normed rows found at a point, likewise. -/
theorem before_10 (c : Dev nD) (t : Fin cfg0.N) (d) :
    t.val % 4 = 0 ∨ (dats m 0 c).before 10 t d = (outsAt m c (t.val - 1) (Nat.lt_of_le_of_lt (Nat.sub_le _ _) t.isLt)).2.2.2.1 := by
  have h := (dats m 0 c).before_out_traj 10 rfl (fun _ _ => rfl) (fun t hz hi _ => by
    rw [after0_10, after0_10]; exact keeps_n m c t hz (idle_n _ hi)) t.val t rfl d
  by_cases hf : cfg0.fresh 10 t.val = true
  · exact .inl (fresh_n t hf)
  · rw [if_neg hf] at h
    exact .inr (h.trans (after0_10 m c _))

/-- Where the input's gradient is not stored its block is not written back. -/
theorem noFlush_7 : ∀ t : Fin cfg0.N, ¬ k0_cond3 (grid0.coords t) = 1#1 → (cfg0.win 7).flush t = false :=
  (by decide +kernel : ∀ t : Fin grid0.N, ¬ k0_cond3 (grid0.coords t) = 1#1 → win0_7.flush t = false)

/-- A window left at what the proof data says, where an idle point finds just that. -/
theorem leaves_of (c : Dev nD) (w : Fin cfg0.W) (t : Fin cfg0.N) (d : (cfg0.win w).block.Idx → Elt F (cfg0.win w).elt)
    (h : cfg0.idle w (grid0.coords t) = true → (dats m 0 c).before w t d = (dats m 0 c).after w t) :
    owns (c : Thread nD τ) ((cfg0.win w).stage (cfg0.slots t w)) fullShare ((dats m 0 c).after w t) ⊢ (dats m 0 c).leavesExact w t := by
  unfold Dat.leavesExact
  by_cases hi : cfg0.idle w (grid0.coords t) = true
  · rw [show cfg0.idle w (cfg0.grid.coords t) = true from hi]
    by_cases hf : (cfg0.win w).flush t = true
    · rw [hf]
    · rw [Bool.not_eq_true] at hf
      rw [hf]
      dsimp only
      rw [← h hi]
      iintro H
      iexists d
      iexact H
  · rw [Bool.not_eq_true] at hi
    rw [show cfg0.idle w (cfg0.grid.coords t) = false from hi]

/-- A window that is written at a point is left at what the proof data says. -/
theorem leaves_busy (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The scratch before a point: what the point before left, or anything at the first. -/
theorem Phi_in (c : Dev nD) (t : Fin cfg0.N) :
    (dats m 0 c).Φ t.castSucc ⊢ iprop(∃ d, ⌜t.val % 4 = 0 ∨ d = (outsAt m c (t.val - 1) (Nat.lt_of_le_of_lt (Nat.sub_le _ _) t.isLt)).2.2.2.2.2.2⌝ ∗ owns (c : Thread nD τ) scr fullShare d ∗ (∃ r, prngReg c r)) := by
  rw [PhiS_castSucc m c t]
  by_cases hz : t.val = 0
  · rw [PhiS_zero m c _ _ hz, PhiA_eq]
    iintro ⟨⟨%d, H⟩, Hg⟩
    iexists d
    isplitr; · ipureintro; exact .inl (by omega)
    isplitl [H]; · iexact H
    iexact Hg
  · rw [PhiS_pos m c _ _ hz]
    iintro ⟨H, Hg⟩
    iexists _
    isplitr; · ipureintro; exact .inr rfl
    isplitl [H]; · iexact H
    iexact Hg

set_option maxHeartbeats 4000000 in
/-- The body at any point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_busy m c 0 t rfl, after0_0, leaves_busy m c 1 t rfl, after0_1, leaves_busy m c 2 t rfl, after0_2, leaves_busy m c 3 t rfl, after0_3, leaves_busy m c 4 t rfl, after0_4,
    leaves_busy m c 5 t rfl, after0_5, leaves_busy m c 6 t rfl, after0_6, leaves_busy m c 8 t rfl, after0_8, leaves_busy m c 9 t rfl, after0_9]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HP' := (Phi_in m c t) $$ HP
  icases HP' with ⟨%d13, %h13, HS, Hg⟩
  have hO := outsAt_eq m c t _ _ _ d13 (before_10 m c t d10) (before_11 m c t d11) (before_12 m c t d12) h13
  have k10 : cfg0.idle 10 (grid0.coords t) = true → (dats m 0 c).before 10 t d10 = (dats m 0 c).after 10 t := fun hi => by
    rw [after0_10, hO]; unfold point normAt foundN; dsimp only
    rw [if_neg (idle_n _ hi)]
  have k11 : cfg0.idle 11 (grid0.coords t) = true → (dats m 0 c).before 11 t d11 = (dats m 0 c).after 11 t := fun hi => by
    rw [after0_11, hO]; unfold point foundLoss; dsimp only
    rw [if_neg (idle_loss _ hi).2, if_neg (idle_loss _ hi).1]
  have k12 : cfg0.idle 12 (grid0.coords t) = true → (dats m 0 c).before 12 t d12 = (dats m 0 c).after 12 t := fun hi => by
    rw [after0_12, hO]; unfold point foundDg; dsimp only
    rw [if_neg (idle_dg _ hi).2, if_neg (idle_dg _ hi).1]
  have a7 := (after0_7 m c t).trans (congrArg (fun p => p.1) hO)
  have a10 := (after0_10 m c t).trans (congrArg (fun p => p.2.2.2.1) hO)
  have a11 := (after0_11 m c t).trans (congrArg (fun p => p.2.2.2.2.1) hO)
  have a12 := (after0_12 m c t).trans (congrArg (fun p => p.2.2.2.2.2.1) hO)
  rw [hO]
  iapply (wp_body c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ _ _ (cond21 t) (cond31 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · by_cases h3 : k0_cond3 (grid0.coords t) = 1#1
    · rw [if_pos h3, leaves_busy m c 7 t (by show (!(k0_cond3 (grid0.coords t) == 1#1)) = false; rw [h3]; rfl), a7]
      iexact H7
    · rw [if_neg h3, Dat.leavesExact_idle (dats m 0 c) 7 t (by show (!(k0_cond3 (grid0.coords t) == 1#1)) = true; rw [beq_eq_false_iff_ne.mpr h3]; rfl) (noFlush_7 t h3)]
      iexists d7
      iexact H7
  isplitl [H8]; · iexact H8
  isplitl [H9]; · iexact H9
  isplitl [H10]
  · iapply (leaves_of m c 10 t d10 k10)
    rw [a10]
    iexact H10
  isplitl [H11]
  · iapply (leaves_of m c 11 t d11 k11)
    rw [a11]
    iexact H11
  iapply (leaves_of m c 12 t d12 k12)
  rw [a12]
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨HS, Hg⟩
  isplitl [HS]
  · iexists _; iexact HS
  iexact Hg

/-! ## The run and the frame -/

set_option backward.isDefEq.respectTransparency.types false in
/-- The launch runs: the arrays end at what the proof data says, the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

/-- The run, with each result named by the proof data. -/
theorem run_blocks : θ_run defs (onTc (τ := τ) (main (F := F))) ⟨m, fun _ => 0, ρ⟩ (fun r => ∀ c : Dev nD,
      r.2.mem ((c.tc : Thread nD τ).loc main_v12_0) = (dats m 0 c).arrAt 7 cfg0.N
      ∧ r.2.mem ((c.tc : Thread nD τ).loc main_v12_1) = (dats m 0 c).arrAt 8 cfg0.N
      ∧ r.2.mem ((c.tc : Thread nD τ).loc main_v12_2) = (dats m 0 c).arrAt 9 cfg0.N
      ∧ r.2.mem ((c.tc : Thread nD τ).loc main_v12_3) = (dats m 0 c).arrAt 10 cfg0.N
      ∧ r.2.mem ((c.tc : Thread nD τ).loc main_v12_4) = (dats m 0 c).arrAt 11 cfg0.N
      ∧ r.2.mem ((c.tc : Thread nD τ).loc main_v12_5) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 7, (h.1 c).1 8, (h.1 c).1 9, (h.1 c).1 10, (h.1 c).1 11, (h.1 c).1 12, h.2.1 c⟩) (θ_run_and (run_main m ρ) (frame m ρ))

end Cert.FfnLossIdeal.Body

end
-- ==== Proof.FfnLossValue.lean ====
/- What the kernel of the feed-forward layer with the loss leaves in its results, entry by entry. -/
module

public import proofs.«01_k».proof.Proof.FfnLossSpec
public import proofs.«01_k».proof.Proof.FfnLossFrame
public import proofs.«01_k».proof.Proof.FfnDxValue

@[expose] public section

set_option maxRecDepth 16384

noncomputable section

open Idealize.ShloMosaic Idealize.ShloMosaic.TcCoe Idealize.SL.Sem
open Idealize.ShloMosaic.Pipeline (Dat)

namespace Cert.FfnLossIdeal.Value

open Cert.FfnLossIdeal Cert.FfnLossIdeal.Gen Cert.FfnLossIdeal.Body Cert.MixOut Cert.Norm Cert.Ffn
open Cert.FfnBwdDxIdeal.Body (rowsF putF)
open Cert.FfnBwdDxIdeal.Value (slab hid branch mat_rowsF putF_of)

section Body

variable (X Y A T E C D : FVec Ideal S256x1024 .f32) (G Q : FVec Ideal S1x1024 .f32) (L : FVec Ideal S1x128 .f32)
  (N : FVec Ideal S1024x1024 .bf16) (W : FVec Ideal S1x704x1024 .bf16) (H U : FVec Ideal S1024x704 .f32) (P R : FVec Ideal S1024x1024 .f32)
  (r : Fin 256) (j : Fin 1024) (f : Fin 704) (s : Fin 1024) (l : Fin 128)

theorem firstN_at : firstN (F := Ideal) P G (ix2 s j) = normed (mat P) (fun l => G (ix2 0 l)) s j := by
  pointwise [firstN, normed, hat, Cert.Norm.inv, ms, eps, mat]

theorem zeroAcc_at : zeroAcc (F := Ideal) (ix2 s j) = 0 := by
  pointwise [zeroAcc]

theorem zeroLoss_at : zeroLoss (F := Ideal) (ix2 0 l) = 0 := by
  pointwise [zeroLoss]

theorem zeroDg_at : zeroDg (F := Ideal) (ix2 0 j) = 0 := by
  pointwise [zeroDg]

theorem hidOf_at : hidOf (F := Ideal) W N (ix2 s f) = prodT (mat N) (slab W) s f := by
  pointwise [hidOf, prodT, mat, slab]

theorem hgOf_at : hgOf (F := Ideal) W N (ix3 0 s f) = prodT (mat N) (slab W) s f := by
  refine Eq.trans (b := hidOf (F := Ideal) W N (ix2 s f)) ?_ (hidOf_at N W f s)
  unfold hgOf
  generalize hidOf (F := Ideal) W N = v
  pointwise

theorem actOf_at : actOf (F := Ideal) H U (ix2 s f) = act (mat H) (mat U) s f := by
  pointwise [actOf, act, gateOf, mat]
  rw [zero_sub]

theorem downOf_at : downOf (F := Ideal) H W P (ix2 s j) = P (ix2 s j) + prod (mat H) (slab W) s j := by
  pointwise [downOf, prod, mat, slab]

theorem rowLayer_mat : mat (rowLayer (F := Ideal) X A) = layer (mat X) (mat A) := by
  funext r j
  pointwise [rowLayer, layer, mat]

theorem rowHat_at : rowHat (F := Ideal) Y (ix2 r j) = hat (mat Y) r j := by
  pointwise [rowHat, rowInv, hat, Cert.Norm.inv, ms, eps, mat]

theorem rowErr_mat : mat (rowErr (F := Ideal) Y T G) = errOf (mat Y) (fun l => G (ix2 0 l)) (mat T) := by
  funext r j
  pointwise [rowErr, rowHat, rowInv, errOf, hat, Cert.Norm.inv, ms, eps, mat]

theorem rowCot_mat : mat (rowCot (F := Ideal) E) = errCot (mat E) := by
  funext r j
  pointwise [rowCot, errCot, mat]

theorem addLoss_at : addLoss (F := Ideal) E L (ix2 0 l) = L (ix2 0 l) + blockLoss (mat E) := by
  pointwise [addLoss, blockLoss, mat]

theorem through_at : throughNorm (F := Ideal) Y (scaled C G) (ix2 r j) = normGrad (mat Y) (fun l => G (ix2 0 l)) (mat C) r j := by
  pointwise [throughNorm, scaled, rowHat, rowInv, normGrad, hat, Cert.Norm.inv, ms, eps, mat]

theorem addScale_at : addScale (F := Ideal) Y C Q (ix2 0 j) = Q (ix2 0 j) + scaleGrad (mat Y) (mat C) j := by
  pointwise [addScale, rowHat, rowInv, scaleGrad, hat, Cert.Norm.inv, ms, eps, mat]

end Body

/-- A block's output, error and cotangent, from matrices. -/
abbrev errLayer {n : ℕ} (x a t : Fin n → Fin 1024 → EReal) (g : Fin 1024 → EReal) : Fin n → Fin 1024 → EReal := errOf (layer x a) g t

abbrev gradLayer {n : ℕ} (x a t : Fin n → Fin 1024 → EReal) (g : Fin 1024 → EReal) : Fin n → Fin 1024 → EReal := normGrad (layer x a) g (errCot (errLayer x a t g))

abbrev scaleLayer {n : ℕ} (x a t : Fin n → Fin 1024 → EReal) (g : Fin 1024 → EReal) : Fin 1024 → EReal := scaleGrad (layer x a) (errCot (errLayer x a t g))

section Rows

variable (X A T : FVec Ideal S256x1024 .f32) (G Q : FVec Ideal S1x1024 .f32) (L : FVec Ideal S1x128 .f32)
  (x a t : Fin 256 → Fin 1024 → EReal) (hx : mat X = x) (ha : mat A = a) (ht : mat T = t)
  (r : Fin 256) (j : Fin 1024) (l : Fin 128)

include hx ha ht

theorem rowErr_of : mat (rowErr (F := Ideal) (rowLayer X A) T G) = errLayer x a t fun l => G (ix2 0 l) := by
  rw [rowErr_mat, rowLayer_mat, hx, ha, ht]

theorem rowGrad_at : rowGrad (F := Ideal) X A T G (ix2 r j) = gradLayer x a t (fun l => G (ix2 0 l)) r j := by
  unfold rowGrad
  rw [through_at, rowCot_mat, rowErr_of X A T G x a t hx ha ht, rowLayer_mat, hx, ha]

theorem rowLoss_at : rowLoss (F := Ideal) X A T G L (ix2 0 l) = L (ix2 0 l) + blockLoss (errLayer x a t fun l => G (ix2 0 l)) := by
  unfold rowLoss
  rw [addLoss_at, rowErr_of X A T G x a t hx ha ht]

theorem rowScale_at : rowScale (F := Ideal) X A T G Q (ix2 0 j) = Q (ix2 0 j) + scaleLayer x a t (fun l => G (ix2 0 l)) j := by
  unfold rowScale
  rw [addScale_at, rowCot_mat, rowErr_of X A T G x a t hx ha ht, rowLayer_mat, hx, ha]

end Rows

/-- A row block of a tile. -/
def sub (o : ℕ) (ho : o + 256 ≤ 1024) (v : Fin 1024 → Fin 1024 → EReal) (r : Fin 256) (j : Fin 1024) : EReal := v ⟨o + r.val, by omega⟩ j

theorem mat_sub (v : FVec Ideal S1024x1024 .f32) (o : ℕ) (h : ∀ a, (![o, 0] : Fin 2 → ℕ) a + S256x1024.size a ≤ S1024x1024.size a) (ho : o + 256 ≤ 1024) :
    mat (show FVec Ideal S256x1024 .f32 from rowsF (F := Ideal) (e := .f32) v o h) = sub o ho (mat v) := mat_rowsF v o h ho

section Tiles

variable (X A T : FVec Ideal S1024x1024 .f32) (G Q : FVec Ideal S1x1024 .f32) (L : FVec Ideal S1x128 .f32) (p j : Fin 1024) (l : Fin 128)

/-- The four row blocks of a tile make its gradient, -/
theorem dxOf_at : dxOf (F := Ideal) X T G A (ix2 p j) = gradLayer (mat X) (mat A) (mat T) (fun l => G (ix2 0 l)) p j := by
  unfold dxOf
  exact putF_of _ _ _ _ _ (gradLayer (mat X) (mat A) (mat T) fun l => G (ix2 0 l))
    (fun r j => rowGrad_at _ _ _ _ _ _ _ (mat_sub X 0 _ (by omega)) (mat_sub A 0 _ (by omega)) (mat_sub T 0 _ (by omega)) r j)
    (fun r j => rowGrad_at _ _ _ _ _ _ _ (mat_sub X 256 _ (by omega)) (mat_sub A 256 _ (by omega)) (mat_sub T 256 _ (by omega)) r j)
    (fun r j => rowGrad_at _ _ _ _ _ _ _ (mat_sub X 512 _ (by omega)) (mat_sub A 512 _ (by omega)) (mat_sub T 512 _ (by omega)) r j)
    (fun r j => rowGrad_at _ _ _ _ _ _ _ (mat_sub X 768 _ (by omega)) (mat_sub A 768 _ (by omega)) (mat_sub T 768 _ (by omega)) r j) p j

/-- A row block of four, by its number. -/
def quarter (q : Fin 4) (v : Fin 1024 → Fin 1024 → EReal) (r : Fin 256) (j : Fin 1024) : EReal := v ⟨256 * q.val + r.val, by omega⟩ j

/-- their losses, -/
theorem lossAfter_at : lossAfter (F := Ideal) X T G A L (ix2 0 l)
    = L (ix2 0 l) + ∑ q : Fin 4, blockLoss (quarter q (errLayer (mat X) (mat A) (mat T) fun l => G (ix2 0 l))) := by
  unfold lossAfter
  rw [rowLoss_at _ _ _ _ _ _ _ _ (mat_sub X 768 _ (by omega)) (mat_sub A 768 _ (by omega)) (mat_sub T 768 _ (by omega)),
    rowLoss_at _ _ _ _ _ _ _ _ (mat_sub X 512 _ (by omega)) (mat_sub A 512 _ (by omega)) (mat_sub T 512 _ (by omega)),
    rowLoss_at _ _ _ _ _ _ _ _ (mat_sub X 256 _ (by omega)) (mat_sub A 256 _ (by omega)) (mat_sub T 256 _ (by omega)),
    rowLoss_at _ _ _ _ _ _ _ _ (mat_sub X 0 _ (by omega)) (mat_sub A 0 _ (by omega)) (mat_sub T 0 _ (by omega)),
    Fin.sum_univ_four]
  simp only [add_assoc]
  rfl

/-- and the scale's gradient. -/
theorem dgAfter_at : dgAfter (F := Ideal) X T G A Q (ix2 0 j) = Q (ix2 0 j) + scaleLayer (mat X) (mat A) (mat T) (fun l => G (ix2 0 l)) j := by
  unfold dgAfter
  rw [rowScale_at _ _ _ _ _ _ _ _ (mat_sub X 768 _ (by omega)) (mat_sub A 768 _ (by omega)) (mat_sub T 768 _ (by omega)),
    rowScale_at _ _ _ _ _ _ _ _ (mat_sub X 512 _ (by omega)) (mat_sub A 512 _ (by omega)) (mat_sub T 512 _ (by omega)),
    rowScale_at _ _ _ _ _ _ _ _ (mat_sub X 256 _ (by omega)) (mat_sub A 256 _ (by omega)) (mat_sub T 256 _ (by omega)),
    rowScale_at _ _ _ _ _ _ _ _ (mat_sub X 0 _ (by omega)) (mat_sub A 0 _ (by omega)) (mat_sub T 0 _ (by omega)),
    add_assoc, add_assoc, add_assoc]
  refine congrArg (HAdd.hAdd (α := EReal) (β := EReal) _) ?_
  refine Eq.trans ?_ (Cert.Sums.tiles 4 256 rfl fun r : Fin 1024 => errCot (errLayer (mat X) (mat A) (mat T) fun l => G (ix2 0 l)) r j * hat (layer (mat X) (mat A)) r j)
  rw [Fin.sum_univ_four, add_assoc, add_assoc]
  rfl

end Tiles

variable (m : (ℓ : Loc nD τ sig) → Buf (Elt Ideal) ℓ)

/-- Every window's block index at every grid point. -/
theorem idx : ∀ t : Fin cfg0.N, win0_0.index t = ![t.val / 4, 0] ∧ win0_1.index t = ![0, 0] ∧ win0_2.index t = ![t.val % 4, 0, 0]
    ∧ win0_3.index t = ![t.val % 4, 0, 0] ∧ win0_4.index t = ![t.val % 4, 0, 0] ∧ win0_5.index t = ![t.val / 4, 0] ∧ win0_6.index t = ![0, 0]
    ∧ win0_7.index t = ![t.val / 4, 0] ∧ win0_8.index t = ![t.val % 4, t.val / 4, 0] ∧ win0_9.index t = ![t.val % 4, t.val / 4, 0]
    ∧ win0_10.index t = ![t.val / 4, 0] ∧ win0_11.index t = ![0, 0] ∧ win0_12.index t = ![0, 0] :=
  (by decide +kernel : ∀ t : Fin grid0.N, _)

/-- The grid has sixteen points. -/
theorem lt16 (t : Fin cfg0.N) : t.val < 16 := lt_of_lt_of_eq t.isLt N_0

/-- The arguments as one reads them. -/
abbrev argX (c : Dev nD) : FVec Ideal S2x2048x1024 .f32 := m ((c : Thread nD τ).loc main_arg0)
abbrev argG (c : Dev nD) : FVec Ideal S1024 .f32 := m ((c : Thread nD τ).loc main_arg1)
abbrev argA (c : Dev nD) : FVec Ideal S1024x2816 .f32 := m ((c : Thread nD τ).loc main_arg2)
abbrev argB (c : Dev nD) : FVec Ideal S1024x2816 .f32 := m ((c : Thread nD τ).loc main_arg3)
abbrev argW (c : Dev nD) : FVec Ideal S2816x1024 .f32 := m ((c : Thread nD τ).loc main_arg4)
abbrev argT (c : Dev nD) : FVec Ideal S2x2048x1024 .f32 := m ((c : Thread nD τ).loc main_arg5)
abbrev argF (c : Dev nD) : FVec Ideal S1024 .f32 := m ((c : Thread nD τ).loc main_arg6)

/-! ## The host's preparation -/

open Cert.FfnBwdDxIdeal.Value (castX castA castW castX_at castA_at castW_at)

theorem host (c : Dev nD) : V m c main_v0 = castX (argX m c) ∧ V m c main_v1 = (shapeCast S1x1024 (argG m c) shapeCasts_S1024_S1x1024 : FVec Ideal S1x1024 .f32)
    ∧ V m c main_v4 = castA (argA m c) ∧ V m c main_v7 = castA (argB m c) ∧ V m c main_v9 = castW (argW m c)
    ∧ V m c main_v10 = castX (argT m c) ∧ V m c main_v11 = (shapeCast S1x1024 (argF m c) shapeCasts_S1024_S1x1024 : FVec Ideal S1x1024 .f32) := by
  refine ⟨?_, ?_, ?_, ?_, ?_, ?_, ?_⟩ <;> simp only [V, List.flatten_cons, List.flatten_nil, List.append_nil, List.cons_append, List.nil_append,
    hostOps0, StableHlo.TRef.binary, StableHlo.TRef.unary, StableHlo.TRef.nullary, StableHlo.TRef.toBuf, StableHlo.TRef.ofBuf, cast_eq] <;>
    after_results_simp <;> rfl

section Points

variable (c : Dev nD) (t : Fin cfg0.N)

/-- The layer's values by the arguments: the normed rows, both branches, what the hidden columns add, and the final norm's scale. -/
abbrev nAll : Fin 4096 → Fin 1024 → EReal := normed (rows (argX m c)) fun l => argG m c (ix1 l)
abbrev hgAll : Fin 4096 → Fin 2816 → EReal := branch (argX m c) (argG m c) (argA m c)
abbrev huAll : Fin 4096 → Fin 2816 → EReal := branch (argX m c) (argG m c) (argB m c)
abbrev addAll : Fin 4096 → Fin 1024 → EReal := prod (act (hgAll m c) (huAll m c)) (mat (argW m c))
abbrev finalG (l : Fin 1024) : EReal := argF m c (ix1 l)

/-- A row of a tile as a row of the whole, and a point's chip. -/
def row (r : Fin 1024) : Fin 4096 := ⟨1024 * (t.val / 4) + r.val, by have := lt16 t; omega⟩

def chip : Fin 4 := ⟨t.val % 4, by omega⟩

theorem blk0 : mat (show FVec Ideal S1024x1024 .f32 from iblk m c 0 t) = fun r => rows (argX m c) (row t r) := by
  funext r j
  refine (congrArg (V m c main_v0) (?_ : _ = ix2 (row t r) j)).trans ((congrFun (host m c).1 _).trans (castX_at _ _ _))
  blk_ext [idx t]
  exact congrArg (· + r.val) (Nat.mul_comm _ _)

theorem blk1 (l : Fin 1024) : (show FVec Ideal S1x1024 .f32 from iblk m c 1 t) (ix2 0 l) = argG m c (ix1 l) := by
  refine (congrArg (V m c main_v1) (?_ : _ = ix2 0 l)).trans ((congrFun (host m c).2.1 _).trans ?_)
  · blk_ext [idx t]
  · pointwise

theorem blk2 : slab (show FVec Ideal S1x704x1024 .bf16 from iblk m c 2 t) = fun f j => mat (argA m c) j (slot (chip t) f) := by
  funext f j
  refine (congrArg (V m c main_v4) (?_ : _ = ix3 (chip t) f j)).trans ((congrFun (host m c).2.2.1 _).trans (castA_at _ _ _ _))
  blk_ext [idx t]
  rfl

theorem blk3 : slab (show FVec Ideal S1x704x1024 .bf16 from iblk m c 3 t) = fun f j => mat (argB m c) j (slot (chip t) f) := by
  funext f j
  refine (congrArg (V m c main_v7) (?_ : _ = ix3 (chip t) f j)).trans ((congrFun (host m c).2.2.2.1 _).trans (castA_at _ _ _ _))
  blk_ext [idx t]
  rfl

theorem blk4 : slab (show FVec Ideal S1x704x1024 .bf16 from iblk m c 4 t) = fun f j => mat (argW m c) (slot (chip t) f) j := by
  funext f j
  refine (congrArg (V m c main_v9) (?_ : _ = ix3 (chip t) f j)).trans ((congrFun (host m c).2.2.2.2.1 _).trans (castW_at _ _ _ _))
  blk_ext [idx t]
  rfl

theorem blk5 : mat (show FVec Ideal S1024x1024 .f32 from iblk m c 5 t) = fun r => rows (argT m c) (row t r) := by
  funext r j
  refine (congrArg (V m c main_v10) (?_ : _ = ix2 (row t r) j)).trans ((congrFun (host m c).2.2.2.2.2.1 _).trans (castX_at _ _ _))
  blk_ext [idx t]
  exact congrArg (· + r.val) (Nat.mul_comm _ _)

theorem blk6 : (fun l => (show FVec Ideal S1x1024 .f32 from iblk m c 6 t) (ix2 0 l)) = finalG m c := by
  funext l
  refine (congrArg (V m c main_v11) (?_ : _ = ix2 0 l)).trans ((congrFun (host m c).2.2.2.2.2.2 _).trans ?_)
  · blk_ext [idx t]
  · pointwise

/-! ## What a point leaves, by what it finds -/

/-- The point before. -/
abbrev prev : Outs Ideal := outsAt m c (t.val - 1) (Nat.lt_of_le_of_lt (Nat.sub_le _ _) t.isLt)

theorem outs_point : outsAt m c t.val t.isLt = point m c t (prev m c t).2.2.2.1 (prev m c t).2.2.2.2.1 (prev m c t).2.2.2.2.2.1 (prev m c t).2.2.2.2.2.2 :=
  outsAt_eq m c t _ _ _ _ (.inr rfl) (.inr rfl) (.inr rfl) (.inr rfl)

theorem later : ∀ t : Fin cfg0.N, ¬t.val % 4 = 0 → ¬k0_cond1 (grid0.coords t) = 1#1 :=
  (by decide +kernel : ∀ t : Fin grid0.N, ¬t.val % 4 = 0 → ¬k0_cond1 (grid0.coords t) = 1#1)

theorem notFirst : ∀ t : Fin cfg0.N, ¬t.val % 16 = 0 → ¬k0_cond2 (grid0.coords t) = 1#1 :=
  (by decide +kernel : ∀ t : Fin grid0.N, ¬t.val % 16 = 0 → ¬k0_cond2 (grid0.coords t) = 1#1)

theorem ends : ∀ t : Fin cfg0.N, k0_cond3 (grid0.coords t) = 1#1 ↔ t.val % 4 = 3 :=
  (by decide +kernel : ∀ t : Fin grid0.N, k0_cond3 (grid0.coords t) = 1#1 ↔ t.val % 4 = 3)

theorem n_first (h : t.val % 4 = 0) : (outsAt m c t.val t.isLt).2.2.2.1 = firstN (iblk m c 0 t) (iblk m c 1 t) := by
  rw [outs_point]; unfold point normAt foundN; exact if_pos (starts t h)

theorem n_step (h : ¬t.val % 4 = 0) : (outsAt m c t.val t.isLt).2.2.2.1 = (prev m c t).2.2.2.1 := by
  rw [outs_point]; unfold point normAt foundN; exact if_neg (later t h)

theorem hg_point : (outsAt m c t.val t.isLt).2.1 = hgOf (iblk m c 2 t) (outsAt m c t.val t.isLt).2.2.2.1 := by
  rw [outs_point]; rfl

theorem hu_point : (outsAt m c t.val t.isLt).2.2.1 = hgOf (iblk m c 3 t) (outsAt m c t.val t.isLt).2.2.2.1 := by
  rw [outs_point]; rfl

theorem acc_point : (outsAt m c t.val t.isLt).2.2.2.2.2.2 = accOf (iblk m c 2 t) (iblk m c 3 t) (iblk m c 4 t)
    (outsAt m c t.val t.isLt).2.2.2.1 (foundAcc (grid0.coords t) (prev m c t).2.2.2.2.2.2) := by
  rw [outs_point]; rfl

theorem dx_point : (outsAt m c t.val t.isLt).1 = dxOf (iblk m c 0 t) (iblk m c 5 t) (iblk m c 6 t) (outsAt m c t.val t.isLt).2.2.2.2.2.2 := by
  rw [outs_point]; rfl

theorem loss_point : (outsAt m c t.val t.isLt).2.2.2.2.1 = if k0_cond3 (grid0.coords t) = 1#1 then
    lossAfter (iblk m c 0 t) (iblk m c 5 t) (iblk m c 6 t) (outsAt m c t.val t.isLt).2.2.2.2.2.2 (foundLoss (grid0.coords t) (prev m c t).2.2.2.2.1)
    else foundLoss (grid0.coords t) (prev m c t).2.2.2.2.1 := by
  rw [outs_point]; rfl

theorem dg_point : (outsAt m c t.val t.isLt).2.2.2.2.2.1 = if k0_cond3 (grid0.coords t) = 1#1 then
    dgAfter (iblk m c 0 t) (iblk m c 5 t) (iblk m c 6 t) (outsAt m c t.val t.isLt).2.2.2.2.2.2 (foundDg (grid0.coords t) (prev m c t).2.2.2.2.2.1)
    else foundDg (grid0.coords t) (prev m c t).2.2.2.2.2.1 := by
  rw [outs_point]; rfl

theorem firstN_of (P : FVec Ideal S1024x1024 .f32) (G : FVec Ideal S1x1024 .f32) (x : Fin 1024 → Fin 1024 → EReal) (g : Fin 1024 → EReal) (hx : mat P = x)
    (hg : ∀ l, G (ix2 0 l) = g l) : mat (firstN (F := Ideal) P G) = normed x g := by
  subst hx
  obtain rfl : (fun l => G (ix2 0 l)) = g := funext hg
  funext s j
  exact firstN_at G P j s

/-- The normed rows at a row tile's first point. -/
theorem n_tile (h : t.val % 4 = 0) : mat (show FVec Ideal S1024x1024 .bf16 from (outsAt m c t.val t.isLt).2.2.2.1) = fun r => nAll m c (row t r) := by
  rw [n_first m c t h]
  exact firstN_of _ _ _ _ (blk0 m c t) (blk1 m c t)

/-- The normed rows are the row tile's at every point. -/
theorem n_eq (n : ℕ) : ∀ t : Fin cfg0.N, t.val = n → mat (show FVec Ideal S1024x1024 .bf16 from (outsAt m c t.val t.isLt).2.2.2.1) = fun r => nAll m c (row t r) := by
  induction n with
  | zero =>
    intro t ht
    exact n_tile m c t (by rw [ht])
  | succ n ih =>
    intro t ht
    by_cases h : t.val % 4 = 0
    · exact n_tile m c t h
    · have e := ih ⟨t.val - 1, Nat.lt_of_le_of_lt (Nat.sub_le _ _) t.isLt⟩ (by dsimp only; omega)
      have er : ∀ r, row ⟨t.val - 1, Nat.lt_of_le_of_lt (Nat.sub_le _ _) t.isLt⟩ r = row t r := fun r => Fin.ext (by dsimp only [row]; omega)
      simp only [er] at e
      rw [n_step m c t h]
      exact e

theorem hg_eq (p : Fin 1024) (f : Fin 704) : (show FVec Ideal S1x1024x704 .bf16 from (outsAt m c t.val t.isLt).2.1) (ix3 0 p f) = hgAll m c (row t p) (slot (chip t) f) := by
  rw [hg_point]
  refine (hgOf_at _ _ f p).trans ?_
  rw [n_eq m c _ t rfl, blk2]
  rfl

theorem hu_eq (p : Fin 1024) (f : Fin 704) : (show FVec Ideal S1x1024x704 .bf16 from (outsAt m c t.val t.isLt).2.2.1) (ix3 0 p f) = huAll m c (row t p) (slot (chip t) f) := by
  rw [hu_point]
  refine (hgOf_at _ _ f p).trans ?_
  rw [n_eq m c _ t rfl, blk3]
  rfl

/-- What a chip adds to the sum over the hidden columns. -/
def chipAdd (i : S1024x1024.Idx) : EReal :=
  ∑ f : Fin 704, act (hgAll m c) (huAll m c) (row t (i 0)) (slot (chip t) f) * mat (argW m c) (slot (chip t) f) (i 1)

theorem accOf_at (A B W : FVec Ideal S1x704x1024 .bf16) (N : FVec Ideal S1024x1024 .bf16) (P : FVec Ideal S1024x1024 .f32) (p j : Fin 1024) :
    accOf (F := Ideal) A B W N P (ix2 p j) = P (ix2 p j) + prod (act (prodT (mat N) (slab A)) (prodT (mat N) (slab B))) (slab W) p j := by
  unfold accOf
  refine (downOf_at _ _ _ _ _).trans ?_
  rw [show mat (actOf (F := Ideal) (hidOf A N) (hidOf B N)) = act (mat (hidOf (F := Ideal) A N)) (mat (hidOf (F := Ideal) B N)) from funext fun s => funext fun f => actOf_at _ _ f s,
    show mat (hidOf (F := Ideal) A N) = prodT (mat N) (slab A) from funext fun s => funext fun f => hidOf_at N A f s,
    show mat (hidOf (F := Ideal) B N) = prodT (mat N) (slab B) from funext fun s => funext fun f => hidOf_at N B f s]

theorem acc_found (i : S1024x1024.Idx) : (show FVec Ideal S1024x1024 .f32 from (outsAt m c t.val t.isLt).2.2.2.2.2.2) i
    = (show FVec Ideal S1024x1024 .f32 from foundAcc (grid0.coords t) (prev m c t).2.2.2.2.2.2) i + chipAdd m c t i := by
  rw [acc_point]
  idx_vars i
  refine (accOf_at _ _ _ _ _ i0 i1).trans ?_
  rw [n_eq m c _ t rfl, blk2, blk3, blk4]
  rfl

theorem acc_first (h : t.val % 4 = 0) (i : S1024x1024.Idx) : (show FVec Ideal S1024x1024 .f32 from (outsAt m c t.val t.isLt).2.2.2.2.2.2) i = 0 + chipAdd m c t i := by
  rw [acc_found]
  unfold foundAcc
  rw [if_pos (starts t h)]
  idx_vars i
  exact congrArg (HAdd.hAdd (α := EReal) (β := EReal) · _) (zeroAcc_at i1 i0)

theorem acc_step (h : ¬t.val % 4 = 0) (i : S1024x1024.Idx) : (show FVec Ideal S1024x1024 .f32 from (outsAt m c t.val t.isLt).2.2.2.2.2.2) i
    = (show FVec Ideal S1024x1024 .f32 from (prev m c t).2.2.2.2.2.2) i + chipAdd m c t i := by
  rw [acc_found]
  unfold foundAcc
  rw [if_neg (later t h)]

/-- The four chips' additions at one row tile. -/
theorem adds (e : Fin 4 → Fin cfg0.N) (he : ∀ s, (e s).val = 4 * (t.val / 4) + s.val) (i : S1024x1024.Idx) :
    (∑ s : Fin 4, chipAdd m c (e s) i) = addAll m c (row t (i 0)) (i 1) := by
  have hr : ∀ s, row (e s) (i 0) = row t (i 0) := fun s => Fin.ext (by have := he s; have := s.isLt; dsimp only [row]; omega)
  have hc : ∀ s, chip (e s) = s := fun s => Fin.ext (by have := he s; have := s.isLt; dsimp only [chip]; omega)
  unfold chipAdd
  simp only [hr, hc]
  exact chips fun f => act (hgAll m c) (huAll m c) (row t (i 0)) f * mat (argW m c) f (i 1)

/-- At a row tile's last point the sum is complete. -/
theorem acc_last (h : t.val % 4 = 3) : mat (show FVec Ideal S1024x1024 .f32 from (outsAt m c t.val t.isLt).2.2.2.2.2.2) = fun r => addAll m c (row t r) := by
  funext r j
  refine (Pipeline.eq_sum_fin_of_reset_step_apply_of_flush (fun n h => (show FVec Ideal S1024x1024 .f32 from (outsAt m c n h).2.2.2.2.2.2)) 4 (fun _ => 0)
    (chipAdd m c) (fun u hu j => acc_first m c u hu j) (fun u hu j => acc_step m c u hu j) t h (ix2 r j)).trans ?_
  refine (zero_add _).trans ?_
  exact adds m c t _ (fun s => rfl) (ix2 r j)

/-- The layer's output and error, and the loss's cotangent of the normed output. -/
abbrev yAll : Fin 4096 → Fin 1024 → EReal := layer (rows (argX m c)) (addAll m c)
abbrev eAll : Fin 4096 → Fin 1024 → EReal := errOf (yAll m c) (finalG m c) (rows (argT m c))

theorem dx_eq (h : t.val % 4 = 3) (r j : Fin 1024) : (show FVec Ideal S1024x1024 .f32 from (outsAt m c t.val t.isLt).1) (ix2 r j)
    = normGrad (yAll m c) (finalG m c) (errCot (eAll m c)) (row t r) j := by
  rw [dx_point]
  refine (dxOf_at _ _ _ _ r j).trans ?_
  rw [blk0, blk5, blk6, acc_last m c t h]
  rfl

/-- What a point adds to the loss, and to the final norm's gradient. -/
def lossAdd (_ : S1x128.Idx) : EReal :=
  if t.val % 4 = 3 then ∑ q : Fin 4, blockLoss (quarter q fun r => eAll m c (row t r)) else 0

def scaleAdd (i : S1x1024.Idx) : EReal :=
  if t.val % 4 = 3 then scaleGrad (fun r => yAll m c (row t r)) (fun r => errCot (eAll m c) (row t r)) (i 1) else 0

theorem loss_found (i : S1x128.Idx) : (show FVec Ideal S1x128 .f32 from (outsAt m c t.val t.isLt).2.2.2.2.1) i
    = (show FVec Ideal S1x128 .f32 from foundLoss (grid0.coords t) (prev m c t).2.2.2.2.1) i + lossAdd m c t i := by
  rw [loss_point]
  unfold lossAdd
  by_cases h : t.val % 4 = 3
  · rw [if_pos h, if_pos ((ends t).mpr h)]
    idx_vars i
    obtain rfl : i0 = 0 := Subsingleton.elim _ _
    refine (lossAfter_at _ _ _ _ _ i1).trans ?_
    rw [blk0, blk5, blk6, acc_last m c t h]
    rfl
  · rw [if_neg h, if_neg (fun h' => h ((ends t).mp h')), add_zero]

theorem loss_first (h : t.val % 16 = 0) (i : S1x128.Idx) : (show FVec Ideal S1x128 .f32 from (outsAt m c t.val t.isLt).2.2.2.2.1) i = 0 + lossAdd m c t i := by
  rw [loss_found]
  unfold foundLoss
  rw [if_pos (clears t (by have := lt16 t; omega))]
  idx_vars i
  obtain rfl : i0 = 0 := Subsingleton.elim _ _
  exact congrArg (HAdd.hAdd (α := EReal) (β := EReal) · _) (zeroLoss_at i1)

theorem loss_step (h : ¬t.val % 16 = 0) (i : S1x128.Idx) : (show FVec Ideal S1x128 .f32 from (outsAt m c t.val t.isLt).2.2.2.2.1) i
    = (show FVec Ideal S1x128 .f32 from (prev m c t).2.2.2.2.1) i + lossAdd m c t i := by
  rw [loss_found]
  unfold foundLoss
  rw [if_neg (notFirst t h)]

theorem dg_found (i : S1x1024.Idx) : (show FVec Ideal S1x1024 .f32 from (outsAt m c t.val t.isLt).2.2.2.2.2.1) i
    = (show FVec Ideal S1x1024 .f32 from foundDg (grid0.coords t) (prev m c t).2.2.2.2.2.1) i + scaleAdd m c t i := by
  rw [dg_point]
  unfold scaleAdd
  by_cases h : t.val % 4 = 3
  · rw [if_pos h, if_pos ((ends t).mpr h)]
    idx_vars i
    obtain rfl : i0 = 0 := Subsingleton.elim _ _
    refine (dgAfter_at _ _ _ _ _ i1).trans ?_
    rw [blk0, blk5, blk6, acc_last m c t h]
    rfl
  · rw [if_neg h, if_neg (fun h' => h ((ends t).mp h')), add_zero]

theorem dg_first (h : t.val % 16 = 0) (i : S1x1024.Idx) : (show FVec Ideal S1x1024 .f32 from (outsAt m c t.val t.isLt).2.2.2.2.2.1) i = 0 + scaleAdd m c t i := by
  rw [dg_found]
  unfold foundDg
  rw [if_pos (clears t (by have := lt16 t; omega))]
  idx_vars i
  obtain rfl : i0 = 0 := Subsingleton.elim _ _
  exact congrArg (HAdd.hAdd (α := EReal) (β := EReal) · _) (zeroDg_at i1)

theorem dg_step (h : ¬t.val % 16 = 0) (i : S1x1024.Idx) : (show FVec Ideal S1x1024 .f32 from (outsAt m c t.val t.isLt).2.2.2.2.2.1) i
    = (show FVec Ideal S1x1024 .f32 from (prev m c t).2.2.2.2.2.1) i + scaleAdd m c t i := by
  rw [dg_found]
  unfold foundDg
  rw [if_neg (notFirst t h)]

end Points

/-- A sum over the points that only a row tile's last one adds to. -/
theorem sum_ends (f : Fin 16 → EReal) (h : ∀ t, ¬t.val % 4 = 3 → f t = 0) : (∑ t, f t) = ∑ s : Fin 4, f ⟨4 * s.val + 3, by omega⟩ := by
  refine (Cert.Sums.tiles 4 4 rfl f).symm.trans (Finset.sum_congr rfl fun s _ => ?_)
  rw [Fin.sum_univ_four, h _ (by simp), h _ (by simp), h _ (by simp), zero_add, zero_add, zero_add]
  rfl

theorem end_row (s : Fin 4) (r : Fin 1024) (h : 4 * s.val + 3 < cfg0.N) : row ⟨4 * s.val + 3, h⟩ r = ⟨1024 * s.val + r.val, by omega⟩ :=
  Fin.ext (by dsimp only [row]; omega)

/-- The final norm's gradient over rows taken tile by tile. -/
theorem scale_tiles (c : Dev nD) (i : S1x1024.Idx) : (∑ t : Fin 16, scaleAdd m c ⟨t.val, lt_of_lt_of_eq t.isLt N_0.symm⟩ i) = scaleGrad (yAll m c) (errCot (eAll m c)) (i 1) := by
  refine (sum_ends _ fun t h => if_neg h).trans ?_
  refine Eq.trans (Finset.sum_congr rfl fun s _ => ?_) (Cert.Sums.tiles 4 1024 rfl fun r => errCot (eAll m c) r (i 1) * hat (yAll m c) r (i 1))
  refine (if_pos (by dsimp only; omega)).trans (Finset.sum_congr rfl fun r _ => ?_)
  rw [← end_row s r (lt_of_lt_of_eq (by omega) N_0.symm)]
  rfl

/-- The loss over rows taken block by block. -/
theorem loss_tiles (c : Dev nD) (i : S1x128.Idx) : (∑ t : Fin 16, lossAdd m c ⟨t.val, lt_of_lt_of_eq t.isLt N_0.symm⟩ i)
    = ∑ b : Fin 16, blockLoss fun r : Fin 256 => eAll m c ⟨256 * b.val + r.val, by omega⟩ := by
  refine (sum_ends _ fun t h => if_neg h).trans ?_
  refine Eq.trans (Finset.sum_congr rfl fun s _ => ?_) (Cert.Sums.tiles 4 4 rfl fun b : Fin 16 => blockLoss fun r : Fin 256 => eAll m c ⟨256 * b.val + r.val, by omega⟩)
  refine (if_pos (by dsimp only; omega)).trans (Finset.sum_congr rfl fun q _ => congrArg blockLoss ?_)
  funext r j
  refine congrArg (eAll m c · j) (Fin.ext ?_)
  dsimp only [row]
  omega

/-- Result 0: the gradient of the layer's output. -/
theorem whole7 (c : Dev nD) : (dats m 0 c).arrAt 7 (cfgs 0).N
    = (fun i => normGrad (yAll m c) (finalG m c) (errCot (eAll m c)) (i 0) (i 1) : FVec Ideal S4096x1024 .f32) := by
  refine (dats m 0 c).arrAt_eq_of_covers 7 _ (by decide +kernel) fun t hf y => ?_
  blk_simp
  rw [after0_7]
  idx_vars y
  have e : ((cfg0.win 7).blk t).view.emb (ix2 y0 y1) = ix2 (row t y0) y1 := by
    blk_ext [idx t]
    exact congrArg (· + y0.val) (Nat.mul_comm _ _)
  refine (dx_eq m c t ((flush0_7 t).mp hf) y0 y1).trans ?_
  rw [e]
  rfl

/-- Result 1: the gate's branch. -/
theorem whole8 (c : Dev nD) : (dats m 0 c).arrAt 8 (cfgs 0).N = (cut (hgAll m c) : FVec Ideal S4x4096x704 .bf16) := by
  refine (dats m 0 c).arrAt_eq_of_covers 8 _ (by decide +kernel) fun t hf y => ?_
  blk_simp
  rw [after0_8]
  idx_vars y
  obtain rfl : y0 = 0 := Subsingleton.elim _ _
  have e : ((cfg0.win 8).blk t).view.emb (ix3 0 y1 y2) = ix3 (chip t) (row t y1) y2 := by
    blk_ext [idx t]
    · rfl
    · exact congrArg (· + y1.val) (Nat.mul_comm _ _)
  refine (hg_eq m c t y1 y2).trans ?_
  rw [e]
  rfl

/-- Result 2: the up projection's branch. -/
theorem whole9 (c : Dev nD) : (dats m 0 c).arrAt 9 (cfgs 0).N = (cut (huAll m c) : FVec Ideal S4x4096x704 .bf16) := by
  refine (dats m 0 c).arrAt_eq_of_covers 9 _ (by decide +kernel) fun t hf y => ?_
  blk_simp
  rw [after0_9]
  idx_vars y
  obtain rfl : y0 = 0 := Subsingleton.elim _ _
  have e : ((cfg0.win 9).blk t).view.emb (ix3 0 y1 y2) = ix3 (chip t) (row t y1) y2 := by
    blk_ext [idx t]
    · rfl
    · exact congrArg (· + y1.val) (Nat.mul_comm _ _)
  refine (hu_eq m c t y1 y2).trans ?_
  rw [e]
  rfl

/-- Result 3: the normed rows. -/
theorem whole10 (c : Dev nD) : (dats m 0 c).arrAt 10 (cfgs 0).N = (fun i => nAll m c (i 0) (i 1) : FVec Ideal S4096x1024 .bf16) := by
  refine (dats m 0 c).arrAt_eq_of_covers 10 _ (by decide +kernel) fun t hf y => ?_
  blk_simp
  rw [after0_10]
  idx_vars y
  have e : ((cfg0.win 10).blk t).view.emb (ix2 y0 y1) = ix2 (row t y0) y1 := by
    blk_ext [idx t]
    exact congrArg (· + y0.val) (Nat.mul_comm _ _)
  refine (congrFun (congrFun (n_eq m c _ t rfl) y0) y1).trans ?_
  rw [e]
  rfl

/-- Result 4: the loss, once a lane. -/
theorem whole11 (c : Dev nD) : (dats m 0 c).arrAt 11 (cfgs 0).N
    = (fun _ => ∑ b : Fin 16, blockLoss fun r : Fin 256 => eAll m c ⟨256 * b.val + r.val, by omega⟩ : FVec Ideal S1x128 .f32) := by
  refine (dats m 0 c).arrAt_eq_of_after_last 11 t0_15 (by decide +kernel) _ fun j => ?_
  blk_simp
  rw [after0_11]
  refine (Pipeline.eq_sum_fin_of_reset_step_apply_last (fun n h => (show FVec Ideal S1x128 .f32 from (outsAt m c n h).2.2.2.2.1)) 16 (fun _ => 0)
    (lossAdd m c) (fun u hu j => loss_first m c u hu j) (fun u hu j => loss_step m c u hu j) (le_of_eq N_0) t0_15 rfl _).trans ?_
  rw [zero_add]
  exact loss_tiles m c _

/-- Result 5: the gradient of the final norm's scale. -/
theorem whole12 (c : Dev nD) : (dats m 0 c).arrAt 12 (cfgs 0).N
    = (fun i => scaleGrad (yAll m c) (errCot (eAll m c)) (i 1) : FVec Ideal S1x1024 .f32) := by
  refine (dats m 0 c).arrAt_eq_of_after_last 12 t0_15 (by decide +kernel) _ fun j => ?_
  blk_simp
  rw [after0_12]
  refine (Pipeline.eq_sum_fin_of_reset_step_apply_last (fun n h => (show FVec Ideal S1x1024 .f32 from (outsAt m c n h).2.2.2.2.2.1)) 16 (fun _ => 0)
    (scaleAdd m c) (fun u hu j => dg_first m c u hu j) (fun u hu j => dg_step m c u hu j) (le_of_eq N_0) t0_15 rfl _).trans ?_
  rw [zero_add]
  exact scale_tiles m c _

end Cert.FfnLossIdeal.Value

end
-- ==== Proof.FfnLossClaim.lean ====
/- The kernel of the feed-forward layer with the loss computes the layer, the loss and its derivative. -/
module

public import proofs.«01_k».proof.Defs
public import proofs.«01_k».proof.Proof.Finite
public import proofs.«01_k».proof.Proof.Gen.Pre_finite_loss
public import proofs.«01_k».proof.Proof.FfnLossRef
public import proofs.«01_k».proof.Proof.FfnLossValue

@[expose] public section

set_option maxRecDepth 16384

noncomputable section

open Idealize.ShloMosaic Idealize.ShloMosaic.TcCoe Idealize.SL.Sem

namespace Cert.Proof

open Cert.FfnLossIdeal Cert.FfnLossIdeal.Value Cert.MixOut Cert.Ffn
open Cert.FfnBwdDxIdeal.Value (branch)
open Cert.FfnLossGradIdeal (S2x2048x2816)
open Cert.FfnLossGradIdeal.Value (gradV scaleV invV msV normV hidV actV downV layerV errV cotV lossV cutV flatV gradV_at scaleV_eq normV_rows hidV_rows actV_rows downV_rows
  layerV_rows errV_rows cotV_rows lossV_at cutV_eq flatV_at)

section Loss

variable (X T : FVec Ideal S2x2048x1024 .f32) (G Q : FVec Ideal S1024 .f32) (A B : FVec Ideal S1024x2816 .f32) (W : FVec Ideal S2816x1024 .f32)

/-- The reference's hidden branch, its layer's output and its error. -/
def lossHid : FVec Ideal S2x2048x2816 .f32 := hidV (normV X G) A

def lossLayer : FVec Ideal S2x2048x1024 .f32 := layerV X (downV W (actV (lossHid X G A) (lossHid X G B)))

def lossErr : FVec Ideal S2x2048x1024 .f32 := errV (lossLayer X G A B W) T Q

/-- The layer's output and error by rows. -/
abbrev layerRows : Fin 4096 → Fin 1024 → EReal := layer (rows X) (prod (act (branch X G A) (branch X G B)) (mat W))

abbrev errRows : Fin 4096 → Fin 1024 → EReal := errOf (layerRows X G A B W) (fun l => Q (ix1 l)) (rows T)

theorem lossHid_rows : rows (lossHid X G A) = branch X G A := by
  unfold lossHid branch
  rw [hidV_rows, normV_rows]

theorem lossLayer_rows : rows (lossLayer X G A B W) = layerRows X G A B W := by
  unfold lossLayer
  rw [layerV_rows, downV_rows, actV_rows, lossHid_rows, lossHid_rows]

theorem lossErr_rows : rows (lossErr X T G Q A B W) = errRows X T G Q A B W := by
  unfold lossErr
  rw [errV_rows, lossLayer_rows]

variable (hX : ∀ i, ∃ r : ℝ, X i = r) (hG : ∀ i, ∃ r : ℝ, G i = r) (hA : ∀ i, ∃ r : ℝ, A i = r) (hB : ∀ i, ∃ r : ℝ, B i = r)
  (hW : ∀ i, ∃ r : ℝ, W i = r) (hT : ∀ i, ∃ r : ℝ, T i = r) (hQ : ∀ i, ∃ r : ℝ, Q i = r)

include hX hG hA hB hW

/-- Over finite arguments the layer's output is finite, -/
theorem layerRows_real : Real₂ (layerRows X G A B W) :=
  layer_real _ _ (fun r j => hX _) (prod_real _ _ (act_real _ _ (prod_real _ _ (normed_real _ _ (fun r j => hX _) fun j => hG _) fun r j => hA _)
    (prod_real _ _ (normed_real _ _ (fun r j => hX _) fun j => hG _) fun r j => hB _)) fun r j => hW _)

include hT hQ

/-- and the error too. -/
theorem errRows_real : Real₂ (errRows X T G Q A B W) :=
  errOf_real _ _ _ (layerRows_real X G A B W hX hG hA hB hW) (fun j => hQ _) fun r j => hT _

/-- The normed output's cotangent, as both programs have it. -/
theorem lossCot_rows : rows (cotV (lossErr X T G Q A B W)) = errCot (errRows X T G Q A B W) := by
  have h : Real₂ (rows (lossErr X T G Q A B W)) := by
    rw [lossErr_rows]
    exact errRows_real X T G Q A B W hX hG hA hB hW hT hQ
  rw [cotV_rows _ h, lossErr_rows]

/-- Over finite arguments the rows' gradient is the derivative's. -/
theorem loss_grad (p : Fin 4096) (j : Fin 1024) : gradV (lossLayer X G A B W) (cotV (lossErr X T G Q A B W)) Q (ix2 p j)
    = Cert.Norm.normGrad (layerRows X G A B W) (fun l => Q (ix1 l)) (errCot (errRows X T G Q A B W)) p j := by
  have hY := layerRows_real X G A B W hX hG hA hB hW
  have hC := errCot_real _ (errRows_real X T G Q A B W hX hG hA hB hW hT hQ)
  rw [gradV_at, lossCot_rows X T G Q A B W hX hG hA hB hW hT hQ, lossLayer_rows]
  choose y ey using hY
  choose d ed using hC
  choose g eg using hQ
  have e := Cert.Norm.grad_eq (layerRows X G A B W) _ (fun l => Q (ix1 l)) y d (fun l => g (ix1 l)) p ey ed (fun l => eg _) 0 j
  rw [zero_add, zero_add] at e
  exact e

/-- Over finite arguments the kernel's loss is the reference's. -/
theorem loss_value (u : Fin 1) (l : Fin 128) : lossV (lossErr X T G Q A B W) (ix2 u l)
    = ∑ b : Fin 16, blockLoss fun r : Fin 256 => errRows X T G Q A B W ⟨256 * b.val + r.val, by omega⟩ := by
  rw [lossV_at, lossErr_rows]
  exact (lossOf_eq _ (errRows_real X T G Q A B W hX hG hA hB hW hT hQ)).symm

end Loss

set_option maxHeartbeats 4000000 in
theorem algebraic_ffnloss : Cert.algebraic_FfnLossIdeal_FfnLossGradIdeal_pre_finite_loss := by
  pair_intro
  · run_from Cert.FfnLossIdeal.Body.run_blocks m g
  · have h0 := fun c => Cert.Finite.reals _ _ (hpre c).1
    have h1 := fun c => Cert.Finite.reals _ _ (hpre c).2.1
    have h2 := fun c => Cert.Finite.reals _ _ (hpre c).2.2.1
    have h3 := fun c => Cert.Finite.reals _ _ (hpre c).2.2.2.1
    have h4 := fun c => Cert.Finite.reals _ _ (hpre c).2.2.2.2.1
    have h5 := fun c => Cert.Finite.reals _ _ (hpre c).2.2.2.2.2.1
    have h6 := fun c => Cert.Finite.reals _ _ (hpre c).2.2.2.2.2.2
    run_from Cert.FfnLossGradIdeal.Value.run m' g'
    · refine Eq.trans (b := gradV (lossLayer (argX m c) (argG m c) (argA m c) (argB m c) (argW m c)) (cotV (lossErr (argX m c) (argT m c) (argG m c) (argF m c) (argA m c) (argB m c) (argW m c))) (argF m c)) ?_ (Eq.trans ?_ (whole7 m c).symm)
      · obtain ⟨e0, e1, e2, e3, e4, e5, e6⟩ := hagree c
        unfold Cert.FfnLossGradIdeal.Value.res_main_v72
        simp only [e0, e1, e2, e3, e4, e5, e6]
        rfl
      funext i
      idx_vars i
      exact loss_grad _ _ _ _ _ _ _ (h0 c) (h1 c) (h2 c) (h3 c) (h4 c) (h5 c) (h6 c) i0 i1
    · refine Eq.trans (b := cutV (lossHid (argX m c) (argG m c) (argA m c))) ?_ (Eq.trans ?_ (whole8 m c).symm)
      · rfl
      rw [cutV_eq, lossHid_rows]
    · refine Eq.trans (b := cutV (lossHid (argX m c) (argG m c) (argB m c))) ?_ (Eq.trans ?_ (whole9 m c).symm)
      · rfl
      rw [cutV_eq, lossHid_rows]
    · refine Eq.trans (b := flatV (normV (argX m c) (argG m c))) ?_ (Eq.trans ?_ (whole10 m c).symm)
      · rfl
      funext i
      idx_vars i
      refine (flatV_at _ _ _).trans ?_
      rw [normV_rows]
    · refine Eq.trans (b := lossV (lossErr (argX m c) (argT m c) (argG m c) (argF m c) (argA m c) (argB m c) (argW m c))) ?_ (Eq.trans ?_ (whole11 m c).symm)
      · obtain ⟨e0, e1, e2, e3, e4, e5, e6⟩ := hagree c
        unfold Cert.FfnLossGradIdeal.Value.res_main_v81
        simp only [e0, e1, e2, e3, e4, e5, e6]
        rfl
      funext i
      idx_vars i
      exact loss_value _ _ _ _ _ _ _ (h0 c) (h1 c) (h2 c) (h3 c) (h4 c) (h5 c) (h6 c) i0 i1
    · refine Eq.trans (b := scaleV (lossLayer (argX m c) (argG m c) (argA m c) (argB m c) (argW m c)) (cotV (lossErr (argX m c) (argT m c) (argG m c) (argF m c) (argA m c) (argB m c) (argW m c))) (invV (msV (lossLayer (argX m c) (argG m c) (argA m c) (argB m c) (argW m c))))) ?_ (Eq.trans ?_ (whole12 m c).symm)
      · obtain ⟨e0, e1, e2, e3, e4, e5, e6⟩ := hagree c
        unfold Cert.FfnLossGradIdeal.Value.res_main_v82
        simp only [e0, e1, e2, e3, e4, e5, e6]
        rfl
      funext i
      idx_vars i
      refine (scaleV_eq _ _ _ _).trans ?_
      rw [lossCot_rows _ _ _ _ _ _ _ (h0 c) (h1 c) (h2 c) (h3 c) (h4 c) (h5 c) (h6 c), lossLayer_rows]

/-- The reference is host operations only: its generated run says that its arguments are left alone, and it declares
    no semaphore. -/
theorem frame_ffnloss_grad : Cert.quiescent_FfnLossGradIdeal := fun m ρ _ =>
  (θ_run Cert.FfnLossGradIdeal.defs _ _).mono (fun r h => ⟨fun c => (h c).2.2.2.2.2.2, sem_eq_zero_of_no_sems (by decide) r.2⟩)
    (Cert.FfnLossGradIdeal.Value.run (F := Ideal) m ρ)

end Cert.Proof

end
-- ==== Proof.FfnLossFrames.lean ====
module

public import proofs.«01_k».proof.Defs
public import proofs.«01_k».proof.Proof.FfnLossFrame
public import proofs.«01_k».proof.Proof.Gen.FfnLoss.Frame

@[expose] public section

set_option maxRecDepth 16384

/-! The frames of the feed-forward layer with the loss, both read off the one run. -/

namespace Cert.Proof.FfnLoss

open Idealize.ShloMosaic Idealize.SL.Sem

set_option maxHeartbeats 4000000 in
/-- The frame over bits: the program is the same text. -/
theorem frame_bits : Cert.quiescent_FfnLoss := fun m ρ _ => by
  refine cast ?_ (Cert.FfnLossIdeal.Body.frame (F := Bits) m ρ)
  sl_kernel_rfl

/-- The frame over the ideal values. -/
theorem frame_ideal : Cert.quiescent_FfnLossIdeal := fun m ρ _ => Cert.FfnLossIdeal.Body.frame (F := Ideal) m ρ

end Cert.Proof.FfnLoss
-- ==== Proof.lean ====
/- The certificate: every claim of `Cert.Claim` (proofs.«01_k».proof.Defs), each proved in a module of Proof/. -/
module

public import proofs.«01_k».proof.Defs
public import proofs.«01_k».proof.Proof.ConvClaim
public import proofs.«01_k».proof.Proof.Gen.ConvBwd.Frame
public import proofs.«01_k».proof.Proof.Gen.ConvBwdIdeal.Frame
public import proofs.«01_k».proof.Proof.Gen.ConvGradIdeal.Run
public import proofs.«01_k».proof.Proof.Gen.ConvBwdIdeal.Value
public import proofs.«01_k».proof.Proof.FgateClaim
public import proofs.«01_k».proof.Proof.Gen.FgateBwd.Frame
public import proofs.«01_k».proof.Proof.Gen.FgateBwdIdeal.Frame
public import proofs.«01_k».proof.Proof.Gen.FgateGradIdeal.Run
public import proofs.«01_k».proof.Proof.Gen.FgateBwdIdeal.Value
public import proofs.«01_k».proof.Proof.Gen.Pre_finite_gate
public import proofs.«01_k».proof.Proof.AttnClaim
public import proofs.«01_k».proof.Proof.Gen.AttnBwd.Frame
public import proofs.«01_k».proof.Proof.Gen.AttnBwdIdeal.Frame
public import proofs.«01_k».proof.Proof.Gen.AttnGradIdeal.Run
public import proofs.«01_k».proof.Proof.AttnFrames
public import proofs.«01_k».proof.Proof.Gen.Pre_finite_attn
public import proofs.«01_k».proof.Proof.MixOutClaim
public import proofs.«01_k».proof.Proof.Gen.MixOutBwd.Frame
public import proofs.«01_k».proof.Proof.Gen.MixOutBwdIdeal.Frame
public import proofs.«01_k».proof.Proof.Gen.MixOutGradIdeal.Run
public import proofs.«01_k».proof.Proof.Gen.MixOutBwdIdeal.Value
public import proofs.«01_k».proof.Proof.MixProjClaim
public import proofs.«01_k».proof.Proof.Gen.MixProjBwd.Frame.Runs
public import proofs.«01_k».proof.Proof.Gen.MixProjBwdIdeal.Frame.Runs
public import proofs.«01_k».proof.Proof.Gen.MixProjGradIdeal.Run
public import proofs.«01_k».proof.Proof.MixProjFrames
public import proofs.«01_k».proof.Proof.Gen.Pre_finite_norm
public import proofs.«01_k».proof.Proof.FfnDwClaim
public import proofs.«01_k».proof.Proof.Gen.FfnBwdDw.Frame
public import proofs.«01_k».proof.Proof.Gen.FfnBwdDwIdeal.Frame
public import proofs.«01_k».proof.Proof.Gen.FfnDwGradIdeal.Run
public import proofs.«01_k».proof.Proof.Gen.FfnBwdDwIdeal.Value
public import proofs.«01_k».proof.Proof.FfnDxClaim
public import proofs.«01_k».proof.Proof.Gen.FfnBwdDx.Frame
public import proofs.«01_k».proof.Proof.Gen.FfnBwdDxIdeal.Frame
public import proofs.«01_k».proof.Proof.Gen.FfnGradIdeal.Run
public import proofs.«01_k».proof.Proof.FfnDxFrames
public import proofs.«01_k».proof.Proof.Gen.Pre_finite_ffn
public import proofs.«01_k».proof.Proof.FfnLossClaim
public import proofs.«01_k».proof.Proof.Gen.FfnLoss.Frame
public import proofs.«01_k».proof.Proof.Gen.FfnLossIdeal.Frame
public import proofs.«01_k».proof.Proof.Gen.FfnLossGradIdeal.Run
public import proofs.«01_k».proof.Proof.FfnLossFrames
public import proofs.«01_k».proof.Proof.Gen.Pre_finite_loss

@[expose] public section

noncomputable section

namespace Cert.Proof

open Idealize.ShloMosaic Idealize.SL.Sem

/-- `Cert.Claim` (DefsConforms.lean): its conjuncts together, the programs' facts first. -/
theorem claim : Cert.Claim := ⟨
  Cert.ConvBwd.Gen.facts,
  Cert.ConvBwdIdeal.Gen.facts,
  Cert.ConvGradIdeal.Gen.facts,
  Cert.FgateBwd.Gen.facts,
  Cert.FgateBwdIdeal.Gen.facts,
  Cert.FgateGradIdeal.Gen.facts,
  Cert.AttnBwd.Gen.facts,
  Cert.AttnBwdIdeal.Gen.facts,
  Cert.AttnGradIdeal.Gen.facts,
  Cert.MixOutBwd.Gen.facts,
  Cert.MixOutBwdIdeal.Gen.facts,
  Cert.MixOutGradIdeal.Gen.facts,
  Cert.MixProjBwd.Gen.facts,
  Cert.MixProjBwdIdeal.Gen.facts,
  Cert.MixProjGradIdeal.Gen.facts,
  Cert.FfnBwdDw.Gen.facts,
  Cert.FfnBwdDwIdeal.Gen.facts,
  Cert.FfnDwGradIdeal.Gen.facts,
  Cert.FfnBwdDx.Gen.facts,
  Cert.FfnBwdDxIdeal.Gen.facts,
  Cert.FfnGradIdeal.Gen.facts,
  Cert.FfnLoss.Gen.facts,
  Cert.FfnLossIdeal.Gen.facts,
  Cert.FfnLossGradIdeal.Gen.facts,
  Cert.Pre_finite_gate.Gen.facts,
  Cert.Pre_finite_attn.Gen.facts,
  Cert.Pre_finite_norm.Gen.facts,
  Cert.Pre_finite_ffn.Gen.facts,
  Cert.Pre_finite_loss.Gen.facts,
  fun m ρ _ => Cert.ConvBwd.Gen.frame m ρ,
  fun m ρ _ => Cert.ConvBwdIdeal.Gen.frame m ρ,
  frame_conv_grad,
  fun m ρ _ => Cert.FgateBwd.Gen.frame m ρ,
  fun m ρ _ => Cert.FgateBwdIdeal.Gen.frame m ρ,
  fun m ρ _ => Cert.FgateBwdIdeal.Gen.frame m ρ,
  frame_fgate_grad,
  fun m ρ _ => frame_fgate_grad m ρ trivial,
  Cert.Proof.Attn.frame_attn,
  Cert.Proof.Attn.frame_attn_ideal,
  fun m ρ _ => Cert.Proof.Attn.frame_attn_ideal m ρ trivial,
  frame_attn_grad,
  fun m ρ _ => frame_attn_grad m ρ trivial,
  fun m ρ _ => Cert.MixOutBwd.Gen.frame m ρ,
  fun m ρ _ => Cert.MixOutBwdIdeal.Gen.frame m ρ,
  frame_mixout_grad,
  Cert.Proof.MixProj.frame_bits,
  Cert.Proof.MixProj.frame_ideal,
  fun m ρ _ => Cert.Proof.MixProj.frame_ideal m ρ trivial,
  frame_mixproj_grad,
  fun m ρ _ => frame_mixproj_grad m ρ trivial,
  fun m ρ _ => Cert.FfnBwdDw.Gen.frame m ρ,
  fun m ρ _ => Cert.FfnBwdDwIdeal.Gen.frame m ρ,
  frame_ffndw_grad,
  Cert.Proof.FfnDx.frame_bits,
  Cert.Proof.FfnDx.frame_ideal,
  fun m ρ _ => Cert.Proof.FfnDx.frame_ideal m ρ trivial,
  frame_ffndx_grad,
  fun m ρ _ => frame_ffndx_grad m ρ trivial,
  Cert.Proof.FfnLoss.frame_bits,
  Cert.Proof.FfnLoss.frame_ideal,
  fun m ρ _ => Cert.Proof.FfnLoss.frame_ideal m ρ trivial,
  frame_ffnloss_grad,
  fun m ρ _ => frame_ffnloss_grad m ρ trivial,
  trivial,
  algebraic_conv,
  trivial,
  algebraic_fgate,
  trivial,
  algebraic_attn,
  trivial,
  algebraic_mixout,
  trivial,
  algebraic_mixproj,
  trivial,
  algebraic_ffndw,
  trivial,
  algebraic_ffndx,
  trivial,
  algebraic_ffnloss⟩

end Cert.Proof

end
